-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v3)) (v2 : (c : Dev Cert.Kernel2Ideal.nD) → Buf (Elt Ideal) ((c.tc : Thread Cert.Kernel2Ideal.nD Cert.Kernel2Ideal.τ).loc Cert.Kernel2Ideal.main_v4)) (v3 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v3) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_v5) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v19) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v10) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v7)) (v2 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v7) = v1 c
          ∧ r.2.mem ((c.tc : Thread Cert.Kernel3Ideal.nD Cert.Kernel3Ideal.τ).loc Cert.Kernel3Ideal.main_v8) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v79) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3_0)) (v4 : (c : Dev Cert.Kernel4Ideal.nD) → Buf (Elt Ideal) ((c.tc : Thread Cert.Kernel4Ideal.nD Cert.Kernel4Ideal.τ).loc Cert.Kernel4Ideal.main_v3_1)) (v5 : (c : Dev Cert.Kernel4Ideal.nD) → Buf (Elt Ideal) ((c.tc : Thread Cert.Kernel4Ideal.nD Cert.Kernel4Ideal.τ).loc Cert.Kernel4Ideal.main_v3_2)) (v6 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3_0) = v3 c
          ∧ r.2.mem ((c.tc : Thread Cert.Kernel4Ideal.nD Cert.Kernel4Ideal.τ).loc Cert.Kernel4Ideal.main_v3_1) = v4 c
          ∧ r.2.mem ((c.tc : Thread Cert.Kernel4Ideal.nD Cert.Kernel4Ideal.τ).loc Cert.Kernel4Ideal.main_v3_2) = v5 c
          ∧ r.2.mem ((c.tc : Thread Cert.Kernel4Ideal.nD Cert.Kernel4Ideal.τ).loc Cert.Kernel4Ideal.main_v4) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v3) = v1 c
          ∧ r.2.mem ((c.tc : Thread Cert.Reference4Ideal.nD Cert.Reference4Ideal.τ).loc Cert.Reference4Ideal.main_v2) = v2 c
          ∧ r.2.mem ((c.tc : Thread Cert.Reference4Ideal.nD Cert.Reference4Ideal.τ).loc Cert.Reference4Ideal.main_v8) = v3 c
          ∧ r.2.mem ((c.tc : Thread Cert.Reference4Ideal.nD Cert.Reference4Ideal.τ).loc Cert.Reference4Ideal.main_v9) = v4 c
          ∧ r.2.mem ((c.tc : Thread Cert.Reference4Ideal.nD Cert.Reference4Ideal.τ).loc Cert.Reference4Ideal.main_v10) = v5 c
          ∧ r.2.mem ((c.tc : Thread Cert.Reference4Ideal.nD Cert.Reference4Ideal.τ).loc Cert.Reference4Ideal.main_v6) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v1_0)) (v2 : (c : Dev Cert.Kernel8Ideal.nD) → Buf (Elt Ideal) ((c.tc : Thread Cert.Kernel8Ideal.nD Cert.Kernel8Ideal.τ).loc Cert.Kernel8Ideal.main_v1_1)) (v3 : (c : Dev Cert.Kernel8Ideal.nD) → Buf (Elt Ideal) ((c.tc : Thread Cert.Kernel8Ideal.nD Cert.Kernel8Ideal.τ).loc Cert.Kernel8Ideal.main_v1_2)) (v4 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v1_0) = v1 c
          ∧ r.2.mem ((c.tc : Thread Cert.Kernel8Ideal.nD Cert.Kernel8Ideal.τ).loc Cert.Kernel8Ideal.main_v1_1) = v2 c
          ∧ r.2.mem ((c.tc : Thread Cert.Kernel8Ideal.nD Cert.Kernel8Ideal.τ).loc Cert.Kernel8Ideal.main_v1_2) = v3 c
          ∧ r.2.mem ((c.tc : Thread Cert.Kernel8Ideal.nD Cert.Kernel8Ideal.τ).loc Cert.Kernel8Ideal.main_v1_3) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v26) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_v63) = v2 c
          ∧ r.2.mem ((c.tc : Thread Cert.Reference8Ideal.nD Cert.Reference8Ideal.τ).loc Cert.Reference8Ideal.main_v62) = v3 c
          ∧ r.2.mem ((c.tc : Thread Cert.Reference8Ideal.nD Cert.Reference8Ideal.τ).loc Cert.Reference8Ideal.main_v57) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)) (v1 : (c : Dev Cert.Kernel9Ideal.nD) → Buf (Elt Ideal) ((c.tc : Thread Cert.Kernel9Ideal.nD Cert.Kernel9Ideal.τ).loc Cert.Kernel9Ideal.main_v1_0)) (v2 : (c : Dev Cert.Kernel9Ideal.nD) → Buf (Elt Ideal) ((c.tc : Thread Cert.Kernel9Ideal.nD Cert.Kernel9Ideal.τ).loc Cert.Kernel9Ideal.main_v1_1)) (v3 : (c : Dev Cert.Kernel9Ideal.nD) → Buf (Elt Ideal) ((c.tc : Thread Cert.Kernel9Ideal.nD Cert.Kernel9Ideal.τ).loc Cert.Kernel9Ideal.main_v1_2)) (v4 : (c : Dev Cert.Kernel9Ideal.nD) → Buf (Elt Ideal) ((c.tc : Thread Cert.Kernel9Ideal.nD Cert.Kernel9Ideal.τ).loc Cert.Kernel9Ideal.main_v1_3)) (v5 : (c : Dev Cert.Kernel9Ideal.nD) → Buf (Elt Ideal) ((c.tc : Thread Cert.Kernel9Ideal.nD Cert.Kernel9Ideal.τ).loc Cert.Kernel9Ideal.main_v1_4)) (v6 : (c : Dev Cert.Kernel9Ideal.nD) → Buf (Elt Ideal) ((c.tc : Thread Cert.Kernel9Ideal.nD Cert.Kernel9Ideal.τ).loc Cert.Kernel9Ideal.main_v1_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_v1_0) = v1 c
          ∧ r.2.mem ((c.tc : Thread Cert.Kernel9Ideal.nD Cert.Kernel9Ideal.τ).loc Cert.Kernel9Ideal.main_v1_1) = v2 c
          ∧ r.2.mem ((c.tc : Thread Cert.Kernel9Ideal.nD Cert.Kernel9Ideal.τ).loc Cert.Kernel9Ideal.main_v1_2) = v3 c
          ∧ r.2.mem ((c.tc : Thread Cert.Kernel9Ideal.nD Cert.Kernel9Ideal.τ).loc Cert.Kernel9Ideal.main_v1_3) = v4 c
          ∧ r.2.mem ((c.tc : Thread Cert.Kernel9Ideal.nD Cert.Kernel9Ideal.τ).loc Cert.Kernel9Ideal.main_v1_4) = v5 c
          ∧ r.2.mem ((c.tc : Thread Cert.Kernel9Ideal.nD Cert.Kernel9Ideal.τ).loc Cert.Kernel9Ideal.main_v1_5) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_v44) = v2 c
          ∧ r.2.mem ((c.tc : Thread Cert.Reference9Ideal.nD Cert.Reference9Ideal.τ).loc Cert.Reference9Ideal.main_v46) = v3 c
          ∧ r.2.mem ((c.tc : Thread Cert.Reference9Ideal.nD Cert.Reference9Ideal.τ).loc Cert.Reference9Ideal.main_v60) = v4 c
          ∧ r.2.mem ((c.tc : Thread Cert.Reference9Ideal.nD Cert.Reference9Ideal.τ).loc Cert.Reference9Ideal.main_v62) = v5 c
          ∧ r.2.mem ((c.tc : Thread Cert.Reference9Ideal.nD Cert.Reference9Ideal.τ).loc Cert.Reference9Ideal.main_v64) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)) (v1 : (c : Dev Cert.Kernel10Ideal.nD) → Buf (Elt Ideal) ((c.tc : Thread Cert.Kernel10Ideal.nD Cert.Kernel10Ideal.τ).loc Cert.Kernel10Ideal.main_v1_0)) (v2 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_v1_0) = v1 c
          ∧ r.2.mem ((c.tc : Thread Cert.Kernel10Ideal.nD Cert.Kernel10Ideal.τ).loc Cert.Kernel10Ideal.main_v1_1) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v64) = v0 c
          ∧ r.2.mem ((c.tc : Thread Cert.Reference10Ideal.nD Cert.Reference10Ideal.τ).loc Cert.Reference10Ideal.main_v143) = v1 c
          ∧ r.2.mem ((c.tc : Thread Cert.Reference10Ideal.nD Cert.Reference10Ideal.τ).loc Cert.Reference10Ideal.main_v139) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v1_0)) (v3 : (c : Dev Cert.Kernel11Ideal.nD) → Buf (Elt Ideal) ((c.tc : Thread Cert.Kernel11Ideal.nD Cert.Kernel11Ideal.τ).loc Cert.Kernel11Ideal.main_v1_1)) (v4 : (c : Dev Cert.Kernel11Ideal.nD) → Buf (Elt Ideal) ((c.tc : Thread Cert.Kernel11Ideal.nD Cert.Kernel11Ideal.τ).loc Cert.Kernel11Ideal.main_v1_2)) (v5 : (c : Dev Cert.Kernel11Ideal.nD) → Buf (Elt Ideal) ((c.tc : Thread Cert.Kernel11Ideal.nD Cert.Kernel11Ideal.τ).loc Cert.Kernel11Ideal.main_v1_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v1_0) = v2 c
          ∧ r.2.mem ((c.tc : Thread Cert.Kernel11Ideal.nD Cert.Kernel11Ideal.τ).loc Cert.Kernel11Ideal.main_v1_1) = v3 c
          ∧ r.2.mem ((c.tc : Thread Cert.Kernel11Ideal.nD Cert.Kernel11Ideal.τ).loc Cert.Kernel11Ideal.main_v1_2) = v4 c
          ∧ r.2.mem ((c.tc : Thread Cert.Kernel11Ideal.nD Cert.Kernel11Ideal.τ).loc Cert.Kernel11Ideal.main_v1_3) = v5 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v17) = v0 c
          ∧ r.2.mem ((c.tc : Thread Cert.Reference11Ideal.nD Cert.Reference11Ideal.τ).loc Cert.Reference11Ideal.main_v34) = v1 c
          ∧ r.2.mem ((c.tc : Thread Cert.Reference11Ideal.nD Cert.Reference11Ideal.τ).loc Cert.Reference11Ideal.main_v55) = v2 c
          ∧ r.2.mem ((c.tc : Thread Cert.Reference11Ideal.nD Cert.Reference11Ideal.τ).loc Cert.Reference11Ideal.main_v77) = v3 c
          ∧ r.2.mem ((c.tc : Thread Cert.Reference11Ideal.nD Cert.Reference11Ideal.τ).loc Cert.Reference11Ideal.main_v78) = v4 c
          ∧ r.2.mem ((c.tc : Thread Cert.Reference11Ideal.nD Cert.Reference11Ideal.τ).loc Cert.Reference11Ideal.main_v56) = v5 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)) (v1 : (c : Dev Cert.Kernel12Ideal.nD) → Buf (Elt Ideal) ((c.tc : Thread Cert.Kernel12Ideal.nD Cert.Kernel12Ideal.τ).loc Cert.Kernel12Ideal.main_v1_0)) (v2 : (c : Dev Cert.Kernel12Ideal.nD) → Buf (Elt Ideal) ((c.tc : Thread Cert.Kernel12Ideal.nD Cert.Kernel12Ideal.τ).loc Cert.Kernel12Ideal.main_v1_1)) (v3 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_v1_0) = v1 c
          ∧ r.2.mem ((c.tc : Thread Cert.Kernel12Ideal.nD Cert.Kernel12Ideal.τ).loc Cert.Kernel12Ideal.main_v1_1) = v2 c
          ∧ r.2.mem ((c.tc : Thread Cert.Kernel12Ideal.nD Cert.Kernel12Ideal.τ).loc Cert.Kernel12Ideal.main_v1_2) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v46) = v1 c
          ∧ r.2.mem ((c.tc : Thread Cert.Reference12Ideal.nD Cert.Reference12Ideal.τ).loc Cert.Reference12Ideal.main_v48) = v2 c
          ∧ r.2.mem ((c.tc : Thread Cert.Reference12Ideal.nD Cert.Reference12Ideal.τ).loc Cert.Reference12Ideal.main_v45) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v0)) (v1 : (c : Dev Cert.Kernel13Ideal.nD) → Buf (Elt Ideal) ((c.tc : Thread Cert.Kernel13Ideal.nD Cert.Kernel13Ideal.τ).loc Cert.Kernel13Ideal.main_v1)) (v2 : (c : Dev Cert.Kernel13Ideal.nD) → Buf (Elt Ideal) ((c.tc : Thread Cert.Kernel13Ideal.nD Cert.Kernel13Ideal.τ).loc Cert.Kernel13Ideal.main_v2_0)) (v3 : (c : Dev Cert.Kernel13Ideal.nD) → Buf (Elt Ideal) ((c.tc : Thread Cert.Kernel13Ideal.nD Cert.Kernel13Ideal.τ).loc Cert.Kernel13Ideal.main_v2_1)) (v4 : (c : Dev Cert.Kernel13Ideal.nD) → Buf (Elt Ideal) ((c.tc : Thread Cert.Kernel13Ideal.nD Cert.Kernel13Ideal.τ).loc Cert.Kernel13Ideal.main_v2_2)) (v5 : (c : Dev Cert.Kernel13Ideal.nD) → Buf (Elt Ideal) ((c.tc : Thread Cert.Kernel13Ideal.nD Cert.Kernel13Ideal.τ).loc Cert.Kernel13Ideal.main_v6_0)) (v6 : (c : Dev Cert.Kernel13Ideal.nD) → Buf (Elt Ideal) ((c.tc : Thread Cert.Kernel13Ideal.nD Cert.Kernel13Ideal.τ).loc Cert.Kernel13Ideal.main_v6_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_v1) = v1 c
          ∧ r.2.mem ((c.tc : Thread Cert.Kernel13Ideal.nD Cert.Kernel13Ideal.τ).loc Cert.Kernel13Ideal.main_v2_0) = v2 c
          ∧ r.2.mem ((c.tc : Thread Cert.Kernel13Ideal.nD Cert.Kernel13Ideal.τ).loc Cert.Kernel13Ideal.main_v2_1) = v3 c
          ∧ r.2.mem ((c.tc : Thread Cert.Kernel13Ideal.nD Cert.Kernel13Ideal.τ).loc Cert.Kernel13Ideal.main_v2_2) = v4 c
          ∧ r.2.mem ((c.tc : Thread Cert.Kernel13Ideal.nD Cert.Kernel13Ideal.τ).loc Cert.Kernel13Ideal.main_v6_0) = v5 c
          ∧ r.2.mem ((c.tc : Thread Cert.Kernel13Ideal.nD Cert.Kernel13Ideal.τ).loc Cert.Kernel13Ideal.main_v6_1) = v6 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v16) = v0 c
          ∧ r.2.mem ((c.tc : Thread Cert.Reference13Ideal.nD Cert.Reference13Ideal.τ).loc Cert.Reference13Ideal.main_v34) = v1 c
          ∧ r.2.mem ((c.tc : Thread Cert.Reference13Ideal.nD Cert.Reference13Ideal.τ).loc Cert.Reference13Ideal.main_arg6) = v2 c
          ∧ r.2.mem ((c.tc : Thread Cert.Reference13Ideal.nD Cert.Reference13Ideal.τ).loc Cert.Reference13Ideal.main_v55) = v3 c
          ∧ r.2.mem ((c.tc : Thread Cert.Reference13Ideal.nD Cert.Reference13Ideal.τ).loc Cert.Reference13Ideal.main_v56) = v4 c
          ∧ r.2.mem ((c.tc : Thread Cert.Reference13Ideal.nD Cert.Reference13Ideal.τ).loc Cert.Reference13Ideal.main_v76) = v5 c
          ∧ r.2.mem ((c.tc : Thread Cert.Reference13Ideal.nD Cert.Reference13Ideal.τ).loc Cert.Reference13Ideal.main_v77) = v6 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v29)) (v1 : (c : Dev Cert.Kernel14Ideal.nD) → Buf (Elt Ideal) ((c.tc : Thread Cert.Kernel14Ideal.nD Cert.Kernel14Ideal.τ).loc Cert.Kernel14Ideal.main_v30)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v29) = v0 c
          ∧ r.2.mem ((c.tc : Thread Cert.Kernel14Ideal.nD Cert.Kernel14Ideal.τ).loc Cert.Kernel14Ideal.main_v30) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v62) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)) (v1 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_v4) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v15) = v0 c
          ∧ r.2.mem ((c.tc : Thread Cert.Reference15Ideal.nD Cert.Reference15Ideal.τ).loc Cert.Reference15Ideal.main_v14) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)) (v1 : (c : Dev Cert.Kernel17Ideal.nD) → Buf (Elt Ideal) ((c.tc : Thread Cert.Kernel17Ideal.nD Cert.Kernel17Ideal.τ).loc Cert.Kernel17Ideal.main_v1_0)) (v2 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_v1_0) = v1 c
          ∧ r.2.mem ((c.tc : Thread Cert.Kernel17Ideal.nD Cert.Kernel17Ideal.τ).loc Cert.Kernel17Ideal.main_v1_1) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v50) = v1 c
          ∧ r.2.mem ((c.tc : Thread Cert.Reference17Ideal.nD Cert.Reference17Ideal.τ).loc Cert.Reference17Ideal.main_v47) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite2 : Cert.Pre_finite2.Facts) (hPre_finite9 : Cert.Pre_finite9.Facts) (hPre_finite17 : Cert.Pre_finite17.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
-- ==== Pre_finite.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn_part1 {F : FTy → Type} [FloatOps F] (main_arg4 : FVec F S2048x256 .f32) (main_v3 : IVec S_ 1) (main_v7 : IVec S_ 1) (main_v11 : IVec S_ 1) (main_v15 : IVec S_ 1) : IVec S_ 1 :=
  let main_v16 : FVec F S2048x256 .f32 := Host.absf main_arg4
  let main_cst_6 : FVec F S_ .f32 := constant S_ .f32 0x7F800000#32
  let main_v17 : FVec F S2048x256 .f32 := broadcastInDim S2048x256 ![] bcast_S_S2048x256 main_cst_6
  let main_v18 : IVec S2048x256 1 := cmpf .olt main_v16 main_v17
  let main_c_7 : IVec S_ 1 := constantI S_ 1 1#1
  let main_v19 : IVec S_ 1 := (fun x v => Host.reduce IntOp.andi x v reducesTo_S2048x256_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x256 .f32) (main_arg1 : FVec F S2048x256 .f32) (main_arg2 : FVec F S2048x256 .f32) (main_arg3 : FVec F S2048x256 .f32) (main_arg4 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : FVec F S2048x256 .f32 := Host.absf main_arg2
  let main_cst_2 : FVec F S_ .f32 := constant S_ .f32 0x7F800000#32
  let main_v9 : FVec F S2048x256 .f32 := broadcastInDim S2048x256 ![] bcast_S_S2048x256 main_cst_2
  let main_v10 : IVec S2048x256 1 := cmpf .olt main_v8 main_v9
  let main_c_3 : IVec S_ 1 := constantI S_ 1 1#1
  let main_v11 : IVec S_ 1 := (fun x v => Host.reduce IntOp.andi x v reducesTo_S2048x256_S_d0_1 h_S_) main_v10 main_c_3
  let main_v12 : FVec F S2048x256 .f32 := Host.absf main_arg3
  let main_cst_4 : FVec F S_ .f32 := constant S_ .f32 0x7F800000#32
  let main_v13 : FVec F S2048x256 .f32 := broadcastInDim S2048x256 ![] bcast_S_S2048x256 main_cst_4
  let main_v14 : IVec S2048x256 1 := cmpf .olt main_v12 main_v13
  let main_c_5 : IVec S_ 1 := constantI S_ 1 1#1
  let main_v15 : IVec S_ 1 := (fun x v => Host.reduce IntOp.andi x v reducesTo_S2048x256_S_d0_1 h_S_) main_v14 main_c_5
  fn_part1 (F := F) main_arg4 main_v3 main_v7 main_v11 main_v15
-- ==== Pre_finite17.lean ====
abbrev S2048x128 : Shape := ⟨2, ![2048, 128]⟩
abbrev S8x128 : Shape := ⟨2, ![8, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S8x128 : S_.BroadcastsInDim S8x128 (![] : Fin 0 → Fin S8x128.rank)
  reducesTo_S8x128_S_d0_1 : S8x128.ReducesTo [0, 1] S_

variable [Facts]

def fn {F : FTy → Type} [FloatOps F] (main_arg0 : FVec F S2048x128 .f32) (main_arg1 : FVec F S8x128 .f32) (main_arg2 : FVec F S2048x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : FVec F S2048x128 .f32 := Host.absf main_arg2
  let main_cst_2 : FVec F S_ .f32 := constant S_ .f32 0x7F800000#32
  let main_v9 : FVec F S2048x128 .f32 := broadcastInDim S2048x128 ![] bcast_S_S2048x128 main_cst_2
  let main_v10 : IVec S2048x128 1 := cmpf .olt main_v8 main_v9
  let main_c_3 : IVec S_ 1 := constantI S_ 1 1#1
  let main_v11 : IVec S_ 1 := (fun x v => Host.reduce IntOp.andi x v reducesTo_S2048x128_S_d0_1 h_S_) main_v10 main_c_3
  let main_v12 : IVec S_ 1 := andi main_v3 main_v7
  let main_v13 : IVec S_ 1 := andi main_v12 main_v11
  main_v13
-- ==== Pre_finite2.lean ====
abbrev S2048x1024 : Shape := ⟨2, ![2048, 1024]⟩
abbrev S8x1024x704 : Shape := ⟨3, ![8, 1024, 704]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bitsLt_bf16_f32 : FTy.bits .bf16 < FTy.bits .f32
  bcast_S_S8x1024x704 : S_.BroadcastsInDim S8x1024x704 (![] : Fin 0 → Fin S8x1024x704.rank)
  reducesTo_S8x1024x704_S_d0_1_2 : S8x1024x704.ReducesTo [0, 1, 2] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v3 : IVec S_ 1) (main_v8 : IVec S_ 1) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v3 main_v8
  let main_v19 : IVec S_ 1 := andi main_v18 main_v13
  let main_v20 : IVec S_ 1 := andi main_v19 main_v17
  main_v20

def fn {F : FTy → Type} [FloatOps F] (main_arg0 : FVec F S2048x1024 .f32) (main_arg1 : FVec F S8x1024x704 .bf16) (main_arg2 : FVec F S2816x1024 .bf16) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S8x1024x704 .f32 := (extf .f32 · bitsLt_bf16_f32) main_arg1
  let main_v5 : FVec F S8x1024x704 .f32 := Host.absf main_v4
  let main_cst_0 : FVec F S_ .f32 := constant S_ .f32 0x7F800000#32
  let main_v6 : FVec F S8x1024x704 .f32 := broadcastInDim S8x1024x704 ![] bcast_S_S8x1024x704 main_cst_0
  let main_v7 : IVec S8x1024x704 1 := cmpf .olt main_v5 main_v6
  let main_c_1 : IVec S_ 1 := constantI S_ 1 1#1
  let main_v8 : IVec S_ 1 := (fun x v => Host.reduce IntOp.andi x v reducesTo_S8x1024x704_S_d0_1_2 h_S_) main_v7 main_c_1
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v3 main_v8 main_v13 main_v16
-- ==== Pre_finite9.lean ====
abbrev S2048x256 : Shape := ⟨2, ![2048, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel

variable [Facts]

def fn_part1 {F : FTy → Type} [FloatOps F] (main_arg4 : FVec F S2048x256 .f32) (main_arg5 : FVec F S2048x256 .f32) (main_arg6 : FVec F S2048x256 .f32) (main_v3 : IVec S_ 1) (main_v7 : IVec S_ 1) (main_v11 : IVec S_ 1) (main_v15 : IVec S_ 1) : IVec S_ 1 :=
  let main_v16 : FVec F S2048x256 .f32 := Host.absf main_arg4
  let main_cst_6 : FVec F S_ .f32 := constant S_ .f32 0x7F800000#32
  let main_v17 : FVec F S2048x256 .f32 := broadcastInDim S2048x256 ![] bcast_S_S2048x256 main_cst_6
  let main_v18 : IVec S2048x256 1 := cmpf .olt main_v16 main_v17
  let main_c_7 : IVec S_ 1 := constantI S_ 1 1#1
  let main_v19 : IVec S_ 1 := (fun x v => Host.reduce IntOp.andi x v reducesTo_S2048x256_S_d0_1 h_S_) main_v18 main_c_7
  let main_v20 : FVec F S2048x256 .f32 := Host.absf main_arg5
  let main_cst_8 : FVec F S_ .f32 := constant S_ .f32 0x7F800000#32
  let main_v21 : FVec F S2048x256 .f32 := broadcastInDim S2048x256 ![] bcast_S_S2048x256 main_cst_8
  let main_v22 : IVec S2048x256 1 := cmpf .olt main_v20 main_v21
  let main_c_9 : IVec S_ 1 := constantI S_ 1 1#1
  let main_v23 : IVec S_ 1 := (fun x v => Host.reduce IntOp.andi x v reducesTo_S2048x256_S_d0_1 h_S_) main_v22 main_c_9
  let main_v24 : FVec F S2048x256 .f32 := Host.absf main_arg6
  let main_cst_10 : FVec F S_ .f32 := constant S_ .f32 0x7F800000#32
  let main_v25 : FVec F S2048x256 .f32 := broadcastInDim S2048x256 ![] bcast_S_S2048x256 main_cst_10
  let main_v26 : IVec S2048x256 1 := cmpf .olt main_v24 main_v25
  let main_c_11 : IVec S_ 1 := constantI S_ 1 1#1
  let main_v27 : IVec S_ 1 := (fun x v => Host.reduce IntOp.andi x v reducesTo_S2048x256_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x256 .f32) (main_arg1 : FVec F S2048x256 .f32) (main_arg2 : FVec F S2048x256 .f32) (main_arg3 : FVec F S2048x256 .f32) (main_arg4 : FVec F S2048x256 .f32) (main_arg5 : FVec F S2048x256 .f32) (main_arg6 : FVec F S2048x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : FVec F S2048x256 .f32 := Host.absf main_arg2
  let main_cst_2 : FVec F S_ .f32 := constant S_ .f32 0x7F800000#32
  let main_v9 : FVec F S2048x256 .f32 := broadcastInDim S2048x256 ![] bcast_S_S2048x256 main_cst_2
  let main_v10 : IVec S2048x256 1 := cmpf .olt main_v8 main_v9
  let main_c_3 : IVec S_ 1 := constantI S_ 1 1#1
  let main_v11 : IVec S_ 1 := (fun x v => Host.reduce IntOp.andi x v reducesTo_S2048x256_S_d0_1 h_S_) main_v10 main_c_3
  let main_v12 : FVec F S2048x256 .f32 := Host.absf main_arg3
  let main_cst_4 : FVec F S_ .f32 := constant S_ .f32 0x7F800000#32
  let main_v13 : FVec F S2048x256 .f32 := broadcastInDim S2048x256 ![] bcast_S_S2048x256 main_cst_4
  let main_v14 : IVec S2048x256 1 := cmpf .olt main_v12 main_v13
  let main_c_5 : IVec S_ 1 := constantI S_ 1 1#1
  let main_v15 : IVec S_ 1 := (fun x v => Host.reduce IntOp.andi x v reducesTo_S2048x256_S_d0_1 h_S_) main_v14 main_c_5
  fn_part1 (F := F) main_arg4 main_arg5 main_arg6 main_v3 main_v7 main_v11 main_v15
-- ==== Kernel.lean ====
abbrev S2048x256 : Shape := ⟨2, ![2048, 256]⟩
abbrev S512x4x256 : Shape := ⟨3, ![512, 4, 256]⟩
abbrev S4x512x256 : Shape := ⟨3, ![4, 512, 256]⟩
abbrev S16x128x256 : Shape := ⟨3, ![16, 128, 256]⟩
abbrev S1x128x256 : Shape := ⟨3, ![1, 128, 256]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S256x192 : Shape := ⟨2, ![256, 192]⟩
abbrev S128x192 : Shape := ⟨2, ![128, 192]⟩
abbrev S256x128 : Shape := ⟨2, ![256, 128]⟩
abbrev S128x128 : Shape := ⟨2, ![128, 128]⟩
abbrev S15x128x256 : Shape := ⟨3, ![15, 128, 256]⟩
abbrev S_ : Shape := ⟨0, ![]⟩

abbrev nBuf : Space → Nat
  | .hbm => 46
  | .vmem => 24
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S512x4x256, .f32⟩
  | .hbm, ⟨6, _⟩ => ⟨S4x512x256, .f32⟩
  | .hbm, ⟨7, _⟩ => ⟨S16x128x256, .f32⟩
  | .hbm, ⟨8, _⟩ => ⟨S512x4x256, .f32⟩
  | .hbm, ⟨9, _⟩ => ⟨S4x512x256, .f32⟩
  | .hbm, ⟨10, _⟩ => ⟨S16x128x256, .f32⟩
  | .hbm, ⟨11, _⟩ => ⟨S512x4x256, .f32⟩
  | .hbm, ⟨12, _⟩ => ⟨S4x512x256, .f32⟩
  | .hbm, ⟨13, _⟩ => ⟨S16x128x256, .f32⟩
  | .hbm, ⟨14, _⟩ => ⟨S512x4x256, .f32⟩
  | .hbm, ⟨15, _⟩ => ⟨S4x512x256, .f32⟩
  | .hbm, ⟨16, _⟩ => ⟨S16x128x256, .f32⟩
  | .hbm, ⟨17, _⟩ => ⟨S512x4x256, .f32⟩
  | .hbm, ⟨18, _⟩ => ⟨S4x512x256, .f32⟩
  | .hbm, ⟨19, _⟩ => ⟨S16x128x256, .f32⟩
  | .hbm, ⟨20, _⟩ => ⟨S16x128x256, .f32⟩
  | .hbm, ⟨21, _⟩ => ⟨S16x128x256, .f32⟩
  | .hbm, ⟨22, _⟩ => ⟨S16x128x256, .f32⟩
  | .hbm, ⟨23, _⟩ => ⟨S16x128x256, .f32⟩
  | .hbm, ⟨24, _⟩ => ⟨S16x128x256, .f32⟩
  | .hbm, ⟨25, _⟩ => ⟨S15x128x256, .f32⟩
  | .hbm, ⟨26, _⟩ => ⟨S1x128x256, .f32⟩
  | .hbm, ⟨27, _⟩ => ⟨S_, .f32⟩
  | .hbm, ⟨28, _⟩ => ⟨S1x128x256, .f32⟩
  | .hbm, ⟨29, _⟩ => ⟨S16x128x256, .f32⟩
  | .hbm, ⟨30, _⟩ => ⟨S16x128x256, .f32⟩
  | .hbm, ⟨31, _⟩ => ⟨S15x128x256, .f32⟩
  | .hbm, ⟨32, _⟩ => ⟨S1x128x256, .f32⟩
  | .hbm, ⟨33, _⟩ => ⟨S_, .f32⟩
  | .hbm, ⟨34, _⟩ => ⟨S1x128x256, .f32⟩
  | .hbm, ⟨35, _⟩ => ⟨S16x128x256, .f32⟩
  | .hbm, ⟨36, _⟩ => ⟨S16x128x256, .f32⟩
  | .hbm, ⟨37, _⟩ => ⟨S4x512x256, .f32⟩
  | .hbm, ⟨38, _⟩ => ⟨S512x4x256, .f32⟩
  | .hbm, ⟨39, _⟩ => ⟨S2048x256, .f32⟩
  | .hbm, ⟨40, _⟩ => ⟨S4x512x256, .f32⟩
  | .hbm, ⟨41, _⟩ => ⟨S512x4x256, .f32⟩
  | .hbm, ⟨42, _⟩ => ⟨S2048x256, .f32⟩
  | .hbm, ⟨43, _⟩ => ⟨S4x512x256, .f32⟩
  | .hbm, ⟨44, _⟩ => ⟨S512x4x256, .f32⟩
  | .hbm, ⟨45, _⟩ => ⟨S2048x256, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S1x128x256, .f32⟩
  | .local _ .vmem, ⟨21, _⟩ => ⟨S1x128x256, .f32⟩
  | .local _ .vmem, ⟨22, _⟩ => ⟨S1x128x256, .f32⟩
  | .local _ .vmem, ⟨23, _⟩ => ⟨S1x128x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x256 : Shape := ⟨2, ![2048, 256]⟩
abbrev S2048x4x64 : Shape := ⟨3, ![2048, 4, 64]⟩
abbrev S1x2048x4x64 : Shape := ⟨4, ![1, 2048, 4, 64]⟩
abbrev S1x512x4x4x64 : Shape := ⟨5, ![1, 512, 4, 4, 64]⟩
abbrev S1x4x512x4x64 : Shape := ⟨5, ![1, 4, 512, 4, 64]⟩
abbrev S4x512x4x64 : Shape := ⟨4, ![4, 512, 4, 64]⟩
abbrev S4x4x128x4x64 : Shape := ⟨5, ![4, 4, 128, 4, 64]⟩
abbrev S4x1x128x4x64 : Shape := ⟨5, ![4, 1, 128, 4, 64]⟩
abbrev S_ : Shape := ⟨0, ![]⟩
abbrev S4x3x128x4x64 : Shape := ⟨5, ![4, 3, 128, 4, 64]⟩
abbrev S4x4x256x4x64 : Shape := ⟨5, ![4, 4, 256, 4, 64]⟩
abbrev S4x4x4x128x256 : Shape := ⟨5, ![4, 4, 4, 128, 256]⟩
abbrev S4 : Shape := ⟨1, ![4]⟩
abbrev S4x1x1 : Shape := ⟨3, ![4, 1, 1]⟩
abbrev S128 : Shape := ⟨1, ![128]⟩
abbrev S1x128x1 : Shape := ⟨3, ![1, 128, 1]⟩
abbrev S4x128x1 : Shape := ⟨3, ![4, 128, 1]⟩
abbrev S256 : Shape := ⟨1, ![256]⟩
abbrev S1x1x256 : Shape := ⟨3, ![1, 1, 256]⟩
abbrev S4x1x256 : Shape := ⟨3, ![4, 1, 256]⟩
abbrev S4x128x256 : Shape := ⟨3, ![4, 128, 256]⟩
abbrev S1x4x1x128x256 : Shape := ⟨5, ![1, 4, 1, 128, 256]⟩
abbrev S4x4x4x128 : Shape := ⟨4, ![4, 4, 4, 128]⟩
abbrev S4x4x4x128x1 : Shape := ⟨5, ![4, 4, 4, 128, 1]⟩
abbrev S4x4x4x64x128 : Shape := ⟨5, ![4, 4, 4, 64, 128]⟩
abbrev S4x4x128x4 : Shape := ⟨4, ![4, 4, 128, 4]⟩
abbrev S1x4x512x4 : Shape := ⟨4, ![1, 4, 512, 4]⟩
abbrev S1x512x4x4 : Shape := ⟨4, ![1, 512, 4, 4]⟩
abbrev S1x2048x4 : Shape := ⟨3, ![1, 2048, 4]⟩
abbrev S2048x4 : Shape := ⟨2, ![2048, 4]⟩
abbrev S2048x4x1 : Shape := ⟨3, ![2048, 4, 1]⟩
abbrev S4x4x4x64x256 : Shape := ⟨5, ![4, 4, 4, 64, 256]⟩
abbrev S4x4x4x256x64 : Shape := ⟨5, ![4, 4, 4, 256, 64]⟩
abbrev S4x4x4x128x64 : Shape := ⟨5, ![4, 4, 4, 128, 64]⟩

abbrev nBuf : Space → Nat
  | .hbm => 215
  | .vmem => 0
  | .smem => 0
  | _ => 0

abbrev hbmTy0_0 (i : Nat) : BufTy := match i % 128 with
  | 0 => ⟨S2048x256, .f32⟩
  | 1 => ⟨S2048x256, .f32⟩
  | 2 => ⟨S2048x256, .f32⟩
  | 3 => ⟨S2048x256, .f32⟩
  | 4 => ⟨S2048x256, .f32⟩
  | 5 => ⟨S2048x4x64, .f32⟩
  | 6 => ⟨S2048x4x64, .f32⟩
  | 7 => ⟨S2048x4x64, .f32⟩
  | 8 => ⟨S1x2048x4x64, .f32⟩
  | 9 => ⟨S1x2048x4x64, .f32⟩
  | 10 => ⟨S1x2048x4x64, .f32⟩
  | 11 => ⟨S1x512x4x4x64, .f32⟩
  | 12 => ⟨S1x4x512x4x64, .f32⟩
  | 13 => ⟨S4x512x4x64, .f32⟩
  | 14 => ⟨S4x4x128x4x64, .f32⟩
  | 15 => ⟨S1x512x4x4x64, .f32⟩
  | 16 => ⟨S1x4x512x4x64, .f32⟩
  | 17 => ⟨S4x512x4x64, .f32⟩
  | 18 => ⟨S4x4x128x4x64, .f32⟩
  | 19 => ⟨S4x1x128x4x64, .f32⟩
  | 20 => ⟨S_, .f32⟩
  | 21 => ⟨S4x1x128x4x64, .f32⟩
  | 22 => ⟨S4x3x128x4x64, .f32⟩
  | 23 => ⟨S4x4x128x4x64, .f32⟩
  | 24 => ⟨S_, .f32⟩
  | 25 => ⟨S4x1x128x4x64, .f32⟩
  | 26 => ⟨S4x4x256x4x64, .f32⟩
  | 27 => ⟨S1x512x4x4x64, .f32⟩
  | 28 => ⟨S1x4x512x4x64, .f32⟩
  | 29 => ⟨S4x512x4x64, .f32⟩
  | 30 => ⟨S4x4x128x4x64, .f32⟩
  | 31 => ⟨S4x1x128x4x64, .f32⟩
  | 32 => ⟨S_, .f32⟩
  | 33 => ⟨S4x1x128x4x64, .f32⟩
  | 34 => ⟨S4x3x128x4x64, .f32⟩
  | 35 => ⟨S4x4x128x4x64, .f32⟩
  | 36 => ⟨S_, .f32⟩
  | 37 => ⟨S4x1x128x4x64, .f32⟩
  | 38 => ⟨S4x4x256x4x64, .f32⟩
  | 39 => ⟨S4x4x4x128x256, .f32⟩
  | 40 => ⟨S4, .i32⟩
  | 41 => ⟨S4x1x1, .i32⟩
  | 42 => ⟨S_, .i32⟩
  | 43 => ⟨S4x1x1, .i32⟩
  | 44 => ⟨S4x1x1, .i32⟩
  | 45 => ⟨S128, .i32⟩
  | 46 => ⟨S1x128x1, .i32⟩
  | 47 => ⟨S4x128x1, .i32⟩
  | 48 => ⟨S4x128x1, .i32⟩
  | 49 => ⟨S4x128x1, .i32⟩
  | 50 => ⟨S4, .i32⟩
  | 51 => ⟨S4x1x1, .i32⟩
  | 52 => ⟨S_, .i32⟩
  | 53 => ⟨S4x1x1, .i32⟩
  | 54 => ⟨S4x1x1, .i32⟩
  | 55 => ⟨S_, .i32⟩
  | 56 => ⟨S4x1x1, .i32⟩
  | 57 => ⟨S4x1x1, .i32⟩
  | 58 => ⟨S256, .i32⟩
  | 59 => ⟨S1x1x256, .i32⟩
  | 60 => ⟨S4x1x256, .i32⟩
  | 61 => ⟨S4x1x256, .i32⟩
  | 62 => ⟨S4x1x256, .i32⟩
  | 63 => ⟨S4x128x256, .i32⟩
  | 64 => ⟨S4x128x256, .i32⟩
  | 65 => ⟨S4x128x256, .i32⟩
  | 66 => ⟨S_, .i32⟩
  | 67 => ⟨S4x128x256, .i32⟩
  | 68 => ⟨S4x128x256, .i1⟩
  | 69 => ⟨S_, .i32⟩
  | 70 => ⟨S4x128x256, .i32⟩
  | 71 => ⟨S4x128x256, .i1⟩
  | 72 => ⟨S4x128x256, .i1⟩
  | 73 => ⟨S_, .i32⟩
  | 74 => ⟨S4x1x256, .i32⟩
  | 75 => ⟨S4x1x256, .i1⟩
  | 76 => ⟨S4x128x256, .i1⟩
  | 77 => ⟨S4x128x256, .i1⟩
  | 78 => ⟨S1x4x1x128x256, .i1⟩
  | 79 => ⟨S_, .f32⟩
  | 80 => ⟨S_, .f32⟩
  | 81 => ⟨S4x4x4x128x256, .i1⟩
  | 82 => ⟨S4x4x4x128x256, .f32⟩
  | 83 => ⟨S4x4x4x128x256, .f32⟩
  | 84 => ⟨S_, .f32⟩
  | 85 => ⟨S4x4x4x128x256, .f32⟩
  | 86 => ⟨S_, .f32⟩
  | 87 => ⟨S4x4x4x128, .f32⟩
  | 88 => ⟨S4x4x4x128x1, .f32⟩
  | 89 => ⟨S4x4x4x128x256, .f32⟩
  | 90 => ⟨S4x4x4x128x256, .i1⟩
  | 91 => ⟨S4x4x4x128x256, .f32⟩
  | 92 => ⟨S_, .f32⟩
  | 93 => ⟨S4x4x4x128, .f32⟩
  | 94 => ⟨S4x4x4x128x1, .f32⟩
  | 95 => ⟨S4x4x4x128x256, .f32⟩
  | 96 => ⟨S4x4x4x128x256, .f32⟩
  | 97 => ⟨S4x4x4x128x256, .f32⟩
  | 98 => ⟨S_, .f32⟩
  | 99 => ⟨S4x4x4x128, .f32⟩
  | 100 => ⟨S4x4x4x128x1, .f32⟩
  | 101 => ⟨S4x4x4x128x256, .f32⟩
  | 102 => ⟨S4x4x4x128x256, .f32⟩
  | 103 => ⟨S4x4x4x128x1, .f32⟩
  | 104 => ⟨S_, .f32⟩
  | 105 => ⟨S4x4x4x128x1, .f32⟩
  | 106 => ⟨S4x4x4x128x1, .f32⟩
  | 107 => ⟨S4x4x4x64x128, .f32⟩
  | 108 => ⟨S4x4x128x4x64, .f32⟩
  | 109 => ⟨S4x4x4x128x1, .f32⟩
  | 110 => ⟨S4x4x4x128x1, .f32⟩
  | 111 => ⟨S4x4x4x128, .f32⟩
  | 112 => ⟨S1x4x512x4x64, .f32⟩
  | 113 => ⟨S1x512x4x4x64, .f32⟩
  | 114 => ⟨S1x2048x4x64, .f32⟩
  | 115 => ⟨S4x4x128x4, .f32⟩
  | 116 => ⟨S1x4x512x4, .f32⟩
  | 117 => ⟨S1x512x4x4, .f32⟩
  | 118 => ⟨S1x2048x4, .f32⟩
  | 119 => ⟨S2048x4x64, .f32⟩
  | 120 => ⟨S2048x4, .f32⟩
  | 121 => ⟨S2048x256, .f32⟩
  | 122 => ⟨S2048x4x1, .f32⟩
  | 123 => ⟨S2048x4x64, .f32⟩
  | 124 => ⟨S2048x256, .f32⟩
  | 125 => ⟨S2048x4x64, .f32⟩
  | 126 => ⟨S_, .f32⟩
  | 127 => ⟨S2048x4, .f32⟩
  | _ => ⟨S2048x256, .f32⟩

abbrev hbmTy0_1 (i : Nat) : BufTy := match i % 128 with
  | 0 => ⟨S2048x4x1, .f32⟩
  | 1 => ⟨S_, .f32⟩
  | 2 => ⟨S2048x4, .f32⟩
  | 3 => ⟨S2048x4x64, .f32⟩
  | 4 => ⟨S1x2048x4, .f32⟩
  | 5 => ⟨S1x2048x4x64, .f32⟩
  | 6 => ⟨S1x512x4x4, .f32⟩
  | 7 => ⟨S1x4x512x4, .f32⟩
  | 8 => ⟨S4x4x128x4, .f32⟩
  | 9 => ⟨S4x4x4x128, .f32⟩
  | 10 => ⟨S1x512x4x4x64, .f32⟩
  | 11 => ⟨S1x4x512x4x64, .f32⟩
  | 12 => ⟨S4x4x128x4x64, .f32⟩
  | 13 => ⟨S4x4x4x128x1, .f32⟩
  | 14 => ⟨S4x4x4x128x1, .f32⟩
  | 15 => ⟨S4x4x4x64x128, .f32⟩
  | 16 => ⟨S4x4x4x128x256, .f32⟩
  | 17 => ⟨S4x4x4x64x256, .f32⟩
  | 18 => ⟨S4x4x256x4x64, .f32⟩
  | 19 => ⟨S4x4x4x128x256, .f32⟩
  | 20 => ⟨S4x4x4x128x256, .f32⟩
  | 21 => ⟨S4x4x4x128x256, .f32⟩
  | 22 => ⟨S_, .f32⟩
  | 23 => ⟨S4x4x4x128, .f32⟩
  | 24 => ⟨S4x4x4x128x1, .f32⟩
  | 25 => ⟨S4x4x4x128x1, .f32⟩
  | 26 => ⟨S4x4x4x128x1, .f32⟩
  | 27 => ⟨S4x4x4x128x256, .f32⟩
  | 28 => ⟨S4x4x4x128x256, .f32⟩
  | 29 => ⟨S_, .f32⟩
  | 30 => ⟨S4x4x4x128, .f32⟩
  | 31 => ⟨S4x4x4x128x256, .f32⟩
  | 32 => ⟨S4x4x4x128x256, .f32⟩
  | 33 => ⟨S4x4x4x128x256, .f32⟩
  | 34 => ⟨S4x4x4x128x256, .f32⟩
  | 35 => ⟨S_, .f32⟩
  | 36 => ⟨S4x4x4x128, .f32⟩
  | 37 => ⟨S4x4x4x128x1, .f32⟩
  | 38 => ⟨S4x4x4x128x1, .f32⟩
  | 39 => ⟨S_, .f32⟩
  | 40 => ⟨S4x4x4x128, .f32⟩
  | 41 => ⟨S4x4x4x128, .f32⟩
  | 42 => ⟨S4x4x4x128x256, .f32⟩
  | 43 => ⟨S4x4x4x128x256, .f32⟩
  | 44 => ⟨S4x4x4x128x256, .f32⟩
  | 45 => ⟨S_, .f32⟩
  | 46 => ⟨S4x4x4x128x256, .f32⟩
  | 47 => ⟨S4x4x4x128x256, .f32⟩
  | 48 => ⟨S4x4x4x256x64, .f32⟩
  | 49 => ⟨S4x4x256x4x64, .f32⟩
  | 50 => ⟨S4x4x4x128x64, .f32⟩
  | 51 => ⟨S4x4x128x4x64, .f32⟩
  | 52 => ⟨S4x4x128x4x64, .f32⟩
  | 53 => ⟨S4x4x128x4x64, .f32⟩
  | 54 => ⟨S4x1x128x4x64, .f32⟩
  | 55 => ⟨S4x3x128x4x64, .f32⟩
  | 56 => ⟨S_, .f32⟩
  | 57 => ⟨S4x4x128x4x64, .f32⟩
  | 58 => ⟨S4x4x128x4x64, .f32⟩
  | 59 => ⟨S4x512x4x64, .f32⟩
  | 60 => ⟨S1x4x512x4x64, .f32⟩
  | 61 => ⟨S1x512x4x4x64, .f32⟩
  | 62 => ⟨S1x2048x4x64, .f32⟩
  | 63 => ⟨S4x4x128x4x64, .f32⟩
  | 64 => ⟨S4x4x128x4x64, .f32⟩
  | 65 => ⟨S4x1x128x4x64, .f32⟩
  | 66 => ⟨S4x3x128x4x64, .f32⟩
  | 67 => ⟨S_, .f32⟩
  | 68 => ⟨S4x4x128x4x64, .f32⟩
  | 69 => ⟨S4x4x128x4x64, .f32⟩
  | 70 => ⟨S4x512x4x64, .f32⟩
  | 71 => ⟨S1x4x512x4x64, .f32⟩
  | 72 => ⟨S1x512x4x4x64, .f32⟩
  | 73 => ⟨S1x2048x4x64, .f32⟩
  | 74 => ⟨S4x512x4x64, .f32⟩
  | 75 => ⟨S1x4x512x4x64, .f32⟩
  | 76 => ⟨S1x512x4x4x64, .f32⟩
  | 77 => ⟨S1x2048x4x64, .f32⟩
  | 78 => ⟨S_, .f32⟩
  | 79 => ⟨S2048x4x64, .f32⟩
  | 80 => ⟨S_, .f32⟩
  | 81 => ⟨S2048x4x64, .f32⟩
  | 82 => ⟨S_, .f32⟩
  | 83 => ⟨S2048x4x64, .f32⟩
  | 84 => ⟨S2048x256, .f32⟩
  | 85 => ⟨S2048x256, .f32⟩
  | 86 => ⟨S2048x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_c_3 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_5 : Ref sig .tc := ⟨.hbm, 66, rfl⟩
abbrev main_v54 : Ref sig .tc := ⟨.hbm, 67, rfl⟩
abbrev main_v55 : Ref sig .tc := ⟨.hbm, 68, rfl⟩
abbrev main_c_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_call0_v0 : Ref sig .tc := ⟨.hbm, 80, rfl⟩
abbrev main_v64_1 : Ref sig .tc := ⟨.hbm, 81, rfl⟩
abbrev main_call0_v2 : Ref sig .tc := ⟨.hbm, 82, rfl⟩
abbrev main_v64_0 : Ref sig .tc := ⟨.hbm, 83, rfl⟩
abbrev main_call0_cst : Ref sig .tc := ⟨.hbm, 84, rfl⟩
abbrev main_v64_2 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_13 : Ref sig .tc := ⟨.hbm, 126, rfl⟩
abbrev main_v101 : Ref sig .tc := ⟨.hbm, 127, rfl⟩
abbrev main_v102 : Ref sig .tc := ⟨.hbm, 128, rfl⟩
abbrev main_cst_14 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_15 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_16 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_cst_17 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_18 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_call1_cst : Ref sig .tc := ⟨.hbm, 173, rfl⟩
abbrev main_call1_v0 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_19 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_cst_20 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_cst_21 : Ref sig .tc := ⟨.hbm, 206, rfl⟩
abbrev main_v171 : Ref sig .tc := ⟨.hbm, 207, rfl⟩
abbrev main_cst_22 : Ref sig .tc := ⟨.hbm, 208, rfl⟩
abbrev main_v172 : Ref sig .tc := ⟨.hbm, 209, rfl⟩
abbrev main_cst_23 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩

abbrev nD : Nat := 1
abbrev τ : Topo := Topo.v7x

variable {F : FTy → Type} [FloatOps F]
-- ==== Kernel2.lean ====
abbrev S2048x1024 : Shape := ⟨2, ![2048, 1024]⟩
abbrev S8x1024x704 : Shape := ⟨3, ![8, 1024, 704]⟩
abbrev S2816x1024 : Shape := ⟨2, ![2816, 1024]⟩
abbrev S4x2048x704 : Shape := ⟨3, ![4, 2048, 704]⟩
abbrev S1024x1024 : Shape := ⟨2, ![1024, 1024]⟩
abbrev S1x1024x704 : Shape := ⟨3, ![1, 1024, 704]⟩
abbrev S1024x704 : Shape := ⟨2, ![1024, 704]⟩
abbrev S4x1024x704 : Shape := ⟨3, ![4, 1024, 704]⟩
abbrev S2816x512 : Shape := ⟨2, ![2816, 512]⟩
abbrev S1024x512 : Shape := ⟨2, ![1024, 512]⟩
abbrev S704x512 : Shape := ⟨2, ![704, 512]⟩
abbrev S704x1024 : Shape := ⟨2, ![704, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x2048x704 : Shape := ⟨3, ![1, 2048, 704]⟩
abbrev S2048x704 : Shape := ⟨2, ![2048, 704]⟩
abbrev S2048x512 : Shape := ⟨2, ![2048, 512]⟩

abbrev nBuf : Space → Nat
  | .hbm => 13
  | .vmem => 50
  | .smem => 0
  | _ => 0

abbrev bufTy : (tb : Table) → Fin (tcTables nBuf tb) → BufTy
  | .hbm, ⟨0, _⟩ => ⟨S2048x1024, .f32⟩
  | .hbm, ⟨1, _⟩ => ⟨S8x1024x704, .bf16⟩
  | .hbm, ⟨2, _⟩ => ⟨S2816x1024, .bf16⟩
  | .hbm, ⟨3, _⟩ => ⟨S2048x1024, .f32⟩
  | .hbm, ⟨4, _⟩ => ⟨S4x2048x704, .bf16⟩
  | .hbm, ⟨5, _⟩ => ⟨S4x2048x704, .bf16⟩
  | .hbm, ⟨6, _⟩ => ⟨S4x2048x704, .bf16⟩
  | .hbm, ⟨7, _⟩ => ⟨S2048x1024, .f32⟩
  | .hbm, ⟨8, _⟩ => ⟨S4x2048x704, .bf16⟩
  | .hbm, ⟨9, _⟩ => ⟨S4x2048x704, .bf16⟩
  | .hbm, ⟨10, _⟩ => ⟨S2048x1024, .f32⟩
  | .hbm, ⟨11, _⟩ => ⟨S8x1024x704, .bf16⟩
  | .hbm, ⟨12, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S4x1024x704, .bf16⟩
  | .local _ .vmem, ⟨13, _⟩ => ⟨S4x1024x704, .bf16⟩
  | .local _ .vmem, ⟨14, _⟩ => ⟨S2816x512, .bf16⟩
  | .local _ .vmem, ⟨15, _⟩ => ⟨S2816x512, .bf16⟩
  | .local _ .vmem, ⟨16, _⟩ => ⟨S1024x512, .f32⟩
  | .local _ .vmem, ⟨17, _⟩ => ⟨S1024x512, .f32⟩
  | .local _ .vmem, ⟨18, _⟩ => ⟨S1024x1024, .f32⟩
  | .local _ .vmem, ⟨19, _⟩ => ⟨S1024x1024, .f32⟩
  | .local _ .vmem, ⟨20, _⟩ => ⟨S704x1024, .bf16⟩
  | .local _ .vmem, ⟨21, _⟩ => ⟨S704x1024, .bf16⟩
  | .local _ .vmem, ⟨22, _⟩ => ⟨S1x1024x704, .bf16⟩
  | .local _ .vmem, ⟨23, _⟩ => ⟨S1x1024x704, .bf16⟩
  | .local _ .vmem, ⟨24, _⟩ => ⟨S1x1024x704, .bf16⟩
  | .local _ .vmem, ⟨25, _⟩ => ⟨S1x1024x704, .bf16⟩
  | .local _ .vmem, ⟨26, _⟩ => ⟨S1x1024x704, .bf16⟩
  | .local _ .vmem, ⟨27, _⟩ => ⟨S1x1024x704, .bf16⟩
  | .local _ .vmem, ⟨28, _⟩ => ⟨S1x1024x704, .bf16⟩
  | .local _ .vmem, ⟨29, _⟩ => ⟨S1x1024x704, .bf16⟩
  | .local _ .vmem, ⟨30, _⟩ => ⟨S4x512x704, .bf16⟩
  | .local _ .vmem, ⟨31, _⟩ => ⟨S4x512x704, .bf16⟩
  | .local _ .vmem, ⟨32, _⟩ => ⟨S4x512x704, .bf16⟩
  | .local _ .vmem, ⟨33, _⟩ => ⟨S4x512x704, .bf16⟩
  | .local _ .vmem, ⟨34, _⟩ => ⟨S8x1024x704, .bf16⟩
  | .local _ .vmem, ⟨35, _⟩ => ⟨S512x1024, .f32⟩
  | .local _ .vmem, ⟨36, _⟩ => ⟨S512x1024, .f32⟩
  | .local _ .vmem, ⟨37, _⟩ => ⟨S2048x1024, .f32⟩
  | .local _ .vmem, ⟨38, _⟩ => ⟨S1x2048x704, .bf16⟩
  | .local _ .vmem, ⟨39, _⟩ => ⟨S1x2048x704, .bf16⟩
  | .local _ .vmem, ⟨40, _⟩ => ⟨S1x2048x704, .bf16⟩
  | .local _ .vmem, ⟨41, _⟩ => ⟨S1x2048x704, .bf16⟩
  | .local _ .vmem, ⟨42, _⟩ => ⟨S1x1024x704, .bf16⟩
  | .local _ .vmem, ⟨43, _⟩ => ⟨S1x1024x704, .bf16⟩
  | .local _ .vmem, ⟨44, _⟩ => ⟨S1x2048x704, .bf16⟩
  | .local _ .vmem, ⟨45, _⟩ => ⟨S1x2048x704, .bf16⟩
  | .local _ .vmem, ⟨46, _⟩ => ⟨S2048x512, .f32⟩
  | .local _ .vmem, ⟨47, _⟩ => ⟨S2048x512, .f32⟩
  | .local _ .vmem, ⟨48, _⟩ => ⟨S704x512, .bf16⟩
  | .local _ .vmem, ⟨49, _⟩ => ⟨S704x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc4_stg0_0 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem3_1 : DmaSem sig := 36
abbrev cc4_sem0_0 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S4x1024x704 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2816x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S704x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024x704 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1024x704 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1024x704 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1024x704 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4x512x704 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x512x704 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x1024x704 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc4_transform_2 (i : grid4.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 1 → Memref sig .tc .vmem S2048x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S1x2048x704 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x2048x704 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1024x704 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![4, 2], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1x2048x704 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S2048x512 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S704x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference2Ideal.lean ====
abbrev S2048x1024 : Shape := ⟨2, ![2048, 1024]⟩
abbrev S8x1024x704 : Shape := ⟨3, ![8, 1024, 704]⟩
abbrev S2816x1024 : Shape := ⟨2, ![2816, 1024]⟩
abbrev S1024x8x704 : Shape := ⟨3, ![1024, 8, 704]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩
abbrev S5632x1024 : Shape := ⟨2, ![5632, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024x704, .bf16⟩
  | .hbm, ⟨2, _⟩ => ⟨S2816x1024, .bf16⟩
  | .hbm, ⟨3, _⟩ => ⟨S2048x1024, .f32⟩
  | .hbm, ⟨4, _⟩ => ⟨S1024x8x704, .bf16⟩
  | .hbm, ⟨5, _⟩ => ⟨S1024x5632, .bf16⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S_, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x1024, .f32⟩
  | .hbm, ⟨24, _⟩ => ⟨S1024x2816, .f32⟩
  | .hbm, ⟨25, _⟩ => ⟨S2816x1024, .f32⟩
  | .hbm, ⟨26, _⟩ => ⟨S2816x1024, .bf16⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x5632, .f32⟩
  | .hbm, ⟨35, _⟩ => ⟨S5632x1024, .f32⟩
  | .hbm, ⟨36, _⟩ => ⟨S1024x5632, .f32⟩
  | .hbm, ⟨37, _⟩ => ⟨S1024x5632, .bf16⟩
  | .hbm, ⟨38, _⟩ => ⟨S2048x1024, .f32⟩
  | .hbm, ⟨39, _⟩ => ⟨S1024x8x704, .bf16⟩
  | .hbm, ⟨40, _⟩ => ⟨S8x1024x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel3.lean ====
abbrev S2048x1024 : Shape := ⟨2, ![2048, 1024]⟩
abbrev S256x1024 : Shape := ⟨2, ![256, 1024]⟩
abbrev S1024x1024 : Shape := ⟨2, ![1024, 1024]⟩
abbrev S1024x2048 : Shape := ⟨2, ![1024, 2048]⟩
abbrev S512x1024 : Shape := ⟨2, ![512, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 17
  | .vmem => 52
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024x1024, .bf16⟩
  | .hbm, ⟨3, _⟩ => ⟨S1024x2048, .bf16⟩
  | .hbm, ⟨4, _⟩ => ⟨S1024x1024, .bf16⟩
  | .hbm, ⟨5, _⟩ => ⟨S2048x1024, .f32⟩
  | .hbm, ⟨6, _⟩ => ⟨S2048x1024, .f32⟩
  | .hbm, ⟨7, _⟩ => ⟨S256x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S256x1024, .f32⟩
  | .hbm, ⟨13, _⟩ => ⟨S256x1024, .f32⟩
  | .hbm, ⟨14, _⟩ => ⟨S256x2048, .f32⟩
  | .hbm, ⟨15, _⟩ => ⟨S2048x1024, .f32⟩
  | .hbm, ⟨16, _⟩ => ⟨S1024x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S512x256, .f32⟩
  | .local _ .vmem, ⟨11, _⟩ => ⟨S512x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S512x256, .f32⟩
  | .local _ .vmem, ⟨17, _⟩ => ⟨S512x256, .f32⟩
  | .local _ .vmem, ⟨18, _⟩ => ⟨S512x1024, .f32⟩
  | .local _ .vmem, ⟨19, _⟩ => ⟨S512x1024, .f32⟩
  | .local _ .vmem, ⟨20, _⟩ => ⟨S1024x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | .local _ .vmem, ⟨28, _⟩ => ⟨S512x256, .f32⟩
  | .local _ .vmem, ⟨29, _⟩ => ⟨S512x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S256x256, .f32⟩
  | .local _ .vmem, ⟨39, _⟩ => ⟨S256x256, .f32⟩
  | .local _ .vmem, ⟨40, _⟩ => ⟨S256x256, .f32⟩
  | .local _ .vmem, ⟨41, _⟩ => ⟨S256x256, .f32⟩
  | .local _ .vmem, ⟨42, _⟩ => ⟨S512x1024, .f32⟩
  | .local _ .vmem, ⟨43, _⟩ => ⟨S512x1024, .f32⟩
  | .local _ .vmem, ⟨44, _⟩ => ⟨S1024x1024, .bf16⟩
  | .local _ .vmem, ⟨45, _⟩ => ⟨S512x1024, .f32⟩
  | .local _ .vmem, ⟨46, _⟩ => ⟨S512x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S1024x1024, .bf16⟩
  | .local _ .vmem, ⟨51, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc5_stg4_0 : Ref sig .tc := ⟨.vmem, 36, rfl⟩
abbrev cc5_stg4_1 : Ref sig .tc := ⟨.vmem, 37, rfl⟩
abbrev cc5_stg5_0 : Ref sig .tc := ⟨.vmem, 38, rfl⟩
abbrev cc5_stg5_1 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc5_sem3_0 : DmaSem sig := 34
abbrev cc5_sem3_1 : DmaSem sig := 35
abbrev cc5_sem4_0 : DmaSem sig := 36
abbrev cc5_sem4_1 : DmaSem sig := 37
abbrev cc5_sem5_0 : DmaSem sig := 38
abbrev cc5_sem5_1 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem1_0 : DmaSem sig := 48
abbrev cc7_sem1_1 : DmaSem sig := 49
abbrev cc7_sem2_0 : DmaSem sig := 50
abbrev cc7_sem2_1 : DmaSem sig := 51

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![4, 1, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨2, ![4, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S512x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S256x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S256x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S256x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S256x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S256x1024 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference3Ideal.lean ====
abbrev S2048x1024 : Shape := ⟨2, ![2048, 1024]⟩
abbrev S256x1024 : Shape := ⟨2, ![256, 1024]⟩
abbrev S1024x1024 : Shape := ⟨2, ![1024, 1024]⟩
abbrev S1024x2048 : Shape := ⟨2, ![1024, 2048]⟩
abbrev S1x2048x1024 : Shape := ⟨3, ![1, 2048, 1024]⟩
abbrev S1x256x1024 : Shape := ⟨3, ![1, 256, 1024]⟩
abbrev S1x2048x4x256 : Shape := ⟨4, ![1, 2048, 4, 256]⟩
abbrev S1x256x2048 : Shape := ⟨3, ![1, 256, 2048]⟩
abbrev S1x256x4x256 : Shape := ⟨4, ![1, 256, 4, 256]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x256x2048 : Shape := ⟨4, ![1, 4, 256, 2048]⟩
abbrev S1x4x256x256 : Shape := ⟨4, ![1, 4, 256, 256]⟩
abbrev S4x2048 : Shape := ⟨2, ![4, 2048]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S1024x1024, .bf16⟩
  | .hbm, ⟨3, _⟩ => ⟨S1024x2048, .bf16⟩
  | .hbm, ⟨4, _⟩ => ⟨S1024x1024, .bf16⟩
  | .hbm, ⟨5, _⟩ => ⟨S2048x1024, .f32⟩
  | .hbm, ⟨6, _⟩ => ⟨S1x2048x1024, .f32⟩
  | .hbm, ⟨7, _⟩ => ⟨S1x256x1024, .f32⟩
  | .hbm, ⟨8, _⟩ => ⟨S1x2048x1024, .f32⟩
  | .hbm, ⟨9, _⟩ => ⟨S1x2048x4x256, .f32⟩
  | .hbm, ⟨10, _⟩ => ⟨S1x256x2048, .f32⟩
  | .hbm, ⟨11, _⟩ => ⟨S1x256x1024, .f32⟩
  | .hbm, ⟨12, _⟩ => ⟨S1x256x1024, .f32⟩
  | .hbm, ⟨13, _⟩ => ⟨S1x256x4x256, .f32⟩
  | .hbm, ⟨14, _⟩ => ⟨S1x256x4x256, .f32⟩
  | .hbm, ⟨15, _⟩ => ⟨S1x4x2048x256, .f32⟩
  | .hbm, ⟨16, _⟩ => ⟨S_, .f32⟩
  | .hbm, ⟨17, _⟩ => ⟨S1x4x2048x256, .f32⟩
  | .hbm, ⟨18, _⟩ => ⟨S1x4x2048x256, .f32⟩
  | .hbm, ⟨19, _⟩ => ⟨S_, .f32⟩
  | .hbm, ⟨20, _⟩ => ⟨S1x4x2048, .f32⟩
  | .hbm, ⟨21, _⟩ => ⟨S1x4x2048x1, .f32⟩
  | .hbm, ⟨22, _⟩ => ⟨S1x4x2048x256, .f32⟩
  | .hbm, ⟨23, _⟩ => ⟨S1x4x2048x256, .i1⟩
  | .hbm, ⟨24, _⟩ => ⟨S1x4x2048x256, .f32⟩
  | .hbm, ⟨25, _⟩ => ⟨S_, .f32⟩
  | .hbm, ⟨26, _⟩ => ⟨S1x4x2048, .f32⟩
  | .hbm, ⟨27, _⟩ => ⟨S_, .f32⟩
  | .hbm, ⟨28, _⟩ => ⟨S1x4x2048, .f32⟩
  | .hbm, ⟨29, _⟩ => ⟨S1x4x2048, .f32⟩
  | .hbm, ⟨30, _⟩ => ⟨S_, .f32⟩
  | .hbm, ⟨31, _⟩ => ⟨S1x4x2048, .f32⟩
  | .hbm, ⟨32, _⟩ => ⟨S1x4x2048, .i1⟩
  | .hbm, ⟨33, _⟩ => ⟨S_, .f32⟩
  | .hbm, ⟨34, _⟩ => ⟨S1x4x2048, .f32⟩
  | .hbm, ⟨35, _⟩ => ⟨S1x4x2048, .i1⟩
  | .hbm, ⟨36, _⟩ => ⟨S_, .f32⟩
  | .hbm, ⟨37, _⟩ => ⟨S1x4x2048, .f32⟩
  | .hbm, ⟨38, _⟩ => ⟨S_, .f32⟩
  | .hbm, ⟨39, _⟩ => ⟨S1x4x2048, .f32⟩
  | .hbm, ⟨40, _⟩ => ⟨S_, .f32⟩
  | .hbm, ⟨41, _⟩ => ⟨S1x4x2048, .f32⟩
  | .hbm, ⟨42, _⟩ => ⟨S1x4x2048, .f32⟩
  | .hbm, ⟨43, _⟩ => ⟨S1x4x2048, .f32⟩
  | .hbm, ⟨44, _⟩ => ⟨S1x4x2048x1, .f32⟩
  | .hbm, ⟨45, _⟩ => ⟨S1x4x2048x256, .f32⟩
  | .hbm, ⟨46, _⟩ => ⟨S1x4x2048x256, .f32⟩
  | .hbm, ⟨47, _⟩ => ⟨S1x4x2048x256, .f32⟩
  | .hbm, ⟨48, _⟩ => ⟨S_, .f32⟩
  | .hbm, ⟨49, _⟩ => ⟨S1x4x2048, .f32⟩
  | .hbm, ⟨50, _⟩ => ⟨S1x4x2048x1, .f32⟩
  | .hbm, ⟨51, _⟩ => ⟨S1x4x2048x256, .f32⟩
  | .hbm, ⟨52, _⟩ => ⟨S1x4x2048x256, .f32⟩
  | .hbm, ⟨53, _⟩ => ⟨S1x4x2048x1, .f32⟩
  | .hbm, ⟨54, _⟩ => ⟨S_, .f32⟩
  | .hbm, ⟨55, _⟩ => ⟨S1x4x2048x1, .f32⟩
  | .hbm, ⟨56, _⟩ => ⟨S1x4x2048x1, .f32⟩
  | .hbm, ⟨57, _⟩ => ⟨S1x4x256x2048, .f32⟩
  | .hbm, ⟨58, _⟩ => ⟨S1x2048x4x256, .f32⟩
  | .hbm, ⟨59, _⟩ => ⟨S1x2048x1024, .f32⟩
  | .hbm, ⟨60, _⟩ => ⟨S1x2048x1024, .f32⟩
  | .hbm, ⟨61, _⟩ => ⟨S2048x1024, .f32⟩
  | .hbm, ⟨62, _⟩ => ⟨S1x2048x1024, .f32⟩
  | .hbm, ⟨63, _⟩ => ⟨S1x2048x1024, .f32⟩
  | .hbm, ⟨64, _⟩ => ⟨S1x2048x4x256, .f32⟩
  | .hbm, ⟨65, _⟩ => ⟨S1x4x256x2048, .f32⟩
  | .hbm, ⟨66, _⟩ => ⟨S1x4x2048x256, .f32⟩
  | .hbm, ⟨67, _⟩ => ⟨S1x4x256x256, .f32⟩
  | .hbm, ⟨68, _⟩ => ⟨S1x256x4x256, .f32⟩
  | .hbm, ⟨69, _⟩ => ⟨S1x4x2048x256, .f32⟩
  | .hbm, ⟨70, _⟩ => ⟨S1x4x2048x256, .f32⟩
  | .hbm, ⟨71, _⟩ => ⟨S1x4x2048x256, .f32⟩
  | .hbm, ⟨72, _⟩ => ⟨S_, .f32⟩
  | .hbm, ⟨73, _⟩ => ⟨S1x4x2048, .f32⟩
  | .hbm, ⟨74, _⟩ => ⟨S1x4x2048x1, .f32⟩
  | .hbm, ⟨75, _⟩ => ⟨S1x4x2048x1, .f32⟩
  | .hbm, ⟨76, _⟩ => ⟨S1x4x2048x256, .f32⟩
  | .hbm, ⟨77, _⟩ => ⟨S1x4x2048x256, .f32⟩
  | .hbm, ⟨78, _⟩ => ⟨S_, .f32⟩
  | .hbm, ⟨79, _⟩ => ⟨S4x2048, .f32⟩
  | .hbm, ⟨80, _⟩ => ⟨S1x4x2048, .f32⟩
  | .hbm, ⟨81, _⟩ => ⟨S1x4x2048x256, .f32⟩
  | .hbm, ⟨82, _⟩ => ⟨S1x4x2048x256, .f32⟩
  | .hbm, ⟨83, _⟩ => ⟨S1x4x2048x256, .f32⟩
  | .hbm, ⟨84, _⟩ => ⟨S_, .f32⟩
  | .hbm, ⟨85, _⟩ => ⟨S1x4x2048x256, .f32⟩
  | .hbm, ⟨86, _⟩ => ⟨S1x4x2048x256, .f32⟩
  | .hbm, ⟨87, _⟩ => ⟨S1x4x256x256, .f32⟩
  | .hbm, ⟨88, _⟩ => ⟨S1x256x4x256, .f32⟩
  | .hbm, ⟨89, _⟩ => ⟨S1x4x2048x256, .f32⟩
  | .hbm, ⟨90, _⟩ => ⟨S1x2048x4x256, .f32⟩
  | .hbm, ⟨91, _⟩ => ⟨S1x256x1024, .f32⟩
  | .hbm, ⟨92, _⟩ => ⟨S1x256x1024, .f32⟩
  | .hbm, ⟨93, _⟩ => ⟨S1x256x2048, .f32⟩
  | .hbm, ⟨94, _⟩ => ⟨S2048x1024, .f32⟩
  | .hbm, ⟨95, _⟩ => ⟨S1024x2048, .f32⟩
  | .hbm, ⟨96, _⟩ => ⟨S1024x2048, .bf16⟩
  | .hbm, ⟨97, _⟩ => ⟨S1x2048x1024, .f32⟩
  | .hbm, ⟨98, _⟩ => ⟨S1x2048x1024, .f32⟩
  | .hbm, ⟨99, _⟩ => ⟨S_, .f32⟩
  | .hbm, ⟨100, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_13 : Ref sig .tc := ⟨.hbm, 99, rfl⟩
abbrev main_v79 : Ref sig .tc := ⟨.hbm, 100, rfl⟩

abbrev nD : Nat := 1
abbrev τ : Topo := Topo.v7x

variable {F : FTy → Type} [FloatOps F]
-- ==== Kernel4.lean ====
abbrev S2048x1024 : Shape := ⟨2, ![2048, 1024]⟩
abbrev S1024x3592 : Shape := ⟨2, ![1024, 3592]⟩
abbrev S2048x3592 : Shape := ⟨2, ![2048, 3592]⟩
abbrev S2048x256 : Shape := ⟨2, ![2048, 256]⟩
abbrev S2048x512 : Shape := ⟨2, ![2048, 512]⟩
abbrev S1024x1024 : Shape := ⟨2, ![1024, 1024]⟩
abbrev S256x1024 : Shape := ⟨2, ![256, 1024]⟩
abbrev S256x3592 : Shape := ⟨2, ![256, 3592]⟩
abbrev S512x256 : Shape := ⟨2, ![512, 256]⟩
abbrev S512x512 : Shape := ⟨2, ![512, 512]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 15
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S1024x3592, .bf16⟩
  | .hbm, ⟨2, _⟩ => ⟨S2048x3592, .f32⟩
  | .hbm, ⟨3, _⟩ => ⟨S2048x256, .f32⟩
  | .hbm, ⟨4, _⟩ => ⟨S2048x256, .f32⟩
  | .hbm, ⟨5, _⟩ => ⟨S2048x512, .f32⟩
  | .hbm, ⟨6, _⟩ => ⟨S1024x1024, .bf16⟩
  | .hbm, ⟨7, _⟩ => ⟨S2048x1024, .f32⟩
  | .hbm, ⟨8, _⟩ => ⟨S2048x3592, .f32⟩
  | .hbm, ⟨9, _⟩ => ⟨S2048x1024, .f32⟩
  | .hbm, ⟨10, _⟩ => ⟨S2048x1024, .f32⟩
  | .hbm, ⟨11, _⟩ => ⟨S2048x256, .f32⟩
  | .hbm, ⟨12, _⟩ => ⟨S2048x256, .f32⟩
  | .hbm, ⟨13, _⟩ => ⟨S2048x512, .f32⟩
  | .hbm, ⟨14, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1024x3592, .bf16⟩
  | .local _ .vmem, ⟨3, _⟩ => ⟨S256x3592, .f32⟩
  | .local _ .vmem, ⟨4, _⟩ => ⟨S256x3592, .f32⟩
  | .local _ .vmem, ⟨5, _⟩ => ⟨S256x3592, .f32⟩
  | .local _ .vmem, ⟨6, _⟩ => ⟨S256x3592, .f32⟩
  | .local _ .vmem, ⟨7, _⟩ => ⟨S1024x3592, .bf16⟩
  | .local _ .vmem, ⟨8, _⟩ => ⟨S256x1024, .f32⟩
  | .local _ .vmem, ⟨9, _⟩ => ⟨S256x1024, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .f32⟩
  | .local _ .vmem, ⟨15, _⟩ => ⟨S512x512, .f32⟩
  | .local _ .vmem, ⟨16, _⟩ => ⟨S1024x512, .bf16⟩
  | .local _ .vmem, ⟨17, _⟩ => ⟨S1024x512, .bf16⟩
  | .local _ .vmem, ⟨18, _⟩ => ⟨S512x512, .f32⟩
  | .local _ .vmem, ⟨19, _⟩ => ⟨S512x512, .f32⟩
  | .local _ .vmem, ⟨20, _⟩ => ⟨S512x1024, .f32⟩
  | .local _ .vmem, ⟨21, _⟩ => ⟨S512x1024, .f32⟩
  | .local _ .vmem, ⟨22, _⟩ => ⟨S1024x1024, .bf16⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x512, .f32⟩
  | .local _ .vmem, ⟨28, _⟩ => ⟨S512x512, .f32⟩
  | .local _ .vmem, ⟨29, _⟩ => ⟨S2048x256, .f32⟩
  | .local _ .vmem, ⟨30, _⟩ => ⟨S2048x256, .f32⟩
  | .local _ .vmem, ⟨31, _⟩ => ⟨S2048x512, .f32⟩
  | .local _ .vmem, ⟨32, _⟩ => ⟨S2048x512, .f32⟩
  | .local _ .vmem, ⟨33, _⟩ => ⟨S2048x512, .f32⟩
  | .local _ .vmem, ⟨34, _⟩ => ⟨S1024x512, .bf16⟩
  | .local _ .vmem, ⟨35, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3592 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x3592 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x3592 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x3592 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S2048x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2048x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== Reference4Ideal.lean ====
abbrev S2048x1024 : Shape := ⟨2, ![2048, 1024]⟩
abbrev S1024x3592 : Shape := ⟨2, ![1024, 3592]⟩
abbrev S2048x3592 : Shape := ⟨2, ![2048, 3592]⟩
abbrev S2048x256 : Shape := ⟨2, ![2048, 256]⟩
abbrev S2048x512 : Shape := ⟨2, ![2048, 512]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3592, .bf16⟩
  | .hbm, ⟨2, _⟩ => ⟨S2048x3592, .f32⟩
  | .hbm, ⟨3, _⟩ => ⟨S2048x256, .f32⟩
  | .hbm, ⟨4, _⟩ => ⟨S2048x256, .f32⟩
  | .hbm, ⟨5, _⟩ => ⟨S2048x512, .f32⟩
  | .hbm, ⟨6, _⟩ => ⟨S1024x1024, .bf16⟩
  | .hbm, ⟨7, _⟩ => ⟨S2048x1024, .f32⟩
  | .hbm, ⟨8, _⟩ => ⟨S2048x3592, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S2048x1024, .f32⟩
  | .hbm, ⟨16, _⟩ => ⟨S2048x256, .f32⟩
  | .hbm, ⟨17, _⟩ => ⟨S2048x256, .f32⟩
  | .hbm, ⟨18, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Kernel5.lean ====
abbrev S2048x1024 : Shape := ⟨2, ![2048, 1024]⟩
abbrev S2048x3592 : Shape := ⟨2, ![2048, 3592]⟩
abbrev S1024x3592 : Shape := ⟨2, ![1024, 3592]⟩
abbrev S512x512 : Shape := ⟨2, ![512, 512]⟩
abbrev S512x3592 : Shape := ⟨2, ![512, 3592]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x3592, .f32⟩
  | .hbm, ⟨2, _⟩ => ⟨S1024x3592, .bf16⟩
  | .local _ .vmem, ⟨0, _⟩ => ⟨S512x512, .f32⟩
  | .local _ .vmem, ⟨1, _⟩ => ⟨S512x512, .f32⟩
  | .local _ .vmem, ⟨2, _⟩ => ⟨S512x3592, .f32⟩
  | .local _ .vmem, ⟨3, _⟩ => ⟨S512x3592, .f32⟩
  | .local _ .vmem, ⟨4, _⟩ => ⟨S512x3592, .bf16⟩
  | .local _ .vmem, ⟨5, _⟩ => ⟨S512x3592, .bf16⟩
  | .local _ .vmem, ⟨6, _⟩ => ⟨S512x3592, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3592 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3592 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x1024 : Shape := ⟨2, ![2048, 1024]⟩
abbrev S2048x3592 : Shape := ⟨2, ![2048, 3592]⟩
abbrev S_ : Shape := ⟨0, ![]⟩
abbrev S1024x3592 : Shape := ⟨2, ![1024, 3592]⟩
abbrev S3592x1024 : Shape := ⟨2, ![3592, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3592, .f32⟩
  | .hbm, ⟨2, _⟩ => ⟨S_, .bf16⟩
  | .hbm, ⟨3, _⟩ => ⟨S1024x3592, .bf16⟩
  | .hbm, ⟨4, _⟩ => ⟨S2048x3592, .f32⟩
  | .hbm, ⟨5, _⟩ => ⟨S3592x1024, .f32⟩
  | .hbm, ⟨6, _⟩ => ⟨S1024x3592, .f32⟩
  | .hbm, ⟨7, _⟩ => ⟨S1024x3592, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .bf16⟩
  | .hbm, ⟨3, _⟩ => ⟨S1024x1024, .bf16⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S256x2048 : Shape := ⟨2, ![256, 2048]⟩
abbrev S1024x2048 : Shape := ⟨2, ![1024, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S_, .f32⟩
  | .hbm, ⟨3, _⟩ => ⟨S256x1024, .f32⟩
  | .hbm, ⟨4, _⟩ => ⟨S256x2048, .f32⟩
  | .hbm, ⟨5, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x256 : Shape := ⟨2, ![2048, 256]⟩
abbrev S3x256 : Shape := ⟨2, ![3, 256]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩
abbrev S2x128 : Shape := ⟨2, ![2, 128]⟩
abbrev S_ : Shape := ⟨0, ![]⟩

abbrev nBuf : Space → Nat
  | .hbm => 18
  | .vmem => 28
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S3x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S3x256, .f32⟩
  | .hbm, ⟨10, _⟩ => ⟨S_, .f32⟩
  | .hbm, ⟨11, _⟩ => ⟨S2048x256, .f32⟩
  | .hbm, ⟨12, _⟩ => ⟨S_, .f32⟩
  | .hbm, ⟨13, _⟩ => ⟨S2048x256, .f32⟩
  | .hbm, ⟨14, _⟩ => ⟨S_, .f32⟩
  | .hbm, ⟨15, _⟩ => ⟨S2048x256, .f32⟩
  | .hbm, ⟨16, _⟩ => ⟨S_, .f32⟩
  | .hbm, ⟨17, _⟩ => ⟨S3x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S3x128, .f32⟩
  | .local _ .vmem, ⟨7, _⟩ => ⟨S3x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S3x128, .f32⟩
  | .local _ .vmem, ⟨17, _⟩ => ⟨S3x128, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S3x128, .f32⟩
  | .local _ .vmem, ⟨27, _⟩ => ⟨S3x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_5 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_6 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_7 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_8 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S3x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference8Ideal.lean ====
abbrev S2048x256 : Shape := ⟨2, ![2048, 256]⟩
abbrev S3x256 : Shape := ⟨2, ![3, 256]⟩
abbrev S_ : Shape := ⟨0, ![]⟩
abbrev S2x256 : Shape := ⟨2, ![2, 256]⟩
abbrev S2050x256 : Shape := ⟨2, ![2050, 256]⟩
abbrev S1x256 : Shape := ⟨2, ![1, 256]⟩
abbrev S256 : Shape := ⟨1, ![256]⟩

abbrev nBuf : Space → Nat
  | .hbm => 84
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S3x256, .f32⟩
  | .hbm, ⟨4, _⟩ => ⟨S2048x256, .f32⟩
  | .hbm, ⟨5, _⟩ => ⟨S2048x256, .f32⟩
  | .hbm, ⟨6, _⟩ => ⟨S_, .f32⟩
  | .hbm, ⟨7, _⟩ => ⟨S2x256, .f32⟩
  | .hbm, ⟨8, _⟩ => ⟨S2050x256, .f32⟩
  | .hbm, ⟨9, _⟩ => ⟨S_, .f32⟩
  | .hbm, ⟨10, _⟩ => ⟨S2x256, .f32⟩
  | .hbm, ⟨11, _⟩ => ⟨S2048x256, .f32⟩
  | .hbm, ⟨12, _⟩ => ⟨S1x256, .f32⟩
  | .hbm, ⟨13, _⟩ => ⟨S256, .f32⟩
  | .hbm, ⟨14, _⟩ => ⟨S1x256, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048x256, .f32⟩
  | .hbm, ⟨19, _⟩ => ⟨S2048x256, .f32⟩
  | .hbm, ⟨20, _⟩ => ⟨S2048x256, .f32⟩
  | .hbm, ⟨21, _⟩ => ⟨S1x256, .f32⟩
  | .hbm, ⟨22, _⟩ => ⟨S256, .f32⟩
  | .hbm, ⟨23, _⟩ => ⟨S1x256, .f32⟩
  | .hbm, ⟨24, _⟩ => ⟨S2048x256, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S1x256, .f32⟩
  | .hbm, ⟨29, _⟩ => ⟨S256, .f32⟩
  | .hbm, ⟨30, _⟩ => ⟨S1x256, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S2048x256, .f32⟩
  | .hbm, ⟨37, _⟩ => ⟨S2048x256, .f32⟩
  | .hbm, ⟨38, _⟩ => ⟨S_, .f32⟩
  | .hbm, ⟨39, _⟩ => ⟨S256, .f32⟩
  | .hbm, ⟨40, _⟩ => ⟨S1x256, .f32⟩
  | .hbm, ⟨41, _⟩ => ⟨S2048x256, .f32⟩
  | .hbm, ⟨42, _⟩ => ⟨S2048x256, .f32⟩
  | .hbm, ⟨43, _⟩ => ⟨S_, .f32⟩
  | .hbm, ⟨44, _⟩ => ⟨S256, .f32⟩
  | .hbm, ⟨45, _⟩ => ⟨S1x256, .f32⟩
  | .hbm, ⟨46, _⟩ => ⟨S_, .f32⟩
  | .hbm, ⟨47, _⟩ => ⟨S3x256, .f32⟩
  | .hbm, ⟨48, _⟩ => ⟨S_, .f32⟩
  | .hbm, ⟨49, _⟩ => ⟨S2050x256, .f32⟩
  | .hbm, ⟨50, _⟩ => ⟨S2048x256, .f32⟩
  | .hbm, ⟨51, _⟩ => ⟨S_, .f32⟩
  | .hbm, ⟨52, _⟩ => ⟨S256, .f32⟩
  | .hbm, ⟨53, _⟩ => ⟨S1x256, .f32⟩
  | .hbm, ⟨54, _⟩ => ⟨S2048x256, .f32⟩
  | .hbm, ⟨55, _⟩ => ⟨S2048x256, .f32⟩
  | .hbm, ⟨56, _⟩ => ⟨S_, .f32⟩
  | .hbm, ⟨57, _⟩ => ⟨S256, .f32⟩
  | .hbm, ⟨58, _⟩ => ⟨S1x256, .f32⟩
  | .hbm, ⟨59, _⟩ => ⟨S_, .f32⟩
  | .hbm, ⟨60, _⟩ => ⟨S3x256, .f32⟩
  | .hbm, ⟨61, _⟩ => ⟨S3x256, .f32⟩
  | .hbm, ⟨62, _⟩ => ⟨S_, .f32⟩
  | .hbm, ⟨63, _⟩ => ⟨S2050x256, .f32⟩
  | .hbm, ⟨64, _⟩ => ⟨S2050x256, .f32⟩
  | .hbm, ⟨65, _⟩ => ⟨S2048x256, .f32⟩
  | .hbm, ⟨66, _⟩ => ⟨S_, .f32⟩
  | .hbm, ⟨67, _⟩ => ⟨S256, .f32⟩
  | .hbm, ⟨68, _⟩ => ⟨S1x256, .f32⟩
  | .hbm, ⟨69, _⟩ => ⟨S2048x256, .f32⟩
  | .hbm, ⟨70, _⟩ => ⟨S2048x256, .f32⟩
  | .hbm, ⟨71, _⟩ => ⟨S_, .f32⟩
  | .hbm, ⟨72, _⟩ => ⟨S256, .f32⟩
  | .hbm, ⟨73, _⟩ => ⟨S1x256, .f32⟩
  | .hbm, ⟨74, _⟩ => ⟨S_, .f32⟩
  | .hbm, ⟨75, _⟩ => ⟨S3x256, .f32⟩
  | .hbm, ⟨76, _⟩ => ⟨S3x256, .f32⟩
  | .hbm, ⟨77, _⟩ => ⟨S_, .f32⟩
  | .hbm, ⟨78, _⟩ => ⟨S2050x256, .f32⟩
  | .hbm, ⟨79, _⟩ => ⟨S2050x256, .f32⟩
  | .hbm, ⟨80, _⟩ => ⟨S2x256, .f32⟩
  | .hbm, ⟨81, _⟩ => ⟨S2048x256, .f32⟩
  | .hbm, ⟨82, _⟩ => ⟨S2048x256, .f32⟩
  | .hbm, ⟨83, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel9.lean ====
abbrev S2048x256 : Shape := ⟨2, ![2048, 256]⟩
abbrev S512x256 : Shape := ⟨2, ![512, 256]⟩
abbrev S_ : Shape := ⟨0, ![]⟩

abbrev nBuf : Space → Nat
  | .hbm => 26
  | .vmem => 40
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S_, .f32⟩
  | .hbm, ⟨15, _⟩ => ⟨S2048x256, .f32⟩
  | .hbm, ⟨16, _⟩ => ⟨S_, .f32⟩
  | .hbm, ⟨17, _⟩ => ⟨S2048x256, .f32⟩
  | .hbm, ⟨18, _⟩ => ⟨S_, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S_, .f32⟩
  | .hbm, ⟨25, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .f32⟩
  | .local _ .vmem, ⟨35, _⟩ => ⟨S512x256, .f32⟩
  | .local _ .vmem, ⟨36, _⟩ => ⟨S512x256, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_cst_4 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== Reference9Ideal.lean ====
abbrev S2048x256 : Shape := ⟨2, ![2048, 256]⟩
abbrev S1x2048x256 : Shape := ⟨3, ![1, 2048, 256]⟩
abbrev S3x2048x256 : Shape := ⟨3, ![3, 2048, 256]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S1x2048x256, .f32⟩
  | .hbm, ⟨8, _⟩ => ⟨S1x2048x256, .f32⟩
  | .hbm, ⟨9, _⟩ => ⟨S1x2048x256, .f32⟩
  | .hbm, ⟨10, _⟩ => ⟨S3x2048x256, .f32⟩
  | .hbm, ⟨11, _⟩ => ⟨S_, .f32⟩
  | .hbm, ⟨12, _⟩ => ⟨S2048x256, .f32⟩
  | .hbm, ⟨13, _⟩ => ⟨S1x2048x256, .f32⟩
  | .hbm, ⟨14, _⟩ => ⟨S3x2048x256, .f32⟩
  | .hbm, ⟨15, _⟩ => ⟨S3x2048x256, .i1⟩
  | .hbm, ⟨16, _⟩ => ⟨S3x2048x256, .f32⟩
  | .hbm, ⟨17, _⟩ => ⟨S_, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .i1⟩
  | .hbm, ⟨25, _⟩ => ⟨S_, .f32⟩
  | .hbm, ⟨26, _⟩ => ⟨S2048x256, .f32⟩
  | .hbm, ⟨27, _⟩ => ⟨S2048x256, .i1⟩
  | .hbm, ⟨28, _⟩ => ⟨S_, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S_, .f32⟩
  | .hbm, ⟨33, _⟩ => ⟨S2048x256, .f32⟩
  | .hbm, ⟨34, _⟩ => ⟨S2048x256, .f32⟩
  | .hbm, ⟨35, _⟩ => ⟨S2048x256, .f32⟩
  | .hbm, ⟨36, _⟩ => ⟨S1x2048x256, .f32⟩
  | .hbm, ⟨37, _⟩ => ⟨S3x2048x256, .f32⟩
  | .hbm, ⟨38, _⟩ => ⟨S3x2048x256, .f32⟩
  | .hbm, ⟨39, _⟩ => ⟨S3x2048x256, .f32⟩
  | .hbm, ⟨40, _⟩ => ⟨S_, .f32⟩
  | .hbm, ⟨41, _⟩ => ⟨S2048x256, .f32⟩
  | .hbm, ⟨42, _⟩ => ⟨S1x2048x256, .f32⟩
  | .hbm, ⟨43, _⟩ => ⟨S3x2048x256, .f32⟩
  | .hbm, ⟨44, _⟩ => ⟨S3x2048x256, .f32⟩
  | .hbm, ⟨45, _⟩ => ⟨S1x2048x256, .f32⟩
  | .hbm, ⟨46, _⟩ => ⟨S_, .f32⟩
  | .hbm, ⟨47, _⟩ => ⟨S1x2048x256, .f32⟩
  | .hbm, ⟨48, _⟩ => ⟨S1x2048x256, .f32⟩
  | .hbm, ⟨49, _⟩ => ⟨S1x2048x256, .f32⟩
  | .hbm, ⟨50, _⟩ => ⟨S1x2048x256, .f32⟩
  | .hbm, ⟨51, _⟩ => ⟨S1x2048x256, .f32⟩
  | .hbm, ⟨52, _⟩ => ⟨S3x2048x256, .f32⟩
  | .hbm, ⟨53, _⟩ => ⟨S3x2048x256, .f32⟩
  | .hbm, ⟨54, _⟩ => ⟨S_, .f32⟩
  | .hbm, ⟨55, _⟩ => ⟨S2048x256, .f32⟩
  | .hbm, ⟨56, _⟩ => ⟨S3x2048x256, .f32⟩
  | .hbm, ⟨57, _⟩ => ⟨S3x2048x256, .f32⟩
  | .hbm, ⟨58, _⟩ => ⟨S3x2048x256, .f32⟩
  | .hbm, ⟨59, _⟩ => ⟨S1x2048x256, .f32⟩
  | .hbm, ⟨60, _⟩ => ⟨S2048x256, .f32⟩
  | .hbm, ⟨61, _⟩ => ⟨S1x2048x256, .f32⟩
  | .hbm, ⟨62, _⟩ => ⟨S2048x256, .f32⟩
  | .hbm, ⟨63, _⟩ => ⟨S1x2048x256, .f32⟩
  | .hbm, ⟨64, _⟩ => ⟨S2048x256, .f32⟩
  | .hbm, ⟨65, _⟩ => ⟨S3x2048x256, .f32⟩
  | .hbm, ⟨66, _⟩ => ⟨S3x2048x256, .f32⟩
  | .hbm, ⟨67, _⟩ => ⟨S3x2048x256, .f32⟩
  | .hbm, ⟨68, _⟩ => ⟨S_, .f32⟩
  | .hbm, ⟨69, _⟩ => ⟨S2048x256, .f32⟩
  | .hbm, ⟨70, _⟩ => ⟨S1x2048x256, .f32⟩
  | .hbm, ⟨71, _⟩ => ⟨S1x2048x256, .f32⟩
  | .hbm, ⟨72, _⟩ => ⟨S3x2048x256, .f32⟩
  | .hbm, ⟨73, _⟩ => ⟨S3x2048x256, .f32⟩
  | .hbm, ⟨74, _⟩ => ⟨S_, .f32⟩
  | .hbm, ⟨75, _⟩ => ⟨S2048x256, .f32⟩
  | .hbm, ⟨76, _⟩ => ⟨S3x2048x256, .f32⟩
  | .hbm, ⟨77, _⟩ => ⟨S3x2048x256, .f32⟩
  | .hbm, ⟨78, _⟩ => ⟨S3x2048x256, .f32⟩
  | .hbm, ⟨79, _⟩ => ⟨S1x2048x256, .f32⟩
  | .hbm, ⟨80, _⟩ => ⟨S2048x256, .f32⟩
  | .hbm, ⟨81, _⟩ => ⟨S1x2048x256, .f32⟩
  | .hbm, ⟨82, _⟩ => ⟨S2048x256, .f32⟩
  | .hbm, ⟨83, _⟩ => ⟨S1x2048x256, .f32⟩
  | .hbm, ⟨84, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel10.lean ====
abbrev S2048x1536 : Shape := ⟨2, ![2048, 1536]⟩
abbrev S4x1536 : Shape := ⟨2, ![4, 1536]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩
abbrev S2x128 : Shape := ⟨2, ![2, 128]⟩
abbrev S3x128 : Shape := ⟨2, ![3, 128]⟩
abbrev S_ : Shape := ⟨0, ![]⟩

abbrev nBuf : Space → Nat
  | .hbm => 10
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S4x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S4x1536, .f32⟩
  | .hbm, ⟨6, _⟩ => ⟨S_, .f32⟩
  | .hbm, ⟨7, _⟩ => ⟨S2048x1536, .f32⟩
  | .hbm, ⟨8, _⟩ => ⟨S_, .f32⟩
  | .hbm, ⟨9, _⟩ => ⟨S4x1536, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x128, .f32⟩
  | .local _ .vmem, ⟨9, _⟩ => ⟨S4x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S4x128, .f32⟩
  | .local _ .vmem, ⟨15, _⟩ => ⟨S4x128, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_4 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference10Ideal.lean ====
abbrev S2048x1536 : Shape := ⟨2, ![2048, 1536]⟩
abbrev S4x1536 : Shape := ⟨2, ![4, 1536]⟩
abbrev S_ : Shape := ⟨0, ![]⟩
abbrev S3x1536 : Shape := ⟨2, ![3, 1536]⟩
abbrev S2051x1536 : Shape := ⟨2, ![2051, 1536]⟩
abbrev S1x1536 : Shape := ⟨2, ![1, 1536]⟩
abbrev S1536 : Shape := ⟨1, ![1536]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 193
  | .vmem => 0
  | .smem => 0
  | _ => 0

abbrev hbmTy0_0 (i : Nat) : BufTy := match i % 128 with
  | 0 => ⟨S2048x1536, .f32⟩
  | 1 => ⟨S4x1536, .f32⟩
  | 2 => ⟨S2048x1536, .f32⟩
  | 3 => ⟨S_, .f32⟩
  | 4 => ⟨S3x1536, .f32⟩
  | 5 => ⟨S2051x1536, .f32⟩
  | 6 => ⟨S_, .f32⟩
  | 7 => ⟨S3x1536, .f32⟩
  | 8 => ⟨S2048x1536, .f32⟩
  | 9 => ⟨S1x1536, .f32⟩
  | 10 => ⟨S1536, .f32⟩
  | 11 => ⟨S1x1536, .f32⟩
  | 12 => ⟨S2048x1536, .f32⟩
  | 13 => ⟨S2048x1536, .f32⟩
  | 14 => ⟨S_, .f32⟩
  | 15 => ⟨S2048x1536, .f32⟩
  | 16 => ⟨S2048x1536, .f32⟩
  | 17 => ⟨S2048x1536, .f32⟩
  | 18 => ⟨S1x1536, .f32⟩
  | 19 => ⟨S1536, .f32⟩
  | 20 => ⟨S1x1536, .f32⟩
  | 21 => ⟨S2048x1536, .f32⟩
  | 22 => ⟨S2048x1536, .f32⟩
  | 23 => ⟨S2048x1536, .f32⟩
  | 24 => ⟨S2048x1536, .f32⟩
  | 25 => ⟨S1x1536, .f32⟩
  | 26 => ⟨S1536, .f32⟩
  | 27 => ⟨S1x1536, .f32⟩
  | 28 => ⟨S2048x1536, .f32⟩
  | 29 => ⟨S2048x1536, .f32⟩
  | 30 => ⟨S2048x1536, .f32⟩
  | 31 => ⟨S2048x1536, .f32⟩
  | 32 => ⟨S1x1536, .f32⟩
  | 33 => ⟨S1536, .f32⟩
  | 34 => ⟨S1x1536, .f32⟩
  | 35 => ⟨S2048x1536, .f32⟩
  | 36 => ⟨S2048x1536, .f32⟩
  | 37 => ⟨S2048x1536, .f32⟩
  | 38 => ⟨S2048x1536, .f32⟩
  | 39 => ⟨S2048x1536, .f32⟩
  | 40 => ⟨S_, .f32⟩
  | 41 => ⟨S2048x1536, .f32⟩
  | 42 => ⟨S2048x1536, .f32⟩
  | 43 => ⟨S_, .f32⟩
  | 44 => ⟨S2048x1536, .f32⟩
  | 45 => ⟨S2048x1536, .f32⟩
  | 46 => ⟨S_, .f32⟩
  | 47 => ⟨S2048x1536, .f32⟩
  | 48 => ⟨S2048x1536, .f32⟩
  | 49 => ⟨S2048x1536, .f32⟩
  | 50 => ⟨S2048x1536, .f32⟩
  | 51 => ⟨S2048x512, .f32⟩
  | 52 => ⟨S2048x512, .f32⟩
  | 53 => ⟨S2048x512, .f32⟩
  | 54 => ⟨S2048x4x128, .f32⟩
  | 55 => ⟨S2048x4x128, .f32⟩
  | 56 => ⟨S2048x4x128, .f32⟩
  | 57 => ⟨S_, .f32⟩
  | 58 => ⟨S2048x4, .f32⟩
  | 59 => ⟨S2048x4x1, .f32⟩
  | 60 => ⟨S_, .f32⟩
  | 61 => ⟨S2048x4x1, .f32⟩
  | 62 => ⟨S2048x4x1, .f32⟩
  | 63 => ⟨S2048x4x1, .f32⟩
  | 64 => ⟨S2048x4x1, .f32⟩
  | 65 => ⟨S_, .f32⟩
  | 66 => ⟨S2048x4x1, .f32⟩
  | 67 => ⟨S2048x4x1, .f32⟩
  | 68 => ⟨S2048x4x128, .f32⟩
  | 69 => ⟨S2048x4x128, .f32⟩
  | 70 => ⟨S_, .f32⟩
  | 71 => ⟨S2048x4x128, .f32⟩
  | 72 => ⟨S2048x4x128, .f32⟩
  | 73 => ⟨S2048x4x128, .f32⟩
  | 74 => ⟨S_, .f32⟩
  | 75 => ⟨S2048x4, .f32⟩
  | 76 => ⟨S2048x4x1, .f32⟩
  | 77 => ⟨S_, .f32⟩
  | 78 => ⟨S2048x4x1, .f32⟩
  | 79 => ⟨S2048x4x1, .f32⟩
  | 80 => ⟨S2048x4x1, .f32⟩
  | 81 => ⟨S2048x4x1, .f32⟩
  | 82 => ⟨S_, .f32⟩
  | 83 => ⟨S2048x4x1, .f32⟩
  | 84 => ⟨S2048x4x1, .f32⟩
  | 85 => ⟨S2048x4x128, .f32⟩
  | 86 => ⟨S2048x4x128, .f32⟩
  | 87 => ⟨S2048x512, .f32⟩
  | 88 => ⟨S2048x512, .f32⟩
  | 89 => ⟨S2048x1536, .f32⟩
  | 90 => ⟨S2048x512, .f32⟩
  | 91 => ⟨S2048x512, .f32⟩
  | 92 => ⟨S2048x512, .f32⟩
  | 93 => ⟨S2048x4x128, .f32⟩
  | 94 => ⟨S2048x4x128, .f32⟩
  | 95 => ⟨S2048x4x128, .f32⟩
  | 96 => ⟨S_, .f32⟩
  | 97 => ⟨S2048x4, .f32⟩
  | 98 => ⟨S2048x4x1, .f32⟩
  | 99 => ⟨S2048x4x128, .f32⟩
  | 100 => ⟨S2048x4x128, .f32⟩
  | 101 => ⟨S2048x4x1, .f32⟩
  | 102 => ⟨S_, .f32⟩
  | 103 => ⟨S2048x4, .f32⟩
  | 104 => ⟨S2048x4x128, .f32⟩
  | 105 => ⟨S2048x4x128, .f32⟩
  | 106 => ⟨S2048x4x128, .f32⟩
  | 107 => ⟨S2048x4x128, .f32⟩
  | 108 => ⟨S2048x4x128, .f32⟩
  | 109 => ⟨S_, .f32⟩
  | 110 => ⟨S2048x4x128, .f32⟩
  | 111 => ⟨S2048x4x128, .f32⟩
  | 112 => ⟨S2048x4x128, .f32⟩
  | 113 => ⟨S_, .f32⟩
  | 114 => ⟨S2048x4, .f32⟩
  | 115 => ⟨S2048x4x1, .f32⟩
  | 116 => ⟨S2048x4x128, .f32⟩
  | 117 => ⟨S2048x4x128, .f32⟩
  | 118 => ⟨S2048x4x1, .f32⟩
  | 119 => ⟨S_, .f32⟩
  | 120 => ⟨S2048x4, .f32⟩
  | 121 => ⟨S2048x4x128, .f32⟩
  | 122 => ⟨S2048x4x128, .f32⟩
  | 123 => ⟨S2048x4x128, .f32⟩
  | 124 => ⟨S2048x4x128, .f32⟩
  | 125 => ⟨S2048x4x128, .f32⟩
  | 126 => ⟨S2048x512, .f32⟩
  | 127 => ⟨S2048x512, .f32⟩
  | _ => ⟨S2048x1536, .f32⟩

abbrev hbmTy0_1 (i : Nat) : BufTy := match i % 128 with
  | 0 => ⟨S2048x1536, .f32⟩
  | 1 => ⟨S2048x1536, .f32⟩
  | 2 => ⟨S2048x1536, .f32⟩
  | 3 => ⟨S2048x1536, .f32⟩
  | 4 => ⟨S2048x1536, .f32⟩
  | 5 => ⟨S2048x1536, .f32⟩
  | 6 => ⟨S_, .f32⟩
  | 7 => ⟨S1536, .f32⟩
  | 8 => ⟨S1x1536, .f32⟩
  | 9 => ⟨S2048x1536, .f32⟩
  | 10 => ⟨S2048x1536, .f32⟩
  | 11 => ⟨S_, .f32⟩
  | 12 => ⟨S1536, .f32⟩
  | 13 => ⟨S1x1536, .f32⟩
  | 14 => ⟨S_, .f32⟩
  | 15 => ⟨S4x1536, .f32⟩
  | 16 => ⟨S_, .f32⟩
  | 17 => ⟨S2051x1536, .f32⟩
  | 18 => ⟨S2048x1536, .f32⟩
  | 19 => ⟨S_, .f32⟩
  | 20 => ⟨S1536, .f32⟩
  | 21 => ⟨S1x1536, .f32⟩
  | 22 => ⟨S2048x1536, .f32⟩
  | 23 => ⟨S2048x1536, .f32⟩
  | 24 => ⟨S_, .f32⟩
  | 25 => ⟨S1536, .f32⟩
  | 26 => ⟨S1x1536, .f32⟩
  | 27 => ⟨S_, .f32⟩
  | 28 => ⟨S4x1536, .f32⟩
  | 29 => ⟨S4x1536, .f32⟩
  | 30 => ⟨S_, .f32⟩
  | 31 => ⟨S2051x1536, .f32⟩
  | 32 => ⟨S2051x1536, .f32⟩
  | 33 => ⟨S2048x1536, .f32⟩
  | 34 => ⟨S_, .f32⟩
  | 35 => ⟨S1536, .f32⟩
  | 36 => ⟨S1x1536, .f32⟩
  | 37 => ⟨S2048x1536, .f32⟩
  | 38 => ⟨S2048x1536, .f32⟩
  | 39 => ⟨S_, .f32⟩
  | 40 => ⟨S1536, .f32⟩
  | 41 => ⟨S1x1536, .f32⟩
  | 42 => ⟨S_, .f32⟩
  | 43 => ⟨S4x1536, .f32⟩
  | 44 => ⟨S4x1536, .f32⟩
  | 45 => ⟨S_, .f32⟩
  | 46 => ⟨S2051x1536, .f32⟩
  | 47 => ⟨S2051x1536, .f32⟩
  | 48 => ⟨S2048x1536, .f32⟩
  | 49 => ⟨S_, .f32⟩
  | 50 => ⟨S1536, .f32⟩
  | 51 => ⟨S1x1536, .f32⟩
  | 52 => ⟨S2048x1536, .f32⟩
  | 53 => ⟨S2048x1536, .f32⟩
  | 54 => ⟨S_, .f32⟩
  | 55 => ⟨S1536, .f32⟩
  | 56 => ⟨S1x1536, .f32⟩
  | 57 => ⟨S_, .f32⟩
  | 58 => ⟨S4x1536, .f32⟩
  | 59 => ⟨S4x1536, .f32⟩
  | 60 => ⟨S_, .f32⟩
  | 61 => ⟨S2051x1536, .f32⟩
  | 62 => ⟨S2051x1536, .f32⟩
  | 63 => ⟨S3x1536, .f32⟩
  | 64 => ⟨S2048x1536, .f32⟩
  | _ => ⟨S2048x1536, .f32⟩

abbrev hbmTy (i : Nat) : BufTy := match i / 128 with
  | 0 => hbmTy0_0 i
  | 1 => hbmTy0_1 i
  | _ => ⟨S2048x1536, .f32⟩

abbrev bufTy : (tb : Table) → Fin (tcTables nBuf tb) → BufTy
  | .hbm, ⟨i, _⟩ => hbmTy i
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v32_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v32_1 : Ref sig .tc := ⟨.hbm, 49, rfl⟩
abbrev main_v32_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_9 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_10 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_12 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_v99 : Ref sig .tc := ⟨.hbm, 132, rfl⟩
abbrev main_v100 : Ref sig .tc := ⟨.hbm, 133, rfl⟩
abbrev main_cst_14 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_15 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_cst_17 : Ref sig .tc := ⟨.hbm, 144, rfl⟩
abbrev main_v108 : Ref sig .tc := ⟨.hbm, 145, rfl⟩
abbrev main_v109 : Ref sig .tc := ⟨.hbm, 146, rfl⟩
abbrev main_cst_18 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_19 : Ref sig .tc := ⟨.hbm, 152, rfl⟩
abbrev main_v114 : Ref sig .tc := ⟨.hbm, 153, rfl⟩
abbrev main_v115 : Ref sig .tc := ⟨.hbm, 154, rfl⟩
abbrev main_cst_20 : Ref sig .tc := ⟨.hbm, 155, rfl⟩
abbrev main_v116 : Ref sig .tc := ⟨.hbm, 156, rfl⟩
abbrev main_v117 : Ref sig .tc := ⟨.hbm, 157, rfl⟩
abbrev main_cst_21 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_22 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_23 : Ref sig .tc := ⟨.hbm, 167, rfl⟩
abbrev main_v125 : Ref sig .tc := ⟨.hbm, 168, rfl⟩
abbrev main_v126 : Ref sig .tc := ⟨.hbm, 169, rfl⟩
abbrev main_cst_24 : Ref sig .tc := ⟨.hbm, 170, rfl⟩
abbrev main_v127 : Ref sig .tc := ⟨.hbm, 171, rfl⟩
abbrev main_v128 : Ref sig .tc := ⟨.hbm, 172, rfl⟩
abbrev main_cst_25 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_26 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_27 : Ref sig .tc := ⟨.hbm, 182, rfl⟩
abbrev main_v136 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_v139 : Ref sig .tc := ⟨.hbm, 187, rfl⟩
abbrev main_cst_29 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩

abbrev nD : Nat := 1
abbrev τ : Topo := Topo.v7x

variable {F : FTy → Type} [FloatOps F]
-- ==== Kernel11.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 20
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S_, .f32⟩
  | .hbm, ⟨17, _⟩ => ⟨S1x1024, .f32⟩
  | .hbm, ⟨18, _⟩ => ⟨S_, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== Reference11Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1024, .f32⟩
  | .hbm, ⟨90, _⟩ => ⟨S2048x1024, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_cst_16 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel12.lean ====
abbrev S2048x512 : Shape := ⟨2, ![2048, 512]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S128 : Shape := ⟨1, ![128]⟩
abbrev S512x256 : Shape := ⟨2, ![512, 256]⟩
abbrev S_ : Shape := ⟨0, ![]⟩

abbrev nBuf : Space → Nat
  | .hbm => 14
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x128, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S1x128, .f32⟩
  | .hbm, ⟨8, _⟩ => ⟨S_, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S_, .f32⟩
  | .hbm, ⟨13, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference12Ideal.lean ====
abbrev S2048x512 : Shape := ⟨2, ![2048, 512]⟩
abbrev S1x128 : Shape := ⟨2, ![1, 128]⟩
abbrev S_ : Shape := ⟨0, ![]⟩
abbrev S2048x4x128 : Shape := ⟨3, ![2048, 4, 128]⟩
abbrev S128 : Shape := ⟨1, ![128]⟩
abbrev S2048x4 : Shape := ⟨2, ![2048, 4]⟩
abbrev S2048x4x1 : Shape := ⟨3, ![2048, 4, 1]⟩
abbrev S1x1x128 : Shape := ⟨3, ![1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S1x128, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x4x128, .f32⟩
  | .hbm, ⟨18, _⟩ => ⟨S2048x4x128, .f32⟩
  | .hbm, ⟨19, _⟩ => ⟨S128, .f32⟩
  | .hbm, ⟨20, _⟩ => ⟨S2048x4x128, .f32⟩
  | .hbm, ⟨21, _⟩ => ⟨S_, .f32⟩
  | .hbm, ⟨22, _⟩ => ⟨S2048x4, .f32⟩
  | .hbm, ⟨23, _⟩ => ⟨S2048x4x1, .f32⟩
  | .hbm, ⟨24, _⟩ => ⟨S_, .f32⟩
  | .hbm, ⟨25, _⟩ => ⟨S2048x4x1, .f32⟩
  | .hbm, ⟨26, _⟩ => ⟨S2048x4x1, .f32⟩
  | .hbm, ⟨27, _⟩ => ⟨S_, .f32⟩
  | .hbm, ⟨28, _⟩ => ⟨S2048x4x1, .f32⟩
  | .hbm, ⟨29, _⟩ => ⟨S2048x4x1, .f32⟩
  | .hbm, ⟨30, _⟩ => ⟨S2048x4x1, .f32⟩
  | .hbm, ⟨31, _⟩ => ⟨S2048x4x1, .f32⟩
  | .hbm, ⟨32, _⟩ => ⟨S_, .f32⟩
  | .hbm, ⟨33, _⟩ => ⟨S2048x4x1, .f32⟩
  | .hbm, ⟨34, _⟩ => ⟨S2048x4x1, .f32⟩
  | .hbm, ⟨35, _⟩ => ⟨S2048x4x128, .f32⟩
  | .hbm, ⟨36, _⟩ => ⟨S2048x4x128, .f32⟩
  | .hbm, ⟨37, _⟩ => ⟨S1x1x128, .f32⟩
  | .hbm, ⟨38, _⟩ => ⟨S2048x4x128, .f32⟩
  | .hbm, ⟨39, _⟩ => ⟨S2048x4x128, .f32⟩
  | .hbm, ⟨40, _⟩ => ⟨S2048x4x128, .f32⟩
  | .hbm, ⟨41, _⟩ => ⟨S2048x512, .f32⟩
  | .hbm, ⟨42, _⟩ => ⟨S2048x4x128, .f32⟩
  | .hbm, ⟨43, _⟩ => ⟨S2048x4x128, .f32⟩
  | .hbm, ⟨44, _⟩ => ⟨S2048x4x128, .f32⟩
  | .hbm, ⟨45, _⟩ => ⟨S2048x4x128, .f32⟩
  | .hbm, ⟨46, _⟩ => ⟨S_, .f32⟩
  | .hbm, ⟨47, _⟩ => ⟨S128, .f32⟩
  | .hbm, ⟨48, _⟩ => ⟨S1x1x128, .f32⟩
  | .hbm, ⟨49, _⟩ => ⟨S2048x4x128, .f32⟩
  | .hbm, ⟨50, _⟩ => ⟨S2048x4x128, .f32⟩
  | .hbm, ⟨51, _⟩ => ⟨S_, .f32⟩
  | .hbm, ⟨52, _⟩ => ⟨S128, .f32⟩
  | .hbm, ⟨53, _⟩ => ⟨S2048x4x128, .f32⟩
  | .hbm, ⟨54, _⟩ => ⟨S_, .f32⟩
  | .hbm, ⟨55, _⟩ => ⟨S2048x4, .f32⟩
  | .hbm, ⟨56, _⟩ => ⟨S2048x4x1, .f32⟩
  | .hbm, ⟨57, _⟩ => ⟨S2048x4x128, .f32⟩
  | .hbm, ⟨58, _⟩ => ⟨S2048x4x128, .f32⟩
  | .hbm, ⟨59, _⟩ => ⟨S2048x4x1, .f32⟩
  | .hbm, ⟨60, _⟩ => ⟨S_, .f32⟩
  | .hbm, ⟨61, _⟩ => ⟨S2048x4x1, .f32⟩
  | .hbm, ⟨62, _⟩ => ⟨S2048x4x1, .f32⟩
  | .hbm, ⟨63, _⟩ => ⟨S_, .f32⟩
  | .hbm, ⟨64, _⟩ => ⟨S2048x4, .f32⟩
  | .hbm, ⟨65, _⟩ => ⟨S2048x4x128, .f32⟩
  | .hbm, ⟨66, _⟩ => ⟨S2048x4x128, .f32⟩
  | .hbm, ⟨67, _⟩ => ⟨S2048x4x128, .f32⟩
  | .hbm, ⟨68, _⟩ => ⟨S2048x4x128, .f32⟩
  | .hbm, ⟨69, _⟩ => ⟨S2048x4x128, .f32⟩
  | .hbm, ⟨70, _⟩ => ⟨S1x128, .f32⟩
  | .hbm, ⟨71, _⟩ => ⟨S2048x512, .f32⟩
  | .hbm, ⟨72, _⟩ => ⟨S2048x512, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Kernel13.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 24
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S_, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S_, .f32⟩
  | .hbm, ⟨17, _⟩ => ⟨S1x1024, .f32⟩
  | .hbm, ⟨18, _⟩ => ⟨S2048x1024, .f32⟩
  | .hbm, ⟨19, _⟩ => ⟨S1x1024, .f32⟩
  | .hbm, ⟨20, _⟩ => ⟨S_, .f32⟩
  | .hbm, ⟨21, _⟩ => ⟨S2048x1024, .f32⟩
  | .hbm, ⟨22, _⟩ => ⟨S_, .f32⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_cst_2 : Ref sig .tc := ⟨.hbm, 20, rfl⟩
abbrev main_v7 : Ref sig .tc := ⟨.hbm, 21, rfl⟩
abbrev main_cst_3 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]
-- ==== Reference13Ideal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x1024, .f32⟩
  | .hbm, ⟨77, _⟩ => ⟨S2048x1024, .f32⟩
  | .hbm, ⟨78, _⟩ => ⟨S_, .f32⟩
  | .hbm, ⟨79, _⟩ => ⟨S1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1024, .f32⟩
  | .hbm, ⟨90, _⟩ => ⟨S2048x1024, .f32⟩
  | .hbm, ⟨91, _⟩ => ⟨S2048x1, .f32⟩
  | .hbm, ⟨92, _⟩ => ⟨S_, .f32⟩
  | .hbm, ⟨93, _⟩ => ⟨S2048x1, .f32⟩
  | .hbm, ⟨94, _⟩ => ⟨S2048x1, .f32⟩
  | .hbm, ⟨95, _⟩ => ⟨S_, .f32⟩
  | .hbm, ⟨96, _⟩ => ⟨S2048, .f32⟩
  | .hbm, ⟨97, _⟩ => ⟨S2048x1024, .f32⟩
  | .hbm, ⟨98, _⟩ => ⟨S2048x1024, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_13 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_cst_16 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Kernel14.lean ====
abbrev S2048 : Shape := ⟨1, ![2048]⟩
abbrev S2048x256 : Shape := ⟨2, ![2048, 256]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S512x256 : Shape := ⟨2, ![512, 256]⟩

abbrev nBuf : Space → Nat
  | .hbm => 46
  | .vmem => 18
  | .smem => 0
  | _ => 0

abbrev bufTy : (tb : Table) → Fin (tcTables nBuf tb) → BufTy
  | .hbm, ⟨0, _⟩ => ⟨S2048, .i32⟩
  | .hbm, ⟨1, _⟩ => ⟨S2048x256, .f32⟩
  | .hbm, ⟨2, _⟩ => ⟨S2048x256, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2048, .f32⟩
  | .hbm, ⟨18, _⟩ => ⟨S2048x1, .f32⟩
  | .hbm, ⟨19, _⟩ => ⟨S1x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x8, .f32⟩
  | .hbm, ⟨25, _⟩ => ⟨S_, .f32⟩
  | .hbm, ⟨26, _⟩ => ⟨S2048x48, .f32⟩
  | .hbm, ⟨27, _⟩ => ⟨S2048x64, .f32⟩
  | .hbm, ⟨28, _⟩ => ⟨S2048x8, .f32⟩
  | .hbm, ⟨29, _⟩ => ⟨S_, .f32⟩
  | .hbm, ⟨30, _⟩ => ⟨S2048x48, .f32⟩
  | .hbm, ⟨31, _⟩ => ⟨S2048x64, .f32⟩
  | .hbm, ⟨32, _⟩ => ⟨S1x2048x1x64, .f32⟩
  | .hbm, ⟨33, _⟩ => ⟨S1x2048x4x64, .f32⟩
  | .hbm, ⟨34, _⟩ => ⟨S2048x256, .f32⟩
  | .hbm, ⟨35, _⟩ => ⟨S1x2048x1x64, .f32⟩
  | .hbm, ⟨36, _⟩ => ⟨S1x2048x4x64, .f32⟩
  | .hbm, ⟨37, _⟩ => ⟨S2048x256, .f32⟩
  | .hbm, ⟨38, _⟩ => ⟨S2048x256, .f32⟩
  | .hbm, ⟨39, _⟩ => ⟨S2048x256, .f32⟩
  | .hbm, ⟨40, _⟩ => ⟨S_, .f32⟩
  | .hbm, ⟨41, _⟩ => ⟨S2048x256, .f32⟩
  | .hbm, ⟨42, _⟩ => ⟨S_, .f32⟩
  | .hbm, ⟨43, _⟩ => ⟨S2048x256, .f32⟩
  | .hbm, ⟨44, _⟩ => ⟨S_, .f32⟩
  | .hbm, ⟨45, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference14Ideal.lean ====
abbrev S2048 : Shape := ⟨1, ![2048]⟩
abbrev S2048x256 : Shape := ⟨2, ![2048, 256]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S2048x4x64 : Shape := ⟨3, ![2048, 4, 64]⟩
abbrev S2048x4x8 : Shape := ⟨3, ![2048, 4, 8]⟩
abbrev S2048x4x16 : Shape := ⟨3, ![2048, 4, 16]⟩
abbrev S2048x4x48 : Shape := ⟨3, ![2048, 4, 48]⟩

abbrev nBuf : Space → Nat
  | .hbm => 75
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x256, .f32⟩
  | .hbm, ⟨2, _⟩ => ⟨S2048x256, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S2048, .f32⟩
  | .hbm, ⟨18, _⟩ => ⟨S2048x1, .f32⟩
  | .hbm, ⟨19, _⟩ => ⟨S1x8, .f32⟩
  | .hbm, ⟨20, _⟩ => ⟨S2048x8, .f32⟩
  | .hbm, ⟨21, _⟩ => ⟨S2048x8, .f32⟩
  | .hbm, ⟨22, _⟩ => ⟨S2048x8, .f32⟩
  | .hbm, ⟨23, _⟩ => ⟨S2048x8, .f32⟩
  | .hbm, ⟨24, _⟩ => ⟨S2048x1x8, .f32⟩
  | .hbm, ⟨25, _⟩ => ⟨S2048x8, .f32⟩
  | .hbm, ⟨26, _⟩ => ⟨S2048x1x8, .f32⟩
  | .hbm, ⟨27, _⟩ => ⟨S2048x4x64, .f32⟩
  | .hbm, ⟨28, _⟩ => ⟨S2048x4x8, .f32⟩
  | .hbm, ⟨29, _⟩ => ⟨S2048x4x8, .f32⟩
  | .hbm, ⟨30, _⟩ => ⟨S2048x4x8, .f32⟩
  | .hbm, ⟨31, _⟩ => ⟨S2048x4x8, .f32⟩
  | .hbm, ⟨32, _⟩ => ⟨S2048x4x8, .f32⟩
  | .hbm, ⟨33, _⟩ => ⟨S2048x4x8, .f32⟩
  | .hbm, ⟨34, _⟩ => ⟨S2048x4x8, .f32⟩
  | .hbm, ⟨35, _⟩ => ⟨S2048x4x8, .f32⟩
  | .hbm, ⟨36, _⟩ => ⟨S2048x4x8, .f32⟩
  | .hbm, ⟨37, _⟩ => ⟨S2048x4x8, .f32⟩
  | .hbm, ⟨38, _⟩ => ⟨S2048x4x8, .f32⟩
  | .hbm, ⟨39, _⟩ => ⟨S2048x4x8, .f32⟩
  | .hbm, ⟨40, _⟩ => ⟨S2048x4x16, .f32⟩
  | .hbm, ⟨41, _⟩ => ⟨S2048x4x48, .f32⟩
  | .hbm, ⟨42, _⟩ => ⟨S2048x4x64, .f32⟩
  | .hbm, ⟨43, _⟩ => ⟨S_, .f32⟩
  | .hbm, ⟨44, _⟩ => ⟨S2048x4x64, .f32⟩
  | .hbm, ⟨45, _⟩ => ⟨S2048x4x64, .f32⟩
  | .hbm, ⟨46, _⟩ => ⟨S2048x256, .f32⟩
  | .hbm, ⟨47, _⟩ => ⟨S2048x4x64, .f32⟩
  | .hbm, ⟨48, _⟩ => ⟨S_, .f32⟩
  | .hbm, ⟨49, _⟩ => ⟨S2048x4x64, .f32⟩
  | .hbm, ⟨50, _⟩ => ⟨S2048x4x64, .f32⟩
  | .hbm, ⟨51, _⟩ => ⟨S2048x4x16, .f32⟩
  | .hbm, ⟨52, _⟩ => ⟨S2048x4x48, .f32⟩
  | .hbm, ⟨53, _⟩ => ⟨S_, .f32⟩
  | .hbm, ⟨54, _⟩ => ⟨S2048x4x64, .f32⟩
  | .hbm, ⟨55, _⟩ => ⟨S2048x4x8, .f32⟩
  | .hbm, ⟨56, _⟩ => ⟨S2048x4x8, .f32⟩
  | .hbm, ⟨57, _⟩ => ⟨S2048x4x8, .f32⟩
  | .hbm, ⟨58, _⟩ => ⟨S2048x4x8, .f32⟩
  | .hbm, ⟨59, _⟩ => ⟨S2048x4x8, .f32⟩
  | .hbm, ⟨60, _⟩ => ⟨S2048x4x8, .f32⟩
  | .hbm, ⟨61, _⟩ => ⟨S2048x4x8, .f32⟩
  | .hbm, ⟨62, _⟩ => ⟨S2048x4x8, .f32⟩
  | .hbm, ⟨63, _⟩ => ⟨S2048x4x8, .f32⟩
  | .hbm, ⟨64, _⟩ => ⟨S2048x4x8, .f32⟩
  | .hbm, ⟨65, _⟩ => ⟨S2048x4x8, .f32⟩
  | .hbm, ⟨66, _⟩ => ⟨S2048x4x8, .f32⟩
  | .hbm, ⟨67, _⟩ => ⟨S2048x4x8, .f32⟩
  | .hbm, ⟨68, _⟩ => ⟨S_, .f32⟩
  | .hbm, ⟨69, _⟩ => ⟨S2048x4x64, .f32⟩
  | .hbm, ⟨70, _⟩ => ⟨S2048x4x64, .f32⟩
  | .hbm, ⟨71, _⟩ => ⟨S_, .f32⟩
  | .hbm, ⟨72, _⟩ => ⟨S2048x4x64, .f32⟩
  | .hbm, ⟨73, _⟩ => ⟨S2048x4x64, .f32⟩
  | .hbm, ⟨74, _⟩ => ⟨S2048x256, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_6 : Ref sig .tc := ⟨.hbm, 68, rfl⟩
abbrev main_v58 : Ref sig .tc := ⟨.hbm, 69, rfl⟩
abbrev main_v59 : Ref sig .tc := ⟨.hbm, 70, rfl⟩
abbrev main_cst_7 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩

abbrev nD : Nat := 1
abbrev τ : Topo := Topo.v7x

variable {F : FTy → Type} [FloatOps F]
-- ==== Kernel15.lean ====
abbrev S2048x1024 : Shape := ⟨2, ![2048, 1024]⟩
abbrev S32x128 : Shape := ⟨2, ![32, 128]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩
abbrev S1x8x128 : Shape := ⟨3, ![1, 8, 128]⟩
abbrev S1x1x1 : Shape := ⟨3, ![1, 1, 1]⟩

abbrev nBuf : Space → Nat
  | .hbm => 13
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S32x128, .f32⟩
  | .hbm, ⟨3, _⟩ => ⟨S_, .f32⟩
  | .hbm, ⟨4, _⟩ => ⟨S_, .f32⟩
  | .hbm, ⟨5, _⟩ => ⟨S1, .f32⟩
  | .hbm, ⟨6, _⟩ => ⟨S_, .f32⟩
  | .hbm, ⟨7, _⟩ => ⟨S32x128, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S_, .f32⟩
  | .hbm, ⟨12, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S8x128, .f32⟩
  | .local _ .vmem, ⟨12, _⟩ => ⟨S512x1024, .f32⟩
  | .local _ .vmem, ⟨13, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference15Ideal.lean ====
abbrev S2048x1024 : Shape := ⟨2, ![2048, 1024]⟩
abbrev S_ : Shape := ⟨0, ![]⟩
abbrev S2048 : Shape := ⟨1, ![2048]⟩
abbrev S1 : Shape := ⟨1, ![1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel16.lean ====
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference16Ideal.lean ====
abbrev S4x128x1024 : Shape := ⟨3, ![4, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2048x128 : Shape := ⟨2, ![2048, 128]⟩
abbrev S8x128 : Shape := ⟨2, ![8, 128]⟩
abbrev S512x128 : Shape := ⟨2, ![512, 128]⟩
abbrev S1x128 : Shape := ⟨2, ![1, 128]⟩
abbrev S128 : Shape := ⟨1, ![128]⟩
abbrev S2x128 : Shape := ⟨2, ![2, 128]⟩
abbrev S6x128 : Shape := ⟨2, ![6, 128]⟩
abbrev S7x128 : Shape := ⟨2, ![7, 128]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S2048x128, .f32⟩
  | .hbm, ⟨1, _⟩ => ⟨S8x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8x128, .f32⟩
  | .hbm, ⟨6, _⟩ => ⟨S_, .f32⟩
  | .hbm, ⟨7, _⟩ => ⟨S2048x128, .f32⟩
  | .hbm, ⟨8, _⟩ => ⟨S_, .f32⟩
  | .hbm, ⟨9, _⟩ => ⟨S8x128, .f32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S8x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]
-- ==== Reference17Ideal.lean ====
abbrev S2048x128 : Shape := ⟨2, ![2048, 128]⟩
abbrev S8x128 : Shape := ⟨2, ![8, 128]⟩
abbrev S2048x4 : Shape := ⟨2, ![2048, 4]⟩
abbrev S1x4 : Shape := ⟨2, ![1, 4]⟩
abbrev S4 : Shape := ⟨1, ![4]⟩
abbrev S_ : Shape := ⟨0, ![]⟩
abbrev S2048x120 : Shape := ⟨2, ![2048, 120]⟩

abbrev nBuf : Space → Nat
  | .hbm => 112
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S8x128, .f32⟩
  | .hbm, ⟨2, _⟩ => ⟨S2048x128, .f32⟩
  | .hbm, ⟨3, _⟩ => ⟨S2048x4, .f32⟩
  | .hbm, ⟨4, _⟩ => ⟨S2048x4, .f32⟩
  | .hbm, ⟨5, _⟩ => ⟨S1x4, .f32⟩
  | .hbm, ⟨6, _⟩ => ⟨S4, .f32⟩
  | .hbm, ⟨7, _⟩ => ⟨S1x4, .f32⟩
  | .hbm, ⟨8, _⟩ => ⟨S4, .f32⟩
  | .hbm, ⟨9, _⟩ => ⟨S2048x4, .f32⟩
  | .hbm, ⟨10, _⟩ => ⟨S2048x4, .f32⟩
  | .hbm, ⟨11, _⟩ => ⟨S_, .f32⟩
  | .hbm, ⟨12, _⟩ => ⟨S2048x4, .f32⟩
  | .hbm, ⟨13, _⟩ => ⟨S2048x4, .f32⟩
  | .hbm, ⟨14, _⟩ => ⟨S_, .f32⟩
  | .hbm, ⟨15, _⟩ => ⟨S2048x4, .f32⟩
  | .hbm, ⟨16, _⟩ => ⟨S2048x4, .f32⟩
  | .hbm, ⟨17, _⟩ => ⟨S_, .f32⟩
  | .hbm, ⟨18, _⟩ => ⟨S2048x4, .f32⟩
  | .hbm, ⟨19, _⟩ => ⟨S2048x4, .f32⟩
  | .hbm, ⟨20, _⟩ => ⟨S2048x4, .f32⟩
  | .hbm, ⟨21, _⟩ => ⟨S4, .f32⟩
  | .hbm, ⟨22, _⟩ => ⟨S4, .f32⟩
  | .hbm, ⟨23, _⟩ => ⟨S1x4, .f32⟩
  | .hbm, ⟨24, _⟩ => ⟨S2048x4, .f32⟩
  | .hbm, ⟨25, _⟩ => ⟨S2048x4, .f32⟩
  | .hbm, ⟨26, _⟩ => ⟨S_, .f32⟩
  | .hbm, ⟨27, _⟩ => ⟨S2048x4, .f32⟩
  | .hbm, ⟨28, _⟩ => ⟨S2048x4, .f32⟩
  | .hbm, ⟨29, _⟩ => ⟨S2048x4, .f32⟩
  | .hbm, ⟨30, _⟩ => ⟨S2048x4, .f32⟩
  | .hbm, ⟨31, _⟩ => ⟨S2048x4, .i1⟩
  | .hbm, ⟨32, _⟩ => ⟨S2048x4, .f32⟩
  | .hbm, ⟨33, _⟩ => ⟨S2048x4, .f32⟩
  | .hbm, ⟨34, _⟩ => ⟨S2048x4, .f32⟩
  | .hbm, ⟨35, _⟩ => ⟨S2048x4, .f32⟩
  | .hbm, ⟨36, _⟩ => ⟨S2048x4, .f32⟩
  | .hbm, ⟨37, _⟩ => ⟨S2048x4, .f32⟩
  | .hbm, ⟨38, _⟩ => ⟨S2048x4, .f32⟩
  | .hbm, ⟨39, _⟩ => ⟨S2048x4, .f32⟩
  | .hbm, ⟨40, _⟩ => ⟨S_, .f32⟩
  | .hbm, ⟨41, _⟩ => ⟨S2048x4, .f32⟩
  | .hbm, ⟨42, _⟩ => ⟨S2048x4, .i1⟩
  | .hbm, ⟨43, _⟩ => ⟨S_, .f32⟩
  | .hbm, ⟨44, _⟩ => ⟨S2048x4, .f32⟩
  | .hbm, ⟨45, _⟩ => ⟨S2048x4, .f32⟩
  | .hbm, ⟨46, _⟩ => ⟨S_, .f32⟩
  | .hbm, ⟨47, _⟩ => ⟨S2048x4, .f32⟩
  | .hbm, ⟨48, _⟩ => ⟨S2048x4, .i1⟩
  | .hbm, ⟨49, _⟩ => ⟨S_, .f32⟩
  | .hbm, ⟨50, _⟩ => ⟨S2048x4, .f32⟩
  | .hbm, ⟨51, _⟩ => ⟨S2048x4, .f32⟩
  | .hbm, ⟨52, _⟩ => ⟨S2048x4, .f32⟩
  | .hbm, ⟨53, _⟩ => ⟨S2048x4, .f32⟩
  | .hbm, ⟨54, _⟩ => ⟨S_, .f32⟩
  | .hbm, ⟨55, _⟩ => ⟨S_, .f32⟩
  | .hbm, ⟨56, _⟩ => ⟨S_, .i1⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2048x4, .f32⟩
  | .hbm, ⟨62, _⟩ => ⟨S2048x4, .i1⟩
  | .hbm, ⟨63, _⟩ => ⟨S_, .f32⟩
  | .hbm, ⟨64, _⟩ => ⟨S2048x4, .f32⟩
  | .hbm, ⟨65, _⟩ => ⟨S2048x4, .f32⟩
  | .hbm, ⟨66, _⟩ => ⟨S2048x4, .f32⟩
  | .hbm, ⟨67, _⟩ => ⟨S2048x4, .f32⟩
  | .hbm, ⟨68, _⟩ => ⟨S2048x4, .f32⟩
  | .hbm, ⟨69, _⟩ => ⟨S_, .f32⟩
  | .hbm, ⟨70, _⟩ => ⟨S2048x4, .f32⟩
  | .hbm, ⟨71, _⟩ => ⟨S2048x4, .f32⟩
  | .hbm, ⟨72, _⟩ => ⟨S1x4, .f32⟩
  | .hbm, ⟨73, _⟩ => ⟨S2048x4, .f32⟩
  | .hbm, ⟨74, _⟩ => ⟨S2048x4, .f32⟩
  | .hbm, ⟨75, _⟩ => ⟨S_, .f32⟩
  | .hbm, ⟨76, _⟩ => ⟨S2048x120, .f32⟩
  | .hbm, ⟨77, _⟩ => ⟨S2048x128, .f32⟩
  | .hbm, ⟨78, _⟩ => ⟨S_, .f32⟩
  | .hbm, ⟨79, _⟩ => ⟨S2048x120, .f32⟩
  | .hbm, ⟨80, _⟩ => ⟨S2048x4, .f32⟩
  | .hbm, ⟨81, _⟩ => ⟨S2048x4, .f32⟩
  | .hbm, ⟨82, _⟩ => ⟨S2048x120, .f32⟩
  | .hbm, ⟨83, _⟩ => ⟨S2048x4, .f32⟩
  | .hbm, ⟨84, _⟩ => ⟨S2048x4, .f32⟩
  | .hbm, ⟨85, _⟩ => ⟨S2048x4, .f32⟩
  | .hbm, ⟨86, _⟩ => ⟨S_, .f32⟩
  | .hbm, ⟨87, _⟩ => ⟨S4, .f32⟩
  | .hbm, ⟨88, _⟩ => ⟨S1x4, .f32⟩
  | .hbm, ⟨89, _⟩ => ⟨S_, .f32⟩
  | .hbm, ⟨90, _⟩ => ⟨S4, .f32⟩
  | .hbm, ⟨91, _⟩ => ⟨S2048x4, .f32⟩
  | .hbm, ⟨92, _⟩ => ⟨S_, .f32⟩
  | .hbm, ⟨93, _⟩ => ⟨S4, .f32⟩
  | .hbm, ⟨94, _⟩ => ⟨S1x4, .f32⟩
  | .hbm, ⟨95, _⟩ => ⟨S_, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S2048x4, .f32⟩
  | .hbm, ⟨100, _⟩ => ⟨S1x4, .f32⟩
  | .hbm, ⟨101, _⟩ => ⟨S_, .f32⟩
  | .hbm, ⟨102, _⟩ => ⟨S8x128, .f32⟩
  | .hbm, ⟨103, _⟩ => ⟨S1x4, .f32⟩
  | .hbm, ⟨104, _⟩ => ⟨S_, .f32⟩
  | .hbm, ⟨105, _⟩ => ⟨S8x128, .f32⟩
  | .hbm, ⟨106, _⟩ => ⟨S8x128, .f32⟩
  | .hbm, ⟨107, _⟩ => ⟨S_, .f32⟩
  | .hbm, ⟨108, _⟩ => ⟨S2048x128, .f32⟩
  | .hbm, ⟨109, _⟩ => ⟨S_, .f32⟩
  | .hbm, ⟨110, _⟩ => ⟨S2048x128, .f32⟩
  | .hbm, ⟨111, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_v20_0 : Ref sig .tc := ⟨.hbm, 39, rfl⟩
abbrev main_call0_cst_0 : Ref sig .tc := ⟨.hbm, 40, rfl⟩
abbrev main_call0_v13 : Ref sig .tc := ⟨.hbm, 41, rfl⟩
abbrev main_call0_v14 : Ref sig .tc := ⟨.hbm, 42, rfl⟩
abbrev main_call0_cst_1 : Ref sig .tc := ⟨.hbm, 43, rfl⟩
abbrev main_call0_v15 : Ref sig .tc := ⟨.hbm, 44, rfl⟩
abbrev main_call0_v16 : Ref sig .tc := ⟨.hbm, 45, rfl⟩
abbrev main_call0_cst_2 : Ref sig .tc := ⟨.hbm, 46, rfl⟩
abbrev main_call0_v17 : Ref sig .tc := ⟨.hbm, 47, rfl⟩
abbrev main_call0_v18 : Ref sig .tc := ⟨.hbm, 48, rfl⟩
abbrev main_call0_cst_3 : Ref sig .tc := ⟨.hbm, 49, rfl⟩
abbrev main_call0_v19 : Ref sig .tc := ⟨.hbm, 50, rfl⟩
abbrev main_call0_v20 : Ref sig .tc := ⟨.hbm, 51, rfl⟩
abbrev main_call0_v21 : Ref sig .tc := ⟨.hbm, 52, rfl⟩
abbrev main_v20_1 : Ref sig .tc := ⟨.hbm, 53, rfl⟩
abbrev main_call0_cst_4 : Ref sig .tc := ⟨.hbm, 54, rfl⟩
abbrev main_call0_cst_5 : Ref sig .tc := ⟨.hbm, 55, rfl⟩
abbrev main_call0_v23 : Ref sig .tc := ⟨.hbm, 56, rfl⟩
abbrev main_call0_cst_6 : Ref sig .tc := ⟨.hbm, 57, rfl⟩
abbrev main_call0_cst_7 : Ref sig .tc := ⟨.hbm, 58, rfl⟩
abbrev main_call0_v24 : Ref sig .tc := ⟨.hbm, 59, rfl⟩
abbrev main_call0_cst_8 : Ref sig .tc := ⟨.hbm, 60, rfl⟩
abbrev main_call0_v25 : Ref sig .tc := ⟨.hbm, 61, rfl⟩
abbrev main_call0_v26 : Ref sig .tc := ⟨.hbm, 62, rfl⟩
abbrev main_call0_cst_9 : Ref sig .tc := ⟨.hbm, 63, rfl⟩
abbrev main_call0_v27 : Ref sig .tc := ⟨.hbm, 64, rfl⟩
abbrev main_call0_v28 : Ref sig .tc := ⟨.hbm, 65, rfl⟩
abbrev main_call0_v29 : Ref sig .tc := ⟨.hbm, 66, rfl⟩
abbrev main_call0_v30 : Ref sig .tc := ⟨.hbm, 67, rfl⟩
abbrev main_call0_v31 : Ref sig .tc := ⟨.hbm, 68, rfl⟩
abbrev main_call0_cst_10 : Ref sig .tc := ⟨.hbm, 69, rfl⟩
abbrev main_call0_v32 : Ref sig .tc := ⟨.hbm, 70, rfl⟩
abbrev main_v20_2 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_2 : Ref sig .tc := ⟨.hbm, 75, rfl⟩
abbrev main_v24 : Ref sig .tc := ⟨.hbm, 76, rfl⟩
abbrev main_v25 : Ref sig .tc := ⟨.hbm, 77, rfl⟩
abbrev main_cst_3 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_cst_4 : Ref sig .tc := ⟨.hbm, 86, rfl⟩
abbrev main_v33 : Ref sig .tc := ⟨.hbm, 87, rfl⟩
abbrev main_v34 : Ref sig .tc := ⟨.hbm, 88, rfl⟩
abbrev main_cst_5 : Ref sig .tc := ⟨.hbm, 89, rfl⟩
abbrev main_v35 : Ref sig .tc := ⟨.hbm, 90, rfl⟩
abbrev main_v36 : Ref sig .tc := ⟨.hbm, 91, rfl⟩
abbrev main_cst_6 : Ref sig .tc := ⟨.hbm, 92, rfl⟩
abbrev main_v37 : Ref sig .tc := ⟨.hbm, 93, rfl⟩
abbrev main_v38 : Ref sig .tc := ⟨.hbm, 94, rfl⟩
abbrev main_cst_7 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_8 : Ref sig .tc := ⟨.hbm, 101, rfl⟩
abbrev main_v44 : Ref sig .tc := ⟨.hbm, 102, rfl⟩
abbrev main_v45 : Ref sig .tc := ⟨.hbm, 103, rfl⟩
abbrev main_cst_9 : Ref sig .tc := ⟨.hbm, 104, rfl⟩
abbrev main_v46 : Ref sig .tc := ⟨.hbm, 105, rfl⟩
abbrev main_v47 : Ref sig .tc := ⟨.hbm, 106, rfl⟩
abbrev main_cst_10 : Ref sig .tc := ⟨.hbm, 107, rfl⟩
abbrev main_v48 : Ref sig .tc := ⟨.hbm, 108, rfl⟩
abbrev main_cst_11 : Ref sig .tc := ⟨.hbm, 109, rfl⟩
abbrev main_v49 : Ref sig .tc := ⟨.hbm, 110, rfl⟩
abbrev main_v50 : Ref sig .tc := ⟨.hbm, 111, rfl⟩

abbrev nD : Nat := 1
abbrev τ : Topo := Topo.v7x

variable {F : FTy → Type} [FloatOps F]
-- ==== Proof.Softmax.lean ====
/- Hand-written, untrusted. The gradient of a masked softmax with its log-sum-exp, over the extended reals: rows `I`, keys `J`,
   scores `s`, a mask `mk`, the cotangent `w` of the weights and the cotangent `e` of each row's log-sum-exp. `grad` is the
   gradient of the scores with the row maximum held constant (what the kernel computes); `gradMax` also carries the cotangent
   that reaches the scores through the row maximum (what differentiating the plain forward gives). On finite scores and
   cotangents that extra cotangent is zero, so the two agree (`gradMax_eq`), and both depend on the scores and on `w` only
   where the mask is true (`grad_congr`). -/
module

public import Idealize.ShloMosaic.Lib.Pointwise
public import Idealize.ShloMosaic.Lib.IdealHost

@[expose] public section

noncomputable section

namespace Cert.Proof.Softmax

open Idealize.ShloMosaic

variable {I J : Type} [Fintype I] [Fintype J]

/-- A finite sum of reals, read as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- An extended real whose absolute value is below `⊤` is a real. -/
theorem exists_real {x : EReal} (h : x ≠ ⊤ ∧ x ≠ ⊥) : ∃ r : ℝ, x = r := ⟨x.toReal, (EReal.coe_toReal h.1 h.2).symm⟩

/-- Every entry is a real. -/
def Fin2 {A B : Type} (x : A → B → EReal) : Prop := ∀ a b, x a b ≠ ⊤ ∧ x a b ≠ ⊥

theorem Fin2.lift {A B : Type} {x : A → B → EReal} (h : Fin2 x) : ∃ r : A → B → ℝ, x = fun a b => (r a b : EReal) :=
  ⟨fun a b => (x a b).toReal, funext fun a => funext fun b => (EReal.coe_toReal (h a b).1 (h a b).2).symm⟩

theorem lift1 {A : Type} {x : A → EReal} (h : ∀ a, x a ≠ ⊤ ∧ x a ≠ ⊥) : ∃ r : A → ℝ, x = fun a => (r a : EReal) :=
  ⟨fun a => (x a).toReal, funext fun a => (EReal.coe_toReal (h a).1 (h a).2).symm⟩

theorem coe_fin (r : ℝ) : (r : EReal) ≠ ⊤ ∧ (r : EReal) ≠ ⊥ := ⟨EReal.coe_ne_top r, EReal.coe_ne_bot r⟩

/-- A dot product of reals is a real. -/
theorem dot_fin {ι : Type} [Fintype ι] {x y : ι → EReal} (hx : ∀ c, x c ≠ ⊤ ∧ x c ≠ ⊥) (hy : ∀ c, y c ≠ ⊤ ∧ y c ≠ ⊥) :
    (∑ c, x c * y c) ≠ ⊤ ∧ (∑ c, x c * y c) ≠ ⊥ := by
  obtain ⟨a, rfl⟩ := lift1 hx
  obtain ⟨b, rfl⟩ := lift1 hy
  have : (∑ c, ((a c : EReal) * (b c : EReal))) = ((∑ c, a c * b c : ℝ) : EReal) := by
    rw [coe_sum]; exact Finset.sum_congr rfl fun c _ => (EReal.coe_mul _ _).symm
  rw [this]; exact coe_fin _

theorem sum_fin {ι : Type} [Fintype ι] {x : ι → EReal} (hx : ∀ c, x c ≠ ⊤ ∧ x c ≠ ⊥) :
    (∑ c, x c) ≠ ⊤ ∧ (∑ c, x c) ≠ ⊥ := by
  obtain ⟨a, rfl⟩ := lift1 hx
  rw [← coe_sum]; exact coe_fin _

theorem div_real (a : ℝ) {b : ℝ} (h : b ≠ 0) : Ideal.div (a : EReal) (b : EReal) = ((a / b : ℝ) : EReal) := by
  rw [Ideal.div_coe h, ← EReal.coe_mul]; congr 1; ring

variable (mk : I → J → Prop) [∀ i j, Decidable (mk i j)]

/-- The masked scores. -/
def sc (s : I → J → EReal) (i : I) (j : J) : EReal := if mk i j then s i j else ⊥
/-- A row's maximum. -/
def mx (s : I → J → EReal) (i : I) : EReal := Finset.univ.fold max ⊥ (sc mk s i)
/-- The exponentials. -/
def p (s : I → J → EReal) (i : I) (j : J) : EReal := Ideal.exp (sc mk s i j - mx mk s i)
/-- A row's sum of exponentials. -/
def l (s : I → J → EReal) (i : I) : EReal := ∑ j, p mk s i j
/-- The cotangent of the exponentials' argument before the mask. -/
def inner (s w : I → J → EReal) (e : I → EReal) (i : I) (j : J) : EReal :=
  (Ideal.div (w i j) (l mk s i) + (Ideal.div (e i) (l mk s i)
    + (0 - ∑ j', w i j' * Ideal.div 1 (l mk s i * l mk s i) * p mk s i j'))) * p mk s i j
/-- The gradient of the scores, the row maximum held constant. -/
def grad (s w : I → J → EReal) (e : I → EReal) (i : I) (j : J) : EReal :=
  if mk i j then inner mk s w e i j else 0
/-- One where the score is the row's maximum, else zero. -/
def atMax (s : I → J → EReal) (i : I) (j : J) : EReal := if sc mk s i j = mx mk s i then 1 else 0
/-- The gradient of the scores, with the cotangent of the row maximum shared among the places that attain it. -/
def gradMax (s w : I → J → EReal) (e : I → EReal) (i : I) (j : J) : EReal :=
  if mk i j then inner mk s w e i j
    + Ideal.div (e i + ∑ j', -inner mk s w e i j') (∑ j', atMax mk s i j') * atMax mk s i j else 0

/-- On finite scores a row with a true mask entry has a real maximum, attained. -/
theorem mx_real (S : I → J → ℝ) (i : I) (h : ∃ j, mk i j) :
    ∃ M : ℝ, mx mk (fun i j => (S i j : EReal)) i = M
      ∧ ∃ j, mk i j ∧ sc mk (fun i j => (S i j : EReal)) i j = mx mk (fun i j => (S i j : EReal)) i := by
  obtain ⟨j0, h0⟩ := h
  have hs : mx mk (fun i j => (S i j : EReal)) i = Finset.univ.sup (sc mk (fun i j => (S i j : EReal)) i) := rfl
  obtain ⟨j, -, hj⟩ := Finset.exists_mem_eq_sup Finset.univ ⟨j0, Finset.mem_univ j0⟩ (sc mk (fun i j => (S i j : EReal)) i)
  have hle : sc mk (fun i j => (S i j : EReal)) i j0 ≤ sc mk (fun i j => (S i j : EReal)) i j := by
    rw [← hj]; exact Finset.le_sup (Finset.mem_univ j0)
  have hm : mk i j := by
    by_contra hn
    rw [show sc mk (fun i j => (S i j : EReal)) i j = ⊥ from if_neg hn,
      show sc mk (fun i j => (S i j : EReal)) i j0 = (S i j0 : EReal) from if_pos h0] at hle
    exact absurd (le_bot_iff.mp hle) (EReal.coe_ne_bot _)
  refine ⟨S i j, ?_, j, hm, ?_⟩
  · rw [hs, hj]; exact if_pos hm
  · rw [hs, hj]

/-- On finite scores the exponentials are reals, zero off the mask, with a positive sum over a row. -/
theorem p_real (S : I → J → ℝ) (h : ∀ i, ∃ j, mk i j) :
    ∃ P : I → J → ℝ, (∀ i j, p mk (fun i j => (S i j : EReal)) i j = P i j) ∧ (∀ i j, ¬ mk i j → P i j = 0)
      ∧ ∀ i, 0 < ∑ j, P i j := by
  choose M hM j hj _ using fun i => mx_real mk S i (h i)
  refine ⟨fun i j => if mk i j then Real.exp (S i j - M i) else 0, fun a b => ?_, fun a b hn => if_neg hn, fun a => ?_⟩
  · by_cases hb : mk a b
    · rw [p, sc, if_pos hb, hM, ← EReal.coe_sub, Ideal.exp_coe]; exact congrArg _ (if_pos hb).symm
    · rw [p, sc, if_neg hb, hM, EReal.bot_sub, Ideal.exp_bot, ← EReal.coe_zero]; exact congrArg _ (if_neg hb).symm
  · refine Finset.sum_pos' (fun b _ => ?_) ⟨j a, Finset.mem_univ _, ?_⟩
    · dsimp only; split
      · exact (Real.exp_pos _).le
      · exact le_rfl
    · exact (Real.exp_pos _).trans_eq (if_pos (hj a)).symm

/-- `inner` over the reals. -/
theorem inner_real (S W : I → J → ℝ) (E : I → ℝ) (P : I → J → ℝ)
    (hP : ∀ i j, p mk (fun i j => (S i j : EReal)) i j = P i j) (hpos : ∀ i, 0 < ∑ j, P i j) (i : I) (j : J) :
    inner mk (fun i j => (S i j : EReal)) (fun i j => (W i j : EReal)) (fun i => (E i : EReal)) i j
      = (((W i j / (∑ j, P i j) + (E i / (∑ j, P i j)
          + (0 - ∑ j', W i j' * (1 / ((∑ j, P i j) * (∑ j, P i j))) * P i j'))) * P i j : ℝ) : EReal) := by
  have hl : l mk (fun i j => (S i j : EReal)) i = ((∑ j, P i j : ℝ) : EReal) := by
    rw [l, coe_sum]; exact Finset.sum_congr rfl fun j _ => hP i j
  have h0 := (hpos i).ne'
  rw [inner, hl, div_real _ h0, div_real _ h0, ← EReal.coe_mul, ← EReal.coe_one, div_real _ (mul_ne_zero h0 h0), hP]
  simp only [hP, ← EReal.coe_mul, ← coe_sum, ← EReal.coe_zero, ← EReal.coe_sub, ← EReal.coe_add]

/-- On finite scores and cotangents the cotangent reaching a row's maximum is zero. -/
theorem ct_max (S W : I → J → ℝ) (E : I → ℝ) (h : ∀ i, ∃ j, mk i j) (i : I) :
    (E i : EReal) + ∑ j', -inner mk (fun i j => (S i j : EReal)) (fun i j => (W i j : EReal)) (fun i => (E i : EReal)) i j'
      = 0 := by
  obtain ⟨P, hP, -, hpos⟩ := p_real mk S h
  simp only [inner_real mk S W E P hP hpos, ← EReal.coe_neg, ← coe_sum, ← EReal.coe_add]
  rw [← EReal.coe_zero]; congr 1
  have h0 := (hpos i).ne'
  generalize hL : (∑ j, P i j) = L at h0 ⊢
  have e1 : ∀ j', -((W i j' / L + (E i / L + (0 - ∑ j', W i j' * (1 / (L * L)) * P i j'))) * P i j')
      = -(L * (W i j' * (1 / (L * L)) * P i j'))
        + (-(E i / L) + ∑ j', W i j' * (1 / (L * L)) * P i j') * P i j' := fun j' => by
    field_simp; ring
  rw [Finset.sum_congr rfl fun j' _ => e1 j', Finset.sum_add_distrib, Finset.sum_neg_distrib, ← Finset.mul_sum,
    ← Finset.mul_sum, hL]
  field_simp
  ring

/-- The two gradients agree on finite scores and cotangents. -/
theorem gradMax_eq {s w : I → J → EReal} {e : I → EReal} (hs : Fin2 s) (hw : Fin2 w)
    (he : ∀ i, e i ≠ ⊤ ∧ e i ≠ ⊥) (h : ∀ i, ∃ j, mk i j) : gradMax mk s w e = grad mk s w e := by
  obtain ⟨S, rfl⟩ := hs.lift
  obtain ⟨W, rfl⟩ := hw.lift
  obtain ⟨E, rfl⟩ := lift1 he
  funext i j
  rw [gradMax, grad, ct_max mk S W E h i]
  obtain ⟨M, -, j1, -, h1⟩ := mx_real mk S i (h i)
  have hc : ∃ n : ℝ, (∑ j', atMax mk (fun i j => (S i j : EReal)) i j') = n ∧ n ≠ 0 := by
    refine ⟨∑ j', if sc mk (fun i j => (S i j : EReal)) i j' = mx mk (fun i j => (S i j : EReal)) i then 1 else 0, ?_, ?_⟩
    · rw [coe_sum]
      refine Finset.sum_congr rfl fun j' _ => ?_
      rw [atMax]; split
      · exact EReal.coe_one.symm
      · exact EReal.coe_zero.symm
    · refine (Finset.sum_pos' (fun b _ => ?_) ⟨j1, Finset.mem_univ _, ?_⟩).ne'
      · split
        · exact zero_le_one
        · exact le_rfl
      · rw [if_pos h1]; exact zero_lt_one
  obtain ⟨n, hn, n0⟩ := hc
  rw [hn, ← EReal.coe_zero, div_real _ n0, zero_div, EReal.coe_zero, zero_mul, add_zero]

/-- The exponentials depend on the scores only where the mask is true. -/
theorem p_congr {s s' : I → J → EReal} (hs : ∀ i j, mk i j → s i j = s' i j) : p mk s = p mk s' := by
  have : sc mk s = sc mk s' := funext fun i => funext fun j => by
    rw [sc, sc]; split
    · exact hs i j ‹_›
    · rfl
  funext i j
  rw [p, p, mx, mx, this]

/-- The gradient depends on the scores and on the weights' cotangent only where the mask is true (finite inputs). -/
theorem grad_congr {s s' w w' : I → J → EReal} (e : I → EReal) (hf : Fin2 s)
    (h : ∀ i, ∃ j, mk i j) (hs : ∀ i j, mk i j → s i j = s' i j) (hww : ∀ i j, mk i j → w i j = w' i j) :
    grad mk s w e = grad mk s' w' e := by
  have hp := p_congr mk hs
  have hl : l mk s = l mk s' := funext fun i => by rw [l, l, hp]
  obtain ⟨S, rfl⟩ := hf.lift
  obtain ⟨P, hP, hz, -⟩ := p_real mk S h
  have hsum : ∀ i, (∑ j', w i j' * Ideal.div 1 (l mk s' i * l mk s' i) * p mk s' i j')
      = ∑ j', w' i j' * Ideal.div 1 (l mk s' i * l mk s' i) * p mk s' i j' := fun i =>
    Finset.sum_congr rfl fun j' _ => by
      by_cases hb : mk i j'
      · rw [hww i j' hb]
      · rw [← hp, hP, hz i j' hb, EReal.coe_zero, mul_zero, mul_zero]
  funext i j
  rw [grad, grad]
  split
  · rename_i hm
    rw [inner, inner, hl, hp, hsum i, hww i j hm]
  · rfl

end Cert.Proof.Softmax

end
-- ==== Proof.Head.lean ====
/- Hand-written, untrusted. One head of the banded attention's gradient in the kernel's own vector operations, read entry by
   entry as the masked softmax's gradient of Softmax.lean. -/
module

public import proofs.«01_k».proof.Proof.Softmax
public import proofs.«01_k».proof.Proof.Gen.KernelIdeal.Frame

@[expose] public section

set_option maxRecDepth 16384

noncomputable section

namespace Cert.Proof.Head

open Idealize.ShloMosaic Cert.KernelIdeal Cert.KernelIdeal.Gen Idealize.ShloMosaic.Pointwise

abbrev V (s : Shape) := FVec Ideal s .f32

/-- The exponentials of the masked scores less the row maximum. -/
def pV (mask : IVec S128x256 1) (q : V S128x64) (k : V S256x64) : V S128x256 :=
  let sc : V S128x256 := select mask (matmul dot_S128x64_S256x64_S128x256_1_1_0_0_n_n none (truncf .bf16 q bitsLt_bf16_f32)
    (truncf .bf16 k bitsLt_bf16_f32) (constant S128x256 .f32 0x00000000#32)) (broadcast S128x256 (Scalar.ofBits .f32 0xFF800000#32))
  exp (subf sc (broadcastTo S128x256 (shapeCast S128x1
    (multiReduction .maximumf [1] S128 sc 0xFF800000#32 reduces_S128x256_S128 (.inl rfl) rfl) shapeCasts_S128_S128x1)
    broadcasts_S128x1_S128x256))

/-- A row sum, kept as a column. -/
def lV (p : V S128x256) : V S128x1 :=
  shapeCast S128x1 (multiReduction .add [1] S128 p 0x00000000#32 reduces_S128x256_S128 (.inl rfl) rfl) shapeCasts_S128_S128x1

/-- The cotangent of the softmax's weights. -/
def wV (g : V S128x64) (v : V S256x64) : V S128x256 :=
  matmul dot_S128x64_S256x64_S128x256_1_1_0_0_n_n none (truncf .bf16 g bitsLt_bf16_f32) (truncf .bf16 v bitsLt_bf16_f32)
    (constant S128x256 .f32 0x00000000#32)

/-- One over a column's square. -/
def rV (l : V S128x1) : V S128x1 := divf (broadcast S128x1 (Scalar.ofBits .f32 0x3F800000#32)) (mulf l l)

/-- The cotangent of a row's log-sum-exp over the row sum. -/
def deV (e : V S128x64) (l : V S128x1) : V S128x1 :=
  divf (shapeCast S128x1 (multiReduction .add [1] S128 e 0x00000000#32 reduces_S128x64_S128 (.inl rfl) rfl)
    shapeCasts_S128_S128x1) l

/-- The gradient of the scores, from the exponentials, their row sums, those sums' inverse squares, the two cotangents. -/
def dsL (mask : IVec S128x256 1) (p : V S128x256) (l r de : V S128x1) (w : V S128x256) : V S128x256 :=
  let back : V S128x1 := subf (broadcast S128x1 (Scalar.ofBits .f32 0x00000000#32))
    (lV (mulf (mulf w (broadcastTo S128x256 r broadcasts_S128x1_S128x256)) p))
  let dl : V S128x1 := shapeCast S128x1 (multiReduction .add [1] S128 (addf de back) 0x00000000#32 reduces_S128x1_S128 (.inl rfl) rfl)
    shapeCasts_S128_S128x1
  select mask (mulf (addf (divf w (broadcastTo S128x256 l broadcasts_S128x1_S128x256))
    (broadcastTo S128x256 dl broadcasts_S128x1_S128x256)) p) (broadcast S128x256 (Scalar.ofBits .f32 0x00000000#32))

/-- The gradient of the scores, from the exponentials and the two cotangents. -/
def dsV (mask : IVec S128x256 1) (p w : V S128x256) (e : V S128x64) : V S128x256 :=
  dsL mask p (lV p) (rV (lV p)) (deV e (lV p)) w

theorem bot_bits : Ideal.ofBits .f32 0xFF800000#32 = (⊥ : EReal) := by
  simp [Ideal.ofBits, Ideal.ieee]

theorem pV_apply (mask : IVec S128x256 1) (q : V S128x64) (k : V S256x64) (i : Fin 128) (j : Fin 256) :
    pV mask q k (ix2 i j) = Softmax.p (fun (i : Fin 128) (j : Fin 256) => mask (ix2 i j) = 1#1)
      (fun i j => ∑ c : Fin 64, q (ix2 i c) * k (ix2 j c)) i j := by
  pointwise [pV]
  rw [bot_bits]
  rfl

theorem lV_apply (p : V S128x256) (i : Fin 128) (u : Fin 1) : lV p (ix2 i u) = ∑ j : Fin 256, p (ix2 i j) := by
  pointwise [lV]

theorem wV_apply (g : V S128x64) (v : V S256x64) (i : Fin 128) (j : Fin 256) :
    wV g v (ix2 i j) = ∑ c : Fin 64, g (ix2 i c) * v (ix2 j c) := by
  pointwise [wV]

theorem dsV_apply (mask : IVec S128x256 1) (q : V S128x64) (k v : V S256x64) (g e : V S128x64) (i : Fin 128) (j : Fin 256) :
    dsV mask (pV mask q k) (wV g v) e (ix2 i j) = Softmax.grad (fun (i : Fin 128) (j : Fin 256) => mask (ix2 i j) = 1#1)
      (fun i j => ∑ c : Fin 64, q (ix2 i c) * k (ix2 j c)) (fun i j => ∑ c : Fin 64, g (ix2 i c) * v (ix2 j c))
      (fun i => ∑ c : Fin 64, e (ix2 i c)) i j := by
  pointwise [dsV, dsL, rV, deV, lV]
  simp only [pV_apply, wV_apply, Fin.sum_univ_one, Finset.univ_unique, Finset.sum_const, Finset.card_singleton, one_smul]
  rfl

/-- The rows of keys of one head's two blocks, weighted by a matrix over them. -/
def rowsV (a : V S128x256) (k : V S256x64) : V S128x64 :=
  matmul dot_S128x256_S256x64_S128x64_1_0_0_1_n_n none (truncf .bf16 a bitsLt_bf16_f32) (truncf .bf16 k bitsLt_bf16_f32)
    (constant S128x64 .f32 0x00000000#32)

/-- The columns: the transposed matrix over the rows of queries. -/
def colsV (a : V S128x256) (q : V S128x64) : V S256x64 :=
  matmul dot_S128x256_S128x64_S256x64_0_0_1_1_n_n none (truncf .bf16 a bitsLt_bf16_f32) (truncf .bf16 q bitsLt_bf16_f32)
    (constant S256x64 .f32 0x00000000#32)

theorem rowsV_apply (a : V S128x256) (k : V S256x64) (i : Fin 128) (c : Fin 64) :
    rowsV a k (ix2 i c) = ∑ j : Fin 256, a (ix2 i j) * k (ix2 j c) := by
  pointwise [rowsV]

theorem colsV_apply (a : V S128x256) (q : V S128x64) (j : Fin 256) (c : Fin 64) :
    colsV a q (ix2 j c) = ∑ i : Fin 128, a (ix2 i j) * q (ix2 i c) := by
  pointwise [colsV]

/-- A weight matrix's rows divided by their sums. -/
def normV (p : V S128x256) : V S128x256 := divf p (broadcastTo S128x256 (lV p) broadcasts_S128x1_S128x256)

theorem normV_apply (p : V S128x256) (i : Fin 128) (j : Fin 256) :
    normV p (ix2 i j) = Ideal.div (p (ix2 i j)) (∑ j' : Fin 256, p (ix2 i j')) := by
  pointwise [normV, lV]

/-- A head's 128 rows padded with zeros to the whole width, one definition for each head. -/
def pad128_0 (a : V S128x64) : V S128x256 :=
  concatenate S128x256 1 [⟨S128x64, a⟩, ⟨S128x192, broadcast S128x192 (Scalar.ofBits .f32 0x00000000#32)⟩] concatenates_S128x64_S128x192_S128x256_d1
def pad128_1 (a : V S128x64) : V S128x256 :=
  concatenate S128x256 1 [⟨S128x128, concatenate S128x128 1 [⟨S128x64, broadcast S128x64 (Scalar.ofBits .f32 0x00000000#32)⟩, ⟨S128x64, a⟩]
    concatenates_S128x64_S128x64_S128x128_d1⟩, ⟨S128x128, broadcast S128x128 (Scalar.ofBits .f32 0x00000000#32)⟩] concatenates_S128x128_S128x128_S128x256_d1
def pad128_2 (a : V S128x64) : V S128x256 :=
  concatenate S128x256 1 [⟨S128x192, concatenate S128x192 1 [⟨S128x128, broadcast S128x128 (Scalar.ofBits .f32 0x00000000#32)⟩, ⟨S128x64, a⟩]
    concatenates_S128x128_S128x64_S128x192_d1⟩, ⟨S128x64, broadcast S128x64 (Scalar.ofBits .f32 0x00000000#32)⟩] concatenates_S128x192_S128x64_S128x256_d1
def pad128_3 (a : V S128x64) : V S128x256 :=
  concatenate S128x256 1 [⟨S128x192, broadcast S128x192 (Scalar.ofBits .f32 0x00000000#32)⟩, ⟨S128x64, a⟩] concatenates_S128x192_S128x64_S128x256_d1
/-- The four heads' results of 128 rows laid side by side: the padded ones added. -/
def join128 (a0 a1 a2 a3 : V S128x64) : V S128x256 := addf (addf (addf (pad128_3 a3) (pad128_2 a2)) (pad128_1 a1)) (pad128_0 a0)

/-- A head's 256 rows padded with zeros to the whole width, one definition for each head. -/
def pad256_0 (a : V S256x64) : V S256x256 :=
  concatenate S256x256 1 [⟨S256x64, a⟩, ⟨S256x192, broadcast S256x192 (Scalar.ofBits .f32 0x00000000#32)⟩] concatenates_S256x64_S256x192_S256x256_d1
def pad256_1 (a : V S256x64) : V S256x256 :=
  concatenate S256x256 1 [⟨S256x128, concatenate S256x128 1 [⟨S256x64, broadcast S256x64 (Scalar.ofBits .f32 0x00000000#32)⟩, ⟨S256x64, a⟩]
    concatenates_S256x64_S256x64_S256x128_d1⟩, ⟨S256x128, broadcast S256x128 (Scalar.ofBits .f32 0x00000000#32)⟩] concatenates_S256x128_S256x128_S256x256_d1
def pad256_2 (a : V S256x64) : V S256x256 :=
  concatenate S256x256 1 [⟨S256x192, concatenate S256x192 1 [⟨S256x128, broadcast S256x128 (Scalar.ofBits .f32 0x00000000#32)⟩, ⟨S256x64, a⟩]
    concatenates_S256x128_S256x64_S256x192_d1⟩, ⟨S256x64, broadcast S256x64 (Scalar.ofBits .f32 0x00000000#32)⟩] concatenates_S256x192_S256x64_S256x256_d1
def pad256_3 (a : V S256x64) : V S256x256 :=
  concatenate S256x256 1 [⟨S256x192, broadcast S256x192 (Scalar.ofBits .f32 0x00000000#32)⟩, ⟨S256x64, a⟩] concatenates_S256x192_S256x64_S256x256_d1
/-- The four heads' results of 256 rows laid side by side: the padded ones added. -/
def join256 (a0 a1 a2 a3 : V S256x64) : V S256x256 := addf (addf (addf (pad256_3 a3) (pad256_2 a2)) (pad256_1 a1)) (pad256_0 a0)

/-- Lane `c` of head `h`. -/
def lane (h : Fin 4) (c : Fin 64) : Fin 256 := ⟨h.val * 64 + c.val, by omega⟩

theorem join128_apply (a : Fin 4 → V S128x64) (i : Fin 128) (h : Fin 4) (c : Fin 64) :
    join128 (a 0) (a 1) (a 2) (a 3) (ix2 i (lane h c)) = a h (ix2 i c) := by
  pointwise [join128, pad128_0, pad128_1, pad128_2, pad128_3]
  have hc := c.isLt
  fin_cases h
  · simp [lane, show c.val < 192 by omega, show c.val < 128 by omega]
  · simp [lane, show 64 + c.val < 192 by omega, show 64 + c.val < 128 by omega]
  · simp [lane, show 128 + c.val < 192 by omega, show ¬ 128 + c.val < 64 by omega]
  · simp [lane, show ¬ 192 + c.val < 128 by omega, show ¬ 192 + c.val < 64 by omega]

theorem join256_apply (a : Fin 4 → V S256x64) (i : Fin 256) (h : Fin 4) (c : Fin 64) :
    join256 (a 0) (a 1) (a 2) (a 3) (ix2 i (lane h c)) = a h (ix2 i c) := by
  pointwise [join256, pad256_0, pad256_1, pad256_2, pad256_3]
  have hc := c.isLt
  fin_cases h
  · simp [lane, show c.val < 192 by omega, show c.val < 128 by omega]
  · simp [lane, show 64 + c.val < 192 by omega, show 64 + c.val < 128 by omega]
  · simp [lane, show 128 + c.val < 192 by omega, show ¬ 128 + c.val < 64 by omega]
  · simp [lane, show ¬ 192 + c.val < 128 by omega, show ¬ 192 + c.val < 64 by omega]

/-- Head `h`'s lanes of 128 rows. -/
def part128 (x : V S128x256) (h : Fin 4) : V S128x64 := fun j => x (ix2 (j 0) (lane h (j 1)))
/-- Head `h`'s lanes of 256 rows. -/
def part256 (x : V S256x256) (h : Fin 4) : V S256x64 := fun j => x (ix2 (j 0) (lane h (j 1)))

theorem lane_add (h : Fin 4) (c : Fin 64) (o : ℕ) (ho : o = h.val * 64) (hlt) : (⟨o + c.val, hlt⟩ : Fin 256) = lane h c := by
  subst ho; rfl

theorem part128_0 (x : V S128x256) : extractStridedSlice S128x64 ![0, 0] x slices_S128x256_o0_0_S128x64 = part128 x 0 := by
  funext j
  idx_vars j
  pointwise [part128]
  congr 2
  exact Fin.ext (by simp [lane])

theorem part128_1 (x : V S128x256) : extractStridedSlice S128x64 ![0, 64] x slices_S128x256_o0_64_S128x64 = part128 x 1 := by
  funext j
  idx_vars j
  pointwise [part128]
  rw [lane_add 1 _ 64 rfl]

theorem part128_2 (x : V S128x256) : extractStridedSlice S128x64 ![0, 128] x slices_S128x256_o0_128_S128x64 = part128 x 2 := by
  funext j
  idx_vars j
  pointwise [part128]
  rw [lane_add 2 _ 128 rfl]

theorem part128_3 (x : V S128x256) : extractStridedSlice S128x64 ![0, 192] x slices_S128x256_o0_192_S128x64 = part128 x 3 := by
  funext j
  idx_vars j
  pointwise [part128]
  rw [lane_add 3 _ 192 rfl]

theorem part256_0 (x : V S256x256) : extractStridedSlice S256x64 ![0, 0] x slices_S256x256_o0_0_S256x64 = part256 x 0 := by
  funext j
  idx_vars j
  pointwise [part256]
  congr 2
  exact Fin.ext (by simp [lane])

theorem part256_1 (x : V S256x256) : extractStridedSlice S256x64 ![0, 64] x slices_S256x256_o0_64_S256x64 = part256 x 1 := by
  funext j
  idx_vars j
  pointwise [part256]
  rw [lane_add 1 _ 64 rfl]

theorem part256_2 (x : V S256x256) : extractStridedSlice S256x64 ![0, 128] x slices_S256x256_o0_128_S256x64 = part256 x 2 := by
  funext j
  idx_vars j
  pointwise [part256]
  rw [lane_add 2 _ 128 rfl]

theorem part256_3 (x : V S256x256) : extractStridedSlice S256x64 ![0, 192] x slices_S256x256_o0_192_S256x64 = part256 x 3 := by
  funext j
  idx_vars j
  pointwise [part256]
  rw [lane_add 3 _ 192 rfl]

/-! ## The block's results -/

/-- A block's rows. -/
def blk (x : Vec Ideal S1x128x256 .f32) : V S128x256 := shapeCast S128x256 x shapeCasts_S1x128x256_S128x256
/-- Two blocks stacked. -/
def cat (x y : Vec Ideal S1x128x256 .f32) : V S256x256 :=
  concatenate S256x256 0 [⟨S128x256, blk x⟩, ⟨S128x256, blk y⟩] concatenates_S128x256_S128x256_S256x256_d0

/-- The gradient of one head's scores on a block. -/
def dsB (M : IVec S128x256 1) (q kp kc vp vc g e : Vec Ideal S1x128x256 .f32) (h : Fin 4) : V S128x256 :=
  dsV M (pV M (part128 (blk q) h) (part256 (cat kp kc) h)) (wV (part128 (blk g) h) (part256 (cat vp vc) h)) (part128 (blk e) h)

def dqB (M : IVec S128x256 1) (q kp kc vp vc g e : Vec Ideal S1x128x256 .f32) (h : Fin 4) : V S128x64 :=
  rowsV (dsB M q kp kc vp vc g e h) (part256 (cat kp kc) h)
def dkB (M : IVec S128x256 1) (q kp kc vp vc g e : Vec Ideal S1x128x256 .f32) (h : Fin 4) : V S256x64 :=
  colsV (dsB M q kp kc vp vc g e h) (part128 (blk q) h)
def dvB (M : IVec S128x256 1) (q kp kc g : Vec Ideal S1x128x256 .f32) (h : Fin 4) : V S256x64 :=
  colsV (normV (pV M (part128 (blk q) h) (part256 (cat kp kc) h))) (part128 (blk g) h)

variable (i : grid0.Coords) (x0 x1 x2 x3 x4 x5 x6 : Vec Ideal S1x128x256 .f32)

/-- The kernel's mask at a grid point. -/
def M : IVec S128x256 1 := k0_pay93 (F := Ideal) i x0 x1 x2 x3 x4 x5 x6

theorem hz3 : (![0, 0, 0] : Fin S1x128x256.rank → Nat) = fun _ => 0 := funext fun a => by fin_cases a <;> rfl

/-! ## The kernel's payloads, step by step -/

theorem pay18 (v1 v3 v5 : V S128x256) (v24 : BitVec 1) (v25 v26 : IVec S128x256 32) (v28 v29 : IVec S128x256 1) :
    k0_pay18 v1 v3 v5 v24 v25 v26 v28 v29 = pV (k0_pay13 v24 v25 v26 v28 v29) (k0_pay16 v1) (k0_pay17 v3 v5) := rfl
theorem pay25 (v1 v3 v5 : V S128x256) (v24 : BitVec 1) (v25 v26 : IVec S128x256 32) (v28 v29 : IVec S128x256 1) :
    k0_pay25 v1 v3 v5 v24 v25 v26 v28 v29 = pV (k0_pay13 v24 v25 v26 v28 v29) (k0_pay23 v1) (k0_pay24 v3 v5) := rfl
theorem pay33 (v1 : V S128x256) (v39 : IVec S128x256 1) (v40 : V S256x256) :
    k0_pay33 v1 v39 v40 = pV v39 (k0_pay31 v1) (k0_pay32 v40) := rfl
theorem pay40 (v1 : V S128x256) (v39 : IVec S128x256 1) (v40 : V S256x256) :
    k0_pay40 v1 v39 v40 = pV v39 (k0_pay38 v1) (k0_pay39 v40) := rfl
theorem pay19 (v1 v3 v5 : V S128x256) (v24 : BitVec 1) (v25 v26 : IVec S128x256 32) (v28 v29 : IVec S128x256 1) :
    k0_pay19 v1 v3 v5 v24 v25 v26 v28 v29 = lV (k0_pay18 v1 v3 v5 v24 v25 v26 v28 v29) := rfl
theorem pay26 (v1 v3 v5 : V S128x256) (v24 : BitVec 1) (v25 v26 : IVec S128x256 32) (v28 v29 : IVec S128x256 1) :
    k0_pay26 v1 v3 v5 v24 v25 v26 v28 v29 = lV (k0_pay25 v1 v3 v5 v24 v25 v26 v28 v29) := rfl
theorem pay34 (v1 : V S128x256) (v39 : IVec S128x256 1) (v40 : V S256x256) : k0_pay34 v1 v39 v40 = lV (k0_pay33 v1 v39 v40) := rfl
theorem pay41 (v1 : V S128x256) (v39 : IVec S128x256 1) (v40 : V S256x256) : k0_pay41 v1 v39 v40 = lV (k0_pay40 v1 v39 v40) := rfl
theorem pay20 (v1 v3 v5 : V S128x256) (v24 : BitVec 1) (v25 v26 : IVec S128x256 32) (v28 v29 : IVec S128x256 1) :
    k0_pay20 v1 v3 v5 v24 v25 v26 v28 v29 = normV (k0_pay18 v1 v3 v5 v24 v25 v26 v28 v29) := rfl
theorem pay27 (v1 v3 v5 : V S128x256) (v24 : BitVec 1) (v25 v26 : IVec S128x256 32) (v28 v29 : IVec S128x256 1) :
    k0_pay27 v1 v3 v5 v24 v25 v26 v28 v29 = normV (k0_pay25 v1 v3 v5 v24 v25 v26 v28 v29) := rfl
theorem pay35 (v1 : V S128x256) (v39 : IVec S128x256 1) (v40 : V S256x256) : k0_pay35 v1 v39 v40 = normV (k0_pay33 v1 v39 v40) := rfl
theorem pay42 (v1 : V S128x256) (v39 : IVec S128x256 1) (v40 : V S256x256) : k0_pay42 v1 v39 v40 = normV (k0_pay40 v1 v39 v40) := rfl
theorem pay21 (v1 v3 v5 : V S128x256) (v24 : BitVec 1) (v25 v26 : IVec S128x256 32) (v28 v29 : IVec S128x256 1) :
    k0_pay21 v1 v3 v5 v24 v25 v26 v28 v29 = rV (k0_pay19 v1 v3 v5 v24 v25 v26 v28 v29) := rfl
theorem pay29 (v1 v3 v5 : V S128x256) (v24 : BitVec 1) (v25 v26 : IVec S128x256 32) (v28 v29 : IVec S128x256 1) :
    k0_pay29 (k0_pay28 v1 v3 v5 v24 v25 v26 v28 v29) = rV (k0_pay26 v1 v3 v5 v24 v25 v26 v28 v29) := rfl
theorem pay36 (v1 : V S128x256) (v39 : IVec S128x256 1) (v40 : V S256x256) : k0_pay36 v1 v39 v40 = rV (k0_pay34 v1 v39 v40) := rfl
theorem pay43 (v1 : V S128x256) (v39 : IVec S128x256 1) (v40 : V S256x256) : k0_pay43 v1 v39 v40 = rV (k0_pay41 v1 v39 v40) := rfl
theorem pay53 (v11 v117 : V S128x256) : k0_pay53 v11 v117 = pad256_3 (colsV v117 (k0_pay52 v11)) := rfl
theorem pay54 (v11 : V S128x256) (v39 : IVec S128x256 1) (v113 : V S128x256) (v115 v120 : V S128x1) (v121 : V S256x64) (v125 : V S128x64) :
    k0_pay54 v11 v39 v113 v115 v120 v121 v125 = dsL v39 v113 v115 v120 (deV v125 v115) (wV (k0_pay52 v11) v121) := rfl
theorem pay55 (v11 : V S128x256) (v39 : IVec S128x256 1) (v102 : V S128x64) (v113 : V S128x256) (v115 v120 : V S128x1) (v121 : V S256x64)
    (v125 : V S128x64) : k0_pay55 v11 v39 v102 v113 v115 v120 v121 v125
      = pad256_3 (colsV (k0_pay54 v11 v39 v113 v115 v120 v121 v125) v102) := rfl
theorem pay56 (v11 : V S128x256) (v39 : IVec S128x256 1) (v103 : V S256x64) (v113 : V S128x256) (v115 v120 : V S128x1) (v121 : V S256x64)
    (v125 : V S128x64) : k0_pay56 v11 v39 v103 v113 v115 v120 v121 v125
      = pad128_3 (rowsV (k0_pay54 v11 v39 v113 v115 v120 v121 v125) v103) := rfl
theorem pay57 (v95 : V S128x1) (v124 : V S128x64) : k0_pay57 v95 v124 = deV v124 v95 := rfl
theorem pay63 (v75 : V S128x1) (v123 : V S128x64) : k0_pay63 v75 v123 = deV v123 v75 := rfl
theorem pay70 (v55 : V S128x1) (v122 : V S128x64) : k0_pay70 v55 v122 = deV v122 v55 := rfl
theorem pay58 (v11 : V S128x256) (v101 : V S256x64) : k0_pay58 v11 v101 = wV (k0_pay51 v11) v101 := rfl
theorem pay64 (v81 : V S256x64) (v127 : V S128x64) : k0_pay64 v81 v127 = wV v127 v81 := rfl
theorem pay71 (v61 : V S256x64) (v126 : V S128x64) : k0_pay71 v61 v126 = wV v126 v61 := rfl
theorem pay59 (v97 : V S128x256) (v128 : V S128x64) (v140 : V S256x256) :
    k0_pay59 v97 v128 v140 = addf v140 (pad256_2 (colsV v97 v128)) := rfl
theorem pay60 (v39 : IVec S128x256 1) (v93 : V S128x256) (v95 v100 v170 : V S128x1) (v173 : V S128x256) :
    k0_pay60 v39 v93 v95 v100 v170 v173 = dsL v39 v93 v95 v100 v170 v173 := rfl
theorem pay67 (v39 : IVec S128x256 1) (v73 : V S128x256) (v75 v80 v217 : V S128x1) (v220 : V S128x256) :
    k0_pay67 v39 v73 v75 v80 v217 v220 = dsL v39 v73 v75 v80 v217 v220 := rfl
theorem pay75 (v39 : IVec S128x256 1) (v53 : V S128x256) (v55 v60 v264 : V S128x1) (v267 : V S128x256) :
    k0_pay75 v39 v53 v55 v60 v264 v267 = dsL v39 v53 v55 v60 v264 v267 := rfl
theorem pay61 (v39 : IVec S128x256 1) (v82 : V S128x64) (v93 : V S128x256) (v95 v100 : V S128x1) (v165 : V S256x256) (v170 : V S128x1)
    (v173 : V S128x256) : k0_pay61 v39 v82 v93 v95 v100 v165 v170 v173
      = addf v165 (pad256_2 (colsV (k0_pay60 v39 v93 v95 v100 v170 v173) v82)) := rfl
theorem pay62 (v39 : IVec S128x256 1) (v83 : V S256x64) (v93 : V S128x256) (v95 v100 : V S128x1) (v167 : V S128x256) (v170 : V S128x1)
    (v173 : V S128x256) : k0_pay62 v39 v83 v93 v95 v100 v167 v170 v173
      = addf v167 (pad128_2 (rowsV (k0_pay60 v39 v93 v95 v100 v170 v173) v83)) := rfl
theorem pay66 (v127 : V S128x64) (v181 : V S256x256) (v77 : V S128x256) :
    k0_pay66 v127 v181 (k0_pay65 v77) = addf v181 (pad256_1 (colsV v77 v127)) := rfl
theorem pay68 (v39 : IVec S128x256 1) (v62 : V S128x64) (v73 : V S128x256) (v75 v80 : V S128x1) (v209 : V S256x256) (v217 : V S128x1)
    (v220 : V S128x256) : k0_pay68 v39 v62 v73 v75 v80 v209 v217 v220
      = addf v209 (pad256_1 (colsV (k0_pay67 v39 v73 v75 v80 v217 v220) v62)) := rfl
theorem pay69 (v39 : IVec S128x256 1) (v63 : V S256x64) (v73 : V S128x256) (v75 v80 : V S128x1) (v214 : V S128x256) (v217 : V S128x1)
    (v220 : V S128x256) : k0_pay69 v39 v63 v73 v75 v80 v214 v217 v220
      = addf v214 (pad128_1 (rowsV (k0_pay67 v39 v73 v75 v80 v217 v220) v63)) := rfl
theorem pay74 (v228 : V S256x256) (v57 : V S128x256) (v126 : V S128x64) :
    k0_pay74 v228 (k0_pay72 v57) (k0_pay73 v126) = addf v228 (pad256_0 (colsV v57 v126)) := rfl
theorem pay76 (v39 : IVec S128x256 1) (v42 : V S128x64) (v53 : V S128x256) (v55 v60 : V S128x1) (v256 : V S256x256) (v264 : V S128x1)
    (v267 : V S128x256) : k0_pay76 v39 v42 v53 v55 v60 v256 v264 v267
      = addf v256 (pad256_0 (colsV (k0_pay75 v39 v53 v55 v60 v264 v267) v42)) := rfl
theorem pay80 (v39 : IVec S128x256 1) (v43 : V S256x64) (v53 : V S128x256) (v55 v60 : V S128x1) (v261 : V S128x256) (v264 : V S128x1)
    (v267 : V S128x256) : k0_pay80 v39 v43 v53 v55 v60 v261 v264 v267
      = shapeCast S1x128x256 (addf v261 (pad128_0 (rowsV (k0_pay75 v39 v53 v55 v60 v264 v267) v43))) shapeCasts_S128x256_S1x128x256 := rfl

/-- The first and the last 128 of 256 rows, as a block. -/
def top (x : V S256x256) : Vec Ideal S1x128x256 .f32 :=
  shapeCast S1x128x256 (extractStridedSlice S128x256 ![0, 0] x slices_S256x256_o0_0_S128x256) shapeCasts_S128x256_S1x128x256
def bottom (x : V S256x256) : Vec Ideal S1x128x256 .f32 :=
  shapeCast S1x128x256 (extractStridedSlice S128x256 ![128, 0] x slices_S256x256_o128_0_S128x256) shapeCasts_S128x256_S1x128x256

theorem pay77 (v228 : V S256x256) (v57 : V S128x256) (v126 : V S128x64) : k0_pay2 (k0_pay77 v228 (k0_pay72 v57) (k0_pay73 v126))
    = top (addf v228 (pad256_0 (colsV v57 v126))) := rfl
theorem pay78 (v228 : V S256x256) (v57 : V S128x256) (v126 : V S128x64) : k0_pay3 (k0_pay78 v228 (k0_pay72 v57) (k0_pay73 v126))
    = bottom (addf v228 (pad256_0 (colsV v57 v126))) := rfl
theorem pay79 (v39 : IVec S128x256 1) (v42 : V S128x64) (v53 : V S128x256) (v55 v60 : V S128x1) (v256 : V S256x256) (v264 : V S128x1)
    (v267 : V S128x256) : k0_pay1 (k0_pay79 v39 v42 v53 v55 v60 v256 v264 v267)
      = bottom (addf v256 (pad256_0 (colsV (k0_pay75 v39 v53 v55 v60 v264 v267) v42))) := rfl
theorem pay81 (v39 : IVec S128x256 1) (v42 : V S128x64) (v53 : V S128x256) (v55 v60 : V S128x1) (v256 : V S256x256) (v264 : V S128x1)
    (v267 : V S128x256) : k0_pay81 v39 v42 v53 v55 v60 v256 v264 v267
      = top (addf v256 (pad256_0 (colsV (k0_pay75 v39 v53 v55 v60 v264 v267) v42))) := rfl

theorem pay16 (v : V S128x256) : k0_pay16 v = part128 v 0 := part128_0 v
theorem pay23 (v : V S128x256) : k0_pay23 v = part128 v 1 := part128_1 v
theorem pay31 (v : V S128x256) : k0_pay31 v = part128 v 2 := part128_2 v
theorem pay38 (v : V S128x256) : k0_pay38 v = part128 v 3 := part128_3 v
theorem pay45 (v : V S128x256) : k0_pay45 v = part128 v 0 := part128_0 v
theorem pay46 (v : V S128x256) : k0_pay46 v = part128 v 1 := part128_1 v
theorem pay47 (v : V S128x256) : k0_pay47 v = part128 v 2 := part128_2 v
theorem pay48 (v : V S128x256) : k0_pay48 v = part128 v 3 := part128_3 v
theorem pay49 (v : V S128x256) : k0_pay49 v = part128 v 0 := part128_0 v
theorem pay50 (v : V S128x256) : k0_pay50 v = part128 v 1 := part128_1 v
theorem pay51 (v : V S128x256) : k0_pay51 v = part128 v 2 := part128_2 v
theorem pay52 (v : V S128x256) : k0_pay52 v = part128 v 3 := part128_3 v
theorem pay17 (x y : Vec Ideal S1x128x256 .f32) : k0_pay17 (blk x) (blk y) = part256 (cat x y) 0 := part256_0 _
theorem pay24 (x y : Vec Ideal S1x128x256 .f32) : k0_pay24 (blk x) (blk y) = part256 (cat x y) 1 := part256_1 _
theorem pay32 (v : V S256x256) : k0_pay32 v = part256 v 2 := part256_2 v
theorem pay39 (v : V S256x256) : k0_pay39 v = part256 v 3 := part256_3 v
theorem pay22 (x y : Vec Ideal S1x128x256 .f32) : k0_pay22 (blk x) (blk y) = part256 (cat x y) 0 := part256_0 _
theorem pay30 (v : V S256x256) : k0_pay30 v = part256 v 1 := part256_1 v
theorem pay37 (v : V S256x256) : k0_pay37 v = part256 v 2 := part256_2 v
theorem pay44 (v : V S256x256) : k0_pay44 v = part256 v 3 := part256_3 v
theorem pay14 (x y : Vec Ideal S1x128x256 .f32) : k0_pay14 (blk x) (blk y) = cat x y := rfl
theorem pay15 (x y : Vec Ideal S1x128x256 .f32) : k0_pay15 (blk x) (blk y) = cat x y := rfl
theorem pay4 (x : Vec Ideal S1x128x256 .f32) : k0_pay4 x = blk x := rfl
theorem pay5 (x : Vec Ideal S1x128x256 .f32) : k0_pay5 x = blk x := rfl
theorem pay6 (x : Vec Ideal S1x128x256 .f32) : k0_pay6 x = blk x := rfl
theorem pay7 (x : Vec Ideal S1x128x256 .f32) : k0_pay7 x = blk x := rfl
theorem pay8 (x : Vec Ideal S1x128x256 .f32) : k0_pay8 x = blk x := rfl
theorem pay9 (x : Vec Ideal S1x128x256 .f32) : k0_pay9 x = blk x := rfl
theorem pay10 (x : Vec Ideal S1x128x256 .f32) : k0_pay10 x = blk x := rfl

theorem ld0 (x : Vec Ideal S1x128x256 .f32) : View.ld x r0_0 = x := View.ld_unit_zero hz3 _ x

set_option maxHeartbeats 1000000 in
theorem out7 : out0_7 i x0 x1 x2 x3 x4 x5 x6 = shapeCast S1x128x256 (join128
      (dqB (M i x0 x1 x2 x3 x4 x5 x6) x0 x1 x2 x3 x4 x5 x6 0) (dqB (M i x0 x1 x2 x3 x4 x5 x6) x0 x1 x2 x3 x4 x5 x6 1)
      (dqB (M i x0 x1 x2 x3 x4 x5 x6) x0 x1 x2 x3 x4 x5 x6 2) (dqB (M i x0 x1 x2 x3 x4 x5 x6) x0 x1 x2 x3 x4 x5 x6 3))
      shapeCasts_S128x256_S1x128x256 := by
  unfold M dqB dsB join128 dsV
  unfold_out out0_7
  rw [View.canon_unit_zero hz3]
  simp only [ld0, pay4, pay5, pay6, pay7, pay8, pay9, pay10, pay14, pay15, pay16, pay17, pay18, pay19, pay20, pay21, pay22, pay23, pay24,
    pay25, pay26, pay27, pay29, pay30, pay31, pay32, pay33, pay34, pay35, pay36, pay37, pay38, pay39, pay40, pay41, pay42, pay43, pay44,
    pay45, pay46, pay47, pay48, pay49, pay50, pay51, pay52, pay53, pay54, pay55, pay56, pay57, pay58, pay59, pay60, pay61, pay62, pay63,
    pay64, pay66, pay67, pay68, pay69, pay70, pay71, pay74, pay75, pay76, pay80]

set_option maxHeartbeats 1000000 in
theorem out8 : out0_8 i x0 x1 x2 x3 x4 x5 x6 = top (join256
      (dkB (M i x0 x1 x2 x3 x4 x5 x6) x0 x1 x2 x3 x4 x5 x6 0) (dkB (M i x0 x1 x2 x3 x4 x5 x6) x0 x1 x2 x3 x4 x5 x6 1)
      (dkB (M i x0 x1 x2 x3 x4 x5 x6) x0 x1 x2 x3 x4 x5 x6 2) (dkB (M i x0 x1 x2 x3 x4 x5 x6) x0 x1 x2 x3 x4 x5 x6 3)) := by
  unfold M dkB dsB join256 dsV
  unfold_out out0_8
  rw [View.canon_unit_zero hz3]
  simp only [ld0, pay4, pay5, pay6, pay7, pay8, pay9, pay10, pay14, pay15, pay16, pay17, pay18, pay19, pay20, pay21, pay22, pay23, pay24,
    pay25, pay26, pay27, pay29, pay30, pay31, pay32, pay33, pay34, pay35, pay36, pay37, pay38, pay39, pay40, pay41, pay42, pay43, pay44,
    pay45, pay46, pay47, pay48, pay49, pay50, pay51, pay52, pay53, pay54, pay55, pay56, pay57, pay58, pay59, pay60, pay61, pay62, pay63,
    pay64, pay66, pay67, pay68, pay69, pay70, pay71, pay74, pay75, pay76, pay77, pay78, pay79, pay80, pay81]

set_option maxHeartbeats 1000000 in
theorem out9 : out0_9 i x0 x1 x2 x3 x4 x5 x6 = bottom (join256
      (dkB (M i x0 x1 x2 x3 x4 x5 x6) x0 x1 x2 x3 x4 x5 x6 0) (dkB (M i x0 x1 x2 x3 x4 x5 x6) x0 x1 x2 x3 x4 x5 x6 1)
      (dkB (M i x0 x1 x2 x3 x4 x5 x6) x0 x1 x2 x3 x4 x5 x6 2) (dkB (M i x0 x1 x2 x3 x4 x5 x6) x0 x1 x2 x3 x4 x5 x6 3)) := by
  unfold M dkB dsB join256 dsV
  unfold_out out0_9
  rw [View.canon_unit_zero hz3]
  simp only [ld0, pay4, pay5, pay6, pay7, pay8, pay9, pay10, pay14, pay15, pay16, pay17, pay18, pay19, pay20, pay21, pay22, pay23, pay24,
    pay25, pay26, pay27, pay29, pay30, pay31, pay32, pay33, pay34, pay35, pay36, pay37, pay38, pay39, pay40, pay41, pay42, pay43, pay44,
    pay45, pay46, pay47, pay48, pay49, pay50, pay51, pay52, pay53, pay54, pay55, pay56, pay57, pay58, pay59, pay60, pay61, pay62, pay63,
    pay64, pay66, pay67, pay68, pay69, pay70, pay71, pay74, pay75, pay76, pay77, pay78, pay79, pay80, pay81]

set_option maxHeartbeats 1000000 in
theorem out10 : out0_10 i x0 x1 x2 x3 x4 x5 x6 = top (join256
      (dvB (M i x0 x1 x2 x3 x4 x5 x6) x0 x1 x2 x5 0) (dvB (M i x0 x1 x2 x3 x4 x5 x6) x0 x1 x2 x5 1)
      (dvB (M i x0 x1 x2 x3 x4 x5 x6) x0 x1 x2 x5 2) (dvB (M i x0 x1 x2 x3 x4 x5 x6) x0 x1 x2 x5 3)) := by
  unfold M dvB join256
  unfold_out out0_10
  rw [View.canon_unit_zero hz3]
  simp only [ld0, pay4, pay5, pay6, pay7, pay8, pay9, pay10, pay14, pay15, pay16, pay17, pay18, pay19, pay20, pay21, pay22, pay23, pay24,
    pay25, pay26, pay27, pay29, pay30, pay31, pay32, pay33, pay34, pay35, pay36, pay37, pay38, pay39, pay40, pay41, pay42, pay43, pay44,
    pay45, pay46, pay47, pay48, pay49, pay50, pay51, pay52, pay53, pay54, pay55, pay56, pay57, pay58, pay59, pay60, pay61, pay62, pay63,
    pay64, pay66, pay67, pay68, pay69, pay70, pay71, pay74, pay75, pay76, pay77, pay78, pay79, pay80, pay81]

set_option maxHeartbeats 1000000 in
theorem out11 : out0_11 i x0 x1 x2 x3 x4 x5 x6 = bottom (join256
      (dvB (M i x0 x1 x2 x3 x4 x5 x6) x0 x1 x2 x5 0) (dvB (M i x0 x1 x2 x3 x4 x5 x6) x0 x1 x2 x5 1)
      (dvB (M i x0 x1 x2 x3 x4 x5 x6) x0 x1 x2 x5 2) (dvB (M i x0 x1 x2 x3 x4 x5 x6) x0 x1 x2 x5 3)) := by
  unfold M dvB join256
  unfold_out out0_11
  rw [View.canon_unit_zero hz3]
  simp only [ld0, pay4, pay5, pay6, pay7, pay8, pay9, pay10, pay14, pay15, pay16, pay17, pay18, pay19, pay20, pay21, pay22, pay23, pay24,
    pay25, pay26, pay27, pay29, pay30, pay31, pay32, pay33, pay34, pay35, pay36, pay37, pay38, pay39, pay40, pay41, pay42, pay43, pay44,
    pay45, pay46, pay47, pay48, pay49, pay50, pay51, pay52, pay53, pay54, pay55, pay56, pay57, pay58, pay59, pay60, pay61, pay62, pay63,
    pay64, pay66, pay67, pay68, pay69, pay70, pay71, pay74, pay75, pay76, pay77, pay78, pay79, pay80, pay81]

end Cert.Proof.Head

end
-- ==== Proof.Spec.lean ====
/- Hand-written, untrusted. The gradient of one dilated window, over the positions of the sequence. -/
module

public import proofs.«01_k».proof.Proof.Softmax
public import Idealize.ShloMosaic.Lib.Pointwise
public import Idealize.ShloMosaic.Lib.WordCmp

@[expose] public section

noncomputable section

namespace Cert.Proof.Spec

open Idealize.ShloMosaic Idealize.ShloMosaic.Pointwise

/-! ## Small words -/

theorem add_small {x y : BitVec 32} (h : -2147483648 ≤ x.toInt + y.toInt) (h' : x.toInt + y.toInt < 2147483648) :
    (IntOp.addi x y).toInt = x.toInt + y.toInt := by
  rw [show IntOp.addi x y = x + y from rfl, BitVec.toInt_add]
  exact Int.bmod_eq_of_le (by omega) (by omega)
theorem sub_small {x y : BitVec 32} (h : -2147483648 ≤ x.toInt - y.toInt) (h' : x.toInt - y.toInt < 2147483648) :
    (IntOp.subi x y).toInt = x.toInt - y.toInt := by
  rw [show IntOp.subi x y = x - y from rfl, BitVec.toInt_sub]
  exact Int.bmod_eq_of_le (by omega) (by omega)

/-! ## The gradients -/

/-- One array of the sequence: 2048 positions, 256 lanes. -/
abbrev Arr := (⟨2, ![2048, 256]⟩ : Shape).Idx → EReal

/-- Lane `c` of head `h`. -/
def lane (h : Fin 4) (c : Fin 64) : Fin 256 := ⟨h.val * 64 + c.val, by omega⟩
/-- The position of row `i` of block `n` of residue `r`. -/
def pos (r n : Fin 4) (i : Fin 128) : Fin 2048 := ⟨(n.val * 128 + i.val) * 4 + r.val, by omega⟩

theorem lane_surj (l : Fin 256) : ∃ h c, l = lane h c :=
  ⟨⟨l.val / 64, by omega⟩, ⟨l.val % 64, by omega⟩, Fin.ext (by simp only [lane]; omega)⟩
theorem pos_surj (t : Fin 2048) : ∃ r n i, t = pos r n i :=
  ⟨⟨t.val % 4, by omega⟩, ⟨t.val / 512, by omega⟩, ⟨t.val / 4 % 128, by omega⟩, Fin.ext (by simp only [pos]; omega)⟩

/-- The keys a query row of block `n` looks at: itself and the 128 rows before it, of which there are none before the
    first block. -/
def mk (n : Fin 4) (i : Fin 128) (j : Fin 256) : Prop := i.val ≤ j.val ∧ j.val ≤ i.val + 128 ∧ (0 < n.val ∨ 128 ≤ j.val)
instance (n : Fin 4) (i : Fin 128) (j : Fin 256) : Decidable (mk n i j) := inferInstanceAs (Decidable (_ ∧ _ ∧ (_ ∨ _)))

theorem mk_some (n : Fin 4) (i : Fin 128) : ∃ j, mk n i j :=
  ⟨⟨i.val + 128, by omega⟩, by simp only [mk]; omega⟩

/-- Row `j` of a block's two blocks of keys or values: the block before, of which the first block has zeros, then
    itself. -/
def key (x : Arr) (r n h : Fin 4) (j : Fin 256) (c : Fin 64) : EReal :=
  if hj : j.val < 128 then if n.val < 1 then 0 else x (ix2 (pos r ⟨n.val - 1, by omega⟩ ⟨j.val, hj⟩) (lane h c))
  else x (ix2 (pos r n ⟨j.val - 128, by omega⟩) (lane h c))
/-- Row `i` of a block. -/
def row (x : Arr) (r n h : Fin 4) (i : Fin 128) (c : Fin 64) : EReal := x (ix2 (pos r n i) (lane h c))

/-- The products of the rows of one array with the keys of another. -/
def dots (x k : Arr) (r n h : Fin 4) (i : Fin 128) (j : Fin 256) : EReal := ∑ c, row x r n h i c * key k r n h j c
/-- The gradient of the scores. -/
def ds (q k v g e : Arr) (r n h : Fin 4) : Fin 128 → Fin 256 → EReal :=
  Softmax.grad (mk n) (dots q k r n h) (dots g v r n h) (fun i => ∑ c, row e r n h i c)
/-- The probabilities. -/
def pr (q k : Arr) (r n h : Fin 4) (i : Fin 128) (j : Fin 256) : EReal :=
  Ideal.div (Softmax.p (mk n) (dots q k r n h) i j) (Softmax.l (mk n) (dots q k r n h) i)

/-- The gradient of q. -/
def dq (q k v g e : Arr) (r n h : Fin 4) (i : Fin 128) (c : Fin 64) : EReal := ∑ j, ds q k v g e r n h i j * key k r n h j c
/-- What block `n` gives to the gradient of its 256 keys, from weights `a` and rows `x`. -/
def cols (a : Fin 4 → Fin 128 → Fin 256 → EReal) (x : Arr) (r n h : Fin 4) (j : Fin 256) (c : Fin 64) : EReal :=
  ∑ i, a n i j * row x r n h i c
/-- A row's sum over the two blocks that see it: its own and the one after. -/
def both (a : Fin 4 → Fin 128 → Fin 256 → EReal) (x : Arr) (r n h : Fin 4) (i : Fin 128) (c : Fin 64) : EReal :=
  cols a x r n h ⟨128 + i.val, by omega⟩ c
    + if hn : n.val < 3 then cols a x r ⟨1 + n.val, by omega⟩ h ⟨i.val, by omega⟩ c else 0
/-- The gradient of k. -/
def dk (q k v g e : Arr) (r n h : Fin 4) (i : Fin 128) (c : Fin 64) : EReal :=
  both (fun n => ds q k v g e r n h) q r n h i c
/-- The gradient of v. -/
def dv (q k g : Arr) (r n h : Fin 4) (i : Fin 128) (c : Fin 64) : EReal := both (fun n => pr q k r n h) g r n h i c

end Cert.Proof.Spec

end
-- ==== Proof.Block.lean ====
/- Hand-written, untrusted. One grid point of the kernel: its five results, read entry by entry. -/
module

public import proofs.«01_k».proof.Proof.Head
public import proofs.«01_k».proof.Proof.Spec
public import Idealize.ShloMosaic.Lib.WordCmp

@[expose] public section

set_option maxRecDepth 16384

noncomputable section

namespace Cert.Proof.Block

open Idealize.ShloMosaic Cert.KernelIdeal Cert.KernelIdeal.Gen Idealize.ShloMosaic.Pointwise
open Spec (mk)
open Head (lane)

variable (i : grid0.Coords) (x0 x1 x2 x3 x4 x5 x6 : Vec Ideal S1x128x256 .f32)

/-- The kernel's test that a block has one before it: its number's remainder by 4, above 0. -/
def prev (b : BitVec 32) : BitVec 1 :=
  let d : BitVec 32 := Scalar.select (Scalar.cmpi .eq 4#32 0#32) 1#32 4#32
  let m : BitVec 32 := Scalar.remsi b d
  Scalar.cmpi .sgt (Scalar.select (Scalar.andi (Scalar.xori (Scalar.cmpi .slt m 0#32) (Scalar.cmpi .slt d 0#32))
    (Scalar.cmpi .ne m 0#32)) (Scalar.addi m d) m) 0#32
theorem prev_eq : ∀ b : Fin 16, prev (BitVec.ofNat 32 b.val) = BitVec.ofBool (decide (0 < b.val % 4)) := by decide

theorem M_apply (n : Fin 4) (hn : (i 0).val % 4 = n.val) (r : Fin 128) (j : Fin 256) :
    Head.M i x0 x1 x2 x3 x4 x5 x6 (ix2 r j) = 1#1 ↔ mk n r j := by
  have hM : Head.M i x0 x1 x2 x3 x4 x5 x6 = k0_pay13 (prev (BitVec.ofNat 32 (i 0).val)) (iota .tc S128x256 32 [0] iota_S128x256_d0_w32)
    (iota .tc S128x256 32 [1] iota_S128x256_d1_w32) k0_pay11 k0_pay12 := rfl
  rw [hM, show prev (BitVec.ofNat 32 (i 0).val) = _ from prev_eq (i 0), hn]
  pointwise [k0_pay13, k0_pay11, k0_pay12]
  have hr := r.isLt
  have hj := j.isLt
  have er : (BitVec.ofNat 32 r.val).toInt = r.val := WordCmp.toInt_ofNat_of_lt (by omega)
  have ej : (BitVec.ofNat 32 j.val).toInt = j.val := WordCmp.toInt_ofNat_of_lt (by omega)
  have e128 : (128#32).toInt = 128 := rfl
  have es := Spec.sub_small (x := BitVec.ofNat 32 j.val) (y := 128#32) (by omega) (by omega)
  simp only [WordCmp.cmpi_sge_eq, WordCmp.cmpi_sle_eq, WordCmp.cmpi_slt_eq, WordCmp.andi_ofBool, WordCmp.ori_ofBool,
    WordCmp.ofBool_eq_one_iff, Bool.and_eq_true, Bool.or_eq_true, decide_eq_true_eq, mk]
  omega

/-- Row `j` of two blocks of keys. -/
def key2 (kp kc : Vec Ideal S1x128x256 .f32) (h : Fin 4) (j : Fin 256) (c : Fin 64) : EReal :=
  if hj : j.val < 128 then kp (ix3 0 ⟨j.val, hj⟩ (lane h c)) else kc (ix3 0 ⟨j.val - 128, by omega⟩ (lane h c))
/-- Row `r` of a block. -/
def row1 (x : Vec Ideal S1x128x256 .f32) (h : Fin 4) (r : Fin 128) (c : Fin 64) : EReal := x (ix3 0 r (lane h c))

theorem part128_blk (x : Vec Ideal S1x128x256 .f32) (h : Fin 4) (r : Fin 128) (c : Fin 64) :
    Head.part128 (Head.blk x) h (ix2 r c) = row1 x h r c := by
  pointwise [Head.part128, Head.blk]
  rfl
theorem part256_cat (x y : Vec Ideal S1x128x256 .f32) (h : Fin 4) (j : Fin 256) (c : Fin 64) :
    Head.part256 (Head.cat x y) h (ix2 j c) = key2 x y h j c := by
  pointwise [Head.part256, Head.cat, Head.blk]
  rfl

/-- The products of a block's rows with the keys of two. -/
def dots2 (q kp kc : Vec Ideal S1x128x256 .f32) (h : Fin 4) (r : Fin 128) (j : Fin 256) : EReal :=
  ∑ c, row1 q h r c * key2 kp kc h j c
/-- The gradient of the block's scores. -/
def ds2 (n : Fin 4) (q kp kc vp vc g e : Vec Ideal S1x128x256 .f32) (h : Fin 4) : Fin 128 → Fin 256 → EReal :=
  Softmax.grad (mk n) (dots2 q kp kc h) (dots2 g vp vc h) (fun r => ∑ c, row1 e h r c)
/-- The block's probabilities. -/
def pr2 (n : Fin 4) (q kp kc : Vec Ideal S1x128x256 .f32) (h : Fin 4) (r : Fin 128) (j : Fin 256) : EReal :=
  Ideal.div (Softmax.p (mk n) (dots2 q kp kc h) r j) (Softmax.l (mk n) (dots2 q kp kc h) r)

theorem mask_eq (n : Fin 4) (hn : (i 0).val % 4 = n.val) :
    (fun (r : Fin 128) (j : Fin 256) => Head.M i x0 x1 x2 x3 x4 x5 x6 (ix2 r j) = 1#1) = mk n :=
  funext fun r => funext fun j => propext (M_apply i x0 x1 x2 x3 x4 x5 x6 n hn r j)

theorem dsB_apply (n : Fin 4) (hn : (i 0).val % 4 = n.val) (h : Fin 4) (r : Fin 128) (j : Fin 256) :
    Head.dsB (Head.M i x0 x1 x2 x3 x4 x5 x6) x0 x1 x2 x3 x4 x5 x6 h (ix2 r j) = ds2 n x0 x1 x2 x3 x4 x5 x6 h r j := by
  rw [Head.dsB, Head.dsV_apply]
  simp only [part128_blk, part256_cat]
  unfold ds2 dots2
  congr! 1
  exact mask_eq i x0 x1 x2 x3 x4 x5 x6 n hn
theorem prB_apply (n : Fin 4) (hn : (i 0).val % 4 = n.val) (h : Fin 4) (r : Fin 128) (j : Fin 256) :
    Head.normV (Head.pV (Head.M i x0 x1 x2 x3 x4 x5 x6) (Head.part128 (Head.blk x0) h) (Head.part256 (Head.cat x1 x2) h)) (ix2 r j)
      = pr2 n x0 x1 x2 h r j := by
  rw [Head.normV_apply]
  simp only [Head.pV_apply, part128_blk, part256_cat]
  unfold pr2 Softmax.l dots2
  congr! 1
  · congr! 1
    exact mask_eq i x0 x1 x2 x3 x4 x5 x6 n hn
  · refine Finset.sum_congr rfl fun j _ => ?_
    congr! 1
    exact mask_eq i x0 x1 x2 x3 x4 x5 x6 n hn

theorem dq_apply (n : Fin 4) (hn : (i 0).val % 4 = n.val) (h : Fin 4) (r : Fin 128) (c : Fin 64) :
    out0_7 i x0 x1 x2 x3 x4 x5 x6 (ix3 0 r (lane h c)) = ∑ j, ds2 n x0 x1 x2 x3 x4 x5 x6 h r j * key2 x1 x2 h j c := by
  rw [Head.out7]
  pointwise []
  rw [Head.join128_apply (fun h => Head.dqB (Head.M i x0 x1 x2 x3 x4 x5 x6) x0 x1 x2 x3 x4 x5 x6 h), Head.dqB, Head.rowsV_apply]
  simp only [dsB_apply i x0 x1 x2 x3 x4 x5 x6 n hn, part256_cat]
theorem dkp_apply (n : Fin 4) (hn : (i 0).val % 4 = n.val) (h : Fin 4) (r : Fin 128) (c : Fin 64) :
    out0_8 i x0 x1 x2 x3 x4 x5 x6 (ix3 0 r (lane h c)) = ∑ s, ds2 n x0 x1 x2 x3 x4 x5 x6 h s ⟨r.val, by omega⟩ * row1 x0 h s c := by
  rw [Head.out8]
  pointwise [Head.top]
  rw [Head.join256_apply (fun h => Head.dkB (Head.M i x0 x1 x2 x3 x4 x5 x6) x0 x1 x2 x3 x4 x5 x6 h), Head.dkB, Head.colsV_apply]
  simp only [dsB_apply i x0 x1 x2 x3 x4 x5 x6 n hn, part128_blk]
theorem dkc_apply (n : Fin 4) (hn : (i 0).val % 4 = n.val) (h : Fin 4) (r : Fin 128) (c : Fin 64) :
    out0_9 i x0 x1 x2 x3 x4 x5 x6 (ix3 0 r (lane h c)) = ∑ s, ds2 n x0 x1 x2 x3 x4 x5 x6 h s ⟨128 + r.val, by omega⟩ * row1 x0 h s c := by
  rw [Head.out9]
  pointwise [Head.bottom]
  rw [Head.join256_apply (fun h => Head.dkB (Head.M i x0 x1 x2 x3 x4 x5 x6) x0 x1 x2 x3 x4 x5 x6 h), Head.dkB, Head.colsV_apply]
  simp only [dsB_apply i x0 x1 x2 x3 x4 x5 x6 n hn, part128_blk]
theorem dvp_apply (n : Fin 4) (hn : (i 0).val % 4 = n.val) (h : Fin 4) (r : Fin 128) (c : Fin 64) :
    out0_10 i x0 x1 x2 x3 x4 x5 x6 (ix3 0 r (lane h c)) = ∑ s, pr2 n x0 x1 x2 h s ⟨r.val, by omega⟩ * row1 x5 h s c := by
  rw [Head.out10]
  pointwise [Head.top]
  rw [Head.join256_apply (fun h => Head.dvB (Head.M i x0 x1 x2 x3 x4 x5 x6) x0 x1 x2 x5 h), Head.dvB, Head.colsV_apply]
  simp only [prB_apply i x0 x1 x2 x3 x4 x5 x6 n hn, part128_blk]
theorem dvc_apply (n : Fin 4) (hn : (i 0).val % 4 = n.val) (h : Fin 4) (r : Fin 128) (c : Fin 64) :
    out0_11 i x0 x1 x2 x3 x4 x5 x6 (ix3 0 r (lane h c)) = ∑ s, pr2 n x0 x1 x2 h s ⟨128 + r.val, by omega⟩ * row1 x5 h s c := by
  rw [Head.out11]
  pointwise [Head.bottom]
  rw [Head.join256_apply (fun h => Head.dvB (Head.M i x0 x1 x2 x3 x4 x5 x6) x0 x1 x2 x5 h), Head.dvB, Head.colsV_apply]
  simp only [prB_apply i x0 x1 x2 x3 x4 x5 x6 n hn, part128_blk]

end Cert.Proof.Block

end
-- ==== Proof.Host.lean ====
/- Hand-written, untrusted. The kernel program's host lines, its blocks, and its three results. -/
module

public import proofs.«01_k».proof.Proof.Block
public import Idealize.ShloMosaic.Lib.Pipeline.ValueKit

@[expose] public section

set_option maxRecDepth 16384

noncomputable section

namespace Cert.Proof.Host

open Idealize.ShloMosaic Idealize.ShloMosaic.TcCoe Cert.KernelIdeal Cert.KernelIdeal.Gen Idealize.ShloMosaic.Pointwise
open Spec (mk pos)
open Head (lane)

/-- An array by position. -/
abbrev Seq := FVec Ideal S2048x256 .f32
/-- An array by blocks of a residue's rows. -/
abbrev Blocks := FVec Ideal S16x128x256 .f32

/-- The host lines that lay an array out by residue. -/
def toRes (x : Seq) : Blocks :=
  shapeCast S16x128x256 (transpose S4x512x256 [1, 0, 2] (shapeCast S512x4x256 x shapeCasts_S2048x256_S512x4x256)
    transposes_S512x4x256_S4x512x256_1_0_2) shapeCasts_S4x512x256_S16x128x256
/-- The host lines that lay a result out by position. -/
def fromRes (x : Blocks) : Seq :=
  shapeCast S2048x256 (transpose S512x4x256 [1, 0, 2] (shapeCast S4x512x256 x shapeCasts_S16x128x256_S4x512x256)
    transposes_S4x512x256_S512x4x256_1_0_2) shapeCasts_S512x4x256_S2048x256
/-- The host lines that add to each block what the next block gives it. -/
def addNext (x y : Blocks) : Blocks :=
  addf x (concatenate S16x128x256 0 [⟨S15x128x256, extractStridedSlice S15x128x256 ![1, 0, 0] y slices_S16x128x256_S15x128x256_1_0_0⟩,
    ⟨S1x128x256, broadcastInDim S1x128x256 ![] bcast_S_S1x128x256 (constant S_ .f32 0x00000000#32 : FVec Ideal S_ .f32)⟩]
    concatenates_S15x128x256_S1x128x256_S16x128x256_d0)

/-- Block `n` of residue `r`. -/
def blkNo (r n : Fin 4) : Fin 16 := ⟨r.val * 4 + n.val, by omega⟩

theorem toRes_apply (x : Seq) (r n : Fin 4) (i : Fin 128) (l : Fin 256) : toRes x (ix3 (blkNo r n) i l) = x (ix2 (pos r n i) l) := by
  pointwise [toRes]
  refine congrArg x (funext fun a => Fin.ext ?_)
  match a with
  | ⟨0, _⟩ => dsimp [ix2, pos, blkNo]; omega
  | ⟨1, _⟩ => rfl
theorem fromRes_apply (x : Blocks) (r n : Fin 4) (i : Fin 128) (l : Fin 256) : fromRes x (ix2 (pos r n i) l) = x (ix3 (blkNo r n) i l) := by
  pointwise [fromRes]
  refine congrArg x (funext fun a => Fin.ext ?_)
  match a with
  | ⟨0, _⟩ => dsimp [ix3, pos, blkNo]; omega
  | ⟨1, _⟩ => dsimp [ix3, pos]; omega
  | ⟨2, _⟩ => rfl
theorem addNext_apply (x y : Blocks) (b : Fin 16) (i : Fin 128) (l : Fin 256) :
    addNext x y (ix3 b i l) = x (ix3 b i l) + if hb : b.val < 15 then y (ix3 ⟨1 + b.val, by omega⟩ i l) else 0 := by
  pointwise [addNext]

variable (m : (ℓ : Loc nD τ sig) → Buf (Elt Ideal) ℓ) (ρ : Dev nD → PrngReg) (c : Dev nD)

/-- The five arguments. -/
abbrev a0 : Seq := m ((c : Thread nD τ).loc main_arg0)
abbrev a1 : Seq := m ((c : Thread nD τ).loc main_arg1)
abbrev a2 : Seq := m ((c : Thread nD τ).loc main_arg2)
abbrev a3 : Seq := m ((c : Thread nD τ).loc main_arg3)
abbrev a4 : Seq := m ((c : Thread nD τ).loc main_arg4)

theorem V_v2 : V m c main_v2 = toRes (a0 m c) := by
  show StableHlo.after hostOps0 _ (Proc.devRef .tc main_v2) = _
  after_results
  rfl
theorem V_v5 : V m c main_v5 = toRes (a1 m c) := by
  show StableHlo.after hostOps0 _ (Proc.devRef .tc main_v5) = _
  after_results
  rfl
theorem V_v8 : V m c main_v8 = toRes (a2 m c) := by
  show StableHlo.after hostOps0 _ (Proc.devRef .tc main_v8) = _
  after_results
  rfl
theorem V_v11 : V m c main_v11 = toRes (a3 m c) := by
  show StableHlo.after hostOps0 _ (Proc.devRef .tc main_v11) = _
  after_results
  rfl
theorem V_v14 : V m c main_v14 = toRes (a4 m c) := by
  show StableHlo.after hostOps0 _ (Proc.devRef .tc main_v14) = _
  after_results
  rfl

/-- The grid point of a block. -/
abbrev pt (b : Fin 16) : Fin cfg0.N := b
/-- The block before, the first for itself. -/
def before (b : Fin 16) : Fin 16 := ⟨b.val - 1, by omega⟩

theorem e_prev : ∀ t : Fin cfg0.N, win0_1.index t = ![t.val - 1, 0, 0] ∧ win0_3.index t = ![t.val - 1, 0, 0] :=
  (by decide +kernel : ∀ t : Fin grid0.N, _)
theorem e_own : ∀ t : Fin cfg0.N, win0_0.index t = ![t.val, 0, 0] ∧ win0_2.index t = ![t.val, 0, 0] ∧ win0_4.index t = ![t.val, 0, 0]
    ∧ win0_5.index t = ![t.val, 0, 0] ∧ win0_6.index t = ![t.val, 0, 0] := (by decide +kernel : ∀ t : Fin grid0.N, _)
theorem e_out : ∀ t : Fin cfg0.N, win0_7.index t = ![t.val, 0, 0] ∧ win0_8.index t = ![t.val, 0, 0] ∧ win0_9.index t = ![t.val, 0, 0]
    ∧ win0_10.index t = ![t.val, 0, 0] ∧ win0_11.index t = ![t.val, 0, 0] := (by decide +kernel : ∀ t : Fin grid0.N, _)

theorem iblk0 (b : Fin 16) (i : Fin 128) (l : Fin 256) : iblk m c 0 (pt b) (ix3 0 i l) = toRes (a0 m c) (ix3 b i l) := by
  rw [← V_v2]
  blk_simp [iblk]
  refine congrArg _ ?_
  blk_ext [(e_own (pt b)).1]
  all_goals rfl
theorem iblk1 (b : Fin 16) (i : Fin 128) (l : Fin 256) : iblk m c 1 (pt b) (ix3 0 i l) = toRes (a1 m c) (ix3 (before b) i l) := by
  rw [← V_v5]
  blk_simp [iblk]
  refine congrArg _ ?_
  blk_ext [(e_prev (pt b)).1]
  all_goals rfl
theorem iblk2 (b : Fin 16) (i : Fin 128) (l : Fin 256) : iblk m c 2 (pt b) (ix3 0 i l) = toRes (a1 m c) (ix3 b i l) := by
  rw [← V_v5]
  blk_simp [iblk]
  refine congrArg _ ?_
  blk_ext [(e_own (pt b)).2.1]
  all_goals rfl
theorem iblk3 (b : Fin 16) (i : Fin 128) (l : Fin 256) : iblk m c 3 (pt b) (ix3 0 i l) = toRes (a2 m c) (ix3 (before b) i l) := by
  rw [← V_v8]
  blk_simp [iblk]
  refine congrArg _ ?_
  blk_ext [(e_prev (pt b)).2]
  all_goals rfl
theorem iblk4 (b : Fin 16) (i : Fin 128) (l : Fin 256) : iblk m c 4 (pt b) (ix3 0 i l) = toRes (a2 m c) (ix3 b i l) := by
  rw [← V_v8]
  blk_simp [iblk]
  refine congrArg _ ?_
  blk_ext [(e_own (pt b)).2.2.1]
  all_goals rfl
theorem iblk5 (b : Fin 16) (i : Fin 128) (l : Fin 256) : iblk m c 5 (pt b) (ix3 0 i l) = toRes (a3 m c) (ix3 b i l) := by
  rw [← V_v11]
  blk_simp [iblk]
  refine congrArg _ ?_
  blk_ext [(e_own (pt b)).2.2.2.1]
  all_goals rfl
theorem iblk6 (b : Fin 16) (i : Fin 128) (l : Fin 256) : iblk m c 6 (pt b) (ix3 0 i l) = toRes (a4 m c) (ix3 b i l) := by
  rw [← V_v14]
  blk_simp [iblk]
  refine congrArg _ ?_
  blk_ext [(e_own (pt b)).2.2.2.2]
  all_goals rfl

/-- A block. -/
abbrev Blk := Vec Ideal S1x128x256 .f32
/-- What a block's seven inputs become, for every block, as one array. -/
def each (f : grid0.Coords → Blk → Blk → Blk → Blk → Blk → Blk → Blk → Blk) : Blocks := fun y =>
  f (grid0.coords (pt (y 0))) (iblk m c 0 (pt (y 0))) (iblk m c 1 (pt (y 0))) (iblk m c 2 (pt (y 0)))
    (iblk m c 3 (pt (y 0))) (iblk m c 4 (pt (y 0))) (iblk m c 5 (pt (y 0))) (iblk m c 6 (pt (y 0))) (ix3 0 (y 1) (y 2))

/-- An entry of a block of `each f`. -/
theorem each_blk (f : grid0.Coords → Blk → Blk → Blk → Blk → Blk → Blk → Blk → Blk) (t : Fin 16) (z : S16x128x256.Idx) (y : S1x128x256.Idx)
    (hz : z = ix3 t (y 1) (y 2)) : f (grid0.coords (pt t)) (iblk m c 0 (pt t)) (iblk m c 1 (pt t)) (iblk m c 2 (pt t)) (iblk m c 3 (pt t))
      (iblk m c 4 (pt t)) (iblk m c 5 (pt t)) (iblk m c 6 (pt t)) y = each m c f z := by
  subst hz
  refine congrArg _ (funext fun a => Fin.ext ?_)
  match a with
  | ⟨0, _⟩ => exact Nat.lt_one_iff.mp (y 0).isLt
  | ⟨1, _⟩ => rfl
  | ⟨2, _⟩ => rfl

/-- `each f` at an entry of block `b`. -/
theorem each_at (f : grid0.Coords → Blk → Blk → Blk → Blk → Blk → Blk → Blk → Blk) (b : Fin 16) (i : Fin 128) (l : Fin 256) :
    each m c f (ix3 b i l) = f (grid0.coords (pt b)) (iblk m c 0 (pt b)) (iblk m c 1 (pt b)) (iblk m c 2 (pt b)) (iblk m c 3 (pt b))
      (iblk m c 4 (pt b)) (iblk m c 5 (pt b)) (iblk m c 6 (pt b)) (ix3 0 i l) := rfl

theorem final7 : (dats m 0 c).arrAt 7 cfg0.N = each m c out0_7 := by
  refine (dats m 0 c).arrAt_eq_of_covers 7 _ (by decide +kernel) fun t hf y => ?_
  blk_simp
  rw [after0_7]
  refine each_blk m c out0_7 t _ y ?_
  idx_bounds y
  blk_ext [(e_out t).1]
  all_goals omega
theorem final8 : (dats m 0 c).arrAt 8 cfg0.N = each m c out0_8 := by
  refine (dats m 0 c).arrAt_eq_of_covers 8 _ (by decide +kernel) fun t hf y => ?_
  blk_simp
  rw [after0_8]
  refine each_blk m c out0_8 t _ y ?_
  idx_bounds y
  blk_ext [(e_out t).2.1]
  all_goals omega
theorem final9 : (dats m 0 c).arrAt 9 cfg0.N = each m c out0_9 := by
  refine (dats m 0 c).arrAt_eq_of_covers 9 _ (by decide +kernel) fun t hf y => ?_
  blk_simp
  rw [after0_9]
  refine each_blk m c out0_9 t _ y ?_
  idx_bounds y
  blk_ext [(e_out t).2.2.1]
  all_goals omega
theorem final10 : (dats m 0 c).arrAt 10 cfg0.N = each m c out0_10 := by
  refine (dats m 0 c).arrAt_eq_of_covers 10 _ (by decide +kernel) fun t hf y => ?_
  blk_simp
  rw [after0_10]
  refine each_blk m c out0_10 t _ y ?_
  idx_bounds y
  blk_ext [(e_out t).2.2.2.1]
  all_goals omega
theorem final11 : (dats m 0 c).arrAt 11 cfg0.N = each m c out0_11 := by
  refine (dats m 0 c).arrAt_eq_of_covers 11 _ (by decide +kernel) fun t hf y => ?_
  blk_simp
  rw [after0_11]
  refine each_blk m c out0_11 t _ y ?_
  idx_bounds y
  blk_ext [(e_out t).2.2.2.2]
  all_goals omega

/-- The contents after the host lines that follow. -/
abbrev fin (b : Ref sig .tc) := Pipeline.afterTail₀ cfgs (dats m) 0 (V0 m) [hostOps1] c b

/-- The arrays of the region, read after it. -/
theorem arrays (w : Fin 12) : Pipeline.withArrays spec0 c (V0 m c) (fun w => (dats m 0 c).arrAt w cfg0.N) (Proc.devRef .tc (Pipeline.arrRef spec0 w))
    = (dats m 0 c).arrAt w cfg0.N := by
  refine Pipeline.withArrays_arr_shared spec0 c _ _ (fun w w' hne e => ?_) w
  have hs : Pipeline.SharedIn spec0 := by decide
  exact ((dats m 0 c).arrAt_in w (hs w w' hne e) _).trans (A_eq m c w)

theorem dq_fin : fin m c main_v28 = fromRes (each m c out0_7) := by
  rw [← final7 m c, ← arrays m c 7]
  show StableHlo.after hostOps1 _ (Proc.devRef .tc main_v28) = _
  after_results
  rfl
theorem dk_fin : fin m c main_v31 = fromRes (addNext (each m c out0_9) (each m c out0_8)) := by
  rw [← final8 m c, ← final9 m c, ← arrays m c 8, ← arrays m c 9]
  show StableHlo.after hostOps1 _ (Proc.devRef .tc main_v31) = _
  after_results
  rfl
theorem dv_fin : fin m c main_v34 = fromRes (addNext (each m c out0_11) (each m c out0_10)) := by
  rw [← final10 m c, ← final11 m c, ← arrays m c 10, ← arrays m c 11]
  show StableHlo.after hostOps1 _ (Proc.devRef .tc main_v34) = _
  after_results
  rfl

/-- The kernel's run: its three results, and its arguments unchanged. -/
theorem run : θ_run defs (onTc (τ := τ) (main (F := Ideal))) ⟨m, fun _ => 0, ρ⟩ (fun r => ∀ c : Dev nD,
    r.2.mem ((c.tc : Thread nD τ).loc main_v28) = fromRes (each m c out0_7)
    ∧ r.2.mem ((c.tc : Thread nD τ).loc main_v31) = fromRes (addNext (each m c out0_9) (each m c out0_8))
    ∧ r.2.mem ((c.tc : Thread nD τ).loc main_v34) = fromRes (addNext (each m c out0_11) (each m c out0_10))) :=
  (θ_run defs _ _).mono (fun _ h c => ⟨((h c).2 main_v28 (Pipeline.mem_restRefs_of main_v28 (by decide) (by decide))).trans (dq_fin m c),
    ((h c).2 main_v31 (Pipeline.mem_restRefs_of main_v31 (by decide) (by decide))).trans (dk_fin m c),
    ((h c).2 main_v34 (Pipeline.mem_restRefs_of main_v34 (by decide) (by decide))).trans (dv_fin m c)⟩) (run_main m ρ)

end Cert.Proof.Host

end
-- ==== Proof.Ref.lean ====
/- Hand-written, untrusted. The reference program's values, read entry by entry. -/
module

public import proofs.«01_k».proof.Proof.Spec
public import proofs.«01_k».proof.Proof.Gen.ReferenceIdeal.Read
public import Idealize.ShloMosaic.Lib.KernelVsHost
public import Idealize.ShloMosaic.Lib.WordCmp

@[expose] public section

set_option maxRecDepth 16384

noncomputable section

namespace Cert.Proof.Ref

open Idealize.ShloMosaic Cert.ReferenceIdeal Cert.ReferenceIdeal.Gen Cert.ReferenceIdeal.Read Idealize.ShloMosaic.Pointwise
open Spec (lane pos mk key row dots)

/-- An argument array. -/
abbrev Arr := (⟨S2048x256, .f32⟩ : BufTy).Contents (Elt Ideal)

variable (x0 x1 x2 x3 x4 : Arr) (r n h : Fin 4) (i : Fin 128) (j : Fin 256) (c : Fin 64)

theorem v3 (t : Fin 2048) : val_main_v3 (F := Ideal) x0 (ix4 0 t h c) = x0 (ix2 t (lane h c)) := by
  rw [val_main_v3_apply, val_main_v0_apply]
  refine congrArg x0 (funext fun a => Fin.ext ?_)
  match a with
  | ⟨0, _⟩ => dsimp [ix4, ix2]; omega
  | ⟨1, _⟩ => dsimp [ix4, ix2, lane]; omega
theorem v7 (m : Fin 512) : val_main_v7 (F := Ideal) x0 (ix5 0 r m h c) = x0 (ix2 ⟨m.val * 4 + r.val, by omega⟩ (lane h c)) := by
  refine Eq.trans ?_ (v3 x0 h c ⟨m.val * 4 + r.val, by omega⟩)
  rw [val_main_v7_apply, val_main_v6_apply]
  refine congrArg _ (funext fun a => Fin.ext ?_)
  match a with
  | ⟨0, _⟩ => dsimp [ix5, ix4]
  | ⟨1, _⟩ => dsimp [ix5, ix4]; omega
  | ⟨2, _⟩ => dsimp [ix5, ix4]; omega
  | ⟨3, _⟩ => dsimp [ix5, ix4]; omega
theorem v9 : val_main_v9 (F := Ideal) x0 (ix5 r n i h c) = row x0 r n h i c := by
  refine Eq.trans ?_ (v7 x0 r h c ⟨n.val * 128 + i.val, by omega⟩)
  rw [val_main_v9_apply, val_main_v8_apply]
  refine congrArg _ (funext fun a => Fin.ext ?_)
  match a with
  | ⟨0, _⟩ => dsimp [ix5, ix4]
  | ⟨1, _⟩ => dsimp [ix5, ix4]; omega
  | ⟨2, _⟩ => dsimp [ix5, ix4]; omega
  | ⟨3, _⟩ => dsimp [ix5, ix4]; omega
  | ⟨4, _⟩ => dsimp [ix5, ix4]; omega
theorem v13 : val_main_v13 (F := Ideal) x1 (ix5 r n i h c) = row x1 r n h i c := v9 x1 r n h i c
theorem v23 : val_main_v23 (F := Ideal) x2 (ix5 r n i h c) = row x2 r n h i c := v9 x2 r n h i c
theorem v113 : val_main_v113 (F := Ideal) x3 (ix5 r n i h c) = row x3 r n h i c := by
  pointwise [val_main_v113, val_main_v112, val_main_v111, val_main_v106, val_main_v104]
  refine congrArg x3 (funext fun a => Fin.ext ?_)
  match a with
  | ⟨0, _⟩ => dsimp [ix2, pos]
  | ⟨1, _⟩ => dsimp [ix2, lane]

theorem v19 : val_main_v19 (F := Ideal) x1 (ix5 r n j h c) = key x1 r n h j c := by
  pointwise [val_main_v19, val_main_v17, val_main_v16, val_main_v15, val_main_cst]
  simp only [v13, key, row]
  rfl
theorem v29 : val_main_v29 (F := Ideal) x1 (ix5 r n j h c) = key x1 r n h j c := by
  pointwise [val_main_v29, val_main_v27, val_main_v26, val_main_v25, val_main_cst_1]
  simp only [v23, key, row]
  rfl

theorem v30 : val_main_v30 (F := Ideal) x0 x1 (ix5 r n h i j) = dots x0 x1 r n h i j := by
  pointwise [val_main_v30]
  simp only [v9, v19, dots]

theorem v62 : val_main_v62 (F := Ideal) (ix3 n i j) = 1#1 ↔ mk n i j := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_c, val_main_c_3, val_main_c_4, val_main_c_5, val_main_c_6, val_main_c_7]
  have hn := n.isLt
  have hi := i.isLt
  have hj := j.isLt
  have e0 : (IntOp.muli (BitVec.ofNat 32 n.val) 128#32).toInt = n.val * 128 := by
    rw [show IntOp.muli (BitVec.ofNat 32 n.val) 128#32 = BitVec.ofNat 32 (n.val * 128) from (BitVec.ofNat_mul ..).symm,
      WordCmp.toInt_ofNat_of_lt (by omega)]
    rfl
  have ei : (BitVec.ofNat 32 i.val).toInt = i.val := WordCmp.toInt_ofNat_of_lt (by omega)
  have ej : (BitVec.ofNat 32 j.val).toInt = j.val := WordCmp.toInt_ofNat_of_lt (by omega)
  have e128 : (128#32).toInt = 128 := rfl
  have e00 : (0#32).toInt = 0 := rfl
  have eq := Spec.add_small (x := IntOp.muli (BitVec.ofNat 32 n.val) 128#32) (y := BitVec.ofNat 32 i.val) (by omega) (by omega)
  have eb := Spec.sub_small (x := IntOp.muli (BitVec.ofNat 32 n.val) 128#32) (y := 128#32) (by omega) (by omega)
  have ek := Spec.add_small (x := IntOp.subi (IntOp.muli (BitVec.ofNat 32 n.val) 128#32) 128#32) (y := BitVec.ofNat 32 j.val) (by omega) (by omega)
  have ed := Spec.sub_small (x := IntOp.addi (IntOp.muli (BitVec.ofNat 32 n.val) 128#32) (BitVec.ofNat 32 i.val))
    (y := IntOp.addi (IntOp.subi (IntOp.muli (BitVec.ofNat 32 n.val) 128#32) 128#32) (BitVec.ofNat 32 j.val)) (by omega) (by omega)
  simp only [WordCmp.cmpi_sge_eq, WordCmp.cmpi_sle_eq, WordCmp.andi_ofBool, WordCmp.ofBool_eq_one_iff, Bool.and_eq_true, decide_eq_true_eq, mk]
  omega

theorem v64_1 : val_main_v64_1 (F := Ideal) (ix5 r n h i j) = 1#1 ↔ mk n i j := by
  pointwise [val_main_v64_1, val_main_v63]
  exact v62 n i j
theorem negInf : Ideal.ofBits .f32 0xFF800000#32 = ⊥ := by simp [Ideal.ofBits, Ideal.ieee]
theorem v64 : val_main_v64_0 (F := Ideal) x0 x1 (ix5 r n h i j) = Softmax.sc (mk n) (dots x0 x1 r n h) i j := by
  pointwise [val_main_v64_0, val_main_call0_v2, val_main_call0_v0, val_main_cst_8]
  have e : id (constant S_ FTy.f32 0xFF800000#32 : FVec Ideal S_ .f32) ix0 = ⊥ := negInf
  simp only [v30, Softmax.sc, e]
  exact if_congr (v62 n i j) rfl rfl
theorem v65 : val_main_v65 (F := Ideal) x0 x1 (ix4 r n h i) = Softmax.mx (mk n) (dots x0 x1 r n h) i := by
  pointwise [val_main_v65, val_main_cst_9]
  simp only [v64, Softmax.mx, negInf]
theorem v74 : val_main_v74 (F := Ideal) x0 x1 (ix5 r n h i j) = Softmax.p (mk n) (dots x0 x1 r n h) i j := by
  pointwise [val_main_v74, val_main_v73, val_main_v72, val_main_v71]
  simp only [v64, v65, Softmax.p]
theorem v76 : val_main_v76 (F := Ideal) x0 x1 (ix5 r n h i 0) = Softmax.l (mk n) (dots x0 x1 r n h) i := by
  pointwise [val_main_v76, val_main_v75, val_main_cst_11]
  simp only [v74, Softmax.l]
theorem v78 : val_main_v78 (F := Ideal) x0 x1 (ix5 r n h i j) = Spec.pr x0 x1 r n h i j := by
  pointwise [val_main_v78, val_main_v77]
  simp only [v74, v76, Spec.pr]
theorem v69 : val_main_v69 (F := Ideal) x0 x1 (ix5 r n h i j) = Softmax.atMax (mk n) (dots x0 x1 r n h) i j := by
  pointwise [val_main_v69, val_main_v68, val_main_v67, val_main_v66]
  simp only [v64, v65, Softmax.atMax]
  by_cases e : Softmax.sc (mk n) (dots x0 x1 r n h) i j = Softmax.mx (mk n) (dots x0 x1 r n h) i
  · simp only [e, decide_true, if_true]
    show (((BitVec.ofBool true).toNat : ℝ) : EReal) = 1
    simp
  · simp only [e, decide_false, if_false]
    show (((BitVec.ofBool false).toNat : ℝ) : EReal) = 0
    simp
theorem v70 : val_main_v70 (F := Ideal) x0 x1 (ix4 r n h i) = ∑ j, Softmax.atMax (mk n) (dots x0 x1 r n h) i j := by
  pointwise [val_main_v70, val_main_cst_10]
  simp only [v69]

theorem v116 : val_main_v116 (F := Ideal) x3 (ix5 r n h c i) = row x3 r n h i c := by
  pointwise [val_main_v116]
  rw [v113]
theorem v117 : val_main_v117 (F := Ideal) x2 x3 (ix5 r n h i j) = dots x3 x2 r n h i j := by
  pointwise [val_main_v117]
  simp only [v116, v29, dots]
theorem v119 : val_main_v119 (F := Ideal) x0 x1 x3 (ix5 r n j h c) = Spec.cols (fun n => Spec.pr x0 x1 r n h) x3 r n h j c := by
  pointwise [val_main_v119, val_main_v118]
  simp only [v116, v78, Spec.cols]
  exact Finset.sum_congr rfl fun _ _ => mul_comm _ _
/-- The cotangent of a query row's log-sum-exp: the sum of its lanes'. -/
abbrev esum (r n h : Fin 4) (i : Fin 128) : EReal := ∑ c, row x4 r n h i c
theorem v103 (t : Fin 2048) : val_main_v103 (F := Ideal) x4 (ix2 t h) = ∑ c, x4 (ix2 t (lane h c)) := by
  pointwise [val_main_v103, val_main_v102, val_main_v101, val_main_cst_14, val_main_cst_13]
  simp only [Finset.univ_unique, Finset.sum_singleton]
  refine Finset.sum_congr rfl fun c _ => ?_
  rw [val_main_v100_apply]
  refine congrArg x4 (funext fun a => Fin.ext ?_)
  match a with
  | ⟨0, _⟩ => dsimp [ix3, ix2]; omega
  | ⟨1, _⟩ => dsimp [ix3, ix2, lane]; omega
theorem v108 (m : Fin 512) : val_main_v108 (F := Ideal) x4 (ix4 0 r m h) = ∑ c, x4 (ix2 ⟨m.val * 4 + r.val, by omega⟩ (lane h c)) := by
  refine Eq.trans ?_ (v103 x4 h ⟨m.val * 4 + r.val, by omega⟩)
  rw [val_main_v108_apply, val_main_v107_apply, val_main_v105_apply]
  refine congrArg _ (funext fun a => Fin.ext ?_)
  match a with
  | ⟨0, _⟩ => dsimp [ix4, ix2]; omega
  | ⟨1, _⟩ => dsimp [ix4, ix2]; omega
theorem v114 : val_main_v114 (F := Ideal) x4 (ix5 r n h i 0) = esum x4 r n h i := by
  pointwise [val_main_v114, val_main_v110]
  refine Eq.trans ?_ (v108 x4 r h ⟨n.val * 128 + i.val, by omega⟩)
  rw [val_main_v109_apply]
  refine congrArg _ (funext fun a => Fin.ext ?_)
  match a with
  | ⟨0, _⟩ => dsimp [ix4]
  | ⟨1, _⟩ => dsimp [ix4]; omega
  | ⟨2, _⟩ => dsimp [ix4]; omega
  | ⟨3, _⟩ => dsimp [ix4]; omega
theorem v132 : val_main_v132 (F := Ideal) x0 x1 x2 x3 x4 (ix5 r n h i j)
    = Softmax.inner (mk n) (dots x0 x1 r n h) (dots x3 x2 r n h) (esum x4 r n h) i j := by
  pointwise [val_main_v132, val_main_v131, val_main_v130, val_main_v129, val_main_v128, val_main_v127, val_main_v126, val_main_v125, val_main_v124,
     val_main_v123, val_main_v122, val_main_v121, val_main_v120, val_main_v115, val_main_v81, val_main_v80, val_main_v79, val_main_cst_12, val_main_cst_15, val_main_cst_16]
  simp only [v117, v76, v74, Finset.univ_unique, Finset.sum_singleton, Fin.default_eq_zero, v114, Softmax.inner, zero_sub]
theorem v142 : val_main_v142 (F := Ideal) x0 x1 x2 x3 x4 (ix5 r n h i j)
    = Softmax.gradMax (mk n) (dots x0 x1 r n h) (dots x3 x2 r n h) (esum x4 r n h) i j := by
  pointwise [val_main_v142, val_main_v141, val_main_v140, val_main_v139, val_main_v138, val_main_v137, val_main_v136, val_main_v135, val_main_v134, val_main_v133,
    val_main_cst_17, val_main_cst_18, val_main_call1_v0, val_main_call1_cst]
  simp only [v132, v70, v69, Finset.univ_unique, Finset.sum_singleton, Fin.default_eq_zero, v114, Softmax.gradMax]
  exact if_congr (v64_1 r n h i j) rfl rfl

/-- The gradient of the scores as the reference has it, with the gradient of the maximum. -/
abbrev gm (r n h : Fin 4) : Fin 128 → Fin 256 → EReal :=
  Softmax.gradMax (mk n) (dots x0 x1 r n h) (dots x3 x2 r n h) (esum x4 r n h)

theorem v144 : val_main_v144 (F := Ideal) x0 x1 x2 x3 x4 (ix5 r n j h c) = Spec.cols (fun n => gm x0 x1 x2 x3 x4 r n h) x0 r n h j c := by
  pointwise [val_main_v144, val_main_v143]
  simp only [v142, v9, Spec.cols]
theorem v146 : val_main_v146 (F := Ideal) x0 x1 x2 x3 x4 (ix5 r n i h c) = ∑ j, gm x0 x1 x2 x3 x4 r n h i j * key x1 r n h j c := by
  pointwise [val_main_v146, val_main_v145]
  simp only [v142, v19]
theorem v152 : val_main_v152 (F := Ideal) x0 x1 x3 (ix5 r n i h c) = Spec.both (fun n => Spec.pr x0 x1 r n h) x3 r n h i c := by
  pointwise [val_main_v152, val_main_v148, val_main_v151, val_main_v150, val_main_v149, val_main_v147, val_main_cst_19]
  simp only [v119, Spec.both]
theorem v162 : val_main_v162 (F := Ideal) x0 x1 x2 x3 x4 (ix5 r n i h c) = Spec.both (fun n => gm x0 x1 x2 x3 x4 r n h) x0 r n h i c := by
  pointwise [val_main_v162, val_main_v158, val_main_v161, val_main_v160, val_main_v159, val_main_v157, val_main_cst_20]
  simp only [v144, Spec.both]

/-- Rows back at their positions: where the host's reshapes and transpose take an entry from. -/
theorem back (x : (⟨S4x4x128x4x64, .f32⟩ : BufTy).Contents (Elt Ideal)) :
    shapeCast S1x2048x4x64 (transpose S1x512x4x4x64 [0, 2, 1, 3, 4] (shapeCast S1x4x512x4x64 (shapeCast S4x512x4x64 x
      shapeCasts_S4x4x128x4x64_S4x512x4x64) shapeCasts_S4x512x4x64_S1x4x512x4x64) transposes_S1x4x512x4x64_S1x512x4x4x64_0_2_1_3_4)
      shapeCasts_S1x512x4x4x64_S1x2048x4x64 (ix4 0 (pos r n i) h c) = x (ix5 r n i h c) := by
  pointwise []
  refine congrArg x (funext fun a => Fin.ext ?_)
  match a with
  | ⟨0, _⟩ => dsimp [ix5, pos]; omega
  | ⟨1, _⟩ => dsimp [ix5, pos]; omega
  | ⟨2, _⟩ => dsimp [ix5, pos]; omega
  | ⟨3, _⟩ => rfl
  | ⟨4, _⟩ => rfl

theorem ix176 : idx_main_v176 (ix2 (pos r n i) (lane h c)) = ix3 (pos r n i) h c := by
  funext a
  match a with
  | ⟨0, _⟩ => apply Fin.ext; dsimp [ix3, ix2, lane]; omega
  | ⟨1, _⟩ => apply Fin.ext; dsimp [ix3, ix2, lane]; omega
  | ⟨2, _⟩ => apply Fin.ext; dsimp [ix3, ix2, lane]; omega
theorem v176 : val_main_v176 (F := Ideal) x0 x1 x2 x3 x4 (ix2 (pos r n i) (lane h c))
    = ∑ j, gm x0 x1 x2 x3 x4 r n h i j * key x1 r n h j c := by
  rw [val_main_v176_apply, ix176]
  pointwise [val_main_v173, val_main_cst_23]
  simp only [Finset.univ_unique, Finset.sum_singleton, Fin.default_eq_zero]
  unfold val_main_v170 val_main_v169 val_main_v168 val_main_v167
  rw [back, v146]
theorem v175 : val_main_v175 (F := Ideal) x0 x1 x2 x3 x4 (ix2 (pos r n i) (lane h c))
    = Spec.both (fun n => gm x0 x1 x2 x3 x4 r n h) x0 r n h i c := by
  rw [val_main_v175_apply]
  show val_main_v172 (F := Ideal) x0 x1 x2 x3 x4 (idx_main_v176 (ix2 (pos r n i) (lane h c))) = _
  rw [ix176]
  pointwise [val_main_v172, val_main_cst_22]
  simp only [Finset.univ_unique, Finset.sum_singleton, Fin.default_eq_zero]
  unfold val_main_v166 val_main_v165 val_main_v164 val_main_v163
  rw [back, v162]
theorem v174 : val_main_v174 (F := Ideal) x0 x1 x3 (ix2 (pos r n i) (lane h c)) = Spec.dv x0 x1 x3 r n h i c := by
  rw [val_main_v174_apply]
  show val_main_v171 (F := Ideal) x0 x1 x3 (idx_main_v176 (ix2 (pos r n i) (lane h c))) = _
  rw [ix176]
  pointwise [val_main_v171, val_main_cst_21]
  simp only [Finset.univ_unique, Finset.sum_singleton, Fin.default_eq_zero]
  unfold val_main_v156 val_main_v155 val_main_v154 val_main_v153
  rw [back, v152, Spec.dv]

end Cert.Proof.Ref

end
-- ==== Proof.Bridge.lean ====
/- Hand-written, untrusted. On finite arguments the kernel's results are the gradients, and so are the reference's. -/
module

public import proofs.«01_k».proof.Proof.Host
public import proofs.«01_k».proof.Proof.Ref

@[expose] public section

set_option maxRecDepth 16384

noncomputable section

namespace Cert.Proof.Bridge

open Idealize.ShloMosaic Idealize.ShloMosaic.TcCoe Cert.KernelIdeal Cert.KernelIdeal.Gen Idealize.ShloMosaic.Pointwise
open Spec (mk pos)
open Head (lane)
open Host (a0 a1 a2 a3 a4 blkNo before pt)
open Softmax (Fin2)

/-- Every entry of an array is finite. -/
def Ok (x : Spec.Arr) : Prop := ∀ i, x i ≠ ⊤ ∧ x i ≠ ⊥

/-! ## Off the mask -/

theorem grad_off {s w : Fin 128 → Fin 256 → EReal} {e : Fin 128 → EReal} (n : Fin 4) {i : Fin 128} {j : Fin 256} (h : ¬ mk n i j) :
    Softmax.grad (mk n) s w e i j = 0 := if_neg h
/-- Probabilities are zero off the mask. -/
theorem prob_off {s : Fin 128 → Fin 256 → EReal} (n : Fin 4) (hs : Fin2 s) {i : Fin 128} {j : Fin 256} (h : ¬ mk n i j) :
    Ideal.div (Softmax.p (mk n) s i j) (Softmax.l (mk n) s i) = 0 := by
  obtain ⟨S, rfl⟩ := hs.lift
  obtain ⟨P, hP, h0, hpos⟩ := Softmax.p_real (mk n) S (Spec.mk_some n)
  have hl : Softmax.l (mk n) (fun i j => (S i j : EReal)) i = ((∑ j, P i j : ℝ) : EReal) := by
    rw [Softmax.l, Softmax.coe_sum]; exact Finset.sum_congr rfl fun j _ => hP i j
  rw [hl, hP, Softmax.div_real _ (hpos i).ne', h0 i j h, zero_div, EReal.coe_zero]

/-! ## The reference -/

section
variable {q k v g e : Spec.Arr} (hq : Ok q) (hk : Ok k) (hv : Ok v) (hg : Ok g) (he : Ok e) (r n h : Fin 4)

theorem row_fin {x : Spec.Arr} (hx : Ok x) (i : Fin 128) (c : Fin 64) : Spec.row x r n h i c ≠ ⊤ ∧ Spec.row x r n h i c ≠ ⊥ := hx _
theorem key_fin {x : Spec.Arr} (hx : Ok x) (j : Fin 256) (c : Fin 64) : Spec.key x r n h j c ≠ ⊤ ∧ Spec.key x r n h j c ≠ ⊥ := by
  rw [Spec.key]
  split
  · split
    · exact ⟨EReal.zero_ne_top, EReal.zero_ne_bot⟩
    · exact hx _
  · exact hx _
theorem dots_fin {x y : Spec.Arr} (hx : Ok x) (hy : Ok y) : Fin2 (Spec.dots x y r n h) := fun i j =>
  Softmax.dot_fin (fun c => row_fin r n h hx i c) (fun c => key_fin r n h hy j c)

include hq hk hv hg he in
theorem ref_ds : Ref.gm q k v g e r n h = Spec.ds q k v g e r n h :=
  Softmax.gradMax_eq (mk n) (dots_fin r n h hq hk) (dots_fin r n h hg hv)
    (fun i => Softmax.sum_fin fun c => row_fin r n h he i c) (Spec.mk_some n)
end

/-! ## The kernel -/

variable (m : (ℓ : Loc nD τ sig) → Buf (Elt Ideal) ℓ) (c : Dev nD)

/-- The blocks of point `b`. -/
abbrev B0 (b : Fin 16) : Host.Blk := iblk m c 0 (pt b)
abbrev B1 (b : Fin 16) : Host.Blk := iblk m c 1 (pt b)
abbrev B2 (b : Fin 16) : Host.Blk := iblk m c 2 (pt b)
abbrev B3 (b : Fin 16) : Host.Blk := iblk m c 3 (pt b)
abbrev B4 (b : Fin 16) : Host.Blk := iblk m c 4 (pt b)
abbrev B5 (b : Fin 16) : Host.Blk := iblk m c 5 (pt b)
abbrev B6 (b : Fin 16) : Host.Blk := iblk m c 6 (pt b)

theorem coords_val : ∀ b : Fin grid0.N, (grid0.coords b 0).val = b.val := by decide +kernel
theorem coords_mod (r n : Fin 4) : ((grid0.coords (pt (blkNo r n))) 0).val % 4 = n.val := by
  rw [coords_val]; simp only [blkNo]; omega

theorem blk_surj (b : Fin 16) : ∃ r n, b = blkNo r n :=
  ⟨⟨b.val / 4, by omega⟩, ⟨b.val % 4, by omega⟩, Fin.ext (by simp only [blkNo]; omega)⟩

variable (r n h : Fin 4)

theorem row_q (i : Fin 128) (l : Fin 64) : Block.row1 (B0 m c (blkNo r n)) h i l = Spec.row (a0 m c) r n h i l :=
  (Host.iblk0 m c _ i _).trans (Host.toRes_apply _ r n i _)
theorem row_g (i : Fin 128) (l : Fin 64) : Block.row1 (B5 m c (blkNo r n)) h i l = Spec.row (a3 m c) r n h i l :=
  (Host.iblk5 m c _ i _).trans (Host.toRes_apply _ r n i _)
theorem row_e (i : Fin 128) (l : Fin 64) : Block.row1 (B6 m c (blkNo r n)) h i l = Spec.row (a4 m c) r n h i l :=
  (Host.iblk6 m c _ i _).trans (Host.toRes_apply _ r n i _)

theorem before_eq (hn : 0 < n.val) : before (blkNo r n) = blkNo r ⟨n.val - 1, by omega⟩ :=
  Fin.ext (by simp only [before, blkNo]; omega)

/-- Two blocks of an array, where the first matters only after block 0, are its keys. -/
theorem keys (x : Host.Seq) (p o : Host.Blk) (hp : ∀ i l, p (ix3 0 i l) = Host.toRes x (ix3 (before (blkNo r n)) i l))
    (ho : ∀ i l, o (ix3 0 i l) = Host.toRes x (ix3 (blkNo r n) i l)) (j : Fin 256) (l : Fin 64) (hj : 0 < n.val ∨ 128 ≤ j.val) :
    Block.key2 p o h j l = Spec.key x r n h j l := by
  rw [Block.key2, Spec.key]
  by_cases h1 : j.val < 128
  · have hn : 0 < n.val := by omega
    rw [dif_pos h1, dif_pos h1, if_neg (by omega), hp, before_eq r n hn, Host.toRes_apply]; rfl
  · rw [dif_neg h1, dif_neg h1, ho, Host.toRes_apply]; rfl
theorem keys_fin (x : Host.Seq) (hx : Ok x) (b : Fin 16) (p o : Host.Blk) (hp : ∀ i l, p (ix3 0 i l) = Host.toRes x (ix3 (before b) i l))
    (ho : ∀ i l, o (ix3 0 i l) = Host.toRes x (ix3 b i l)) (j : Fin 256) (l : Fin 64) :
    Block.key2 p o h j l ≠ ⊤ ∧ Block.key2 p o h j l ≠ ⊥ := by
  rw [Block.key2]
  split
  · rw [hp]; obtain ⟨r', n', e⟩ := blk_surj (before b); rw [e, Host.toRes_apply]; exact hx _
  · rw [ho]; obtain ⟨r', n', e⟩ := blk_surj b; rw [e, Host.toRes_apply]; exact hx _

theorem key_k (j : Fin 256) (l : Fin 64) (hj : 0 < n.val ∨ 128 ≤ j.val) :
    Block.key2 (B1 m c (blkNo r n)) (B2 m c (blkNo r n)) h j l = Spec.key (a1 m c) r n h j l :=
  keys r n h _ _ _ (fun i l => Host.iblk1 m c _ i l) (fun i l => Host.iblk2 m c _ i l) j l hj
theorem key_v (j : Fin 256) (l : Fin 64) (hj : 0 < n.val ∨ 128 ≤ j.val) :
    Block.key2 (B3 m c (blkNo r n)) (B4 m c (blkNo r n)) h j l = Spec.key (a2 m c) r n h j l :=
  keys r n h _ _ _ (fun i l => Host.iblk3 m c _ i l) (fun i l => Host.iblk4 m c _ i l) j l hj

/-- The scores of a block. -/
abbrev S2 : Fin 128 → Fin 256 → EReal := Block.dots2 (B0 m c (blkNo r n)) (B1 m c (blkNo r n)) (B2 m c (blkNo r n)) h

theorem scores (i : Fin 128) (j : Fin 256) (hm : mk n i j) : S2 m c r n h i j = Spec.dots (a0 m c) (a1 m c) r n h i j :=
  Finset.sum_congr rfl fun l _ => by rw [row_q, key_k m c r n h j l hm.2.2]
theorem weights (i : Fin 128) (j : Fin 256) (hm : mk n i j) :
    Block.dots2 (B5 m c (blkNo r n)) (B3 m c (blkNo r n)) (B4 m c (blkNo r n)) h i j = Spec.dots (a3 m c) (a2 m c) r n h i j :=
  Finset.sum_congr rfl fun l _ => by rw [row_g, key_v m c r n h j l hm.2.2]
theorem scores_fin (h0 : Ok (a0 m c)) (h1 : Ok (a1 m c)) : Fin2 (S2 m c r n h) := fun i j =>
  Softmax.dot_fin (fun l => by rw [row_q]; exact h0 _)
    (fun l => keys_fin h _ h1 _ _ _ (fun i l => Host.iblk1 m c _ i l) (fun i l => Host.iblk2 m c _ i l) j l)

/-- The gradient of a block's scores. -/
abbrev D2 : Fin 128 → Fin 256 → EReal := Block.ds2 n (B0 m c (blkNo r n)) (B1 m c (blkNo r n)) (B2 m c (blkNo r n)) (B3 m c (blkNo r n))
  (B4 m c (blkNo r n)) (B5 m c (blkNo r n)) (B6 m c (blkNo r n)) h
/-- The probabilities of a block. -/
abbrev P2 : Fin 128 → Fin 256 → EReal := Block.pr2 n (B0 m c (blkNo r n)) (B1 m c (blkNo r n)) (B2 m c (blkNo r n)) h

section
variable (h0 : Ok (a0 m c)) (h1 : Ok (a1 m c))
include h0 h1

theorem D2_eq : D2 m c r n h = Spec.ds (a0 m c) (a1 m c) (a2 m c) (a3 m c) (a4 m c) r n h := by
  rw [Spec.ds, ← Softmax.grad_congr (mk n) _ (scores_fin m c r n h h0 h1) (Spec.mk_some n) (scores m c r n h) (weights m c r n h)]
  refine congrArg (Softmax.grad (mk n) _ _) (funext fun i => Finset.sum_congr rfl fun l _ => ?_)
  rw [row_e]
theorem P2_eq : P2 m c r n h = Spec.pr (a0 m c) (a1 m c) r n h := by
  funext i j
  have hp := Softmax.p_congr (mk n) (scores m c r n h)
  show Ideal.div (Softmax.p (mk n) _ i j) (Softmax.l (mk n) _ i) = _
  rw [Spec.pr, Softmax.l, Softmax.l, hp]

/-- The gradient of q. -/
theorem dq_eq (i : Fin 128) (l : Fin 64) : Host.fromRes (Host.each m c out0_7) (ix2 (pos r n i) (lane h l))
    = Spec.dq (a0 m c) (a1 m c) (a2 m c) (a3 m c) (a4 m c) r n h i l := by
  rw [Host.fromRes_apply, Spec.dq]
  rw [Host.each_at]
  refine (Block.dq_apply _ _ _ _ _ _ _ _ n (coords_mod r n) h i l).trans ?_
  refine Finset.sum_congr rfl fun j _ => ?_
  show D2 m c r n h i j * _ = _
  by_cases hm : mk n i j
  · rw [D2_eq m c r n h h0 h1, key_k m c r n h j l hm.2.2]
  · rw [← D2_eq m c r n h h0 h1, show D2 m c r n h i j = 0 from grad_off n hm, zero_mul, zero_mul]
end

/-- What the blocks give a row, from weights `w` off whose mask nothing is given, is its sum over the two blocks that see it. -/
theorem both_eq (x y : Host.Blocks) (w : Fin 4 → Fin 4 → Fin 128 → Fin 256 → EReal) (a : Spec.Arr)
    (hx : ∀ r n i l, x (ix3 (blkNo r n) i (lane h l)) = ∑ s, w r n s ⟨128 + i.val, by omega⟩ * Spec.row a r n h s l)
    (hy : ∀ r n i l, y (ix3 (blkNo r n) i (lane h l)) = ∑ s, w r n s ⟨i.val, by omega⟩ * Spec.row a r n h s l)
    (hw : ∀ r n i j, ¬ mk n i j → w r n i j = 0) (i : Fin 128) (l : Fin 64) :
    Host.fromRes (Host.addNext x y) (ix2 (pos r n i) (lane h l)) = Spec.both (w r) a r n h i l := by
  rw [Host.fromRes_apply, Host.addNext_apply, hx, Spec.both]
  refine congrArg₂ (· + ·) rfl ?_
  by_cases hn : n.val < 3
  · rw [dif_pos hn, dif_pos (by simp only [blkNo]; omega), Spec.cols, ← hy]
    exact congrArg (fun b => y (ix3 b i (lane h l))) (Fin.ext (by simp only [blkNo]; omega))
  · rw [dif_neg hn]
    split
    · rename_i hb
      have e : (⟨1 + (blkNo r n).val, by omega⟩ : Fin 16) = blkNo ⟨r.val + 1, by simp only [blkNo] at hb; omega⟩ 0 :=
        Fin.ext (by simp only [blkNo]; show _ = _ + 0; omega)
      rw [e, hy]
      refine Finset.sum_eq_zero fun s _ => ?_
      rw [hw _ _ _ _ (fun hm => by have := hm.2.2; simp at this; omega), zero_mul]
    · rfl

section
variable (h0 : Ok (a0 m c)) (h1 : Ok (a1 m c))
include h0 h1

/-- The gradient of k. -/
theorem dk_eq (i : Fin 128) (l : Fin 64) : Host.fromRes (Host.addNext (Host.each m c out0_9) (Host.each m c out0_8)) (ix2 (pos r n i) (lane h l))
    = Spec.dk (a0 m c) (a1 m c) (a2 m c) (a3 m c) (a4 m c) r n h i l := by
  refine both_eq r n h _ _ (fun r n => Spec.ds (a0 m c) (a1 m c) (a2 m c) (a3 m c) (a4 m c) r n h) _ (fun r n i l => ?_)
    (fun r n i l => ?_) (fun r n i j hm => grad_off n hm) i l
  · rw [Host.each_at]
    refine (Block.dkc_apply _ _ _ _ _ _ _ _ n (coords_mod r n) h i l).trans (Finset.sum_congr rfl fun s _ => ?_)
    rw [row_q]; exact congrArg (· * _) (congrFun₂ (D2_eq m c r n h h0 h1) _ _)
  · rw [Host.each_at]
    refine (Block.dkp_apply _ _ _ _ _ _ _ _ n (coords_mod r n) h i l).trans (Finset.sum_congr rfl fun s _ => ?_)
    rw [row_q]; exact congrArg (· * _) (congrFun₂ (D2_eq m c r n h h0 h1) _ _)
/-- The gradient of v. -/
theorem dv_eq (i : Fin 128) (l : Fin 64) : Host.fromRes (Host.addNext (Host.each m c out0_11) (Host.each m c out0_10)) (ix2 (pos r n i) (lane h l))
    = Spec.dv (a0 m c) (a1 m c) (a3 m c) r n h i l := by
  refine both_eq r n h _ _ (fun r n => Spec.pr (a0 m c) (a1 m c) r n h) _ (fun r n i l => ?_)
    (fun r n i l => ?_) (fun r n i j hm => prob_off n (dots_fin r n h h0 h1) hm) i l
  · rw [Host.each_at]
    refine (Block.dvc_apply _ _ _ _ _ _ _ _ n (coords_mod r n) h i l).trans (Finset.sum_congr rfl fun s _ => ?_)
    rw [row_g]; exact congrArg (· * _) (congrFun₂ (P2_eq m c r n h h0 h1) _ _)
  · rw [Host.each_at]
    refine (Block.dvp_apply _ _ _ _ _ _ _ _ n (coords_mod r n) h i l).trans (Finset.sum_congr rfl fun s _ => ?_)
    rw [row_g]; exact congrArg (· * _) (congrFun₂ (P2_eq m c r n h h0 h1) _ _)
end

/-- Two arrays that agree at every position and lane are equal. -/
theorem ext_seq {x y : Spec.Arr} (h : ∀ r n h i l, x (ix2 (pos r n i) (lane h l)) = y (ix2 (pos r n i) (lane h l))) : x = y := by
  funext z
  obtain ⟨r, n, i, e0⟩ := Spec.pos_surj (z 0)
  obtain ⟨g, l, e1⟩ := Spec.lane_surj (z 1)
  have hz : z = ix2 (pos r n i) (lane g l) := funext fun a => match a with
    | ⟨0, _⟩ => e0
    | ⟨1, _⟩ => e1
  rw [hz]; exact h r n g i l

section
variable (h0 : Ok (a0 m c)) (h1 : Ok (a1 m c)) (h2 : Ok (a2 m c)) (h3 : Ok (a3 m c)) (h4 : Ok (a4 m c))
include h0 h1

theorem dv_ref : Cert.ReferenceIdeal.Read.val_main_v174 (F := Ideal) (a0 m c) (a1 m c) (a3 m c)
    = Host.fromRes (Host.addNext (Host.each m c out0_11) (Host.each m c out0_10)) :=
  ext_seq fun r n h i l => (Ref.v174 _ _ _ r n h i l).trans (dv_eq m c r n h h0 h1 i l).symm
include h2 h3 h4
theorem dk_ref : Cert.ReferenceIdeal.Read.val_main_v175 (F := Ideal) (a0 m c) (a1 m c) (a2 m c) (a3 m c) (a4 m c)
    = Host.fromRes (Host.addNext (Host.each m c out0_9) (Host.each m c out0_8)) :=
  ext_seq fun r n h i l => by
    refine (Ref.v175 _ _ _ _ _ r n h i l).trans (Eq.trans ?_ (dk_eq m c r n h h0 h1 i l).symm)
    simp only [ref_ds h0 h1 h2 h3 h4]; rfl
theorem dq_ref : Cert.ReferenceIdeal.Read.val_main_v176 (F := Ideal) (a0 m c) (a1 m c) (a2 m c) (a3 m c) (a4 m c)
    = Host.fromRes (Host.each m c out0_7) :=
  ext_seq fun r n h i l => by
    refine (Ref.v176 _ _ _ _ _ r n h i l).trans (Eq.trans ?_ (dq_eq m c r n h h0 h1 i l).symm)
    simp only [ref_ds h0 h1 h2 h3 h4]; rfl
end

end Cert.Proof.Bridge

end
-- ==== Proof.Pre.lean ====
/- Hand-written, untrusted. What the precondition says: every entry of the five arguments is finite. -/
module

public import proofs.«01_k».proof.Pre_finite
public import Idealize.ShloMosaic.Lib.Pipeline.ValueKit
public import Idealize.ShloMosaic.PureOps.Reduce

@[expose] public section

set_option maxRecDepth 16384

noncomputable section

namespace Cert.Proof.Pre

open Idealize.ShloMosaic Cert.Pre_finite Idealize.ShloMosaic.Pointwise

/-- The relations of shapes the precondition's operations need. -/
theorem facts : Cert.Pre_finite.Facts where
  bcast_S_S2048x256 := by decide
  reducesTo_S2048x256_S_d0_1 := by decide
  h_S_ := by decide

theorem fold_one {ι : Type} (s : Finset ι) (f : ι → BitVec 1) (h : s.fold IntOp.andi 1#1 f = 1#1) : ∀ i ∈ s, f i = 1#1 := by
  classical
  induction s using Finset.induction_on with
  | empty => intro i hi; simp at hi
  | insert a s ha ih =>
    rw [Finset.fold_insert ha] at h
    have key : ∀ x y : BitVec 1, IntOp.andi x y = 1#1 → x = 1#1 ∧ y = 1#1 := by decide
    obtain ⟨h1, h2⟩ := key _ _ h
    intro i hi
    rcases Finset.mem_insert.mp hi with e | e
    · exact e ▸ h1
    · exact ih h2 i e

theorem and_one : ∀ x y : BitVec 1, IntOp.andi x y = 1#1 → x = 1#1 ∧ y = 1#1 := by decide

theorem top_bits : (FloatOps.ofBits (F := Ideal) .f32 0x7F800000#32 : EReal) = ⊤ := by
  show Ideal.ofBits _ _ = _
  simp [Ideal.ofBits, Ideal.ieee]

theorem entry (x : EReal) (h : max x (-x) < ⊤) : x ≠ ⊤ ∧ x ≠ ⊥ := by
  refine ⟨fun e => ?_, fun e => ?_⟩
  · subst e; simp at h
  · subst e; simp at h

variable [Facts]

/-- The precondition of one array. -/
def all (x : FVec Ideal S2048x256 .f32) : IVec S_ 1 :=
  Host.reduce IntOp.andi (cmpf .olt (Host.absf x) (broadcastInDim S2048x256 ![] Facts.bcast_S_S2048x256 (constant S_ .f32 0x7F800000#32)))
    (constantI S_ 1 1#1) Facts.reducesTo_S2048x256_S_d0_1 Facts.h_S_

theorem all_fin (x : FVec Ideal S2048x256 .f32) (h : all x ix0 = 1#1) (i : S2048x256.Idx) : x i ≠ (⊤ : EReal) ∧ x i ≠ (⊥ : EReal) := by
  rw [all, Host.reduce_eq_fold] at h
  have := fold_one _ _ h i (Finset.mem_filter.mpr ⟨Finset.mem_univ _, Subsingleton.elim _ _⟩)
  pointwise [] at this
  refine entry (x i) ?_
  have h2 : FloatOps.absf (x i) < Ideal.ofBits FTy.f32 2139095040#32 := by
    by_contra hn
    rw [decide_eq_false hn] at this
    exact absurd this (by decide)
  exact lt_of_lt_of_eq h2 top_bits

theorem decode (x0 x1 x2 x3 x4 : FVec Ideal S2048x256 .f32) (h : fn (F := Ideal) x0 x1 x2 x3 x4 = fun _ => 1#1) :
    (∀ i, x0 i ≠ (⊤ : EReal) ∧ x0 i ≠ (⊥ : EReal)) ∧ (∀ i, x1 i ≠ (⊤ : EReal) ∧ x1 i ≠ (⊥ : EReal)) ∧ (∀ i, x2 i ≠ (⊤ : EReal) ∧ x2 i ≠ (⊥ : EReal))
      ∧ (∀ i, x3 i ≠ (⊤ : EReal) ∧ x3 i ≠ (⊥ : EReal)) ∧ (∀ i, x4 i ≠ (⊤ : EReal) ∧ x4 i ≠ (⊥ : EReal)) := by
  have h' : IntOp.andi (IntOp.andi (IntOp.andi (IntOp.andi (all x0 ix0) (all x1 ix0)) (all x2 ix0)) (all x3 ix0)) (all x4 ix0) = 1#1 := congrFun h ix0
  obtain ⟨h', h4⟩ := and_one _ _ h'
  obtain ⟨h', h3⟩ := and_one _ _ h'
  obtain ⟨h', h2⟩ := and_one _ _ h'
  obtain ⟨h0, h1⟩ := and_one _ _ h'
  exact ⟨all_fin x0 h0, all_fin x1 h1, all_fin x2 h2, all_fin x3 h3, all_fin x4 h4⟩

end Cert.Proof.Pre

end
-- ==== Proof.FfnBlock.lean ====
/- Hand-written, untrusted. The feed-forward block's six calls: what one grid point of each leaves, read entry by entry. -/
module

public import proofs.«01_k».proof.Proof.Gen.Kernel2Ideal.Frame
public import Idealize.ShloMosaic.Lib.Pointwise
public import Idealize.ShloMosaic.Lib.Pipeline.ValueKit
public import Idealize.ShloMosaic.Lib.IdealHost

@[expose] public section

set_option maxRecDepth 16384

noncomputable section

namespace Cert.Proof.FfnBlock

open Idealize.ShloMosaic Cert.Kernel2Ideal Cert.Kernel2Ideal.Gen Idealize.ShloMosaic.Pointwise

/-- A block's start. -/
theorem hz2 : (![0, 0] : Fin 2 → ℕ) = fun _ => 0 := by decide
theorem hz3 : (![0, 0, 0] : Fin 3 → ℕ) = fun _ => 0 := by decide

/-! ## The forward's first call -/

section Act
variable (x : Vec Ideal S1024x1024 .f32) (w u : Vec Ideal S1x1024x704 .bf16) (y : S1x1024x704.Idx)

/-- A row of the input against a lane of a block of weights. -/
def lin (r : Fin 1024) (l : Fin 704) : EReal := ∑ k : Fin 1024, x (ix2 r k) * w (ix3 0 k l)

theorem gate_apply : out0_3 x w u y = lin x w (y 1) (y 2) := by
  unfold out0_3
  rw [View.canon_unit_zero hz3, View.ld_unit_zero hz2, View.ld_unit_zero hz3]
  pointwise [k0_pay3, k0_pay1, lin]
theorem up_apply : out0_4 x w u y = lin x u (y 1) (y 2) := by
  unfold out0_4
  rw [View.canon_unit_zero hz3, View.ld_unit_zero hz2, View.ld_unit_zero hz3]
  pointwise [k0_pay4, k0_pay2, lin]
theorem act_apply : out0_5 x w u y = lin x w (y 1) (y 2) * Ideal.logistic (lin x w (y 1) (y 2)) * lin x u (y 1) (y 2) := by
  unfold out0_5
  rw [View.canon_unit_zero hz3, View.ld_unit_zero hz2, View.ld_unit_zero hz3, View.ld_unit_zero hz3]
  pointwise [k0_pay5, k0_pay1, k0_pay2, lin]
end Act

/-! ## The forward's second call -/

theorem y_apply (a : Vec Ideal S4x1024x704 .bf16) (w : Vec Ideal S2816x512 .bf16) (y : S1024x512.Idx) :
    out1_2 a w y = ∑ d : Fin 4, ∑ j : Fin 704, a (ix3 d (y 0) j) * w (ix2 ⟨d.val * 704 + j.val, by omega⟩ (y 1)) := by
  unfold out1_2
  rw [View.canon_unit_zero hz2, Fin.sum_univ_four]
  pointwise [k1_pay1]

/-! ## The backward's first call -/

section Dact
variable (g : Vec Ideal S1024x1024 .f32) (w : Vec Ideal S704x1024 .bf16) (a b : Vec Ideal S1x1024x704 .bf16) (y : S1x1024x704.Idx)

/-- A row of the cotangent against a row of the second weights. -/
def back (r : Fin 1024) (l : Fin 704) : EReal := ∑ k : Fin 1024, g (ix2 r k) * w (ix2 l k)

theorem dgate_apply : out2_4 g w a b y = back g w (y 1) (y 2) * b y * Ideal.logistic (a y)
      * (1 + a y * (1 - Ideal.logistic (a y))) := by
  unfold out2_4
  rw [View.canon_unit_zero hz3, View.ld_unit_zero hz2, View.ld_unit_zero hz2, View.ld_unit_zero hz3, View.ld_unit_zero hz3]
  pointwise [k2_pay4, k2_pay1, k2_pay2, k2_pay3, back]
theorem dup_apply : out2_5 g w a b y = back g w (y 1) (y 2) * a y * Ideal.logistic (a y) := by
  unfold out2_5
  rw [View.canon_unit_zero hz3, View.ld_unit_zero hz2, View.ld_unit_zero hz2, View.ld_unit_zero hz3]
  pointwise [k2_pay5, k2_pay1, k2_pay2, k2_pay3, back]
end Dact

/-! ## The backward's second call -/

theorem dx_apply (a b : Vec Ideal S4x512x704 .bf16) (w : Vec Ideal S8x1024x704 .bf16) (y : S512x1024.Idx) :
    out3_3 a b w y = ∑ d : Fin 4, (∑ j : Fin 704, a (ix3 d (y 0) j) * w (ix3 ⟨d.val, by omega⟩ (y 1) j)
      + ∑ j : Fin 704, b (ix3 d (y 0) j) * w (ix3 ⟨d.val + 4, by omega⟩ (y 1) j)) := by
  unfold out3_3
  rw [View.canon_unit_zero hz2, Fin.sum_univ_four]
  pointwise [k3_pay1, k3_pay2, k3_pay3]

/-! ## The gradients of the weights -/

/-- The fifth call's test that a block is one of the first four. -/
theorem first_four : ∀ b : Fin 8, Scalar.cmpi .slt (BitVec.ofNat 32 b.val) 4#32 = BitVec.ofBool (decide (b.val < 4)) := by decide

theorem dw1_apply (i : grid4.Coords) (x : Vec Ideal S2048x1024 .f32) (a b : Vec Ideal S1x2048x704 .bf16) (y : S1x1024x704.Idx) :
    out4_3 i x a b y = ∑ t : Fin 2048, x (ix2 t (y 1)) * (if (i 0).val < 4 then a else b) (ix3 0 t (y 2)) := by
  unfold out4_3
  rw [View.canon_unit_zero hz3, View.ld_unit_zero hz3, View.ld_unit_zero hz3, View.ld_unit_zero hz2]
  pointwise [k4_pay1]
  rw [show Scalar.cmpi .slt (BitVec.ofNat 32 (i 0).val) 4#32 = _ from first_four (i 0)]
  refine Finset.sum_congr rfl fun t _ => congrArg _ ?_
  by_cases h : (i 0).val < 4
  · rw [if_pos h, decide_eq_true h]; rfl
  · rw [if_neg h, decide_eq_false h]; rfl

theorem dw2_apply (a : Vec Ideal S1x2048x704 .bf16) (g : Vec Ideal S2048x512 .f32) (y : S704x512.Idx) :
    out5_2 a g y = ∑ t : Fin 2048, a (ix3 0 t (y 0)) * g (ix2 t (y 1)) := by
  unfold out5_2
  rw [View.canon_unit_zero hz2, View.ld_unit_zero hz3, View.ld_unit_zero hz2]
  pointwise [k5_pay1]

end Cert.Proof.FfnBlock

end
-- ==== Proof.FfnSpec.lean ====
/- Hand-written, untrusted. The feed-forward block and its gradients, as sums over positions and lanes. -/
module

public import Idealize.ShloMosaic.Lib.Pointwise

@[expose] public section

noncomputable section

namespace Cert.Proof.Ffn

open Idealize.ShloMosaic Idealize.ShloMosaic.Pointwise

/-- Positions by model lanes. -/
abbrev Seq := (⟨2, ![2048, 1024]⟩ : Shape).Idx → EReal
/-- The first weights: eight blocks, four for the gate and four for the other factor. -/
abbrev Win := (⟨3, ![8, 1024, 704]⟩ : Shape).Idx → EReal
/-- The second weights. -/
abbrev Wout := (⟨2, ![2816, 1024]⟩ : Shape).Idx → EReal
/-- Positions by hidden lanes, in four blocks. -/
abbrev Hid := (⟨3, ![4, 2048, 704]⟩ : Shape).Idx → EReal

/-- A gate block among the eight. -/
def lo (d : Fin 4) : Fin 8 := ⟨d.val, by omega⟩
/-- A block of the other factor. -/
def hi (d : Fin 4) : Fin 8 := ⟨d.val + 4, by omega⟩
/-- A hidden lane's row of the second weights. -/
def row (d : Fin 4) (j : Fin 704) : Fin 2816 := ⟨d.val * 704 + j.val, by omega⟩

/-- The gate. -/
def gate (x : Seq) (w : Win) : Hid := fun y => ∑ k : Fin 1024, x (ix2 (y 1) k) * w (ix3 (lo (y 0)) k (y 2))
/-- The factor beside the gate. -/
def up (x : Seq) (w : Win) : Hid := fun y => ∑ k : Fin 1024, x (ix2 (y 1) k) * w (ix3 (hi (y 0)) k (y 2))
/-- The hidden activations, from gate and factor. -/
def act (g u : Hid) : Hid := fun y => g y * Ideal.logistic (g y) * u y
/-- The block's result, from the activations. -/
def out (a : Hid) (v : Wout) : Seq := fun y => ∑ d : Fin 4, ∑ j : Fin 704, a (ix3 d (y 0) j) * v (ix2 (row d j) (y 1))
/-- The activations' gradient. -/
def dact (e : Seq) (v : Wout) : Hid := fun y => ∑ k : Fin 1024, e (ix2 (y 1) k) * v (ix2 (row (y 0) (y 2)) k)
/-- The gate's gradient, from that of the activations. -/
def dgate (p g u : Hid) : Hid := fun y => p y * u y * Ideal.logistic (g y) * (1 + g y * (1 - Ideal.logistic (g y)))
/-- The other factor's gradient. -/
def dup (p g : Hid) : Hid := fun y => p y * g y * Ideal.logistic (g y)
/-- The input's gradient. -/
def dx (p q : Hid) (w : Win) : Seq := fun y =>
  ∑ d : Fin 4, (∑ j : Fin 704, p (ix3 d (y 0) j) * w (ix3 (lo d) (y 1) j) + ∑ j : Fin 704, q (ix3 d (y 0) j) * w (ix3 (hi d) (y 1) j))
/-- A block of one of two arrays of four. -/
def pick (p q : Hid) (b : Fin 8) (t : Fin 2048) (j : Fin 704) : EReal :=
  if h : b.val < 4 then p (ix3 ⟨b.val, h⟩ t j) else q (ix3 ⟨b.val - 4, by omega⟩ t j)
theorem pick_lo (p q : Hid) (b : Fin 8) (h : b.val < 4) : pick p q b = fun t j => p (ix3 ⟨b.val, h⟩ t j) :=
  funext fun _ => funext fun _ => dif_pos h
theorem pick_hi (p q : Hid) (b : Fin 8) (h : ¬ b.val < 4) : pick p q b = fun t j => q (ix3 ⟨b.val - 4, by omega⟩ t j) :=
  funext fun _ => funext fun _ => dif_neg h
/-- The first weights' gradient. -/
def dwin (x : Seq) (p q : Hid) : Win := fun y => ∑ t : Fin 2048, x (ix2 t (y 1)) * pick p q (y 0) t (y 2)
/-- The second weights' gradient. -/
def dwout (a : Hid) (e : Seq) : Wout := fun y =>
  ∑ t : Fin 2048, a (ix3 ⟨(y 0).val / 704, Nat.div_lt_of_lt_mul (y 0).isLt⟩ t ⟨(y 0).val % 704, Nat.mod_lt _ (by decide)⟩) * e (ix2 t (y 1))

end Cert.Proof.Ffn

end
-- ==== Proof.FfnArrays.lean ====
/- Hand-written, untrusted. What each of the feed-forward block's six calls leaves in its arrays. -/
module

public import proofs.«01_k».proof.Proof.FfnBlock
public import proofs.«01_k».proof.Proof.FfnSpec

@[expose] public section

set_option maxRecDepth 16384

noncomputable section

namespace Cert.Proof.FfnArrays

open Idealize.ShloMosaic Idealize.ShloMosaic.TcCoe Cert.Kernel2Ideal Cert.Kernel2Ideal.Gen Idealize.ShloMosaic.Pointwise

/-- The buffers at a call's entry. -/
abbrev At := (c : Dev nD) → (b : Ref sig .tc) → Buf (Elt Ideal) ((c : Thread nD τ).loc b)
variable (V : At) (c : Dev nD)

/-! ## The first call -/

theorem i0 : ∀ t : Fin cfg0.N, win0_0.index t = ![(grid0.coords t 0).val, 0]
    ∧ win0_1.index t = ![(grid0.coords t 1).val, 0, 0]
    ∧ win0_2.index t = ![(grid0.coords t 1).val + 4, 0, 0]
    ∧ win0_3.index t = ![(grid0.coords t 1).val, (grid0.coords t 0).val, 0]
    ∧ win0_4.index t = ![(grid0.coords t 1).val, (grid0.coords t 0).val, 0]
    ∧ win0_5.index t = ![(grid0.coords t 1).val, (grid0.coords t 0).val, 0] := (by decide +kernel : ∀ t : Fin grid0.N, _)

theorem gate_arr : (dat0 V c).arrAt 3 cfg0.N = Ffn.gate (V c main_arg0) (V c main_arg1) := by
  refine (dat0 V c).arrAt_eq_of_covers 3 _ (by decide +kernel) fun t hf y => ?_
  blk_simp
  rw [after0_3, FfnBlock.gate_apply]
  obtain ⟨e0, e1, e2, e3, e4, e5⟩ := i0 t
  unfold FfnBlock.lin Ffn.gate Ffn.lo
  blk_point [iblk0, e0, e1, e2, e3, e4, e5]
theorem up_arr : (dat0 V c).arrAt 4 cfg0.N = Ffn.up (V c main_arg0) (V c main_arg1) := by
  refine (dat0 V c).arrAt_eq_of_covers 4 _ (by decide +kernel) fun t hf y => ?_
  blk_simp
  rw [after0_4, FfnBlock.up_apply]
  obtain ⟨e0, e1, e2, e3, e4, e5⟩ := i0 t
  unfold FfnBlock.lin Ffn.up Ffn.hi
  blk_point [iblk0, e0, e1, e2, e3, e4, e5]
theorem act_arr : (dat0 V c).arrAt 5 cfg0.N = Ffn.act (Ffn.gate (V c main_arg0) (V c main_arg1)) (Ffn.up (V c main_arg0) (V c main_arg1)) := by
  refine (dat0 V c).arrAt_eq_of_covers 5 _ (by decide +kernel) fun t hf y => ?_
  blk_simp
  rw [after0_5, FfnBlock.act_apply]
  obtain ⟨e0, e1, e2, e3, e4, e5⟩ := i0 t
  unfold FfnBlock.lin Ffn.act Ffn.gate Ffn.up Ffn.lo Ffn.hi
  blk_point [iblk0, e0, e1, e2, e3, e4, e5]

/-! ## The second call -/

theorem i1 : ∀ t : Fin cfg1.N, win1_0.index t = ![0, (grid1.coords t 0).val, 0]
    ∧ win1_1.index t = ![0, (grid1.coords t 1).val]
    ∧ win1_2.index t = ![(grid1.coords t 0).val, (grid1.coords t 1).val] := (by decide +kernel : ∀ t : Fin grid1.N, _)

theorem y_arr : (dat1 V c).arrAt 2 cfg1.N = Ffn.out (V c main_v0_2) (V c main_arg2) := by
  refine (dat1 V c).arrAt_eq_of_covers 2 _ (by decide +kernel) fun t hf y => ?_
  blk_simp
  rw [after1_2, FfnBlock.y_apply]
  obtain ⟨e0, e1, e2⟩ := i1 t
  unfold Ffn.out Ffn.row
  blk_point [iblk1, e0, e1, e2]

/-! ## The third call -/

theorem i2 : ∀ t : Fin cfg2.N, win2_0.index t = ![(grid2.coords t 0).val, 0]
    ∧ win2_1.index t = ![(grid2.coords t 1).val, 0]
    ∧ win2_2.index t = ![(grid2.coords t 1).val, (grid2.coords t 0).val, 0]
    ∧ win2_3.index t = ![(grid2.coords t 1).val, (grid2.coords t 0).val, 0]
    ∧ win2_4.index t = ![(grid2.coords t 1).val, (grid2.coords t 0).val, 0]
    ∧ win2_5.index t = ![(grid2.coords t 1).val, (grid2.coords t 0).val, 0] := (by decide +kernel : ∀ t : Fin grid2.N, _)

theorem dgate_arr : (dat2 V c).arrAt 4 cfg2.N = Ffn.dgate (Ffn.dact (V c main_arg3) (V c main_arg2)) (V c main_v0_0) (V c main_v0_1) := by
  refine (dat2 V c).arrAt_eq_of_covers 4 _ (by decide +kernel) fun t hf y => ?_
  blk_simp
  rw [after2_4, FfnBlock.dgate_apply]
  obtain ⟨e0, e1, e2, e3, e4, e5⟩ := i2 t
  unfold FfnBlock.back Ffn.dgate Ffn.dact Ffn.row
  blk_point [iblk2, e0, e1, e2, e3, e4, e5]
theorem dup_arr : (dat2 V c).arrAt 5 cfg2.N = Ffn.dup (Ffn.dact (V c main_arg3) (V c main_arg2)) (V c main_v0_0) := by
  refine (dat2 V c).arrAt_eq_of_covers 5 _ (by decide +kernel) fun t hf y => ?_
  blk_simp
  rw [after2_5, FfnBlock.dup_apply]
  obtain ⟨e0, e1, e2, e3, e4, e5⟩ := i2 t
  unfold FfnBlock.back Ffn.dup Ffn.dact Ffn.row
  blk_point [iblk2, e0, e1, e2, e3, e4, e5]

/-! ## The fourth call -/

theorem i3 : ∀ t : Fin cfg3.N, win3_0.index t = ![0, (grid3.coords t 0).val, 0]
    ∧ win3_1.index t = ![0, (grid3.coords t 0).val, 0]
    ∧ win3_2.index t = ![0, 0, 0]
    ∧ win3_3.index t = ![(grid3.coords t 0).val, 0] := (by decide +kernel : ∀ t : Fin grid3.N, _)

theorem dx_arr : (dat3 V c).arrAt 3 cfg3.N = Ffn.dx (V c main_v2_0) (V c main_v2_1) (V c main_arg1) := by
  refine (dat3 V c).arrAt_eq_of_covers 3 _ (by decide +kernel) fun t hf y => ?_
  blk_simp
  rw [after3_3, FfnBlock.dx_apply]
  obtain ⟨e0, e1, e2, e3⟩ := i3 t
  unfold Ffn.dx Ffn.lo Ffn.hi
  blk_point [iblk3, e0, e1, e2, e3]

/-! ## The fifth call -/

theorem i4 : ∀ t : Fin cfg4.N, win4_0.index t = ![0, 0]
    ∧ win4_1.index t = ![min (grid4.coords t 0).val 3, 0, 0]
    ∧ win4_2.index t = ![(grid4.coords t 0).val - 4, 0, 0]
    ∧ win4_3.index t = ![(grid4.coords t 0).val, 0, 0] := (by decide +kernel : ∀ t : Fin grid4.N, _)

theorem dwin_arr : (dat4 V c).arrAt 3 cfg4.N = Ffn.dwin (V c main_arg0) (V c main_v2_0) (V c main_v2_1) := by
  refine (dat4 V c).arrAt_eq_of_covers 3 _ (by decide +kernel) fun t hf y => ?_
  blk_simp
  rw [after4_3, FfnBlock.dw1_apply]
  obtain ⟨e0, e1, e2, e3⟩ := i4 t
  unfold Ffn.dwin
  idx_bounds y
  by_cases h : (grid4.coords t 0).val < 4
  · have hb : ((win4_3.blk t).view.emb y 0).val < 4 := by blk_simp [e3]; omega
    rw [if_pos h, Ffn.pick_lo _ _ _ hb]
    blk_point [iblk4, e0, e1, e2, e3]
    refine congrArg₂ (· * ·) rfl (congrArg (V c main_v2_0) (funext fun a => Fin.ext ?_))
    match a with
    | ⟨0, _⟩ => blk_simp [e1]; dsimp [ix3]; omega
    | ⟨1, _⟩ => blk_simp [e1]
    | ⟨2, _⟩ => blk_simp [e1, e3]
  · have hb : ¬ ((win4_3.blk t).view.emb y 0).val < 4 := by blk_simp [e3]; omega
    rw [if_neg h, Ffn.pick_hi _ _ _ hb]
    blk_point [iblk4, e0, e1, e2, e3]
    refine congrArg₂ (· * ·) rfl (congrArg (V c main_v2_1) (funext fun a => Fin.ext ?_))
    match a with
    | ⟨0, _⟩ => blk_simp [e2]; dsimp [ix3]
    | ⟨1, _⟩ => blk_simp [e2]
    | ⟨2, _⟩ => blk_simp [e2, e3]

/-! ## The sixth call -/

theorem i5 : ∀ t : Fin cfg5.N, win5_0.index t = ![(grid5.coords t 0).val, 0, 0]
    ∧ win5_1.index t = ![0, (grid5.coords t 1).val]
    ∧ win5_2.index t = ![(grid5.coords t 0).val, (grid5.coords t 1).val] := (by decide +kernel : ∀ t : Fin grid5.N, _)

theorem dwout_arr : (dat5 V c).arrAt 2 cfg5.N = Ffn.dwout (V c main_v0_2) (V c main_arg3) := by
  refine (dat5 V c).arrAt_eq_of_covers 2 _ (by decide +kernel) fun t hf y => ?_
  blk_simp
  rw [after5_2, FfnBlock.dw2_apply]
  obtain ⟨e0, e1, e2⟩ := i5 t
  unfold Ffn.dwout
  blk_point [iblk5, e0, e1, e2]

end Cert.Proof.FfnArrays

end
-- ==== Proof.FfnRun.lean ====
/- Hand-written, untrusted. The feed-forward block's kernel program, run: its four results as functions of its four arguments. -/
module

public import proofs.«01_k».proof.Proof.FfnArrays
public import proofs.«01_k».proof.Proof.Gen.Kernel2Ideal.Frame

@[expose] public section

set_option maxRecDepth 16384

noncomputable section

namespace Cert.Proof.FfnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments, and what the block computes of them. -/
abbrev a0 : Ffn.Seq := m ((c.tc : Thread nD τ).loc main_arg0)
abbrev a1 : Ffn.Win := m ((c.tc : Thread nD τ).loc main_arg1)
abbrev a2 : Ffn.Wout := m ((c.tc : Thread nD τ).loc main_arg2)
abbrev a3 : Ffn.Seq := m ((c.tc : Thread nD τ).loc main_arg3)
abbrev g : Ffn.Hid := Ffn.gate (a0 m c) (a1 m c)
abbrev u : Ffn.Hid := Ffn.up (a0 m c) (a1 m c)
abbrev h : Ffn.Hid := Ffn.act (g m c) (u m c)
abbrev p : Ffn.Hid := Ffn.dact (a3 m c) (a2 m c)
abbrev dg : Ffn.Hid := Ffn.dgate (p m c) (g m c) (u m c)
abbrev du : Ffn.Hid := Ffn.dup (p m c) (g m c)

/-! ## What each buffer holds where it is read -/

theorem g1 : W1 m ρ c (Proc.devRef .tc main_v0_0) = g m c := (W1_arr m ρ c 3).trans (FfnArrays.gate_arr (V0 m ρ) c)
theorem u1 : W1 m ρ c (Proc.devRef .tc main_v0_1) = u m c := (W1_arr m ρ c 4).trans (FfnArrays.up_arr (V0 m ρ) c)
theorem h1 : W1 m ρ c (Proc.devRef .tc main_v0_2) = h m c := (W1_arr m ρ c 5).trans (FfnArrays.act_arr (V0 m ρ) c)

theorem y2 : W2 m ρ c (Proc.devRef .tc main_v1) = Ffn.out (h m c) (a2 m c) :=
  (W2_arr m ρ c 2).trans ((FfnArrays.y_arr (V1 m ρ) c).trans (congrArg₂ Ffn.out (h1 m ρ c) (W1_args m ρ c main_arg2 (by decide))))
theorem g2 : W2 m ρ c (Proc.devRef .tc main_v0_0) = g m c := (W2_of m ρ c main_v0_0 (by decide)).trans (g1 m ρ c)
theorem u2 : W2 m ρ c (Proc.devRef .tc main_v0_1) = u m c := (W2_of m ρ c main_v0_1 (by decide)).trans (u1 m ρ c)

theorem p2 : Ffn.dact (V2 m ρ c main_arg3) (V2 m ρ c main_arg2) = p m c :=
  congrArg₂ Ffn.dact (W2_args m ρ c main_arg3 (by decide)) (W2_args m ρ c main_arg2 (by decide))
theorem dg3 : W3 m ρ c (Proc.devRef .tc main_v2_0) = dg m c := by
  refine (W3_arr m ρ c 4).trans ((FfnArrays.dgate_arr (V2 m ρ) c).trans ?_)
  rw [p2]
  exact congrArg₂ (Ffn.dgate (p m c)) (g2 m ρ c) (u2 m ρ c)
theorem du3 : W3 m ρ c (Proc.devRef .tc main_v2_1) = du m c := by
  refine (W3_arr m ρ c 5).trans ((FfnArrays.dup_arr (V2 m ρ) c).trans ?_)
  rw [p2]
  exact congrArg (Ffn.dup (p m c)) (g2 m ρ c)
theorem dx4 : W4 m ρ c (Proc.devRef .tc main_v3) = Ffn.dx (dg m c) (du m c) (a1 m c) := by
  refine (W4_arr m ρ c 3).trans ((FfnArrays.dx_arr (V3 m ρ) c).trans ?_)
  rw [show V3 m ρ c main_v2_0 = dg m c from dg3 m ρ c, show V3 m ρ c main_v2_1 = du m c from du3 m ρ c,
    show V3 m ρ c main_arg1 = a1 m c from W3_args m ρ c main_arg1 (by decide)]
theorem dwin5 : W5 m ρ c (Proc.devRef .tc main_v4) = Ffn.dwin (a0 m c) (dg m c) (du m c) := by
  refine (W5_arr m ρ c 3).trans ((FfnArrays.dwin_arr (V4 m ρ) c).trans ?_)
  rw [show V4 m ρ c main_v2_0 = dg m c from (W4_of m ρ c main_v2_0 (by decide)).trans (dg3 m ρ c),
    show V4 m ρ c main_v2_1 = du m c from (W4_of m ρ c main_v2_1 (by decide)).trans (du3 m ρ c),
    show V4 m ρ c main_arg0 = a0 m c from W4_args m ρ c main_arg0 (by decide)]
theorem h5 : W5 m ρ c (Proc.devRef .tc main_v0_2) = h m c :=
  (W5_of m ρ c main_v0_2 (by decide)).trans ((W4_of m ρ c main_v0_2 (by decide)).trans ((W3_of m ρ c main_v0_2 (by decide)).trans
    ((W2_of m ρ c main_v0_2 (by decide)).trans (h1 m ρ c))))

/-! ## The results -/

theorem y6 : W6 m ρ c (Proc.devRef .tc main_v1) = Ffn.out (h m c) (a2 m c) :=
  (W6_of m ρ c main_v1 (by decide)).trans ((W5_of m ρ c main_v1 (by decide)).trans ((W4_of m ρ c main_v1 (by decide)).trans
    ((W3_of m ρ c main_v1 (by decide)).trans (y2 m ρ c))))
theorem dx6 : W6 m ρ c (Proc.devRef .tc main_v3) = Ffn.dx (dg m c) (du m c) (a1 m c) :=
  (W6_of m ρ c main_v3 (by decide)).trans ((W5_of m ρ c main_v3 (by decide)).trans (dx4 m ρ c))
theorem dwin6 : W6 m ρ c (Proc.devRef .tc main_v4) = Ffn.dwin (a0 m c) (dg m c) (du m c) :=
  (W6_of m ρ c main_v4 (by decide)).trans (dwin5 m ρ c)
theorem dwout6 : W6 m ρ c (Proc.devRef .tc main_v5) = Ffn.dwout (h m c) (a3 m c) :=
  (W6_arr m ρ c 2).trans ((FfnArrays.dwout_arr (V5 m ρ) c).trans (congrArg₂ Ffn.dwout (h5 m ρ c) (W5_args m ρ c main_arg3 (by decide))))

set_option backward.isDefEq.respectTransparency.types false in
/-- From any memory the program runs to its end with the four results at the block's values. -/
theorem run : θ_run defs (onTc (τ := τ) (main (F := Ideal))) ⟨m, fun _ => 0, ρ⟩ (fun r => ∀ c : Dev nD,
      r.2.mem ((c.tc : Thread nD τ).loc main_v1) = Ffn.out (h m c) (a2 m c)
      ∧ r.2.mem ((c.tc : Thread nD τ).loc main_v3) = Ffn.dx (dg m c) (du m c) (a1 m c)
      ∧ r.2.mem ((c.tc : Thread nD τ).loc main_v4) = Ffn.dwin (a0 m c) (dg m c) (du m c)
      ∧ r.2.mem ((c.tc : Thread nD τ).loc main_v5) = Ffn.dwout (h m c) (a3 m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s e _ c =>
      ⟨(e c _ (mem_uc main_v1 (by decide))).trans (y6 m ρ c), (e c _ (mem_uc main_v3 (by decide))).trans (dx6 m ρ c),
       (e c _ (mem_uc main_v4 (by decide))).trans (dwin6 m ρ c), (e c _ (mem_uc main_v5 (by decide))).trans (dwout6 m ρ c)⟩)

end Cert.Proof.FfnRun

end
-- ==== Proof.FfnRef.lean ====
/- Hand-written, untrusted. The feed-forward block's reference program, read entry by entry. -/
module

public import proofs.«01_k».proof.Proof.FfnSpec
public import proofs.«01_k».proof.Proof.Softmax
public import proofs.«01_k».proof.Proof.Gen.Reference2Ideal.Read
public import Idealize.ShloMosaic.Lib.KernelVsHost

@[expose] public section

set_option maxRecDepth 16384

noncomputable section

namespace Cert.Proof.FfnRef

open Idealize.ShloMosaic Cert.Reference2Ideal Cert.Reference2Ideal.Gen Cert.Reference2Ideal.Read Idealize.ShloMosaic.Pointwise
open Ffn (Seq Win Wout Hid row lo hi)

/-! ## Lanes by blocks -/

/-- A sum over the hidden lanes, by blocks. -/
theorem sum_rows (f : Fin 2816 → EReal) : ∑ q, f q = ∑ d : Fin 4, ∑ j : Fin 704, f (row d j) := by
  rw [← Fintype.sum_prod_type' (fun (d : Fin 4) (j : Fin 704) => f (row d j))]
  refine (Equiv.sum_comp (finProdFinEquiv (m := 4) (n := 704)) f).symm.trans (Finset.sum_congr rfl fun p _ => congrArg f (Fin.ext ?_))
  simp only [finProdFinEquiv_apply_val, row]; omega
/-- A lane of the first product: a block of the eight and a lane of it. -/
def col (b : Fin 8) (j : Fin 704) : Fin 5632 := ⟨b.val * 704 + j.val, by omega⟩
theorem sum_cols (f : Fin 5632 → EReal) : ∑ q, f q = ∑ b : Fin 8, ∑ j : Fin 704, f (col b j) := by
  rw [← Fintype.sum_prod_type' (fun (b : Fin 8) (j : Fin 704) => f (col b j))]
  refine (Equiv.sum_comp (finProdFinEquiv (m := 8) (n := 704)) f).symm.trans (Finset.sum_congr rfl fun p _ => congrArg f (Fin.ext ?_))
  simp only [finProdFinEquiv_apply_val, col]; omega
/-- A sum over the eight blocks, by pairs. -/
theorem sum_eight (f : Fin 8 → EReal) : ∑ b, f b = ∑ d : Fin 4, (f (lo d) + f (hi d)) := by
  rw [Finset.sum_add_distrib]
  exact Fin.sum_univ_add (a := 4) (b := 4) f |>.trans (by
    refine congrArg₂ _ (Finset.sum_congr rfl fun d _ => congrArg f (Fin.ext rfl)) (Finset.sum_congr rfl fun d _ => congrArg f (Fin.ext ?_))
    simp only [hi, Fin.val_natAdd]; omega)

variable (x : Seq) (w : Win) (v : Wout) (e : Seq) (t : Fin 2048) (d : Fin 4) (j : Fin 704) (b : Fin 8) (k : Fin 1024)

/-! ## The stages -/

theorem s1 : val_main_v1 (F := Ideal) w (ix2 k (col b j)) = w (ix3 b k j) := by
  have hj := j.isLt
  have hb := b.isLt
  pointwise [val_main_v1, val_main_v0]
  refine congrArg w (funext fun a => Fin.ext ?_)
  match a with
  | ⟨0, _⟩ => dsimp [ix3, col]; omega
  | ⟨1, _⟩ => dsimp [ix3, col]
  | ⟨2, _⟩ => dsimp [ix3, col]; omega

theorem s2 : val_main_v2 (F := Ideal) x w (ix2 t (col b j)) = ∑ k, x (ix2 t k) * w (ix3 b k j) := by
  pointwise [val_main_v2]
  exact Finset.sum_congr rfl fun k _ => congrArg _ (s1 w j b k)
theorem s3 : val_main_v3 (F := Ideal) x w (ix2 t (row d j)) = Ffn.gate x w (ix3 d t j) := by
  refine Eq.trans ?_ (s2 x w t j (lo d))
  pointwise [val_main_v3]
  exact congrArg _ (congrArg _ (Fin.ext rfl))
theorem s4 : val_main_v4 (F := Ideal) x w (ix2 t (row d j)) = Ffn.up x w (ix3 d t j) := by
  refine Eq.trans ?_ (s2 x w t j (hi d))
  pointwise [val_main_v4]
  refine congrArg _ (congrArg _ (Fin.ext ?_))
  simp only [row, col, hi]
  omega
theorem sg : val_main_v5_2 (F := Ideal) x w (ix2 t (row d j)) = Ideal.logistic (Ffn.gate x w (ix3 d t j)) := by
  rw [← s3]
  pointwise [val_main_v5_2, val_main_call0_v4, val_main_call0_v3, val_main_call0_v2, val_main_call0_v1, val_main_call0_v0, val_main_call0_cst, val_main_call0_cst_0]
  rfl
theorem s6 : val_main_v6 (F := Ideal) x w (ix2 t (row d j)) = Ffn.act (Ffn.gate x w) (Ffn.up x w) (ix3 d t j) := by
  show val_main_v3 (F := Ideal) x w (ix2 t (row d j)) * val_main_v5_2 (F := Ideal) x w (ix2 t (row d j)) * val_main_v4 (F := Ideal) x w (ix2 t (row d j)) = _
  rw [s3, sg, s4]; rfl
theorem y_ref : val_main_v7 (F := Ideal) x w v = Ffn.out (Ffn.act (Ffn.gate x w) (Ffn.up x w)) v := by
  funext i
  pointwise [val_main_v7]
  rw [sum_rows]
  exact Finset.sum_congr rfl fun d _ => Finset.sum_congr rfl fun j _ => congrArg (· * v (ix2 (row d j) (i 1))) (s6 x w (i 0) d j)
theorem dwout_ref : val_main_v10 (F := Ideal) x w e = Ffn.dwout (Ffn.act (Ffn.gate x w) (Ffn.up x w)) e := by
  funext i
  pointwise [val_main_v10, val_main_v9, val_main_v8, Ffn.dwout]
  refine Finset.sum_congr rfl fun t _ => ?_
  rw [mul_comm]
  refine congrArg₂ _ ?_ rfl
  rw [← s6]
  refine congrArg _ (congrArg _ (Fin.ext ?_))
  simp only [row]
  omega

theorem s10 : val_main_v11 (F := Ideal) v e (ix2 t (row d j)) = Ffn.dact e v (ix3 d t j) := by
  pointwise [val_main_v11]
  rfl
theorem s11 : val_main_v12 (F := Ideal) x w v e (ix2 t (row d j)) = Ffn.dup (Ffn.dact e v) (Ffn.gate x w) (ix3 d t j) := by
  show val_main_v3 (F := Ideal) x w (ix2 t (row d j)) * val_main_v5_2 (F := Ideal) x w (ix2 t (row d j)) * val_main_v11 (F := Ideal) v e (ix2 t (row d j)) = _
  rw [s3, sg, s10]
  show _ = Ffn.dact e v (ix3 d t j) * Ffn.gate x w (ix3 d t j) * Ideal.logistic (Ffn.gate x w (ix3 d t j))
  rw [mul_comm, mul_assoc]

/-- Every entry is a real. -/
def Ok {A : Type} (f : A → EReal) : Prop := ∀ i, f i ≠ ⊤ ∧ f i ≠ ⊥

/-- The derivative of the gated product in its gate, gathered and spread out. -/
theorem gather (p g u : EReal) (hp : p ≠ ⊤ ∧ p ≠ ⊥) (hg : g ≠ ⊤ ∧ g ≠ ⊥) (hu : u ≠ ⊤ ∧ u ≠ ⊥) :
    p * u * Ideal.logistic g + g * (p * u) * (Ideal.logistic g * (1 - Ideal.logistic g))
      = p * u * Ideal.logistic g * (1 + g * (1 - Ideal.logistic g)) := by
  obtain ⟨p, rfl⟩ := Softmax.exists_real hp
  obtain ⟨g, rfl⟩ := Softmax.exists_real hg
  obtain ⟨u, rfl⟩ := Softmax.exists_real hu
  rw [Ideal.logistic_coe]
  norm_cast
  ring

theorem s13 (hx : Ok x) (hw : Ok w) (hv : Ok v) (he : Ok e) :
    val_main_v14 (F := Ideal) x w v e (ix2 t (row d j)) = Ffn.dgate (Ffn.dact e v) (Ffn.gate x w) (Ffn.up x w) (ix3 d t j) := by
  refine Eq.trans ?_ (gather (Ffn.dact e v (ix3 d t j)) (Ffn.gate x w (ix3 d t j)) (Ffn.up x w (ix3 d t j))
    (Softmax.dot_fin (fun _ => he _) fun _ => hv _) (Softmax.dot_fin (fun _ => hx _) fun _ => hw _)
    (Softmax.dot_fin (fun _ => hx _) fun _ => hw _))
  rw [← s10, ← s4, ← sg, ← s3]
  pointwise [val_main_v14, val_main_call1_v1, val_main_call1_v2, val_main_call1_v0, val_main_v13, val_main_v5_1, val_main_call0_v7,
    val_main_call0_v6, val_main_call0_cst_1]

theorem s14 (hx : Ok x) (hw : Ok w) (hv : Ok v) (he : Ok e) : val_main_v15 (F := Ideal) x w v e (ix2 t (col b j))
    = Ffn.pick (Ffn.dgate (Ffn.dact e v) (Ffn.gate x w) (Ffn.up x w)) (Ffn.dup (Ffn.dact e v) (Ffn.gate x w)) b t j := by
  have hj := j.isLt
  pointwise [val_main_v15]
  by_cases h : b.val < 4
  · have hc : (col b j).val < 2816 := by simp only [col]; omega
    rw [dif_pos hc, Ffn.pick_lo _ _ _ h]
    exact (congrArg _ (congrArg _ (Fin.ext rfl))).trans (s13 x w v e t ⟨b.val, h⟩ j hx hw hv he)
  · have hc : ¬ (col b j).val < 2816 := by simp only [col]; omega
    rw [dif_neg hc, Ffn.pick_hi _ _ _ h]
    refine (congrArg _ (congrArg _ (Fin.ext ?_))).trans (s11 x w v e t ⟨b.val - 4, by omega⟩ j)
    simp only [row, col]
    omega

theorem dx_ref (hx : Ok x) (hw : Ok w) (hv : Ok v) (he : Ok e) : val_main_v19 (F := Ideal) x w v e
    = Ffn.dx (Ffn.dgate (Ffn.dact e v) (Ffn.gate x w) (Ffn.up x w)) (Ffn.dup (Ffn.dact e v) (Ffn.gate x w)) w := by
  funext i
  pointwise [val_main_v19]
  rw [sum_cols, sum_eight]
  refine Finset.sum_congr rfl fun d _ => congrArg₂ _ (Finset.sum_congr rfl fun j _ => ?_) (Finset.sum_congr rfl fun j _ => ?_)
  · refine congrArg₂ (· * ·) ((s14 x w v e (i 0) j (lo d) hx hw hv he).trans ?_) (s1 w j (lo d) (i 1))
    rw [Ffn.pick_lo _ _ _ d.isLt]; rfl
  · refine congrArg₂ (· * ·) ((s14 x w v e (i 0) j (hi d) hx hw hv he).trans ?_) (s1 w j (hi d) (i 1))
    rw [Ffn.pick_hi _ _ _ (by simp only [hi]; omega)]
    exact congrArg _ (congrArg (fun a => ix3 a (i 0) j) (Fin.ext (by simp only [hi]; omega)))

theorem dwin_ref (hx : Ok x) (hw : Ok w) (hv : Ok v) (he : Ok e) : val_main_v21 (F := Ideal) x w v e
    = Ffn.dwin x (Ffn.dgate (Ffn.dact e v) (Ffn.gate x w) (Ffn.up x w)) (Ffn.dup (Ffn.dact e v) (Ffn.gate x w)) := by
  funext i
  pointwise [val_main_v21, val_main_v20, val_main_v18, val_main_v17, val_main_v16, Ffn.dwin]
  refine Finset.sum_congr rfl fun t _ => ?_
  rw [mul_comm, ← s14 x w v e t (i 2) (i 0) hx hw hv he]
  rfl

end Cert.Proof.FfnRef

end
-- ==== Proof.FfnPre.lean ====
/- Hand-written, untrusted. What the feed-forward block's precondition says: every entry of the four arguments is finite. -/
module

public import proofs.«01_k».proof.Pre_finite2
public import proofs.«01_k».proof.Proof.Pre

@[expose] public section

set_option maxRecDepth 16384

noncomputable section

namespace Cert.Proof.FfnPre

open Idealize.ShloMosaic Cert.Pre_finite2 Idealize.ShloMosaic.Pointwise
open Pre (fold_one and_one top_bits entry)

/-- The relations of shapes the precondition's operations need. -/
theorem facts : Cert.Pre_finite2.Facts where
  bcast_S_S2048x1024 := by decide
  reducesTo_S2048x1024_S_d0_1 := by decide
  h_S_ := by decide
  bitsLt_bf16_f32 := by decide
  bcast_S_S8x1024x704 := by decide
  reducesTo_S8x1024x704_S_d0_1_2 := by decide
  bcast_S_S2816x1024 := by decide
  reducesTo_S2816x1024_S_d0_1 := by decide

variable [Facts] {S : Shape}

/-- The precondition of one array. -/
def all (x : FVec Ideal S .f32) (hb : S_.BroadcastsInDim S (![] : Fin 0 → Fin S.rank)) {l : List (Fin S.rank)} (hr : S.ReducesTo l S_) : IVec S_ 1 :=
  Host.reduce IntOp.andi (cmpf .olt (Host.absf x) (broadcastInDim S ![] hb (constant S_ .f32 0x7F800000#32)))
    (constantI S_ 1 1#1) hr Facts.h_S_

theorem all_fin (x : FVec Ideal S .f32) (hb : S_.BroadcastsInDim S (![] : Fin 0 → Fin S.rank)) {l : List (Fin S.rank)} (hr : S.ReducesTo l S_)
    (h : all x hb hr ix0 = 1#1) (i : S.Idx) : x i ≠ (⊤ : EReal) ∧ x i ≠ (⊥ : EReal) := by
  rw [all, Host.reduce_eq_fold] at h
  have := fold_one _ _ h i (Finset.mem_filter.mpr ⟨Finset.mem_univ _, Subsingleton.elim _ _⟩)
  pointwise [] at this
  refine entry (x i) ?_
  have h2 : FloatOps.absf (x i) < Ideal.ofBits FTy.f32 2139095040#32 := by
    by_contra hn
    rw [decide_eq_false hn] at this
    exact absurd this (by decide)
  exact lt_of_lt_of_eq h2 top_bits

theorem decode (x0 : FVec Ideal S2048x1024 .f32) (x1 : FVec Ideal S8x1024x704 .bf16) (x2 : FVec Ideal S2816x1024 .bf16) (x3 : FVec Ideal S2048x1024 .f32)
    (h : fn (F := Ideal) x0 x1 x2 x3 = fun _ => 1#1) :
    (∀ i, x0 i ≠ (⊤ : EReal) ∧ x0 i ≠ (⊥ : EReal)) ∧ (∀ i, x1 i ≠ (⊤ : EReal) ∧ x1 i ≠ (⊥ : EReal)) ∧ (∀ i, x2 i ≠ (⊤ : EReal) ∧ x2 i ≠ (⊥ : EReal))
      ∧ (∀ i, x3 i ≠ (⊤ : EReal) ∧ x3 i ≠ (⊥ : EReal)) := by
  have h' : IntOp.andi (IntOp.andi (IntOp.andi (all x0 Facts.bcast_S_S2048x1024 Facts.reducesTo_S2048x1024_S_d0_1 ix0)
    (all (extf .f32 x1 Facts.bitsLt_bf16_f32) Facts.bcast_S_S8x1024x704 Facts.reducesTo_S8x1024x704_S_d0_1_2 ix0)) (all (extf .f32 x2 Facts.bitsLt_bf16_f32) Facts.bcast_S_S2816x1024 Facts.reducesTo_S2816x1024_S_d0_1 ix0))
    (all x3 Facts.bcast_S_S2048x1024 Facts.reducesTo_S2048x1024_S_d0_1 ix0) = 1#1 := congrFun h ix0
  obtain ⟨h', h3⟩ := and_one _ _ h'
  obtain ⟨h', h2⟩ := and_one _ _ h'
  obtain ⟨h0, h1⟩ := and_one _ _ h'
  exact ⟨all_fin x0 _ _ h0, all_fin (extf .f32 x1 Facts.bitsLt_bf16_f32) _ _ h1, all_fin (extf .f32 x2 Facts.bitsLt_bf16_f32) _ _ h2, all_fin x3 _ _ h3⟩

end Cert.Proof.FfnPre

end
-- ==== Proof.XSpec.lean ====
/- Hand-written, untrusted. The attention over the memory with its projections and two of its gradients, as sums. -/
module

public import Idealize.ShloMosaic.Lib.Pointwise
public import Idealize.ShloMosaic.Lib.IdealHost

@[expose] public section

noncomputable section

namespace Cert.Proof.X

open Idealize.ShloMosaic Idealize.ShloMosaic.Pointwise

/-- Positions by model lanes. -/
abbrev Seq := (⟨2, ![2048, 1024]⟩ : Shape).Idx → EReal
/-- Memory slots by model lanes. -/
abbrev Mem := (⟨2, ![256, 1024]⟩ : Shape).Idx → EReal
/-- Memory slots by the lanes of keys and then of values. -/
abbrev KV := (⟨2, ![256, 2048]⟩ : Shape).Idx → EReal
/-- Square weights. -/
abbrev Sq := (⟨2, ![1024, 1024]⟩ : Shape).Idx → EReal
/-- The weights of keys and values. -/
abbrev Wkv := (⟨2, ![1024, 2048]⟩ : Shape).Idx → EReal

/-! ## One row of queries against one head's keys and values -/

section Row
variable (q : Fin 256 → EReal) (K V : Fin 256 → Fin 256 → EReal) (d : Fin 256 → EReal)

/-- The scale of the scores. -/
def scale : EReal := Ideal.ofBits .f32 0x3D800000#32
/-- The scores. -/
def sc (s : Fin 256) : EReal := (∑ j, q j * K s j) * scale
/-- Their maximum. -/
def mx : EReal := Finset.univ.fold max ⊥ (sc q K)
theorem bot_bits : Ideal.ofBits .f32 0xFF800000#32 = (⊥ : EReal) := by
  simp [Ideal.ofBits, Ideal.ieee]
/-- The exponentials. -/
def ex (s : Fin 256) : EReal := Ideal.exp (sc q K s - mx q K)
/-- Their sum. -/
def ln : EReal := ∑ s, ex q K s
/-- The probabilities. -/
def pr (s : Fin 256) : EReal := Ideal.div (ex q K s) (ln q K)
/-- The row's result. -/
def at' (j : Fin 256) : EReal := ∑ s, pr q K s * V s j
/-- The gradient of the probabilities. -/
def dp (s : Fin 256) : EReal := ∑ j, d j * V s j
/-- The gradient of the products of queries and keys. -/
def ds (s : Fin 256) : EReal :=
  (Ideal.div (dp V d s) (ln q K) + (0 - ∑ u, dp V d u * Ideal.div 1 (ln q K * ln q K) * ex q K u)) * ex q K s * scale
end Row

/-! ## The arrays -/

/-- A lane's head. -/
def hd (n : Fin 1024) : Fin 4 := ⟨n.val / 256, by omega⟩
/-- A lane within its head. -/
def ln' (n : Fin 1024) : Fin 256 := ⟨n.val % 256, by omega⟩
/-- A head's lane among all. -/
def lane (h : Fin 4) (j : Fin 256) : Fin 1024 := ⟨h.val * 256 + j.val, by omega⟩
/-- A lane among the keys' and the values'. -/
def kl (n : Fin 1024) : Fin 2048 := ⟨n.val, by omega⟩
def vl (n : Fin 1024) : Fin 2048 := ⟨1024 + n.val, by omega⟩

/-- A row's lanes of a head. -/
def row (x : Seq) (h : Fin 4) (t : Fin 2048) (j : Fin 256) : EReal := x (ix2 t (lane h j))
/-- A head's keys. -/
def keys (x : KV) (h : Fin 4) (s j : Fin 256) : EReal := x (ix2 s (kl (lane h j)))
/-- A head's values. -/
def vals (x : KV) (h : Fin 4) (s j : Fin 256) : EReal := x (ix2 s (vl (lane h j)))

/-- Positions times square weights. -/
def mulQ (x : Seq) (w : Sq) : Seq := fun y => ∑ k : Fin 1024, x (ix2 (y 0) k) * w (ix2 k (y 1))
/-- Positions times square weights, transposed. -/
def mulT (x : Seq) (w : Sq) : Seq := fun y => ∑ k : Fin 1024, x (ix2 (y 0) k) * w (ix2 (y 1) k)
/-- The memory times the weights of keys and values. -/
def mulK (x : Mem) (w : Wkv) : KV := fun y => ∑ k : Fin 1024, x (ix2 (y 0) k) * w (ix2 k (y 1))
/-- The attention. -/
def att (q : Seq) (kv : KV) : Seq := fun y => at' (row q (hd (y 1)) (y 0)) (keys kv (hd (y 1))) (vals kv (hd (y 1))) (ln' (y 1))
/-- The gradient of the products, by heads. -/
def dS (q : Seq) (kv : KV) (d : Seq) (h : Fin 4) (t : Fin 2048) (s : Fin 256) : EReal :=
  ds (row q h t) (keys kv h) (vals kv h) (row d h t) s
/-- The queries' gradient. -/
def dq (q : Seq) (kv : KV) (d : Seq) : Seq := fun y => ∑ s, dS q kv d (hd (y 1)) (y 0) s * keys kv (hd (y 1)) s (ln' (y 1))
/-- The keys' gradient. -/
def dk (q : Seq) (kv : KV) (d : Seq) : Mem := fun y => ∑ t, dS q kv d (hd (y 1)) t (y 0) * row q (hd (y 1)) t (ln' (y 1))
/-- The values' gradient. -/
def dv (q : Seq) (kv : KV) (d : Seq) : Mem := fun y => ∑ t, pr (row q (hd (y 1)) t) (keys kv (hd (y 1))) (y 0) * row d (hd (y 1)) t (ln' (y 1))
/-- Keys' and values' gradients side by side. -/
def both (a b : Mem) : KV := fun y => if h : (y 1).val < 1024 then a (ix2 (y 0) ⟨(y 1).val, h⟩) else b (ix2 (y 0) ⟨(y 1).val - 1024, by have := (y 1).isLt; simp at this; omega⟩)
/-- The gradient of the weights of keys and values. -/
def dw (x : Mem) (g : KV) : Wkv := fun y => ∑ s : Fin 256, x (ix2 s (y 0)) * g (ix2 s (y 1))

end Cert.Proof.X

end
-- ==== Proof.XBlock.lean ====
/- Hand-written, untrusted. The calls of the attention over the memory: what one grid point of each leaves, read entry by entry. -/
module

public import proofs.«01_k».proof.Proof.Gen.Kernel3Ideal.Frame
public import proofs.«01_k».proof.Proof.XSpec
public import Idealize.ShloMosaic.Lib.Pointwise
public import Idealize.ShloMosaic.Lib.Pipeline.ValueKit

@[expose] public section

set_option maxRecDepth 16384

noncomputable section

namespace Cert.Proof.XBlock

open Idealize.ShloMosaic Cert.Kernel3Ideal Cert.Kernel3Ideal.Gen Idealize.ShloMosaic.Pointwise

/-- A block's start. -/
theorem hz2 : (![0, 0] : Fin 2 → ℕ) = fun _ => 0 := by decide

/-! ## The products -/

theorem mul0 (x : Vec Ideal S512x1024 .f32) (w : Vec Ideal S1024x1024 .bf16) (y : S512x1024.Idx) :
    out0_2 x w y = ∑ k : Fin 1024, x (ix2 (y 0) k) * w (ix2 k (y 1)) := by
  unfold out0_2
  rw [View.canon_unit_zero hz2, View.ld_unit_zero hz2, View.ld_unit_zero hz2]
  pointwise [k0_pay1]
theorem mul1 (x : Vec Ideal S256x1024 .f32) (w : Vec Ideal S1024x1024 .bf16) (y : S256x1024.Idx) :
    out1_2 x w y = ∑ k : Fin 1024, x (ix2 (y 0) k) * w (ix2 k (y 1)) := by
  unfold out1_2
  rw [View.canon_unit_zero hz2, View.ld_unit_zero hz2, View.ld_unit_zero hz2]
  pointwise [k1_pay1]
theorem mul3 (x : Vec Ideal S512x1024 .f32) (w : Vec Ideal S1024x1024 .bf16) (y : S512x1024.Idx) :
    out3_2 x w y = ∑ k : Fin 1024, x (ix2 (y 0) k) * w (ix2 k (y 1)) := by
  unfold out3_2
  rw [View.canon_unit_zero hz2, View.ld_unit_zero hz2, View.ld_unit_zero hz2]
  pointwise [k3_pay1]
theorem mul4 (x : Vec Ideal S512x1024 .f32) (w : Vec Ideal S1024x1024 .bf16) (y : S512x1024.Idx) :
    out4_2 x w y = ∑ k : Fin 1024, x (ix2 (y 0) k) * w (ix2 (y 1) k) := by
  unfold out4_2
  rw [View.canon_unit_zero hz2, View.ld_unit_zero hz2, View.ld_unit_zero hz2]
  pointwise [k4_pay1]
theorem mul6 (x : Vec Ideal S512x1024 .f32) (w : Vec Ideal S1024x1024 .bf16) (y : S512x1024.Idx) :
    out6_2 x w y = ∑ k : Fin 1024, x (ix2 (y 0) k) * w (ix2 (y 1) k) := by
  unfold out6_2
  rw [View.canon_unit_zero hz2, View.ld_unit_zero hz2, View.ld_unit_zero hz2]
  pointwise [k6_pay1]
theorem mul7 (x g : Vec Ideal S256x1024 .f32) (y : S1024x1024.Idx) :
    out7_2 x g y = ∑ s : Fin 256, x (ix2 s (y 0)) * g (ix2 s (y 1)) := by
  unfold out7_2
  rw [View.canon_unit_zero hz2, View.ld_unit_zero hz2, View.ld_unit_zero hz2]
  pointwise [k7_pay1]

/-! ## The attention -/

/-- A block's row, and a block of keys or values. -/
def rw' (x : Vec Ideal S512x256 .f32) (r : Fin 512) (j : Fin 256) : EReal := x (ix2 r j)
def ks (x : Vec Ideal S256x256 .f32) (s j : Fin 256) : EReal := x (ix2 s j)

section Bwd
variable (q : Vec Ideal S512x256 .f32) (k v : Vec Ideal S256x256 .f32) (d : Vec Ideal S512x256 .f32) (r : Fin 512) (s j : Fin 256)

theorem p10 : k5_pay10 q k (ix2 r s) = X.ex (rw' q r) (ks k) s := by
  pointwise [k5_pay10, k5_pay7, k5_pay8]
  rw [X.bot_bits]
  rfl
theorem p11 : k5_pay11 q k (ix2 r 0) = X.ln (rw' q r) (ks k) := by
  pointwise [k5_pay11]
  exact Finset.sum_congr rfl fun s _ => p10 q k r s
theorem p12 : k5_pay12 v d (ix2 r s) = X.dp (ks v) (rw' d r) s := by
  pointwise [k5_pay12, k5_pay9]
  rfl
theorem p14 : k5_pay14 q k v d (ix2 r 0) = 0 - ∑ u, X.dp (ks v) (rw' d r) u * Ideal.div 1 (X.ln (rw' q r) (ks k) * X.ln (rw' q r) (ks k)) * X.ex (rw' q r) (ks k) u := by
  pointwise [k5_pay14]
  simp only [p10, p11, p12]
theorem p15 : k5_pay15 q k v d (ix2 r s) = Ideal.div (X.dp (ks v) (rw' d r) s) (X.ln (rw' q r) (ks k)) := by
  pointwise [k5_pay15]
  simp only [p10, p11, p12]
theorem p1 : k5_pay1 (k5_pay10 q k) (k5_pay14 q k v d) (k5_pay15 q k v d) (ix2 r s) = X.ds (rw' q r) (ks k) (ks v) (rw' d r) s := by
  pointwise [k5_pay1]
  simp only [p10, p14, p15, Fin.sum_univ_one]
  rfl
theorem p2 : k5_pay2 (k5_pay8 k) (k5_pay10 q k) (k5_pay14 q k v d) (k5_pay15 q k v d) (ix2 r j)
    = ∑ s, X.ds (rw' q r) (ks k) (ks v) (rw' d r) s * ks k s j := by
  pointwise [k5_pay2, k5_pay8]
  simp only [p1]
  rfl
theorem p4 (a : Vec Ideal S256x256 .f32) : k5_pay4 (k5_pay7 q) (k5_pay10 q k) (k5_pay14 q k v d) (k5_pay15 q k v d) a (ix2 s j)
    = a (ix2 s j) + ∑ r, X.ds (rw' q r) (ks k) (ks v) (rw' d r) s * rw' q r j := by
  pointwise [k5_pay4, k5_pay7]
  simp only [p1]
  rfl
theorem p6 (a : Vec Ideal S256x256 .f32) : k5_pay6 (k5_pay13 q k d) a (ix2 s j)
    = a (ix2 s j) + ∑ r, X.pr (rw' q r) (ks k) s * rw' d r j := by
  pointwise [k5_pay6, k5_pay13, k5_pay9]
  simp only [p10, p11]
  rfl
theorem p3 : k5_pay3 (F := Ideal) (ix2 s j) = 0 := by
  pointwise [k5_pay3]
theorem p5 : k5_pay5 (F := Ideal) (ix2 s j) = 0 := by
  pointwise [k5_pay5]

end Bwd

theorem att2 (q : Vec Ideal S512x256 .f32) (k v : Vec Ideal S256x256 .f32) (y : S512x256.Idx) :
    out2_3 q k v y = X.at' (rw' q (y 0)) (ks k) (ks v) (y 1) := by
  unfold out2_3
  rw [View.canon_unit_zero hz2, View.ld_unit_zero hz2, View.ld_unit_zero hz2, View.ld_unit_zero hz2]
  pointwise [k2_pay1]
  rw [X.bot_bits]
  rfl

/-! ## The attention's gradient, by cases: a head's first block of rows, and the others -/

section Cases
variable (c : Dev nD) (i : grid5.Coords) (arg2 : Memref sig .tc .vmem S512x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S256x256 .f32) (harg7 : arg7.IsWhole) (arg8 : Memref sig .tc .vmem S256x256 .f32) (harg8 : arg8.IsWhole)
  (x0 : Vec Ideal S512x256 .f32) (x1 x2 : Vec Ideal S256x256 .f32) (x3 : Vec Ideal S512x256 .f32) (xo5 xo6 : Vec Ideal S256x256 .f32)

theorem A4 (hc0 : cond5_0 i) (hc1 : cond5_1 i) :
    out5_A_4 c i arg2 harg2 arg3 harg3 arg4 harg4 arg5 harg5 arg6 harg6 arg7 harg7 arg8 harg8 hc0 hc1 x0 x1 x2 x3 = k5_pay2 (k5_pay8 x1) (k5_pay10 x0 x1) (k5_pay14 x0 x1 x2 x3) (k5_pay15 x0 x1 x2 x3) := by
  unfold out5_A_4
  rw [View.read_writes_eq_canon _ _ _ (cover5_A_4 c i arg2 harg2 arg3 harg3 arg4 harg4 arg5 harg5 arg6 harg6 arg7 harg7 arg8 harg8 hc0 hc1 x0 x1 x2 x3)]
  unfold kernelRun5_A
  dsimp only
  sl_unfold_words
  rw [View.canon_unit_zero hz2]
  simp only [View.readAt_eq_ld, harg2.read_unread, harg3.read_unread, harg4.read_unread, harg5.read_unread, harg7.read_unread, harg8.read_unread,
    View.ld_unit_zero (S := S512x256) hz2, View.ld_unit_zero (S := S256x256) hz2]
theorem A5 (hc0 : cond5_0 i) (hc1 : cond5_1 i) :
    out5_A_5 c i arg2 harg2 arg3 harg3 arg4 harg4 arg5 harg5 arg6 harg6 arg7 harg7 arg8 harg8 hc0 hc1 x0 x1 x2 x3 = k5_pay4 (k5_pay7 x0) (k5_pay10 x0 x1) (k5_pay14 x0 x1 x2 x3) (k5_pay15 x0 x1 x2 x3) (k5_pay3 (F := Ideal)) := by
  unfold out5_A_5
  rw [View.read_writes_eq_canon _ _ _ (cover5_A_5 c i arg2 harg2 arg3 harg3 arg4 harg4 arg5 harg5 arg6 harg6 arg7 harg7 arg8 harg8 hc0 hc1 x0 x1 x2 x3)]
  unfold kernelRun5_A
  dsimp only
  sl_unfold_words
  rw [View.canon_cons_unit_zero (S := S256x256) hz2, View.readCov_unit_zero (S := S256x256) _ hz2]
  simp only [View.readAt_eq_ld, harg2.read_unread, harg3.read_unread, harg4.read_unread, harg5.read_unread, harg7.read_unread, harg8.read_unread,
    View.ld_unit_zero (S := S512x256) hz2, View.ld_unit_zero (S := S256x256) hz2]
theorem A6 (hc0 : cond5_0 i) (hc1 : cond5_1 i) :
    out5_A_6 c i arg2 harg2 arg3 harg3 arg4 harg4 arg5 harg5 arg6 harg6 arg7 harg7 arg8 harg8 hc0 hc1 x0 x1 x2 x3 = k5_pay6 (k5_pay13 x0 x1 x3) (k5_pay5 (F := Ideal)) := by
  unfold out5_A_6
  rw [View.read_writes_eq_canon _ _ _ (cover5_A_6 c i arg2 harg2 arg3 harg3 arg4 harg4 arg5 harg5 arg6 harg6 arg7 harg7 arg8 harg8 hc0 hc1 x0 x1 x2 x3)]
  unfold kernelRun5_A
  dsimp only
  sl_unfold_words
  rw [View.canon_cons_unit_zero (S := S256x256) hz2, View.readCov_unit_zero (S := S256x256) _ hz2]
  simp only [View.readAt_eq_ld, harg2.read_unread, harg3.read_unread, harg4.read_unread, harg5.read_unread, harg7.read_unread, harg8.read_unread,
    View.ld_unit_zero (S := S512x256) hz2, View.ld_unit_zero (S := S256x256) hz2]
theorem B4 (hc0 : ¬cond5_0 i) (hc1 : ¬cond5_1 i) :
    out5_B_4 c i arg2 harg2 arg3 harg3 arg4 harg4 arg5 harg5 arg6 harg6 arg7 harg7 arg8 harg8 hc0 hc1 x0 x1 x2 x3 xo5 xo6 = k5_pay2 (k5_pay8 x1) (k5_pay10 x0 x1) (k5_pay14 x0 x1 x2 x3) (k5_pay15 x0 x1 x2 x3) := by
  unfold out5_B_4
  rw [View.read_writes_eq_canon _ _ _ (cover5_B_4 c i arg2 harg2 arg3 harg3 arg4 harg4 arg5 harg5 arg6 harg6 arg7 harg7 arg8 harg8 hc0 hc1 x0 x1 x2 x3 xo5 xo6)]
  unfold kernelRun5_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S512x256) hz2, View.ld_unit_zero (S := S256x256) hz2]
theorem B5 (hc0 : ¬cond5_0 i) (hc1 : ¬cond5_1 i) :
    out5_B_5 c i arg2 harg2 arg3 harg3 arg4 harg4 arg5 harg5 arg6 harg6 arg7 harg7 arg8 harg8 hc0 hc1 x0 x1 x2 x3 xo5 xo6 = k5_pay4 (k5_pay7 x0) (k5_pay10 x0 x1) (k5_pay14 x0 x1 x2 x3) (k5_pay15 x0 x1 x2 x3) xo5 := by
  unfold out5_B_5
  rw [View.read_writes_eq_canon _ _ _ (cover5_B_5 c i arg2 harg2 arg3 harg3 arg4 harg4 arg5 harg5 arg6 harg6 arg7 harg7 arg8 harg8 hc0 hc1 x0 x1 x2 x3 xo5 xo6)]
  unfold kernelRun5_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S512x256) hz2, View.ld_unit_zero (S := S256x256) hz2]
theorem B6 (hc0 : ¬cond5_0 i) (hc1 : ¬cond5_1 i) :
    out5_B_6 c i arg2 harg2 arg3 harg3 arg4 harg4 arg5 harg5 arg6 harg6 arg7 harg7 arg8 harg8 hc0 hc1 x0 x1 x2 x3 xo5 xo6 = k5_pay6 (k5_pay13 x0 x1 x3) xo6 := by
  unfold out5_B_6
  rw [View.read_writes_eq_canon _ _ _ (cover5_B_6 c i arg2 harg2 arg3 harg3 arg4 harg4 arg5 harg5 arg6 harg6 arg7 harg7 arg8 harg8 hc0 hc1 x0 x1 x2 x3 xo5 xo6)]
  unfold kernelRun5_B
  dsimp only
  sl_unfold_words
  rw [View.canon_unit_zero hz2]
  simp only [View.readAt_eq_ld, harg2.read_unread, harg3.read_unread, harg4.read_unread, harg5.read_unread, harg7.read_unread, harg8.read_unread,
    View.ld_unit_zero (S := S512x256) hz2, View.ld_unit_zero (S := S256x256) hz2]

end Cases

end Cert.Proof.XBlock

end
-- ==== Proof.XArrays.lean ====
/- Hand-written, untrusted. What each of the eight calls of the attention over the memory leaves in its arrays. -/
module

public import proofs.«01_k».proof.Proof.XBlock

@[expose] public section

set_option maxRecDepth 16384

noncomputable section

namespace Cert.Proof.XArrays

open Idealize.ShloMosaic Idealize.ShloMosaic.TcCoe Cert.Kernel3Ideal Cert.Kernel3Ideal.Gen Idealize.ShloMosaic.Pointwise
open XBlock (rw' ks)

/-- The buffers at a call's entry. -/
abbrev At := (c : Dev nD) → (b : Ref sig .tc) → Buf (Elt Ideal) ((c : Thread nD τ).loc b)
variable (V : At) (c : Dev nD)

/-! ## The projections -/

theorem i0 : ∀ t : Fin cfg0.N, win0_0.index t = ![(grid0.coords t 0).val, 0] ∧ win0_1.index t = ![0, 0]
    ∧ win0_2.index t = ![(grid0.coords t 0).val, 0] := (by decide +kernel : ∀ t : Fin grid0.N, _)
theorem q_arr : (dat0 V c).arrAt 2 cfg0.N = X.mulQ (V c main_arg0) (V c main_arg2) := by
  refine (dat0 V c).arrAt_eq_of_covers 2 _ (by decide +kernel) fun t hf y => ?_
  blk_simp
  rw [after0_2, XBlock.mul0]
  obtain ⟨e0, e1, e2⟩ := i0 t
  unfold X.mulQ
  blk_point [iblk0, e0, e1, e2]

theorem i1 : ∀ t : Fin cfg1.N, win1_0.index t = ![0, 0] ∧ win1_1.index t = ![0, (grid1.coords t 1).val]
    ∧ win1_2.index t = ![0, (grid1.coords t 1).val] := (by decide +kernel : ∀ t : Fin grid1.N, _)
theorem kv_arr : (dat1 V c).arrAt 2 cfg1.N = X.mulK (V c main_arg1) (V c main_arg3) := by
  refine (dat1 V c).arrAt_eq_of_covers 2 _ (by decide +kernel) fun t hf y => ?_
  blk_simp
  rw [after1_2, XBlock.mul1]
  obtain ⟨e0, e1, e2⟩ := i1 t
  unfold X.mulK
  blk_point [iblk1, e0, e1, e2]

theorem i3 : ∀ t : Fin cfg3.N, win3_0.index t = ![(grid3.coords t 0).val, 0] ∧ win3_1.index t = ![0, 0]
    ∧ win3_2.index t = ![(grid3.coords t 0).val, 0] := (by decide +kernel : ∀ t : Fin grid3.N, _)
theorem y_arr : (dat3 V c).arrAt 2 cfg3.N = X.mulQ (V c main_v2) (V c main_arg4) := by
  refine (dat3 V c).arrAt_eq_of_covers 2 _ (by decide +kernel) fun t hf y => ?_
  blk_simp
  rw [after3_2, XBlock.mul3]
  obtain ⟨e0, e1, e2⟩ := i3 t
  unfold X.mulQ
  blk_point [iblk3, e0, e1, e2]

theorem i4 : ∀ t : Fin cfg4.N, win4_0.index t = ![(grid4.coords t 0).val, 0] ∧ win4_1.index t = ![0, 0]
    ∧ win4_2.index t = ![(grid4.coords t 0).val, 0] := (by decide +kernel : ∀ t : Fin grid4.N, _)
theorem da_arr : (dat4 V c).arrAt 2 cfg4.N = X.mulT (V c main_arg5) (V c main_arg4) := by
  refine (dat4 V c).arrAt_eq_of_covers 2 _ (by decide +kernel) fun t hf y => ?_
  blk_simp
  rw [after4_2, XBlock.mul4]
  obtain ⟨e0, e1, e2⟩ := i4 t
  unfold X.mulT
  blk_point [iblk4, e0, e1, e2]

theorem i6 : ∀ t : Fin cfg6.N, win6_0.index t = ![(grid6.coords t 0).val, 0] ∧ win6_1.index t = ![0, 0]
    ∧ win6_2.index t = ![(grid6.coords t 0).val, 0] := (by decide +kernel : ∀ t : Fin grid6.N, _)
theorem dh_arr : (dat6 V c).arrAt 2 cfg6.N = X.mulT (V c main_v5_0) (V c main_arg2) := by
  refine (dat6 V c).arrAt_eq_of_covers 2 _ (by decide +kernel) fun t hf y => ?_
  blk_simp
  rw [after6_2, XBlock.mul6]
  obtain ⟨e0, e1, e2⟩ := i6 t
  unfold X.mulT
  blk_point [iblk6, e0, e1, e2]

theorem i7 : ∀ t : Fin cfg7.N, win7_0.index t = ![0, 0] ∧ win7_1.index t = ![0, (grid7.coords t 1).val]
    ∧ win7_2.index t = ![0, (grid7.coords t 1).val] := (by decide +kernel : ∀ t : Fin grid7.N, _)
theorem dw_arr : (dat7 V c).arrAt 2 cfg7.N = X.dw (V c main_arg1) (V c main_v6) := by
  refine (dat7 V c).arrAt_eq_of_covers 2 _ (by decide +kernel) fun t hf y => ?_
  blk_simp
  rw [after7_2, XBlock.mul7]
  obtain ⟨e0, e1, e2⟩ := i7 t
  unfold X.dw
  blk_point [iblk7, e0, e1, e2]

/-! ## The attention -/

theorem hd_lane (h : Fin 4) (j : Fin 256) : X.hd (X.lane h j) = h := Fin.ext (by simp only [X.hd, X.lane]; omega)
theorem ln_lane (h : Fin 4) (j : Fin 256) : X.ln' (X.lane h j) = j := Fin.ext (by simp only [X.ln', X.lane]; omega)

theorem i2 : ∀ t : Fin cfg2.N, win2_0.index t = ![t.val % 4, t.val / 4] ∧ win2_1.index t = ![0, t.val / 4]
    ∧ win2_2.index t = ![0, t.val / 4 + 4] ∧ win2_3.index t = ![t.val % 4, t.val / 4] := (by decide +kernel : ∀ t : Fin grid2.N, _)
theorem i5 : ∀ t : Fin cfg5.N, win5_0.index t = ![t.val % 4, t.val / 4] ∧ win5_1.index t = ![0, t.val / 4]
    ∧ win5_2.index t = ![0, t.val / 4 + 4] ∧ win5_3.index t = ![t.val % 4, t.val / 4]
    ∧ win5_4.index t = ![t.val % 4, t.val / 4] ∧ win5_5.index t = ![0, t.val / 4] ∧ win5_6.index t = ![0, t.val / 4] :=
  (by decide +kernel : ∀ t : Fin grid5.N, _)

/-- Two arrays with the same entries. -/
theorem of_ix2 {a b : ℕ} {f g : (⟨2, ![a, b]⟩ : Shape).Idx → EReal} (h : ∀ p q, f (ix2 p q) = g (ix2 p q)) : f = g :=
  funext fun y => by
    have e : y = ix2 (y 0) (y 1) := funext fun i => match i with
      | ⟨0, _⟩ => rfl
      | ⟨1, _⟩ => rfl
    rw [e]
    exact h _ _

/-- A grid point's head. -/
def hh (n : ℕ) : Fin 4 := ⟨n / 4 % 4, by omega⟩
/-- A grid point's row among all positions. -/
def pos (n : ℕ) (r : Fin 512) : Fin 2048 := ⟨n % 4 * 512 + r.val, by omega⟩

section Att
variable (t : Fin cfg2.N)
theorem lt2 : t.val < 16 := Nat.lt_of_lt_of_eq t.isLt N_2
theorem q2 (r : Fin 512) : rw' (iblk2 V c 0 t) r = X.row (V c main_v0) (hh t.val) (pos t.val r) := by
  funext j
  obtain ⟨e0, e1, e2, e3⟩ := i2 t
  have := lt2 t
  refine congrArg (V c main_v0) (funext fun a => Fin.ext ?_)
  match a with
  | ⟨0, _⟩ => blk_simp [e0]; simp only [pos]
  | ⟨1, _⟩ => blk_simp [e0]; simp only [X.lane, hh]; omega
theorem k2 : ks (iblk2 V c 1 t) = X.keys (V c main_v1) (hh t.val) := by
  funext s j
  obtain ⟨e0, e1, e2, e3⟩ := i2 t
  have := lt2 t
  refine congrArg (V c main_v1) (funext fun a => Fin.ext ?_)
  match a with
  | ⟨0, _⟩ => blk_simp [e1]
  | ⟨1, _⟩ => blk_simp [e1]; simp only [X.kl, X.lane, hh]; omega
theorem v2 : ks (iblk2 V c 2 t) = X.vals (V c main_v1) (hh t.val) := by
  funext s j
  obtain ⟨e0, e1, e2, e3⟩ := i2 t
  have := lt2 t
  refine congrArg (V c main_v1) (funext fun a => Fin.ext ?_)
  match a with
  | ⟨0, _⟩ => blk_simp [e2]
  | ⟨1, _⟩ => blk_simp [e2]; simp only [X.vl, X.lane, hh]; omega
theorem o2 (r : Fin 512) (j : Fin 256) : (win2_3.blk t).view.emb (ix2 r j : S512x256.Idx) = ix2 (pos t.val r) (X.lane (hh t.val) j) := by
  obtain ⟨e0, e1, e2, e3⟩ := i2 t
  have := lt2 t
  refine funext fun a => Fin.ext ?_
  match a with
  | ⟨0, _⟩ => blk_simp [e3]; dsimp [ix2, pos]
  | ⟨1, _⟩ => blk_simp [e3]; dsimp [ix2, X.lane, hh]; omega
end Att

theorem att_arr : (dat2 V c).arrAt 3 cfg2.N = X.att (V c main_v0) (V c main_v1) := by
  refine (dat2 V c).arrAt_eq_of_covers 3 _ (by decide +kernel) fun t hf y => ?_
  blk_simp
  rw [after2_3]
  refine congrFun (of_ix2 (f := out2_3 (iblk2 V c 0 t) (iblk2 V c 1 t) (iblk2 V c 2 t))
    (g := fun y => X.att (V c main_v0) (V c main_v1) ((win2_3.blk t).view.emb y)) fun r j => ?_) y
  dsimp only
  rw [XBlock.att2, o2]
  show X.at' (rw' (iblk2 V c 0 t) r) (ks (iblk2 V c 1 t)) (ks (iblk2 V c 2 t)) j
    = X.at' (X.row (V c main_v0) (X.hd (X.lane (hh t.val) j)) (pos t.val r)) (X.keys (V c main_v1) (X.hd (X.lane (hh t.val) j)))
      (X.vals (V c main_v1) (X.hd (X.lane (hh t.val) j))) (X.ln' (X.lane (hh t.val) j))
  rw [q2, k2, v2, hd_lane, ln_lane]

/-! ## The attention's gradient -/

section Grad
variable (t : Fin cfg5.N)
theorem lt5 : t.val < 16 := Nat.lt_of_lt_of_eq t.isLt N_5
theorem q5 (r : Fin 512) : rw' (iblk5 V c 0 t) r = X.row (V c main_v0) (hh t.val) (pos t.val r) := by
  funext j
  obtain ⟨e0, -⟩ := i5 t
  have := lt5 t
  refine congrArg (V c main_v0) (funext fun a => Fin.ext ?_)
  match a with
  | ⟨0, _⟩ => blk_simp [e0]; simp only [pos]
  | ⟨1, _⟩ => blk_simp [e0]; simp only [X.lane, hh]; omega
theorem k5 : ks (iblk5 V c 1 t) = X.keys (V c main_v1) (hh t.val) := by
  funext s j
  obtain ⟨-, e1, -⟩ := i5 t
  have := lt5 t
  refine congrArg (V c main_v1) (funext fun a => Fin.ext ?_)
  match a with
  | ⟨0, _⟩ => blk_simp [e1]
  | ⟨1, _⟩ => blk_simp [e1]; simp only [X.kl, X.lane, hh]; omega
theorem v5 : ks (iblk5 V c 2 t) = X.vals (V c main_v1) (hh t.val) := by
  funext s j
  obtain ⟨-, -, e2, -⟩ := i5 t
  have := lt5 t
  refine congrArg (V c main_v1) (funext fun a => Fin.ext ?_)
  match a with
  | ⟨0, _⟩ => blk_simp [e2]
  | ⟨1, _⟩ => blk_simp [e2]; simp only [X.vl, X.lane, hh]; omega
theorem d5 (r : Fin 512) : rw' (iblk5 V c 3 t) r = X.row (V c main_v4) (hh t.val) (pos t.val r) := by
  funext j
  obtain ⟨-, -, -, e3, -⟩ := i5 t
  have := lt5 t
  refine congrArg (V c main_v4) (funext fun a => Fin.ext ?_)
  match a with
  | ⟨0, _⟩ => blk_simp [e3]; simp only [pos]
  | ⟨1, _⟩ => blk_simp [e3]; simp only [X.lane, hh]; omega
theorem o4 (r : Fin 512) (j : Fin 256) : (win5_4.blk t).view.emb (ix2 r j : S512x256.Idx) = ix2 (pos t.val r) (X.lane (hh t.val) j) := by
  obtain ⟨-, -, -, -, e, -⟩ := i5 t
  have := lt5 t
  refine funext fun a => Fin.ext ?_
  match a with
  | ⟨0, _⟩ => blk_simp [e]; dsimp [ix2, pos]
  | ⟨1, _⟩ => blk_simp [e]; dsimp [ix2, X.lane, hh]; omega
theorem o5 (s j : Fin 256) : (win5_5.blk t).view.emb (ix2 s j : S256x256.Idx) = ix2 s (X.lane (hh t.val) j) := by
  obtain ⟨-, -, -, -, -, e, -⟩ := i5 t
  have := lt5 t
  refine funext fun a => Fin.ext ?_
  match a with
  | ⟨0, _⟩ => blk_simp [e]
  | ⟨1, _⟩ => blk_simp [e]; dsimp [ix2, X.lane, hh]; omega
theorem o6 (s j : Fin 256) : (win5_6.blk t).view.emb (ix2 s j : S256x256.Idx) = ix2 s (X.lane (hh t.val) j) := by
  obtain ⟨-, -, -, -, -, -, e⟩ := i5 t
  have := lt5 t
  refine funext fun a => Fin.ext ?_
  match a with
  | ⟨0, _⟩ => blk_simp [e]
  | ⟨1, _⟩ => blk_simp [e]; dsimp [ix2, X.lane, hh]; omega

/-- What a grid point's rows give to the keys' gradient, and to the values'. -/
def pk (n : ℕ) (s j : Fin 256) : EReal :=
  ∑ r, X.dS (V c main_v0) (V c main_v1) (V c main_v4) (hh n) (pos n r) s * X.row (V c main_v0) (hh n) (pos n r) j
def pv (n : ℕ) (s j : Fin 256) : EReal :=
  ∑ r, X.pr (X.row (V c main_v0) (hh n) (pos n r)) (X.keys (V c main_v1) (hh n)) s * X.row (V c main_v4) (hh n) (pos n r) j

theorem dq5 (r : Fin 512) (j : Fin 256) : (outsAt5 V c t.val t.isLt).1 (ix2 r j)
    = ∑ s, X.dS (V c main_v0) (V c main_v1) (V c main_v4) (hh t.val) (pos t.val r) s * X.keys (V c main_v1) (hh t.val) s j := by
  by_cases h : t.val % 4 = 0
  · rw [outsAt5_A V c t h h]
    dsimp only
    rw [XBlock.A4, XBlock.p2, q5, k5, v5, d5]
    rfl
  · rw [outsAt5_B V c t h h]
    dsimp only
    rw [XBlock.B4, XBlock.p2, q5, k5, v5, d5]
    rfl
theorem dkA (h : t.val % 4 = 0) (s j : Fin 256) : (outsAt5 V c t.val t.isLt).2.1 (ix2 s j) = pk V c t.val s j := by
  rw [outsAt5_A V c t h h]
  dsimp only
  rw [XBlock.A5, XBlock.p4, XBlock.p3, k5, v5, zero_add]
  simp only [q5, d5]
  rfl
theorem dkB (h : ¬t.val % 4 = 0) (s j : Fin 256) : (outsAt5 V c t.val t.isLt).2.1 (ix2 s j)
    = (outsAt5 V c (t.val - 1) (Nat.lt_of_le_of_lt (Nat.sub_le _ _) t.isLt)).2.1 (ix2 s j) + pk V c t.val s j := by
  rw [outsAt5_B V c t h h]
  dsimp only
  rw [XBlock.B5, XBlock.p4, k5, v5]
  simp only [q5, d5]
  rfl
theorem dvA (h : t.val % 4 = 0) (s j : Fin 256) : (outsAt5 V c t.val t.isLt).2.2 (ix2 s j) = pv V c t.val s j := by
  rw [outsAt5_A V c t h h]
  dsimp only
  rw [XBlock.A6, XBlock.p6, XBlock.p5, k5, zero_add]
  simp only [q5, d5]
  rfl
theorem dvB (h : ¬t.val % 4 = 0) (s j : Fin 256) : (outsAt5 V c t.val t.isLt).2.2 (ix2 s j)
    = (outsAt5 V c (t.val - 1) (Nat.lt_of_le_of_lt (Nat.sub_le _ _) t.isLt)).2.2 (ix2 s j) + pv V c t.val s j := by
  rw [outsAt5_B V c t h h]
  dsimp only
  rw [XBlock.B6, XBlock.p6, k5]
  simp only [q5, d5]
  rfl

/-- Over a head's four blocks of rows the sums are complete. -/
theorem dk4 (h : t.val % 4 = 3) (s j : Fin 256) : (outsAt5 V c t.val t.isLt).2.1 (ix2 s j)
    = pk V c (t.val - 1 - 1 - 1) s j + pk V c (t.val - 1 - 1) s j + pk V c (t.val - 1) s j + pk V c t.val s j := by
  have l := t.isLt
  rw [dkB V c t (by omega), dkB V c ⟨t.val - 1, by omega⟩ (by dsimp only; omega), dkB V c ⟨t.val - 1 - 1, by omega⟩ (by dsimp only; omega),
    dkA V c ⟨t.val - 1 - 1 - 1, by omega⟩ (by dsimp only; omega)]
theorem dv4 (h : t.val % 4 = 3) (s j : Fin 256) : (outsAt5 V c t.val t.isLt).2.2 (ix2 s j)
    = pv V c (t.val - 1 - 1 - 1) s j + pv V c (t.val - 1 - 1) s j + pv V c (t.val - 1) s j + pv V c t.val s j := by
  have l := t.isLt
  rw [dvB V c t (by omega), dvB V c ⟨t.val - 1, by omega⟩ (by dsimp only; omega), dvB V c ⟨t.val - 1 - 1, by omega⟩ (by dsimp only; omega),
    dvA V c ⟨t.val - 1 - 1 - 1, by omega⟩ (by dsimp only; omega)]

/-- A sum over the positions, by four blocks of rows. -/
theorem sum_pos (f : Fin 2048 → EReal) (n : ℕ) (h : n % 4 = 3) :
    ∑ q, f q = ∑ r, f (pos (n - 1 - 1 - 1) r) + ∑ r, f (pos (n - 1 - 1) r) + ∑ r, f (pos (n - 1) r) + ∑ r, f (pos n r) := by
  have e : ∑ q, f q = ∑ i : Fin 4, ∑ r : Fin 512, f (pos i.val r) := by
    rw [← Fintype.sum_prod_type' (fun (i : Fin 4) (r : Fin 512) => f (pos i.val r))]
    refine (Equiv.sum_comp (finProdFinEquiv (m := 4) (n := 512)) f).symm.trans (Finset.sum_congr rfl fun p _ => congrArg f (Fin.ext ?_))
    simp only [finProdFinEquiv_apply_val, pos]; omega
  have p : ∀ (a b : ℕ), a % 4 = b % 4 → pos a = pos b := fun a b hab => funext fun r => Fin.ext (by simp only [pos, hab])
  rw [e, Fin.sum_univ_four, p (n - 1 - 1 - 1) 0 (by omega), p (n - 1 - 1) 1 (by omega), p (n - 1) 2 (by omega), p n 3 (by omega)]
  rfl
theorem hh_sub (n k : ℕ) (h : n % 4 = 3) (hk : k ≤ 3) : hh (n - k) = hh n := Fin.ext (by simp only [hh]; omega)

end Grad

theorem dq_arr : (dat5 V c).arrAt 4 cfg5.N = X.dq (V c main_v0) (V c main_v1) (V c main_v4) := by
  refine (dat5 V c).arrAt_eq_of_covers 4 _ (by decide +kernel) fun t hf y => ?_
  blk_simp
  rw [after5_4]
  refine congrFun (of_ix2 (f := (outsAt5 V c t.val t.isLt).1)
    (g := fun y => X.dq (V c main_v0) (V c main_v1) (V c main_v4) ((win5_4.blk t).view.emb y)) fun r j => ?_) y
  dsimp only
  rw [dq5 V c t, o4]
  show _ = ∑ s, X.dS (V c main_v0) (V c main_v1) (V c main_v4) (X.hd (X.lane (hh t.val) j)) (pos t.val r) s
    * X.keys (V c main_v1) (X.hd (X.lane (hh t.val) j)) s (X.ln' (X.lane (hh t.val) j))
  rw [hd_lane, ln_lane]
theorem dk_arr : (dat5 V c).arrAt 5 cfg5.N = X.dk (V c main_v0) (V c main_v1) (V c main_v4) := by
  refine (dat5 V c).arrAt_eq_of_covers 5 _ (by decide +kernel) fun t hf y => ?_
  have h3 : t.val % 4 = 3 := (flush5_5 t).mp hf
  blk_simp
  rw [after5_5]
  refine congrFun (of_ix2 (f := (outsAt5 V c t.val t.isLt).2.1)
    (g := fun y => X.dk (V c main_v0) (V c main_v1) (V c main_v4) ((win5_5.blk t).view.emb y)) fun r j => ?_) y
  dsimp only
  rw [dk4 V c t h3, o5]
  show _ = ∑ q, X.dS (V c main_v0) (V c main_v1) (V c main_v4) (X.hd (X.lane (hh t.val) j)) q r
    * X.row (V c main_v0) (X.hd (X.lane (hh t.val) j)) q (X.ln' (X.lane (hh t.val) j))
  rw [hd_lane, ln_lane, sum_pos _ t.val h3]
  unfold pk
  rw [show hh (t.val - 1 - 1 - 1) = _ from hh_sub t.val 3 h3 (by omega), show hh (t.val - 1 - 1) = _ from hh_sub t.val 2 h3 (by omega),
    hh_sub t.val 1 h3 (by omega)]
theorem dv_arr : (dat5 V c).arrAt 6 cfg5.N = X.dv (V c main_v0) (V c main_v1) (V c main_v4) := by
  refine (dat5 V c).arrAt_eq_of_covers 6 _ (by decide +kernel) fun t hf y => ?_
  have h3 : t.val % 4 = 3 := (flush5_6 t).mp hf
  blk_simp
  rw [after5_6]
  refine congrFun (of_ix2 (f := (outsAt5 V c t.val t.isLt).2.2)
    (g := fun y => X.dv (V c main_v0) (V c main_v1) (V c main_v4) ((win5_6.blk t).view.emb y)) fun r j => ?_) y
  dsimp only
  rw [dv4 V c t h3, o6]
  show _ = ∑ q, X.pr (X.row (V c main_v0) (X.hd (X.lane (hh t.val) j)) q) (X.keys (V c main_v1) (X.hd (X.lane (hh t.val) j))) r
    * X.row (V c main_v4) (X.hd (X.lane (hh t.val) j)) q (X.ln' (X.lane (hh t.val) j))
  rw [hd_lane, ln_lane, sum_pos _ t.val h3]
  unfold pv
  rw [show hh (t.val - 1 - 1 - 1) = _ from hh_sub t.val 3 h3 (by omega), show hh (t.val - 1 - 1) = _ from hh_sub t.val 2 h3 (by omega),
    hh_sub t.val 1 h3 (by omega)]

end Cert.Proof.XArrays

end
-- ==== Proof.XRun.lean ====
/- Hand-written, untrusted. The attention over the memory, run: the three results of its kernel program as functions of the
   six arguments. -/
module

public import proofs.«01_k».proof.Proof.XArrays
public import proofs.«01_k».proof.Proof.Gen.Kernel3Ideal.Frame

@[expose] public section

set_option maxRecDepth 16384

noncomputable section

namespace Cert.Proof.XRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel3Ideal Cert.Kernel3Ideal.Gen

local notation "𝕄" => MT nD τ sig Unit (Elt Ideal) ℕ (UR sig nD τ) ℕ

/-- Two gradients side by side. -/
theorem both_eq (a b : X.Mem) : concatenate S256x2048 1 [⟨S256x1024, a⟩, ⟨S256x1024, b⟩] concatenates_S256x1024_S256x1024_S256x2048_d1 = X.both a b := by
  funext y
  have hy := (y 1).isLt
  unfold X.both
  pointwise []

variable (m : (ℓ : Loc nD τ sig) → Buf (Elt Ideal) ℓ) (ρ : Dev nD → PrngReg) (c : Dev nD)

/-- The arguments, and what the calls compute of them. -/
abbrev hn : X.Seq := m ((c.tc : Thread nD τ).loc main_arg0)
abbrev mem : X.Mem := m ((c.tc : Thread nD τ).loc main_arg1)
abbrev wq : X.Sq := m ((c.tc : Thread nD τ).loc main_arg2)
abbrev wkv : X.Wkv := m ((c.tc : Thread nD τ).loc main_arg3)
abbrev wo : X.Sq := m ((c.tc : Thread nD τ).loc main_arg4)
abbrev dy : X.Seq := m ((c.tc : Thread nD τ).loc main_arg5)
abbrev q : X.Seq := X.mulQ (hn m c) (wq m c)
abbrev kv : X.KV := X.mulK (mem m c) (wkv m c)
abbrev at' : X.Seq := X.att (q m c) (kv m c)
abbrev da : X.Seq := X.mulT (dy m c) (wo m c)

/-! ## What each buffer holds where it is read -/

theorem q1 : W1 m ρ c (Proc.devRef .tc main_v0) = q m c := (W1_arr m ρ c 2).trans (XArrays.q_arr (V0 m ρ) c)
theorem kv2 : W2 m ρ c (Proc.devRef .tc main_v1) = kv m c :=
  (W2_arr m ρ c 2).trans ((XArrays.kv_arr (V1 m ρ) c).trans (congrArg₂ X.mulK (W1_args m ρ c main_arg1 (by decide)) (W1_args m ρ c main_arg3 (by decide))))
theorem q2 : W2 m ρ c (Proc.devRef .tc main_v0) = q m c := ((W2_of m ρ c main_v0 (by decide)).trans (q1 m ρ c))
theorem at3 : W3 m ρ c (Proc.devRef .tc main_v2) = at' m c :=
  (W3_arr m ρ c 3).trans ((XArrays.att_arr (V2 m ρ) c).trans (congrArg₂ X.att (q2 m ρ c) (kv2 m ρ c)))
theorem y4 : W4 m ρ c (Proc.devRef .tc main_v3) = X.mulQ (at' m c) (wo m c) :=
  (W4_arr m ρ c 2).trans ((XArrays.y_arr (V3 m ρ) c).trans (congrArg₂ X.mulQ (at3 m ρ c) (W3_args m ρ c main_arg4 (by decide))))
theorem da5 : W5 m ρ c (Proc.devRef .tc main_v4) = da m c :=
  (W5_arr m ρ c 2).trans ((XArrays.da_arr (V4 m ρ) c).trans (congrArg₂ X.mulT (W4_args m ρ c main_arg5 (by decide)) (W4_args m ρ c main_arg4 (by decide))))
theorem q5 : W5 m ρ c (Proc.devRef .tc main_v0) = q m c := ((W5_of m ρ c main_v0 (by decide)).trans ((W4_of m ρ c main_v0 (by decide)).trans ((W3_of m ρ c main_v0 (by decide)).trans (q2 m ρ c))))
theorem kv5 : W5 m ρ c (Proc.devRef .tc main_v1) = kv m c := ((W5_of m ρ c main_v1 (by decide)).trans ((W4_of m ρ c main_v1 (by decide)).trans ((W3_of m ρ c main_v1 (by decide)).trans (kv2 m ρ c))))
theorem dq6 : W6 m ρ c (Proc.devRef .tc main_v5_0) = X.dq (q m c) (kv m c) (da m c) := by
  refine (W6_arr m ρ c 4).trans ((XArrays.dq_arr (V5 m ρ) c).trans ?_)
  rw [show V5 m ρ c main_v0 = q m c from q5 m ρ c, show V5 m ρ c main_v1 = kv m c from kv5 m ρ c,
    show V5 m ρ c main_v4 = da m c from da5 m ρ c]
theorem dk6 : W6 m ρ c (Proc.devRef .tc main_v5_1) = X.dk (q m c) (kv m c) (da m c) := by
  refine (W6_arr m ρ c 5).trans ((XArrays.dk_arr (V5 m ρ) c).trans ?_)
  rw [show V5 m ρ c main_v0 = q m c from q5 m ρ c, show V5 m ρ c main_v1 = kv m c from kv5 m ρ c,
    show V5 m ρ c main_v4 = da m c from da5 m ρ c]
theorem dv6 : W6 m ρ c (Proc.devRef .tc main_v5_2) = X.dv (q m c) (kv m c) (da m c) := by
  refine (W6_arr m ρ c 6).trans ((XArrays.dv_arr (V5 m ρ) c).trans ?_)
  rw [show V5 m ρ c main_v0 = q m c from q5 m ρ c, show V5 m ρ c main_v1 = kv m c from kv5 m ρ c,
    show V5 m ρ c main_v4 = da m c from da5 m ρ c]
theorem dkv7 : W7 m ρ c (Proc.devRef .tc main_v6) = X.both (X.dk (q m c) (kv m c) (da m c)) (X.dv (q m c) (kv m c) (da m c)) := by
  refine Eq.trans ?_ (both_eq _ _)
  rw [← dk6 m ρ c, ← dv6 m ρ c]
  show StableHlo.after hostOps6 _ (Proc.devRef .tc main_v6) = _
  simp only [StableHlo.after, StableHlo.binary]
  rfl
theorem dq7 : W7 m ρ c (Proc.devRef .tc main_v5_0) = X.dq (q m c) (kv m c) (da m c) := ((W7_of m ρ c main_v5_0 (by decide)).trans (dq6 m ρ c))
theorem dh8 : W8 m ρ c (Proc.devRef .tc main_v7) = X.mulT (X.dq (q m c) (kv m c) (da m c)) (wq m c) :=
  (W8_arr m ρ c 2).trans ((XArrays.dh_arr (V7 m ρ) c).trans (congrArg₂ X.mulT (dq7 m ρ c) (W7_args m ρ c main_arg2 (by decide))))
theorem dkv8 : W8 m ρ c (Proc.devRef .tc main_v6) = X.both (X.dk (q m c) (kv m c) (da m c)) (X.dv (q m c) (kv m c) (da m c)) := ((W8_of m ρ c main_v6 (by decide)).trans (dkv7 m ρ c))

/-! ## The results -/

theorem y9 : W9 m ρ c (Proc.devRef .tc main_v3) = X.mulQ (at' m c) (wo m c) := ((W9_of m ρ c main_v3 (by decide)).trans ((W8_of m ρ c main_v3 (by decide)).trans ((W7_of m ρ c main_v3 (by decide)).trans ((W6_of m ρ c main_v3 (by decide)).trans ((W5_of m ρ c main_v3 (by decide)).trans (y4 m ρ c))))))
theorem dh9 : W9 m ρ c (Proc.devRef .tc main_v7) = X.mulT (X.dq (q m c) (kv m c) (da m c)) (wq m c) := ((W9_of m ρ c main_v7 (by decide)).trans (dh8 m ρ c))
theorem dw9 : W9 m ρ c (Proc.devRef .tc main_v8)
    = X.dw (mem m c) (X.both (X.dk (q m c) (kv m c) (da m c)) (X.dv (q m c) (kv m c) (da m c))) :=
  (W9_arr m ρ c 2).trans ((XArrays.dw_arr (V8 m ρ) c).trans (congrArg₂ X.dw (W8_args m ρ c main_arg1 (by decide)) (dkv8 m ρ c)))

set_option backward.isDefEq.respectTransparency.types false in
/-- From any memory the program runs to its end with the three results at these values. -/
theorem run : θ_run defs (onTc (τ := τ) (main (F := Ideal))) ⟨m, fun _ => 0, ρ⟩ (fun r => ∀ c : Dev nD,
      r.2.mem ((c.tc : Thread nD τ).loc main_v3) = X.mulQ (at' m c) (wo m c)
      ∧ r.2.mem ((c.tc : Thread nD τ).loc main_v7) = X.mulT (X.dq (q m c) (kv m c) (da m c)) (wq m c)
      ∧ r.2.mem ((c.tc : Thread nD τ).loc main_v8)
        = X.dw (mem m c) (X.both (X.dk (q m c) (kv m c) (da m c)) (X.dv (q m c) (kv m c) (da m c)))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s e _ c =>
      ⟨(e c _ (mem_uc main_v3 (by decide))).trans (y9 m ρ c), (e c _ (mem_uc main_v7 (by decide))).trans (dh9 m ρ c),
       (e c _ (mem_uc main_v8 (by decide))).trans (dw9 m ρ c)⟩)

end Cert.Proof.XRun

end
-- ==== Proof.XRef.lean ====
/- Hand-written, untrusted. The reference program of the attention over the memory, read entry by entry. -/
module

public import proofs.«01_k».proof.Proof.XSpec
public import proofs.«01_k».proof.Proof.Gen.Reference3Ideal.Read
public import Idealize.ShloMosaic.Lib.KernelVsHost

@[expose] public section

set_option maxRecDepth 16384

noncomputable section

namespace Cert.Proof.XRef

open Idealize.ShloMosaic Cert.Reference3Ideal Cert.Reference3Ideal.Gen Cert.Reference3Ideal.Read Idealize.ShloMosaic.Pointwise
open X (Seq Mem KV Sq Wkv lane kl vl hd ln')

/-! ## Lanes by heads -/

/-- A sum over the lanes, by heads. -/
theorem sum_lanes (f : Fin 1024 → EReal) : ∑ q, f q = ∑ h : Fin 4, ∑ j : Fin 256, f (lane h j) := by
  rw [← Fintype.sum_prod_type' (fun (d : Fin 4) (j : Fin 256) => f (lane d j))]
  refine (Equiv.sum_comp (finProdFinEquiv (m := 4) (n := 256)) f).symm.trans (Finset.sum_congr rfl fun p _ => congrArg f (Fin.ext ?_))
  simp only [finProdFinEquiv_apply_val, lane]; omega
theorem lane_hd (n : Fin 1024) : lane (hd n) (ln' n) = n := Fin.ext (by simp only [lane, hd, ln']; omega)
theorem hd_lane (h : Fin 4) (j : Fin 256) : hd (lane h j) = h := Fin.ext (by simp only [lane, hd]; omega)
theorem ln_lane (h : Fin 4) (j : Fin 256) : ln' (lane h j) = j := Fin.ext (by simp only [lane, ln']; omega)

variable (x : Seq) (y : Mem) (a : Sq) (b : Wkv) (o : Sq) (e : Seq)
variable (h : Fin 4) (t : Fin 2048) (s j : Fin 256) (n : Fin 1024)

abbrev q : Seq := X.mulQ x a
abbrev kv : KV := X.mulK y b
abbrev da : Seq := X.mulT e o
abbrev R := X.row (q x a) h t
abbrev K := X.keys (kv y b) h
abbrev V := X.vals (kv y b) h
abbrev D := X.row (da o e) h t

/-! ## The projections -/

theorem s3 : val_main_v3 (F := Ideal) x a (ix4 0 t h j) = X.row (q x a) h t j := by
  pointwise [val_main_v3, val_main_v2, val_main_v0]
  rfl
theorem s7 : val_main_v7 (F := Ideal) y b (ix4 0 s h j) = X.keys (kv y b) h s j := by
  pointwise [val_main_v7, val_main_v5, val_main_v4, val_main_v1]
  rfl
theorem s8 : val_main_v8 (F := Ideal) y b (ix4 0 s h j) = X.vals (kv y b) h s j := by
  pointwise [val_main_v8, val_main_v6, val_main_v4, val_main_v1]
  rfl

/-! ## The probabilities -/

theorem s11 : val_main_v11 (F := Ideal) x y a b (ix4 0 h t s) = X.sc (X.row (q x a) h t) (X.keys (kv y b) h) s := by
  pointwise [val_main_v11, val_main_v9, val_main_v10, val_main_cst]
  refine congrArg (· * X.scale) (Finset.sum_congr rfl fun j _ => congrArg₂ (· * ·) (s3 x a h t j) (s7 y b h s j))
/-- A row's maximum, read off the reduction. -/
theorem s12 : val_main_v12 (F := Ideal) x y a b (ix3 0 h t) = X.mx (X.row (q x a) h t) (X.keys (kv y b) h) := by
  refine (Host.reduce_eq_fold (max : EReal → EReal → EReal) (val_main_v11 (F := Ideal) x y a b) (val_main_cst_0 (F := Ideal))
    reducesTo_S1x4x2048x256_S1x4x2048_d3 h_S_ (ix3 0 h t)).trans
    ((Shape.ReducesTo.fold_fiber_r4_a3 reducesTo_S1x4x2048x256_S1x4x2048_d3 (ix3 0 h t) max _ _).trans ?_)
  unfold X.mx
  refine congrArg₂ (fun (b : EReal) (f : Fin 256 → EReal) => Finset.univ.fold max b f) X.bot_bits (funext fun s => ?_)
  exact s11 x y a b h t s
theorem s19 : val_main_v19 (F := Ideal) x y a b (ix3 0 h t) = X.mx (X.row (q x a) h t) (X.keys (kv y b) h) := by
  rw [val_main_v19_apply, val_main_v18_apply, val_main_cst_2_apply, s12]
  exact (congrArg (max · _) X.bot_bits).trans (max_eq_right bot_le)
theorem s32 : val_main_v32 (F := Ideal) x y a b (ix4 0 h t s) = X.ex (X.row (q x a) h t) (X.keys (kv y b) h) s := by
  pointwise [val_main_v32, val_main_v31, val_main_v30, val_main_v29]
  rw [s11, s19]
  rfl
theorem s33 : val_main_v33 (F := Ideal) x y a b (ix3 0 h t) = X.ln (X.row (q x a) h t) (X.keys (kv y b) h) := by
  pointwise [val_main_v33, val_main_cst_8]
  exact Finset.sum_congr rfl fun s _ => s32 x y a b h t s
theorem s36 : val_main_v36 (F := Ideal) x y a b (ix4 0 h t s) = X.pr (X.row (q x a) h t) (X.keys (kv y b) h) s := by
  pointwise [val_main_v36, val_main_v35, val_main_v34]
  rw [s32, s33]
  rfl

/-! ## The result -/

theorem s42 : val_main_v42 (F := Ideal) x y a b (ix3 0 t n) = X.att (q x a) (kv y b) (ix2 t n) := by
  pointwise [val_main_v42, val_main_v41, val_main_v40]
  unfold X.att X.at'
  refine Finset.sum_congr rfl fun s _ => ?_
  rw [mul_comm]
  exact congrArg₂ (· * ·) (s36 x y a b (hd n) t s) (s8 y b (hd n) s (ln' n))
theorem y_ref : val_main_v44 (F := Ideal) x y a b o = X.mulQ (X.att (q x a) (kv y b)) o := by
  funext i
  pointwise [val_main_v44, val_main_v43]
  exact Finset.sum_congr rfl fun n _ => congrArg (· * o (ix2 n (i 1))) (s42 x y a b (i 0) n)

/-! ## The gradient of the scores -/

theorem s48 : val_main_v48 (F := Ideal) o e (ix4 0 h j t) = X.row (da o e) h t j := by
  pointwise [val_main_v48, val_main_v47, val_main_v46, val_main_v45]
  rfl
theorem s49 : val_main_v49 (F := Ideal) y b o e (ix4 0 h t s) = X.dp (X.vals (kv y b) h) (X.row (da o e) h t) s := by
  pointwise [val_main_v49]
  exact Finset.sum_congr rfl fun j _ => congrArg₂ (· * ·) (s48 o e h t j) (s8 y b h s j)
/-- The part of the gradient that comes through a row's sum, before its sign. -/
def back (q : Fin 256 → EReal) (K V : Fin 256 → Fin 256 → EReal) (d : Fin 256 → EReal) : EReal :=
  ∑ u, X.dp V d u * Ideal.div 1 (X.ln q K * X.ln q K) * X.ex q K u
theorem s55 : val_main_v55 (F := Ideal) x y a b o e (ix3 0 h t)
    = back (X.row (q x a) h t) (X.keys (kv y b) h) (X.vals (kv y b) h) (X.row (da o e) h t) := by
  pointwise [val_main_v55, val_main_v54, val_main_v53, val_main_v52, val_main_v39, val_main_v38, val_main_v37, val_main_v34, val_main_cst_10, val_main_cst_9]
  refine Finset.sum_congr rfl fun u _ => ?_
  rw [s49, s33, s32]
/-- A sum over two axes of one place each. -/
theorem one_place (v : S1x4x2048x1.Idx → EReal) : Ideal.hostReduceAdd reducesTo_S1x4x2048x1_S4x2048_d0_3 v 0 (ix2 h t) = v (ix4 0 h t 0) := by
  unfold Ideal.hostReduceAdd
  rw [zero_add]
  refine Finset.sum_eq_single_of_mem (ix4 0 h t 0) (Finset.mem_filter.mpr ⟨Finset.mem_univ _, ?_⟩) fun i hi hne => absurd ?_ hne
  · funext c
    match c with
    | ⟨0, _⟩ => rfl
    | ⟨1, _⟩ => rfl
  · have hd := (Finset.mem_filter.mp hi).2
    have h0 := (i 0).isLt
    have h3 := (i 3).isLt
    have h1 := congrArg Fin.val (congrFun hd ⟨0, by decide⟩)
    have h2 := congrArg Fin.val (congrFun hd ⟨1, by decide⟩)
    funext c
    match c with
    | ⟨0, _⟩ => exact Fin.ext (Nat.lt_one_iff.mp h0)
    | ⟨1, _⟩ => exact Fin.ext h1
    | ⟨2, _⟩ => exact Fin.ext h2
    | ⟨3, _⟩ => exact Fin.ext (Nat.lt_one_iff.mp h3)
theorem s60 : val_main_v60 (F := Ideal) x y a b o e (ix2 h t) = 0 - val_main_v55 (F := Ideal) x y a b o e (ix3 0 h t) := by
  refine Eq.trans (b := Ideal.hostReduceAdd reducesTo_S1x4x2048x1_S4x2048_d0_3 (val_main_v57 (F := Ideal) x y a b o e) 0 (ix2 h t)) ?_ ?_
  · exact congrArg (fun z => Ideal.hostReduceAdd reducesTo_S1x4x2048x1_S4x2048_d0_3 (val_main_v57 (F := Ideal) x y a b o e) z (ix2 h t)) Ideal.ofBits_zero_f32
  · rw [one_place, zero_sub]
    pointwise [val_main_v57, val_main_v56]
theorem s66 : val_main_v66 (F := Ideal) x y a b o e (ix4 0 h t s) = X.dS (q x a) (kv y b) (da o e) h t s := by
  pointwise [val_main_v66, val_main_v65, val_main_v64, val_main_v63, val_main_v62, val_main_v61, val_main_v59, val_main_v58, val_main_v34, val_main_cst_12]
  rw [s60, s55, s49, s33, s32]
  rfl

/-! ## The gradients -/

theorem s77 : val_main_v77 (F := Ideal) x y a b o e (ix3 0 t n) = X.dq (q x a) (kv y b) (da o e) (ix2 t n) := by
  pointwise [val_main_v77, val_main_v70, val_main_v69]
  exact Finset.sum_congr rfl fun s _ => congrArg₂ (· * ·) (s66 x y a b o e (hd n) t s) (s7 y b (hd n) s (ln' n))
theorem dh_ref : val_main_v79 (F := Ideal) x y a b o e = X.mulT (X.dq (q x a) (kv y b) (da o e)) a := by
  funext i
  pointwise [val_main_v79, val_main_v78, val_main_cst_13]
  rw [Fin.sum_univ_one]
  exact Finset.sum_congr rfl fun n _ => congrArg (· * a (ix2 (i 1) n)) (s77 x y a b o e (i 0) n)

theorem s71 : val_main_v71 (F := Ideal) x y a b o e (ix3 0 s n) = X.dv (q x a) (kv y b) (da o e) (ix2 s n) := by
  pointwise [val_main_v71, val_main_v51, val_main_v50]
  refine Finset.sum_congr rfl fun t _ => ?_
  rw [mul_comm]
  exact congrArg₂ (· * ·) (s36 x y a b (hd n) t s) (s48 o e (hd n) t (ln' n))
theorem s72 : val_main_v72 (F := Ideal) x y a b o e (ix3 0 s n) = X.dk (q x a) (kv y b) (da o e) (ix2 s n) := by
  pointwise [val_main_v72, val_main_v68, val_main_v67]
  exact Finset.sum_congr rfl fun t _ => congrArg₂ (· * ·) (s66 x y a b o e (hd n) t s) (s3 x a (hd n) t (ln' n))
theorem both_lo (A B : Mem) (s : Fin 256) (r : Fin 2048) (hr : r.val < 1024) : X.both A B (ix2 s r) = A (ix2 s ⟨r.val, hr⟩) := by
  unfold X.both
  rw [dif_pos (show (ix2 s r (1 : Fin 2)).val < 1024 from hr)]
  rfl
theorem both_hi (A B : Mem) (s : Fin 256) (r : Fin 2048) (hr : ¬ r.val < 1024) :
    X.both A B (ix2 s r) = B (ix2 s ⟨r.val - 1024, by omega⟩) := by
  unfold X.both
  rw [dif_neg (show ¬ (ix2 s r (1 : Fin 2)).val < 1024 from hr)]
  rfl
theorem s73 (r : Fin 2048) : val_main_v73 (F := Ideal) x y a b o e (ix3 0 s r)
    = X.both (X.dk (q x a) (kv y b) (da o e)) (X.dv (q x a) (kv y b) (da o e)) (ix2 s r) := by
  pointwise [val_main_v73]
  by_cases hr : r.val < 1024
  · rw [dif_pos hr, both_lo _ _ _ _ hr]
    exact s72 x y a b o e s ⟨r.val, hr⟩
  · rw [dif_neg hr, both_hi _ _ _ _ hr]
    exact s71 x y a b o e s ⟨r.val - 1024, by omega⟩
theorem dw_ref : val_main_v76 (F := Ideal) x y a b o e
    = X.dw y (X.both (X.dk (q x a) (kv y b) (da o e)) (X.dv (q x a) (kv y b) (da o e))) := by
  funext i
  pointwise [val_main_v76, val_main_v75, val_main_v74, val_main_v1]
  rw [Fin.sum_univ_one]
  refine Finset.sum_congr rfl fun s _ => ?_
  rw [mul_comm]
  exact congrArg (y (ix2 s (i 0)) * ·) (s73 x y a b o e s (i 1))

end Cert.Proof.XRef

end
-- ==== Proof.LinSpec.lean ====
/- Hand-written, untrusted. The block's in and out projections with their gradients, as sums. -/
module

public import Idealize.ShloMosaic.Lib.Pointwise
public import Idealize.ShloMosaic.Lib.IdealHost
public import Idealize.ShloMosaic.Lib.Pipeline.ValueKit

@[expose] public section

noncomputable section

namespace Cert.Proof.Lin

open Idealize.ShloMosaic Idealize.ShloMosaic.Pointwise

/-- A matrix. -/
abbrev M (m n : ℕ) := (⟨2, ![m, n]⟩ : Shape).Idx → EReal

/-- Rows against columns. -/
def proj (x : M 2048 1024) (w : M 1024 3592) : M 2048 3592 := fun y => ∑ k : Fin 1024, x (ix2 (y 0) k) * w (ix2 k (y 1))
/-- Rows against rows: the gradient a projection's input gets. -/
def dx (g : M 2048 3592) (w : M 1024 3592) : M 2048 1024 := fun y => ∑ k : Fin 3592, g (ix2 (y 0) k) * w (ix2 (y 1) k)

/-- Three mixers' lanes against the weights' rows each of them owns. -/
def mix (a b : M 2048 256) (e : M 2048 512) (w : M 1024 1024) : M 2048 1024 := fun y =>
  (∑ k : Fin 256, a (ix2 (y 0) k) * w (ix2 ⟨k.val, by omega⟩ (y 1))) + (∑ k : Fin 256, b (ix2 (y 0) k) * w (ix2 ⟨256 + k.val, by omega⟩ (y 1)))
    + ∑ k : Fin 512, e (ix2 (y 0) k) * w (ix2 ⟨512 + k.val, by omega⟩ (y 1))

/-- A row of the cotangent against a row of the weights. -/
def back (g : M 2048 1024) (w : M 1024 1024) (r : Fin 2048) (l : Fin 1024) : EReal := ∑ k : Fin 1024, g (ix2 r k) * w (ix2 l k)
/-- What the first mixer gets back. -/
def d1 (g : M 2048 1024) (w : M 1024 1024) : M 2048 256 := fun y => back g w (y 0) ⟨(y 1).val, by idx_bounds y; omega⟩
/-- What the second mixer gets back. -/
def d2 (g : M 2048 1024) (w : M 1024 1024) : M 2048 256 := fun y => back g w (y 0) ⟨256 + (y 1).val, by idx_bounds y; omega⟩
/-- What the third mixer gets back. -/
def d3 (g : M 2048 1024) (w : M 1024 1024) : M 2048 512 := fun y => back g w (y 0) ⟨512 + (y 1).val, by idx_bounds y; omega⟩

/-- One row of the weights' gradient at one column of the cotangent: over the positions, the mixer's lane that owns the row. -/
def dwr (a b : M 2048 256) (e : M 2048 512) (g : Fin 2048 → EReal) (r : Fin 1024) : EReal :=
  if h : r.val < 256 then ∑ t : Fin 2048, a (ix2 t ⟨r.val, h⟩) * g t
  else if h' : r.val - 256 < 256 then ∑ t : Fin 2048, b (ix2 t ⟨r.val - 256, h'⟩) * g t
  else ∑ t : Fin 2048, e (ix2 t ⟨r.val - 256 - 256, by omega⟩) * g t
/-- The gradient of the weights. -/
def dw (a b : M 2048 256) (e : M 2048 512) (g : M 2048 1024) : M 1024 1024 := fun y => dwr a b e (fun t => g (ix2 t (y 1))) (y 0)

end Cert.Proof.Lin

end
-- ==== Proof.LinBlock.lean ====
/- Hand-written, untrusted. The in and out projections' calls: what one grid point of each leaves, read entry by entry. -/
module

public import proofs.«01_k».proof.Proof.Gen.Kernel4Ideal.Frame
public import proofs.«01_k».proof.Proof.LinSpec
public import Idealize.ShloMosaic.Lib.Pointwise
public import Idealize.ShloMosaic.Lib.Pipeline.ValueKit

@[expose] public section

set_option maxRecDepth 16384

noncomputable section

namespace Cert.Proof.LinBlock

open Idealize.ShloMosaic Cert.Kernel4Ideal Cert.Kernel4Ideal.Gen Idealize.ShloMosaic.Pointwise

/-- A block's start. -/
theorem hz2 : (![0, 0] : Fin 2 → ℕ) = fun _ => 0 := by decide

theorem proj0 (x : Vec Ideal S256x1024 .f32) (w : Vec Ideal S1024x3592 .bf16) (y : S256x3592.Idx) :
    out0_2 x w y = ∑ k : Fin 1024, x (ix2 (y 0) k) * w (ix2 k (y 1)) := by
  unfold out0_2
  rw [View.canon_unit_zero hz2, View.ld_unit_zero hz2, View.ld_unit_zero hz2]
  pointwise [k0_pay1]

theorem dx1 (g : Vec Ideal S256x3592 .f32) (w : Vec Ideal S1024x3592 .bf16) (y : S256x1024.Idx) :
    out1_2 g w y = ∑ k : Fin 3592, g (ix2 (y 0) k) * w (ix2 (y 1) k) := by
  unfold out1_2
  rw [View.canon_unit_zero hz2, View.ld_unit_zero hz2, View.ld_unit_zero hz2]
  pointwise [k1_pay1]

theorem mix2 (a b : Vec Ideal S512x256 .f32) (e : Vec Ideal S512x512 .f32) (w : Vec Ideal S1024x512 .bf16) (y : S512x512.Idx) :
    out2_4 a b e w y = (∑ k : Fin 256, a (ix2 (y 0) k) * w (ix2 ⟨k.val, by omega⟩ (y 1)))
      + (∑ k : Fin 256, b (ix2 (y 0) k) * w (ix2 ⟨256 + k.val, by omega⟩ (y 1)))
      + ∑ k : Fin 512, e (ix2 (y 0) k) * w (ix2 ⟨512 + k.val, by omega⟩ (y 1)) := by
  unfold out2_4
  rw [View.canon_unit_zero hz2]
  pointwise [k2_pay1]

section Back
variable (g : Vec Ideal S512x1024 .f32) (w : Vec Ideal S1024x1024 .bf16)
theorem d1_3 (y : S512x256.Idx) : out3_2 g w y = ∑ k : Fin 1024, g (ix2 (y 0) k) * w (ix2 ⟨(y 1).val, by idx_bounds y; omega⟩ k) := by
  unfold out3_2
  rw [View.canon_unit_zero hz2, View.ld_unit_zero hz2, View.ld_unit_zero hz2]
  pointwise [k3_pay2, k3_pay1]
theorem d2_3 (y : S512x256.Idx) : out3_3 g w y = ∑ k : Fin 1024, g (ix2 (y 0) k) * w (ix2 ⟨256 + (y 1).val, by idx_bounds y; omega⟩ k) := by
  unfold out3_3
  rw [View.canon_unit_zero hz2, View.ld_unit_zero hz2, View.ld_unit_zero hz2]
  pointwise [k3_pay3, k3_pay1]
theorem d3_3 (y : S512x512.Idx) : out3_4 g w y = ∑ k : Fin 1024, g (ix2 (y 0) k) * w (ix2 ⟨512 + (y 1).val, by idx_bounds y; omega⟩ k) := by
  unfold out3_4
  rw [View.canon_unit_zero hz2, View.ld_unit_zero hz2, View.ld_unit_zero hz2]
  pointwise [k3_pay4, k3_pay1]
end Back

theorem dw4 (a b : Vec Ideal S2048x256 .f32) (e : Vec Ideal S2048x512 .f32) (g : Vec Ideal S2048x512 .f32) (y : S1024x512.Idx) :
    out4_4 a b e g y = Lin.dwr a b e (fun t => g (ix2 t (y 1))) (y 0) := by
  have hy := (y 0).isLt
  unfold out4_4 Lin.dwr
  rw [View.canon_unit_zero hz2]
  pointwise [k4_pay1]

end Cert.Proof.LinBlock

end
-- ==== Proof.LinArrays.lean ====
/- Hand-written, untrusted. What each of the five calls of the in and out projections leaves in its arrays. -/
module

public import proofs.«01_k».proof.Proof.LinBlock

@[expose] public section

set_option maxRecDepth 16384

noncomputable section

namespace Cert.Proof.LinArrays

open Idealize.ShloMosaic Idealize.ShloMosaic.TcCoe Cert.Kernel4Ideal Cert.Kernel4Ideal.Gen Idealize.ShloMosaic.Pointwise

/-- The buffers at a call's entry. -/
abbrev At := (c : Dev nD) → (b : Ref sig .tc) → Buf (Elt Ideal) ((c : Thread nD τ).loc b)
variable (V : At) (c : Dev nD)

theorem i0 : ∀ t : Fin cfg0.N, win0_0.index t = ![(grid0.coords t 0).val, 0] ∧ win0_1.index t = ![0, 0]
    ∧ win0_2.index t = ![(grid0.coords t 0).val, 0] := (by decide +kernel : ∀ t : Fin grid0.N, _)
theorem proj_arr : (dat0 V c).arrAt 2 cfg0.N = Lin.proj (V c main_arg0) (V c main_arg1) := by
  refine (dat0 V c).arrAt_eq_of_covers 2 _ (by decide +kernel) fun t hf y => ?_
  blk_simp
  rw [after0_2, LinBlock.proj0]
  obtain ⟨e0, e1, e2⟩ := i0 t
  unfold Lin.proj
  blk_point [iblk0, e0, e1, e2]

theorem i1 : ∀ t : Fin cfg1.N, win1_0.index t = ![(grid1.coords t 0).val, 0] ∧ win1_1.index t = ![0, 0]
    ∧ win1_2.index t = ![(grid1.coords t 0).val, 0] := (by decide +kernel : ∀ t : Fin grid1.N, _)
theorem dx_arr : (dat1 V c).arrAt 2 cfg1.N = Lin.dx (V c main_arg2) (V c main_arg1) := by
  refine (dat1 V c).arrAt_eq_of_covers 2 _ (by decide +kernel) fun t hf y => ?_
  blk_simp
  rw [after1_2, LinBlock.dx1]
  obtain ⟨e0, e1, e2⟩ := i1 t
  unfold Lin.dx
  blk_point [iblk1, e0, e1, e2]

theorem i2 : ∀ t : Fin cfg2.N, win2_0.index t = ![(grid2.coords t 0).val, 0] ∧ win2_1.index t = ![(grid2.coords t 0).val, 0]
    ∧ win2_2.index t = ![(grid2.coords t 0).val, 0] ∧ win2_3.index t = ![0, (grid2.coords t 1).val]
    ∧ win2_4.index t = ![(grid2.coords t 0).val, (grid2.coords t 1).val] := (by decide +kernel : ∀ t : Fin grid2.N, _)
theorem mix_arr : (dat2 V c).arrAt 4 cfg2.N = Lin.mix (V c main_arg3) (V c main_arg4) (V c main_arg5) (V c main_arg6) := by
  refine (dat2 V c).arrAt_eq_of_covers 4 _ (by decide +kernel) fun t hf y => ?_
  blk_simp
  rw [after2_4, LinBlock.mix2]
  obtain ⟨e0, e1, e2, e3, e4⟩ := i2 t
  unfold Lin.mix
  blk_point [iblk2, e0, e1, e2, e3, e4]

theorem i3 : ∀ t : Fin cfg3.N, win3_0.index t = ![(grid3.coords t 0).val, 0] ∧ win3_1.index t = ![0, 0]
    ∧ win3_2.index t = ![(grid3.coords t 0).val, 0] ∧ win3_3.index t = ![(grid3.coords t 0).val, 0]
    ∧ win3_4.index t = ![(grid3.coords t 0).val, 0] := (by decide +kernel : ∀ t : Fin grid3.N, _)
theorem d1_arr : (dat3 V c).arrAt 2 cfg3.N = Lin.d1 (V c main_arg7) (V c main_arg6) := by
  refine (dat3 V c).arrAt_eq_of_covers 2 _ (by decide +kernel) fun t hf y => ?_
  blk_simp
  rw [after3_2, LinBlock.d1_3]
  obtain ⟨e0, e1, e2, e3, e4⟩ := i3 t
  unfold Lin.d1 Lin.back
  blk_point [iblk3, e0, e1, e2]
theorem d2_arr : (dat3 V c).arrAt 3 cfg3.N = Lin.d2 (V c main_arg7) (V c main_arg6) := by
  refine (dat3 V c).arrAt_eq_of_covers 3 _ (by decide +kernel) fun t hf y => ?_
  blk_simp
  rw [after3_3, LinBlock.d2_3]
  obtain ⟨e0, e1, e2, e3, e4⟩ := i3 t
  unfold Lin.d2 Lin.back
  blk_point [iblk3, e0, e1, e3]
theorem d3_arr : (dat3 V c).arrAt 4 cfg3.N = Lin.d3 (V c main_arg7) (V c main_arg6) := by
  refine (dat3 V c).arrAt_eq_of_covers 4 _ (by decide +kernel) fun t hf y => ?_
  blk_simp
  rw [after3_4, LinBlock.d3_3]
  obtain ⟨e0, e1, e2, e3, e4⟩ := i3 t
  unfold Lin.d3 Lin.back
  blk_point [iblk3, e0, e1, e4]

theorem i4 : ∀ t : Fin cfg4.N, win4_0.index t = ![0, 0] ∧ win4_1.index t = ![0, 0] ∧ win4_2.index t = ![0, 0]
    ∧ win4_3.index t = ![0, (grid4.coords t 0).val] ∧ win4_4.index t = ![0, (grid4.coords t 0).val] :=
  (by decide +kernel : ∀ t : Fin grid4.N, _)
section Dw
variable (t : Fin cfg4.N)
theorem a4 : iblk4 V c 0 t = V c main_arg3 := by
  obtain ⟨e, -⟩ := i4 t
  funext y
  blk_point [iblk4, e]
theorem b4 : iblk4 V c 1 t = V c main_arg4 := by
  obtain ⟨-, e, -⟩ := i4 t
  funext y
  blk_point [iblk4, e]
theorem c4 : iblk4 V c 2 t = V c main_arg5 := by
  obtain ⟨-, -, e, -⟩ := i4 t
  funext y
  blk_point [iblk4, e]
theorem lt4 : (grid4.coords t 0).val < 2 := (grid4.coords t 0).isLt
theorem o4 (y : S1024x512.Idx) : (win4_4.blk t).view.emb y
    = ix2 (y 0) (⟨(grid4.coords t 0).val * 512 + (y 1).val, by have := lt4 t; idx_bounds y; omega⟩ : Fin 1024) := by
  obtain ⟨-, -, -, -, e⟩ := i4 t
  refine funext fun a => Fin.ext ?_
  match a with
  | ⟨0, _⟩ => blk_simp [e]; rfl
  | ⟨1, _⟩ => blk_simp [e]; rfl
end Dw
theorem dw_arr : (dat4 V c).arrAt 4 cfg4.N = Lin.dw (V c main_arg3) (V c main_arg4) (V c main_arg5) (V c main_arg7) := by
  refine (dat4 V c).arrAt_eq_of_covers 4 _ (by decide +kernel) fun t hf y => ?_
  blk_simp
  rw [after4_4, LinBlock.dw4, a4, b4, c4, o4]
  obtain ⟨-, -, -, e3, -⟩ := i4 t
  refine congrFun (congrArg (Lin.dwr (V c main_arg3) (V c main_arg4) (V c main_arg5)) (funext fun s => ?_)) (y 0)
  blk_point [iblk4, e3]

end Cert.Proof.LinArrays

end
-- ==== Proof.LinRun.lean ====
/- Hand-written, untrusted. The in and out projections, run: the seven results of their kernel program as functions of the
   eight arguments. -/
module

public import proofs.«01_k».proof.Proof.LinArrays
public import proofs.«01_k».proof.Proof.Gen.Kernel4Ideal.Frame

@[expose] public section

set_option maxRecDepth 16384

noncomputable section

namespace Cert.Proof.LinRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel4Ideal Cert.Kernel4Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev x : Lin.M 2048 1024 := m ((c.tc : Thread nD τ).loc main_arg0)
abbrev w : Lin.M 1024 3592 := m ((c.tc : Thread nD τ).loc main_arg1)
abbrev d : Lin.M 2048 3592 := m ((c.tc : Thread nD τ).loc main_arg2)
abbrev a : Lin.M 2048 256 := m ((c.tc : Thread nD τ).loc main_arg3)
abbrev b : Lin.M 2048 256 := m ((c.tc : Thread nD τ).loc main_arg4)
abbrev e : Lin.M 2048 512 := m ((c.tc : Thread nD τ).loc main_arg5)
abbrev o : Lin.M 1024 1024 := m ((c.tc : Thread nD τ).loc main_arg6)
abbrev g : Lin.M 2048 1024 := m ((c.tc : Thread nD τ).loc main_arg7)

/-! ## The results -/

theorem proj1 : W1 m ρ c (Proc.devRef .tc main_v0) = Lin.proj (x m c) (w m c) := by
  refine (W1_arr m ρ c 2).trans ((LinArrays.proj_arr (V0 m ρ) c).trans ?_)
  rfl
theorem proj_end : W5 m ρ c (Proc.devRef .tc main_v0) = Lin.proj (x m c) (w m c) := (W5_of m ρ c main_v0 (by decide)).trans ((W4_of m ρ c main_v0 (by decide)).trans ((W3_of m ρ c main_v0 (by decide)).trans ((W2_of m ρ c main_v0 (by decide)).trans (proj1 m ρ c))))
theorem dx2 : W2 m ρ c (Proc.devRef .tc main_v1) = Lin.dx (d m c) (w m c) := by
  refine (W2_arr m ρ c 2).trans ((LinArrays.dx_arr (V1 m ρ) c).trans ?_)
  rw [show V1 m ρ c main_arg2 = d m c from W1_args m ρ c main_arg2 (by decide),
    show V1 m ρ c main_arg1 = w m c from W1_args m ρ c main_arg1 (by decide)]
theorem dx_end : W5 m ρ c (Proc.devRef .tc main_v1) = Lin.dx (d m c) (w m c) := (W5_of m ρ c main_v1 (by decide)).trans ((W4_of m ρ c main_v1 (by decide)).trans ((W3_of m ρ c main_v1 (by decide)).trans (dx2 m ρ c)))
theorem mix3 : W3 m ρ c (Proc.devRef .tc main_v2) = Lin.mix (a m c) (b m c) (e m c) (o m c) := by
  refine (W3_arr m ρ c 4).trans ((LinArrays.mix_arr (V2 m ρ) c).trans ?_)
  rw [show V2 m ρ c main_arg3 = a m c from W2_args m ρ c main_arg3 (by decide),
    show V2 m ρ c main_arg4 = b m c from W2_args m ρ c main_arg4 (by decide),
    show V2 m ρ c main_arg5 = e m c from W2_args m ρ c main_arg5 (by decide),
    show V2 m ρ c main_arg6 = o m c from W2_args m ρ c main_arg6 (by decide)]
theorem mix_end : W5 m ρ c (Proc.devRef .tc main_v2) = Lin.mix (a m c) (b m c) (e m c) (o m c) := (W5_of m ρ c main_v2 (by decide)).trans ((W4_of m ρ c main_v2 (by decide)).trans (mix3 m ρ c))
theorem d14 : W4 m ρ c (Proc.devRef .tc main_v3_0) = Lin.d1 (g m c) (o m c) := by
  refine (W4_arr m ρ c 2).trans ((LinArrays.d1_arr (V3 m ρ) c).trans ?_)
  rw [show V3 m ρ c main_arg7 = g m c from W3_args m ρ c main_arg7 (by decide),
    show V3 m ρ c main_arg6 = o m c from W3_args m ρ c main_arg6 (by decide)]
theorem d1_end : W5 m ρ c (Proc.devRef .tc main_v3_0) = Lin.d1 (g m c) (o m c) := (W5_of m ρ c main_v3_0 (by decide)).trans (d14 m ρ c)
theorem d24 : W4 m ρ c (Proc.devRef .tc main_v3_1) = Lin.d2 (g m c) (o m c) := by
  refine (W4_arr m ρ c 3).trans ((LinArrays.d2_arr (V3 m ρ) c).trans ?_)
  rw [show V3 m ρ c main_arg7 = g m c from W3_args m ρ c main_arg7 (by decide),
    show V3 m ρ c main_arg6 = o m c from W3_args m ρ c main_arg6 (by decide)]
theorem d2_end : W5 m ρ c (Proc.devRef .tc main_v3_1) = Lin.d2 (g m c) (o m c) := (W5_of m ρ c main_v3_1 (by decide)).trans (d24 m ρ c)
theorem d34 : W4 m ρ c (Proc.devRef .tc main_v3_2) = Lin.d3 (g m c) (o m c) := by
  refine (W4_arr m ρ c 4).trans ((LinArrays.d3_arr (V3 m ρ) c).trans ?_)
  rw [show V3 m ρ c main_arg7 = g m c from W3_args m ρ c main_arg7 (by decide),
    show V3 m ρ c main_arg6 = o m c from W3_args m ρ c main_arg6 (by decide)]
theorem d3_end : W5 m ρ c (Proc.devRef .tc main_v3_2) = Lin.d3 (g m c) (o m c) := (W5_of m ρ c main_v3_2 (by decide)).trans (d34 m ρ c)
theorem dw5 : W5 m ρ c (Proc.devRef .tc main_v4) = Lin.dw (a m c) (b m c) (e m c) (g m c) := by
  refine (W5_arr m ρ c 4).trans ((LinArrays.dw_arr (V4 m ρ) c).trans ?_)
  rw [show V4 m ρ c main_arg3 = a m c from W4_args m ρ c main_arg3 (by decide),
    show V4 m ρ c main_arg4 = b m c from W4_args m ρ c main_arg4 (by decide),
    show V4 m ρ c main_arg5 = e m c from W4_args m ρ c main_arg5 (by decide),
    show V4 m ρ c main_arg7 = g m c from W4_args m ρ c main_arg7 (by decide)]
theorem dw_end : W5 m ρ c (Proc.devRef .tc main_v4) = Lin.dw (a m c) (b m c) (e m c) (g m c) := dw5 m ρ c

set_option backward.isDefEq.respectTransparency.types false in
/-- From any memory the program runs to its end with the seven results at these values. -/
theorem run : θ_run defs (onTc (τ := τ) (main (F := Ideal))) ⟨m, fun _ => 0, ρ⟩ (fun r => ∀ c : Dev nD,
      r.2.mem ((c.tc : Thread nD τ).loc main_v0) = Lin.proj (x m c) (w m c)
      ∧ r.2.mem ((c.tc : Thread nD τ).loc main_v1) = Lin.dx (d m c) (w m c)
      ∧ r.2.mem ((c.tc : Thread nD τ).loc main_v2) = Lin.mix (a m c) (b m c) (e m c) (o m c)
      ∧ r.2.mem ((c.tc : Thread nD τ).loc main_v3_0) = Lin.d1 (g m c) (o m c)
      ∧ r.2.mem ((c.tc : Thread nD τ).loc main_v3_1) = Lin.d2 (g m c) (o m c)
      ∧ r.2.mem ((c.tc : Thread nD τ).loc main_v3_2) = Lin.d3 (g m c) (o m c)
      ∧ r.2.mem ((c.tc : Thread nD τ).loc main_v4) = Lin.dw (a m c) (b m c) (e m c) (g m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s e _ c =>
      ⟨(e c _ (mem_uc main_v0 (by decide))).trans (proj_end m ρ c),
       (e c _ (mem_uc main_v1 (by decide))).trans (dx_end m ρ c),
       (e c _ (mem_uc main_v2 (by decide))).trans (mix_end m ρ c),
       (e c _ (mem_uc main_v3_0 (by decide))).trans (d1_end m ρ c),
       (e c _ (mem_uc main_v3_1 (by decide))).trans (d2_end m ρ c),
       (e c _ (mem_uc main_v3_2 (by decide))).trans (d3_end m ρ c),
       (e c _ (mem_uc main_v4 (by decide))).trans (dw_end m ρ c)⟩)

end Cert.Proof.LinRun

end
-- ==== Proof.LinRef.lean ====
/- Hand-written, untrusted. The reference program of the in and out projections, read entry by entry. -/
module

public import proofs.«01_k».proof.Proof.LinSpec
public import proofs.«01_k».proof.Proof.Gen.Reference4Ideal.Read
public import Idealize.ShloMosaic.Lib.KernelVsHost

@[expose] public section

set_option maxRecDepth 16384

noncomputable section

namespace Cert.Proof.LinRef

open Idealize.ShloMosaic Cert.Reference4Ideal Cert.Reference4Ideal.Gen Cert.Reference4Ideal.Read Idealize.ShloMosaic.Pointwise
open Lin (M)

variable (x : M 2048 1024) (w : M 1024 3592) (d : M 2048 3592) (a b : M 2048 256) (e : M 2048 512) (o : M 1024 1024) (g : M 2048 1024)

theorem proj_ref : val_main_v0 (F := Ideal) x w = Lin.proj x w := by
  funext y
  unfold Lin.proj
  pointwise [val_main_v0]
theorem dx_ref : val_main_v3 (F := Ideal) w d = Lin.dx d w := by
  funext y
  unfold Lin.dx
  pointwise [val_main_v3]

/-! ## The three mixers' lanes side by side -/

theorem cat1 (r : Fin 2048) (l : Fin 256) : val_main_v1 (F := Ideal) a b e (ix2 r ⟨l.val, by omega⟩) = a (ix2 r l) := by
  pointwise [val_main_v1]
theorem cat2 (r : Fin 2048) (l : Fin 256) : val_main_v1 (F := Ideal) a b e (ix2 r ⟨256 + l.val, by omega⟩) = b (ix2 r l) := by
  pointwise [val_main_v1]
theorem cat3 (r : Fin 2048) (l : Fin 512) : val_main_v1 (F := Ideal) a b e (ix2 r ⟨512 + l.val, by omega⟩) = e (ix2 r l) := by
  pointwise [val_main_v1]
  rw [dif_neg (by omega), dif_neg (by omega)]
  exact congrArg (fun q => e (ix2 r q)) (Fin.ext (show 512 + l.val - 256 - 256 = l.val by omega))
/-- A sum over all lanes, mixer by mixer. -/
theorem sum_lanes (f : Fin 1024 → EReal) : ∑ q, f q = (∑ k : Fin 256, f ⟨k.val, by omega⟩) + (∑ k : Fin 256, f ⟨256 + k.val, by omega⟩)
    + ∑ k : Fin 512, f ⟨512 + k.val, by omega⟩ := by
  rw [Fin.sum_univ_add (a := 512) (b := 512) f, Fin.sum_univ_add (a := 256) (b := 256) fun i => f (Fin.castAdd 512 i)]
  rfl
theorem mix_ref : val_main_v2 (F := Ideal) a b e o = Lin.mix a b e o := by
  funext y
  unfold Lin.mix
  pointwise [val_main_v2]
  rw [sum_lanes]
  exact congrArg₂ (· + ·) (congrArg₂ (· + ·)
    (Finset.sum_congr rfl fun k _ => congrArg (· * o (ix2 ⟨k.val, by omega⟩ (y 1))) (cat1 a b e (y 0) k))
    (Finset.sum_congr rfl fun k _ => congrArg (· * o (ix2 ⟨256 + k.val, by omega⟩ (y 1))) (cat2 a b e (y 0) k)))
    (Finset.sum_congr rfl fun k _ => congrArg (· * o (ix2 ⟨512 + k.val, by omega⟩ (y 1))) (cat3 a b e (y 0) k))

/-! ## The gradients of the lanes -/

theorem d1_ref : val_main_v8 (F := Ideal) o g = Lin.d1 g o := by
  funext y
  unfold Lin.d1 Lin.back
  pointwise [val_main_v8, val_main_v7]
theorem d2_ref : val_main_v9 (F := Ideal) o g = Lin.d2 g o := by
  funext y
  unfold Lin.d2 Lin.back
  pointwise [val_main_v9, val_main_v7]
theorem d3_ref : val_main_v10 (F := Ideal) o g = Lin.d3 g o := by
  funext y
  unfold Lin.d3 Lin.back
  pointwise [val_main_v10, val_main_v7]

/-! ## The gradient of the weights -/

theorem cat (r : Fin 2048) (l : Fin 1024) : val_main_v1 (F := Ideal) a b e (ix2 r l) = if h : l.val < 256 then a (ix2 r ⟨l.val, h⟩)
    else if h' : l.val - 256 < 256 then b (ix2 r ⟨l.val - 256, h'⟩) else e (ix2 r ⟨l.val - 256 - 256, by omega⟩) := by
  pointwise [val_main_v1]
theorem dw_ref : val_main_v6 (F := Ideal) a b e g = Lin.dw a b e g := by
  funext y
  unfold Lin.dw Lin.dwr
  pointwise [val_main_v6, val_main_v5, val_main_v4]
  have h : ∀ t : Fin 2048, val_main_v1 (F := Ideal) a b e (ix2 t (y 0)) = _ := fun t => cat a b e t (y 0)
  split_ifs with h1 h2
  · refine Finset.sum_congr rfl fun t _ => ?_
    rw [mul_comm]
    exact congrArg (· * g (ix2 t (y 1))) ((h t).trans (dif_pos h1))
  · refine Finset.sum_congr rfl fun t _ => ?_
    rw [mul_comm]
    exact congrArg (· * g (ix2 t (y 1))) ((h t).trans ((dif_neg h1).trans (dif_pos h2)))
  · refine Finset.sum_congr rfl fun t _ => ?_
    rw [mul_comm]
    exact congrArg (· * g (ix2 t (y 1))) ((h t).trans ((dif_neg h1).trans (dif_neg h2)))

end Cert.Proof.LinRef

end
-- ==== Proof.Acc5.lean ====
/- Hand-written, untrusted. The gradient of the in projection's weights, summed over four runs of positions. -/
module

public import proofs.«01_k».proof.Proof.Gen.Kernel5Ideal.Value
public import proofs.«01_k».proof.Proof.Gen.Reference5Ideal.Read
public import proofs.«01_k».proof.Proof.LinSpec
public import Idealize.ShloMosaic.Lib.Pointwise
public import Idealize.ShloMosaic.Lib.Pipeline.ValueKit
public import Idealize.ShloMosaic.Lib.KernelVsHost

@[expose] public section

set_option maxRecDepth 16384

noncomputable section

namespace Cert.Proof.Acc5

open Idealize.ShloMosaic Idealize.ShloMosaic.TcCoe Cert.Kernel5Ideal Cert.Kernel5Ideal.Gen Idealize.ShloMosaic.Pointwise Idealize.SL.Sem
open Lin (M)

/-- A block's start. -/
theorem hz2 : (![0, 0] : Fin 2 → ℕ) = fun _ => 0 := by decide

/-! ## What the scratch and the result hold after a grid point, by its place in its run -/

section Cases
variable (c : Dev nD) (i : grid0.Coords) (a3 : Memref sig .tc .vmem S512x512 .f32) (h3 : a3.IsWhole) (a4 : Memref sig .tc .vmem S512x3592 .f32) (h4 : a4.IsWhole)
  (a5 : Memref sig .tc .vmem S512x3592 .bf16) (h5 : a5.IsWhole) (a6 : Memref sig .tc .vmem S512x3592 .f32) (h6 : a6.IsWhole)
  (x : Vec Ideal S512x512 .f32) (d : Vec Ideal S512x3592 .f32) (s : Vec Ideal S512x3592 .f32)

theorem first (hc0 : cond0_0 i) (hc1 : ¬cond0_1 i) (hc2 : ¬cond0_2 i) :
    sout0_A_0 c i a3 h3 a4 h4 a5 h5 a6 h6 hc0 hc1 hc2 x d = k0_pay2 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero (S := S512x3592) hz2]
  simp only [View.readAt_eq_ld, h3.read_unread, h4.read_unread, View.ld_unit_zero (S := S512x512) hz2, View.ld_unit_zero (S := S512x3592) hz2]
theorem next (hc0 : ¬cond0_0 i) (hc1 : cond0_1 i) (hc2 : ¬cond0_2 i) :
    sout0_B_0 c i a3 h3 a4 h4 a5 h5 a6 h6 hc0 hc1 hc2 x d s = k0_pay3 x d s := by
  unfold sout0_B_0
  rw [View.read_writes_eq_canon _ _ _ (scover0_B_0 c i a3 h3 a4 h4 a5 h5 a6 h6 hc0 hc1 hc2 x d s)]
  unfold kernelRun0_B
  dsimp only
  sl_unfold_words
  rw [View.canon_unit_zero (S := S512x3592) hz2]
  simp only [View.readAt_eq_ld, h3.read_unread, h4.read_unread, h6.read_unread, View.ld_unit_zero (S := S512x512) hz2, View.ld_unit_zero (S := S512x3592) hz2]
theorem last (hc0 : ¬cond0_0 i) (hc1 : cond0_1 i) (hc2 : cond0_2 i) :
    out0_C_2 c i a3 h3 a4 h4 a5 h5 a6 h6 hc0 hc1 hc2 x d s = k0_pay4 (k0_pay3 x d s) := by
  unfold out0_C_2
  rw [View.read_writes_eq_canon _ _ _ (cover0_C_2 c i a3 h3 a4 h4 a5 h5 a6 h6 hc0 hc1 hc2 x d s)]
  unfold kernelRun0_C
  dsimp only
  sl_unfold_words
  rw [View.canon_unit_zero (S := S512x3592) hz2, View.readCov_unit_zero (S := S512x3592) _ hz2]
  simp only [View.readAt_eq_ld, h3.read_unread, h4.read_unread, h6.read_unread, View.ld_unit_zero (S := S512x512) hz2, View.ld_unit_zero (S := S512x3592) hz2]

theorem pay2 (y : S512x3592.Idx) : k0_pay2 x d y = ∑ k : Fin 512, x (ix2 k (y 0)) * d (ix2 k (y 1)) := by
  pointwise [k0_pay2, k0_pay1]
theorem pay3 (y : S512x3592.Idx) : k0_pay3 x d s y = s y + ∑ k : Fin 512, x (ix2 k (y 0)) * d (ix2 k (y 1)) := by
  pointwise [k0_pay3, k0_pay1]
theorem pay4 (y : S512x3592.Idx) : k0_pay4 (F := Ideal) s y = s y := by
  pointwise [k0_pay4]
end Cases

/-! ## The runs -/

/-- Part of a sum over the positions: one run of 512. -/
def P (f : Fin 2048 → EReal) (q : Fin 4) : EReal := ∑ k : Fin 512, f ⟨q.val * 512 + k.val, by omega⟩
/-- The four runs are the sum. -/
theorem sum_P (f : Fin 2048 → EReal) : P f 0 + P f 1 + P f 2 + P f 3 = ∑ r, f r := by
  rw [← Fin.sum_univ_four]
  unfold P
  rw [← Fintype.sum_prod_type' (fun (q : Fin 4) (k : Fin 512) => f ⟨q.val * 512 + k.val, by omega⟩)]
  refine Eq.trans (Finset.sum_congr rfl fun p _ => congrArg f (Fin.ext ?_)) (Equiv.sum_comp (finProdFinEquiv (m := 4) (n := 512)) f)
  simp only [finProdFinEquiv_apply_val]; omega

variable (m : (ℓ : Loc nD τ sig) → Buf (Elt Ideal) ℓ) (ρ : Dev nD → PrngReg) (c : Dev nD)

/-- The arguments. -/
abbrev x : M 2048 1024 := m ((c.tc : Thread nD τ).loc main_arg0)
abbrev d : M 2048 3592 := m ((c.tc : Thread nD τ).loc main_arg1)
/-- One position's share of an entry. -/
def f (a : Fin 1024) (b : Fin 3592) (r : Fin 2048) : EReal := x m c (ix2 r a) * d m c (ix2 r b)

theorem at' : ∀ t : Fin cfg0.N, win0_0.index t = ![t.val % 4, t.val / 4] ∧ win0_1.index t = ![t.val % 4, 0] ∧ win0_2.index t = ![t.val / 4, 0] :=
  (by decide +kernel : ∀ t : Fin grid0.N, _)

/-- The blocks a grid point reads. -/
def bx (t : Fin cfg0.N) : Vec Ideal S512x512 .f32 := iblk m c 0 t
def bd (t : Fin cfg0.N) : Vec Ideal S512x3592 .f32 := iblk m c 1 t

/-- A grid point's own share. -/
theorem share (t : Fin cfg0.N) (p : Fin 512) (l : Fin 3592) :
    ∑ k : Fin 512, bx m c t (ix2 k p) * bd m c t (ix2 k l)
      = P (f m c ⟨t.val / 4 * 512 + p.val, by have := lt_of_lt_of_eq t.isLt (show cfg0.N = 8 from N_0); omega⟩ l) ⟨t.val % 4, by omega⟩ := by
  obtain ⟨e0, e1, -⟩ := at' t
  unfold P f
  have := lt_of_lt_of_eq t.isLt (show cfg0.N = 8 from N_0)
  refine Finset.sum_congr rfl fun k _ => ?_
  refine congrArg₂ (· * ·) (congrArg (x m c) (funext fun a => Fin.ext ?_)) (congrArg (d m c) (funext fun a => Fin.ext ?_))
  · match a with
    | ⟨0, _⟩ => blk_simp [e0]
    | ⟨1, _⟩ => blk_simp [e0]
  · match a with
    | ⟨0, _⟩ => blk_simp [e1]
    | ⟨1, _⟩ => blk_simp [e1]

section Steps
variable (t : Fin cfg0.N)
/-- What the point before left in the scratch. -/
abbrev before : Vec Ideal S512x3592 .f32 := (outsAt0 m c (t.val - 1) (Nat.lt_of_le_of_lt (Nat.sub_le _ _) t.isLt)).2

theorem r0 (h0 : t.val % 4 = 0) (h1 : ¬1 ≤ t.val % 4) (h2 : ¬t.val % 4 = 3) : (outsAt0 m c t.val t.isLt).2
    = sout0_A_0 c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (bx m c t) (bd m c t) := by
  unfold bx bd
  rw [outsAt0_A m c t h0 h1 h2]
/-- The scratch after a run's first point. -/
theorem s0 (h0 : t.val % 4 = 0) : (outsAt0 m c t.val t.isLt).2 = k0_pay2 (F := Ideal) (bx m c t) (bd m c t) := by
  rw [r0 m c t h0 (by omega) (by omega)]
  generalize bx m c t = x
  generalize bd m c t = d
  exact first c (grid0.coords t) (ms0_0 t) (hs0_0 t) (ms0_1 t) (hs0_1 t) (ms0_2 t) (hs0_2 t) scM0_0 (Memref.isWhole_whole _) x d _ _ _

theorem r1 (h0 : ¬t.val % 4 = 0) (h1 : 1 ≤ t.val % 4) (h2 : ¬t.val % 4 = 3) : (outsAt0 m c t.val t.isLt).2
    = sout0_B_0 c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (fun h => h2 ((hcond0_2 t).mp h)) (bx m c t) (bd m c t) (before m c t) := by
  unfold bx bd
  rw [outsAt0_B m c t h0 h1 h2]
/-- The scratch after a run's second or third point. -/
theorem s1 (h0 : ¬ t.val % 4 = 0) (h3 : ¬ t.val % 4 = 3) :
    (outsAt0 m c t.val t.isLt).2 = k0_pay3 (F := Ideal) (bx m c t) (bd m c t) (before m c t) := by
  rw [r1 m c t h0 (by omega) h3]
  generalize bx m c t = x
  generalize bd m c t = d
  generalize before m c t = s
  exact next c (grid0.coords t) (ms0_0 t) (hs0_0 t) (ms0_1 t) (hs0_1 t) (ms0_2 t) (hs0_2 t) scM0_0 (Memref.isWhole_whole _) x d s _ _ _

theorem r3 (h0 : ¬t.val % 4 = 0) (h1 : 1 ≤ t.val % 4) (h2 : t.val % 4 = 3) : (outsAt0 m c t.val t.isLt).1
    = out0_C_2 c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (bx m c t) (bd m c t) (before m c t) := by
  unfold bx bd
  rw [outsAt0_C m c t h0 h1 h2]
/-- The result after a run's last point. -/
theorem s3 (h3 : t.val % 4 = 3) :
    (outsAt0 m c t.val t.isLt).1 = k0_pay4 (F := Ideal) (k0_pay3 (bx m c t) (bd m c t) (before m c t)) := by
  rw [r3 m c t (by omega) (by omega) h3]
  generalize bx m c t = x
  generalize bd m c t = d
  generalize before m c t = s
  exact last c (grid0.coords t) (ms0_0 t) (hs0_0 t) (ms0_1 t) (hs0_1 t) (ms0_2 t) (hs0_2 t) scM0_0 (Memref.isWhole_whole _) x d s _ _ _
end Steps

/-- A grid point's own share, the point given by its run and its place. -/
theorem share' (i j : ℕ) (h : 4 * i + j < cfg0.N) (hj : j < 4) (hi : i < 2) (p : Fin 512) (l : Fin 3592) :
    ∑ k : Fin 512, bx m c ⟨4 * i + j, h⟩ (ix2 k p) * bd m c ⟨4 * i + j, h⟩ (ix2 k l)
      = P (f m c ⟨i * 512 + p.val, by omega⟩ l) ⟨j, hj⟩ := by
  refine (share m c ⟨4 * i + j, h⟩ p l).trans ?_
  refine congrArg₂ (fun a q => P (f m c a l) q) (Fin.ext ?_) (Fin.ext ?_)
  · show (4 * i + j) / 4 * 512 + p.val = i * 512 + p.val
    omega
  · show (4 * i + j) % 4 = j
    omega

/-- What a run's last point writes. -/
theorem out (i : ℕ) (h : 4 * i + 3 < cfg0.N) (hi : i < 2) (p : Fin 512) (l : Fin 3592) :
    (outsAt0 m c (4 * i + 3) h).1 (ix2 p l) = ∑ r, f m c ⟨i * 512 + p.val, by omega⟩ l r := by
  rw [← sum_P]
  refine (congrFun (s3 m c ⟨4 * i + 3, h⟩ (by dsimp only; omega)) (ix2 p l)).trans ?_
  rw [pay4, pay3]
  refine congrArg₂ (· + ·) ?_ (share' m c i 3 h (by omega) hi p l)
  refine (congrFun (s1 m c ⟨4 * i + 2, by omega⟩ (by dsimp only; omega) (by dsimp only; omega)) (ix2 p l)).trans ?_
  rw [pay3]
  refine congrArg₂ (· + ·) ?_ (share' m c i 2 (by omega) (by omega) hi p l)
  refine (congrFun (s1 m c ⟨4 * i + 1, by omega⟩ (by dsimp only; omega) (by dsimp only; omega)) (ix2 p l)).trans ?_
  rw [pay3]
  refine congrArg₂ (· + ·) ?_ (share' m c i 1 (by omega) (by omega) hi p l)
  refine (congrFun (s0 m c ⟨4 * i, by omega⟩ (by dsimp only; omega)) (ix2 p l)).trans ?_
  rw [pay2]
  exact share' m c i 0 (by omega) (by omega) hi p l

/-- The gradient: over the positions, the input's lane against the cotangent's. -/
def dw (x : M 2048 1024) (d : M 2048 3592) : M 1024 3592 := fun y => ∑ r : Fin 2048, x (ix2 r (y 0)) * d (ix2 r (y 1))

theorem arr : (dats m 0 c).arrAt 2 cfg0.N = dw (x m c) (d m c) := by
  refine (dats m 0 c).arrAt_eq_of_covers 2 _ (by decide +kernel) fun t hf y => ?_
  have hN := lt_of_lt_of_eq t.isLt (show cfg0.N = 8 from N_0)
  have hm : t.val % 4 = 3 := (flush0_2 t).mp hf
  obtain ⟨n, hn⟩ := t
  obtain ⟨i, rfl⟩ : ∃ i, n = 4 * i + 3 := ⟨n / 4, by dsimp only at hm; omega⟩
  obtain ⟨-, -, e2⟩ := at' ⟨4 * i + 3, hn⟩
  have hi : i < 2 := by dsimp only at hN; omega
  have ey : y = (ix2 (y 0) (y 1) : S512x3592.Idx) := funext fun a => match a with
    | ⟨0, _⟩ => rfl
    | ⟨1, _⟩ => rfl
  have eb : (win0_2.blk ⟨4 * i + 3, hn⟩).view.emb y = (ix2 (⟨i * 512 + (y 0).val, by idx_bounds y; omega⟩ : Fin 1024) (y 1) : S1024x3592.Idx) := by
    refine funext fun a => Fin.ext ?_
    match a with
    | ⟨0, _⟩ => blk_simp [e2]; show (4 * i + 3) / 4 * 512 + (y 0).val = i * 512 + (y 0).val; omega
    | ⟨1, _⟩ => blk_simp [e2]; rfl
  blk_simp
  rw [after0_2, eb]
  exact (congrArg (outsAt0 m c (4 * i + 3) hn).1 ey).trans (out m c i hn hi (y 0) (y 1))

/-- The run: the result at the sum over all positions. -/
theorem run : θ_run defs (onTc (τ := τ) (main (F := Ideal))) ⟨m, fun _ => 0, ρ⟩ fun r => ∀ c : Dev nD,
      r.2.mem ((c.tc : Thread nD τ).loc main_v0) = dw (x m c) (d m c) :=
  (θ_run defs _ _).mono (fun r h c => (h c).1.trans (arr m c)) (Value.run_blocks m ρ)

end Cert.Proof.Acc5

namespace Cert.Proof.Acc5
open Idealize.ShloMosaic Cert.Reference5Ideal Cert.Reference5Ideal.Gen Cert.Reference5Ideal.Read Idealize.ShloMosaic.Pointwise

theorem dw_ref (x : Lin.M 2048 1024) (d : Lin.M 2048 3592) : val_main_v4 (F := Ideal) x d = dw x d := by
  funext i
  unfold dw
  pointwise [val_main_v4, val_main_v3, val_main_v2]
  exact Finset.sum_congr rfl fun r _ => mul_comm _ _

end Cert.Proof.Acc5

end
-- ==== Proof.Acc6.lean ====
/- Hand-written, untrusted. The gradient of the memory attention's query weights, summed over two halves of the positions. -/
module

public import proofs.«01_k».proof.Proof.Gen.Kernel6Ideal.Value
public import proofs.«01_k».proof.Proof.Gen.Reference6Ideal.Read
public import proofs.«01_k».proof.Proof.LinSpec
public import Idealize.ShloMosaic.Lib.Pointwise
public import Idealize.ShloMosaic.Lib.Pipeline.ValueKit
public import Idealize.ShloMosaic.Lib.KernelVsHost

@[expose] public section

set_option maxRecDepth 16384

noncomputable section

namespace Cert.Proof.Acc6

open Idealize.ShloMosaic Idealize.ShloMosaic.TcCoe Cert.Kernel6Ideal Cert.Kernel6Ideal.Gen Idealize.ShloMosaic.Pointwise Idealize.SL.Sem
open Lin (M)

/-- A block's start. -/
theorem hz2 : (![0, 0] : Fin 2 → ℕ) = fun _ => 0 := by decide

/-! ## What the scratch and the result hold after a grid point, by its place -/

section Cases
variable (c : Dev nD) (i : grid0.Coords) (a3 : Memref sig .tc .vmem S1024x1024 .f32) (h3 : a3.IsWhole) (a4 : Memref sig .tc .vmem S1024x1024 .f32) (h4 : a4.IsWhole)
  (a5 : Memref sig .tc .vmem S1024x1024 .bf16) (h5 : a5.IsWhole) (a6 : Memref sig .tc .vmem S1024x1024 .f32) (h6 : a6.IsWhole)
  (x : Vec Ideal S1024x1024 .f32) (d : Vec Ideal S1024x1024 .f32) (s : Vec Ideal S1024x1024 .f32)

theorem first (hc0 : cond0_0 i) (hc1 : ¬cond0_1 i) (hc2 : ¬cond0_2 i) :
    sout0_A_0 c i a3 h3 a4 h4 a5 h5 a6 h6 hc0 hc1 hc2 x d = k0_pay2 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero (S := S1024x1024) hz2]
  simp only [View.readAt_eq_ld, h3.read_unread, h4.read_unread, View.ld_unit_zero (S := S1024x1024) hz2]
theorem last (hc0 : ¬cond0_0 i) (hc1 : cond0_1 i) (hc2 : cond0_2 i) :
    out0_B_2 c i a3 h3 a4 h4 a5 h5 a6 h6 hc0 hc1 hc2 x d s = k0_pay4 (k0_pay3 x d s) := by
  unfold out0_B_2
  rw [View.read_writes_eq_canon _ _ _ (cover0_B_2 c i a3 h3 a4 h4 a5 h5 a6 h6 hc0 hc1 hc2 x d s)]
  unfold kernelRun0_B
  dsimp only
  sl_unfold_words
  rw [View.canon_unit_zero (S := S1024x1024) hz2, View.readCov_unit_zero (S := S1024x1024) _ hz2]
  simp only [View.readAt_eq_ld, h3.read_unread, h4.read_unread, h6.read_unread, View.ld_unit_zero (S := S1024x1024) hz2]

theorem pay2 (y : S1024x1024.Idx) : k0_pay2 x d y = ∑ k : Fin 1024, x (ix2 k (y 0)) * d (ix2 k (y 1)) := by
  pointwise [k0_pay2, k0_pay1]
theorem pay3 (y : S1024x1024.Idx) : k0_pay3 x d s y = s y + ∑ k : Fin 1024, x (ix2 k (y 0)) * d (ix2 k (y 1)) := by
  pointwise [k0_pay3, k0_pay1]
theorem pay4 (y : S1024x1024.Idx) : k0_pay4 (F := Ideal) s y = s y := by
  pointwise [k0_pay4]
end Cases

/-! ## The two halves -/

/-- Half of a sum. -/
def P (f : Fin 2048 → EReal) (q : Fin 2) : EReal := ∑ k : Fin 1024, f ⟨q.val * 1024 + k.val, by omega⟩
/-- The two halves are the sum. -/
theorem sum_P (f : Fin 2048 → EReal) : P f 0 + P f 1 = ∑ r, f r := by
  rw [← Fin.sum_univ_two]
  unfold P
  rw [← Fintype.sum_prod_type' (fun (q : Fin 2) (k : Fin 1024) => f ⟨q.val * 1024 + k.val, by omega⟩)]
  refine Eq.trans (Finset.sum_congr rfl fun p _ => congrArg f (Fin.ext ?_)) (Equiv.sum_comp (finProdFinEquiv (m := 2) (n := 1024)) f)
  simp only [finProdFinEquiv_apply_val]; omega

variable (m : (ℓ : Loc nD τ sig) → Buf (Elt Ideal) ℓ) (ρ : Dev nD → PrngReg) (c : Dev nD)

/-- The arguments. -/
abbrev x : M 2048 1024 := m ((c.tc : Thread nD τ).loc main_arg0)
abbrev d : M 2048 1024 := m ((c.tc : Thread nD τ).loc main_arg1)
/-- One term of an entry. -/
def f (a : Fin 1024) (b : Fin 1024) (r : Fin 2048) : EReal := x m c (ix2 r a) * d m c (ix2 r b)

theorem at' : ∀ t : Fin cfg0.N, win0_0.index t = ![t.val, 0] ∧ win0_1.index t = ![t.val, 0] ∧ win0_2.index t = ![0, 0] :=
  (by decide +kernel : ∀ t : Fin grid0.N, _)

/-- The blocks a grid point reads. -/
def bx (t : Fin cfg0.N) : Vec Ideal S1024x1024 .f32 := iblk m c 0 t
def bd (t : Fin cfg0.N) : Vec Ideal S1024x1024 .f32 := iblk m c 1 t

/-- A grid point's own share. -/
theorem share (t : Fin cfg0.N) (p : Fin 1024) (l : Fin 1024) :
    ∑ k : Fin 1024, bx m c t (ix2 k p) * bd m c t (ix2 k l) = P (f m c p l) ⟨t.val, lt_of_lt_of_eq t.isLt (show cfg0.N = 2 from N_0)⟩ := by
  obtain ⟨e0, e1, -⟩ := at' t
  unfold P f
  have := lt_of_lt_of_eq t.isLt (show cfg0.N = 2 from N_0)
  refine Finset.sum_congr rfl fun k _ => ?_
  refine congrArg₂ (· * ·) (congrArg (x m c) (funext fun a => Fin.ext ?_)) (congrArg (d m c) (funext fun a => Fin.ext ?_))
  · match a with
    | ⟨0, _⟩ => blk_simp [e0]
    | ⟨1, _⟩ => blk_simp [e0]
  · match a with
    | ⟨0, _⟩ => blk_simp [e1]
    | ⟨1, _⟩ => blk_simp [e1]

section Steps
variable (t : Fin cfg0.N)
/-- What the point before left in the scratch. -/
abbrev before : Vec Ideal S1024x1024 .f32 := (outsAt0 m c (t.val - 1) (Nat.lt_of_le_of_lt (Nat.sub_le _ _) t.isLt)).2

theorem r0 (h0 : t.val % 2 = 0) (h1 : ¬t.val % 2 = 1) (h2 : ¬t.val % 2 = 1) : (outsAt0 m c t.val t.isLt).2
    = sout0_A_0 c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (bx m c t) (bd m c t) := by
  unfold bx bd
  rw [outsAt0_A m c t h0 h1 h2]
/-- The scratch after the first point. -/
theorem s0 (h0 : t.val % 2 = 0) : (outsAt0 m c t.val t.isLt).2 = k0_pay2 (F := Ideal) (bx m c t) (bd m c t) := by
  rw [r0 m c t h0 (by omega) (by omega)]
  generalize bx m c t = x
  generalize bd m c t = d
  exact first c (grid0.coords t) (ms0_0 t) (hs0_0 t) (ms0_1 t) (hs0_1 t) (ms0_2 t) (hs0_2 t) scM0_0 (Memref.isWhole_whole _) x d _ _ _

theorem r1 (h0 : ¬t.val % 2 = 0) (h1 : t.val % 2 = 1) (h2 : t.val % 2 = 1) : (outsAt0 m c t.val t.isLt).1
    = out0_B_2 c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (bx m c t) (bd m c t) (before m c t) := by
  unfold bx bd
  rw [outsAt0_B m c t h0 h1 h2]
/-- The result after the last point. -/
theorem s1 (h1 : t.val % 2 = 1) :
    (outsAt0 m c t.val t.isLt).1 = k0_pay4 (F := Ideal) (k0_pay3 (F := Ideal) (bx m c t) (bd m c t) (before m c t)) := by
  rw [r1 m c t (by omega) h1 h1]
  generalize bx m c t = x
  generalize bd m c t = d
  generalize before m c t = s
  exact last c (grid0.coords t) (ms0_0 t) (hs0_0 t) (ms0_1 t) (hs0_1 t) (ms0_2 t) (hs0_2 t) scM0_0 (Memref.isWhole_whole _) x d s _ _ _
end Steps

/-- What the last point writes. -/
theorem out (h : 1 < cfg0.N) (p : Fin 1024) (l : Fin 1024) : (outsAt0 m c 1 h).1 (ix2 p l) = ∑ r, f m c p l r := by
  rw [← sum_P]
  refine (congrFun (s1 m c ⟨1, h⟩ rfl) (ix2 p l)).trans ?_
  rw [pay4, pay3]
  refine congrArg₂ (· + ·) ?_ (share m c ⟨1, h⟩ p l)
  refine (congrFun (s0 m c ⟨0, by omega⟩ rfl) (ix2 p l)).trans ?_
  rw [pay2]
  exact share m c ⟨0, by omega⟩ p l

/-- The gradient: over the positions, the input's lane against the cotangent's. -/
def res (x : M 2048 1024) (d : M 2048 1024) : M 1024 1024 := fun y => ∑ r : Fin 2048, x (ix2 r (y 0)) * d (ix2 r (y 1))

theorem arr : (dats m 0 c).arrAt 2 cfg0.N = res (x m c) (d m c) := by
  refine (dats m 0 c).arrAt_eq_of_covers 2 _ (by decide +kernel) fun t hf y => ?_
  have hN := lt_of_lt_of_eq t.isLt (show cfg0.N = 2 from N_0)
  have hm : t.val % 2 = 1 := (flush0_2 t).mp hf
  obtain ⟨-, -, e2⟩ := at' t
  have ey : y = (ix2 (y 0) (y 1) : S1024x1024.Idx) := funext fun a => match a with
    | ⟨0, _⟩ => rfl
    | ⟨1, _⟩ => rfl
  have eb : (win0_2.blk t).view.emb y = (ix2 (y 0) (y 1) : S1024x1024.Idx) := by
    refine funext fun a => Fin.ext ?_
    match a with
    | ⟨0, _⟩ => blk_simp [e2]; rfl
    | ⟨1, _⟩ => blk_simp [e2]; rfl
  blk_simp
  rw [after0_2, eb]
  obtain ⟨n, hn⟩ := t
  obtain rfl : n = 1 := by dsimp only at hN hm; omega
  exact (congrArg (outsAt0 m c 1 hn).1 ey).trans (out m c hn (y 0) (y 1))

/-- The run: the result at the whole sum. -/
theorem run : θ_run defs (onTc (τ := τ) (main (F := Ideal))) ⟨m, fun _ => 0, ρ⟩ fun r => ∀ c : Dev nD,
      r.2.mem ((c.tc : Thread nD τ).loc main_v0) = res (x m c) (d m c) :=
  (θ_run defs _ _).mono (fun r h c => (h c).1.trans (arr m c)) (Value.run_blocks m ρ)

end Cert.Proof.Acc6

namespace Cert.Proof.Acc6
open Idealize.ShloMosaic Cert.Reference6Ideal Cert.Reference6Ideal.Gen Cert.Reference6Ideal.Read Idealize.ShloMosaic.Pointwise

theorem res_ref (x : Lin.M 2048 1024) (d : Lin.M 2048 1024) : val_main_v4 (F := Ideal) x d = res x d := by
  funext i
  unfold res
  pointwise [val_main_v4, val_main_v3, val_main_v2]
  exact Finset.sum_congr rfl fun r _ => mul_comm _ _

end Cert.Proof.Acc6

end
-- ==== Proof.Acc7.lean ====
/- Hand-written, untrusted. The gradient the memory gets through its keys and values, summed over two halves of their lanes. -/
module

public import proofs.«01_k».proof.Proof.Gen.Kernel7Ideal.Value
public import proofs.«01_k».proof.Proof.Gen.Reference7Ideal.Read
public import proofs.«01_k».proof.Proof.LinSpec
public import Idealize.ShloMosaic.Lib.Pointwise
public import Idealize.ShloMosaic.Lib.Pipeline.ValueKit
public import Idealize.ShloMosaic.Lib.KernelVsHost

@[expose] public section

set_option maxRecDepth 16384

noncomputable section

namespace Cert.Proof.Acc7

open Idealize.ShloMosaic Idealize.ShloMosaic.TcCoe Cert.Kernel7Ideal Cert.Kernel7Ideal.Gen Idealize.ShloMosaic.Pointwise Idealize.SL.Sem
open Lin (M)

/-- A block's start. -/
theorem hz2 : (![0, 0] : Fin 2 → ℕ) = fun _ => 0 := by decide

/-! ## What the scratch and the result hold after a grid point, by its place -/

section Cases
variable (c : Dev nD) (i : grid0.Coords) (a3 : Memref sig .tc .vmem S256x1024 .f32) (h3 : a3.IsWhole) (a4 : Memref sig .tc .vmem S1024x1024 .bf16) (h4 : a4.IsWhole)
  (a5 : Memref sig .tc .vmem S256x1024 .f32) (h5 : a5.IsWhole) (a6 : Memref sig .tc .vmem S256x1024 .f32) (h6 : a6.IsWhole)
  (x : Vec Ideal S256x1024 .f32) (d : Vec Ideal S1024x1024 .bf16) (s : Vec Ideal S256x1024 .f32)

theorem first (hc0 : cond0_0 i) (hc1 : ¬cond0_1 i) (hc2 : ¬cond0_2 i) :
    sout0_A_0 c i a3 h3 a4 h4 a5 h5 a6 h6 hc0 hc1 hc2 x d = k0_pay2 x d := by
  unfold sout0_A_0
  rw [View.read_writes_eq_canon _ _ _ (scover0_A_0 c i a3 h3 a4 h4 a5 h5 a6 h6 hc0 hc1 hc2 x d)]
  unfold kernelRun0_A
  dsimp only
  sl_unfold_words
  rw [View.canon_unit_zero (S := S256x1024) hz2]
  simp only [View.readAt_eq_ld, h3.read_unread, h4.read_unread, View.ld_unit_zero (S := S256x1024) hz2, View.ld_unit_zero (S := S1024x1024) hz2]
theorem last (hc0 : ¬cond0_0 i) (hc1 : cond0_1 i) (hc2 : cond0_2 i) :
    out0_B_2 c i a3 h3 a4 h4 a5 h5 a6 h6 hc0 hc1 hc2 x d s = k0_pay3 x d s := by
  unfold out0_B_2
  rw [View.read_writes_eq_canon _ _ _ (cover0_B_2 c i a3 h3 a4 h4 a5 h5 a6 h6 hc0 hc1 hc2 x d s)]
  unfold kernelRun0_B
  dsimp only
  sl_unfold_words
  rw [View.canon_unit_zero (S := S256x1024) hz2, View.readCov_unit_zero (S := S256x1024) _ hz2]
  simp only [View.readAt_eq_ld, h3.read_unread, h4.read_unread, h6.read_unread, View.ld_unit_zero (S := S256x1024) hz2, View.ld_unit_zero (S := S1024x1024) hz2]

theorem pay2 (y : S256x1024.Idx) : k0_pay2 x d y = ∑ k : Fin 1024, x (ix2 (y 0) k) * d (ix2 (y 1) k) := by
  pointwise [k0_pay2, k0_pay1]
theorem pay3 (y : S256x1024.Idx) : k0_pay3 x d s y = s y + ∑ k : Fin 1024, x (ix2 (y 0) k) * d (ix2 (y 1) k) := by
  pointwise [k0_pay3, k0_pay1]
end Cases

/-! ## The two halves -/

/-- Half of a sum. -/
def P (f : Fin 2048 → EReal) (q : Fin 2) : EReal := ∑ k : Fin 1024, f ⟨q.val * 1024 + k.val, by omega⟩
/-- The two halves are the sum. -/
theorem sum_P (f : Fin 2048 → EReal) : P f 0 + P f 1 = ∑ r, f r := by
  rw [← Fin.sum_univ_two]
  unfold P
  rw [← Fintype.sum_prod_type' (fun (q : Fin 2) (k : Fin 1024) => f ⟨q.val * 1024 + k.val, by omega⟩)]
  refine Eq.trans (Finset.sum_congr rfl fun p _ => congrArg f (Fin.ext ?_)) (Equiv.sum_comp (finProdFinEquiv (m := 2) (n := 1024)) f)
  simp only [finProdFinEquiv_apply_val]; omega

variable (m : (ℓ : Loc nD τ sig) → Buf (Elt Ideal) ℓ) (ρ : Dev nD → PrngReg) (c : Dev nD)

/-- The arguments. -/
abbrev x : M 256 2048 := m ((c.tc : Thread nD τ).loc main_arg0)
abbrev d : M 1024 2048 := m ((c.tc : Thread nD τ).loc main_arg1)
/-- One term of an entry. -/
def f (a : Fin 256) (b : Fin 1024) (r : Fin 2048) : EReal := x m c (ix2 a r) * d m c (ix2 b r)

theorem at' : ∀ t : Fin cfg0.N, win0_0.index t = ![0, t.val] ∧ win0_1.index t = ![0, t.val] ∧ win0_2.index t = ![0, 0] :=
  (by decide +kernel : ∀ t : Fin grid0.N, _)

/-- The blocks a grid point reads. -/
def bx (t : Fin cfg0.N) : Vec Ideal S256x1024 .f32 := iblk m c 0 t
def bd (t : Fin cfg0.N) : Vec Ideal S1024x1024 .bf16 := iblk m c 1 t

/-- A grid point's own share. -/
theorem share (t : Fin cfg0.N) (p : Fin 256) (l : Fin 1024) :
    ∑ k : Fin 1024, bx m c t (ix2 p k) * bd m c t (ix2 l k) = P (f m c p l) ⟨t.val, lt_of_lt_of_eq t.isLt (show cfg0.N = 2 from N_0)⟩ := by
  obtain ⟨e0, e1, -⟩ := at' t
  unfold P f
  have := lt_of_lt_of_eq t.isLt (show cfg0.N = 2 from N_0)
  refine Finset.sum_congr rfl fun k _ => ?_
  refine congrArg₂ (· * ·) (congrArg (x m c) (funext fun a => Fin.ext ?_)) (congrArg (d m c) (funext fun a => Fin.ext ?_))
  · match a with
    | ⟨0, _⟩ => blk_simp [e0]
    | ⟨1, _⟩ => blk_simp [e0]
  · match a with
    | ⟨0, _⟩ => blk_simp [e1]
    | ⟨1, _⟩ => blk_simp [e1]

section Steps
variable (t : Fin cfg0.N)
/-- What the point before left in the scratch. -/
abbrev before : Vec Ideal S256x1024 .f32 := (outsAt0 m c (t.val - 1) (Nat.lt_of_le_of_lt (Nat.sub_le _ _) t.isLt)).2

theorem r0 (h0 : t.val % 2 = 0) (h1 : ¬t.val % 2 = 1) (h2 : ¬t.val % 2 = 1) : (outsAt0 m c t.val t.isLt).2
    = sout0_A_0 c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (bx m c t) (bd m c t) := by
  unfold bx bd
  rw [outsAt0_A m c t h0 h1 h2]
/-- The scratch after the first point. -/
theorem s0 (h0 : t.val % 2 = 0) : (outsAt0 m c t.val t.isLt).2 = k0_pay2 (F := Ideal) (bx m c t) (bd m c t) := by
  rw [r0 m c t h0 (by omega) (by omega)]
  generalize bx m c t = x
  generalize bd m c t = d
  exact first c (grid0.coords t) (ms0_0 t) (hs0_0 t) (ms0_1 t) (hs0_1 t) (ms0_2 t) (hs0_2 t) scM0_0 (Memref.isWhole_whole _) x d _ _ _

theorem r1 (h0 : ¬t.val % 2 = 0) (h1 : t.val % 2 = 1) (h2 : t.val % 2 = 1) : (outsAt0 m c t.val t.isLt).1
    = out0_B_2 c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (bx m c t) (bd m c t) (before m c t) := by
  unfold bx bd
  rw [outsAt0_B m c t h0 h1 h2]
/-- The result after the last point. -/
theorem s1 (h1 : t.val % 2 = 1) :
    (outsAt0 m c t.val t.isLt).1 = k0_pay3 (F := Ideal) (bx m c t) (bd m c t) (before m c t) := by
  rw [r1 m c t (by omega) h1 h1]
  generalize bx m c t = x
  generalize bd m c t = d
  generalize before m c t = s
  exact last c (grid0.coords t) (ms0_0 t) (hs0_0 t) (ms0_1 t) (hs0_1 t) (ms0_2 t) (hs0_2 t) scM0_0 (Memref.isWhole_whole _) x d s _ _ _
end Steps

/-- What the last point writes. -/
theorem out (h : 1 < cfg0.N) (p : Fin 256) (l : Fin 1024) : (outsAt0 m c 1 h).1 (ix2 p l) = ∑ r, f m c p l r := by
  rw [← sum_P]
  refine (congrFun (s1 m c ⟨1, h⟩ rfl) (ix2 p l)).trans ?_
  rw [pay3]
  refine congrArg₂ (· + ·) ?_ (share m c ⟨1, h⟩ p l)
  refine (congrFun (s0 m c ⟨0, by omega⟩ rfl) (ix2 p l)).trans ?_
  rw [pay2]
  exact share m c ⟨0, by omega⟩ p l

/-- The gradient: over the lanes of keys and values, the cotangent's row against the weights' row. -/
def res (x : M 256 2048) (d : M 1024 2048) : M 256 1024 := fun y => ∑ r : Fin 2048, x (ix2 (y 0) r) * d (ix2 (y 1) r)

theorem arr : (dats m 0 c).arrAt 2 cfg0.N = res (x m c) (d m c) := by
  refine (dats m 0 c).arrAt_eq_of_covers 2 _ (by decide +kernel) fun t hf y => ?_
  have hN := lt_of_lt_of_eq t.isLt (show cfg0.N = 2 from N_0)
  have hm : t.val % 2 = 1 := (flush0_2 t).mp hf
  obtain ⟨-, -, e2⟩ := at' t
  have ey : y = (ix2 (y 0) (y 1) : S256x1024.Idx) := funext fun a => match a with
    | ⟨0, _⟩ => rfl
    | ⟨1, _⟩ => rfl
  have eb : (win0_2.blk t).view.emb y = (ix2 (y 0) (y 1) : S256x1024.Idx) := by
    refine funext fun a => Fin.ext ?_
    match a with
    | ⟨0, _⟩ => blk_simp [e2]; rfl
    | ⟨1, _⟩ => blk_simp [e2]; rfl
  blk_simp
  rw [after0_2, eb]
  obtain ⟨n, hn⟩ := t
  obtain rfl : n = 1 := by dsimp only at hN hm; omega
  exact (congrArg (outsAt0 m c 1 hn).1 ey).trans (out m c hn (y 0) (y 1))

/-- The run: the result at the whole sum. -/
theorem run : θ_run defs (onTc (τ := τ) (main (F := Ideal))) ⟨m, fun _ => 0, ρ⟩ fun r => ∀ c : Dev nD,
      r.2.mem ((c.tc : Thread nD τ).loc main_v0) = res (x m c) (d m c) :=
  (θ_run defs _ _).mono (fun r h c => (h c).1.trans (arr m c)) (Value.run_blocks m ρ)

end Cert.Proof.Acc7

namespace Cert.Proof.Acc7
open Idealize.ShloMosaic Cert.Reference7Ideal Cert.Reference7Ideal.Gen Cert.Reference7Ideal.Read Idealize.ShloMosaic.Pointwise

theorem res_ref (x : Lin.M 256 2048) (d : Lin.M 1024 2048) : val_main_v2 (F := Ideal) x d = res x d := by
  funext i
  unfold res
  pointwise [val_main_v2]

end Cert.Proof.Acc7

end
-- ==== Proof.Shift.lean ====
/- Hand-written, untrusted. Rows shifted down or up with zeros let in, and how a rotation under a mask, a concatenation with zeros
   and a padding say the same. -/
module

public import Idealize.ShloMosaic.Lib.Pointwise
public import Idealize.ShloMosaic.Lib.WordCmp
public import Idealize.ShloMosaic.Lib.IdealHost
public import Idealize.ShloMosaic.Lib.Pipeline.ValueKit

@[expose] public section

noncomputable section

namespace Cert.Proof.Shift

open Idealize.ShloMosaic Idealize.ShloMosaic.Pointwise

/-- A column of 2048 positions. -/
abbrev Col := Fin 2048 → EReal

/-- `k` positions later, zeros in front. -/
def dn (k : ℕ) (f : Col) : Col := fun t => if k ≤ t.val then f ⟨t.val - k, by omega⟩ else 0
/-- `k` positions earlier, zeros behind. -/
def up (k : ℕ) (f : Col) : Col := fun t => if h : t.val + k < 2048 then f ⟨t.val + k, h⟩ else 0

theorem dn_zero (f : Col) (t : Fin 2048) : dn 0 f t = f t := rfl
theorem dn_mul (k : ℕ) (f : Col) (a : EReal) (t : Fin 2048) : dn k f t * a = dn k (fun s => f s * a) t := by
  unfold dn
  split_ifs
  · rfl
  · exact zero_mul a

theorem sge (t : Fin 2048) (k : ℕ) (hk : k < 2048) :
    IntOp.cmpi .sge (BitVec.ofNat 32 t.val) (BitVec.ofNat 32 k) = BitVec.ofBool (decide (k ≤ t.val)) :=
  WordCmp.cmpi_sge_ofNat (by omega) (by omega)
theorem slt (t : Fin 2048) (k : ℕ) (hk : k < 2048) :
    IntOp.cmpi .slt (BitVec.ofNat 32 t.val) (BitVec.ofNat 32 k) = BitVec.ofBool (decide (t.val < k)) :=
  WordCmp.cmpi_slt_ofNat (by omega) (by omega)

/-- A rotation down under the mask that hides what came round. -/
theorem rot_dn (k : ℕ) (hk : k < 2048) (f : Col) (t : Fin 2048) (h : (t.val + 2048 - k) % 2048 < 2048) :
    Scalar.select (IntOp.cmpi .sge (BitVec.ofNat 32 t.val) (BitVec.ofNat 32 k)) (f ⟨(t.val + 2048 - k) % 2048, h⟩) (0 : EReal) = dn k f t := by
  rw [sge t k hk]
  unfold dn
  have ht := t.isLt
  by_cases e : k ≤ t.val
  · rw [decide_eq_true e, if_pos e]
    exact congrArg f (Fin.ext (show (t.val + 2048 - k) % 2048 = t.val - k by
      rw [show t.val + 2048 - k = (t.val - k) + 2048 by omega, Nat.add_mod_right, Nat.mod_eq_of_lt (by omega)]))
  · rw [decide_eq_false e, if_neg e]
    rfl

/-- A rotation up, written as a rotation down by the rest, under the mask that hides what came round. -/
theorem rot_up (k m : ℕ) (hk : 0 < k) (hm : m + k = 2048) (f : Col) (t : Fin 2048) (h : (t.val + 2048 - m) % 2048 < 2048) :
    Scalar.select (IntOp.cmpi .slt (BitVec.ofNat 32 t.val) (BitVec.ofNat 32 m)) (f ⟨(t.val + 2048 - m) % 2048, h⟩) (0 : EReal) = up k f t := by
  rw [slt t m (by omega)]
  unfold up
  have ht := t.isLt
  by_cases e : t.val < m
  · rw [decide_eq_true e, dif_pos (by omega)]
    exact congrArg f (Fin.ext (show (t.val + 2048 - m) % 2048 = t.val + k by
      rw [show t.val + 2048 - m = t.val + k by omega, Nat.mod_eq_of_lt (by omega)]))
  · rw [decide_eq_false e, dif_neg (by omega)]
    rfl

end Cert.Proof.Shift

end
-- ==== Proof.ConvSpec.lean ====
/- Hand-written, untrusted. The short gated convolution and its gradients, column by column. -/
module

public import proofs.«01_k».proof.Proof.Shift

@[expose] public section

noncomputable section

namespace Cert.Proof.Conv

open Idealize.ShloMosaic Idealize.ShloMosaic.Pointwise Shift

/-- Positions against columns. -/
abbrev A := (⟨2, ![2048, 256]⟩ : Shape).Idx → EReal
/-- Taps against columns. -/
abbrev W := (⟨2, ![3, 256]⟩ : Shape).Idx → EReal

/-- Three positions of a column under the three taps. -/
def conv (u : Col) (w : Fin 3 → EReal) : Col := fun t => u t * w 2 + dn 2 (fun s => u s * w 0) t + dn 1 (fun s => u s * w 1) t
/-- What a column gets back from the convolution's cotangent. -/
def vnoc (g : Col) (w : Fin 3 → EReal) : Col := fun t => up 1 (fun s => g s * w 1) t + up 2 (fun s => g s * w 0) t + g t * w 2
/-- What a tap gets back. -/
def taps (u g : Col) (r : Fin 3) : EReal := ∑ t : Fin 2048, dn (2 - r.val) u t * g t

/-- The output in one column. -/
def yc (b c x : Col) (w : Fin 3 → EReal) : Col := fun t => b t * conv (fun s => c s * x s) w t
/-- The gradient of the outer gate in one column. -/
def dbc (c x g : Col) (w : Fin 3 → EReal) : Col := fun t => g t * conv (fun s => c s * x s) w t
/-- The gradient of the inner gate in one column. -/
def dcc (b x g : Col) (w : Fin 3 → EReal) : Col := fun t => vnoc (fun s => b s * g s) w t * x t
/-- The gradient of the values in one column. -/
def dxc (b c g : Col) (w : Fin 3 → EReal) : Col := fun t => c t * vnoc (fun s => b s * g s) w t

/-- A column of an array. -/
abbrev at' {n m : ℕ} (a : (⟨2, ![n, m]⟩ : Shape).Idx → EReal) (l : Fin m) : Fin n → EReal := fun s => a (ix2 s l)

variable (b c x g : A) (w : W)
/-- The output. -/
def y : A := fun i => yc (at' b (i 1)) (at' c (i 1)) (at' x (i 1)) (at' w (i 1)) (i 0)
/-- The gradient of the outer gate. -/
def db : A := fun i => dbc (at' c (i 1)) (at' x (i 1)) (at' g (i 1)) (at' w (i 1)) (i 0)
/-- The gradient of the inner gate. -/
def dc : A := fun i => dcc (at' b (i 1)) (at' x (i 1)) (at' g (i 1)) (at' w (i 1)) (i 0)
/-- The gradient of the values. -/
def dx : A := fun i => dxc (at' b (i 1)) (at' c (i 1)) (at' g (i 1)) (at' w (i 1)) (i 0)
/-- The gradient of the taps. -/
def dw : W := fun i => taps (fun s => c (ix2 s (i 1)) * x (ix2 s (i 1))) (fun s => b (ix2 s (i 1)) * g (ix2 s (i 1))) (i 0)

end Cert.Proof.Conv

end
-- ==== Proof.ConvBlock.lean ====
/- Hand-written, untrusted. The short convolution's calls: what one block of 128 columns leaves, column by column. -/
module

public import proofs.«01_k».proof.Proof.Gen.Kernel8Ideal.Frame
public import proofs.«01_k».proof.Proof.ConvSpec
public import Idealize.ShloMosaic.Lib.Pointwise
public import Idealize.ShloMosaic.Lib.KernelVsHost
public import Idealize.ShloMosaic.Lib.Pipeline.ValueKit

@[expose] public section

set_option maxRecDepth 16384

noncomputable section

namespace Cert.Proof.ConvBlock

open Idealize.ShloMosaic Cert.Kernel8Ideal Cert.Kernel8Ideal.Gen Idealize.ShloMosaic.Pointwise Shift Conv

/-- A block's start. -/
theorem hz2 : (![0, 0] : Fin 2 → ℕ) = fun _ => 0 := by decide

/-- An index by its row and its lane. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

variable (b c x g : Vec Ideal S2048x128 .f32) (w : Vec Ideal S3x128 .f32)

theorem y0 (y : S2048x128.Idx) :
    out0_4 b c x w y = Conv.yc (at' b (y 1)) (at' c (y 1)) (at' x (y 1)) (at' w (y 1)) (y 0) := by
  obtain ⟨r, l, rfl⟩ := rl y
  unfold out0_4
  rw [View.canon_unit_zero hz2]
  pointwise [k0_pay1]
  exact congrArg (b (ix2 r l) * ·) (congrArg₂ (· + ·) (congrArg (c (ix2 r l) * x (ix2 r l) * w (ix2 2 l) + ·)
    (rot_dn 2 (by decide) (fun s => c (ix2 s l) * x (ix2 s l) * w (ix2 0 l)) r _))
    (rot_dn 1 (by decide) (fun s => c (ix2 s l) * x (ix2 s l) * w (ix2 1 l)) r _))
theorem db5 (y : S2048x128.Idx) :
    out1_5 b c x w g y = Conv.dbc (at' c (y 1)) (at' x (y 1)) (at' g (y 1)) (at' w (y 1)) (y 0) := by
  obtain ⟨r, l, rfl⟩ := rl y
  unfold out1_5
  rw [View.canon_unit_zero hz2]
  pointwise [k1_pay12, k1_pay5, k1_pay6, k1_pay7, k1_pay8, k1_pay9, k1_pay10]
  exact congrArg (g (ix2 r l) * ·) (congrArg₂ (· + ·) (congrArg (c (ix2 r l) * x (ix2 r l) * w (ix2 2 l) + ·)
    (rot_dn 2 (by decide) (fun s => c (ix2 s l) * x (ix2 s l) * w (ix2 0 l)) r _))
    (rot_dn 1 (by decide) (fun s => c (ix2 s l) * x (ix2 s l) * w (ix2 1 l)) r _))
theorem dc6 (y : S2048x128.Idx) :
    out1_6 b c x w g y = Conv.dcc (at' b (y 1)) (at' x (y 1)) (at' g (y 1)) (at' w (y 1)) (y 0) := by
  obtain ⟨r, l, rfl⟩ := rl y
  unfold_out out1_6
  rw [View.canon_unit_zero hz2]
  pointwise [k1_pay4, k1_pay1, k1_pay6, k1_pay8, k1_pay10, k1_pay11, k1_pay13]
  exact congrArg (· * x (ix2 r l)) (congrArg (· + b (ix2 r l) * g (ix2 r l) * w (ix2 2 l)) (congrArg₂ (· + ·)
    (rot_up 1 2047 (by decide) rfl (fun s => b (ix2 s l) * g (ix2 s l) * w (ix2 1 l)) r _)
    (rot_up 2 2046 (by decide) rfl (fun s => b (ix2 s l) * g (ix2 s l) * w (ix2 0 l)) r _)))
theorem dx7 (y : S2048x128.Idx) :
    out1_7 b c x w g y = Conv.dxc (at' b (y 1)) (at' c (y 1)) (at' g (y 1)) (at' w (y 1)) (y 0) := by
  obtain ⟨r, l, rfl⟩ := rl y
  unfold_out out1_7
  rw [View.canon_unit_zero hz2]
  pointwise [k1_pay3, k1_pay1, k1_pay6, k1_pay8, k1_pay10, k1_pay11, k1_pay13]
  exact congrArg (c (ix2 r l) * ·) (congrArg (· + b (ix2 r l) * g (ix2 r l) * w (ix2 2 l)) (congrArg₂ (· + ·)
    (rot_up 1 2047 (by decide) rfl (fun s => b (ix2 s l) * g (ix2 s l) * w (ix2 1 l)) r _)
    (rot_up 2 2046 (by decide) rfl (fun s => b (ix2 s l) * g (ix2 s l) * w (ix2 0 l)) r _)))

/-! ## The taps -/

/-- Shifted products, as whole blocks. -/
theorem prod : k1_pay5 c x = fun y => c y * x y := by
  funext y
  pointwise [k1_pay5]
theorem two : k1_pay7 c x = fun y => dn 2 (fun s => c (ix2 s (y 1)) * x (ix2 s (y 1))) (y 0) := by
  funext y
  pointwise [k1_pay7, k1_pay5]
  exact rot_dn 2 (by decide) (fun s => c (ix2 s (y 1)) * x (ix2 s (y 1))) (y 0) _
theorem one : k1_pay9 c x = fun y => dn 1 (fun s => c (ix2 s (y 1)) * x (ix2 s (y 1))) (y 0) := by
  funext y
  pointwise [k1_pay9, k1_pay5]
  exact rot_dn 1 (by decide) (fun s => c (ix2 s (y 1)) * x (ix2 s (y 1))) (y 0) _
theorem mid (r : Fin 3) (l : Fin 128) : k1_pay14 b c x g (ix2 r l)
    = if _h : r.val < 2 then if _h : r.val < 1 then 0 else ∑ t : Fin 2048, k1_pay9 c x (ix2 t l) * k1_pay11 b g (ix2 t l) else 0 := by
  pointwise [k1_pay14]
theorem ends (u v d : FVec Ideal S2048x128 .f32) (a : FVec Ideal S3x128 .f32) (r : Fin 3) (l : Fin 128) : k1_pay2 u v d a (ix2 r l)
    = a (ix2 r l) + (if _h : r.val < 1 then ∑ t : Fin 2048, v (ix2 t l) * d (ix2 t l) else 0)
      + if _h : r.val < 2 then 0 else ∑ t : Fin 2048, u (ix2 t l) * d (ix2 t l) := by
  pointwise [k1_pay2]
theorem dw8 (y : S3x128.Idx) :
    out1_8 b c x w g y = Conv.taps (fun s => c (ix2 s (y 1)) * x (ix2 s (y 1))) (fun s => b (ix2 s (y 1)) * g (ix2 s (y 1))) (y 0) := by
  obtain ⟨r, l, rfl⟩ := rl y
  unfold_out out1_8
  rw [View.canon_unit_zero hz2, View.ld_unit_zero (S := S2048x128) hz2, View.ld_unit_zero (S := S2048x128) hz2,
    View.ld_unit_zero (S := S2048x128) hz2, View.ld_unit_zero (S := S2048x128) hz2, ends, mid, one, two, prod,
    show k1_pay11 b g = fun y => b y * g y from by funext y; pointwise [k1_pay11]]
  unfold Conv.taps
  match r with
  | ⟨0, _⟩ => simp
  | ⟨1, _⟩ => simp
  | ⟨2, _⟩ => simp; rfl

end Cert.Proof.ConvBlock

end
-- ==== Proof.ConvArrays.lean ====
/- Hand-written, untrusted. What the two calls of the short convolution leave in their arrays. -/
module

public import proofs.«01_k».proof.Proof.ConvBlock

@[expose] public section

set_option maxRecDepth 16384

noncomputable section

namespace Cert.Proof.ConvArrays

open Idealize.ShloMosaic Idealize.ShloMosaic.TcCoe Cert.Kernel8Ideal Cert.Kernel8Ideal.Gen Idealize.ShloMosaic.Pointwise Conv

/-- Four columns in equal columns' place. -/
theorem four (f : Shift.Col → Shift.Col → Shift.Col → (Fin 3 → EReal) → Shift.Col) {a a' b b' d d' : Shift.Col} {w w' : Fin 3 → EReal}
    (ha : a = a') (hb : b = b') (hd : d = d') (hw : w = w') (t : Fin 2048) : f a b d w t = f a' b' d' w' t := by
  rw [ha, hb, hd, hw]

/-- The buffers at a call's entry. -/
abbrev At := (c : Dev nD) → (b : Ref sig .tc) → Buf (Elt Ideal) ((c : Thread nD τ).loc b)
variable (V : At) (c : Dev nD)

theorem i0 : ∀ t : Fin cfg0.N, win0_0.index t = ![0, (grid0.coords t 0).val] ∧ win0_1.index t = ![0, (grid0.coords t 0).val]
    ∧ win0_2.index t = ![0, (grid0.coords t 0).val] ∧ win0_3.index t = ![0, (grid0.coords t 0).val]
    ∧ win0_4.index t = ![0, (grid0.coords t 0).val] := (by decide +kernel : ∀ t : Fin grid0.N, _)
theorem i1 : ∀ t : Fin cfg1.N, (win1_0.index t = ![0, (grid1.coords t 0).val] ∧ win1_1.index t = ![0, (grid1.coords t 0).val]
    ∧ win1_2.index t = ![0, (grid1.coords t 0).val] ∧ win1_3.index t = ![0, (grid1.coords t 0).val]
    ∧ win1_4.index t = ![0, (grid1.coords t 0).val]) ∧ win1_5.index t = ![0, (grid1.coords t 0).val]
    ∧ win1_6.index t = ![0, (grid1.coords t 0).val] ∧ win1_7.index t = ![0, (grid1.coords t 0).val]
    ∧ win1_8.index t = ![0, (grid1.coords t 0).val] := (by decide +kernel : ∀ t : Fin grid1.N, _)

section Columns0
variable (t : Fin cfg0.N) (l : Fin 128)
theorem lt0 : (grid0.coords t 0).val < 2 := (grid0.coords t 0).isLt
/-- The array's column that is a block's. -/
def q0 : Fin 256 := ⟨(grid0.coords t 0).val * 128 + l.val, by have := lt0 t; omega⟩
theorem b0 : at' (iblk0 V c 0 t) l = at' (V c main_arg0) (q0 t l) := by
  obtain ⟨e, -⟩ := i0 t
  funext s
  unfold at' q0
  blk_point [iblk0, e]
theorem c0 : at' (iblk0 V c 1 t) l = at' (V c main_arg1) (q0 t l) := by
  obtain ⟨-, e, -⟩ := i0 t
  funext s
  unfold at' q0
  blk_point [iblk0, e]
theorem x0 : at' (iblk0 V c 2 t) l = at' (V c main_arg2) (q0 t l) := by
  obtain ⟨-, -, e, -⟩ := i0 t
  funext s
  unfold at' q0
  blk_point [iblk0, e]
theorem w0 : at' (iblk0 V c 3 t) l = at' (V c main_arg3) (q0 t l) := by
  obtain ⟨-, -, -, e, -⟩ := i0 t
  funext s
  unfold at' q0
  blk_point [iblk0, e]
end Columns0

section Columns1
variable (t : Fin cfg1.N) (l : Fin 128)
theorem lt1 : (grid1.coords t 0).val < 2 := (grid1.coords t 0).isLt
/-- The array's column that is a block's. -/
def q1 : Fin 256 := ⟨(grid1.coords t 0).val * 128 + l.val, by have := lt1 t; omega⟩
theorem b1 : at' (iblk1 V c 0 t) l = at' (V c main_arg0) (q1 t l) := by
  obtain ⟨e, -⟩ := (i1 t).1
  funext s
  unfold at' q1
  blk_point [iblk1, e]
theorem c1 : at' (iblk1 V c 1 t) l = at' (V c main_arg1) (q1 t l) := by
  obtain ⟨-, e, -⟩ := (i1 t).1
  funext s
  unfold at' q1
  blk_point [iblk1, e]
theorem x1 : at' (iblk1 V c 2 t) l = at' (V c main_arg2) (q1 t l) := by
  obtain ⟨-, -, e, -⟩ := (i1 t).1
  funext s
  unfold at' q1
  blk_point [iblk1, e]
theorem w1 : at' (iblk1 V c 3 t) l = at' (V c main_arg3) (q1 t l) := by
  obtain ⟨-, -, -, e, -⟩ := (i1 t).1
  funext s
  unfold at' q1
  blk_point [iblk1, e]
theorem g1 : at' (iblk1 V c 4 t) l = at' (V c main_arg4) (q1 t l) := by
  obtain ⟨-, -, -, -, e⟩ := (i1 t).1
  funext s
  unfold at' q1
  blk_point [iblk1, e]
end Columns1

theorem o0_4 (t : Fin cfg0.N) (y : S2048x128.Idx) : (win0_4.blk t).view.emb y = ix2 (y 0) (q0 t (y 1)) := by
  have e : win0_4.index t = ![0, (grid0.coords t 0).val] := (i0 t).2.2.2.2
  refine funext fun a => Fin.ext ?_
  match a with
  | ⟨0, _⟩ => blk_simp [e]; rfl
  | ⟨1, _⟩ => blk_simp [e]; rfl
theorem y_arr : (dat0 V c).arrAt 4 cfg0.N = Conv.y (V c main_arg0) (V c main_arg1) (V c main_arg2) (V c main_arg3) := by
  refine (dat0 V c).arrAt_eq_of_covers 4 _ (by decide +kernel) fun t hf y => ?_
  blk_simp
  rw [after0_4, ConvBlock.y0, o0_4]
  unfold Conv.y
  exact four Conv.yc (b0 V c t (y 1)) (c0 V c t (y 1)) (x0 V c t (y 1)) (w0 V c t (y 1)) (y 0)
theorem o1_5 (t : Fin cfg1.N) (y : S2048x128.Idx) : (win1_5.blk t).view.emb y = ix2 (y 0) (q1 t (y 1)) := by
  have e : win1_5.index t = ![0, (grid1.coords t 0).val] := (i1 t).2.1
  refine funext fun a => Fin.ext ?_
  match a with
  | ⟨0, _⟩ => blk_simp [e]; rfl
  | ⟨1, _⟩ => blk_simp [e]; rfl
theorem db_arr : (dat1 V c).arrAt 5 cfg1.N = Conv.db (V c main_arg1) (V c main_arg2) (V c main_arg4) (V c main_arg3) := by
  refine (dat1 V c).arrAt_eq_of_covers 5 _ (by decide +kernel) fun t hf y => ?_
  blk_simp
  rw [after1_5, ConvBlock.db5, o1_5]
  unfold Conv.db
  exact four Conv.dbc (c1 V c t (y 1)) (x1 V c t (y 1)) (g1 V c t (y 1)) (w1 V c t (y 1)) (y 0)
theorem o1_6 (t : Fin cfg1.N) (y : S2048x128.Idx) : (win1_6.blk t).view.emb y = ix2 (y 0) (q1 t (y 1)) := by
  have e : win1_6.index t = ![0, (grid1.coords t 0).val] := (i1 t).2.2.1
  refine funext fun a => Fin.ext ?_
  match a with
  | ⟨0, _⟩ => blk_simp [e]; rfl
  | ⟨1, _⟩ => blk_simp [e]; rfl
theorem dc_arr : (dat1 V c).arrAt 6 cfg1.N = Conv.dc (V c main_arg0) (V c main_arg2) (V c main_arg4) (V c main_arg3) := by
  refine (dat1 V c).arrAt_eq_of_covers 6 _ (by decide +kernel) fun t hf y => ?_
  blk_simp
  rw [after1_6, ConvBlock.dc6, o1_6]
  unfold Conv.dc
  exact four Conv.dcc (b1 V c t (y 1)) (x1 V c t (y 1)) (g1 V c t (y 1)) (w1 V c t (y 1)) (y 0)
theorem o1_7 (t : Fin cfg1.N) (y : S2048x128.Idx) : (win1_7.blk t).view.emb y = ix2 (y 0) (q1 t (y 1)) := by
  have e : win1_7.index t = ![0, (grid1.coords t 0).val] := (i1 t).2.2.2.1
  refine funext fun a => Fin.ext ?_
  match a with
  | ⟨0, _⟩ => blk_simp [e]; rfl
  | ⟨1, _⟩ => blk_simp [e]; rfl
theorem dx_arr : (dat1 V c).arrAt 7 cfg1.N = Conv.dx (V c main_arg0) (V c main_arg1) (V c main_arg4) (V c main_arg3) := by
  refine (dat1 V c).arrAt_eq_of_covers 7 _ (by decide +kernel) fun t hf y => ?_
  blk_simp
  rw [after1_7, ConvBlock.dx7, o1_7]
  unfold Conv.dx
  exact four Conv.dxc (b1 V c t (y 1)) (c1 V c t (y 1)) (g1 V c t (y 1)) (w1 V c t (y 1)) (y 0)
theorem o1_8 (t : Fin cfg1.N) (y : S3x128.Idx) : (win1_8.blk t).view.emb y = ix2 (y 0) (q1 t (y 1)) := by
  have e : win1_8.index t = ![0, (grid1.coords t 0).val] := (i1 t).2.2.2.2
  refine funext fun a => Fin.ext ?_
  match a with
  | ⟨0, _⟩ => blk_simp [e]; rfl
  | ⟨1, _⟩ => blk_simp [e]; rfl
theorem dw_arr : (dat1 V c).arrAt 8 cfg1.N = Conv.dw (V c main_arg0) (V c main_arg1) (V c main_arg2) (V c main_arg4) := by
  refine (dat1 V c).arrAt_eq_of_covers 8 _ (by decide +kernel) fun t hf y => ?_
  blk_simp
  rw [after1_8, ConvBlock.dw8, o1_8]
  unfold Conv.dw
  exact congrFun (congrArg₂ Conv.taps
    (funext fun s => congrArg₂ (· * ·) (congrFun (c1 V c t (y 1)) s) (congrFun (x1 V c t (y 1)) s))
    (funext fun s => congrArg₂ (· * ·) (congrFun (b1 V c t (y 1)) s) (congrFun (g1 V c t (y 1)) s))) (y 0)

end Cert.Proof.ConvArrays

end
-- ==== Proof.ConvRun.lean ====
/- Hand-written, untrusted. The short convolution, run: the five results of its kernel program as functions of the five
   arguments. -/
module

public import proofs.«01_k».proof.Proof.ConvArrays
public import proofs.«01_k».proof.Proof.Gen.Kernel8Ideal.Frame

@[expose] public section

set_option maxRecDepth 16384

noncomputable section

namespace Cert.Proof.ConvRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel8Ideal Cert.Kernel8Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev b : Conv.A := m ((c.tc : Thread nD τ).loc main_arg0)
abbrev d : Conv.A := m ((c.tc : Thread nD τ).loc main_arg1)
abbrev x : Conv.A := m ((c.tc : Thread nD τ).loc main_arg2)
abbrev w : Conv.W := m ((c.tc : Thread nD τ).loc main_arg3)
abbrev g : Conv.A := m ((c.tc : Thread nD τ).loc main_arg4)

/-! ## The results -/

theorem e0_at : W1 m ρ c (Proc.devRef .tc main_v0) = Conv.y (b m c) (d m c) (x m c) (w m c) := by
  refine (W1_arr m ρ c 4).trans ((ConvArrays.y_arr (V0 m ρ) c).trans ?_)
  rfl
theorem e0_end : W3 m ρ c (Proc.devRef .tc main_v0) = Conv.y (b m c) (d m c) (x m c) (w m c) :=
  (W3_of m ρ c main_v0 (by decide)).trans ((W2_of m ρ c main_v0 (by decide)).trans (e0_at m ρ c))
theorem e1_at : W2 m ρ c (Proc.devRef .tc main_v1_0) = Conv.db (d m c) (x m c) (g m c) (w m c) := by
  refine (W2_arr m ρ c 5).trans ((ConvArrays.db_arr (V1 m ρ) c).trans ?_)
  rw [show V1 m ρ c main_arg1 = d m c from W1_args m ρ c main_arg1 (by decide),
    show V1 m ρ c main_arg2 = x m c from W1_args m ρ c main_arg2 (by decide),
    show V1 m ρ c main_arg4 = g m c from W1_args m ρ c main_arg4 (by decide),
    show V1 m ρ c main_arg3 = w m c from W1_args m ρ c main_arg3 (by decide)]
theorem e1_end : W3 m ρ c (Proc.devRef .tc main_v1_0) = Conv.db (d m c) (x m c) (g m c) (w m c) :=
  (W3_of m ρ c main_v1_0 (by decide)).trans (e1_at m ρ c)
theorem e2_at : W2 m ρ c (Proc.devRef .tc main_v1_1) = Conv.dc (b m c) (x m c) (g m c) (w m c) := by
  refine (W2_arr m ρ c 6).trans ((ConvArrays.dc_arr (V1 m ρ) c).trans ?_)
  rw [show V1 m ρ c main_arg0 = b m c from W1_args m ρ c main_arg0 (by decide),
    show V1 m ρ c main_arg2 = x m c from W1_args m ρ c main_arg2 (by decide),
    show V1 m ρ c main_arg4 = g m c from W1_args m ρ c main_arg4 (by decide),
    show V1 m ρ c main_arg3 = w m c from W1_args m ρ c main_arg3 (by decide)]
theorem e2_end : W3 m ρ c (Proc.devRef .tc main_v1_1) = Conv.dc (b m c) (x m c) (g m c) (w m c) :=
  (W3_of m ρ c main_v1_1 (by decide)).trans (e2_at m ρ c)
theorem e3_at : W2 m ρ c (Proc.devRef .tc main_v1_2) = Conv.dx (b m c) (d m c) (g m c) (w m c) := by
  refine (W2_arr m ρ c 7).trans ((ConvArrays.dx_arr (V1 m ρ) c).trans ?_)
  rw [show V1 m ρ c main_arg0 = b m c from W1_args m ρ c main_arg0 (by decide),
    show V1 m ρ c main_arg1 = d m c from W1_args m ρ c main_arg1 (by decide),
    show V1 m ρ c main_arg4 = g m c from W1_args m ρ c main_arg4 (by decide),
    show V1 m ρ c main_arg3 = w m c from W1_args m ρ c main_arg3 (by decide)]
theorem e3_end : W3 m ρ c (Proc.devRef .tc main_v1_2) = Conv.dx (b m c) (d m c) (g m c) (w m c) :=
  (W3_of m ρ c main_v1_2 (by decide)).trans (e3_at m ρ c)
theorem e4_at : W2 m ρ c (Proc.devRef .tc main_v1_3) = Conv.dw (b m c) (d m c) (x m c) (g m c) := by
  refine (W2_arr m ρ c 8).trans ((ConvArrays.dw_arr (V1 m ρ) c).trans ?_)
  rw [show V1 m ρ c main_arg0 = b m c from W1_args m ρ c main_arg0 (by decide),
    show V1 m ρ c main_arg1 = d m c from W1_args m ρ c main_arg1 (by decide),
    show V1 m ρ c main_arg2 = x m c from W1_args m ρ c main_arg2 (by decide),
    show V1 m ρ c main_arg4 = g m c from W1_args m ρ c main_arg4 (by decide)]
theorem e4_end : W3 m ρ c (Proc.devRef .tc main_v1_3) = Conv.dw (b m c) (d m c) (x m c) (g m c) :=
  (W3_of m ρ c main_v1_3 (by decide)).trans (e4_at m ρ c)

set_option backward.isDefEq.respectTransparency.types false in
/-- From any memory the program runs to its end with the five results at these values. -/
theorem run : θ_run defs (onTc (τ := τ) (main (F := Ideal))) ⟨m, fun _ => 0, ρ⟩ (fun r => ∀ c : Dev nD,
      r.2.mem ((c.tc : Thread nD τ).loc main_v0) = Conv.y (b m c) (d m c) (x m c) (w m c)
      ∧ r.2.mem ((c.tc : Thread nD τ).loc main_v1_0) = Conv.db (d m c) (x m c) (g m c) (w m c)
      ∧ r.2.mem ((c.tc : Thread nD τ).loc main_v1_1) = Conv.dc (b m c) (x m c) (g m c) (w m c)
      ∧ r.2.mem ((c.tc : Thread nD τ).loc main_v1_2) = Conv.dx (b m c) (d m c) (g m c) (w m c)
      ∧ r.2.mem ((c.tc : Thread nD τ).loc main_v1_3) = Conv.dw (b m c) (d m c) (x m c) (g m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s e _ c =>
      ⟨(e c _ (mem_uc main_v0 (by decide))).trans (e0_end m ρ c),
       (e c _ (mem_uc main_v1_0 (by decide))).trans (e1_end m ρ c),
       (e c _ (mem_uc main_v1_1 (by decide))).trans (e2_end m ρ c),
       (e c _ (mem_uc main_v1_2 (by decide))).trans (e3_end m ρ c),
       (e c _ (mem_uc main_v1_3 (by decide))).trans (e4_end m ρ c)⟩)

end Cert.Proof.ConvRun

end
-- ==== Proof.ConvRef.lean ====
/- Hand-written, untrusted. The reference program of the short convolution, read entry by entry. -/
module

public import proofs.«01_k».proof.Proof.ConvSpec
public import proofs.«01_k».proof.Proof.Gen.Reference8Ideal.Read
public import Idealize.ShloMosaic.Lib.KernelVsHost

@[expose] public section

set_option maxRecDepth 16384

noncomputable section

namespace Cert.Proof.ConvRef

open Idealize.ShloMosaic Cert.Reference8Ideal Cert.Reference8Ideal.Gen Cert.Reference8Ideal.Read Idealize.ShloMosaic.Pointwise
open Conv Shift

variable (b c x g : A) (w : W)

/-- The rows shifted by two. -/
theorem s0 (t : Fin 2048) (l : Fin 256) : val_main_v4 (F := Ideal) c x (ix2 t l) = dn 2 (fun s => c (ix2 s l) * x (ix2 s l)) t := by
  pointwise [val_main_v4, val_main_v2, val_main_v0, val_main_v1, val_main_cst]
  unfold dn
  by_cases h : 2 ≤ t.val
  · rw [dif_neg (by omega), if_pos h]
  · rw [dif_pos (by omega), if_neg h]
/-- The rows shifted by one. -/
theorem s1 (t : Fin 2048) (l : Fin 256) : val_main_v12 (F := Ideal) c x (ix2 t l) = dn 1 (fun s => c (ix2 s l) * x (ix2 s l)) t := by
  pointwise [val_main_v12, val_main_v2, val_main_v0, val_main_v1, val_main_cst]
  unfold dn
  by_cases h : 1 ≤ t.val
  · rw [dif_neg (by omega), if_pos h]
    exact congrArg (fun s => c (ix2 s l) * x (ix2 s l)) (Fin.ext (by show 1 + t.val - 2 = t.val - 1; omega))
  · rw [dif_pos (by omega), if_neg h]
/-- The rows as they are. -/
theorem s2 (t : Fin 2048) (l : Fin 256) : val_main_v19 (F := Ideal) c x (ix2 t l) = c (ix2 t l) * x (ix2 t l) := by
  pointwise [val_main_v19, val_main_v2, val_main_v0, val_main_v1, val_main_cst]

/-- The convolution. -/
theorem fwd (t : Fin 2048) (l : Fin 256) : val_main_v25 (F := Ideal) c x w (ix2 t l) = conv (fun s => c (ix2 s l) * x (ix2 s l)) (at' w l) t := by
  have e : val_main_v25 (F := Ideal) c x w (ix2 t l) = ((0 + val_main_v4 (F := Ideal) c x (ix2 t l) * w (ix2 0 l))
      + val_main_v12 (F := Ideal) c x (ix2 t l) * w (ix2 1 l)) + val_main_v19 (F := Ideal) c x (ix2 t l) * w (ix2 2 l) := by
    pointwise [val_main_v25, val_main_v24, val_main_v23, val_main_v22, val_main_v21, val_main_v20, val_main_v18, val_main_v17, val_main_v16, val_main_v15, val_main_v14,
      val_main_v13, val_main_v11, val_main_v10, val_main_v9, val_main_v8, val_main_v7, val_main_v6, val_main_v5, val_main_v3, val_main_cst_0, val_main_cst_1]
  rw [e, s0, s1, s2, dn_mul, dn_mul, zero_add, add_comm, add_comm (dn 2 _ t), ← add_assoc]
  exact add_right_comm _ _ _

/-- What comes back through the convolution. -/
theorem back (t : Fin 2048) (l : Fin 256) : val_main_v61 (F := Ideal) b w g (ix2 t l) = vnoc (fun s => b (ix2 s l) * g (ix2 s l)) (at' w l) t := by
  pointwise [val_main_v61, val_main_v59, val_main_v48, val_main_v37, val_main_v47, val_main_v58, val_main_v33, val_main_v27,
    val_main_v42, val_main_v53, val_main_v32, val_main_v41, val_main_v52, val_main_v22, val_main_v15, val_main_v7, val_main_v21, val_main_v14, val_main_v6,
    val_main_v20, val_main_v13, val_main_v5, val_main_cst_9, val_main_cst_13]
  unfold vnoc up
  have e1 : (if h : 1 ≤ 2 + t.val ∧ 2 + t.val - 1 < 2048 then b (ix2 ⟨2 + t.val - 1, h.2⟩ l) * g (ix2 ⟨2 + t.val - 1, h.2⟩ l) * w (ix2 1 l) else 0)
      = (if h : t.val + 1 < 2048 then b (ix2 ⟨t.val + 1, h⟩ l) * g (ix2 ⟨t.val + 1, h⟩ l) * w (ix2 1 l) else (0 : EReal)) := by
    by_cases h : t.val + 1 < 2048
    · rw [dif_pos h, dif_pos (by omega)]
      exact congrArg (fun s => b (ix2 s l) * g (ix2 s l) * w (ix2 1 l)) (Fin.ext (by show 2 + t.val - 1 = t.val + 1; omega))
    · rw [dif_neg h, dif_neg (by omega)]
  have e2 : (if h : 2 + t.val < 2048 then b (ix2 ⟨2 + t.val, h⟩ l) * g (ix2 ⟨2 + t.val, h⟩ l) * w (ix2 0 l) else 0)
      = (if h : t.val + 2 < 2048 then b (ix2 ⟨t.val + 2, h⟩ l) * g (ix2 ⟨t.val + 2, h⟩ l) * w (ix2 0 l) else (0 : EReal)) := by
    by_cases h : t.val + 2 < 2048
    · rw [dif_pos h, dif_pos (by omega)]
      exact congrArg (fun s => b (ix2 s l) * g (ix2 s l) * w (ix2 0 l)) (Fin.ext (by show 2 + t.val = t.val + 2; omega))
    · rw [dif_neg h, dif_neg (by omega)]
  refine (congrArg₂ (· + ·) (congrArg₂ (· + ·) rfl e1) e2).trans ?_
  rw [add_assoc, add_comm]

theorem y_ref : val_main_v26 (F := Ideal) b c x w = Conv.y b c x w := by
  funext i
  obtain ⟨t, l, rfl⟩ : ∃ (t : Fin 2048) (l : Fin 256), i = ix2 t l := ⟨i 0, i 1, eq_ix2 i⟩
  exact congrArg (b (ix2 t l) * ·) (fwd c x w t l)
theorem db_ref : val_main_v28 (F := Ideal) c x w g = Conv.db c x g w := by
  funext i
  obtain ⟨t, l, rfl⟩ : ∃ (t : Fin 2048) (l : Fin 256), i = ix2 t l := ⟨i 0, i 1, eq_ix2 i⟩
  exact congrArg (g (ix2 t l) * ·) (fwd c x w t l)
theorem dc_ref : val_main_v63 (F := Ideal) b x w g = Conv.dc b x g w := by
  funext i
  obtain ⟨t, l, rfl⟩ : ∃ (t : Fin 2048) (l : Fin 256), i = ix2 t l := ⟨i 0, i 1, eq_ix2 i⟩
  exact congrArg (· * x (ix2 t l)) (back b g w t l)
theorem dx_ref : val_main_v62 (F := Ideal) b c w g = Conv.dx b c g w := by
  funext i
  obtain ⟨t, l, rfl⟩ : ∃ (t : Fin 2048) (l : Fin 256), i = ix2 t l := ⟨i 0, i 1, eq_ix2 i⟩
  exact congrArg (c (ix2 t l) * ·) (back b g w t l)

theorem dw_ref : val_main_v57 (F := Ideal) b c x g = Conv.dw b c x g := by
  funext i
  obtain ⟨r, l, rfl⟩ : ∃ (r : Fin 3) (l : Fin 256), i = ix2 r l := ⟨i 0, i 1, eq_ix2 i⟩
  show _ = taps (fun s => c (ix2 s l) * x (ix2 s l)) (fun s => b (ix2 s l) * g (ix2 s l)) r
  pointwise [val_main_v57, val_main_v46, val_main_v36, val_main_v35, val_main_v34, val_main_v31, val_main_v30, val_main_v29,
    val_main_v45, val_main_v44, val_main_v43, val_main_v40, val_main_v39, val_main_v38, val_main_v56, val_main_v55, val_main_v54, val_main_v51, val_main_v50, val_main_v49, val_main_v27,
    val_main_cst_2, val_main_cst_3, val_main_cst_4, val_main_cst_6, val_main_cst_7, val_main_cst_8, val_main_cst_10, val_main_cst_11, val_main_cst_12]
  unfold taps
  match r with
  | ⟨0, _⟩ =>
    rw [dif_neg (by simp), dif_neg (by simp), dif_pos (by simp)]
    simp only [Fin.sum_univ_one, zero_add]
    exact Finset.sum_congr rfl fun t _ => congrArg (· * (b (ix2 t l) * g (ix2 t l))) (s0 c x t l)
  | ⟨1, _⟩ =>
    rw [dif_neg (by simp), dif_pos (by simp), dif_neg (by simp)]
    simp only [Fin.sum_univ_one, zero_add, add_zero]
    exact Finset.sum_congr rfl fun t _ => congrArg (· * (b (ix2 t l) * g (ix2 t l))) (s1 c x t l)
  | ⟨2, _⟩ =>
    rw [dif_pos (by simp), dif_neg (by simp), dif_neg (by simp)]
    simp only [Fin.sum_univ_one, zero_add, add_zero]
    exact Finset.sum_congr rfl fun t _ => congrArg (· * (b (ix2 t l) * g (ix2 t l))) (s2 c x t l)

end Cert.Proof.ConvRef

end
-- ==== Proof.MergeSpec.lean ====
/- Hand-written, untrusted. The merge of three attention outputs by their weights, entry by entry, with its gradients. -/
module

public import Idealize.ShloMosaic.Lib.Pointwise
public import Idealize.ShloMosaic.Lib.IdealHost

@[expose] public section

noncomputable section

namespace Cert.Proof.Merge

open Idealize.ShloMosaic Idealize.ShloMosaic.Pointwise

/-- The shape of an argument. -/
abbrev A := (⟨2, ![2048, 256]⟩ : Shape).Idx → EReal

section Entry
variable (a b c l m n g e o : EReal)
/-- The largest of three weights. -/
def mx : EReal := max (max l m) n
/-- The weight over the largest. -/
def ex : EReal := Ideal.exp (e - mx l m n)
/-- The weights' sum. -/
def z : EReal := ex l m n l + ex l m n m + ex l m n n
/-- The weighted sum. -/
def num : EReal := ex l m n l * a + ex l m n m * b + ex l m n n * c
/-- The merged entry. -/
def yv : EReal := Ideal.div (num a b c l m n) (z l m n)
/-- What the merged entry gives back to the one of weight `e`. -/
def dov : EReal := ex l m n e * Ideal.div g (z l m n)
/-- What it gives back to the weight `e` of `o`. -/
def dlv : EReal := (0 - g * Ideal.div 1 (z l m n * z l m n) * num a b c l m n + Ideal.div g (z l m n) * o) * ex l m n e
end Entry

variable (a b c l m n g e o : A)
/-- The merged array. -/
def y : A := fun i => yv (a i) (b i) (c i) (l i) (m i) (n i)
/-- The gradient of the array of weight `e`. -/
def do' : A := fun i => dov (l i) (m i) (n i) (g i) (e i)
/-- The gradient of the weight `e` of `o`. -/
def dl : A := fun i => dlv (a i) (b i) (c i) (l i) (m i) (n i) (g i) (e i) (o i)

end Cert.Proof.Merge

end
-- ==== Proof.MergeBlock.lean ====
/- Hand-written, untrusted. The merge: what one block of 512 rows leaves, entry by entry. -/
module

public import proofs.«01_k».proof.Proof.Gen.Kernel9Ideal.Frame
public import proofs.«01_k».proof.Proof.MergeSpec
public import Idealize.ShloMosaic.Lib.KernelVsHost
public import Idealize.ShloMosaic.Lib.Pipeline.ValueKit

@[expose] public section

set_option maxRecDepth 16384

noncomputable section

namespace Cert.Proof.MergeBlock

open Idealize.ShloMosaic Cert.Kernel9Ideal Cert.Kernel9Ideal.Gen Idealize.ShloMosaic.Pointwise

/-- A block's start. -/
theorem hz2 : (![0, 0] : Fin 2 → ℕ) = fun _ => 0 := by decide

variable (a b c l m n g : Vec Ideal S512x256 .f32) (y : S512x256.Idx)

theorem y6 : out0_6 a b c l m n y = Merge.yv (a y) (b y) (c y) (l y) (m y) (n y) := by
  unfold out0_6
  rw [View.canon_unit_zero hz2]
  pointwise [k0_pay1]
  rfl
theorem d7 : out1_7 a b c l m n g y = Merge.dov (l y) (m y) (n y) (g y) (l y) := by
  unfold out1_7
  rw [View.canon_unit_zero hz2]
  pointwise [k1_pay1, k1_pay2, k1_pay3, k1_pay4, k1_pay5, k1_pay6, k1_pay7, k1_pay8, k1_pay9, k1_pay10, k1_pay11, k1_pay12, k1_pay13]
  rfl
theorem d8 : out1_8 a b c l m n g y = Merge.dov (l y) (m y) (n y) (g y) (m y) := by
  unfold out1_8
  rw [View.canon_unit_zero hz2]
  pointwise [k1_pay1, k1_pay2, k1_pay3, k1_pay4, k1_pay5, k1_pay6, k1_pay7, k1_pay8, k1_pay9, k1_pay10, k1_pay11, k1_pay12, k1_pay13]
  rfl
theorem d9 : out1_9 a b c l m n g y = Merge.dov (l y) (m y) (n y) (g y) (n y) := by
  unfold out1_9
  rw [View.canon_unit_zero hz2]
  pointwise [k1_pay1, k1_pay2, k1_pay3, k1_pay4, k1_pay5, k1_pay6, k1_pay7, k1_pay8, k1_pay9, k1_pay10, k1_pay11, k1_pay12, k1_pay13]
  rfl
theorem d10 : out1_10 a b c l m n g y = Merge.dlv (a y) (b y) (c y) (l y) (m y) (n y) (g y) (l y) (a y) := by
  unfold out1_10
  rw [View.canon_unit_zero hz2]
  pointwise [k1_pay1, k1_pay2, k1_pay3, k1_pay4, k1_pay5, k1_pay6, k1_pay7, k1_pay8, k1_pay9, k1_pay10, k1_pay11, k1_pay12, k1_pay13]
  rfl
theorem d11 : out1_11 a b c l m n g y = Merge.dlv (a y) (b y) (c y) (l y) (m y) (n y) (g y) (m y) (b y) := by
  unfold out1_11
  rw [View.canon_unit_zero hz2]
  pointwise [k1_pay1, k1_pay2, k1_pay3, k1_pay4, k1_pay5, k1_pay6, k1_pay7, k1_pay8, k1_pay9, k1_pay10, k1_pay11, k1_pay12, k1_pay13]
  rfl
theorem d12 : out1_12 a b c l m n g y = Merge.dlv (a y) (b y) (c y) (l y) (m y) (n y) (g y) (n y) (c y) := by
  unfold out1_12
  rw [View.canon_unit_zero hz2]
  pointwise [k1_pay1, k1_pay2, k1_pay3, k1_pay4, k1_pay5, k1_pay6, k1_pay7, k1_pay8, k1_pay9, k1_pay10, k1_pay11, k1_pay12, k1_pay13]
  rfl

end Cert.Proof.MergeBlock

end
-- ==== Proof.MergeArrays.lean ====
/- Hand-written, untrusted. What the two calls of the merge leave in their arrays. -/
module

public import proofs.«01_k».proof.Proof.MergeBlock

@[expose] public section

set_option maxRecDepth 16384

noncomputable section

namespace Cert.Proof.MergeArrays

open Idealize.ShloMosaic Idealize.ShloMosaic.TcCoe Cert.Kernel9Ideal Cert.Kernel9Ideal.Gen Idealize.ShloMosaic.Pointwise

/-- The buffers at a call's entry. -/
abbrev At := (c : Dev nD) → (b : Ref sig .tc) → Buf (Elt Ideal) ((c : Thread nD τ).loc b)
variable (V : At) (c : Dev nD)

theorem i0_0 : ∀ t : Fin cfg0.N, win0_0.index t = ![(grid0.coords t 0).val, 0] := (by decide +kernel : ∀ t : Fin grid0.N, _)
theorem i0_1 : ∀ t : Fin cfg0.N, win0_1.index t = ![(grid0.coords t 0).val, 0] := (by decide +kernel : ∀ t : Fin grid0.N, _)
theorem i0_2 : ∀ t : Fin cfg0.N, win0_2.index t = ![(grid0.coords t 0).val, 0] := (by decide +kernel : ∀ t : Fin grid0.N, _)
theorem i0_3 : ∀ t : Fin cfg0.N, win0_3.index t = ![(grid0.coords t 0).val, 0] := (by decide +kernel : ∀ t : Fin grid0.N, _)
theorem i0_4 : ∀ t : Fin cfg0.N, win0_4.index t = ![(grid0.coords t 0).val, 0] := (by decide +kernel : ∀ t : Fin grid0.N, _)
theorem i0_5 : ∀ t : Fin cfg0.N, win0_5.index t = ![(grid0.coords t 0).val, 0] := (by decide +kernel : ∀ t : Fin grid0.N, _)
theorem i0_6 : ∀ t : Fin cfg0.N, win0_6.index t = ![(grid0.coords t 0).val, 0] := (by decide +kernel : ∀ t : Fin grid0.N, _)
theorem lt0 (t : Fin cfg0.N) : (grid0.coords t 0).val < 4 := (grid0.coords t 0).isLt
/-- The array's place that is a block's. -/
def q0 (t : Fin cfg0.N) (y : S512x256.Idx) : S2048x256.Idx :=
  ix2 ⟨(grid0.coords t 0).val * 512 + (y 0).val, by have := lt0 t; have : (y 0).val < 512 := (y 0).isLt; omega⟩ (y 1)
theorem a0 (t : Fin cfg0.N) (y : S512x256.Idx) : iblk0 V c 0 t y = V c main_arg0 (q0 t y) := by
  have e : win0_0.index t = ![(grid0.coords t 0).val, 0] := i0_0 t
  unfold q0
  blk_point [iblk0, e]
theorem b0 (t : Fin cfg0.N) (y : S512x256.Idx) : iblk0 V c 1 t y = V c main_arg1 (q0 t y) := by
  have e : win0_1.index t = ![(grid0.coords t 0).val, 0] := i0_1 t
  unfold q0
  blk_point [iblk0, e]
theorem c0 (t : Fin cfg0.N) (y : S512x256.Idx) : iblk0 V c 2 t y = V c main_arg2 (q0 t y) := by
  have e : win0_2.index t = ![(grid0.coords t 0).val, 0] := i0_2 t
  unfold q0
  blk_point [iblk0, e]
theorem l0 (t : Fin cfg0.N) (y : S512x256.Idx) : iblk0 V c 3 t y = V c main_arg3 (q0 t y) := by
  have e : win0_3.index t = ![(grid0.coords t 0).val, 0] := i0_3 t
  unfold q0
  blk_point [iblk0, e]
theorem m0 (t : Fin cfg0.N) (y : S512x256.Idx) : iblk0 V c 4 t y = V c main_arg4 (q0 t y) := by
  have e : win0_4.index t = ![(grid0.coords t 0).val, 0] := i0_4 t
  unfold q0
  blk_point [iblk0, e]
theorem n0 (t : Fin cfg0.N) (y : S512x256.Idx) : iblk0 V c 5 t y = V c main_arg5 (q0 t y) := by
  have e : win0_5.index t = ![(grid0.coords t 0).val, 0] := i0_5 t
  unfold q0
  blk_point [iblk0, e]
theorem o0_6 (t : Fin cfg0.N) (y : S512x256.Idx) : (win0_6.blk t).view.emb y = q0 t y := by
  have e : win0_6.index t = ![(grid0.coords t 0).val, 0] := i0_6 t
  refine funext fun a => Fin.ext ?_
  match a with
  | ⟨0, _⟩ => blk_simp [e]; rfl
  | ⟨1, _⟩ => blk_simp [e]; rfl
theorem y_arr : (dat0 V c).arrAt 6 cfg0.N = Merge.y (V c main_arg0) (V c main_arg1) (V c main_arg2) (V c main_arg3) (V c main_arg4) (V c main_arg5) := by
  refine (dat0 V c).arrAt_eq_of_covers 6 _ (by decide +kernel) fun t hf y => ?_
  blk_simp
  rw [after0_6, MergeBlock.y6, o0_6, a0, b0, c0, l0, m0, n0]
  rfl
theorem i1_0 : ∀ t : Fin cfg1.N, win1_0.index t = ![(grid1.coords t 0).val, 0] := (by decide +kernel : ∀ t : Fin grid1.N, _)
theorem i1_1 : ∀ t : Fin cfg1.N, win1_1.index t = ![(grid1.coords t 0).val, 0] := (by decide +kernel : ∀ t : Fin grid1.N, _)
theorem i1_2 : ∀ t : Fin cfg1.N, win1_2.index t = ![(grid1.coords t 0).val, 0] := (by decide +kernel : ∀ t : Fin grid1.N, _)
theorem i1_3 : ∀ t : Fin cfg1.N, win1_3.index t = ![(grid1.coords t 0).val, 0] := (by decide +kernel : ∀ t : Fin grid1.N, _)
theorem i1_4 : ∀ t : Fin cfg1.N, win1_4.index t = ![(grid1.coords t 0).val, 0] := (by decide +kernel : ∀ t : Fin grid1.N, _)
theorem i1_5 : ∀ t : Fin cfg1.N, win1_5.index t = ![(grid1.coords t 0).val, 0] := (by decide +kernel : ∀ t : Fin grid1.N, _)
theorem i1_6 : ∀ t : Fin cfg1.N, win1_6.index t = ![(grid1.coords t 0).val, 0] := (by decide +kernel : ∀ t : Fin grid1.N, _)
theorem i1_7 : ∀ t : Fin cfg1.N, win1_7.index t = ![(grid1.coords t 0).val, 0] := (by decide +kernel : ∀ t : Fin grid1.N, _)
theorem i1_8 : ∀ t : Fin cfg1.N, win1_8.index t = ![(grid1.coords t 0).val, 0] := (by decide +kernel : ∀ t : Fin grid1.N, _)
theorem i1_9 : ∀ t : Fin cfg1.N, win1_9.index t = ![(grid1.coords t 0).val, 0] := (by decide +kernel : ∀ t : Fin grid1.N, _)
theorem i1_10 : ∀ t : Fin cfg1.N, win1_10.index t = ![(grid1.coords t 0).val, 0] := (by decide +kernel : ∀ t : Fin grid1.N, _)
theorem i1_11 : ∀ t : Fin cfg1.N, win1_11.index t = ![(grid1.coords t 0).val, 0] := (by decide +kernel : ∀ t : Fin grid1.N, _)
theorem i1_12 : ∀ t : Fin cfg1.N, win1_12.index t = ![(grid1.coords t 0).val, 0] := (by decide +kernel : ∀ t : Fin grid1.N, _)
theorem lt1 (t : Fin cfg1.N) : (grid1.coords t 0).val < 4 := (grid1.coords t 0).isLt
/-- The array's place that is a block's. -/
def q1 (t : Fin cfg1.N) (y : S512x256.Idx) : S2048x256.Idx :=
  ix2 ⟨(grid1.coords t 0).val * 512 + (y 0).val, by have := lt1 t; have : (y 0).val < 512 := (y 0).isLt; omega⟩ (y 1)
theorem a1 (t : Fin cfg1.N) (y : S512x256.Idx) : iblk1 V c 0 t y = V c main_arg0 (q1 t y) := by
  have e : win1_0.index t = ![(grid1.coords t 0).val, 0] := i1_0 t
  unfold q1
  blk_point [iblk1, e]
theorem b1 (t : Fin cfg1.N) (y : S512x256.Idx) : iblk1 V c 1 t y = V c main_arg1 (q1 t y) := by
  have e : win1_1.index t = ![(grid1.coords t 0).val, 0] := i1_1 t
  unfold q1
  blk_point [iblk1, e]
theorem c1 (t : Fin cfg1.N) (y : S512x256.Idx) : iblk1 V c 2 t y = V c main_arg2 (q1 t y) := by
  have e : win1_2.index t = ![(grid1.coords t 0).val, 0] := i1_2 t
  unfold q1
  blk_point [iblk1, e]
theorem l1 (t : Fin cfg1.N) (y : S512x256.Idx) : iblk1 V c 3 t y = V c main_arg3 (q1 t y) := by
  have e : win1_3.index t = ![(grid1.coords t 0).val, 0] := i1_3 t
  unfold q1
  blk_point [iblk1, e]
theorem m1 (t : Fin cfg1.N) (y : S512x256.Idx) : iblk1 V c 4 t y = V c main_arg4 (q1 t y) := by
  have e : win1_4.index t = ![(grid1.coords t 0).val, 0] := i1_4 t
  unfold q1
  blk_point [iblk1, e]
theorem n1 (t : Fin cfg1.N) (y : S512x256.Idx) : iblk1 V c 5 t y = V c main_arg5 (q1 t y) := by
  have e : win1_5.index t = ![(grid1.coords t 0).val, 0] := i1_5 t
  unfold q1
  blk_point [iblk1, e]
theorem g1 (t : Fin cfg1.N) (y : S512x256.Idx) : iblk1 V c 6 t y = V c main_arg6 (q1 t y) := by
  have e : win1_6.index t = ![(grid1.coords t 0).val, 0] := i1_6 t
  unfold q1
  blk_point [iblk1, e]
theorem o1_7 (t : Fin cfg1.N) (y : S512x256.Idx) : (win1_7.blk t).view.emb y = q1 t y := by
  have e : win1_7.index t = ![(grid1.coords t 0).val, 0] := i1_7 t
  refine funext fun a => Fin.ext ?_
  match a with
  | ⟨0, _⟩ => blk_simp [e]; rfl
  | ⟨1, _⟩ => blk_simp [e]; rfl
theorem do1_arr : (dat1 V c).arrAt 7 cfg1.N = Merge.do' (V c main_arg3) (V c main_arg4) (V c main_arg5) (V c main_arg6) (V c main_arg3) := by
  refine (dat1 V c).arrAt_eq_of_covers 7 _ (by decide +kernel) fun t hf y => ?_
  blk_simp
  rw [after1_7, MergeBlock.d7, o1_7, l1, m1, n1, g1]
  rfl
theorem o1_8 (t : Fin cfg1.N) (y : S512x256.Idx) : (win1_8.blk t).view.emb y = q1 t y := by
  have e : win1_8.index t = ![(grid1.coords t 0).val, 0] := i1_8 t
  refine funext fun a => Fin.ext ?_
  match a with
  | ⟨0, _⟩ => blk_simp [e]; rfl
  | ⟨1, _⟩ => blk_simp [e]; rfl
theorem do2_arr : (dat1 V c).arrAt 8 cfg1.N = Merge.do' (V c main_arg3) (V c main_arg4) (V c main_arg5) (V c main_arg6) (V c main_arg4) := by
  refine (dat1 V c).arrAt_eq_of_covers 8 _ (by decide +kernel) fun t hf y => ?_
  blk_simp
  rw [after1_8, MergeBlock.d8, o1_8, l1, m1, n1, g1]
  rfl
theorem o1_9 (t : Fin cfg1.N) (y : S512x256.Idx) : (win1_9.blk t).view.emb y = q1 t y := by
  have e : win1_9.index t = ![(grid1.coords t 0).val, 0] := i1_9 t
  refine funext fun a => Fin.ext ?_
  match a with
  | ⟨0, _⟩ => blk_simp [e]; rfl
  | ⟨1, _⟩ => blk_simp [e]; rfl
theorem do3_arr : (dat1 V c).arrAt 9 cfg1.N = Merge.do' (V c main_arg3) (V c main_arg4) (V c main_arg5) (V c main_arg6) (V c main_arg5) := by
  refine (dat1 V c).arrAt_eq_of_covers 9 _ (by decide +kernel) fun t hf y => ?_
  blk_simp
  rw [after1_9, MergeBlock.d9, o1_9, l1, m1, n1, g1]
  rfl
theorem o1_10 (t : Fin cfg1.N) (y : S512x256.Idx) : (win1_10.blk t).view.emb y = q1 t y := by
  have e : win1_10.index t = ![(grid1.coords t 0).val, 0] := i1_10 t
  refine funext fun a => Fin.ext ?_
  match a with
  | ⟨0, _⟩ => blk_simp [e]; rfl
  | ⟨1, _⟩ => blk_simp [e]; rfl
theorem dl1_arr : (dat1 V c).arrAt 10 cfg1.N = Merge.dl (V c main_arg0) (V c main_arg1) (V c main_arg2) (V c main_arg3) (V c main_arg4) (V c main_arg5) (V c main_arg6) (V c main_arg3) (V c main_arg0) := by
  refine (dat1 V c).arrAt_eq_of_covers 10 _ (by decide +kernel) fun t hf y => ?_
  blk_simp
  rw [after1_10, MergeBlock.d10, o1_10, a1, b1, c1, l1, m1, n1, g1]
  rfl
theorem o1_11 (t : Fin cfg1.N) (y : S512x256.Idx) : (win1_11.blk t).view.emb y = q1 t y := by
  have e : win1_11.index t = ![(grid1.coords t 0).val, 0] := i1_11 t
  refine funext fun a => Fin.ext ?_
  match a with
  | ⟨0, _⟩ => blk_simp [e]; rfl
  | ⟨1, _⟩ => blk_simp [e]; rfl
theorem dl2_arr : (dat1 V c).arrAt 11 cfg1.N = Merge.dl (V c main_arg0) (V c main_arg1) (V c main_arg2) (V c main_arg3) (V c main_arg4) (V c main_arg5) (V c main_arg6) (V c main_arg4) (V c main_arg1) := by
  refine (dat1 V c).arrAt_eq_of_covers 11 _ (by decide +kernel) fun t hf y => ?_
  blk_simp
  rw [after1_11, MergeBlock.d11, o1_11, a1, b1, c1, l1, m1, n1, g1]
  rfl
theorem o1_12 (t : Fin cfg1.N) (y : S512x256.Idx) : (win1_12.blk t).view.emb y = q1 t y := by
  have e : win1_12.index t = ![(grid1.coords t 0).val, 0] := i1_12 t
  refine funext fun a => Fin.ext ?_
  match a with
  | ⟨0, _⟩ => blk_simp [e]; rfl
  | ⟨1, _⟩ => blk_simp [e]; rfl
theorem dl3_arr : (dat1 V c).arrAt 12 cfg1.N = Merge.dl (V c main_arg0) (V c main_arg1) (V c main_arg2) (V c main_arg3) (V c main_arg4) (V c main_arg5) (V c main_arg6) (V c main_arg5) (V c main_arg2) := by
  refine (dat1 V c).arrAt_eq_of_covers 12 _ (by decide +kernel) fun t hf y => ?_
  blk_simp
  rw [after1_12, MergeBlock.d12, o1_12, a1, b1, c1, l1, m1, n1, g1]
  rfl

end Cert.Proof.MergeArrays

end
-- ==== Proof.MergeRun.lean ====
/- Hand-written, untrusted. The merge, run: the seven results of its kernel program as functions of the seven
   arguments. -/
module

public import proofs.«01_k».proof.Proof.MergeArrays
public import proofs.«01_k».proof.Proof.Gen.Kernel9Ideal.Frame

@[expose] public section

set_option maxRecDepth 16384

noncomputable section

namespace Cert.Proof.MergeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel9Ideal Cert.Kernel9Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev a : Merge.A := m ((c.tc : Thread nD τ).loc main_arg0)
abbrev b : Merge.A := m ((c.tc : Thread nD τ).loc main_arg1)
abbrev d : Merge.A := m ((c.tc : Thread nD τ).loc main_arg2)
abbrev l : Merge.A := m ((c.tc : Thread nD τ).loc main_arg3)
abbrev p : Merge.A := m ((c.tc : Thread nD τ).loc main_arg4)
abbrev n : Merge.A := m ((c.tc : Thread nD τ).loc main_arg5)
abbrev g : Merge.A := m ((c.tc : Thread nD τ).loc main_arg6)

/-! ## The results -/

theorem e0_at : W1 m ρ c (Proc.devRef .tc main_v0) = Merge.y (a m c) (b m c) (d m c) (l m c) (p m c) (n m c) := by
  refine (W1_arr m ρ c 6).trans ((MergeArrays.y_arr (V0 m ρ) c).trans ?_)
  rfl
theorem e0_end : W3 m ρ c (Proc.devRef .tc main_v0) = Merge.y (a m c) (b m c) (d m c) (l m c) (p m c) (n m c) :=
  (W3_of m ρ c main_v0 (by decide)).trans ((W2_of m ρ c main_v0 (by decide)).trans (e0_at m ρ c))
theorem e1_at : W2 m ρ c (Proc.devRef .tc main_v1_0) = Merge.do' (l m c) (p m c) (n m c) (g m c) (l m c) := by
  refine (W2_arr m ρ c 7).trans ((MergeArrays.do1_arr (V1 m ρ) c).trans ?_)
  rw [show V1 m ρ c main_arg3 = l m c from W1_args m ρ c main_arg3 (by decide),
    show V1 m ρ c main_arg4 = p m c from W1_args m ρ c main_arg4 (by decide),
    show V1 m ρ c main_arg5 = n m c from W1_args m ρ c main_arg5 (by decide),
    show V1 m ρ c main_arg6 = g m c from W1_args m ρ c main_arg6 (by decide)]
theorem e1_end : W3 m ρ c (Proc.devRef .tc main_v1_0) = Merge.do' (l m c) (p m c) (n m c) (g m c) (l m c) :=
  (W3_of m ρ c main_v1_0 (by decide)).trans (e1_at m ρ c)
theorem e2_at : W2 m ρ c (Proc.devRef .tc main_v1_1) = Merge.do' (l m c) (p m c) (n m c) (g m c) (p m c) := by
  refine (W2_arr m ρ c 8).trans ((MergeArrays.do2_arr (V1 m ρ) c).trans ?_)
  rw [show V1 m ρ c main_arg3 = l m c from W1_args m ρ c main_arg3 (by decide),
    show V1 m ρ c main_arg4 = p m c from W1_args m ρ c main_arg4 (by decide),
    show V1 m ρ c main_arg5 = n m c from W1_args m ρ c main_arg5 (by decide),
    show V1 m ρ c main_arg6 = g m c from W1_args m ρ c main_arg6 (by decide)]
theorem e2_end : W3 m ρ c (Proc.devRef .tc main_v1_1) = Merge.do' (l m c) (p m c) (n m c) (g m c) (p m c) :=
  (W3_of m ρ c main_v1_1 (by decide)).trans (e2_at m ρ c)
theorem e3_at : W2 m ρ c (Proc.devRef .tc main_v1_2) = Merge.do' (l m c) (p m c) (n m c) (g m c) (n m c) := by
  refine (W2_arr m ρ c 9).trans ((MergeArrays.do3_arr (V1 m ρ) c).trans ?_)
  rw [show V1 m ρ c main_arg3 = l m c from W1_args m ρ c main_arg3 (by decide),
    show V1 m ρ c main_arg4 = p m c from W1_args m ρ c main_arg4 (by decide),
    show V1 m ρ c main_arg5 = n m c from W1_args m ρ c main_arg5 (by decide),
    show V1 m ρ c main_arg6 = g m c from W1_args m ρ c main_arg6 (by decide)]
theorem e3_end : W3 m ρ c (Proc.devRef .tc main_v1_2) = Merge.do' (l m c) (p m c) (n m c) (g m c) (n m c) :=
  (W3_of m ρ c main_v1_2 (by decide)).trans (e3_at m ρ c)
theorem e4_at : W2 m ρ c (Proc.devRef .tc main_v1_3) = Merge.dl (a m c) (b m c) (d m c) (l m c) (p m c) (n m c) (g m c) (l m c) (a m c) := by
  refine (W2_arr m ρ c 10).trans ((MergeArrays.dl1_arr (V1 m ρ) c).trans ?_)
  rw [show V1 m ρ c main_arg0 = a m c from W1_args m ρ c main_arg0 (by decide),
    show V1 m ρ c main_arg1 = b m c from W1_args m ρ c main_arg1 (by decide),
    show V1 m ρ c main_arg2 = d m c from W1_args m ρ c main_arg2 (by decide),
    show V1 m ρ c main_arg3 = l m c from W1_args m ρ c main_arg3 (by decide),
    show V1 m ρ c main_arg4 = p m c from W1_args m ρ c main_arg4 (by decide),
    show V1 m ρ c main_arg5 = n m c from W1_args m ρ c main_arg5 (by decide),
    show V1 m ρ c main_arg6 = g m c from W1_args m ρ c main_arg6 (by decide)]
theorem e4_end : W3 m ρ c (Proc.devRef .tc main_v1_3) = Merge.dl (a m c) (b m c) (d m c) (l m c) (p m c) (n m c) (g m c) (l m c) (a m c) :=
  (W3_of m ρ c main_v1_3 (by decide)).trans (e4_at m ρ c)
theorem e5_at : W2 m ρ c (Proc.devRef .tc main_v1_4) = Merge.dl (a m c) (b m c) (d m c) (l m c) (p m c) (n m c) (g m c) (p m c) (b m c) := by
  refine (W2_arr m ρ c 11).trans ((MergeArrays.dl2_arr (V1 m ρ) c).trans ?_)
  rw [show V1 m ρ c main_arg0 = a m c from W1_args m ρ c main_arg0 (by decide),
    show V1 m ρ c main_arg1 = b m c from W1_args m ρ c main_arg1 (by decide),
    show V1 m ρ c main_arg2 = d m c from W1_args m ρ c main_arg2 (by decide),
    show V1 m ρ c main_arg3 = l m c from W1_args m ρ c main_arg3 (by decide),
    show V1 m ρ c main_arg4 = p m c from W1_args m ρ c main_arg4 (by decide),
    show V1 m ρ c main_arg5 = n m c from W1_args m ρ c main_arg5 (by decide),
    show V1 m ρ c main_arg6 = g m c from W1_args m ρ c main_arg6 (by decide)]
theorem e5_end : W3 m ρ c (Proc.devRef .tc main_v1_4) = Merge.dl (a m c) (b m c) (d m c) (l m c) (p m c) (n m c) (g m c) (p m c) (b m c) :=
  (W3_of m ρ c main_v1_4 (by decide)).trans (e5_at m ρ c)
theorem e6_at : W2 m ρ c (Proc.devRef .tc main_v1_5) = Merge.dl (a m c) (b m c) (d m c) (l m c) (p m c) (n m c) (g m c) (n m c) (d m c) := by
  refine (W2_arr m ρ c 12).trans ((MergeArrays.dl3_arr (V1 m ρ) c).trans ?_)
  rw [show V1 m ρ c main_arg0 = a m c from W1_args m ρ c main_arg0 (by decide),
    show V1 m ρ c main_arg1 = b m c from W1_args m ρ c main_arg1 (by decide),
    show V1 m ρ c main_arg2 = d m c from W1_args m ρ c main_arg2 (by decide),
    show V1 m ρ c main_arg3 = l m c from W1_args m ρ c main_arg3 (by decide),
    show V1 m ρ c main_arg4 = p m c from W1_args m ρ c main_arg4 (by decide),
    show V1 m ρ c main_arg5 = n m c from W1_args m ρ c main_arg5 (by decide),
    show V1 m ρ c main_arg6 = g m c from W1_args m ρ c main_arg6 (by decide)]
theorem e6_end : W3 m ρ c (Proc.devRef .tc main_v1_5) = Merge.dl (a m c) (b m c) (d m c) (l m c) (p m c) (n m c) (g m c) (n m c) (d m c) :=
  (W3_of m ρ c main_v1_5 (by decide)).trans (e6_at m ρ c)

set_option backward.isDefEq.respectTransparency.types false in
/-- From any memory the program runs to its end with the seven results at these values. -/
theorem run : θ_run defs (onTc (τ := τ) (main (F := Ideal))) ⟨m, fun _ => 0, ρ⟩ (fun r => ∀ c : Dev nD,
      r.2.mem ((c.tc : Thread nD τ).loc main_v0) = Merge.y (a m c) (b m c) (d m c) (l m c) (p m c) (n m c)
      ∧ r.2.mem ((c.tc : Thread nD τ).loc main_v1_0) = Merge.do' (l m c) (p m c) (n m c) (g m c) (l m c)
      ∧ r.2.mem ((c.tc : Thread nD τ).loc main_v1_1) = Merge.do' (l m c) (p m c) (n m c) (g m c) (p m c)
      ∧ r.2.mem ((c.tc : Thread nD τ).loc main_v1_2) = Merge.do' (l m c) (p m c) (n m c) (g m c) (n m c)
      ∧ r.2.mem ((c.tc : Thread nD τ).loc main_v1_3) = Merge.dl (a m c) (b m c) (d m c) (l m c) (p m c) (n m c) (g m c) (l m c) (a m c)
      ∧ r.2.mem ((c.tc : Thread nD τ).loc main_v1_4) = Merge.dl (a m c) (b m c) (d m c) (l m c) (p m c) (n m c) (g m c) (p m c) (b m c)
      ∧ r.2.mem ((c.tc : Thread nD τ).loc main_v1_5) = Merge.dl (a m c) (b m c) (d m c) (l m c) (p m c) (n m c) (g m c) (n m c) (d m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s e _ c =>
      ⟨(e c _ (mem_uc main_v0 (by decide))).trans (e0_end m ρ c),
       (e c _ (mem_uc main_v1_0 (by decide))).trans (e1_end m ρ c),
       (e c _ (mem_uc main_v1_1 (by decide))).trans (e2_end m ρ c),
       (e c _ (mem_uc main_v1_2 (by decide))).trans (e3_end m ρ c),
       (e c _ (mem_uc main_v1_3 (by decide))).trans (e4_end m ρ c),
       (e c _ (mem_uc main_v1_4 (by decide))).trans (e5_end m ρ c),
       (e c _ (mem_uc main_v1_5 (by decide))).trans (e6_end m ρ c)⟩)

end Cert.Proof.MergeRun

end
-- ==== Proof.MergeRef.lean ====
/- Hand-written, untrusted. The reference program of the merge, read entry by entry, and its equality to the kernel's forms where every
   argument is finite. -/
module

public import proofs.«01_k».proof.Proof.MergeSpec
public import proofs.«01_k».proof.Proof.XSpec
public import proofs.«01_k».proof.Proof.Softmax
public import proofs.«01_k».proof.Proof.Gen.Reference9Ideal.Read
public import Idealize.ShloMosaic.Lib.KernelVsHost

@[expose] public section

set_option maxRecDepth 16384

noncomputable section

namespace Cert.Proof.MergeRef

open Idealize.ShloMosaic Cert.Reference9Ideal Cert.Reference9Ideal.Gen Cert.Reference9Ideal.Read Idealize.ShloMosaic.Pointwise
open Merge

/-- One of three. -/
def pick (a b c : EReal) (i : Fin 3) : EReal := if _h : i.val < 1 then a else if _h : i.val < 2 then b else c

variable (a b c l m n g : A) (t : Fin 2048) (j : Fin 256) (i : Fin 3)

/-- The weights, stacked. -/
theorem s3 : val_main_v3 (F := Ideal) l m n (ix3 i t j) = pick (l (ix2 t j)) (m (ix2 t j)) (n (ix2 t j)) i := by
  pointwise [val_main_v3, val_main_v0, val_main_v1, val_main_v2]
  match i with
  | ⟨0, _⟩ => rfl
  | ⟨1, _⟩ => rfl
  | ⟨2, _⟩ => rfl
/-- The outputs, stacked. -/
theorem s35 : val_main_v35 (F := Ideal) a b c (ix3 i t j) = pick (a (ix2 t j)) (b (ix2 t j)) (c (ix2 t j)) i := by
  pointwise [val_main_v35, val_main_v32, val_main_v33, val_main_v34]
  match i with
  | ⟨0, _⟩ => rfl
  | ⟨1, _⟩ => rfl
  | ⟨2, _⟩ => rfl
theorem fold3 (f : Fin 3 → EReal) : Finset.univ.fold max ⊥ f = max (max (f 0) (f 1)) (f 2) := by
  rw [show (Finset.univ : Finset (Fin 3)) = insert 0 (insert 1 {2}) from by decide, Finset.fold_insert (by decide), Finset.fold_insert (by decide),
    Finset.fold_singleton, max_eq_left (bot_le : ⊥ ≤ f 2), max_assoc]
theorem s4 : val_main_v4 (F := Ideal) l m n (ix2 t j) = mx (l (ix2 t j)) (m (ix2 t j)) (n (ix2 t j)) := by
  refine (Host.reduce_eq_fold (max : EReal → EReal → EReal) (val_main_v3 (F := Ideal) l m n) (val_main_cst (F := Ideal))
    reducesTo_S3x2048x256_S2048x256_d0 h_S_ (ix2 t j)).trans
    ((Shape.ReducesTo.fold_fiber_r3_a0 reducesTo_S3x2048x256_S2048x256_d0 (ix2 t j) max _ _).trans ?_)
  exact (congrArg₂ (fun (b : EReal) (f : Fin 3 → EReal) => Finset.univ.fold max b f) X.bot_bits
    (funext fun s => s3 l m n t j s)).trans (fold3 _)
theorem s11 : val_main_v11 (F := Ideal) l m n (ix2 t j) = mx (l (ix2 t j)) (m (ix2 t j)) (n (ix2 t j)) := by
  rw [val_main_v11_apply, val_main_v10_apply, val_main_cst_1_apply, s4]
  exact (congrArg (max · _) X.bot_bits).trans (max_eq_right bot_le)
theorem s24 : val_main_v24 (F := Ideal) l m n (ix3 i t j)
    = ex (l (ix2 t j)) (m (ix2 t j)) (n (ix2 t j)) (pick (l (ix2 t j)) (m (ix2 t j)) (n (ix2 t j)) i) := by
  pointwise [val_main_v24, val_main_v23, val_main_v22, val_main_v21]
  rw [s3, s11]
  rfl
theorem s25 : val_main_v25 (F := Ideal) l m n (ix2 t j) = z (l (ix2 t j)) (m (ix2 t j)) (n (ix2 t j)) := by
  pointwise [val_main_v25, val_main_cst_7]
  rw [Fin.sum_univ_three, s24, s24, s24]
  rfl
theorem s28 : val_main_v28 (F := Ideal) l m n (ix3 i t j)
    = Ideal.div (ex (l (ix2 t j)) (m (ix2 t j)) (n (ix2 t j)) (pick (l (ix2 t j)) (m (ix2 t j)) (n (ix2 t j)) i)) (z (l (ix2 t j)) (m (ix2 t j)) (n (ix2 t j))) := by
  pointwise [val_main_v28, val_main_v27, val_main_v26]
  rw [s24, s25]

/-! ## The arithmetic, on finite numbers -/

section Real
variable (u v w o p q r : ℝ)

theorem mx_real : mx (u : EReal) v w = ((max (max u v) w : ℝ) : EReal) := by
  rw [mx, EReal.coe_strictMono.monotone.map_max, EReal.coe_strictMono.monotone.map_max]
theorem ex_real (s : ℝ) : ∃ e : ℝ, 0 < e ∧ ex (u : EReal) v w s = (e : EReal) :=
  ⟨_, Real.exp_pos _, by rw [ex, mx_real, ← EReal.coe_sub, Ideal.exp_coe]⟩

/-- The weighted sum of quotients is the quotient of the weighted sum. -/
theorem sum_div (hz : u + v + w ≠ 0) : Ideal.div (u : EReal) (u + v + w) * o + Ideal.div (v : EReal) (u + v + w) * p + Ideal.div (w : EReal) (u + v + w) * q
    = Ideal.div ((u : EReal) * o + v * p + w * q) (u + v + w) := by
  simp only [← EReal.coe_mul, ← EReal.coe_add, Softmax.div_real _ hz]
  congr 1
  field_simp
/-- A weight's quotient times a number. -/
theorem div_mul (hz : u + v + w ≠ 0) (s : ℝ) : Ideal.div (s : EReal) (u + v + w) * r = s * Ideal.div (r : EReal) (u + v + w) := by
  simp only [← EReal.coe_mul, ← EReal.coe_add, Softmax.div_real _ hz]
  congr 1
  field_simp
/-- A weight's gradient, in its two forms. -/
theorem back (hz : u + v + w ≠ 0) (s e : ℝ) :
    (Ideal.div ((r : EReal) * s) (u + v + w) + -((r : EReal) * o * Ideal.div 1 (((u : EReal) + v + w) * (u + v + w)) * u
        + r * p * Ideal.div 1 (((u : EReal) + v + w) * (u + v + w)) * v + r * q * Ideal.div 1 (((u : EReal) + v + w) * (u + v + w)) * w)) * e
    = (0 - r * Ideal.div 1 (((u : EReal) + v + w) * (u + v + w)) * ((u : EReal) * o + v * p + w * q) + Ideal.div (r : EReal) (u + v + w) * s) * e := by
  have h2 := mul_ne_zero hz hz
  simp only [← EReal.coe_one, ← EReal.coe_zero, ← EReal.coe_mul, ← EReal.coe_add, ← EReal.coe_neg, ← EReal.coe_sub, Softmax.div_real _ hz, Softmax.div_real _ h2]
  congr 1
  field_simp
  ring
end Real

section Entry
variable (a b c l m n g : EReal) (ha : a ≠ ⊤ ∧ a ≠ ⊥) (hb : b ≠ ⊤ ∧ b ≠ ⊥) (hc : c ≠ ⊤ ∧ c ≠ ⊥) (hl : l ≠ ⊤ ∧ l ≠ ⊥) (hm : m ≠ ⊤ ∧ m ≠ ⊥)
  (hn : n ≠ ⊤ ∧ n ≠ ⊥) (hg : g ≠ ⊤ ∧ g ≠ ⊥)
include ha hb hc hl hm hn in
theorem y_entry : Ideal.div (ex l m n l) (z l m n) * a + Ideal.div (ex l m n m) (z l m n) * b + Ideal.div (ex l m n n) (z l m n) * c
    = yv a b c l m n := by
  lift a to ℝ using ha
  lift b to ℝ using hb
  lift c to ℝ using hc
  lift l to ℝ using hl
  lift m to ℝ using hm
  lift n to ℝ using hn
  obtain ⟨u, hu, eu⟩ := ex_real l m n l
  obtain ⟨v, hv, ev⟩ := ex_real l m n m
  obtain ⟨w, hw, ew⟩ := ex_real l m n n
  unfold yv num z
  rw [eu, ev, ew]
  exact sum_div u v w a b c (by positivity)
include hl hm hn hg in
theorem do_entry (e : EReal) (he : e ≠ ⊤ ∧ e ≠ ⊥) : Ideal.div (ex l m n e) (z l m n) * g = dov l m n g e := by
  lift g to ℝ using hg
  lift l to ℝ using hl
  lift m to ℝ using hm
  lift n to ℝ using hn
  lift e to ℝ using he
  obtain ⟨u, hu, eu⟩ := ex_real l m n l
  obtain ⟨v, hv, ev⟩ := ex_real l m n m
  obtain ⟨w, hw, ew⟩ := ex_real l m n n
  obtain ⟨s, hs, es⟩ := ex_real l m n e
  unfold dov z
  rw [eu, ev, ew, es]
  exact div_mul u v w g (by positivity) s
include ha hb hc hl hm hn hg in
theorem dl_entry (e o : EReal) (he : e ≠ ⊤ ∧ e ≠ ⊥) (ho : o ≠ ⊤ ∧ o ≠ ⊥) :
    (Ideal.div (g * o) (z l m n) + -(g * a * Ideal.div 1 (z l m n * z l m n) * ex l m n l + g * b * Ideal.div 1 (z l m n * z l m n) * ex l m n m
      + g * c * Ideal.div 1 (z l m n * z l m n) * ex l m n n)) * ex l m n e = dlv a b c l m n g e o := by
  lift a to ℝ using ha
  lift b to ℝ using hb
  lift c to ℝ using hc
  lift g to ℝ using hg
  lift l to ℝ using hl
  lift m to ℝ using hm
  lift n to ℝ using hn
  lift e to ℝ using he
  lift o to ℝ using ho
  obtain ⟨u, hu, eu⟩ := ex_real l m n l
  obtain ⟨v, hv, ev⟩ := ex_real l m n m
  obtain ⟨w, hw, ew⟩ := ex_real l m n n
  obtain ⟨s, hs, es⟩ := ex_real l m n e
  unfold dlv num z
  rw [eu, ev, ew, es]
  exact back u v w a b c g (by positivity) o s
end Entry

/-! ## The seven results -/

/-- Every entry is finite. -/
abbrev Fin' (x : A) : Prop := ∀ i, x i ≠ (⊤ : EReal) ∧ x i ≠ (⊥ : EReal)
theorem at2 (i : (⟨2, ![2048, 256]⟩ : Shape).Idx) : ∃ (t : Fin 2048) (j : Fin 256), i = ix2 t j := ⟨i 0, i 1, eq_ix2 i⟩

section Results
variable (ha : Fin' a) (hb : Fin' b) (hc : Fin' c) (hl : Fin' l) (hm : Fin' m) (hn : Fin' n) (hg : Fin' g)
include ha hb hc hl hm hn in
theorem y_ref : val_main_v37 (F := Ideal) a b c l m n = Merge.y a b c l m n := by
  funext i
  obtain ⟨t, j, rfl⟩ := at2 i
  pointwise [val_main_v37, val_main_v36, val_main_cst_9]
  rw [Fin.sum_univ_three, s28, s28, s28, s35, s35, s35]
  exact y_entry _ _ _ _ _ _ (ha _) (hb _) (hc _) (hl _) (hm _) (hn _)
include hl hm hn hg in
theorem do1_ref : val_main_v42 (F := Ideal) l m n g = Merge.do' l m n g l := by
  funext i
  obtain ⟨t, j, rfl⟩ := at2 i
  pointwise [val_main_v42, val_main_v41, val_main_v39, val_main_v38]
  rw [s28]
  exact do_entry _ _ _ _ (hl _) (hm _) (hn _) (hg _) _ (hl _)
include hl hm hn hg in
theorem do2_ref : val_main_v44 (F := Ideal) l m n g = Merge.do' l m n g m := by
  funext i
  obtain ⟨t, j, rfl⟩ := at2 i
  pointwise [val_main_v44, val_main_v43, val_main_v39, val_main_v38]
  rw [s28]
  exact do_entry _ _ _ _ (hl _) (hm _) (hn _) (hg _) _ (hm _)
include hl hm hn hg in
theorem do3_ref : val_main_v46 (F := Ideal) l m n g = Merge.do' l m n g n := by
  funext i
  obtain ⟨t, j, rfl⟩ := at2 i
  pointwise [val_main_v46, val_main_v45, val_main_v39, val_main_v38]
  rw [s28]
  exact do_entry _ _ _ _ (hl _) (hm _) (hn _) (hg _) _ (hn _)
include ha hb hc hl hm hn hg in
theorem dl1_ref : val_main_v60 (F := Ideal) a b c l m n g = Merge.dl a b c l m n g l a := by
  funext i
  obtain ⟨t, j, rfl⟩ := at2 i
  pointwise [val_main_v60, val_main_v59, val_main_v58, val_main_v57, val_main_v56, val_main_v55, val_main_v54, val_main_v53, val_main_v52, val_main_v51,
    val_main_v50, val_main_v49, val_main_v48, val_main_v47, val_main_v40, val_main_v38, val_main_v31, val_main_v30, val_main_v29, val_main_v26,
    val_main_cst_8, val_main_cst_10, val_main_cst_11]
  rw [Fin.sum_univ_one, Fin.sum_univ_three, s24, s24, s24, s25, s35, s35, s35]
  exact dl_entry _ _ _ _ _ _ _ (ha _) (hb _) (hc _) (hl _) (hm _) (hn _) (hg _) _ _ (hl _) (ha _)
include ha hb hc hl hm hn hg in
theorem dl2_ref : val_main_v62 (F := Ideal) a b c l m n g = Merge.dl a b c l m n g m b := by
  funext i
  obtain ⟨t, j, rfl⟩ := at2 i
  pointwise [val_main_v62, val_main_v61, val_main_v58, val_main_v57, val_main_v56, val_main_v55, val_main_v54, val_main_v53, val_main_v52, val_main_v51,
    val_main_v50, val_main_v49, val_main_v48, val_main_v47, val_main_v40, val_main_v38, val_main_v31, val_main_v30, val_main_v29, val_main_v26,
    val_main_cst_8, val_main_cst_10, val_main_cst_11]
  rw [Fin.sum_univ_one, Fin.sum_univ_three, s24, s24, s24, s25, s35, s35, s35]
  exact dl_entry _ _ _ _ _ _ _ (ha _) (hb _) (hc _) (hl _) (hm _) (hn _) (hg _) _ _ (hm _) (hb _)
include ha hb hc hl hm hn hg in
theorem dl3_ref : val_main_v64 (F := Ideal) a b c l m n g = Merge.dl a b c l m n g n c := by
  funext i
  obtain ⟨t, j, rfl⟩ := at2 i
  pointwise [val_main_v64, val_main_v63, val_main_v58, val_main_v57, val_main_v56, val_main_v55, val_main_v54, val_main_v53, val_main_v52, val_main_v51,
    val_main_v50, val_main_v49, val_main_v48, val_main_v47, val_main_v40, val_main_v38, val_main_v31, val_main_v30, val_main_v29, val_main_v26,
    val_main_cst_8, val_main_cst_10, val_main_cst_11]
  rw [Fin.sum_univ_one, Fin.sum_univ_three, s24, s24, s24, s25, s35, s35, s35]
  exact dl_entry _ _ _ _ _ _ _ (ha _) (hb _) (hc _) (hl _) (hm _) (hn _) (hg _) _ _ (hn _) (hc _)
end Results

end Cert.Proof.MergeRef

end
-- ==== Proof.MergePre.lean ====
/- Hand-written, untrusted. What the merge's precondition says: every entry of the seven arguments is finite. -/
module

public import proofs.«01_k».proof.Pre_finite9
public import proofs.«01_k».proof.Proof.Pre

@[expose] public section

set_option maxRecDepth 16384

noncomputable section

namespace Cert.Proof.MergePre

open Idealize.ShloMosaic Cert.Pre_finite9 Idealize.ShloMosaic.Pointwise
open Pre (fold_one and_one top_bits entry)

/-- The relations of shapes the precondition's operations need. -/
theorem facts : Cert.Pre_finite9.Facts where
  bcast_S_S2048x256 := by decide
  reducesTo_S2048x256_S_d0_1 := by decide
  h_S_ := by decide

variable [Facts]

/-- The precondition of one array. -/
def all (x : FVec Ideal S2048x256 .f32) : IVec S_ 1 :=
  Host.reduce IntOp.andi (cmpf .olt (Host.absf x) (broadcastInDim S2048x256 ![] Facts.bcast_S_S2048x256 (constant S_ .f32 0x7F800000#32)))
    (constantI S_ 1 1#1) Facts.reducesTo_S2048x256_S_d0_1 Facts.h_S_

theorem all_fin (x : FVec Ideal S2048x256 .f32) (h : all x ix0 = 1#1) (i : S2048x256.Idx) : x i ≠ (⊤ : EReal) ∧ x i ≠ (⊥ : EReal) := by
  rw [all, Host.reduce_eq_fold] at h
  have := fold_one _ _ h i (Finset.mem_filter.mpr ⟨Finset.mem_univ _, Subsingleton.elim _ _⟩)
  pointwise [] at this
  refine entry (x i) ?_
  have h2 : FloatOps.absf (x i) < Ideal.ofBits FTy.f32 2139095040#32 := by
    by_contra hn
    rw [decide_eq_false hn] at this
    exact absurd this (by decide)
  exact lt_of_lt_of_eq h2 top_bits

theorem decode (x0 x1 x2 x3 x4 x5 x6 : FVec Ideal S2048x256 .f32) (h : fn (F := Ideal) x0 x1 x2 x3 x4 x5 x6 = fun _ => 1#1) :
    (∀ i, x0 i ≠ (⊤ : EReal) ∧ x0 i ≠ (⊥ : EReal)) ∧ (∀ i, x1 i ≠ (⊤ : EReal) ∧ x1 i ≠ (⊥ : EReal)) ∧ (∀ i, x2 i ≠ (⊤ : EReal) ∧ x2 i ≠ (⊥ : EReal))
      ∧ (∀ i, x3 i ≠ (⊤ : EReal) ∧ x3 i ≠ (⊥ : EReal)) ∧ (∀ i, x4 i ≠ (⊤ : EReal) ∧ x4 i ≠ (⊥ : EReal)) ∧ (∀ i, x5 i ≠ (⊤ : EReal) ∧ x5 i ≠ (⊥ : EReal))
      ∧ (∀ i, x6 i ≠ (⊤ : EReal) ∧ x6 i ≠ (⊥ : EReal)) := by
  have h' : IntOp.andi (IntOp.andi (IntOp.andi (IntOp.andi (IntOp.andi (IntOp.andi (all x0 ix0) (all x1 ix0)) (all x2 ix0)) (all x3 ix0)) (all x4 ix0))
    (all x5 ix0)) (all x6 ix0) = 1#1 := congrFun h ix0
  obtain ⟨h', h6⟩ := and_one _ _ h'
  obtain ⟨h', h5⟩ := and_one _ _ h'
  obtain ⟨h', h4⟩ := and_one _ _ h'
  obtain ⟨h', h3⟩ := and_one _ _ h'
  obtain ⟨h', h2⟩ := and_one _ _ h'
  obtain ⟨h0, h1⟩ := and_one _ _ h'
  exact ⟨all_fin x0 h0, all_fin x1 h1, all_fin x2 h2, all_fin x3 h3, all_fin x4 h4, all_fin x5 h5, all_fin x6 h6⟩

end Cert.Proof.MergePre

end
-- ==== Proof.GdnSpec.lean ====
/- Hand-written, untrusted. The delta rule's inputs — four taps, the gate x·σ(x), heads scaled to unit length — and their gradients. -/
module

public import proofs.«01_k».proof.Proof.ConvSpec

@[expose] public section

noncomputable section

namespace Cert.Proof.Gdn

open Idealize.ShloMosaic Idealize.ShloMosaic.Pointwise Shift
open Conv (at')

/-- Positions against columns. -/
abbrev A := (⟨2, ![2048, 1536]⟩ : Shape).Idx → EReal
/-- Taps against columns. -/
abbrev W := (⟨2, ![4, 1536]⟩ : Shape).Idx → EReal
/-- One row of a head. -/
abbrev Row := Fin 128 → EReal

/-- Four positions of a column under the four taps. -/
def conv (u : Col) (w : Fin 4 → EReal) : Col := fun t =>
  u t * w 3 + dn 3 (fun s => u s * w 0) t + dn 2 (fun s => u s * w 1) t + dn 1 (fun s => u s * w 2) t
/-- What a column gets back from the convolution's cotangent. -/
def vnoc (g : Col) (w : Fin 4 → EReal) : Col := fun t =>
  up 1 (fun s => g s * w 2) t + up 2 (fun s => g s * w 1) t + up 3 (fun s => g s * w 0) t + g t * w 3
/-- What a tap gets back. -/
def taps (u g : Col) (r : Fin 4) : EReal := ∑ t : Fin 2048, dn (3 - r.val) u t * g t

/-- A head's row after the convolution and the gate. -/
def act (x : Fin 128 → Col) (w : Fin 128 → Fin 4 → EReal) (t : Fin 2048) : Row := fun l => conv (x l) (w l) t * Ideal.logistic (conv (x l) (w l) t)
/-- A row's squares, summed, and the small constant. -/
def ss (a : Row) : EReal := ∑ l, a l * a l + Ideal.ofBits .f32 0x358637BD#32
/-- The queries' factor; the keys have none. -/
def sc (j : ℕ) : EReal := if j < 4 then Ideal.ofBits .f32 0x3DB504F3#32 else 1
/-- Queries and keys at unit length, the queries scaled; values as they are. -/
def unit (j : ℕ) (a : Row) : Row := fun l => if j < 8 then a l * Ideal.rsqrt (ss a) * sc j else a l
/-- What the length gets back. -/
def pull (j : ℕ) (a d : Row) : EReal :=
  (∑ l, a l * (d l * sc j)) * (Ideal.ofBits .f32 0xBF000000#32 * Ideal.div (Ideal.rsqrt (ss a)) (ss a))
/-- What a row gets back from `unit`. -/
def tinu (j : ℕ) (a d : Row) : Row := fun l =>
  if j < 8 then d l * sc j * Ideal.rsqrt (ss a) + a l * pull j a d + pull j a d * a l else d l
/-- What a number gets back through x·σ(x). -/
def gate (x e : EReal) : EReal := e * Ideal.logistic x + x * e * (Ideal.logistic x * (1 - Ideal.logistic x))

section Head
variable (j : ℕ) (x : Fin 128 → Col) (w : Fin 128 → Fin 4 → EReal) (d : Fin 128 → Col)
/-- One head's output. -/
def fwd (l : Fin 128) : Col := fun t => unit j (act x w t) l
/-- The convolution's cotangent in one head. -/
def back (l : Fin 128) : Col := fun t => gate (conv (x l) (w l) t) (tinu j (act x w t) (fun k => d k t) l)
/-- One head's gradient of the input. -/
def dqh (l : Fin 128) : Col := vnoc (back j x w d l) (w l)
/-- One head's gradient of the taps. -/
def dwh (l : Fin 128) : Fin 4 → EReal := taps (x l) (back j x w d l)
end Head

/-- A head's column of the array. -/
def col (j : ℕ) (h : j < 12) (l : Fin 128) : Fin 1536 := ⟨j * 128 + l.val, by omega⟩
/-- A head's columns. -/
def hd {n : ℕ} (a : (⟨2, ![n, 1536]⟩ : Shape).Idx → EReal) (j : ℕ) (h : j < 12) (l : Fin 128) : Fin n → EReal := at' a (col j h l)
/-- The head of a column. -/
theorem head (q : Fin 1536) : q.val / 128 < 12 := by omega
/-- The lane of a column. -/
def lane (q : Fin 1536) : Fin 128 := ⟨q.val % 128, Nat.mod_lt _ (by decide)⟩

variable (x : A) (w : W) (g : A)
/-- The output. -/
def y : A := fun i => fwd ((i 1).val / 128) (hd x _ (head (i 1))) (hd w _ (head (i 1))) (lane (i 1)) (i 0)
/-- The gradient of the input. -/
def dq : A := fun i => dqh ((i 1).val / 128) (hd x _ (head (i 1))) (hd w _ (head (i 1))) (hd g _ (head (i 1))) (lane (i 1)) (i 0)
/-- The gradient of the taps. -/
def dw : W := fun i => dwh ((i 1).val / 128) (hd x _ (head (i 1))) (hd w _ (head (i 1))) (hd g _ (head (i 1))) (lane (i 1)) (i 0)

theorem head_col (j : ℕ) (h : j < 12) (l : Fin 128) : (col j h l).val / 128 = j := by
  unfold col; show (j * 128 + l.val) / 128 = j; omega
theorem lane_col (j : ℕ) (h : j < 12) (l : Fin 128) : lane (col j h l) = l := by
  unfold lane col; exact Fin.ext (show (j * 128 + l.val) % 128 = l.val by omega)
theorem hd_eq {n : ℕ} (a : (⟨2, ![n, 1536]⟩ : Shape).Idx → EReal) {j k : ℕ} (e : j = k) (h : j < 12) (h' : k < 12) : hd a j h = hd a k h' := by
  subst e; rfl
theorem y_col (j : ℕ) (h : j < 12) (l : Fin 128) (t : Fin 2048) : y x w (ix2 t (col j h l)) = fwd j (hd x j h) (hd w j h) l t := by
  show fwd ((col j h l).val / 128) (hd x _ (head (col j h l))) (hd w _ (head (col j h l))) (lane (col j h l)) t = _
  rw [lane_col]
  congr 1 <;> first | exact head_col j h l | exact hd_eq _ (head_col j h l) _ _
theorem dq_col (j : ℕ) (h : j < 12) (l : Fin 128) (t : Fin 2048) : dq x w g (ix2 t (col j h l)) = dqh j (hd x j h) (hd w j h) (hd g j h) l t := by
  show dqh ((col j h l).val / 128) (hd x _ (head (col j h l))) (hd w _ (head (col j h l))) (hd g _ (head (col j h l))) (lane (col j h l)) t = _
  rw [lane_col]
  congr 1 <;> first | exact head_col j h l | exact hd_eq _ (head_col j h l) _ _
theorem dw_col (j : ℕ) (h : j < 12) (l : Fin 128) (r : Fin 4) : dw x w g (ix2 r (col j h l)) = dwh j (hd x j h) (hd w j h) (hd g j h) l r := by
  show dwh ((col j h l).val / 128) (hd x _ (head (col j h l))) (hd w _ (head (col j h l))) (hd g _ (head (col j h l))) (lane (col j h l)) r = _
  rw [lane_col]
  congr 1 <;> first | exact head_col j h l | exact hd_eq _ (head_col j h l) _ _

end Cert.Proof.Gdn

end
-- ==== Proof.GdnBlock.lean ====
/- Hand-written, untrusted. The calls of the delta rule's inputs: what one block — one head — leaves, column by column. -/
module

public import proofs.«01_k».proof.Proof.Gen.Kernel10Ideal.Frame
public import proofs.«01_k».proof.Proof.GdnSpec
public import Idealize.ShloMosaic.Lib.Pointwise
public import Idealize.ShloMosaic.Lib.WordCmp
public import Idealize.ShloMosaic.Lib.KernelVsHost
public import Idealize.ShloMosaic.Lib.Pipeline.ValueKit

@[expose] public section

set_option maxRecDepth 16384

noncomputable section

namespace Cert.Proof.GdnBlock

open Idealize.ShloMosaic Cert.Kernel10Ideal Cert.Kernel10Ideal.Gen Idealize.ShloMosaic.Pointwise Shift
open Conv (at')

/-- A block's start. -/
theorem hz2 : (![0, 0] : Fin 2 → ℕ) = fun _ => 0 := by decide

/-- An index by its row and its lane. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

/-- A choice of the block's head. -/
theorem pick {α : Type} (j k : ℕ) (hj : j < 12) (hk : k < 12) (u v : α) :
    Scalar.select (Scalar.cmpi .slt (BitVec.ofNat 32 j) (BitVec.ofNat 32 k)) u v = if j < k then u else v := by
  have e : Scalar.cmpi .slt (BitVec.ofNat 32 j) (BitVec.ofNat 32 k) = BitVec.ofBool (decide (j < k)) :=
    WordCmp.cmpi_slt_ofNat (by omega) (by omega)
  rw [e]
  by_cases h : j < k
  · rw [decide_eq_true h, if_pos h]; rfl
  · rw [decide_eq_false h, if_neg h]; rfl

variable (x d : Vec Ideal S2048x128 .f32) (w : Vec Ideal S4x128 .f32)

theorem act2 (r : Fin 2048) (l : Fin 128) : k0_pay2 x w (ix2 r l) = Gdn.act (at' x) (at' w) r l := by
  pointwise [k0_pay2]
  have e := congrArg₂ (· + ·) (congrArg₂ (· + ·) (congrArg (x (ix2 r l) * w (ix2 3 l) + ·)
    (rot_dn 3 (by decide) (fun s => x (ix2 s l) * w (ix2 0 l)) r (Nat.mod_lt _ (by decide))))
    (rot_dn 2 (by decide) (fun s => x (ix2 s l) * w (ix2 1 l)) r (Nat.mod_lt _ (by decide))))
    (rot_dn 1 (by decide) (fun s => x (ix2 s l) * w (ix2 2 l)) r (Nat.mod_lt _ (by decide)))
  exact congrArg (fun z : EReal => z * Ideal.logistic z) e
theorem len3 (r : Fin 2048) (l : Fin 128) : k0_pay3 x w (ix2 r l) = Ideal.rsqrt (Gdn.ss (Gdn.act (at' x) (at' w) r)) := by
  pointwise [k0_pay3]
  simp only [act2]
  rfl
theorem y2 (i : grid0.Coords) (y : S2048x128.Idx) : out0_2 i x w y = Gdn.fwd (i 0).val (at' x) (at' w) (y 1) (y 0) := by
  obtain ⟨r, l, rfl⟩ := rl y
  have hi : (i 0).val < 12 := (i 0).isLt
  unfold out0_2
  rw [View.canon_unit_zero hz2, View.ld_unit_zero (S := S2048x128) hz2, View.ld_unit_zero (S := S4x128) hz2]
  have e : ∀ u v : FVec Ideal S2048x128 .f32, k0_pay1 (BitVec.ofNat 32 (i 0).val) u v (ix2 r l)
      = if (i 0).val < 8 then u (ix2 r l) * v (ix2 r l) * Gdn.sc (i 0).val else u (ix2 r l) := by
    intro u v
    pointwise [k0_pay1]
    exact (pick _ 8 hi (by decide) _ _).trans (by rw [pick _ 4 hi (by decide)]; rfl)
  rw [e, act2, len3]
  rfl

theorem cv8 (r : Fin 2048) (l : Fin 128) : k1_pay8 x w (ix2 r l) = Gdn.conv (at' x l) (at' w l) r := by
  pointwise [k1_pay8, k1_pay1, k1_pay2, k1_pay3, k1_pay4, k1_pay5, k1_pay6, k1_pay7]
  refine congrArg₂ (· + ·) (congrArg₂ (· + ·) (congrArg (x (ix2 r l) * w (ix2 3 l) + ·) ?_) ?_) ?_
  · exact rot_dn 3 (by decide) (fun s => x (ix2 s l) * w (ix2 0 l)) r _
  · exact rot_dn 2 (by decide) (fun s => x (ix2 s l) * w (ix2 1 l)) r _
  · exact rot_dn 1 (by decide) (fun s => x (ix2 s l) * w (ix2 2 l)) r _
theorem sg9 (r : Fin 2048) (l : Fin 128) : k1_pay9 x w (ix2 r l) = Ideal.logistic (Gdn.conv (at' x l) (at' w l) r) := by
  pointwise [k1_pay9]
  rw [cv8]
theorem ds10 (r : Fin 2048) (l : Fin 128) : k1_pay10 x w (ix2 r l) = Ideal.logistic (Gdn.conv (at' x l) (at' w l) r) * (1 - Ideal.logistic (Gdn.conv (at' x l) (at' w l) r)) := by
  pointwise [k1_pay10]
  rw [sg9]
theorem ac11 (r : Fin 2048) (l : Fin 128) : k1_pay11 x w (ix2 r l) = Gdn.act (at' x) (at' w) r l := by
  pointwise [k1_pay11]
  rw [cv8, sg9]
  rfl
theorem sq12 (r : Fin 2048) (l : Fin 128) : k1_pay12 x w (ix2 r l) = Gdn.act (at' x) (at' w) r l * Gdn.act (at' x) (at' w) r l := by
  pointwise [k1_pay12]
  rw [ac11]

theorem raw13 (j : ℕ) (hj : j < 12) (cv sg ds ac sq : FVec Ideal S2048x128 .f32) (r : Fin 2048) (l : Fin 128) (hsq : ∀ k, sq (ix2 r k) = ac (ix2 r k) * ac (ix2 r k)) :
    k1_pay13 (BitVec.ofNat 32 j) d cv sg ds ac sq (ix2 r l)
      = Gdn.tinu j (fun k => ac (ix2 r k)) (fun k => d (ix2 r k)) l * sg (ix2 r l)
        + cv (ix2 r l) * Gdn.tinu j (fun k => ac (ix2 r k)) (fun k => d (ix2 r k)) l * ds (ix2 r l) := by
  pointwise [k1_pay13]
  simp only [pick j 8 hj (by decide), pick j 4 hj (by decide), hsq]
  unfold Gdn.tinu Gdn.pull Gdn.sc Gdn.ss
  by_cases h : j < 8
  · simp only [if_pos h, Fin.sum_univ_one, zero_add]
  · simp only [if_neg h, Finset.sum_const_zero, zero_mul, mul_zero, add_zero]
theorem back24 (i : grid1.Coords) (r : Fin 2048) (l : Fin 128) :
    k1_pay24 i x w d (ix2 r l) = Gdn.back (i 0).val (at' x) (at' w) (at' d) l r := by
  have hi : (i 0).val < 12 := (i 0).isLt
  unfold k1_pay24 k1_pay23 k1_pay22 k1_pay21 k1_pay20 k1_pay19
  rw [View.ld_unit_zero (S := S2048x128) hz2, View.ld_unit_zero (S := S2048x128) hz2, View.ld_unit_zero (S := S4x128) hz2, raw13 d _ hi _ _ _ _ _ r l (fun k => by rw [sq12, ac11])]
  simp only [cv8, sg9, ds10, ac11]
  rfl
theorem dq3 (i : grid1.Coords) (y : S2048x128.Idx) : out1_3 i x w d y = Gdn.dqh (i 0).val (at' x) (at' w) (at' d) (y 1) (y 0) := by
  obtain ⟨r, l, rfl⟩ := rl y
  unfold out1_3
  rw [View.canon_unit_zero hz2]
  have e := back24 x d w i
  pointwise [k1_pay17, k1_pay15, k1_pay16, k1_pay1, k1_pay3, k1_pay5, k1_pay7]
  have f : ∀ (r : Fin 2048) (l : Fin 128), k1_pay13 (BitVec.ofNat 32 (i 0).val) (View.ld d r1_0) (k1_pay19 i x w d) (k1_pay20 i x w d) (k1_pay21 i x w d)
      (k1_pay22 i x w d) (k1_pay23 i x w d) (ix2 r l) = Gdn.back (i 0).val (at' x) (at' w) (at' d) l r := e
  simp only [e, f]
  exact congrArg (· + Gdn.back (i 0).val (at' x) (at' w) (at' d) l r * w (ix2 3 l)) (congrArg₂ (· + ·) (congrArg₂ (· + ·)
    (rot_up 1 2047 (by decide) rfl (fun s => Gdn.back (i 0).val (at' x) (at' w) (at' d) l s * w (ix2 2 l)) r _)
    (rot_up 2 2046 (by decide) rfl (fun s => Gdn.back (i 0).val (at' x) (at' w) (at' d) l s * w (ix2 1 l)) r _))
    (rot_up 3 2045 (by decide) rfl (fun s => Gdn.back (i 0).val (at' x) (at' w) (at' d) l s * w (ix2 0 l)) r _))

/-! ## The taps -/

theorem rows2 : k1_pay2 x = fun y => dn 3 (at' x (y 1)) (y 0) := by
  funext y
  pointwise [k1_pay2]
  exact rot_dn 3 (by decide) (fun s => x (ix2 s (y 1))) (y 0) _
theorem rows4 : k1_pay4 x = fun y => dn 2 (at' x (y 1)) (y 0) := by
  funext y
  pointwise [k1_pay4]
  exact rot_dn 2 (by decide) (fun s => x (ix2 s (y 1))) (y 0) _
theorem rows6 : k1_pay6 x = fun y => dn 1 (at' x (y 1)) (y 0) := by
  funext y
  pointwise [k1_pay6]
  exact rot_dn 1 (by decide) (fun s => x (ix2 s (y 1))) (y 0) _
theorem mid (b : BitVec 32) (u cv sg ds ac sq : FVec Ideal S2048x128 .f32) (r : Fin 4) (l : Fin 128) : k1_pay14 b d u cv sg ds ac sq (ix2 r l)
    = if _h : r.val < 3 then if _h : r.val < 2 then 0 else ∑ t, u (ix2 t l) * k1_pay13 b d cv sg ds ac sq (ix2 t l) else 0 := by
  pointwise [k1_pay14]
theorem ends (u v b : FVec Ideal S2048x128 .f32) (a : FVec Ideal S4x128 .f32) (r : Fin 4) (l : Fin 128) : k1_pay18 x u v b a (ix2 r l)
    = (((a (ix2 r l) + if _h : r.val < 2 then if _h : r.val < 1 then 0 else ∑ t, v (ix2 t l) * b (ix2 t l) else 0)
      + if _h : r.val < 1 then ∑ t, u (ix2 t l) * b (ix2 t l) else 0) + if _h : r.val < 3 then 0 else ∑ t, x (ix2 t l) * b (ix2 t l)) := by
  pointwise [k1_pay18]
theorem dw4 (i : grid1.Coords) (y : S4x128.Idx) : out1_4 i x w d y = Gdn.dwh (i 0).val (at' x) (at' w) (at' d) (y 1) (y 0) := by
  obtain ⟨r, l, rfl⟩ := rl y
  unfold out1_4
  have e := back24 x d w i
  have f : ∀ (r : Fin 2048) (l : Fin 128), k1_pay13 (BitVec.ofNat 32 (i 0).val) (View.ld d r1_0) (k1_pay19 i x w d) (k1_pay20 i x w d) (k1_pay21 i x w d)
      (k1_pay22 i x w d) (k1_pay23 i x w d) (ix2 r l) = Gdn.back (i 0).val (at' x) (at' w) (at' d) l r := e
  rw [View.canon_unit_zero hz2, ends, mid]
  simp only [e, f]
  rw [View.ld_unit_zero (S := S2048x128) hz2, rows2, rows4, rows6]
  unfold Gdn.dwh Gdn.taps
  match r with
  | ⟨0, _⟩ => simp
  | ⟨1, _⟩ => simp
  | ⟨2, _⟩ => simp
  | ⟨3, _⟩ => simp; rfl

end Cert.Proof.GdnBlock

end
-- ==== Proof.GdnArrays.lean ====
/- Hand-written, untrusted. What the two calls of the delta rule's inputs leave in their arrays. -/
module

public import proofs.«01_k».proof.Proof.GdnBlock

@[expose] public section

set_option maxRecDepth 16384

noncomputable section

namespace Cert.Proof.GdnArrays

open Idealize.ShloMosaic Idealize.ShloMosaic.TcCoe Cert.Kernel10Ideal Cert.Kernel10Ideal.Gen Idealize.ShloMosaic.Pointwise Gdn
open Conv (at')

/-- Equal values in two places. -/
theorem same2 {α β γ : Type} (f : α → β → γ) {a a' : α} {b b' : β} (ha : a = a') (hb : b = b') : f a b = f a' b' := by rw [ha, hb]
/-- Equal values in three places. -/
theorem same3 {α β γ δ : Type} (f : α → β → γ → δ) {a a' : α} {b b' : β} {d d' : γ} (ha : a = a') (hb : b = b') (hd : d = d') : f a b d = f a' b' d' := by
  rw [ha, hb, hd]

/-- The buffers at a call's entry. -/
abbrev At := (c : Dev nD) → (b : Ref sig .tc) → Buf (Elt Ideal) ((c : Thread nD τ).loc b)
variable (V : At) (c : Dev nD)

theorem i0 : ∀ t : Fin cfg0.N, win0_0.index t = ![0, (grid0.coords t 0).val] ∧ win0_1.index t = ![0, (grid0.coords t 0).val] ∧ win0_2.index t = ![0, (grid0.coords t 0).val] :=
  (by decide +kernel : ∀ t : Fin grid0.N, _)
theorem lt0 (t : Fin cfg0.N) : (grid0.coords t 0).val < 12 := (grid0.coords t 0).isLt
theorem i1 : ∀ t : Fin cfg1.N, win1_0.index t = ![0, (grid1.coords t 0).val] ∧ win1_1.index t = ![0, (grid1.coords t 0).val] ∧ win1_2.index t = ![0, (grid1.coords t 0).val] ∧ win1_3.index t = ![0, (grid1.coords t 0).val] ∧ win1_4.index t = ![0, (grid1.coords t 0).val] :=
  (by decide +kernel : ∀ t : Fin grid1.N, _)
theorem lt1 (t : Fin cfg1.N) : (grid1.coords t 0).val < 12 := (grid1.coords t 0).isLt
theorem x0 (t : Fin cfg0.N) : at' (iblk0 V c 0 t) = hd (V c main_arg0) _ (lt0 t) := by
  have e : win0_0.index t = ![0, (grid0.coords t 0).val] := (i0 t).1
  funext l s
  unfold hd at' col
  blk_point [iblk0, e]
theorem w0 (t : Fin cfg0.N) : at' (iblk0 V c 1 t) = hd (V c main_arg1) _ (lt0 t) := by
  have e : win0_1.index t = ![0, (grid0.coords t 0).val] := (i0 t).2.1
  funext l s
  unfold hd at' col
  blk_point [iblk0, e]
theorem x1 (t : Fin cfg1.N) : at' (iblk1 V c 0 t) = hd (V c main_arg0) _ (lt1 t) := by
  have e : win1_0.index t = ![0, (grid1.coords t 0).val] := (i1 t).1
  funext l s
  unfold hd at' col
  blk_point [iblk1, e]
theorem w1 (t : Fin cfg1.N) : at' (iblk1 V c 1 t) = hd (V c main_arg1) _ (lt1 t) := by
  have e : win1_1.index t = ![0, (grid1.coords t 0).val] := (i1 t).2.1
  funext l s
  unfold hd at' col
  blk_point [iblk1, e]
theorem g1 (t : Fin cfg1.N) : at' (iblk1 V c 2 t) = hd (V c main_arg2) _ (lt1 t) := by
  have e : win1_2.index t = ![0, (grid1.coords t 0).val] := (i1 t).2.2.1
  funext l s
  unfold hd at' col
  blk_point [iblk1, e]
theorem o0_2 (t : Fin cfg0.N) (y : S2048x128.Idx) : (win0_2.blk t).view.emb y = ix2 (y 0) (col _ (lt0 t) (y 1)) := by
  have e : win0_2.index t = ![0, (grid0.coords t 0).val] := (i0 t).2.2
  refine funext fun a => Fin.ext ?_
  match a with
  | ⟨0, _⟩ => blk_simp [e]; rfl
  | ⟨1, _⟩ => blk_simp [e]; rfl
theorem y_arr : (dat0 V c).arrAt 2 cfg0.N = Gdn.y (V c main_arg0) (V c main_arg1) := by
  refine (dat0 V c).arrAt_eq_of_covers 2 _ (by decide +kernel) fun t hf y => ?_
  blk_simp
  rw [after0_2, GdnBlock.y2, o0_2]
  exact (same2 (fun a b => Gdn.fwd (grid0.coords t 0).val a b (y 1) (y 0)) (x0 V c t) (w0 V c t)).trans
    (Gdn.y_col (V c main_arg0) (V c main_arg1) _ (lt0 t) (y 1) (y 0)).symm
theorem o1_3 (t : Fin cfg1.N) (y : S2048x128.Idx) : (win1_3.blk t).view.emb y = ix2 (y 0) (col _ (lt1 t) (y 1)) := by
  have e : win1_3.index t = ![0, (grid1.coords t 0).val] := (i1 t).2.2.2.1
  refine funext fun a => Fin.ext ?_
  match a with
  | ⟨0, _⟩ => blk_simp [e]; rfl
  | ⟨1, _⟩ => blk_simp [e]; rfl
theorem dq_arr : (dat1 V c).arrAt 3 cfg1.N = Gdn.dq (V c main_arg0) (V c main_arg1) (V c main_arg2) := by
  refine (dat1 V c).arrAt_eq_of_covers 3 _ (by decide +kernel) fun t hf y => ?_
  blk_simp
  rw [after1_3, GdnBlock.dq3, o1_3]
  exact (same3 (fun a b d => Gdn.dqh (grid1.coords t 0).val a b d (y 1) (y 0)) (x1 V c t) (w1 V c t) (g1 V c t)).trans
    (Gdn.dq_col (V c main_arg0) (V c main_arg1) (V c main_arg2) _ (lt1 t) (y 1) (y 0)).symm
theorem o1_4 (t : Fin cfg1.N) (y : S4x128.Idx) : (win1_4.blk t).view.emb y = ix2 (y 0) (col _ (lt1 t) (y 1)) := by
  have e : win1_4.index t = ![0, (grid1.coords t 0).val] := (i1 t).2.2.2.2
  refine funext fun a => Fin.ext ?_
  match a with
  | ⟨0, _⟩ => blk_simp [e]; rfl
  | ⟨1, _⟩ => blk_simp [e]; rfl
theorem dw_arr : (dat1 V c).arrAt 4 cfg1.N = Gdn.dw (V c main_arg0) (V c main_arg1) (V c main_arg2) := by
  refine (dat1 V c).arrAt_eq_of_covers 4 _ (by decide +kernel) fun t hf y => ?_
  blk_simp
  rw [after1_4, GdnBlock.dw4, o1_4]
  exact (same3 (fun a b d => Gdn.dwh (grid1.coords t 0).val a b d (y 1) (y 0)) (x1 V c t) (w1 V c t) (g1 V c t)).trans
    (Gdn.dw_col (V c main_arg0) (V c main_arg1) (V c main_arg2) _ (lt1 t) (y 1) (y 0)).symm

end Cert.Proof.GdnArrays

end
-- ==== Proof.GdnRun.lean ====
/- Hand-written, untrusted. The delta rule's inputs, run: the three results of the kernel program as functions of the
   three arguments. -/
module

public import proofs.«01_k».proof.Proof.GdnArrays
public import proofs.«01_k».proof.Proof.Gen.Kernel10Ideal.Frame

@[expose] public section

set_option maxRecDepth 16384

noncomputable section

namespace Cert.Proof.GdnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel10Ideal Cert.Kernel10Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev x : Gdn.A := m ((c.tc : Thread nD τ).loc main_arg0)
abbrev w : Gdn.W := m ((c.tc : Thread nD τ).loc main_arg1)
abbrev g : Gdn.A := m ((c.tc : Thread nD τ).loc main_arg2)

/-! ## The results -/

theorem e0_at : W1 m ρ c (Proc.devRef .tc main_v0) = Gdn.y (x m c) (w m c) := by
  refine (W1_arr m ρ c 2).trans ((GdnArrays.y_arr (V0 m ρ) c).trans ?_)
  rfl
theorem e0_end : W3 m ρ c (Proc.devRef .tc main_v0) = Gdn.y (x m c) (w m c) :=
  (W3_of m ρ c main_v0 (by decide)).trans ((W2_of m ρ c main_v0 (by decide)).trans (e0_at m ρ c))
theorem e1_at : W2 m ρ c (Proc.devRef .tc main_v1_0) = Gdn.dq (x m c) (w m c) (g m c) := by
  refine (W2_arr m ρ c 3).trans ((GdnArrays.dq_arr (V1 m ρ) c).trans ?_)
  rw [show V1 m ρ c main_arg0 = x m c from W1_args m ρ c main_arg0 (by decide),
    show V1 m ρ c main_arg1 = w m c from W1_args m ρ c main_arg1 (by decide),
    show V1 m ρ c main_arg2 = g m c from W1_args m ρ c main_arg2 (by decide)]
theorem e1_end : W3 m ρ c (Proc.devRef .tc main_v1_0) = Gdn.dq (x m c) (w m c) (g m c) :=
  (W3_of m ρ c main_v1_0 (by decide)).trans (e1_at m ρ c)
theorem e2_at : W2 m ρ c (Proc.devRef .tc main_v1_1) = Gdn.dw (x m c) (w m c) (g m c) := by
  refine (W2_arr m ρ c 4).trans ((GdnArrays.dw_arr (V1 m ρ) c).trans ?_)
  rw [show V1 m ρ c main_arg0 = x m c from W1_args m ρ c main_arg0 (by decide),
    show V1 m ρ c main_arg1 = w m c from W1_args m ρ c main_arg1 (by decide),
    show V1 m ρ c main_arg2 = g m c from W1_args m ρ c main_arg2 (by decide)]
theorem e2_end : W3 m ρ c (Proc.devRef .tc main_v1_1) = Gdn.dw (x m c) (w m c) (g m c) :=
  (W3_of m ρ c main_v1_1 (by decide)).trans (e2_at m ρ c)

set_option backward.isDefEq.respectTransparency.types false in
/-- From any memory the program runs to its end with the three results at these values. -/
theorem run : θ_run defs (onTc (τ := τ) (main (F := Ideal))) ⟨m, fun _ => 0, ρ⟩ (fun r => ∀ c : Dev nD,
      r.2.mem ((c.tc : Thread nD τ).loc main_v0) = Gdn.y (x m c) (w m c)
      ∧ r.2.mem ((c.tc : Thread nD τ).loc main_v1_0) = Gdn.dq (x m c) (w m c) (g m c)
      ∧ r.2.mem ((c.tc : Thread nD τ).loc main_v1_1) = Gdn.dw (x m c) (w m c) (g m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s e _ c =>
      ⟨(e c _ (mem_uc main_v0 (by decide))).trans (e0_end m ρ c),
       (e c _ (mem_uc main_v1_0 (by decide))).trans (e1_end m ρ c),
       (e c _ (mem_uc main_v1_1 (by decide))).trans (e2_end m ρ c)⟩)

end Cert.Proof.GdnRun

end
-- ==== Proof.GdnRef.lean ====
/- Hand-written, untrusted. The reference program of the delta rule's inputs, read entry by entry. -/
module

public import proofs.«01_k».proof.Proof.GdnSpec
public import proofs.«01_k».proof.Proof.Gen.Reference10Ideal.Read
public import Idealize.ShloMosaic.Lib.KernelVsHost

@[expose] public section

set_option maxRecDepth 16384

noncomputable section

namespace Cert.Proof.GdnRef

open Idealize.ShloMosaic Cert.Reference10Ideal Cert.Reference10Ideal.Gen Cert.Reference10Ideal.Read Idealize.ShloMosaic.Pointwise
open Gdn Shift
open Conv (at')

variable (x g : A) (w : W)

/-! ## The convolution and the gate -/

/-- The rows shifted by three. -/
theorem s0 (t : Fin 2048) (l : Fin 1536) : val_main_v3 (F := Ideal) x (ix2 t l) = dn 3 (at' x l) t := by
  pointwise [val_main_v3, val_main_v1, val_main_v0, val_main_cst]
  unfold dn at'
  by_cases h : 3 ≤ t.val
  · rw [dif_neg (by omega), if_pos h]
  · rw [dif_pos (by omega), if_neg h]
/-- The rows shifted by two. -/
theorem s1 (t : Fin 2048) (l : Fin 1536) : val_main_v11 (F := Ideal) x (ix2 t l) = dn 2 (at' x l) t := by
  pointwise [val_main_v11, val_main_v1, val_main_v0, val_main_cst]
  unfold dn at'
  by_cases h : 2 ≤ t.val
  · rw [dif_neg (by omega), if_pos h]
    exact congrArg (fun s => x (ix2 s l)) (Fin.ext (by show 1 + t.val - 3 = t.val - 2; omega))
  · rw [dif_pos (by omega), if_neg h]
/-- The rows shifted by one. -/
theorem s2 (t : Fin 2048) (l : Fin 1536) : val_main_v18 (F := Ideal) x (ix2 t l) = dn 1 (at' x l) t := by
  pointwise [val_main_v18, val_main_v1, val_main_v0, val_main_cst]
  unfold dn at'
  by_cases h : 1 ≤ t.val
  · rw [dif_neg (by omega), if_pos h]
    exact congrArg (fun s => x (ix2 s l)) (Fin.ext (by show 2 + t.val - 3 = t.val - 1; omega))
  · rw [dif_pos (by omega), if_neg h]
/-- The rows as they are. -/
theorem s3 (t : Fin 2048) (l : Fin 1536) : val_main_v25 (F := Ideal) x (ix2 t l) = x (ix2 t l) := by
  pointwise [val_main_v25, val_main_v1, val_main_v0, val_main_cst]

/-- The convolution. -/
theorem cv (t : Fin 2048) (l : Fin 1536) : val_main_v31 (F := Ideal) x w (ix2 t l) = conv (at' x l) (at' w l) t := by
  have e : val_main_v31 (F := Ideal) x w (ix2 t l) = (((0 + val_main_v3 (F := Ideal) x (ix2 t l) * w (ix2 0 l))
      + val_main_v11 (F := Ideal) x (ix2 t l) * w (ix2 1 l)) + val_main_v18 (F := Ideal) x (ix2 t l) * w (ix2 2 l)) + val_main_v25 (F := Ideal) x (ix2 t l) * w (ix2 3 l) := by
    pointwise [val_main_v31, val_main_v30, val_main_v29, val_main_v28, val_main_v27, val_main_v26, val_main_v24, val_main_v23, val_main_v22, val_main_v21, val_main_v20, val_main_v19,
      val_main_v17, val_main_v16, val_main_v15, val_main_v14, val_main_v13, val_main_v12, val_main_v10, val_main_v9, val_main_v8, val_main_v7, val_main_v6, val_main_v5, val_main_v4,
      val_main_cst_1]
  rw [e, s0, s1, s2, s3, dn_mul, dn_mul, dn_mul, zero_add, add_comm, ← add_assoc, ← add_assoc]
  rfl
theorem sg (t : Fin 2048) (l : Fin 1536) : val_main_v32_2 (F := Ideal) x w (ix2 t l) = Ideal.logistic (conv (at' x l) (at' w l) t) := by
  pointwise [val_main_v32_2, val_main_call0_v4, val_main_call0_v3, val_main_call0_v2, val_main_call0_v1, val_main_call0_v0, val_main_call0_cst, val_main_call0_cst_0]
  rw [cv]
  rfl
theorem ac (t : Fin 2048) (j : ℕ) (h : j < 12) (l : Fin 128) : val_main_v32_0 (F := Ideal) x w (ix2 t (col j h l)) = act (hd x j h) (hd w j h) t l := by
  pointwise [val_main_v32_0]
  rw [cv, sg]
  rfl
theorem qh (t : Fin 2048) (h : Fin 4) (l : Fin 128) : val_main_v36 (F := Ideal) x w (ix3 t h l) = act (hd x h.val (by omega)) (hd w h.val (by omega)) t l := by
  pointwise [val_main_v36, val_main_v33]
  exact ac x w t h.val (by omega) l
theorem far (h : Fin 4) (l : Fin 128) (e : 512 + (h.val * 128 + l.val) < 1536) : (⟨512 + (h.val * 128 + l.val), e⟩ : Fin 1536) = col (4 + h.val) (by omega) l :=
  Fin.ext (by show 512 + (h.val * 128 + l.val) = (4 + h.val) * 128 + l.val; omega)
theorem kh (t : Fin 2048) (h : Fin 4) (l : Fin 128) : val_main_v37 (F := Ideal) x w (ix3 t h l) = act (hd x (4 + h.val) (by omega)) (hd w (4 + h.val) (by omega)) t l := by
  pointwise [val_main_v37, val_main_v34]
  rw [far]
  exact ac x w t (4 + h.val) (by omega) l

/-! ## The heads at unit length, and what they get back -/

theorem qs (t : Fin 2048) (h : Fin 4) (u : Fin 1) : val_main_v42 (F := Ideal) x w (ix3 t h u) = ss (act (hd x h.val (by omega)) (hd w h.val (by omega)) t) := by
  pointwise [val_main_v42, val_main_v41, val_main_v40, val_main_v39, val_main_v38, val_main_cst_2, val_main_cst_3]
  simp only [qh]
  rfl
theorem ks (t : Fin 2048) (h : Fin 4) (u : Fin 1) : val_main_v55 (F := Ideal) x w (ix3 t h u) = ss (act (hd x (4 + h.val) (by omega)) (hd w (4 + h.val) (by omega)) t) := by
  pointwise [val_main_v55, val_main_v54, val_main_v53, val_main_v52, val_main_v51, val_main_cst_6, val_main_cst_7]
  simp only [kh]
  rfl
theorem qy (t : Fin 2048) (h : Fin 4) (l : Fin 128) : val_main_v50 (F := Ideal) x w (ix3 t h l) = unit h.val (act (hd x h.val (by omega)) (hd w h.val (by omega)) t) l := by
  pointwise [val_main_v50, val_main_v49, val_main_v48, val_main_v47, val_main_v43, val_main_cst_5]
  rw [qh, qs]
  unfold unit sc
  rw [if_pos (by omega), if_pos h.isLt]
theorem ky (t : Fin 2048) (h : Fin 4) (l : Fin 128) : val_main_v61 (F := Ideal) x w (ix3 t h l) = unit (4 + h.val) (act (hd x (4 + h.val) (by omega)) (hd w (4 + h.val) (by omega)) t) l := by
  pointwise [val_main_v61, val_main_v60, val_main_v56]
  rw [kh, ks]
  unfold unit sc
  rw [if_pos (by omega), if_neg (by omega), mul_one]
/-- A cotangent's row in one head. -/
abbrev row (j : ℕ) (h : j < 12) (t : Fin 2048) : Row := fun k => hd g j h k t
theorem qd (t : Fin 2048) (h : Fin 4) (l : Fin 128) : val_main_v95 (F := Ideal) x w g (ix3 t h l)
    = tinu h.val (act (hd x h.val (by omega)) (hd w h.val (by omega)) t) (row g h.val (by omega) t) l := by
  pointwise [val_main_v95, val_main_v94, val_main_v93, val_main_v92, val_main_v91, val_main_v90, val_main_v89, val_main_v88, val_main_v87, val_main_v86, val_main_v85,
    val_main_v84, val_main_v83, val_main_v82, val_main_v69, val_main_v65, val_main_v46, val_main_v45, val_main_v44, val_main_v43, val_main_cst_4, val_main_cst_11, val_main_cst_12, val_main_cst_13]
  simp only [Fin.sum_univ_one, qh, qs]
  unfold tinu pull sc
  simp only [if_pos h.isLt, if_pos (show h.val < 8 by omega)]
  rfl
theorem kd (t : Fin 2048) (h : Fin 4) (l : Fin 128) : val_main_v81 (F := Ideal) x w g (ix3 t h l)
    = tinu (4 + h.val) (act (hd x (4 + h.val) (by omega)) (hd w (4 + h.val) (by omega)) t) (row g (4 + h.val) (by omega) t) l := by
  pointwise [val_main_v81, val_main_v80, val_main_v79, val_main_v78, val_main_v77, val_main_v76, val_main_v75, val_main_v74, val_main_v73, val_main_v72, val_main_v71,
    val_main_v70, val_main_v68, val_main_v66, val_main_v59, val_main_v58, val_main_v57, val_main_v56, val_main_cst_8, val_main_cst_9, val_main_cst_10]
  simp only [Fin.sum_univ_one, kh, ks, far]
  unfold tinu pull sc
  simp only [if_neg (show ¬ 4 + h.val < 4 by omega), if_pos (show 4 + h.val < 8 by omega), mul_one]
  rfl

/-! ## All heads beside one another -/

theorem two (j : ℕ) (h : j < 12) (l : Fin 128) : (col j h l).val = j * 128 + l.val := rfl
/-- Which part a head's column lies in. -/
theorem part (f : (j : ℕ) → j < 12 → Fin 128 → EReal) (j : ℕ) (h : j < 12) (l : Fin 128)
    (q : (Fin 4 → Fin 128 → EReal)) (k : Fin 4 → Fin 128 → EReal) (v : Fin 1536 → EReal)
    (hq : ∀ (a : Fin 4) (b : Fin 128), q a b = f a.val (by omega) b) (hk : ∀ (a : Fin 4) (b : Fin 128), k a b = f (4 + a.val) (by omega) b)
    (hv : ¬ j < 8 → v (col j h l) = f j h l)
    (p1 : ∀ _ : (col j h l).val < 512, (col j h l).val / 128 < 4) (p2 : (col j h l).val % 128 < 128)
    (p3 : ∀ _ : ¬ (col j h l).val < 512, ∀ _ : (col j h l).val - 512 < 512, ((col j h l).val - 512) / 128 < 4) (p4 : ((col j h l).val - 512) % 128 < 128)
    (p5 : ∀ _ : ¬ (col j h l).val < 512, ∀ _ : ¬ (col j h l).val - 512 < 512, 1024 + ((col j h l).val - 512 - 512) < 1536) :
    (if e : (col j h l).val < 512 then q ⟨(col j h l).val / 128, p1 e⟩ ⟨(col j h l).val % 128, p2⟩
      else if e' : (col j h l).val - 512 < 512 then k ⟨((col j h l).val - 512) / 128, p3 e e'⟩ ⟨((col j h l).val - 512) % 128, p4⟩
      else v ⟨1024 + ((col j h l).val - 512 - 512), p5 e e'⟩) = f j h l := by
  have hf : ∀ (a b : ℕ) (ha : a < 12) (hb : b < 12) (c d : Fin 128), a = b → c = d → f a ha c = f b hb d := by
    intro a b ha hb c d e e'
    subst e e'
    rfl
  have hc := two j h l
  by_cases e : (col j h l).val < 512
  · rw [dif_pos e, hq]
    exact hf _ _ _ _ _ _ (by show (col j h l).val / 128 = j; omega) (Fin.ext (by show (col j h l).val % 128 = l.val; omega))
  · rw [dif_neg e]
    by_cases e' : (col j h l).val - 512 < 512
    · rw [dif_pos e', hk]
      exact hf _ _ _ _ _ _ (by show 4 + ((col j h l).val - 512) / 128 = j; omega) (Fin.ext (by show ((col j h l).val - 512) % 128 = l.val; omega))
    · rw [dif_neg e', ← hv (by omega)]
      exact congrArg v (Fin.ext (by show 1024 + ((col j h l).val - 512 - 512) = (col j h l).val; omega))

theorem yy (t : Fin 2048) (j : ℕ) (h : j < 12) (l : Fin 128) : val_main_v64 (F := Ideal) x w (ix2 t (col j h l)) = unit j (act (hd x j h) (hd w j h) t) l := by
  pointwise [val_main_v64, val_main_v62, val_main_v63, val_main_v35]
  refine part (fun j h l => unit j (act (hd x j h) (hd w j h) t) l) j h l (fun a b => val_main_v50 (F := Ideal) x w (ix3 t a b))
    (fun a b => val_main_v61 (F := Ideal) x w (ix3 t a b)) (fun b => val_main_v32_0 (F := Ideal) x w (ix2 t b)) (qy x w t) (ky x w t) (fun e => ?_) _ _ _ _ _
  unfold unit
  rw [if_neg e]
  exact ac x w t j h l
theorem dd (t : Fin 2048) (j : ℕ) (h : j < 12) (l : Fin 128) : val_main_v98 (F := Ideal) x w g (ix2 t (col j h l)) = tinu j (act (hd x j h) (hd w j h) t) (row g j h t) l := by
  pointwise [val_main_v98, val_main_v97, val_main_v96, val_main_v67]
  refine part (fun j h l => tinu j (act (hd x j h) (hd w j h) t) (row g j h t) l) j h l (fun a b => val_main_v95 (F := Ideal) x w g (ix3 t a b))
    (fun a b => val_main_v81 (F := Ideal) x w g (ix3 t a b)) (fun b => g (ix2 t b)) (qd x g w t) (kd x g w t) (fun e => ?_) _ _ _ _ _
  unfold tinu
  rw [if_neg e]
  rfl
theorem bk (t : Fin 2048) (j : ℕ) (h : j < 12) (l : Fin 128) : val_main_v99 (F := Ideal) x w g (ix2 t (col j h l)) = back j (hd x j h) (hd w j h) (hd g j h) l t := by
  pointwise [val_main_v99, val_main_call1_v0, val_main_call1_v1, val_main_call1_v2, val_main_v32_1, val_main_call0_v7, val_main_call0_v6, val_main_call0_cst_1]
  rw [dd, sg, cv]
  rfl

theorem splits (q : Fin 1536) : ∃ (j : ℕ) (h : j < 12) (l : Fin 128), q = col j h l :=
  ⟨q.val / 128, head q, lane q, Fin.ext (by show q.val = q.val / 128 * 128 + q.val % 128; omega)⟩

theorem y_ref : val_main_v64 (F := Ideal) x w = Gdn.y x w := by
  funext i
  obtain ⟨t, q, rfl⟩ : ∃ (t : Fin 2048) (l : Fin 1536), i = ix2 t l := ⟨i 0, i 1, eq_ix2 i⟩
  obtain ⟨j, h, l, rfl⟩ := splits q
  exact (yy x w t j h l).trans (y_col x w j h l t).symm

/-- A row that lies behind its place by `k`, written from the padded rows' start. -/
theorem ahead (f : Col) (k p : ℕ) (e : p + k = 3) (t : Fin 2048) (P : Prop) [Decidable P] (b : P → 3 + t.val - p < 2048) (hP : P ↔ t.val + k < 2048) :
    (if h : P then f ⟨3 + t.val - p, b h⟩ else 0) = up k f t := by
  unfold up
  by_cases h : t.val + k < 2048
  · rw [dif_pos h, dif_pos (hP.mpr h)]
    exact congrArg f (Fin.ext (by show 3 + t.val - p = t.val + k; omega))
  · rw [dif_neg h, dif_neg (fun q => h (hP.mp q))]
theorem vsum (f : Col) (w : Fin 4 → EReal) (t : Fin 2048) :
    (((f t * w 3 + if h : 2 ≤ 3 + t.val ∧ 3 + t.val - 2 < 2048 then f ⟨3 + t.val - 2, h.2⟩ * w 2 else 0)
      + if h : 1 ≤ 3 + t.val ∧ 3 + t.val - 1 < 2048 then f ⟨3 + t.val - 1, h.2⟩ * w 1 else 0)
      + if h : 3 + t.val < 2048 then f ⟨3 + t.val, h⟩ * w 0 else 0) = vnoc f w t := by
  rw [ahead (fun s => f s * w 2) 1 2 rfl t (2 ≤ 3 + t.val ∧ 3 + t.val - 2 < 2048) (fun h => h.2) (by omega),
    ahead (fun s => f s * w 1) 2 1 rfl t (1 ≤ 3 + t.val ∧ 3 + t.val - 1 < 2048) (fun h => h.2) (by omega),
    show (if h : 3 + t.val < 2048 then f ⟨3 + t.val, h⟩ * w 0 else 0) = up 3 (fun s => f s * w 0) t from
      ahead (fun s => f s * w 0) 3 0 rfl t (3 + t.val < 2048) (fun h => h) (by omega)]
  unfold vnoc
  ac_rfl

/-- The gradient of the input, from the convolution's cotangent. -/
theorem vn (t : Fin 2048) (q : Fin 1536) : val_main_v143 (F := Ideal) x w g (ix2 t q) = vnoc (fun s => val_main_v99 (F := Ideal) x w g (ix2 s q)) (at' w q) t := by
  pointwise [val_main_v143, val_main_v141, val_main_v140, val_main_v135, val_main_v134, val_main_v130, val_main_v129, val_main_v124, val_main_v123, val_main_v119, val_main_v118,
    val_main_v113, val_main_v112, val_main_v108, val_main_v104, val_main_v103, val_main_v28, val_main_v27, val_main_v26, val_main_v21, val_main_v20, val_main_v19,
    val_main_v14, val_main_v13, val_main_v12, val_main_v6, val_main_v5, val_main_v4, val_main_cst_17, val_main_cst_21, val_main_cst_25, val_main_cst_29]
  exact vsum (fun s => val_main_v99 (F := Ideal) x w g (ix2 s q)) (at' w q) t
theorem tp (r : Fin 4) (q : Fin 1536) : val_main_v139 (F := Ideal) x w g (ix2 r q) = taps (at' x q) (fun s => val_main_v99 (F := Ideal) x w g (ix2 s q)) r := by
  pointwise [val_main_v139, val_main_v138, val_main_v137, val_main_v136, val_main_v133, val_main_v132, val_main_v131, val_main_v128, val_main_v127, val_main_v126, val_main_v125,
    val_main_v122, val_main_v121, val_main_v120, val_main_v117, val_main_v116, val_main_v115, val_main_v114, val_main_v111, val_main_v110, val_main_v109, val_main_v107, val_main_v106,
    val_main_v105, val_main_v102, val_main_v101, val_main_v100, val_main_cst_14, val_main_cst_15, val_main_cst_16, val_main_cst_18, val_main_cst_19, val_main_cst_20, val_main_cst_22,
    val_main_cst_23, val_main_cst_24, val_main_cst_26, val_main_cst_27, val_main_cst_28]
  unfold taps
  match r with
  | ⟨0, _⟩ =>
    rw [dif_neg (by simp), dif_neg (by simp), dif_neg (by simp), dif_pos (by simp)]
    simp only [Fin.sum_univ_one, zero_add]
    exact Finset.sum_congr rfl fun t _ => congrArg (· * val_main_v99 (F := Ideal) x w g (ix2 t q)) (s0 x t q)
  | ⟨1, _⟩ =>
    rw [dif_neg (by simp), dif_neg (by simp), dif_pos (by simp), dif_neg (by simp)]
    simp only [Fin.sum_univ_one, zero_add, add_zero]
    exact Finset.sum_congr rfl fun t _ => congrArg (· * val_main_v99 (F := Ideal) x w g (ix2 t q)) (s1 x t q)
  | ⟨2, _⟩ =>
    rw [dif_neg (by simp), dif_pos (by simp), dif_neg (by simp), dif_neg (by simp)]
    simp only [Fin.sum_univ_one, zero_add, add_zero]
    exact Finset.sum_congr rfl fun t _ => congrArg (· * val_main_v99 (F := Ideal) x w g (ix2 t q)) (s2 x t q)
  | ⟨3, _⟩ =>
    rw [dif_pos (by simp), dif_neg (by simp), dif_neg (by simp), dif_neg (by simp)]
    simp only [Fin.sum_univ_one, zero_add, add_zero]
    exact Finset.sum_congr rfl fun t _ => congrArg (· * val_main_v99 (F := Ideal) x w g (ix2 t q)) (s3 x t q)

theorem dq_ref : val_main_v143 (F := Ideal) x w g = Gdn.dq x w g := by
  funext i
  obtain ⟨t, q, rfl⟩ : ∃ (t : Fin 2048) (l : Fin 1536), i = ix2 t l := ⟨i 0, i 1, eq_ix2 i⟩
  obtain ⟨j, h, l, rfl⟩ := splits q
  refine (vn x g w t _).trans (Eq.trans ?_ (dq_col x w g j h l t).symm)
  simp only [bk]
  rfl
theorem dw_ref : val_main_v139 (F := Ideal) x w g = Gdn.dw x w g := by
  funext i
  obtain ⟨r, q, rfl⟩ : ∃ (r : Fin 4) (l : Fin 1536), i = ix2 r l := ⟨i 0, i 1, eq_ix2 i⟩
  obtain ⟨j, h, l, rfl⟩ := splits q
  refine (tp x g w r _).trans (Eq.trans ?_ (dw_col x w g j h l r).symm)
  simp only [bk]
  rfl

end Cert.Proof.GdnRef

end
-- ==== Proof.NormSpec.lean ====
/- Hand-written, untrusted. A row divided by its root mean square, what it gets back, and two such norms around a residual sum. -/
module

public import proofs.«01_k».proof.Proof.ConvSpec

@[expose] public section

noncomputable section

namespace Cert.Proof.Norm

open Idealize.ShloMosaic Idealize.ShloMosaic.Pointwise

section Row
variable {n : ℕ} (D : EReal) (a e : Fin n → EReal)
/-- The mean of a row's squares and the small constant; `D` is the row's length. -/
def ms : EReal := Ideal.div (∑ l, a l * a l) D + Ideal.ofBits .f32 0x358637BD#32
/-- What the row is multiplied with. -/
def rs : EReal := Ideal.rsqrt (ms D a)
/-- What the root mean square gets back. -/
def pull : EReal := Ideal.div ((∑ l, a l * e l) * (Ideal.ofBits .f32 0xBF000000#32 * Ideal.div (rs D a) (ms D a))) D
/-- What the row gets back, added to `b`. -/
def back (b : Fin n → EReal) : Fin n → EReal := fun l => b l + a l * pull D a e + pull D a e * a l
end Row

/-- Positions against columns. -/
abbrev A := (⟨2, ![2048, 1024]⟩ : Shape).Idx → EReal
/-- One row of weights. -/
abbrev W := (⟨2, ![1, 1024]⟩ : Shape).Idx → EReal
/-- A row. -/
abbrev Row := Fin 1024 → EReal
/-- The row of an array. -/
abbrev row {n m : ℕ} (a : (⟨2, ![n, m]⟩ : Shape).Idx → EReal) (t : Fin n) : Fin m → EReal := fun l => a (ix2 t l)
/-- A row's length. -/
abbrev D : EReal := Ideal.ofBits .f32 0x44800000#32

section Rows
variable (h y p q g k : Row)
/-- The residual sum. -/
def hr : Row := fun l => h l + y l * rs D y * p l
/-- The second norm. -/
def nr : Row := fun l => hr h y p l * rs D (hr h y p) * q l
/-- The second weight's cotangent in one row. -/
def qr : Row := fun l => hr h y p l * rs D (hr h y p) * k l
/-- The cotangent of the residual sum. -/
def gr : Row := back D (hr h y p) (fun l => k l * q l) (fun l => g l + k l * q l * rs D (hr h y p))
/-- The first weight's cotangent in one row. -/
def pr : Row := fun l => y l * rs D y * gr h y p q g k l
/-- The cotangent of what is normed first. -/
def yr : Row := back D y (fun l => gr h y p q g k l * p l) (fun l => gr h y p q g k l * p l * rs D y)
end Rows

variable (h y : A) (p q : W) (g k : A)
/-- The residual sum. -/
def hn : A := fun i => hr (row h (i 0)) (row y (i 0)) (row p 0) (i 1)
/-- The second norm. -/
def nn : A := fun i => nr (row h (i 0)) (row y (i 0)) (row p 0) (row q 0) (i 1)
/-- The gradient of the residual. -/
def dh : A := fun i => gr (row h (i 0)) (row y (i 0)) (row p 0) (row q 0) (row g (i 0)) (row k (i 0)) (i 1)
/-- The gradient of what is normed first. -/
def dy : A := fun i => yr (row h (i 0)) (row y (i 0)) (row p 0) (row q 0) (row g (i 0)) (row k (i 0)) (i 1)
/-- The gradient of the first weight. -/
def dp : W := fun i => ∑ t, pr (row h t) (row y t) (row p 0) (row q 0) (row g t) (row k t) (i 1)
/-- The gradient of the second weight. -/
def dq : W := fun i => ∑ t, qr (row h t) (row y t) (row p 0) (row k t) (i 1)

end Cert.Proof.Norm

end
-- ==== Proof.NormBlock.lean ====
/- Hand-written, untrusted. The calls of the two norms around a residual sum: what one block of rows leaves, row by row. -/
module

public import proofs.«01_k».proof.Proof.Gen.Kernel11Ideal.Frame
public import proofs.«01_k».proof.Proof.NormSpec
public import Idealize.ShloMosaic.Lib.Pointwise
public import Idealize.ShloMosaic.Lib.Pipeline.ValueKit

@[expose] public section

set_option maxRecDepth 16384

noncomputable section

namespace Cert.Proof.NormBlock

open Idealize.ShloMosaic Cert.Kernel11Ideal Cert.Kernel11Ideal.Gen Idealize.ShloMosaic.Pointwise Norm

/-- A block's start. -/
theorem hz2 : (![0, 0] : Fin 2 → ℕ) = fun _ => 0 := by decide

/-- The index of a row and a column. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

variable (h y : Vec Ideal S512x1024 .f32) (p q : Vec Ideal S1x1024 .f32) (g k : Vec Ideal S512x1024 .f32)

/-! ## Forward -/

theorem f1 (r : Fin 512) (l : Fin 1024) : k0_pay1 h y p (ix2 r l) = hr (row h r) (row y r) (row p 0) l := by
  pointwise [k0_pay1]
  rfl
theorem f2 (r : Fin 512) (l : Fin 1024) : k0_pay2 h y p q (ix2 r l) = nr (row h r) (row y r) (row p 0) (row q 0) l := by
  pointwise [k0_pay2]
  simp only [f1]
  rfl
theorem hn4 (z : S512x1024.Idx) : out0_4 h y p q z = hr (row h (z 0)) (row y (z 0)) (row p 0) (z 1) := by
  obtain ⟨r, l, rfl⟩ := rl z
  unfold out0_4
  rw [View.canon_unit_zero hz2, View.ld_unit_zero (S := S512x1024) hz2, View.ld_unit_zero (S := S512x1024) hz2, View.ld_unit_zero (S := S1x1024) hz2]
  exact f1 h y p r l
theorem nn5 (z : S512x1024.Idx) : out0_5 h y p q z = nr (row h (z 0)) (row y (z 0)) (row p 0) (row q 0) (z 1) := by
  obtain ⟨r, l, rfl⟩ := rl z
  unfold out0_5
  rw [View.canon_unit_zero hz2, View.ld_unit_zero (S := S512x1024) hz2, View.ld_unit_zero (S := S512x1024) hz2, View.ld_unit_zero (S := S1x1024) hz2,
    View.ld_unit_zero (S := S1x1024) hz2]
  exact f2 h y p q r l

/-! ## Backward -/

section Bwd
variable (r : Fin 512) (l : Fin 1024) (u : Fin 1)
theorem b4 : k1_pay4 y (ix2 r u) = ms D (row y r) := by
  pointwise [k1_pay4]
  rfl
theorem b5 : k1_pay5 y (ix2 r u) = rs D (row y r) := by
  pointwise [k1_pay5]
  rw [b4]
  rfl
theorem b6 : k1_pay6 y (ix2 r u) = Ideal.ofBits .f32 0xBF000000#32 * Ideal.div (rs D (row y r)) (ms D (row y r)) := by
  pointwise [k1_pay6]
  rw [b4, b5]
theorem b7 : k1_pay7 y (ix2 r l) = y (ix2 r l) * rs D (row y r) := by
  pointwise [k1_pay7]
  rw [b5]
theorem b8 : k1_pay8 h y p (ix2 r l) = hr (row h r) (row y r) (row p 0) l := by
  pointwise [k1_pay8]
  rw [b7]
  rfl
theorem b9 : k1_pay9 h y p (ix2 r u) = ms D (hr (row h r) (row y r) (row p 0)) := by
  pointwise [k1_pay9]
  simp only [b8]
  rfl
theorem b10 : k1_pay10 h y p (ix2 r u) = rs D (hr (row h r) (row y r) (row p 0)) := by
  pointwise [k1_pay10]
  rw [b9]
  rfl
theorem b11 : k1_pay11 h y p (ix2 r u) = Ideal.ofBits .f32 0xBF000000#32 * Ideal.div (rs D (hr (row h r) (row y r) (row p 0))) (ms D (hr (row h r) (row y r) (row p 0))) := by
  pointwise [k1_pay11]
  rw [b9, b10]
theorem b12 : k1_pay12 h y p k (ix2 u l) = ∑ r, qr (row h r) (row y r) (row p 0) (row k r) l := by
  pointwise [k1_pay12]
  simp only [b8, b10]
  rfl
theorem b13 : k1_pay13 q g k (k1_pay8 h y p) (k1_pay10 h y p) (k1_pay11 h y p) (ix2 r l) = gr (row h r) (row y r) (row p 0) (row q 0) (row g r) (row k r) l := by
  pointwise [k1_pay13]
  simp only [Fin.sum_univ_one, b8, b10, b11]
  rfl
theorem b14 : k1_pay14 q g k (k1_pay8 h y p) (k1_pay10 h y p) (k1_pay11 h y p) (ix2 r l) = gr (row h r) (row y r) (row p 0) (row q 0) (row g r) (row k r) l := by
  pointwise [k1_pay14]
  exact b13 h y p q g k r l
theorem b15 : k1_pay15 q g k (k1_pay7 y) (k1_pay8 h y p) (k1_pay10 h y p) (k1_pay11 h y p) (ix2 u l)
    = ∑ r, pr (row h r) (row y r) (row p 0) (row q 0) (row g r) (row k r) l := by
  pointwise [k1_pay15]
  simp only [b7, b14]
  rfl
theorem b16 : k1_pay16 y p q g k (k1_pay5 y) (k1_pay6 y) (k1_pay8 h y p) (k1_pay10 h y p) (k1_pay11 h y p) (ix2 r l)
    = yr (row h r) (row y r) (row p 0) (row q 0) (row g r) (row k r) l := by
  pointwise [k1_pay16]
  simp only [Fin.sum_univ_one, b14, b5, b6]
  rfl
theorem b1 (v w : Vec Ideal S1x1024 .f32) : k1_pay1 v w (ix2 u l) = w (ix2 u l) + v (ix2 u l) := by
  pointwise [k1_pay1]
theorem b3 (v w : Vec Ideal S1x1024 .f32) : k1_pay3 v w (ix2 u l) = w (ix2 u l) + v (ix2 u l) := by
  pointwise [k1_pay3]
theorem b17 : k1_pay17 (F := Ideal) (ix2 u l) = 0 := by
  pointwise [k1_pay17]
theorem b2 : k1_pay2 (F := Ideal) (ix2 u l) = 0 := by
  pointwise [k1_pay2]
end Bwd

/-! ## By cases: the first block of rows, and the others -/

section Cases
variable (c : Dev nD) (i : grid1.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x1024 .f32) (harg10 : arg10.IsWhole)
  (x0 : Vec Ideal S512x1024 .f32) (x1 : Vec Ideal S512x1024 .f32) (x2 : Vec Ideal S1x1024 .f32) (x3 : Vec Ideal S1x1024 .f32) (x4 : Vec Ideal S512x1024 .f32) (x5 : Vec Ideal S512x1024 .f32) (xo8 : Vec Ideal S1x1024 .f32) (xo9 : Vec Ideal S1x1024 .f32)

theorem A6 (hc0 : cond1_0 i) (hc1 : cond1_1 i) :
    out1_A_6 c i arg1 harg1 arg2 harg2 arg3 harg3 arg4 harg4 arg5 harg5 arg6 harg6 arg7 harg7 arg8 harg8 arg9 harg9 arg10 harg10 hc0 hc1 x0 x1 x2 x3 x4 x5 = k1_pay13 x3 x4 x5 (k1_pay8 x0 x1 x2) (k1_pay10 x0 x1 x2) (k1_pay11 x0 x1 x2) := by
  unfold out1_A_6
  rw [View.read_writes_eq_canon _ _ _ (cover1_A_6 c i arg1 harg1 arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem A7 (hc0 : cond1_0 i) (hc1 : cond1_1 i) :
    out1_A_7 c i arg1 harg1 arg2 harg2 arg3 harg3 arg4 harg4 arg5 harg5 arg6 harg6 arg7 harg7 arg8 harg8 arg9 harg9 arg10 harg10 hc0 hc1 x0 x1 x2 x3 x4 x5 = k1_pay16 x1 x2 x3 x4 x5 (k1_pay5 x1) (k1_pay6 x1) (k1_pay8 x0 x1 x2) (k1_pay10 x0 x1 x2) (k1_pay11 x0 x1 x2) := by
  unfold out1_A_7
  rw [View.read_writes_eq_canon _ _ _ (cover1_A_7 c i arg1 harg1 arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem A8 (hc0 : cond1_0 i) (hc1 : cond1_1 i) :
    out1_A_8 c i arg1 harg1 arg2 harg2 arg3 harg3 arg4 harg4 arg5 harg5 arg6 harg6 arg7 harg7 arg8 harg8 arg9 harg9 arg10 harg10 hc0 hc1 x0 x1 x2 x3 x4 x5 = k1_pay1 (k1_pay15 x3 x4 x5 (k1_pay7 x1) (k1_pay8 x0 x1 x2) (k1_pay10 x0 x1 x2) (k1_pay11 x0 x1 x2)) (k1_pay17 (F := Ideal)) := by
  unfold out1_A_8
  rw [View.read_writes_eq_canon _ _ _ (cover1_A_8 c i arg1 harg1 arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem A9 (hc0 : cond1_0 i) (hc1 : cond1_1 i) :
    out1_A_9 c i arg1 harg1 arg2 harg2 arg3 harg3 arg4 harg4 arg5 harg5 arg6 harg6 arg7 harg7 arg8 harg8 arg9 harg9 arg10 harg10 hc0 hc1 x0 x1 x2 x3 x4 x5 = k1_pay3 (k1_pay12 x0 x1 x2 x5) (k1_pay2 (F := Ideal)) := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem B6 (hc0 : ¬cond1_0 i) (hc1 : ¬cond1_1 i) :
    out1_B_6 c i arg1 harg1 arg2 harg2 arg3 harg3 arg4 harg4 arg5 harg5 arg6 harg6 arg7 harg7 arg8 harg8 arg9 harg9 arg10 harg10 hc0 hc1 x0 x1 x2 x3 x4 x5 xo8 xo9 = k1_pay13 x3 x4 x5 (k1_pay8 x0 x1 x2) (k1_pay10 x0 x1 x2) (k1_pay11 x0 x1 x2) := by
  unfold out1_B_6
  rw [View.read_writes_eq_canon _ _ _ (cover1_B_6 c i arg1 harg1 arg2 harg2 arg3 harg3 arg4 harg4 arg5 harg5 arg6 harg6 arg7 harg7 arg8 harg8 arg9 harg9 arg10 harg10 hc0 hc1 x0 x1 x2 x3 x4 x5 xo8 xo9)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem B7 (hc0 : ¬cond1_0 i) (hc1 : ¬cond1_1 i) :
    out1_B_7 c i arg1 harg1 arg2 harg2 arg3 harg3 arg4 harg4 arg5 harg5 arg6 harg6 arg7 harg7 arg8 harg8 arg9 harg9 arg10 harg10 hc0 hc1 x0 x1 x2 x3 x4 x5 xo8 xo9 = k1_pay16 x1 x2 x3 x4 x5 (k1_pay5 x1) (k1_pay6 x1) (k1_pay8 x0 x1 x2) (k1_pay10 x0 x1 x2) (k1_pay11 x0 x1 x2) := by
  unfold out1_B_7
  rw [View.read_writes_eq_canon _ _ _ (cover1_B_7 c i arg1 harg1 arg2 harg2 arg3 harg3 arg4 harg4 arg5 harg5 arg6 harg6 arg7 harg7 arg8 harg8 arg9 harg9 arg10 harg10 hc0 hc1 x0 x1 x2 x3 x4 x5 xo8 xo9)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem B8 (hc0 : ¬cond1_0 i) (hc1 : ¬cond1_1 i) :
    out1_B_8 c i arg1 harg1 arg2 harg2 arg3 harg3 arg4 harg4 arg5 harg5 arg6 harg6 arg7 harg7 arg8 harg8 arg9 harg9 arg10 harg10 hc0 hc1 x0 x1 x2 x3 x4 x5 xo8 xo9 = k1_pay1 (k1_pay15 x3 x4 x5 (k1_pay7 x1) (k1_pay8 x0 x1 x2) (k1_pay10 x0 x1 x2) (k1_pay11 x0 x1 x2)) xo8 := by
  unfold out1_B_8
  rw [View.read_writes_eq_canon _ _ _ (cover1_B_8 c i arg1 harg1 arg2 harg2 arg3 harg3 arg4 harg4 arg5 harg5 arg6 harg6 arg7 harg7 arg8 harg8 arg9 harg9 arg10 harg10 hc0 hc1 x0 x1 x2 x3 x4 x5 xo8 xo9)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]
theorem B9 (hc0 : ¬cond1_0 i) (hc1 : ¬cond1_1 i) :
    out1_B_9 c i arg1 harg1 arg2 harg2 arg3 harg3 arg4 harg4 arg5 harg5 arg6 harg6 arg7 harg7 arg8 harg8 arg9 harg9 arg10 harg10 hc0 hc1 x0 x1 x2 x3 x4 x5 xo8 xo9 = k1_pay3 (k1_pay12 x0 x1 x2 x5) xo9 := by
  unfold out1_B_9
  rw [View.read_writes_eq_canon _ _ _ (cover1_B_9 c i arg1 harg1 arg2 harg2 arg3 harg3 arg4 harg4 arg5 harg5 arg6 harg6 arg7 harg7 arg8 harg8 arg9 harg9 arg10 harg10 hc0 hc1 x0 x1 x2 x3 x4 x5 xo8 xo9)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread,
    View.ld_unit_zero (S := S512x1024) hz2, View.ld_unit_zero (S := S1x1024) hz2]

end Cases

end Cert.Proof.NormBlock

end
-- ==== Proof.NormArrays.lean ====
/- Hand-written, untrusted. What the two calls of the norms around a residual sum leave in their arrays. -/
module

public import proofs.«01_k».proof.Proof.NormBlock
public import proofs.«01_k».proof.Proof.XArrays

@[expose] public section

set_option maxRecDepth 16384

noncomputable section

namespace Cert.Proof.NormArrays

open Idealize.ShloMosaic Idealize.ShloMosaic.TcCoe Cert.Kernel11Ideal Cert.Kernel11Ideal.Gen Idealize.ShloMosaic.Pointwise Norm
open XArrays (pos sum_pos of_ix2)

/-- The buffers at a call's entry. -/
abbrev At := (c : Dev nD) → (b : Ref sig .tc) → Buf (Elt Ideal) ((c : Thread nD τ).loc b)
variable (V : At) (c : Dev nD)

/-! ## Forward -/

theorem i0 : ∀ t : Fin cfg0.N, win0_0.index t = ![t.val % 4, 0] ∧ win0_1.index t = ![t.val % 4, 0] ∧ win0_2.index t = ![0, 0] ∧ win0_3.index t = ![0, 0]
    ∧ win0_4.index t = ![t.val % 4, 0] ∧ win0_5.index t = ![t.val % 4, 0] := (by decide +kernel : ∀ t : Fin grid0.N, _)

section Fwd
variable (t : Fin cfg0.N)
theorem h0 (r : Fin 512) : row (iblk0 V c 0 t) r = row (V c main_arg0) (pos t.val r) := by
  obtain ⟨e, -⟩ := i0 t
  funext l
  refine congrArg (V c main_arg0) (funext fun a => Fin.ext ?_)
  match a with
  | ⟨0, _⟩ => blk_simp [e]; simp only [pos]
  | ⟨1, _⟩ => blk_simp [e]
theorem y0 (r : Fin 512) : row (iblk0 V c 1 t) r = row (V c main_arg1) (pos t.val r) := by
  obtain ⟨-, e, -⟩ := i0 t
  funext l
  refine congrArg (V c main_arg1) (funext fun a => Fin.ext ?_)
  match a with
  | ⟨0, _⟩ => blk_simp [e]; simp only [pos]
  | ⟨1, _⟩ => blk_simp [e]
theorem p0 : row (iblk0 V c 2 t) 0 = row (V c main_arg2) 0 := by
  obtain ⟨-, -, e, -⟩ := i0 t
  funext l
  blk_point [iblk0, e]
theorem q0 : row (iblk0 V c 3 t) 0 = row (V c main_arg3) 0 := by
  obtain ⟨-, -, -, e, -⟩ := i0 t
  funext l
  blk_point [iblk0, e]
theorem o0_4 (r : Fin 512) (l : Fin 1024) : (win0_4.blk t).view.emb (ix2 r l : S512x1024.Idx) = ix2 (pos t.val r) l := by
  obtain ⟨-, -, -, -, e, -⟩ := i0 t
  refine funext fun a => Fin.ext ?_
  match a with
  | ⟨0, _⟩ => blk_simp [e]; dsimp [ix2, pos]
  | ⟨1, _⟩ => blk_simp [e]
theorem o0_5 (r : Fin 512) (l : Fin 1024) : (win0_5.blk t).view.emb (ix2 r l : S512x1024.Idx) = ix2 (pos t.val r) l := by
  obtain ⟨-, -, -, -, -, e⟩ := i0 t
  refine funext fun a => Fin.ext ?_
  match a with
  | ⟨0, _⟩ => blk_simp [e]; dsimp [ix2, pos]
  | ⟨1, _⟩ => blk_simp [e]
end Fwd

theorem hn_arr : (dat0 V c).arrAt 4 cfg0.N = hn (V c main_arg0) (V c main_arg1) (V c main_arg2) := by
  refine (dat0 V c).arrAt_eq_of_covers 4 _ (by decide +kernel) fun t hf y => ?_
  blk_simp
  rw [after0_4]
  refine congrFun (of_ix2 (f := out0_4 (iblk0 V c 0 t) (iblk0 V c 1 t) (iblk0 V c 2 t) (iblk0 V c 3 t))
    (g := fun y => hn (V c main_arg0) (V c main_arg1) (V c main_arg2) ((win0_4.blk t).view.emb y)) fun r l => ?_) y
  dsimp only
  rw [NormBlock.hn4, o0_4]
  exact (congrArg₂ (fun a b => hr a b (row (iblk0 V c 2 t) 0) l) (h0 V c t r) (y0 V c t r)).trans (congrArg (fun a => hr _ _ a l) (p0 V c t))
theorem nn_arr : (dat0 V c).arrAt 5 cfg0.N = nn (V c main_arg0) (V c main_arg1) (V c main_arg2) (V c main_arg3) := by
  refine (dat0 V c).arrAt_eq_of_covers 5 _ (by decide +kernel) fun t hf y => ?_
  blk_simp
  rw [after0_5]
  refine congrFun (of_ix2 (f := out0_5 (iblk0 V c 0 t) (iblk0 V c 1 t) (iblk0 V c 2 t) (iblk0 V c 3 t))
    (g := fun y => nn (V c main_arg0) (V c main_arg1) (V c main_arg2) (V c main_arg3) ((win0_5.blk t).view.emb y)) fun r l => ?_) y
  dsimp only
  rw [NormBlock.nn5, o0_5]
  exact (congrArg₂ (fun a b => nr a b (row (iblk0 V c 2 t) 0) (row (iblk0 V c 3 t) 0) l) (h0 V c t r) (y0 V c t r)).trans
    (congrArg₂ (fun a b => nr _ _ a b l) (p0 V c t) (q0 V c t))

/-! ## Backward -/

theorem i1 : ∀ t : Fin cfg1.N, win1_0.index t = ![t.val % 4, 0] ∧ win1_1.index t = ![t.val % 4, 0] ∧ win1_2.index t = ![0, 0] ∧ win1_3.index t = ![0, 0]
    ∧ win1_4.index t = ![t.val % 4, 0] ∧ win1_5.index t = ![t.val % 4, 0] ∧ win1_6.index t = ![t.val % 4, 0] ∧ win1_7.index t = ![t.val % 4, 0]
    ∧ win1_8.index t = ![0, 0] ∧ win1_9.index t = ![0, 0] := (by decide +kernel : ∀ t : Fin grid1.N, _)

section Bwd
variable (t : Fin cfg1.N)
theorem h1 (r : Fin 512) : row (iblk1 V c 0 t) r = row (V c main_arg0) (pos t.val r) := by
  obtain ⟨e, -⟩ := i1 t
  funext l
  refine congrArg (V c main_arg0) (funext fun a => Fin.ext ?_)
  match a with
  | ⟨0, _⟩ => blk_simp [e]; simp only [pos]
  | ⟨1, _⟩ => blk_simp [e]
theorem y1 (r : Fin 512) : row (iblk1 V c 1 t) r = row (V c main_arg1) (pos t.val r) := by
  obtain ⟨-, e, -⟩ := i1 t
  funext l
  refine congrArg (V c main_arg1) (funext fun a => Fin.ext ?_)
  match a with
  | ⟨0, _⟩ => blk_simp [e]; simp only [pos]
  | ⟨1, _⟩ => blk_simp [e]
theorem p1 : row (iblk1 V c 2 t) 0 = row (V c main_arg2) 0 := by
  obtain ⟨-, -, e, -⟩ := i1 t
  funext l
  blk_point [iblk1, e]
theorem q1 : row (iblk1 V c 3 t) 0 = row (V c main_arg3) 0 := by
  obtain ⟨-, -, -, e, -⟩ := i1 t
  funext l
  blk_point [iblk1, e]
theorem g1 (r : Fin 512) : row (iblk1 V c 4 t) r = row (V c main_arg4) (pos t.val r) := by
  obtain ⟨-, -, -, -, e, -⟩ := i1 t
  funext l
  refine congrArg (V c main_arg4) (funext fun a => Fin.ext ?_)
  match a with
  | ⟨0, _⟩ => blk_simp [e]; simp only [pos]
  | ⟨1, _⟩ => blk_simp [e]
theorem k1 (r : Fin 512) : row (iblk1 V c 5 t) r = row (V c main_arg5) (pos t.val r) := by
  obtain ⟨-, -, -, -, -, e, -⟩ := i1 t
  funext l
  refine congrArg (V c main_arg5) (funext fun a => Fin.ext ?_)
  match a with
  | ⟨0, _⟩ => blk_simp [e]; simp only [pos]
  | ⟨1, _⟩ => blk_simp [e]
theorem o1_6 (r : Fin 512) (l : Fin 1024) : (win1_6.blk t).view.emb (ix2 r l : S512x1024.Idx) = ix2 (pos t.val r) l := by
  obtain ⟨-, -, -, -, -, -, e, -⟩ := i1 t
  refine funext fun a => Fin.ext ?_
  match a with
  | ⟨0, _⟩ => blk_simp [e]; dsimp [ix2, pos]
  | ⟨1, _⟩ => blk_simp [e]
theorem o1_7 (r : Fin 512) (l : Fin 1024) : (win1_7.blk t).view.emb (ix2 r l : S512x1024.Idx) = ix2 (pos t.val r) l := by
  obtain ⟨-, -, -, -, -, -, -, e, -⟩ := i1 t
  refine funext fun a => Fin.ext ?_
  match a with
  | ⟨0, _⟩ => blk_simp [e]; dsimp [ix2, pos]
  | ⟨1, _⟩ => blk_simp [e]
theorem o1_8 (u : Fin 1) (l : Fin 1024) : (win1_8.blk t).view.emb (ix2 u l : S1x1024.Idx) = ix2 u l := by
  obtain ⟨-, -, -, -, -, -, -, -, e, -⟩ := i1 t
  refine funext fun a => Fin.ext ?_
  match a with
  | ⟨0, _⟩ => blk_simp [e]
  | ⟨1, _⟩ => blk_simp [e]
theorem o1_9 (u : Fin 1) (l : Fin 1024) : (win1_9.blk t).view.emb (ix2 u l : S1x1024.Idx) = ix2 u l := by
  obtain ⟨-, -, -, -, -, -, -, -, -, e⟩ := i1 t
  refine funext fun a => Fin.ext ?_
  match a with
  | ⟨0, _⟩ => blk_simp [e]
  | ⟨1, _⟩ => blk_simp [e]

/-- What a grid point's rows give to the first weight's gradient, and to the second's. -/
def sp (n : ℕ) (l : Fin 1024) : EReal := ∑ r, pr (row (V c main_arg0) (pos n r)) (row (V c main_arg1) (pos n r)) (row (V c main_arg2) 0) (row (V c main_arg3) 0)
  (row (V c main_arg4) (pos n r)) (row (V c main_arg5) (pos n r)) l
def sq (n : ℕ) (l : Fin 1024) : EReal := ∑ r, qr (row (V c main_arg0) (pos n r)) (row (V c main_arg1) (pos n r)) (row (V c main_arg2) 0)
  (row (V c main_arg5) (pos n r)) l

theorem dh1 (r : Fin 512) (l : Fin 1024) : (outsAt1 V c t.val t.isLt).1 (ix2 r l)
    = dh (V c main_arg0) (V c main_arg1) (V c main_arg2) (V c main_arg3) (V c main_arg4) (V c main_arg5) (ix2 (pos t.val r) l) := by
  by_cases h : t.val % 4 = 0
  · rw [outsAt1_A V c t h h]
    dsimp only
    rw [NormBlock.A6, NormBlock.b13, h1, y1, p1, q1, g1, k1]
    rfl
  · rw [outsAt1_B V c t h h]
    dsimp only
    rw [NormBlock.B6, NormBlock.b13, h1, y1, p1, q1, g1, k1]
    rfl
theorem dy1 (r : Fin 512) (l : Fin 1024) : (outsAt1 V c t.val t.isLt).2.1 (ix2 r l)
    = dy (V c main_arg0) (V c main_arg1) (V c main_arg2) (V c main_arg3) (V c main_arg4) (V c main_arg5) (ix2 (pos t.val r) l) := by
  by_cases h : t.val % 4 = 0
  · rw [outsAt1_A V c t h h]
    dsimp only
    rw [NormBlock.A7, NormBlock.b16, h1, y1, p1, q1, g1, k1]
    rfl
  · rw [outsAt1_B V c t h h]
    dsimp only
    rw [NormBlock.B7, NormBlock.b16, h1, y1, p1, q1, g1, k1]
    rfl
theorem dpA (h : t.val % 4 = 0) (u : Fin 1) (l : Fin 1024) : (outsAt1 V c t.val t.isLt).2.2.1 (ix2 u l) = sp V c t.val l := by
  rw [outsAt1_A V c t h h]
  dsimp only
  rw [NormBlock.A8, NormBlock.b1, NormBlock.b15, NormBlock.b17, zero_add]
  simp only [h1, y1, p1, q1, g1, k1]
  rfl
theorem dpB (h : ¬t.val % 4 = 0) (u : Fin 1) (l : Fin 1024) : (outsAt1 V c t.val t.isLt).2.2.1 (ix2 u l)
    = (outsAt1 V c (t.val - 1) (Nat.lt_of_le_of_lt (Nat.sub_le _ _) t.isLt)).2.2.1 (ix2 u l) + sp V c t.val l := by
  rw [outsAt1_B V c t h h]
  dsimp only
  rw [NormBlock.B8, NormBlock.b1, NormBlock.b15]
  simp only [h1, y1, p1, q1, g1, k1]
  rfl
theorem dqA (h : t.val % 4 = 0) (u : Fin 1) (l : Fin 1024) : (outsAt1 V c t.val t.isLt).2.2.2 (ix2 u l) = sq V c t.val l := by
  rw [outsAt1_A V c t h h]
  dsimp only
  rw [NormBlock.A9, NormBlock.b3, NormBlock.b12, NormBlock.b2, zero_add]
  simp only [h1, y1, p1, k1]
  rfl
theorem dqB (h : ¬t.val % 4 = 0) (u : Fin 1) (l : Fin 1024) : (outsAt1 V c t.val t.isLt).2.2.2 (ix2 u l)
    = (outsAt1 V c (t.val - 1) (Nat.lt_of_le_of_lt (Nat.sub_le _ _) t.isLt)).2.2.2 (ix2 u l) + sq V c t.val l := by
  rw [outsAt1_B V c t h h]
  dsimp only
  rw [NormBlock.B9, NormBlock.b3, NormBlock.b12]
  simp only [h1, y1, p1, k1]
  rfl

/-- Over the four blocks of rows the sums are complete. -/
theorem dp4 (h : t.val % 4 = 3) (u : Fin 1) (l : Fin 1024) : (outsAt1 V c t.val t.isLt).2.2.1 (ix2 u l)
    = sp V c (t.val - 1 - 1 - 1) l + sp V c (t.val - 1 - 1) l + sp V c (t.val - 1) l + sp V c t.val l := by
  have b := t.isLt
  rw [dpB V c t (by omega), dpB V c ⟨t.val - 1, by omega⟩ (by dsimp only; omega), dpB V c ⟨t.val - 1 - 1, by omega⟩ (by dsimp only; omega),
    dpA V c ⟨t.val - 1 - 1 - 1, by omega⟩ (by dsimp only; omega)]
theorem dq4 (h : t.val % 4 = 3) (u : Fin 1) (l : Fin 1024) : (outsAt1 V c t.val t.isLt).2.2.2 (ix2 u l)
    = sq V c (t.val - 1 - 1 - 1) l + sq V c (t.val - 1 - 1) l + sq V c (t.val - 1) l + sq V c t.val l := by
  have b := t.isLt
  rw [dqB V c t (by omega), dqB V c ⟨t.val - 1, by omega⟩ (by dsimp only; omega), dqB V c ⟨t.val - 1 - 1, by omega⟩ (by dsimp only; omega),
    dqA V c ⟨t.val - 1 - 1 - 1, by omega⟩ (by dsimp only; omega)]
end Bwd

/-- The weights' gradients by four blocks of rows. -/
theorem dp_sum (n : ℕ) (h : n % 4 = 3) (u : Fin 1) (l : Fin 1024) :
    dp (V c main_arg0) (V c main_arg1) (V c main_arg2) (V c main_arg3) (V c main_arg4) (V c main_arg5) (ix2 u l)
      = sp V c (n - 1 - 1 - 1) l + sp V c (n - 1 - 1) l + sp V c (n - 1) l + sp V c n l := by
  unfold dp sp
  exact sum_pos (fun s => pr (row (V c main_arg0) s) (row (V c main_arg1) s) (row (V c main_arg2) 0) (row (V c main_arg3) 0) (row (V c main_arg4) s)
    (row (V c main_arg5) s) l) n h
theorem dq_sum (n : ℕ) (h : n % 4 = 3) (u : Fin 1) (l : Fin 1024) :
    dq (V c main_arg0) (V c main_arg1) (V c main_arg2) (V c main_arg5) (ix2 u l)
      = sq V c (n - 1 - 1 - 1) l + sq V c (n - 1 - 1) l + sq V c (n - 1) l + sq V c n l := by
  unfold dq sq
  exact sum_pos (fun s => qr (row (V c main_arg0) s) (row (V c main_arg1) s) (row (V c main_arg2) 0) (row (V c main_arg5) s) l) n h

theorem dh_arr : (dat1 V c).arrAt 6 cfg1.N = dh (V c main_arg0) (V c main_arg1) (V c main_arg2) (V c main_arg3) (V c main_arg4) (V c main_arg5) := by
  refine (dat1 V c).arrAt_eq_of_covers 6 _ (by decide +kernel) fun t hf y => ?_
  blk_simp
  rw [after1_6]
  refine congrFun (of_ix2 (f := (outsAt1 V c t.val t.isLt).1)
    (g := fun y => dh (V c main_arg0) (V c main_arg1) (V c main_arg2) (V c main_arg3) (V c main_arg4) (V c main_arg5) ((win1_6.blk t).view.emb y)) fun r l => ?_) y
  dsimp only
  rw [dh1 V c t, o1_6]
theorem dy_arr : (dat1 V c).arrAt 7 cfg1.N = dy (V c main_arg0) (V c main_arg1) (V c main_arg2) (V c main_arg3) (V c main_arg4) (V c main_arg5) := by
  refine (dat1 V c).arrAt_eq_of_covers 7 _ (by decide +kernel) fun t hf y => ?_
  blk_simp
  rw [after1_7]
  refine congrFun (of_ix2 (f := (outsAt1 V c t.val t.isLt).2.1)
    (g := fun y => dy (V c main_arg0) (V c main_arg1) (V c main_arg2) (V c main_arg3) (V c main_arg4) (V c main_arg5) ((win1_7.blk t).view.emb y)) fun r l => ?_) y
  dsimp only
  rw [dy1 V c t, o1_7]
theorem dp_arr : (dat1 V c).arrAt 8 cfg1.N = dp (V c main_arg0) (V c main_arg1) (V c main_arg2) (V c main_arg3) (V c main_arg4) (V c main_arg5) := by
  refine (dat1 V c).arrAt_eq_of_covers 8 _ (by decide +kernel) fun t hf y => ?_
  have h3 : t.val % 4 = 3 := (flush1_8 t).mp hf
  blk_simp
  rw [after1_8]
  refine congrFun (of_ix2 (f := (outsAt1 V c t.val t.isLt).2.2.1)
    (g := fun y => dp (V c main_arg0) (V c main_arg1) (V c main_arg2) (V c main_arg3) (V c main_arg4) (V c main_arg5) ((win1_8.blk t).view.emb y)) fun u l => ?_) y
  dsimp only
  rw [dp4 V c t h3, o1_8, dp_sum V c t.val h3]
theorem dq_arr : (dat1 V c).arrAt 9 cfg1.N = dq (V c main_arg0) (V c main_arg1) (V c main_arg2) (V c main_arg5) := by
  refine (dat1 V c).arrAt_eq_of_covers 9 _ (by decide +kernel) fun t hf y => ?_
  have h3 : t.val % 4 = 3 := (flush1_9 t).mp hf
  blk_simp
  rw [after1_9]
  refine congrFun (of_ix2 (f := (outsAt1 V c t.val t.isLt).2.2.2)
    (g := fun y => dq (V c main_arg0) (V c main_arg1) (V c main_arg2) (V c main_arg5) ((win1_9.blk t).view.emb y)) fun u l => ?_) y
  dsimp only
  rw [dq4 V c t h3, o1_9, dq_sum V c t.val h3]

end Cert.Proof.NormArrays

end
-- ==== Proof.NormRun.lean ====
/- Hand-written, untrusted. The two norms around a residual sum, run: the six results of the kernel program as functions of the
   six arguments. -/
module

public import proofs.«01_k».proof.Proof.NormArrays
public import proofs.«01_k».proof.Proof.Gen.Kernel11Ideal.Frame

@[expose] public section

set_option maxRecDepth 16384

noncomputable section

namespace Cert.Proof.NormRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel11Ideal Cert.Kernel11Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev h : Norm.A := m ((c.tc : Thread nD τ).loc main_arg0)
abbrev y : Norm.A := m ((c.tc : Thread nD τ).loc main_arg1)
abbrev p : Norm.W := m ((c.tc : Thread nD τ).loc main_arg2)
abbrev q : Norm.W := m ((c.tc : Thread nD τ).loc main_arg3)
abbrev g : Norm.A := m ((c.tc : Thread nD τ).loc main_arg4)
abbrev k : Norm.A := m ((c.tc : Thread nD τ).loc main_arg5)

/-! ## The results -/

theorem e0_at : W1 m ρ c (Proc.devRef .tc main_v0_0) = Norm.hn (h m c) (y m c) (p m c) := by
  refine (W1_arr m ρ c 4).trans ((NormArrays.hn_arr (V0 m ρ) c).trans ?_)
  rfl
theorem e0_end : W3 m ρ c (Proc.devRef .tc main_v0_0) = Norm.hn (h m c) (y m c) (p m c) :=
  (W3_of m ρ c main_v0_0 (by decide)).trans ((W2_of m ρ c main_v0_0 (by decide)).trans (e0_at m ρ c))
theorem e1_at : W1 m ρ c (Proc.devRef .tc main_v0_1) = Norm.nn (h m c) (y m c) (p m c) (q m c) := by
  refine (W1_arr m ρ c 5).trans ((NormArrays.nn_arr (V0 m ρ) c).trans ?_)
  rfl
theorem e1_end : W3 m ρ c (Proc.devRef .tc main_v0_1) = Norm.nn (h m c) (y m c) (p m c) (q m c) :=
  (W3_of m ρ c main_v0_1 (by decide)).trans ((W2_of m ρ c main_v0_1 (by decide)).trans (e1_at m ρ c))
theorem e2_at : W2 m ρ c (Proc.devRef .tc main_v1_0) = Norm.dh (h m c) (y m c) (p m c) (q m c) (g m c) (k m c) := by
  refine (W2_arr m ρ c 6).trans ((NormArrays.dh_arr (V1 m ρ) c).trans ?_)
  rw [show V1 m ρ c main_arg0 = h m c from W1_args m ρ c main_arg0 (by decide),
    show V1 m ρ c main_arg1 = y m c from W1_args m ρ c main_arg1 (by decide),
    show V1 m ρ c main_arg2 = p m c from W1_args m ρ c main_arg2 (by decide),
    show V1 m ρ c main_arg3 = q m c from W1_args m ρ c main_arg3 (by decide),
    show V1 m ρ c main_arg4 = g m c from W1_args m ρ c main_arg4 (by decide),
    show V1 m ρ c main_arg5 = k m c from W1_args m ρ c main_arg5 (by decide)]
theorem e2_end : W3 m ρ c (Proc.devRef .tc main_v1_0) = Norm.dh (h m c) (y m c) (p m c) (q m c) (g m c) (k m c) :=
  (W3_of m ρ c main_v1_0 (by decide)).trans (e2_at m ρ c)
theorem e3_at : W2 m ρ c (Proc.devRef .tc main_v1_1) = Norm.dy (h m c) (y m c) (p m c) (q m c) (g m c) (k m c) := by
  refine (W2_arr m ρ c 7).trans ((NormArrays.dy_arr (V1 m ρ) c).trans ?_)
  rw [show V1 m ρ c main_arg0 = h m c from W1_args m ρ c main_arg0 (by decide),
    show V1 m ρ c main_arg1 = y m c from W1_args m ρ c main_arg1 (by decide),
    show V1 m ρ c main_arg2 = p m c from W1_args m ρ c main_arg2 (by decide),
    show V1 m ρ c main_arg3 = q m c from W1_args m ρ c main_arg3 (by decide),
    show V1 m ρ c main_arg4 = g m c from W1_args m ρ c main_arg4 (by decide),
    show V1 m ρ c main_arg5 = k m c from W1_args m ρ c main_arg5 (by decide)]
theorem e3_end : W3 m ρ c (Proc.devRef .tc main_v1_1) = Norm.dy (h m c) (y m c) (p m c) (q m c) (g m c) (k m c) :=
  (W3_of m ρ c main_v1_1 (by decide)).trans (e3_at m ρ c)
theorem e4_at : W2 m ρ c (Proc.devRef .tc main_v1_2) = Norm.dp (h m c) (y m c) (p m c) (q m c) (g m c) (k m c) := by
  refine (W2_arr m ρ c 8).trans ((NormArrays.dp_arr (V1 m ρ) c).trans ?_)
  rw [show V1 m ρ c main_arg0 = h m c from W1_args m ρ c main_arg0 (by decide),
    show V1 m ρ c main_arg1 = y m c from W1_args m ρ c main_arg1 (by decide),
    show V1 m ρ c main_arg2 = p m c from W1_args m ρ c main_arg2 (by decide),
    show V1 m ρ c main_arg3 = q m c from W1_args m ρ c main_arg3 (by decide),
    show V1 m ρ c main_arg4 = g m c from W1_args m ρ c main_arg4 (by decide),
    show V1 m ρ c main_arg5 = k m c from W1_args m ρ c main_arg5 (by decide)]
theorem e4_end : W3 m ρ c (Proc.devRef .tc main_v1_2) = Norm.dp (h m c) (y m c) (p m c) (q m c) (g m c) (k m c) :=
  (W3_of m ρ c main_v1_2 (by decide)).trans (e4_at m ρ c)
theorem e5_at : W2 m ρ c (Proc.devRef .tc main_v1_3) = Norm.dq (h m c) (y m c) (p m c) (k m c) := by
  refine (W2_arr m ρ c 9).trans ((NormArrays.dq_arr (V1 m ρ) c).trans ?_)
  rw [show V1 m ρ c main_arg0 = h m c from W1_args m ρ c main_arg0 (by decide),
    show V1 m ρ c main_arg1 = y m c from W1_args m ρ c main_arg1 (by decide),
    show V1 m ρ c main_arg2 = p m c from W1_args m ρ c main_arg2 (by decide),
    show V1 m ρ c main_arg5 = k m c from W1_args m ρ c main_arg5 (by decide)]
theorem e5_end : W3 m ρ c (Proc.devRef .tc main_v1_3) = Norm.dq (h m c) (y m c) (p m c) (k m c) :=
  (W3_of m ρ c main_v1_3 (by decide)).trans (e5_at m ρ c)

set_option backward.isDefEq.respectTransparency.types false in
/-- From any memory the program runs to its end with the six results at these values. -/
theorem run : θ_run defs (onTc (τ := τ) (main (F := Ideal))) ⟨m, fun _ => 0, ρ⟩ (fun r => ∀ c : Dev nD,
      r.2.mem ((c.tc : Thread nD τ).loc main_v0_0) = Norm.hn (h m c) (y m c) (p m c)
      ∧ r.2.mem ((c.tc : Thread nD τ).loc main_v0_1) = Norm.nn (h m c) (y m c) (p m c) (q m c)
      ∧ r.2.mem ((c.tc : Thread nD τ).loc main_v1_0) = Norm.dh (h m c) (y m c) (p m c) (q m c) (g m c) (k m c)
      ∧ r.2.mem ((c.tc : Thread nD τ).loc main_v1_1) = Norm.dy (h m c) (y m c) (p m c) (q m c) (g m c) (k m c)
      ∧ r.2.mem ((c.tc : Thread nD τ).loc main_v1_2) = Norm.dp (h m c) (y m c) (p m c) (q m c) (g m c) (k m c)
      ∧ r.2.mem ((c.tc : Thread nD τ).loc main_v1_3) = Norm.dq (h m c) (y m c) (p m c) (k m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s e _ c =>
      ⟨(e c _ (mem_uc main_v0_0 (by decide))).trans (e0_end m ρ c),
       (e c _ (mem_uc main_v0_1 (by decide))).trans (e1_end m ρ c),
       (e c _ (mem_uc main_v1_0 (by decide))).trans (e2_end m ρ c),
       (e c _ (mem_uc main_v1_1 (by decide))).trans (e3_end m ρ c),
       (e c _ (mem_uc main_v1_2 (by decide))).trans (e4_end m ρ c),
       (e c _ (mem_uc main_v1_3 (by decide))).trans (e5_end m ρ c)⟩)

end Cert.Proof.NormRun

end
-- ==== Proof.NormRef.lean ====
/- Hand-written, untrusted. The reference program of the two norms around a residual sum, read row by row. -/
module

public import proofs.«01_k».proof.Proof.NormSpec
public import proofs.«01_k».proof.Proof.Gen.Reference11Ideal.Read
public import Idealize.ShloMosaic.Lib.KernelVsHost

@[expose] public section

set_option maxRecDepth 16384

noncomputable section

namespace Cert.Proof.NormRef

open Idealize.ShloMosaic Cert.Reference11Ideal Cert.Reference11Ideal.Gen Cert.Reference11Ideal.Read Idealize.ShloMosaic.Pointwise
open Norm

variable (h y : A) (p q : W) (g k : A)

section Rows
variable (t : Fin 2048) (l : Fin 1024) (u : Fin 1)
theorem s7 : val_main_v7 (F := Ideal) y (ix2 t u) = ms D (row y t) := by
  pointwise [val_main_v7, val_main_v6, val_main_v5, val_main_v4, val_main_v3, val_main_v2, val_main_v1, val_main_cst, val_main_cst_0, val_main_cst_1]
  rfl
theorem s8 : val_main_v8 (F := Ideal) y (ix2 t u) = rs D (row y t) := by
  pointwise [val_main_v8]
  rw [s7]
  rfl
theorem s11 : val_main_v11 (F := Ideal) y (ix2 t u) = Ideal.ofBits .f32 0xBF000000#32 * Ideal.div (rs D (row y t)) (ms D (row y t)) := by
  pointwise [val_main_v11, val_main_v10, val_main_v9, val_main_cst_2]
  rw [s7, s8]
theorem s13 : val_main_v13 (F := Ideal) y (ix2 t l) = y (ix2 t l) * rs D (row y t) := by
  pointwise [val_main_v13, val_main_v12]
  rw [s8]
theorem s17 : val_main_v17 (F := Ideal) h y p (ix2 t l) = hr (row h t) (row y t) (row p 0) l := by
  pointwise [val_main_v17, val_main_v16, val_main_v15, val_main_v14, val_main_v0]
  rw [s13]
  rfl
theorem s25 : val_main_v25 (F := Ideal) h y p (ix2 t u) = ms D (hr (row h t) (row y t) (row p 0)) := by
  pointwise [val_main_v25, val_main_v24, val_main_v23, val_main_v22, val_main_v21, val_main_v20, val_main_v19, val_main_cst_3, val_main_cst_4, val_main_cst_5]
  simp only [s17]
  rfl
theorem s26 : val_main_v26 (F := Ideal) h y p (ix2 t u) = rs D (hr (row h t) (row y t) (row p 0)) := by
  pointwise [val_main_v26]
  rw [s25]
  rfl
theorem s29 : val_main_v29 (F := Ideal) h y p (ix2 t u)
    = Ideal.ofBits .f32 0xBF000000#32 * Ideal.div (rs D (hr (row h t) (row y t) (row p 0))) (ms D (hr (row h t) (row y t) (row p 0))) := by
  pointwise [val_main_v29, val_main_v28, val_main_v27, val_main_cst_6]
  rw [s25, s26]
theorem s31 : val_main_v31 (F := Ideal) h y p (ix2 t l) = hr (row h t) (row y t) (row p 0) l * rs D (hr (row h t) (row y t) (row p 0)) := by
  pointwise [val_main_v31, val_main_v30]
  rw [s17, s26]
theorem s34 : val_main_v34 (F := Ideal) h y p q (ix2 t l) = nr (row h t) (row y t) (row p 0) (row q 0) l := by
  pointwise [val_main_v34, val_main_v33, val_main_v32, val_main_v18]
  rw [s31]
  rfl
theorem s55 : val_main_v55 (F := Ideal) h y p q g k (ix2 t l) = gr (row h t) (row y t) (row p 0) (row q 0) (row g t) (row k t) l := by
  pointwise [val_main_v55, val_main_v54, val_main_v53, val_main_v52, val_main_v51, val_main_v50, val_main_v49, val_main_v48, val_main_v47, val_main_v46, val_main_v45,
    val_main_v44, val_main_v43, val_main_v42, val_main_v41, val_main_v39, val_main_v38, val_main_v32, val_main_v18, val_main_cst_9, val_main_cst_10, val_main_cst_11]
  simp only [Fin.sum_univ_one, s17, s26, s29]
  rfl
theorem s57 : val_main_v57 (F := Ideal) h y p q g k (ix2 t l) = gr (row h t) (row y t) (row p 0) (row q 0) (row g t) (row k t) l := by
  pointwise [val_main_v57]
  exact s55 h y p q g k t l
theorem s77 : val_main_v77 (F := Ideal) h y p q g k (ix2 t l) = yr (row h t) (row y t) (row p 0) (row q 0) (row g t) (row k t) l := by
  pointwise [val_main_v77, val_main_v76, val_main_v75, val_main_v74, val_main_v73, val_main_v72, val_main_v71, val_main_v70, val_main_v69, val_main_v68, val_main_v67,
    val_main_v66, val_main_v65, val_main_v64, val_main_v62, val_main_v61, val_main_v14, val_main_v0, val_main_cst_14, val_main_cst_15, val_main_cst_16]
  simp only [Fin.sum_univ_one, s57, s8, s11]
  rfl
theorem s78 : val_main_v78 (F := Ideal) h y p q g k (ix2 u l) = ∑ t, pr (row h t) (row y t) (row p 0) (row q 0) (row g t) (row k t) l := by
  pointwise [val_main_v78, val_main_v63, val_main_v60, val_main_v59, val_main_v58, val_main_cst_12, val_main_cst_13]
  simp only [Fin.sum_univ_one, s13, s57]
  rfl
theorem s56 : val_main_v56 (F := Ideal) h y p k (ix2 u l) = ∑ t, qr (row h t) (row y t) (row p 0) (row k t) l := by
  pointwise [val_main_v56, val_main_v40, val_main_v37, val_main_v36, val_main_v35, val_main_cst_7, val_main_cst_8]
  simp only [Fin.sum_univ_one, s31]
  rfl
end Rows

theorem hn_ref : val_main_v17 (F := Ideal) h y p = hn h y p := by
  funext i
  obtain ⟨t, l, rfl⟩ : ∃ (t : Fin 2048) (l : Fin 1024), i = ix2 t l := ⟨i 0, i 1, eq_ix2 i⟩
  exact s17 h y p t l
theorem nn_ref : val_main_v34 (F := Ideal) h y p q = nn h y p q := by
  funext i
  obtain ⟨t, l, rfl⟩ : ∃ (t : Fin 2048) (l : Fin 1024), i = ix2 t l := ⟨i 0, i 1, eq_ix2 i⟩
  exact s34 h y p q t l
theorem dh_ref : val_main_v55 (F := Ideal) h y p q g k = dh h y p q g k := by
  funext i
  obtain ⟨t, l, rfl⟩ : ∃ (t : Fin 2048) (l : Fin 1024), i = ix2 t l := ⟨i 0, i 1, eq_ix2 i⟩
  exact s55 h y p q g k t l
theorem dy_ref : val_main_v77 (F := Ideal) h y p q g k = dy h y p q g k := by
  funext i
  obtain ⟨t, l, rfl⟩ : ∃ (t : Fin 2048) (l : Fin 1024), i = ix2 t l := ⟨i 0, i 1, eq_ix2 i⟩
  exact s77 h y p q g k t l
theorem dp_ref : val_main_v78 (F := Ideal) h y p q g k = dp h y p q g k := by
  funext i
  obtain ⟨u, l, rfl⟩ : ∃ (u : Fin 1) (l : Fin 1024), i = ix2 u l := ⟨i 0, i 1, eq_ix2 i⟩
  exact s78 h y p q g k l u
theorem dq_ref : val_main_v56 (F := Ideal) h y p k = dq h y p k := by
  funext i
  obtain ⟨u, l, rfl⟩ : ∃ (u : Fin 1) (l : Fin 1024), i = ix2 u l := ⟨i 0, i 1, eq_ix2 i⟩
  exact s56 h y p k l u

end Cert.Proof.NormRef

end
-- ==== Proof.PostSpec.lean ====
/- Hand-written, untrusted. Four heads of 128 lanes normed by their root mean square and gated, and the gradients. -/
module

public import proofs.«01_k».proof.Proof.NormSpec

@[expose] public section

noncomputable section

namespace Cert.Proof.Post

open Idealize.ShloMosaic Idealize.ShloMosaic.Pointwise Norm

/-- Positions against columns: four heads of 128 lanes. -/
abbrev Arr := (⟨2, ![2048, 512]⟩ : Shape).Idx → EReal
/-- The weight of one head, which the four share. -/
abbrev Wt := (⟨2, ![1, 128]⟩ : Shape).Idx → EReal
/-- One head of one position. -/
abbrev Lane := Fin 128 → EReal
/-- A head's length. -/
abbrev L : EReal := Ideal.ofBits .f32 0x43000000#32

/-- Lane `l` of head `j`. -/
def col (j : Fin 4) (l : Fin 128) : Fin 512 := ⟨j.val * 128 + l.val, by omega⟩
/-- The head of a column, and its lane. -/
def hj (n : Fin 512) : Fin 4 := ⟨n.val / 128, by omega⟩
def ln (n : Fin 512) : Fin 128 := ⟨n.val % 128, by omega⟩
theorem hj_col (j : Fin 4) (l : Fin 128) : hj (col j l) = j := Fin.ext (by show (j.val * 128 + l.val) / 128 = j.val; omega)
theorem ln_col (j : Fin 4) (l : Fin 128) : ln (col j l) = l := Fin.ext (by show (j.val * 128 + l.val) % 128 = l.val; omega)
theorem col_surj (n : Fin 512) : ∃ j l, n = col j l := ⟨hj n, ln n, Fin.ext (by show n.val = n.val / 128 * 128 + n.val % 128; omega)⟩
/-- Head `j` of a row. -/
abbrev hd {n : ℕ} (a : (⟨2, ![n, 512]⟩ : Shape).Idx → EReal) (t : Fin n) (j : Fin 4) : Lane := fun l => a (ix2 t (col j l))

section Heads
variable (o g w e : Lane)
/-- The gate's factor. -/
def sl : Lane := fun l => g l * Ideal.logistic (g l)
/-- The norm times the weight. -/
def nr : Lane := fun l => o l * rs L o * w l
/-- The gated norm. -/
def yr : Lane := fun l => nr o w l * sl g l
/-- The cotangent before the gate. -/
def er : Lane := fun l => e l * sl g l
/-- The cotangent of what is normed. -/
def dr : Lane := back L o (fun l => er g e l * w l) (fun l => er g e l * w l * rs L o)
/-- The cotangent of the gate. -/
def gr : Lane := fun l => nr o w l * e l * Ideal.logistic (g l) + g l * (nr o w l * e l) * (Ideal.logistic (g l) * (1 - Ideal.logistic (g l)))
/-- The weight's cotangent in one head of one row. -/
def wr : Lane := fun l => o l * rs L o * er g e l
end Heads

variable (o g : Arr) (w : Wt) (e : Arr)
/-- The gated norm. -/
def y : Arr := fun i => yr (hd o (i 0) (hj (i 1))) (hd g (i 0) (hj (i 1))) (row w 0) (ln (i 1))
/-- The gradient of what is normed. -/
def dO : Arr := fun i => dr (hd o (i 0) (hj (i 1))) (hd g (i 0) (hj (i 1))) (row w 0) (hd e (i 0) (hj (i 1))) (ln (i 1))
/-- The gradient of the gate. -/
def dG : Arr := fun i => gr (hd o (i 0) (hj (i 1))) (hd g (i 0) (hj (i 1))) (row w 0) (hd e (i 0) (hj (i 1))) (ln (i 1))
/-- The gradient of the weight. -/
def dW : Wt := fun i => ∑ t, ∑ j, wr (hd o t j) (hd g t j) (hd e t j) (i 1)

end Cert.Proof.Post

end
-- ==== Proof.PostBlock.lean ====
/- Hand-written, untrusted. The calls of the delta rule's gated output norm: what one block of rows leaves, head by head. -/
module

public import proofs.«01_k».proof.Proof.Gen.Kernel12Ideal.Frame
public import proofs.«01_k».proof.Proof.PostSpec
public import Idealize.ShloMosaic.Lib.Pointwise
public import Idealize.ShloMosaic.Lib.Pipeline.ValueKit

@[expose] public section

set_option maxRecDepth 16384

noncomputable section

namespace Cert.Proof.PostBlock

open Idealize.ShloMosaic Cert.Kernel12Ideal Cert.Kernel12Ideal.Gen Idealize.ShloMosaic.Pointwise Norm Post

/-- A block's start. -/
theorem hz2 : (![0, 0] : Fin 2 → ℕ) = fun _ => 0 := by decide

/-- The index of a row and a column. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

/-! ## Heads side by side -/

section Pads
abbrev V (s : Shape) := FVec Ideal s .f32
/-- A head's rows padded with zeros to the whole width, one definition for each head. -/
def P0 (v : V S512x128) : V S512x512 :=
  concatenate S512x512 1 [⟨S512x128, v⟩, ⟨S512x384, broadcast S512x384 (Scalar.ofBits .f32 0x00000000#32)⟩] concatenates_S512x128_S512x384_S512x512_d1
def P1 (v : V S512x128) : V S512x512 :=
  concatenate S512x512 1 [⟨S512x256, concatenate S512x256 1 [⟨S512x128, broadcast S512x128 (Scalar.ofBits .f32 0x00000000#32)⟩, ⟨S512x128, v⟩]
    concatenates_S512x128_S512x128_S512x256_d1⟩, ⟨S512x256, broadcast S512x256 (Scalar.ofBits .f32 0x00000000#32)⟩] concatenates_S512x256_S512x256_S512x512_d1
def P2 (v : V S512x128) : V S512x512 :=
  concatenate S512x512 1 [⟨S512x384, concatenate S512x384 1 [⟨S512x256, broadcast S512x256 (Scalar.ofBits .f32 0x00000000#32)⟩, ⟨S512x128, v⟩]
    concatenates_S512x256_S512x128_S512x384_d1⟩, ⟨S512x128, broadcast S512x128 (Scalar.ofBits .f32 0x00000000#32)⟩] concatenates_S512x384_S512x128_S512x512_d1
def P3 (v : V S512x128) : V S512x512 :=
  concatenate S512x512 1 [⟨S512x384, broadcast S512x384 (Scalar.ofBits .f32 0x00000000#32)⟩, ⟨S512x128, v⟩] concatenates_S512x384_S512x128_S512x512_d1
/-- The four heads' rows side by side. -/
def P4 (v0 v1 v2 v3 : V S512x128) : V S512x512 :=
  concatenate S512x512 1 [⟨S512x128, v0⟩, ⟨S512x128, v1⟩, ⟨S512x128, v2⟩, ⟨S512x128, v3⟩] concatenates_S512x128_S512x128_S512x128_S512x128_S512x512_d1
variable (v : V S512x128) (r : Fin 512) (j : Fin 4) (l : Fin 128)
theorem pad0 : P0 v (ix2 r (col j l)) = if j = 0 then v (ix2 r l) else 0 := by
  pointwise [P0, col]
  have hl := l.isLt
  fin_cases j
  · simp [show l.val < 128 by omega]
  · simp
  · simp [show ¬ 256 + l.val < 128 by omega]
  · simp [show ¬ 384 + l.val < 128 by omega]
theorem pad1 : P1 v (ix2 r (col j l)) = if j = 1 then v (ix2 r l) else 0 := by
  pointwise [P1, col]
  have hl := l.isLt
  fin_cases j
  · simp [show l.val < 256 by omega, show l.val < 128 by omega]
  · simp [show 128 + l.val < 256 by omega]
  · simp
  · simp [show ¬ 384 + l.val < 256 by omega]
theorem pad2 : P2 v (ix2 r (col j l)) = if j = 2 then v (ix2 r l) else 0 := by
  pointwise [P2, col]
  have hl := l.isLt
  fin_cases j
  · simp [show l.val < 384 by omega, show l.val < 256 by omega]
  · simp [show 128 + l.val < 384 by omega, show 128 + l.val < 256 by omega]
  · simp [show 256 + l.val < 384 by omega]
  · simp
theorem pad3 : P3 v (ix2 r (col j l)) = if j = 3 then v (ix2 r l) else 0 := by
  pointwise [P3, col]
  have hl := l.isLt
  fin_cases j
  · simp [show l.val < 384 by omega]
  · simp [show 128 + l.val < 384 by omega]
  · simp [show 256 + l.val < 384 by omega]
  · simp
theorem cat (v0 v1 v2 v3 : V S512x128) (T : Fin 4 → EReal) (h0 : v0 (ix2 r l) = T 0) (h1 : v1 (ix2 r l) = T 1) (h2 : v2 (ix2 r l) = T 2) (h3 : v3 (ix2 r l) = T 3) :
    P4 v0 v1 v2 v3 (ix2 r (col j l)) = T j := by
  pointwise [P4, col]
  have hl := l.isLt
  fin_cases j
  · simp [h0]
  · simp [h1, show 128 + l.val < 256 by omega]
  · simp [h2, show ¬ 256 + l.val < 128 by omega, show 256 + l.val - 128 = 128 + l.val by omega]
  · simp [h3, show ¬ 384 + l.val < 128 by omega, show 384 + l.val - 128 = 256 + l.val by omega, show ¬ 256 + l.val < 128 by omega, show 256 + l.val - 128 = 128 + l.val by omega]
/-- The four padded heads added are the heads side by side. -/
theorem four (T : Fin 4 → EReal) : (((if j = 3 then T 3 else 0) + if j = 2 then T 2 else 0) + if j = 1 then T 1 else 0) + (if j = 0 then T 0 else 0) = T j := by
  fin_cases j <;> simp
end Pads

variable (o g : Vec Ideal S512x512 .f32) (w : Vec Ideal S1x128 .f32) (e : Vec Ideal S512x512 .f32)

/-- A column of a head. -/
theorem at_col (a : Vec Ideal S512x512 .f32) (r : Fin 512) (j : Fin 4) (l : Fin 128) (n : ℕ) (h : n < 512) (e : n = j.val * 128 + l.val) : a (ix2 r ⟨n, h⟩) = hd a r j l := by
  subst e; rfl

theorem at_col0 (a : Vec Ideal S512x512 .f32) (r : Fin 512) (l : Fin 128) (h : l.val < 512) : a (ix2 r ⟨l.val, h⟩) = hd a r 0 l :=
  at_col a r 0 l _ _ (by simp)

/-! ## Forward -/

section Fwd
variable (r : Fin 512) (l : Fin 128)
theorem f2 : k0_pay2 o g w (ix2 r l) = yr (hd o r 0) (hd g r 0) (row w 0) l := by
  pointwise [k0_pay2]
  simp only [at_col0]
  rfl
theorem f3 : k0_pay3 o g w (ix2 r l) = yr (hd o r 1) (hd g r 1) (row w 0) l := by
  pointwise [k0_pay3]
  rfl
theorem f4 : k0_pay4 o (ix2 r l) = hd o r 2 l := by
  pointwise [k0_pay4]
  rfl
theorem f5 (u : Fin 1) : k0_pay5 o (ix2 r u) = Ideal.div (∑ l, hd o r 2 l * hd o r 2 l) L := by
  pointwise [k0_pay5]
  simp only [f4]
theorem f1 (j : Fin 4) : k0_pay1 o g w (k0_pay2 o g w) (k0_pay3 o g w) (k0_pay4 o) (k0_pay5 o) (k0_pay6 (F := Ideal)) (ix2 r (col j l))
    = yr (hd o r j) (hd g r j) (row w 0) l := by
  refine cat r j l _ _ _ _ (fun j => yr (hd o r j) (hd g r j) (row w 0) l) (f2 o g w r l) (f3 o g w r l) ?_ ?_
  · pointwise [k0_pay6]
    simp only [f4, f5]
    rfl
  · pointwise [k0_pay6]
    rfl
end Fwd
theorem y3 (z : S512x512.Idx) : out0_3 o g w z = yr (hd o (z 0) (hj (z 1))) (hd g (z 0) (hj (z 1))) (row w 0) (ln (z 1)) := by
  obtain ⟨r, n, rfl⟩ := rl z
  obtain ⟨j, l, rfl⟩ := col_surj n
  unfold out0_3
  rw [View.canon_unit_zero hz2, View.ld_unit_zero (S := S512x512) hz2, View.ld_unit_zero (S := S512x512) hz2, View.ld_unit_zero (S := S1x128) hz2]
  refine (f1 o g w r l j).trans ?_
  show _ = yr (hd o r (hj (col j l))) (hd g r (hj (col j l))) (row w 0) (ln (col j l))
  rw [hj_col, ln_col]

/-! ## Backward: each head -/

section Bwd
variable (r : Fin 512) (l : Fin 128) (u : Fin 1) (j : Fin 4)
theorem b2 : k1_pay2 o (ix2 r l) = hd o r 0 l := by
  pointwise [k1_pay2]
  exact at_col o r 0 l _ _ (by simp)
theorem b3 : k1_pay3 o (ix2 r u) = ms L (hd o r 0) := by
  pointwise [k1_pay3]
  simp only [b2]
  rfl
theorem b4 : k1_pay4 o (ix2 r u) = rs L (hd o r 0) := by
  pointwise [k1_pay4]
  rw [b3]
  rfl
theorem b5 : k1_pay5 o (ix2 r u) = Ideal.ofBits .f32 0xBF000000#32 * Ideal.div (rs L (hd o r 0)) (ms L (hd o r 0)) := by
  pointwise [k1_pay5]
  rw [b3, b4]
theorem b6 : k1_pay6 o (ix2 r l) = hd o r 0 l * rs L (hd o r 0) := by
  pointwise [k1_pay6]
  rw [b2, b4]
theorem b7 : k1_pay7 o w (ix2 r l) = nr (hd o r 0) (row w 0) l := by
  pointwise [k1_pay7]
  rw [b6]
  rfl
theorem b8 : k1_pay8 g (ix2 r l) = hd g r 0 l := by
  pointwise [k1_pay8]
  exact at_col g r 0 l _ _ (by simp)
theorem b9 : k1_pay9 g (ix2 r l) = Ideal.logistic (hd g r 0 l) := by
  pointwise [k1_pay9]
  rw [b8]
theorem b10 : k1_pay10 g (ix2 r l) = Ideal.logistic (hd g r 0 l) * (1 - Ideal.logistic (hd g r 0 l)) := by
  pointwise [k1_pay10]
  rw [b9]
theorem b11 : k1_pay11 g (ix2 r l) = sl (hd g r 0) l := by
  pointwise [k1_pay11]
  rw [b8, b9]
  rfl
theorem b41 : k1_pay41 e (ix2 r l) = hd e r 0 l := by
  pointwise [k1_pay41]
  exact at_col e r 0 l _ _ (by simp)
theorem b12 : k1_pay12 o (ix2 r l) = hd o r 1 l := by
  pointwise [k1_pay12]
  exact at_col o r 1 l _ _ (by simp)
theorem b13 : k1_pay13 o (ix2 r u) = ms L (hd o r 1) := by
  pointwise [k1_pay13]
  simp only [b12]
  rfl
theorem b14 : k1_pay14 o (ix2 r u) = rs L (hd o r 1) := by
  pointwise [k1_pay14]
  rw [b13]
  rfl
theorem b15 : k1_pay15 o (ix2 r u) = Ideal.ofBits .f32 0xBF000000#32 * Ideal.div (rs L (hd o r 1)) (ms L (hd o r 1)) := by
  pointwise [k1_pay15]
  rw [b13, b14]
theorem b16 : k1_pay16 o (ix2 r l) = hd o r 1 l * rs L (hd o r 1) := by
  pointwise [k1_pay16]
  rw [b12, b14]
theorem b17 : k1_pay17 o w (ix2 r l) = nr (hd o r 1) (row w 0) l := by
  pointwise [k1_pay17]
  rw [b16]
  rfl
theorem b18 : k1_pay18 g (ix2 r l) = hd g r 1 l := by
  pointwise [k1_pay18]
  exact at_col g r 1 l _ _ (by simp)
theorem b19 : k1_pay19 g (ix2 r l) = Ideal.logistic (hd g r 1 l) := by
  pointwise [k1_pay19]
  rw [b18]
theorem b20 : k1_pay20 g (ix2 r l) = Ideal.logistic (hd g r 1 l) * (1 - Ideal.logistic (hd g r 1 l)) := by
  pointwise [k1_pay20]
  rw [b19]
theorem b21 : k1_pay21 g (ix2 r l) = sl (hd g r 1) l := by
  pointwise [k1_pay21]
  rw [b18, b19]
  rfl
theorem b42 : k1_pay42 e (ix2 r l) = hd e r 1 l := by
  pointwise [k1_pay42]
  exact at_col e r 1 l _ _ (by simp)
theorem b22 : k1_pay22 o (ix2 r l) = hd o r 2 l := by
  pointwise [k1_pay22]
  exact at_col o r 2 l _ _ (by simp)
theorem b23 : k1_pay23 o (ix2 r u) = ms L (hd o r 2) := by
  pointwise [k1_pay23]
  simp only [b22]
  rfl
theorem b24 : k1_pay24 o (ix2 r u) = rs L (hd o r 2) := by
  pointwise [k1_pay24]
  rw [b23]
  rfl
theorem b25 : k1_pay25 o (ix2 r u) = Ideal.ofBits .f32 0xBF000000#32 * Ideal.div (rs L (hd o r 2)) (ms L (hd o r 2)) := by
  pointwise [k1_pay25]
  rw [b23, b24]
theorem b26 : k1_pay26 o (ix2 r l) = hd o r 2 l * rs L (hd o r 2) := by
  pointwise [k1_pay26]
  rw [b22, b24]
theorem b27 : k1_pay27 o w (ix2 r l) = nr (hd o r 2) (row w 0) l := by
  pointwise [k1_pay27]
  rw [b26]
  rfl
theorem b28 : k1_pay28 g (ix2 r l) = hd g r 2 l := by
  pointwise [k1_pay28]
  exact at_col g r 2 l _ _ (by simp)
theorem b29 : k1_pay29 g (ix2 r l) = Ideal.logistic (hd g r 2 l) := by
  pointwise [k1_pay29]
  rw [b28]
theorem b30 : k1_pay30 g (ix2 r l) = Ideal.logistic (hd g r 2 l) * (1 - Ideal.logistic (hd g r 2 l)) := by
  pointwise [k1_pay30]
  rw [b29]
theorem b31 : k1_pay31 g (ix2 r l) = sl (hd g r 2) l := by
  pointwise [k1_pay31]
  rw [b28, b29]
  rfl
theorem b43 : k1_pay43 e (ix2 r l) = hd e r 2 l := by
  pointwise [k1_pay43]
  exact at_col e r 2 l _ _ (by simp)
theorem b32 : k1_pay32 o (ix2 r l) = hd o r 3 l := by
  pointwise [k1_pay32]
  exact at_col o r 3 l _ _ (by simp)
theorem b33 : k1_pay33 o (ix2 r u) = ms L (hd o r 3) := by
  pointwise [k1_pay33]
  simp only [b32]
  rfl
theorem b34 : k1_pay34 o (ix2 r u) = rs L (hd o r 3) := by
  pointwise [k1_pay34]
  rw [b33]
  rfl
theorem b35 : k1_pay35 o (ix2 r u) = Ideal.ofBits .f32 0xBF000000#32 * Ideal.div (rs L (hd o r 3)) (ms L (hd o r 3)) := by
  pointwise [k1_pay35]
  rw [b33, b34]
theorem b36 : k1_pay36 o (ix2 r l) = hd o r 3 l * rs L (hd o r 3) := by
  pointwise [k1_pay36]
  rw [b32, b34]
theorem b37 : k1_pay37 o w (ix2 r l) = nr (hd o r 3) (row w 0) l := by
  pointwise [k1_pay37]
  rw [b36]
  rfl
theorem b38 : k1_pay38 g (ix2 r l) = hd g r 3 l := by
  pointwise [k1_pay38]
  exact at_col g r 3 l _ _ (by simp)
theorem b39 : k1_pay39 g (ix2 r l) = Ideal.logistic (hd g r 3 l) := by
  pointwise [k1_pay39]
  rw [b38]
theorem b40 : k1_pay40 g (ix2 r l) = Ideal.logistic (hd g r 3 l) * (1 - Ideal.logistic (hd g r 3 l)) := by
  pointwise [k1_pay40]
  rw [b39]
theorem b44 : k1_pay44 e (ix2 r l) = hd e r 3 l := by
  pointwise [k1_pay44]
  exact at_col e r 3 l _ _ (by simp)

/-! ## Backward: the cotangent before the gate -/

theorem e3 : k1_pay45 e (k1_pay38 g) (k1_pay39 g) (ix2 r l) = er (hd g r 3) (hd e r 3) l := by
  pointwise [k1_pay45]
  rw [b44, b38, b39]
  rfl
theorem e2 : k1_pay47 e (k1_pay31 g) (ix2 r l) = er (hd g r 2) (hd e r 2) l := by
  pointwise [k1_pay47]
  rw [b43, b31]
  rfl
theorem e1 : k1_pay52 (k1_pay21 g) (k1_pay42 e) (ix2 r l) = er (hd g r 1) (hd e r 1) l := by
  pointwise [k1_pay52]
  rw [b42, b21]
  rfl
theorem e0 : k1_pay59 (k1_pay11 g) (k1_pay41 e) (ix2 r l) = er (hd g r 0) (hd e r 0) l := by
  pointwise [k1_pay59]
  rw [b41, b11]
  rfl
theorem w2 : k1_pay50 w e (k1_pay31 g) (ix2 r l) = er (hd g r 2) (hd e r 2) l * w (ix2 0 l) := by
  pointwise [k1_pay50]
  rw [e2]
theorem w1 : k1_pay55 w (k1_pay21 g) (k1_pay42 e) (ix2 r l) = er (hd g r 1) (hd e r 1) l * w (ix2 0 l) := by
  pointwise [k1_pay55]
  rw [e1]
theorem p1 : k1_pay56 w (k1_pay12 o) (k1_pay15 o) (k1_pay21 g) (k1_pay42 e) (ix2 r l) = pull L (hd o r 1) (fun l => er (hd g r 1) (hd e r 1) l * w (ix2 0 l)) := by
  pointwise [k1_pay56]
  simp only [Fin.sum_univ_one, b12, b15, w1]
  rfl

/-! ## Backward: the gradient of what is normed -/

theorem d3 : k1_pay46 w e (k1_pay32 o) (k1_pay34 o) (k1_pay35 o) (k1_pay38 g) (k1_pay39 g) (ix2 r (col j l)) = if j = 3 then dr (hd o r 3) (hd g r 3) (row w 0) (hd e r 3) l else 0 := by
  refine (pad3 _ r j l).trans (if_congr Iff.rfl ?_ rfl)
  pointwise []
  simp only [Fin.sum_univ_one, b32, b34, b35, e3]
  rfl
theorem d2 (v : Vec Ideal S512x512 .f32) : k1_pay51 (k1_pay22 o) (k1_pay24 o) (k1_pay25 o) v (k1_pay50 w e (k1_pay31 g)) (ix2 r (col j l))
    = v (ix2 r (col j l)) + if j = 2 then dr (hd o r 2) (hd g r 2) (row w 0) (hd e r 2) l else 0 := by
  refine congrArg (v (ix2 r (col j l)) + ·) ((pad2 _ r j l).trans (if_congr Iff.rfl ?_ rfl))
  pointwise []
  simp only [Fin.sum_univ_one, b22, b24, b25, w2]
  rfl
theorem d1 : k1_pay57 w (k1_pay12 o) (k1_pay14 o) (k1_pay15 o) (k1_pay21 g) (k1_pay42 e) (ix2 r l) + k1_pay58 w (k1_pay12 o) (k1_pay15 o) (k1_pay21 g) (k1_pay42 e) (ix2 r l) = dr (hd o r 1) (hd g r 1) (row w 0) (hd e r 1) l := by
  pointwise [k1_pay57, k1_pay58]
  rw [p1, w1, b12, b14]
  rfl
/-- The gradient of what is normed, as the call composes it. -/
abbrev vO : Vec Ideal S512x512 .f32 :=
  k1_pay62 w (k1_pay2 o) (k1_pay4 o) (k1_pay5 o) (k1_pay11 g) (k1_pay41 e)
    (k1_pay51 (k1_pay22 o) (k1_pay24 o) (k1_pay25 o) (k1_pay46 w e (k1_pay32 o) (k1_pay34 o) (k1_pay35 o) (k1_pay38 g) (k1_pay39 g)) (k1_pay50 w e (k1_pay31 g)))
    (k1_pay57 w (k1_pay12 o) (k1_pay14 o) (k1_pay15 o) (k1_pay21 g) (k1_pay42 e)) (k1_pay58 w (k1_pay12 o) (k1_pay15 o) (k1_pay21 g) (k1_pay42 e))
theorem dO4 : vO o g w e (ix2 r (col j l)) = dr (hd o r j) (hd g r j) (row w 0) (hd e r j) l := by
  refine Eq.trans (congrArg₂ (· + ·) (congrArg₂ (· + ·) ((d2 o g w e r l j _).trans (congrArg (· + _) (d3 o g w e r l j)))
    ((pad1 _ r j l).trans (if_congr Iff.rfl (d1 o g w e r l) rfl))) ((pad0 _ r j l).trans (if_congr Iff.rfl ?_ rfl)))
    (four j fun j => dr (hd o r j) (hd g r j) (row w 0) (hd e r j) l)
  pointwise []
  simp only [Fin.sum_univ_one, b2, b4, b5, e0]
  rfl

/-! ## Backward: the gradient of the gate -/

theorem g32 : k1_pay48 e (k1_pay27 o w) (k1_pay28 g) (k1_pay29 g) (k1_pay30 g) (k1_pay37 o w) (k1_pay38 g) (k1_pay39 g) (k1_pay40 g) (ix2 r (col j l))
    = (if j = 3 then gr (hd o r 3) (hd g r 3) (row w 0) (hd e r 3) l else 0) + if j = 2 then gr (hd o r 2) (hd g r 2) (row w 0) (hd e r 2) l else 0 := by
  refine congrArg₂ (· + ·) ((pad3 _ r j l).trans (if_congr Iff.rfl ?_ rfl)) ((pad2 _ r j l).trans (if_congr Iff.rfl ?_ rfl))
  · pointwise []
    rw [b37, b38, b39, b40, b44]
    rfl
  · pointwise []
    rw [b27, b28, b29, b30, b43]
    rfl
theorem g1 (v : Vec Ideal S512x512 .f32) : k1_pay53 (k1_pay17 o w) (k1_pay18 g) (k1_pay19 g) (k1_pay20 g) (k1_pay42 e) v (ix2 r (col j l))
    = v (ix2 r (col j l)) + if j = 1 then gr (hd o r 1) (hd g r 1) (row w 0) (hd e r 1) l else 0 := by
  refine congrArg (v (ix2 r (col j l)) + ·) ((pad1 _ r j l).trans (if_congr Iff.rfl ?_ rfl))
  pointwise []
  rw [b17, b18, b19, b20, b42]
  rfl
theorem g0 (v : Vec Ideal S512x512 .f32) : k1_pay60 (k1_pay7 o w) (k1_pay8 g) (k1_pay9 g) (k1_pay10 g) (k1_pay41 e) v (ix2 r (col j l))
    = v (ix2 r (col j l)) + if j = 0 then gr (hd o r 0) (hd g r 0) (row w 0) (hd e r 0) l else 0 := by
  refine congrArg (v (ix2 r (col j l)) + ·) ((pad0 _ r j l).trans (if_congr Iff.rfl ?_ rfl))
  pointwise []
  rw [b7, b8, b9, b10, b41]
  rfl
/-- The gradient of the gate, as the call composes it. -/
abbrev vG : Vec Ideal S512x512 .f32 :=
  k1_pay60 (k1_pay7 o w) (k1_pay8 g) (k1_pay9 g) (k1_pay10 g) (k1_pay41 e)
    (k1_pay53 (k1_pay17 o w) (k1_pay18 g) (k1_pay19 g) (k1_pay20 g) (k1_pay42 e)
      (k1_pay48 e (k1_pay27 o w) (k1_pay28 g) (k1_pay29 g) (k1_pay30 g) (k1_pay37 o w) (k1_pay38 g) (k1_pay39 g) (k1_pay40 g)))
theorem dG5 : vG o g w e (ix2 r (col j l)) = gr (hd o r j) (hd g r j) (row w 0) (hd e r j) l := by
  unfold vG
  rw [g0, g1, g32]
  exact four j fun j => gr (hd o r j) (hd g r j) (row w 0) (hd e r j) l

/-! ## Backward: the gradient of the weight -/

theorem s32 : k1_pay49 e (k1_pay26 o) (k1_pay31 g) (k1_pay36 o) (k1_pay38 g) (k1_pay39 g) (ix2 u l) = (∑ r, wr (hd o r 3) (hd g r 3) (hd e r 3) l) + (∑ r, wr (hd o r 2) (hd g r 2) (hd e r 2) l) := by
  pointwise [k1_pay49]
  simp only [b26, b36, e2, e3]
  rfl
theorem s1 (v : Vec Ideal S1x128 .f32) : k1_pay54 (k1_pay16 o) (k1_pay21 g) (k1_pay42 e) v (ix2 u l) = v (ix2 u l) + (∑ r, wr (hd o r 1) (hd g r 1) (hd e r 1) l) := by
  pointwise [k1_pay54]
  simp only [b16, e1]
  rfl
theorem s0 (v : Vec Ideal S1x128 .f32) : k1_pay61 (k1_pay6 o) (k1_pay11 g) (k1_pay41 e) v (ix2 u l) = v (ix2 u l) + (∑ r, wr (hd o r 0) (hd g r 0) (hd e r 0) l) := by
  pointwise [k1_pay61]
  simp only [b6, e0]
  rfl
/-- The gradient of the weight in one block, as the call composes it. -/
abbrev vW : Vec Ideal S1x128 .f32 :=
  k1_pay61 (k1_pay6 o) (k1_pay11 g) (k1_pay41 e) (k1_pay54 (k1_pay16 o) (k1_pay21 g) (k1_pay42 e)
    (k1_pay49 e (k1_pay26 o) (k1_pay31 g) (k1_pay36 o) (k1_pay38 g) (k1_pay39 g)))
theorem dW6 : vW o g e (ix2 u l) = ∑ r, ∑ j, wr (hd o r j) (hd g r j) (hd e r j) l := by
  unfold vW
  rw [s0, s1, s32]
  simp only [Fin.sum_univ_four, Finset.sum_add_distrib]
  ac_rfl
theorem b1 (v w : Vec Ideal S1x128 .f32) : k1_pay1 v w (ix2 u l) = w (ix2 u l) + v (ix2 u l) := by
  pointwise [k1_pay1]
theorem b63 : k1_pay63 (F := Ideal) (ix2 u l) = 0 := by
  pointwise [k1_pay63]
end Bwd

/-! ## By cases: the first block of rows, and the others -/

section Cases
variable (c : Dev nD) (i : grid1.Coords) (arg1 : Memref sig .tc .vmem S512x512 .f32) (harg1 : arg1.IsWhole) (arg2 : Memref sig .tc .vmem S512x512 .f32) (harg2 : arg2.IsWhole) (arg3 : Memref sig .tc .vmem S1x128 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x128 .f32) (harg7 : arg7.IsWhole)
  (x0 : Vec Ideal S512x512 .f32) (x1 : Vec Ideal S512x512 .f32) (x2 : Vec Ideal S1x128 .f32) (x3 : Vec Ideal S512x512 .f32) (xo6 : Vec Ideal S1x128 .f32)

theorem A4 (hc0 : cond1_0 i) :
    out1_A_4 c i arg1 harg1 arg2 harg2 arg3 harg3 arg4 harg4 arg5 harg5 arg6 harg6 arg7 harg7 hc0 x0 x1 x2 x3 = vO x0 x1 x2 x3 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x512) hz2, View.ld_unit_zero (S := S1x128) hz2]
theorem A5 (hc0 : cond1_0 i) :
    out1_A_5 c i arg1 harg1 arg2 harg2 arg3 harg3 arg4 harg4 arg5 harg5 arg6 harg6 arg7 harg7 hc0 x0 x1 x2 x3 = vG x0 x1 x2 x3 := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x512) hz2, View.ld_unit_zero (S := S1x128) hz2]
theorem A6 (hc0 : cond1_0 i) :
    out1_A_6 c i arg1 harg1 arg2 harg2 arg3 harg3 arg4 harg4 arg5 harg5 arg6 harg6 arg7 harg7 hc0 x0 x1 x2 x3 = k1_pay1 (F := Ideal) (vW x0 x1 x3) (k1_pay63 (F := Ideal)) := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread,
    View.ld_unit_zero (S := S512x512) hz2, View.ld_unit_zero (S := S1x128) hz2]
theorem B4 (hc0 : ¬cond1_0 i) :
    out1_B_4 c i arg1 harg1 arg2 harg2 arg3 harg3 arg4 harg4 arg5 harg5 arg6 harg6 arg7 harg7 hc0 x0 x1 x2 x3 xo6 = vO x0 x1 x2 x3 := by
  unfold out1_B_4
  rw [View.read_writes_eq_canon _ _ _ (cover1_B_4 c i arg1 harg1 arg2 harg2 arg3 harg3 arg4 harg4 arg5 harg5 arg6 harg6 arg7 harg7 hc0 x0 x1 x2 x3 xo6)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x512) hz2, View.ld_unit_zero (S := S1x128) hz2]
theorem B5 (hc0 : ¬cond1_0 i) :
    out1_B_5 c i arg1 harg1 arg2 harg2 arg3 harg3 arg4 harg4 arg5 harg5 arg6 harg6 arg7 harg7 hc0 x0 x1 x2 x3 xo6 = vG x0 x1 x2 x3 := by
  unfold out1_B_5
  rw [View.read_writes_eq_canon _ _ _ (cover1_B_5 c i arg1 harg1 arg2 harg2 arg3 harg3 arg4 harg4 arg5 harg5 arg6 harg6 arg7 harg7 hc0 x0 x1 x2 x3 xo6)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x512) hz2, View.ld_unit_zero (S := S1x128) hz2]
theorem B6 (hc0 : ¬cond1_0 i) :
    out1_B_6 c i arg1 harg1 arg2 harg2 arg3 harg3 arg4 harg4 arg5 harg5 arg6 harg6 arg7 harg7 hc0 x0 x1 x2 x3 xo6 = k1_pay1 (F := Ideal) (vW x0 x1 x3) xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo6)]
  unfold kernelRun1_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x512) hz2, View.ld_unit_zero (S := S1x128) hz2]

end Cases

end Cert.Proof.PostBlock

end
-- ==== Proof.PostArrays.lean ====
/- Hand-written, untrusted. What the two calls of the delta rule's gated output norm leave in their arrays. -/
module

public import proofs.«01_k».proof.Proof.PostBlock
public import proofs.«01_k».proof.Proof.XArrays

@[expose] public section

set_option maxRecDepth 16384

noncomputable section

namespace Cert.Proof.PostArrays

open Idealize.ShloMosaic Idealize.ShloMosaic.TcCoe Cert.Kernel12Ideal Cert.Kernel12Ideal.Gen Idealize.ShloMosaic.Pointwise Norm Post
open XArrays (pos sum_pos of_ix2)

/-- The buffers at a call's entry. -/
abbrev At := (c : Dev nD) → (b : Ref sig .tc) → Buf (Elt Ideal) ((c : Thread nD τ).loc b)
variable (V : At) (c : Dev nD)

/-- An index by its row, head and lane. -/
theorem of_col {a : ℕ} {f g : (⟨2, ![a, 512]⟩ : Shape).Idx → EReal} (h : ∀ r j l, f (ix2 r (col j l)) = g (ix2 r (col j l))) : f = g :=
  of_ix2 fun r n => by
    obtain ⟨j, l, rfl⟩ := col_surj n
    exact h r j l

/-! ## Forward -/

theorem i0 : ∀ t : Fin cfg0.N, win0_0.index t = ![t.val % 4, 0] ∧ win0_1.index t = ![t.val % 4, 0] ∧ win0_2.index t = ![0, 0] ∧ win0_3.index t = ![t.val % 4, 0] :=
  (by decide +kernel : ∀ t : Fin grid0.N, _)

section Fwd
variable (t : Fin cfg0.N)
theorem a0 (r : Fin 512) (j : Fin 4) : hd (iblk0 V c 0 t) r j = hd (V c main_arg0) (pos t.val r) j := by
  obtain ⟨e, -⟩ := i0 t
  funext l
  refine congrArg (V c main_arg0) (funext fun a => Fin.ext ?_)
  match a with
  | ⟨0, _⟩ => blk_simp [e]; simp only [pos]
  | ⟨1, _⟩ => blk_simp [e]
theorem g0 (r : Fin 512) (j : Fin 4) : hd (iblk0 V c 1 t) r j = hd (V c main_arg1) (pos t.val r) j := by
  obtain ⟨-, e, -⟩ := i0 t
  funext l
  refine congrArg (V c main_arg1) (funext fun a => Fin.ext ?_)
  match a with
  | ⟨0, _⟩ => blk_simp [e]; simp only [pos]
  | ⟨1, _⟩ => blk_simp [e]
theorem w0 : row (iblk0 V c 2 t) 0 = row (V c main_arg2) 0 := by
  obtain ⟨-, -, e, -⟩ := i0 t
  funext l
  blk_point [iblk0, e]
theorem o0_3 (r : Fin 512) (n : Fin 512) : (win0_3.blk t).view.emb (ix2 r n : S512x512.Idx) = ix2 (pos t.val r) n := by
  obtain ⟨-, -, -, e⟩ := i0 t
  refine funext fun a => Fin.ext ?_
  match a with
  | ⟨0, _⟩ => blk_simp [e]; dsimp [ix2, pos]
  | ⟨1, _⟩ => blk_simp [e]
end Fwd

theorem y_arr : (dat0 V c).arrAt 3 cfg0.N = y (V c main_arg0) (V c main_arg1) (V c main_arg2) := by
  refine (dat0 V c).arrAt_eq_of_covers 3 _ (by decide +kernel) fun t hf z => ?_
  blk_simp
  rw [after0_3]
  refine congrFun (of_ix2 (f := out0_3 (iblk0 V c 0 t) (iblk0 V c 1 t) (iblk0 V c 2 t))
    (g := fun z => y (V c main_arg0) (V c main_arg1) (V c main_arg2) ((win0_3.blk t).view.emb z)) fun r n => ?_) z
  dsimp only
  rw [PostBlock.y3, o0_3]
  exact (congrArg₂ (fun a b => Post.yr a b (row (iblk0 V c 2 t) 0) (ln n)) (a0 V c t r (hj n)) (g0 V c t r (hj n))).trans (congrArg (fun a => Post.yr _ _ a (ln n)) (w0 V c t))

/-! ## Backward -/

theorem i1 : ∀ t : Fin cfg1.N, win1_0.index t = ![t.val % 4, 0] ∧ win1_1.index t = ![t.val % 4, 0] ∧ win1_2.index t = ![0, 0] ∧ win1_3.index t = ![t.val % 4, 0]
    ∧ win1_4.index t = ![t.val % 4, 0] ∧ win1_5.index t = ![t.val % 4, 0] ∧ win1_6.index t = ![0, 0] := (by decide +kernel : ∀ t : Fin grid1.N, _)

section Bwd
variable (t : Fin cfg1.N)
theorem a1 (r : Fin 512) (j : Fin 4) : hd (iblk1 V c 0 t) r j = hd (V c main_arg0) (pos t.val r) j := by
  obtain ⟨e, -⟩ := i1 t
  funext l
  refine congrArg (V c main_arg0) (funext fun a => Fin.ext ?_)
  match a with
  | ⟨0, _⟩ => blk_simp [e]; simp only [pos]
  | ⟨1, _⟩ => blk_simp [e]
theorem g1 (r : Fin 512) (j : Fin 4) : hd (iblk1 V c 1 t) r j = hd (V c main_arg1) (pos t.val r) j := by
  obtain ⟨-, e, -⟩ := i1 t
  funext l
  refine congrArg (V c main_arg1) (funext fun a => Fin.ext ?_)
  match a with
  | ⟨0, _⟩ => blk_simp [e]; simp only [pos]
  | ⟨1, _⟩ => blk_simp [e]
theorem w1 : row (iblk1 V c 2 t) 0 = row (V c main_arg2) 0 := by
  obtain ⟨-, -, e, -⟩ := i1 t
  funext l
  blk_point [iblk1, e]
theorem e1 (r : Fin 512) (j : Fin 4) : hd (iblk1 V c 3 t) r j = hd (V c main_arg3) (pos t.val r) j := by
  obtain ⟨-, -, -, e, -⟩ := i1 t
  funext l
  refine congrArg (V c main_arg3) (funext fun a => Fin.ext ?_)
  match a with
  | ⟨0, _⟩ => blk_simp [e]; simp only [pos]
  | ⟨1, _⟩ => blk_simp [e]
theorem o1_4 (r : Fin 512) (n : Fin 512) : (win1_4.blk t).view.emb (ix2 r n : S512x512.Idx) = ix2 (pos t.val r) n := by
  obtain ⟨-, -, -, -, e, -⟩ := i1 t
  refine funext fun a => Fin.ext ?_
  match a with
  | ⟨0, _⟩ => blk_simp [e]; dsimp [ix2, pos]
  | ⟨1, _⟩ => blk_simp [e]
theorem o1_5 (r : Fin 512) (n : Fin 512) : (win1_5.blk t).view.emb (ix2 r n : S512x512.Idx) = ix2 (pos t.val r) n := by
  obtain ⟨-, -, -, -, -, e, -⟩ := i1 t
  refine funext fun a => Fin.ext ?_
  match a with
  | ⟨0, _⟩ => blk_simp [e]; dsimp [ix2, pos]
  | ⟨1, _⟩ => blk_simp [e]
theorem o1_6 (u : Fin 1) (l : Fin 128) : (win1_6.blk t).view.emb (ix2 u l : S1x128.Idx) = ix2 u l := by
  obtain ⟨-, -, -, -, -, -, e⟩ := i1 t
  refine funext fun a => Fin.ext ?_
  match a with
  | ⟨0, _⟩ => blk_simp [e]
  | ⟨1, _⟩ => blk_simp [e]

/-- What a grid point's rows give to the weight's gradient. -/
def sw (n : ℕ) (l : Fin 128) : EReal := ∑ r, ∑ j, wr (hd (V c main_arg0) (pos n r) j) (hd (V c main_arg1) (pos n r) j) (hd (V c main_arg3) (pos n r) j) l

theorem at_hd (f : Fin 4 → Fin 128 → EReal) (j : Fin 4) (l : Fin 128) : f j l = f (hj (col j l)) (ln (col j l)) := by
  rw [hj_col, ln_col]
theorem do1 (r : Fin 512) (j : Fin 4) (l : Fin 128) : (outsAt1 V c t.val t.isLt).1 (ix2 r (col j l)) = dO (V c main_arg0) (V c main_arg1) (V c main_arg2) (V c main_arg3) (ix2 (pos t.val r) (col j l)) := by
  refine Eq.trans ?_ (at_hd (fun j => dr (hd (V c main_arg0) (pos t.val r) j) (hd (V c main_arg1) (pos t.val r) j) (row (V c main_arg2) 0) (hd (V c main_arg3) (pos t.val r) j)) j l)
  by_cases h : t.val % 4 = 0
  · rw [outsAt1_A V c t h]
    dsimp only
    rw [PostBlock.A4, PostBlock.dO4, a1, g1, w1, e1]
  · rw [outsAt1_B V c t h]
    dsimp only
    rw [PostBlock.B4, PostBlock.dO4, a1, g1, w1, e1]
theorem dg1 (r : Fin 512) (j : Fin 4) (l : Fin 128) : (outsAt1 V c t.val t.isLt).2.1 (ix2 r (col j l)) = dG (V c main_arg0) (V c main_arg1) (V c main_arg2) (V c main_arg3) (ix2 (pos t.val r) (col j l)) := by
  refine Eq.trans ?_ (at_hd (fun j => gr (hd (V c main_arg0) (pos t.val r) j) (hd (V c main_arg1) (pos t.val r) j) (row (V c main_arg2) 0) (hd (V c main_arg3) (pos t.val r) j)) j l)
  by_cases h : t.val % 4 = 0
  · rw [outsAt1_A V c t h]
    dsimp only
    rw [PostBlock.A5, PostBlock.dG5, a1, g1, w1, e1]
  · rw [outsAt1_B V c t h]
    dsimp only
    rw [PostBlock.B5, PostBlock.dG5, a1, g1, w1, e1]
theorem dwA (h : t.val % 4 = 0) (u : Fin 1) (l : Fin 128) : (outsAt1 V c t.val t.isLt).2.2 (ix2 u l) = sw V c t.val l := by
  rw [outsAt1_A V c t h]
  dsimp only
  rw [PostBlock.A6, PostBlock.b1, PostBlock.dW6, PostBlock.b63, zero_add]
  simp only [a1, g1, e1]
  rfl
theorem dwB (h : ¬t.val % 4 = 0) (u : Fin 1) (l : Fin 128) : (outsAt1 V c t.val t.isLt).2.2 (ix2 u l)
    = (outsAt1 V c (t.val - 1) (Nat.lt_of_le_of_lt (Nat.sub_le _ _) t.isLt)).2.2 (ix2 u l) + sw V c t.val l := by
  rw [outsAt1_B V c t h]
  dsimp only
  rw [PostBlock.B6, PostBlock.b1, PostBlock.dW6]
  simp only [a1, g1, e1]
  rfl

/-- Over the four blocks of rows the sum is complete. -/
theorem dw4 (h : t.val % 4 = 3) (u : Fin 1) (l : Fin 128) : (outsAt1 V c t.val t.isLt).2.2 (ix2 u l)
    = sw V c (t.val - 1 - 1 - 1) l + sw V c (t.val - 1 - 1) l + sw V c (t.val - 1) l + sw V c t.val l := by
  have b := t.isLt
  rw [dwB V c t (by omega), dwB V c ⟨t.val - 1, by omega⟩ (by dsimp only; omega), dwB V c ⟨t.val - 1 - 1, by omega⟩ (by dsimp only; omega),
    dwA V c ⟨t.val - 1 - 1 - 1, by omega⟩ (by dsimp only; omega)]
end Bwd

/-- The weight's gradient by four blocks of rows. -/
theorem dw_sum (n : ℕ) (h : n % 4 = 3) (u : Fin 1) (l : Fin 128) :
    dW (V c main_arg0) (V c main_arg1) (V c main_arg3) (ix2 u l) = sw V c (n - 1 - 1 - 1) l + sw V c (n - 1 - 1) l + sw V c (n - 1) l + sw V c n l := by
  unfold dW sw
  exact sum_pos (fun s => ∑ j, wr (hd (V c main_arg0) s j) (hd (V c main_arg1) s j) (hd (V c main_arg3) s j) l) n h

theorem do_arr : (dat1 V c).arrAt 4 cfg1.N = dO (V c main_arg0) (V c main_arg1) (V c main_arg2) (V c main_arg3) := by
  refine (dat1 V c).arrAt_eq_of_covers 4 _ (by decide +kernel) fun t hf z => ?_
  blk_simp
  rw [after1_4]
  refine congrFun (of_col (f := (outsAt1 V c t.val t.isLt).1)
    (g := fun z => dO (V c main_arg0) (V c main_arg1) (V c main_arg2) (V c main_arg3) ((win1_4.blk t).view.emb z)) fun r j l => ?_) z
  dsimp only
  rw [do1 V c t, o1_4]
theorem dg_arr : (dat1 V c).arrAt 5 cfg1.N = dG (V c main_arg0) (V c main_arg1) (V c main_arg2) (V c main_arg3) := by
  refine (dat1 V c).arrAt_eq_of_covers 5 _ (by decide +kernel) fun t hf z => ?_
  blk_simp
  rw [after1_5]
  refine congrFun (of_col (f := (outsAt1 V c t.val t.isLt).2.1)
    (g := fun z => dG (V c main_arg0) (V c main_arg1) (V c main_arg2) (V c main_arg3) ((win1_5.blk t).view.emb z)) fun r j l => ?_) z
  dsimp only
  rw [dg1 V c t, o1_5]
theorem dw_arr : (dat1 V c).arrAt 6 cfg1.N = dW (V c main_arg0) (V c main_arg1) (V c main_arg3) := by
  refine (dat1 V c).arrAt_eq_of_covers 6 _ (by decide +kernel) fun t hf z => ?_
  have h3 : t.val % 4 = 3 := (flush1_6 t).mp hf
  blk_simp
  rw [after1_6]
  refine congrFun (of_ix2 (f := (outsAt1 V c t.val t.isLt).2.2)
    (g := fun z => dW (V c main_arg0) (V c main_arg1) (V c main_arg3) ((win1_6.blk t).view.emb z)) fun u l => ?_) z
  dsimp only
  rw [dw4 V c t h3, o1_6, dw_sum V c t.val h3]

end Cert.Proof.PostArrays

end
-- ==== Proof.PostRun.lean ====
/- Hand-written, untrusted. The delta rule's gated output norm, run: the four results of its kernel program as functions of the four
   arguments. -/
module

public import proofs.«01_k».proof.Proof.PostArrays
public import proofs.«01_k».proof.Proof.Gen.Kernel12Ideal.Frame

@[expose] public section

set_option maxRecDepth 16384

noncomputable section

namespace Cert.Proof.PostRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel12Ideal Cert.Kernel12Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev o : Post.Arr := m ((c.tc : Thread nD τ).loc main_arg0)
abbrev g : Post.Arr := m ((c.tc : Thread nD τ).loc main_arg1)
abbrev w : Post.Wt := m ((c.tc : Thread nD τ).loc main_arg2)
abbrev e : Post.Arr := m ((c.tc : Thread nD τ).loc main_arg3)

/-! ## The results -/

theorem e0_at : W1 m ρ c (Proc.devRef .tc main_v0) = Post.y (o m c) (g m c) (w m c) := by
  refine (W1_arr m ρ c 3).trans ((PostArrays.y_arr (V0 m ρ) c).trans ?_)
  rfl
theorem e0_end : W3 m ρ c (Proc.devRef .tc main_v0) = Post.y (o m c) (g m c) (w m c) :=
  (W3_of m ρ c main_v0 (by decide)).trans ((W2_of m ρ c main_v0 (by decide)).trans (e0_at m ρ c))
theorem e1_at : W2 m ρ c (Proc.devRef .tc main_v1_0) = Post.dO (o m c) (g m c) (w m c) (e m c) := by
  refine (W2_arr m ρ c 4).trans ((PostArrays.do_arr (V1 m ρ) c).trans ?_)
  rw [show V1 m ρ c main_arg0 = o m c from W1_args m ρ c main_arg0 (by decide),
    show V1 m ρ c main_arg1 = g m c from W1_args m ρ c main_arg1 (by decide),
    show V1 m ρ c main_arg2 = w m c from W1_args m ρ c main_arg2 (by decide),
    show V1 m ρ c main_arg3 = e m c from W1_args m ρ c main_arg3 (by decide)]
theorem e1_end : W3 m ρ c (Proc.devRef .tc main_v1_0) = Post.dO (o m c) (g m c) (w m c) (e m c) :=
  (W3_of m ρ c main_v1_0 (by decide)).trans (e1_at m ρ c)
theorem e2_at : W2 m ρ c (Proc.devRef .tc main_v1_1) = Post.dG (o m c) (g m c) (w m c) (e m c) := by
  refine (W2_arr m ρ c 5).trans ((PostArrays.dg_arr (V1 m ρ) c).trans ?_)
  rw [show V1 m ρ c main_arg0 = o m c from W1_args m ρ c main_arg0 (by decide),
    show V1 m ρ c main_arg1 = g m c from W1_args m ρ c main_arg1 (by decide),
    show V1 m ρ c main_arg2 = w m c from W1_args m ρ c main_arg2 (by decide),
    show V1 m ρ c main_arg3 = e m c from W1_args m ρ c main_arg3 (by decide)]
theorem e2_end : W3 m ρ c (Proc.devRef .tc main_v1_1) = Post.dG (o m c) (g m c) (w m c) (e m c) :=
  (W3_of m ρ c main_v1_1 (by decide)).trans (e2_at m ρ c)
theorem e3_at : W2 m ρ c (Proc.devRef .tc main_v1_2) = Post.dW (o m c) (g m c) (e m c) := by
  refine (W2_arr m ρ c 6).trans ((PostArrays.dw_arr (V1 m ρ) c).trans ?_)
  rw [show V1 m ρ c main_arg0 = o m c from W1_args m ρ c main_arg0 (by decide),
    show V1 m ρ c main_arg1 = g m c from W1_args m ρ c main_arg1 (by decide),
    show V1 m ρ c main_arg3 = e m c from W1_args m ρ c main_arg3 (by decide)]
theorem e3_end : W3 m ρ c (Proc.devRef .tc main_v1_2) = Post.dW (o m c) (g m c) (e m c) :=
  (W3_of m ρ c main_v1_2 (by decide)).trans (e3_at m ρ c)

set_option backward.isDefEq.respectTransparency.types false in
/-- From any memory the program runs to its end with the four results at these values. -/
theorem run : θ_run defs (onTc (τ := τ) (main (F := Ideal))) ⟨m, fun _ => 0, ρ⟩ (fun r => ∀ c : Dev nD,
      r.2.mem ((c.tc : Thread nD τ).loc main_v0) = Post.y (o m c) (g m c) (w m c)
      ∧ r.2.mem ((c.tc : Thread nD τ).loc main_v1_0) = Post.dO (o m c) (g m c) (w m c) (e m c)
      ∧ r.2.mem ((c.tc : Thread nD τ).loc main_v1_1) = Post.dG (o m c) (g m c) (w m c) (e m c)
      ∧ r.2.mem ((c.tc : Thread nD τ).loc main_v1_2) = Post.dW (o m c) (g m c) (e m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s e _ c =>
      ⟨(e c _ (mem_uc main_v0 (by decide))).trans (e0_end m ρ c),
       (e c _ (mem_uc main_v1_0 (by decide))).trans (e1_end m ρ c),
       (e c _ (mem_uc main_v1_1 (by decide))).trans (e2_end m ρ c),
       (e c _ (mem_uc main_v1_2 (by decide))).trans (e3_end m ρ c)⟩)

end Cert.Proof.PostRun

end
-- ==== Proof.PostRef.lean ====
/- Hand-written, untrusted. The reference program of the delta rule's gated output norm, read head by head. -/
module

public import proofs.«01_k».proof.Proof.PostSpec
public import proofs.«01_k».proof.Proof.Gen.Reference12Ideal.Read
public import Idealize.ShloMosaic.Lib.KernelVsHost

@[expose] public section

set_option maxRecDepth 16384

noncomputable section

namespace Cert.Proof.PostRef

open Idealize.ShloMosaic Cert.Reference12Ideal Cert.Reference12Ideal.Gen Cert.Reference12Ideal.Read Idealize.ShloMosaic.Pointwise
open Norm Post

/-! ## A sum over the first two of three axes -/

/-- A sum over the first two of three axes is one over each. -/
theorem two_axes {n0 n1 n2 : ℕ} (h : (⟨3, ![n0, n1, n2]⟩ : Shape).ReducesTo [0, 1] ⟨1, ![n2]⟩) (v : (⟨3, ![n0, n1, n2]⟩ : Shape).Idx → EReal) (l : Fin n2) :
    Ideal.hostReduceAdd h v 0 (ix1 l) = ∑ t : Fin n0, ∑ j : Fin n1, v (ix3 t j l) := by
  unfold Ideal.hostReduceAdd
  rw [zero_add, ← Fintype.sum_prod_type' (fun (t : Fin n0) (j : Fin n1) => v (ix3 t j l))]
  have e : ∀ i ∈ Finset.univ.filter (fun i : (⟨3, ![n0, n1, n2]⟩ : Shape).Idx => h.drop i = ix1 l), ix3 (i 0) (i 1) l = i := fun i hi => by
    have h := congrArg Fin.val (congrFun (Finset.mem_filter.mp hi).2 ⟨0, Nat.one_pos⟩)
    funext c
    match c with
    | ⟨0, _⟩ => rfl
    | ⟨1, _⟩ => rfl
    | ⟨2, _⟩ => exact Fin.ext h.symm
  refine Finset.sum_bij' (fun i _ => ((i 0, i 1) : Fin n0 × Fin n1)) (fun p _ => ix3 p.1 p.2 l) (fun _ _ => Finset.mem_univ _) (fun p _ => ?_)
    (fun i hi => e i hi) (fun p _ => Prod.ext rfl rfl) (fun i hi => congrArg v (e i hi).symm)
  refine Finset.mem_filter.mpr ⟨Finset.mem_univ _, funext fun c => ?_⟩
  match c with
  | ⟨0, _⟩ => rfl

variable (o g : Arr) (w : Wt) (e : Arr)

section Heads
variable (t : Fin 2048) (j : Fin 4) (l : Fin 128) (u : Fin 1)

/-! ## The norm and the gate -/

theorem s2 : val_main_v2 (F := Ideal) o (ix3 t j l) = hd o t j l := by
  pointwise [val_main_v2]
  rfl
theorem s22 : val_main_v22 (F := Ideal) e (ix3 t j l) = hd e t j l := by
  pointwise [val_main_v22]
  rfl
theorem sg (n : Fin 512) : val_main_v0_2 (F := Ideal) g (ix2 t n) = Ideal.logistic (g (ix2 t n)) := by
  pointwise [val_main_v0_2, val_main_call0_v4, val_main_call0_v3, val_main_call0_v2, val_main_call0_v1, val_main_call0_v0, val_main_call0_cst, val_main_call0_cst_0]
  rfl
theorem s1 : val_main_v1 (F := Ideal) g (ix3 t j l) = sl (hd g t j) l := by
  pointwise [val_main_v1, val_main_v0_0]
  rw [sg]
  rfl
theorem s10 : val_main_v10 (F := Ideal) o (ix3 t j u) = ms L (hd o t j) := by
  pointwise [val_main_v10, val_main_v9, val_main_v8, val_main_v7, val_main_v6, val_main_v5, val_main_v4, val_main_cst, val_main_cst_0, val_main_cst_1]
  simp only [s2]
  rfl
theorem s11 : val_main_v11 (F := Ideal) o (ix3 t j u) = rs L (hd o t j) := by
  pointwise [val_main_v11]
  rw [s10]
  rfl
theorem s14 : val_main_v14 (F := Ideal) o (ix3 t j u) = Ideal.ofBits .f32 0xBF000000#32 * Ideal.div (rs L (hd o t j)) (ms L (hd o t j)) := by
  pointwise [val_main_v14, val_main_v13, val_main_v12, val_main_cst_2]
  rw [s10, s11]
theorem s16 : val_main_v16 (F := Ideal) o (ix3 t j l) = hd o t j l * rs L (hd o t j) := by
  pointwise [val_main_v16, val_main_v15]
  rw [s2, s11]
theorem s19 : val_main_v19 (F := Ideal) o w (ix3 t j l) = nr (hd o t j) (row w 0) l := by
  pointwise [val_main_v19, val_main_v18, val_main_v17, val_main_v3]
  rw [s16]
  rfl
theorem s20 : val_main_v20 (F := Ideal) o g w (ix3 t j l) = Post.yr (hd o t j) (hd g t j) (row w 0) l := by
  pointwise [val_main_v20]
  rw [s19, s1]
  rfl

/-! ## What comes back -/

theorem s24 : val_main_v24 (F := Ideal) g e (ix3 t j l) = er (hd g t j) (hd e t j) l := by
  pointwise [val_main_v24]
  rw [s22, s1]
  rfl
theorem s25 : val_main_v25 (F := Ideal) o g e (ix3 t j l) = wr (hd o t j) (hd g t j) (hd e t j) l := by
  pointwise [val_main_v25]
  rw [s16, s24]
  rfl
theorem s29 : val_main_v29 (F := Ideal) g w e (ix3 t j l) = er (hd g t j) (hd e t j) l * w (ix2 0 l) := by
  pointwise [val_main_v29, val_main_v28, val_main_v17, val_main_v3]
  rw [s24]
theorem s39 : val_main_v39 (F := Ideal) o g w e (ix2 t j) = pull L (hd o t j) (fun l => er (hd g t j) (hd e t j) l * w (ix2 0 l)) := by
  pointwise [val_main_v39, val_main_v38, val_main_v37, val_main_v36, val_main_v33, val_main_v32, val_main_v31, val_main_cst_5, val_main_cst_6, val_main_cst_7]
  simp only [Fin.sum_univ_one, s2, s29, s14]
  rfl
theorem s44 : val_main_v44 (F := Ideal) o g w e (ix3 t j l) = dr (hd o t j) (hd g t j) (row w 0) (hd e t j) l := by
  pointwise [val_main_v44, val_main_v43, val_main_v42, val_main_v41, val_main_v40, val_main_v35, val_main_v34]
  rw [s2, s29, s11, s39]
  rfl
theorem s23 : val_main_v23 (F := Ideal) o w e (ix3 t j l) = nr (hd o t j) (row w 0) l * hd e t j l := by
  pointwise [val_main_v23]
  rw [s19, s22]
theorem s47 : val_main_v47 (F := Ideal) o w e (ix2 t (col j l)) = nr (hd o t j) (row w 0) l * hd e t j l := by
  refine Eq.trans (b := val_main_v23 (F := Ideal) o w e (ix3 t (hj (col j l)) (ln (col j l)))) ?_ ?_
  · pointwise [val_main_v47]
    rfl
  · rw [hj_col, ln_col, s23]
theorem s48 : val_main_v48 (F := Ideal) o g w e (ix2 t (col j l)) = gr (hd o t j) (hd g t j) (row w 0) (hd e t j) l := by
  pointwise [val_main_v48, val_main_call1_v2, val_main_call1_v1, val_main_call1_v0, val_main_v0_1, val_main_call0_v7, val_main_call0_v6, val_main_call0_cst_1]
  rw [s47, sg]
  rfl
theorem s26 : val_main_v26 (F := Ideal) o g e (ix1 l) = ∑ t, ∑ j, wr (hd o t j) (hd g t j) (hd e t j) l := by
  refine Eq.trans (b := Ideal.hostReduceAdd reducesTo_S2048x4x128_S128_d0_1 (val_main_v25 (F := Ideal) o g e) 0 (ix1 l)) ?_ ?_
  · exact congrArg (fun z => Ideal.hostReduceAdd reducesTo_S2048x4x128_S128_d0_1 (val_main_v25 (F := Ideal) o g e) z (ix1 l)) Ideal.ofBits_zero_f32
  · rw [two_axes]
    simp only [s25]
theorem s30 : val_main_v30 (F := Ideal) o g e (ix1 l) = ∑ t, ∑ j, wr (hd o t j) (hd g t j) (hd e t j) l := by
  refine Eq.trans (b := Ideal.hostReduceAdd reducesTo_S1x1x128_S128_d0_1 (val_main_v27 (F := Ideal) o g e) 0 (ix1 l)) ?_ ?_
  · exact congrArg (fun z => Ideal.hostReduceAdd reducesTo_S1x1x128_S128_d0_1 (val_main_v27 (F := Ideal) o g e) z (ix1 l)) Ideal.ofBits_zero_f32
  · rw [two_axes, Fin.sum_univ_one, Fin.sum_univ_one]
    pointwise [val_main_v27]
    exact s26 o g e l
end Heads

/-! ## The results -/

/-- The index of a position and a column. -/
theorem rl {n m : ℕ} (z : (⟨2, ![n, m]⟩ : Shape).Idx) : ∃ (r : Fin n) (l : Fin m), z = ix2 r l :=
  ⟨z 0, z 1, by funext a; match a with | ⟨0, _⟩ => rfl | ⟨1, _⟩ => rfl⟩
theorem y_ref : val_main_v21 (F := Ideal) o g w = y o g w := by
  funext z
  obtain ⟨t, n, rfl⟩ := rl z
  refine Eq.trans (b := val_main_v20 (F := Ideal) o g w (ix3 t (hj n) (ln n))) ?_ (s20 o g w t (hj n) (ln n))
  pointwise [val_main_v21]
  rfl
theorem do_ref : val_main_v46 (F := Ideal) o g w e = dO o g w e := by
  funext z
  obtain ⟨t, n, rfl⟩ := rl z
  refine Eq.trans (b := val_main_v44 (F := Ideal) o g w e (ix3 t (hj n) (ln n))) ?_ (s44 o g w e t (hj n) (ln n))
  pointwise [val_main_v46]
  rfl
theorem dg_ref : val_main_v48 (F := Ideal) o g w e = dG o g w e := by
  funext z
  obtain ⟨t, n, rfl⟩ := rl z
  obtain ⟨j, l, rfl⟩ := col_surj n
  refine (s48 o g w e t j l).trans ?_
  show _ = gr (hd o t (hj (col j l))) (hd g t (hj (col j l))) (row w 0) (hd e t (hj (col j l))) (ln (col j l))
  rw [hj_col, ln_col]
theorem dw_ref : val_main_v45 (F := Ideal) o g e = dW o g e := by
  funext z
  obtain ⟨u, l, rfl⟩ := rl z
  pointwise [val_main_v45]
  exact s30 o g e l

end Cert.Proof.PostRef

end
-- ==== Proof.AdamSpec.lean ====
/- Hand-written, untrusted. One step of the optimiser: the change of a weight and its two moments. -/
module

public import Idealize.ShloMosaic.Lib.Pointwise

@[expose] public section

noncomputable section

namespace Cert.Proof.Adam

open Idealize.ShloMosaic

/-- The decay of the first moment. -/
abbrev b1 : EReal := Ideal.ofBits .f32 0x3F666666#32
/-- One less that decay. -/
abbrev n1 : EReal := Ideal.ofBits .f32 0x3DCCCCCD#32
/-- The decay of the second moment. -/
abbrev b2 : EReal := Ideal.ofBits .f32 0x3F7FBE77#32
/-- One less that decay. -/
abbrev n2 : EReal := Ideal.ofBits .f32 0x3A83126F#32
/-- The first moment's bias at this step. -/
abbrev k1 : EReal := Ideal.ofBits .f32 0x3F26BD02#32
/-- The second moment's bias at this step. -/
abbrev k2 : EReal := Ideal.ofBits .f32 0x3C231ACC#32
/-- The small number under the quotient. -/
abbrev ep : EReal := Ideal.ofBits .f32 0x322BCC77#32
/-- The decay of the weight. -/
abbrev wd : EReal := Ideal.ofBits .f32 0x3C23D70A#32
/-- The rate, negated. -/
abbrev lr : EReal := Ideal.ofBits .f32 0xBA83126F#32

/-! ## One entry -/

/-- The first moment. -/
def mom (g m : EReal) : EReal := b1 * m + n1 * g
/-- The second moment. -/
def sqr (g v : EReal) : EReal := b2 * v + n2 * (g * g)
/-- The change of the weight. -/
def chg (w g m v : EReal) : EReal :=
  lr * (Ideal.div (Ideal.div (mom g m) k1) (Ideal.sqrt (Ideal.div (sqr g v) k2) + ep) + wd * w)

/-! ## The arrays -/

/-- A weight of four layers. -/
abbrev L : Type := Vec Ideal ⟨3, ![4, 128, 1024]⟩ .f32
variable (w g m v : L)
/-- The changes. -/
def dw : L := fun i => chg (w i) (g i) (m i) (v i)
/-- The first moments. -/
def nm : L := fun i => mom (g i) (m i)
/-- The second moments. -/
def nv : L := fun i => sqr (g i) (v i)

end Cert.Proof.Adam

end
-- ==== Proof.AdamBlock.lean ====
/- Hand-written, untrusted. The call of the optimiser: what one block leaves. -/
module

public import proofs.«01_k».proof.Proof.Gen.Kernel16Ideal.Frame
public import proofs.«01_k».proof.Proof.AdamSpec
public import Idealize.ShloMosaic.Lib.Pipeline.ValueKit

@[expose] public section

set_option maxRecDepth 16384

noncomputable section

namespace Cert.Proof.AdamBlock

open Idealize.ShloMosaic Cert.Kernel16Ideal Cert.Kernel16Ideal.Gen Idealize.ShloMosaic.Pointwise Adam

/-- A block's start. -/
theorem hz3 : (![0, 0, 0] : Fin 3 → ℕ) = fun _ => 0 := by decide

/-- The index of a layer, a row and a column. -/
theorem tl {n m k : ℕ} (y : (⟨3, ![n, m, k]⟩ : Shape).Idx) : ∃ (u : Fin n) (r : Fin m) (l : Fin k), y = ix3 u r l :=
  ⟨y 0, y 1, y 2, by funext a; match a with | ⟨0, _⟩ => rfl | ⟨1, _⟩ => rfl | ⟨2, _⟩ => rfl⟩

variable (w g m v : Vec Ideal S1x128x1024 .f32)

theorem m5 (z : S1x128x1024.Idx) : out0_5 w g m v z = mom (g z) (m z) := by
  obtain ⟨u, r, l, rfl⟩ := tl z
  obtain rfl : u = 0 := Subsingleton.elim _ _
  unfold out0_5
  rw [View.canon_unit_zero hz3]
  simp only [View.ld_unit_zero (S := S1x128x1024) hz3]
  pointwise [k0_pay2, k0_pay5, k0_pay4]
  rfl
theorem v6 (z : S1x128x1024.Idx) : out0_6 w g m v z = sqr (g z) (v z) := by
  obtain ⟨u, r, l, rfl⟩ := tl z
  obtain rfl : u = 0 := Subsingleton.elim _ _
  unfold out0_6
  rw [View.canon_unit_zero hz3]
  simp only [View.ld_unit_zero (S := S1x128x1024) hz3]
  pointwise [k0_pay3, k0_pay6, k0_pay4]
  rfl
theorem d4 (z : S1x128x1024.Idx) : out0_4 w g m v z = chg (w z) (g z) (m z) (v z) := by
  obtain ⟨u, r, l, rfl⟩ := tl z
  obtain rfl : u = 0 := Subsingleton.elim _ _
  unfold out0_4
  rw [View.canon_unit_zero hz3]
  simp only [View.ld_unit_zero (S := S1x128x1024) hz3]
  pointwise [k0_pay1, k0_pay7, k0_pay6, k0_pay5, k0_pay4]
  rfl

end Cert.Proof.AdamBlock

end
-- ==== Proof.AdamArrays.lean ====
/- Hand-written, untrusted. What the call of the optimiser leaves in its arrays. -/
module

public import proofs.«01_k».proof.Proof.AdamBlock

@[expose] public section

set_option maxRecDepth 16384

noncomputable section

namespace Cert.Proof.AdamArrays

open Idealize.ShloMosaic Idealize.ShloMosaic.TcCoe Cert.Kernel16Ideal Cert.Kernel16Ideal.Gen Idealize.ShloMosaic.Pointwise

variable (m : (ℓ : Loc nD τ sig) → Buf (Elt Ideal) ℓ) (c : Dev nD)

theorem i0 : ∀ t : Fin cfg0.N, win0_0.index t = ![t.val, 0, 0]
    ∧ win0_1.index t = ![t.val, 0, 0]
    ∧ win0_2.index t = ![t.val, 0, 0]
    ∧ win0_3.index t = ![t.val, 0, 0]
    ∧ win0_4.index t = ![t.val, 0, 0]
    ∧ win0_5.index t = ![t.val, 0, 0]
    ∧ win0_6.index t = ![t.val, 0, 0] :=
  (by decide +kernel : ∀ t : Fin grid0.N, _)

theorem dw_arr : (dats m 0 c).arrAt 4 cfg0.N = Adam.dw (V m c main_arg0) (V m c main_arg1) (V m c main_arg2) (V m c main_arg3) := by
  refine (dats m 0 c).arrAt_eq_of_covers 4 _ (by decide +kernel) fun t hf z => ?_
  blk_simp
  rw [after0_4, AdamBlock.d4]
  obtain ⟨e0, e1, e2, e3, e4, e5, e6⟩ := i0 t
  unfold Adam.dw
  blk_point [iblk, e0, e1, e2, e3, e4]
theorem nm_arr : (dats m 0 c).arrAt 5 cfg0.N = Adam.nm (V m c main_arg1) (V m c main_arg2) := by
  refine (dats m 0 c).arrAt_eq_of_covers 5 _ (by decide +kernel) fun t hf z => ?_
  blk_simp
  rw [after0_5, AdamBlock.m5]
  obtain ⟨e0, e1, e2, e3, e4, e5, e6⟩ := i0 t
  unfold Adam.nm
  blk_point [iblk, e0, e1, e2, e3, e5]
theorem nv_arr : (dats m 0 c).arrAt 6 cfg0.N = Adam.nv (V m c main_arg1) (V m c main_arg3) := by
  refine (dats m 0 c).arrAt_eq_of_covers 6 _ (by decide +kernel) fun t hf z => ?_
  blk_simp
  rw [after0_6, AdamBlock.v6]
  obtain ⟨e0, e1, e2, e3, e4, e5, e6⟩ := i0 t
  unfold Adam.nv
  blk_point [iblk, e0, e1, e2, e3, e6]

end Cert.Proof.AdamArrays

end
-- ==== Proof.AdamRun.lean ====
/- Hand-written, untrusted. The run of the optimiser: the three results of the kernel program as functions of the four arguments. -/
module

public import proofs.«01_k».proof.Proof.AdamArrays
public import proofs.«01_k».proof.Proof.Gen.Kernel16Ideal.Frame

@[expose] public section

set_option maxRecDepth 16384

noncomputable section

namespace Cert.Proof.AdamRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel16Ideal Cert.Kernel16Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev w : Adam.L := m ((c.tc : Thread nD τ).loc main_arg0)
abbrev g : Adam.L := m ((c.tc : Thread nD τ).loc main_arg1)
abbrev mo : Adam.L := m ((c.tc : Thread nD τ).loc main_arg2)
abbrev vo : Adam.L := m ((c.tc : Thread nD τ).loc main_arg3)

/-- From any memory the program runs to its end with the three results at these values. -/
theorem run : θ_run defs (onTc (τ := τ) (main (F := Ideal))) ⟨m, fun _ => 0, ρ⟩ (fun r => ∀ c : Dev nD,
      r.2.mem ((c.tc : Thread nD τ).loc main_v0_0) = Adam.dw (w m c) (g m c) (mo m c) (vo m c)
      ∧ r.2.mem ((c.tc : Thread nD τ).loc main_v0_1) = Adam.nm (g m c) (mo m c)
      ∧ r.2.mem ((c.tc : Thread nD τ).loc main_v0_2) = Adam.nv (g m c) (vo m c)) :=
  (θ_run defs _ _).mono (fun r h c =>
    ⟨((h c).1 4).trans (AdamArrays.dw_arr m c), ((h c).1 5).trans (AdamArrays.nm_arr m c), ((h c).1 6).trans (AdamArrays.nv_arr m c)⟩) (run_main m ρ)

end Cert.Proof.AdamRun

end
-- ==== Proof.AdamRef.lean ====
/- Hand-written, untrusted. The reference's step of the optimiser is the same function. -/
module

public import proofs.«01_k».proof.Proof.AdamSpec
public import proofs.«01_k».proof.Proof.Gen.Reference16Ideal.Read

@[expose] public section

set_option maxRecDepth 16384

noncomputable section

namespace Cert.Proof.AdamRef

open Idealize.ShloMosaic Cert.Reference16Ideal Cert.Reference16Ideal.Read Idealize.ShloMosaic.Pointwise Adam

variable (w g m v : L)

theorem nm_ref : val_main_v4 (F := Ideal) g m = Adam.nm g m := by
  funext z
  pointwise [val_main_v4, val_main_v3, val_main_v2, val_main_v1, val_main_v0, val_main_cst, val_main_cst_1]
  rfl
theorem nv_ref : val_main_v10 (F := Ideal) g v = Adam.nv g v := by
  funext z
  pointwise [val_main_v10, val_main_v9, val_main_v8, val_main_v7, val_main_v6, val_main_v5, val_main_cst_2, val_main_cst_3]
  rfl
theorem dw_ref : val_main_v23 (F := Ideal) w g m v = Adam.dw w g m v := by
  funext z
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_1, val_main_cst_2, val_main_cst_3, val_main_cst_4, val_main_cst_5, val_main_cst_6, val_main_cst_7]
  rfl

end Cert.Proof.AdamRef

end
-- ==== Proof.LossSpec.lean ====
/- Hand-written, untrusted. The loss, half the sum over positions of the mean square of the difference, and its gradient. -/
module

public import proofs.«01_k».proof.Proof.NormSpec

@[expose] public section

noncomputable section

namespace Cert.Proof.Loss

open Idealize.ShloMosaic Norm

/-- One half. -/
abbrev hf : EReal := Ideal.ofBits .f32 0x3F000000#32
/-- The width of a row. -/
abbrev wd : EReal := Ideal.ofBits .f32 0x44800000#32
/-- The inverse of the 1024 places over which the call spreads a block's share. -/
abbrev sp : EReal := Ideal.ofBits .f32 0x3A800000#32
/-- Two. -/
abbrev tw : EReal := Ideal.ofBits .f32 0x40000000#32

/-! ## The constants -/

theorem hf_val : hf = ((1/2 : ℝ) : EReal) := by
  simp [hf, Ideal.ofBits, Ideal.ieee]
  rw [← EReal.coe_mul]; norm_num
theorem sp_val : sp = ((1/1024 : ℝ) : EReal) := by
  simp [sp, Ideal.ofBits, Ideal.ieee]
  rw [← EReal.coe_mul]; norm_num
theorem tw_val : tw = ((2 : ℝ) : EReal) := by
  simp [tw, Ideal.ofBits, Ideal.ieee]
  rw [← EReal.coe_mul]; norm_num
theorem wd_val : wd = ((1024 : ℝ) : EReal) := by
  simp [wd, Ideal.ofBits, Ideal.ieee]
  rw [← EReal.coe_mul]; norm_num

/-! ## Sums -/

/-- The mean square of a row's difference. -/
def q (x t : Row) : EReal := Ideal.div (∑ l, (x l - t l) * (x l - t l)) wd

theorem square_nonneg (z : EReal) : 0 ≤ z * z := by
  induction z with
  | bot => simp
  | coe r => rw [← EReal.coe_mul]; exact EReal.coe_nonneg.mpr (mul_self_nonneg r)
  | top => simp
theorem q_nonneg (x t : Row) : 0 ≤ q x t := by
  unfold q
  have h : 0 ≤ ∑ l, (x l - t l) * (x l - t l) := Finset.sum_nonneg fun l _ => square_nonneg _
  rw [wd_val]
  rw [Ideal.div_coe (by norm_num)]
  exact mul_nonneg h (EReal.coe_nonneg.mpr (by norm_num))

/-- A sum of 1024 equal shares is the whole. -/
theorem shares (z : EReal) : (8 : ℕ) • (128 : ℕ) • (z * sp) = z := by
  rw [smul_smul, EReal.nsmul_eq_mul, sp_val, mul_left_comm]
  have e : (((8 * 128 : ℕ) : EReal)) * ((1/1024 : ℝ) : EReal) = 1 := by
    rw [show (((8 * 128 : ℕ) : EReal)) = ((1024 : ℝ) : EReal) by norm_num; rfl, ← EReal.coe_mul]; norm_num
  rw [e, mul_one]
/-- A half of a sum of what is not negative. -/
theorem half4 {a b c d : EReal} (ha : 0 ≤ a) (hb : 0 ≤ b) (hc : 0 ≤ c) (hd : 0 ≤ d) : hf * a + hf * b + hf * c + hf * d = hf * (a + b + c + d) := by
  rw [EReal.left_distrib_of_nonneg (add_nonneg (add_nonneg ha hb) hc) hd, EReal.left_distrib_of_nonneg (add_nonneg ha hb) hc, EReal.left_distrib_of_nonneg ha hb]
/-- A product and its mirror image are the product with twice one factor. -/
theorem twice (d k : EReal) : d * k + k * d = k * (tw * d) := by
  rw [mul_left_comm, mul_comm d k, tw_val, show ((2 : ℝ) : EReal) = ((2 : ℕ) : EReal) by norm_num; rfl, ← EReal.nsmul_eq_mul, two_nsmul]

variable (y t : A)
/-- The loss, an array of one entry. -/
def loss : Vec Ideal ⟨1, ![1]⟩ .f32 := fun _ => hf * ∑ r, q (row y r) (row t r)
/-- Its gradient. -/
def dy : A := fun i => Ideal.div hf wd * (tw * (y i - t i))

end Cert.Proof.Loss

end
-- ==== Proof.LossBlock.lean ====
/- Hand-written, untrusted. The two calls of the loss: what one block of rows leaves. -/
module

public import proofs.«01_k».proof.Proof.Gen.Kernel15Ideal.Frame
public import proofs.«01_k».proof.Proof.LossSpec
public import Idealize.ShloMosaic.Lib.Pointwise
public import Idealize.ShloMosaic.Lib.Pipeline.ValueKit

@[expose] public section

set_option maxRecDepth 16384

noncomputable section

namespace Cert.Proof.LossBlock

open Idealize.ShloMosaic Cert.Kernel15Ideal Cert.Kernel15Ideal.Gen Idealize.ShloMosaic.Pointwise Norm Loss

/-- A block's start. -/
theorem hz2 : (![0, 0] : Fin 2 → ℕ) = fun _ => 0 := by decide

/-- The index of a row and a column. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

variable (x t : Vec Ideal S512x1024 .f32) (e : Vec Ideal S8x128 .f32)

theorem p2 (z : S8x128.Idx) : out0_2 x t z = hf * (∑ r, q (row x r) (row t r)) * sp := by
  obtain ⟨u, v, rfl⟩ := rl z
  unfold out0_2
  rw [View.canon_unit_zero hz2]
  simp only [View.ld_unit_zero (S := S512x1024) hz2]
  pointwise [k0_pay1]
  rfl
theorem d3 (he : ∀ z, e z = 1) (z : S512x1024.Idx) : out1_3 x t e z = Ideal.div hf wd * (tw * (x z - t z)) := by
  obtain ⟨u, v, rfl⟩ := rl z
  unfold out1_3
  rw [View.canon_unit_zero hz2]
  simp only [View.ld_unit_zero (S := S512x1024) hz2, View.ld_unit_zero (S := S8x128) hz2]
  pointwise [k1_pay1]
  have w : (∑ a : Fin 8, ∑ b : Fin 128, e (ix2 a b)) * sp = 1 := by
    simp only [he, Finset.sum_const, Finset.card_univ, Fintype.card_fin]
    refine Eq.trans ?_ (shares 1)
    rw [smul_smul, smul_smul, EReal.nsmul_eq_mul, EReal.nsmul_eq_mul, mul_one, one_mul]
  refine Eq.trans ?_ (twice (x (ix2 u v) - t (ix2 u v)) (Ideal.div hf wd))
  simp only [Fin.sum_univ_one]
  rw [w, mul_one]

end Cert.Proof.LossBlock

end
-- ==== Proof.LossArrays.lean ====
/- Hand-written, untrusted. What the two calls of the loss leave in their arrays. -/
module

public import proofs.«01_k».proof.Proof.LossBlock
public import proofs.«01_k».proof.Proof.XArrays

@[expose] public section

set_option maxRecDepth 16384

noncomputable section

namespace Cert.Proof.LossArrays

open Idealize.ShloMosaic Idealize.ShloMosaic.TcCoe Cert.Kernel15Ideal Cert.Kernel15Ideal.Gen Idealize.ShloMosaic.Pointwise Norm Loss
open XArrays (pos sum_pos of_ix2)

/-- A block's share of the loss. -/
def share (y t : A) (n : ℕ) : EReal := hf * (∑ r, q (row y (pos n r)) (row t (pos n r))) * sp
/-- The shares, each spread over eight rows. -/
def shs (y t : A) : (⟨2, ![32, 128]⟩ : Shape).Idx → EReal := fun i => share y t ((i 0).val / 8)

/-- The sum of the spread shares is the loss. -/
theorem total (y t : A) : ∑ a : Fin 32, ∑ b : Fin 128, shs y t (ix2 a b) = hf * ∑ r, q (row y r) (row t r) := by
  have e : ∀ a : Fin 32, (∑ b : Fin 128, shs y t (ix2 a b)) = (128 : ℕ) • share y t (a.val / 8) := fun a => by
    refine (Finset.sum_const (share y t (a.val / 8))).trans ?_
    rw [Finset.card_univ, Fintype.card_fin]
  have s : (∑ a : Fin 32, (128 : ℕ) • share y t (a.val / 8)) = (∑ i : Fin 4, ∑ _j : Fin 8, (128 : ℕ) • share y t i.val : EReal) := by
    rw [← Fintype.sum_prod_type' (fun (i : Fin 4) (_ : Fin 8) => (128 : ℕ) • share y t i.val)]
    refine (Equiv.sum_comp (finProdFinEquiv (m := 4) (n := 8)) (fun a : Fin 32 => (128 : ℕ) • share y t (a.val / 8))).symm.trans (Finset.sum_congr rfl fun p _ => ?_)
    refine congrArg (fun n => (128 : ℕ) • share y t n) ?_
    simp only [finProdFinEquiv_apply_val]; omega
  have n : ∀ k, 0 ≤ ∑ r, q (row y (pos k r)) (row t (pos k r)) := fun k => Finset.sum_nonneg fun r _ => q_nonneg _ _
  simp only [e]
  rw [s]
  simp only [Finset.sum_const, Finset.card_univ, Fintype.card_fin, share, shares]
  rw [Fin.sum_univ_four]
  exact (half4 (n 0) (n 1) (n 2) (n 3)).trans (congrArg (hf * ·) (sum_pos (fun r => q (row y r) (row t r)) 3 rfl).symm)

/-- The buffers at a call's entry. -/
abbrev At := (c : Dev nD) → (b : Ref sig .tc) → Buf (Elt Ideal) ((c : Thread nD τ).loc b)
variable (V : At) (c : Dev nD)

theorem i0 : ∀ t : Fin cfg0.N, win0_0.index t = ![t.val % 4, 0] ∧ win0_1.index t = ![t.val % 4, 0] ∧ win0_2.index t = ![t.val % 4, 0] :=
  (by decide +kernel : ∀ t : Fin grid0.N, _)

section Reg0
variable (t : Fin cfg0.N)
theorem x0 (r : Fin 512) : row (iblk0 V c 0 t) r = row (V c main_arg0) (pos t.val r) := by
  obtain ⟨e, -⟩ := i0 t
  funext l
  refine congrArg (V c main_arg0) (funext fun a => Fin.ext ?_)
  match a with
  | ⟨0, _⟩ => blk_simp [e]; simp only [pos]
  | ⟨1, _⟩ => blk_simp [e]
theorem t0 (r : Fin 512) : row (iblk0 V c 1 t) r = row (V c main_arg1) (pos t.val r) := by
  obtain ⟨-, e, -⟩ := i0 t
  funext l
  refine congrArg (V c main_arg1) (funext fun a => Fin.ext ?_)
  match a with
  | ⟨0, _⟩ => blk_simp [e]; simp only [pos]
  | ⟨1, _⟩ => blk_simp [e]
theorem o0_2 (u : Fin 8) (v : Fin 128) : (((win0_2.blk t).view.emb (ix2 u v : S8x128.Idx)) 0).val / 8 = t.val % 4 := by
  obtain ⟨-, -, e⟩ := i0 t
  blk_simp [e]
  omega
end Reg0

theorem s_arr : (dat0 V c).arrAt 2 cfg0.N = shs (V c main_arg0) (V c main_arg1) := by
  refine (dat0 V c).arrAt_eq_of_covers 2 _ (by decide +kernel) fun t hf z => ?_
  blk_simp
  rw [after0_2]
  refine congrFun (of_ix2 (f := out0_2 (iblk0 V c 0 t) (iblk0 V c 1 t))
    (g := fun z => shs (V c main_arg0) (V c main_arg1) ((win0_2.blk t).view.emb z)) fun u v => ?_) z
  dsimp only
  rw [LossBlock.p2]
  unfold shs
  rw [o0_2]
  unfold share
  refine congrArg (fun s => Loss.hf * s * sp) (Finset.sum_congr rfl fun r _ => ?_)
  refine (congrArg₂ q (x0 V c t r) (t0 V c t r)).trans ?_
  have p : pos t.val r = pos (t.val % 4) r := Fin.ext (by simp only [pos]; omega)
  rw [p]

theorem i1 : ∀ t : Fin cfg1.N, win1_0.index t = ![t.val % 4, 0] ∧ win1_1.index t = ![t.val % 4, 0] ∧ win1_2.index t = ![t.val % 4, 0] ∧ win1_3.index t = ![t.val % 4, 0] :=
  (by decide +kernel : ∀ t : Fin grid1.N, _)

section Reg1
variable (t : Fin cfg1.N)
theorem x1 (r : Fin 512) : row (iblk1 V c 0 t) r = row (V c main_arg0) (pos t.val r) := by
  obtain ⟨e, -⟩ := i1 t
  funext l
  refine congrArg (V c main_arg0) (funext fun a => Fin.ext ?_)
  match a with
  | ⟨0, _⟩ => blk_simp [e]; simp only [pos]
  | ⟨1, _⟩ => blk_simp [e]
theorem t1 (r : Fin 512) : row (iblk1 V c 1 t) r = row (V c main_arg1) (pos t.val r) := by
  obtain ⟨-, e, -⟩ := i1 t
  funext l
  refine congrArg (V c main_arg1) (funext fun a => Fin.ext ?_)
  match a with
  | ⟨0, _⟩ => blk_simp [e]; simp only [pos]
  | ⟨1, _⟩ => blk_simp [e]
theorem o1_3 (r : Fin 512) (l : Fin 1024) : (win1_3.blk t).view.emb (ix2 r l : S512x1024.Idx) = ix2 (pos t.val r) l := by
  obtain ⟨-, -, -, e⟩ := i1 t
  refine funext fun a => Fin.ext ?_
  match a with
  | ⟨0, _⟩ => blk_simp [e]; dsimp [ix2, pos]
  | ⟨1, _⟩ => blk_simp [e]
end Reg1

theorem dy_arr (h : @Eq ((⟨2, ![32, 128]⟩ : Shape).Idx → EReal) (V c main_v3) (fun _ => 1)) :
    (dat1 V c).arrAt 3 cfg1.N = Loss.dy (V c main_arg0) (V c main_arg1) := by
  refine (dat1 V c).arrAt_eq_of_covers 3 _ (by decide +kernel) fun t hf z => ?_
  blk_simp
  rw [after1_3]
  refine congrFun (of_ix2 (f := out1_3 (iblk1 V c 0 t) (iblk1 V c 1 t) (iblk1 V c 2 t))
    (g := fun z => Loss.dy (V c main_arg0) (V c main_arg1) ((win1_3.blk t).view.emb z)) fun r l => ?_) z
  dsimp only
  rw [LossBlock.d3 _ _ (iblk1 V c 2 t) (fun z => congrFun h ((win1_2.blk t).view.emb z)), o1_3]
  exact congrArg₂ (fun a b : EReal => Ideal.div Loss.hf wd * (tw * (a - b))) (congrFun (x1 V c t r) l) (congrFun (t1 V c t r) l)

end Cert.Proof.LossArrays

end
-- ==== Proof.LossRun.lean ====
/- Hand-written, untrusted. The loss run: the two results of the kernel program as functions of the two arguments. -/
module

public import proofs.«01_k».proof.Proof.LossArrays
public import proofs.«01_k».proof.Proof.Gen.Kernel15Ideal.Frame

@[expose] public section

set_option maxRecDepth 16384

noncomputable section

namespace Cert.Proof.LossRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel15Ideal Cert.Kernel15Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev y : Norm.A := m ((c.tc : Thread nD τ).loc main_arg0)
abbrev t : Norm.A := m ((c.tc : Thread nD τ).loc main_arg1)

/-! ## The results -/

/-- The host lines after the first call add the spread shares up. -/
theorem host_sum (U : Valuation τ sig (Elt Ideal)) (a b : Norm.A) (h : U (Proc.devRef .tc main_v0) = LossArrays.shs a b) :
    StableHlo.after hostOps1 U (Proc.devRef .tc main_v2) = Loss.loss a b := by
  after_results
  rw [h]
  funext z
  obtain ⟨u, rfl⟩ : ∃ u : Fin 1, z = ix1 u := ⟨z 0, by funext a; match a with | ⟨0, _⟩ => rfl⟩
  pointwise []
  exact LossArrays.total a b
/-- The cotangents of the shares are ones. -/
theorem host_ones (U : Valuation τ sig (Elt Ideal)) :
    @Eq ((⟨2, ![32, 128]⟩ : Shape).Idx → EReal) (StableHlo.after hostOps1 U (Proc.devRef .tc main_v3)) (fun _ => 1) := by
  after_results
  funext z
  obtain ⟨u, v, rfl⟩ := LossBlock.rl z
  pointwise []
theorem e0_at : W2 m ρ c (Proc.devRef .tc main_v2) = Loss.loss (y m c) (t m c) :=
  host_sum (W1 m ρ c) (y m c) (t m c) ((W1_arr m ρ c 2).trans (LossArrays.s_arr (V0 m ρ) c))
theorem e0_end : W4 m ρ c (Proc.devRef .tc main_v2) = Loss.loss (y m c) (t m c) :=
  (W4_of m ρ c main_v2 (by decide)).trans ((W3_of m ρ c main_v2 (by decide)).trans (e0_at m ρ c))
theorem e1_at : W3 m ρ c (Proc.devRef .tc main_v4) = Loss.dy (y m c) (t m c) := by
  refine (W3_arr m ρ c 3).trans ((LossArrays.dy_arr (V2 m ρ) c (host_ones (W1 m ρ c))).trans ?_)
  rw [show V2 m ρ c main_arg0 = y m c from W2_args m ρ c main_arg0 (by decide),
    show V2 m ρ c main_arg1 = t m c from W2_args m ρ c main_arg1 (by decide)]
theorem e1_end : W4 m ρ c (Proc.devRef .tc main_v4) = Loss.dy (y m c) (t m c) :=
  (W4_of m ρ c main_v4 (by decide)).trans (e1_at m ρ c)

set_option backward.isDefEq.respectTransparency.types false in
/-- From any memory the program runs to its end with the two results at these values. -/
theorem run : θ_run defs (onTc (τ := τ) (main (F := Ideal))) ⟨m, fun _ => 0, ρ⟩ (fun r => ∀ c : Dev nD,
      r.2.mem ((c.tc : Thread nD τ).loc main_v2) = Loss.loss (y m c) (t m c)
      ∧ r.2.mem ((c.tc : Thread nD τ).loc main_v4) = Loss.dy (y m c) (t m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s e _ c =>
      ⟨(e c _ (mem_uc main_v2 (by decide))).trans (e0_end m ρ c),
       (e c _ (mem_uc main_v4 (by decide))).trans (e1_end m ρ c)⟩)

end Cert.Proof.LossRun

end
-- ==== Proof.LossRef.lean ====
/- Hand-written, untrusted. The reference's loss and its derivative are the same functions. -/
module

public import proofs.«01_k».proof.Proof.LossSpec
public import proofs.«01_k».proof.Proof.Gen.Reference15Ideal.Read
public import Idealize.ShloMosaic.Lib.Pointwise

@[expose] public section

set_option maxRecDepth 16384

noncomputable section

namespace Cert.Proof.LossRef

open Idealize.ShloMosaic Cert.Reference15Ideal Cert.Reference15Ideal.Read Idealize.ShloMosaic.Pointwise Norm Loss

variable (x t : A)

theorem loss_ref : val_main_v15 (F := Ideal) x t = loss x t := by
  funext z
  obtain ⟨u, rfl⟩ : ∃ u : Fin 1, z = ix1 u := ⟨z 0, by funext a; match a with | ⟨0, _⟩ => rfl⟩
  pointwise [val_main_v15, val_main_v8, val_main_v7, val_main_v6, val_main_v5, val_main_v4, val_main_v1, val_main_v0, val_main_cst_0, val_main_cst_1, val_main_cst_2, val_main_cst_3]
  rfl
theorem dy_ref : val_main_v14 (F := Ideal) x t = Loss.dy x t := by
  funext z
  obtain ⟨r, l, rfl⟩ : ∃ (r : Fin 2048) (l : Fin 1024), z = ix2 r l := ⟨z 0, z 1, by funext a; match a with | ⟨0, _⟩ => rfl | ⟨1, _⟩ => rfl⟩
  pointwise [val_main_v14, val_main_v13, val_main_v12, val_main_v11, val_main_v10, val_main_v9, val_main_v3, val_main_v2, val_main_v0, val_main_cst, val_main_cst_4, val_main_cst_5, val_main_cst_6]
  rfl

end Cert.Proof.LossRef

end
-- ==== Proof.RotSpec.lean ====
/- Hand-written, untrusted. The rotary embedding of the first sixteen lanes of each head, and its gradient. -/
module

public import Idealize.ShloMosaic.Lib.Pointwise

@[expose] public section

noncomputable section

namespace Cert.Proof.Rot

open Idealize.ShloMosaic

/-- A row: four heads of 64 lanes. -/
abbrev Row := Fin 256 → EReal
/-- An array of 2048 rows. -/
abbrev A := Vec Ideal ⟨2, ![2048, 256]⟩ .f32
/-- The positions. -/
abbrev Pos := Vec Ideal ⟨1, ![2048]⟩ .i32
/-- The cosines, and the sines, of the eight frequencies at every position. -/
abbrev T := Vec Ideal ⟨2, ![2048, 8]⟩ .f32

/-- One row of an array. -/
def row {n : ℕ} (x : Vec Ideal ⟨2, ![n, 256]⟩ .f32) (t : Fin n) : Row := fun l => x (ix2 t l)

/-- The scale of the queries. -/
abbrev sc : EReal := Ideal.ofBits .f32 0x3E000000#32
/-- The lane eight further on, and the lane eight back. -/
def up (l : Fin 256) : Fin 256 := ⟨(l.val + 256 - 248) % 256, Nat.mod_lt _ (by decide)⟩
@[inherit_doc up]
def dn (l : Fin 256) : Fin 256 := ⟨(l.val + 256 - 8) % 256, Nat.mod_lt _ (by decide)⟩

/-- The two halves of a head's first sixteen lanes exchanged, zero on the others. -/
def swap (x : Row) : Row := fun l => if l.val % 64 < 8 then x (up l) else if l.val % 64 < 16 then x (dn l) else 0

section Rows
variable (x k s e : Row)
/-- A row rotated by tables of factors, one for the lane itself and one for its partner. -/
def yr : Row := fun l => (x l * k l + swap x l * s l) * sc
/-- What the row gets back. -/
def xr : Row := fun l => swap (fun l => e l * sc * s l) l + e l * sc * k l
end Rows

/-- The rows of factors: the cosines twice in a head and then ones; the sines, negated the first time, and then zeros. -/
def kr (k : Fin 8 → EReal) : Row := fun l => if l.val % 64 < 16 then k ⟨l.val % 8, Nat.mod_lt _ (by decide)⟩ else 1
@[inherit_doc kr]
def sr (s : Fin 8 → EReal) : Row := fun l =>
  if l.val % 64 < 8 then -s ⟨l.val % 8, Nat.mod_lt _ (by decide)⟩ else if l.val % 64 < 16 then s ⟨l.val % 8, Nat.mod_lt _ (by decide)⟩ else 0

variable (x k s e : A)
/-- The rotated array, from the tables of factors. -/
def y : A := fun i => yr (row x (i 0)) (row k (i 0)) (row s (i 0)) (i 1)
/-- Its gradient. -/
def dx : A := fun i => xr (row k (i 0)) (row s (i 0)) (row e (i 0)) (i 1)

/-- The angle of a frequency at a position: the position times the base to a power. -/
def ang (p : Pos) (t : Fin 2048) (j : Fin 8) : EReal :=
  FloatOps.sitofp (F := Ideal) .f32 (p (ix1 t)) * Ideal.pow (Ideal.ofBits .f32 0x48F42400#32)
    (Ideal.div (-(Ideal.ofBits .f32 0x40000000#32 * FloatOps.sitofp (F := Ideal) .f32 (BitVec.ofNat 32 j.val))) (Ideal.ofBits .f32 0x41800000#32))
/-- The cosines and the sines of the angles. -/
def ct (p : Pos) : T := fun i => Ideal.cos (ang p (i 0) (i 1))
@[inherit_doc ct]
def sn (p : Pos) : T := fun i => Ideal.sin (ang p (i 0) (i 1))

/-- The table of factors of a lane itself, and that of its partner, from the cosines and the sines. -/
def kt (k : T) : A := fun i => kr (fun j => k (ix2 (i 0) j)) (i 1)
@[inherit_doc kt]
def st (s : T) : A := fun i => sr (fun j => s (ix2 (i 0) j)) (i 1)

end Cert.Proof.Rot

end
-- ==== Proof.RotBlock.lean ====
/- Hand-written, untrusted. The rotary embedding's two calls: what one block of rows leaves. -/
module

public import proofs.«01_k».proof.Proof.Gen.Kernel14Ideal.Frame
public import proofs.«01_k».proof.Proof.RotSpec
public import Idealize.ShloMosaic.Lib.Pointwise
public import Idealize.ShloMosaic.Lib.Pipeline.ValueKit

@[expose] public section

set_option maxRecDepth 16384

noncomputable section

namespace Cert.Proof.RotBlock

open Idealize.ShloMosaic Cert.Kernel14Ideal Cert.Kernel14Ideal.Gen Idealize.ShloMosaic.Pointwise Rot

/-- A block's start. -/
theorem hz2 : (![0, 0] : Fin 2 → ℕ) = fun _ => 0 := by decide

/-- The index of a row and a column. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

/-- The kernel's lane within its head, as it counts it. -/
abbrev lane (l : Fin 256) : BitVec 32 :=
  Scalar.select (IntOp.andi (IntOp.xori (IntOp.cmpi .slt (IntOp.remsi .vector (BitVec.ofNat 32 l.val) (Scalar.select (Scalar.cmpi .eq 64#32 0#32) 1#32 64#32)) 0#32)
      (Scalar.cmpi .slt (Scalar.select (Scalar.cmpi .eq 64#32 0#32) 1#32 64#32) 0#32))
      (IntOp.cmpi .ne (IntOp.remsi .vector (BitVec.ofNat 32 l.val) (Scalar.select (Scalar.cmpi .eq 64#32 0#32) 1#32 64#32)) 0#32))
    (IntOp.addi (IntOp.remsi .vector (BitVec.ofNat 32 l.val) (Scalar.select (Scalar.cmpi .eq 64#32 0#32) 1#32 64#32)) (Scalar.select (Scalar.cmpi .eq 64#32 0#32) 1#32 64#32))
    (IntOp.remsi .vector (BitVec.ofNat 32 l.val) (Scalar.select (Scalar.cmpi .eq 64#32 0#32) 1#32 64#32))
/-- Its two comparisons. -/
theorem lt8 : ∀ l : Fin 256, IntOp.cmpi .slt (lane l) 8#32 = if l.val % 64 < 8 then 1#1 else 0#1 := by decide +kernel
@[inherit_doc lt8]
theorem lt16 : ∀ l : Fin 256, IntOp.cmpi .slt (lane l) 16#32 = if l.val % 64 < 16 then 1#1 else 0#1 := by decide +kernel
/-- The choice it makes by them. -/
theorem choice (l : Fin 256) (a b d : EReal) :
    Scalar.select (IntOp.cmpi .slt (lane l) 8#32) a (Scalar.select (IntOp.cmpi .slt (lane l) 16#32) b d) =
      if l.val % 64 < 8 then a else if l.val % 64 < 16 then b else d := by
  rw [lt8, lt16]
  split_ifs <;> rfl

variable (x k s e : Vec Ideal S512x256 .f32)

theorem y3 (z : S512x256.Idx) : out0_3 x k s z = yr (row x (z 0)) (row k (z 0)) (row s (z 0)) (z 1) := by
  obtain ⟨r, l, rfl⟩ := rl z
  unfold out0_3
  rw [View.canon_unit_zero hz2]
  simp only [View.ld_unit_zero (S := S512x256) hz2]
  pointwise [k0_pay1]
  rw [choice]
  rfl
theorem x4 (z : S512x256.Idx) : out1_4 x k s e z = xr (row k (z 0)) (row s (z 0)) (row e (z 0)) (z 1) := by
  obtain ⟨r, l, rfl⟩ := rl z
  unfold out1_4
  rw [View.canon_unit_zero hz2]
  simp only [View.ld_unit_zero (S := S512x256) hz2]
  pointwise [k1_pay1]
  rw [choice]
  rfl
end Cert.Proof.RotBlock

end
-- ==== Proof.RotArrays.lean ====
/- Hand-written, untrusted. What the two calls of the rotary embedding leave in their arrays. -/
module

public import proofs.«01_k».proof.Proof.RotBlock
public import proofs.«01_k».proof.Proof.XArrays

@[expose] public section

set_option maxRecDepth 16384

noncomputable section

namespace Cert.Proof.RotArrays

open Idealize.ShloMosaic Idealize.ShloMosaic.TcCoe Cert.Kernel14Ideal Cert.Kernel14Ideal.Gen Idealize.ShloMosaic.Pointwise Rot
open XArrays (pos of_ix2)

/-- The buffers at a call's entry. -/
abbrev At := (c : Dev nD) → (b : Ref sig .tc) → Buf (Elt Ideal) ((c : Thread nD τ).loc b)
variable (V : At) (c : Dev nD)

theorem i0 : ∀ t : Fin cfg0.N, win0_0.index t = ![t.val % 4, 0] ∧ win0_1.index t = ![t.val % 4, 0] ∧ win0_2.index t = ![t.val % 4, 0] ∧ win0_3.index t = ![t.val % 4, 0] :=
  (by decide +kernel : ∀ t : Fin grid0.N, _)

section Reg0
variable (t : Fin cfg0.N)
theorem x0 (r : Fin 512) : row (iblk0 V c 0 t) r = row (V c main_arg1) (pos t.val r) := by
  obtain ⟨e, -⟩ := i0 t
  funext l
  refine congrArg (V c main_arg1) (funext fun a => Fin.ext ?_)
  match a with
  | ⟨0, _⟩ => blk_simp [e]; simp only [pos]
  | ⟨1, _⟩ => blk_simp [e]
theorem k0 (r : Fin 512) : row (iblk0 V c 1 t) r = row (V c main_v25) (pos t.val r) := by
  obtain ⟨-, e, -⟩ := i0 t
  funext l
  refine congrArg (V c main_v25) (funext fun a => Fin.ext ?_)
  match a with
  | ⟨0, _⟩ => blk_simp [e]; simp only [pos]
  | ⟨1, _⟩ => blk_simp [e]
theorem s0 (r : Fin 512) : row (iblk0 V c 2 t) r = row (V c main_v28) (pos t.val r) := by
  obtain ⟨-, -, e, -⟩ := i0 t
  funext l
  refine congrArg (V c main_v28) (funext fun a => Fin.ext ?_)
  match a with
  | ⟨0, _⟩ => blk_simp [e]; simp only [pos]
  | ⟨1, _⟩ => blk_simp [e]
theorem o0_3 (r : Fin 512) (l : Fin 256) : (win0_3.blk t).view.emb (ix2 r l : S512x256.Idx) = ix2 (pos t.val r) l := by
  obtain ⟨-, -, -, e⟩ := i0 t
  refine funext fun a => Fin.ext ?_
  match a with
  | ⟨0, _⟩ => blk_simp [e]; dsimp [ix2, pos]
  | ⟨1, _⟩ => blk_simp [e]
end Reg0

theorem y_arr : (dat0 V c).arrAt 3 cfg0.N = y (V c main_arg1) (V c main_v25) (V c main_v28) := by
  refine (dat0 V c).arrAt_eq_of_covers 3 _ (by decide +kernel) fun t hf z => ?_
  blk_simp
  rw [after0_3]
  refine congrFun (of_ix2 (f := out0_3 (iblk0 V c 0 t) (iblk0 V c 1 t) (iblk0 V c 2 t))
    (g := fun z => y (V c main_arg1) (V c main_v25) (V c main_v28) ((win0_3.blk t).view.emb z)) fun r l => ?_) z
  dsimp only
  rw [RotBlock.y3, o0_3]
  exact (congrArg₂ (fun a b => yr a b (row (iblk0 V c 2 t) r) l) (x0 V c t r) (k0 V c t r)).trans (congrArg (fun a => yr _ _ a l) (s0 V c t r))

theorem i1 : ∀ t : Fin cfg1.N, win1_0.index t = ![t.val % 4, 0] ∧ win1_1.index t = ![t.val % 4, 0] ∧ win1_2.index t = ![t.val % 4, 0] ∧ win1_3.index t = ![t.val % 4, 0] ∧ win1_4.index t = ![t.val % 4, 0] :=
  (by decide +kernel : ∀ t : Fin grid1.N, _)

section Reg1
variable (t : Fin cfg1.N)
theorem k1 (r : Fin 512) : row (iblk1 V c 1 t) r = row (V c main_v25) (pos t.val r) := by
  obtain ⟨-, e, -⟩ := i1 t
  funext l
  refine congrArg (V c main_v25) (funext fun a => Fin.ext ?_)
  match a with
  | ⟨0, _⟩ => blk_simp [e]; simp only [pos]
  | ⟨1, _⟩ => blk_simp [e]
theorem s1 (r : Fin 512) : row (iblk1 V c 2 t) r = row (V c main_v28) (pos t.val r) := by
  obtain ⟨-, -, e, -⟩ := i1 t
  funext l
  refine congrArg (V c main_v28) (funext fun a => Fin.ext ?_)
  match a with
  | ⟨0, _⟩ => blk_simp [e]; simp only [pos]
  | ⟨1, _⟩ => blk_simp [e]
theorem e1 (r : Fin 512) : row (iblk1 V c 3 t) r = row (V c main_arg2) (pos t.val r) := by
  obtain ⟨-, -, -, e, -⟩ := i1 t
  funext l
  refine congrArg (V c main_arg2) (funext fun a => Fin.ext ?_)
  match a with
  | ⟨0, _⟩ => blk_simp [e]; simp only [pos]
  | ⟨1, _⟩ => blk_simp [e]
theorem o1_4 (r : Fin 512) (l : Fin 256) : (win1_4.blk t).view.emb (ix2 r l : S512x256.Idx) = ix2 (pos t.val r) l := by
  obtain ⟨-, -, -, -, e⟩ := i1 t
  refine funext fun a => Fin.ext ?_
  match a with
  | ⟨0, _⟩ => blk_simp [e]; dsimp [ix2, pos]
  | ⟨1, _⟩ => blk_simp [e]
end Reg1

theorem dx_arr : (dat1 V c).arrAt 4 cfg1.N = dx (V c main_v25) (V c main_v28) (V c main_arg2) := by
  refine (dat1 V c).arrAt_eq_of_covers 4 _ (by decide +kernel) fun t hf z => ?_
  blk_simp
  rw [after1_4]
  refine congrFun (of_ix2 (f := out1_4 (iblk1 V c 0 t) (iblk1 V c 1 t) (iblk1 V c 2 t) (iblk1 V c 3 t))
    (g := fun z => dx (V c main_v25) (V c main_v28) (V c main_arg2) ((win1_4.blk t).view.emb z)) fun r l => ?_) z
  dsimp only
  rw [RotBlock.x4, o1_4]
  exact (congrArg₂ (fun a b => xr a b (row (iblk1 V c 3 t) r) l) (k1 V c t r) (s1 V c t r)).trans (congrArg (fun a => xr _ _ a l) (e1 V c t r))

end Cert.Proof.RotArrays

end
-- ==== Proof.RotTab.lean ====
/- Hand-written, untrusted. The tables of factors that the host makes of the positions before the rotary embedding's calls. -/
module

public import proofs.«01_k».proof.Proof.Gen.Kernel14Ideal.Frame
public import proofs.«01_k».proof.Proof.RotBlock
public import Idealize.ShloMosaic.Lib.Claim

@[expose] public section

set_option maxRecDepth 16384

noncomputable section

namespace Cert.Proof.RotTab

open Idealize.ShloMosaic Cert.Kernel14Ideal Cert.Kernel14Ideal.Gen Idealize.ShloMosaic.Pointwise Rot

variable (m : (ℓ : Loc nD τ sig) → Buf (Elt Ideal) ℓ) (ρ : Dev nD → PrngReg) (c : Dev nD)

set_option maxHeartbeats 2000000 in
/-- The lines that put the cosines twice and ones into a head, and heads side by side. -/
theorem k_tab (U : Valuation τ sig (Elt Ideal)) :
    StableHlo.after (hostOps0.drop 22) U (Proc.devRef .tc main_v25) = kt (U (Proc.devRef .tc main_v16)) := by
  dsimp only [hostOps0, List.drop]
  after_results_simp
  funext i
  obtain ⟨r, l, rfl⟩ := RotBlock.rl i
  pointwise []
  show _ = kr (fun j => (U (Proc.devRef .tc main_v16) : T) (ix2 r j)) l
  unfold kr
  by_cases a : l.val % 64 < 8
  · refine (dif_pos a).trans (Eq.trans ?_ (if_pos (show l.val % 64 < 16 by omega)).symm)
    after_results_steps
    exact congrArg (fun j => (U (Proc.devRef .tc main_v16) : T) (ix2 r j)) (Fin.ext (by dsimp only; omega))
  by_cases b : l.val % 64 < 16
  · refine (dif_neg a).trans ((dif_pos (show l.val % 64 - 8 < 8 by omega)).trans (Eq.trans ?_ (if_pos (show l.val % 64 < 16 by omega)).symm))
    after_results_steps
    exact congrArg (fun j => (U (Proc.devRef .tc main_v16) : T) (ix2 r j)) (Fin.ext (by dsimp only; omega))
  · refine (dif_neg a).trans ((dif_neg (show ¬ l.val % 64 - 8 < 8 by omega)).trans (Eq.trans ?_ (if_neg b).symm))
    after_results_steps
    pointwise []
/-- The cosines that the lines before leave. -/
theorem k_pre (p : Pos) (U : Valuation τ sig (Elt Ideal)) (hp : U (Proc.devRef .tc main_arg0) = p) :
    StableHlo.after (hostOps0.take 22) U (Proc.devRef .tc main_v16) = ct p := by
  dsimp only [hostOps0, List.take]
  after_results
  funext i
  obtain ⟨r, l, rfl⟩ := RotBlock.rl i
  pointwise []
  rw [hp]
  rfl
/-- The table of a lane's own factors. -/
theorem k_at : W1 m ρ c (Proc.devRef .tc main_v25) = kt (ct (m ((c.tc : Thread nD τ).loc main_arg0))) := by
  show StableHlo.after (hostOps0.drop 22) (StableHlo.after (hostOps0.take 22) (W0 m ρ c)) (Proc.devRef .tc main_v25) = _
  rw [k_tab, k_pre (m ((c.tc : Thread nD τ).loc main_arg0)) _ rfl]
set_option maxHeartbeats 2000000 in
/-- The same of the sines, negated the first time, and zeros. -/
theorem s_tab (U : Valuation τ sig (Elt Ideal)) :
    StableHlo.after (hostOps0.drop 25) U (Proc.devRef .tc main_v28) = st (U (Proc.devRef .tc main_v17)) := by
  dsimp only [hostOps0, List.drop]
  after_results_simp
  funext i
  obtain ⟨r, l, rfl⟩ := RotBlock.rl i
  pointwise []
  show _ = sr (fun j => (U (Proc.devRef .tc main_v17) : T) (ix2 r j)) l
  unfold sr
  by_cases a : l.val % 64 < 8
  · refine (dif_pos a).trans (Eq.trans ?_ (if_pos a).symm)
    after_results_steps
    exact congrArg (Neg.neg (α := EReal)) (congrArg (fun j => (U (Proc.devRef .tc main_v17) : T) (ix2 r j)) (Fin.ext (by dsimp only; omega)))
  by_cases b : l.val % 64 < 16
  · refine (dif_neg a).trans ((dif_pos (show l.val % 64 - 8 < 8 by omega)).trans (Eq.trans ?_ ((if_neg a).trans (if_pos b)).symm))
    after_results_steps
    exact congrArg (fun j => (U (Proc.devRef .tc main_v17) : T) (ix2 r j)) (Fin.ext (by dsimp only; omega))
  · refine (dif_neg a).trans ((dif_neg (show ¬ l.val % 64 - 8 < 8 by omega)).trans (Eq.trans ?_ ((if_neg a).trans (if_neg b)).symm))
    after_results_steps
    pointwise []
/-- The sines that the lines before leave. -/
theorem s_pre (p : Pos) (U : Valuation τ sig (Elt Ideal)) (hp : U (Proc.devRef .tc main_arg0) = p) :
    StableHlo.after (hostOps0.take 25) U (Proc.devRef .tc main_v17) = sn p := by
  dsimp only [hostOps0, List.take]
  after_results
  funext i
  obtain ⟨r, l, rfl⟩ := RotBlock.rl i
  pointwise []
  rw [hp]
  rfl
/-- The table of its partner's. -/
theorem s_at : W1 m ρ c (Proc.devRef .tc main_v28) = st (sn (m ((c.tc : Thread nD τ).loc main_arg0))) := by
  show StableHlo.after (hostOps0.drop 25) (StableHlo.after (hostOps0.take 25) (W0 m ρ c)) (Proc.devRef .tc main_v28) = _
  rw [s_tab, s_pre (m ((c.tc : Thread nD τ).loc main_arg0)) _ rfl]
end Cert.Proof.RotTab

end
-- ==== Proof.RotRun.lean ====
/- Hand-written, untrusted. The rotary embedding run: the two results of the kernel program as functions of the three arguments. -/
module

public import proofs.«01_k».proof.Proof.RotArrays
public import proofs.«01_k».proof.Proof.RotTab
public import proofs.«01_k».proof.Proof.Gen.Kernel14Ideal.Frame

@[expose] public section

set_option maxRecDepth 16384

noncomputable section

namespace Cert.Proof.RotRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel14Ideal Cert.Kernel14Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev p : Rot.Pos := m ((c.tc : Thread nD τ).loc main_arg0)
abbrev x : Rot.A := m ((c.tc : Thread nD τ).loc main_arg1)
abbrev e : Rot.A := m ((c.tc : Thread nD τ).loc main_arg2)

/-! ## The results -/

theorem e0_at : W2 m ρ c (Proc.devRef .tc main_v29) = Rot.y (x m c) (Rot.kt (Rot.ct (p m c))) (Rot.st (Rot.sn (p m c))) := by
  refine (W2_arr m ρ c 3).trans ((RotArrays.y_arr (V1 m ρ) c).trans ?_)
  rw [show V1 m ρ c main_arg1 = x m c from W1_args m ρ c main_arg1 (by decide),
    show V1 m ρ c main_v25 = Rot.kt (Rot.ct (m ((c.tc : Thread nD τ).loc main_arg0))) from RotTab.k_at m ρ c,
    show V1 m ρ c main_v28 = Rot.st (Rot.sn (m ((c.tc : Thread nD τ).loc main_arg0))) from RotTab.s_at m ρ c]
theorem e0_end : W4 m ρ c (Proc.devRef .tc main_v29) = Rot.y (x m c) (Rot.kt (Rot.ct (p m c))) (Rot.st (Rot.sn (p m c))) :=
  (W4_of m ρ c main_v29 (by decide)).trans ((W3_of m ρ c main_v29 (by decide)).trans (e0_at m ρ c))
theorem e1_at : W3 m ρ c (Proc.devRef .tc main_v30) = Rot.dx (Rot.kt (Rot.ct (p m c))) (Rot.st (Rot.sn (p m c))) (e m c) := by
  refine (W3_arr m ρ c 4).trans ((RotArrays.dx_arr (V2 m ρ) c).trans ?_)
  rw [show V2 m ρ c main_v25 = Rot.kt (Rot.ct (m ((c.tc : Thread nD τ).loc main_arg0))) from (W2_of m ρ c main_v25 (by decide)).trans (RotTab.k_at m ρ c),
    show V2 m ρ c main_v28 = Rot.st (Rot.sn (m ((c.tc : Thread nD τ).loc main_arg0))) from (W2_of m ρ c main_v28 (by decide)).trans (RotTab.s_at m ρ c),
    show V2 m ρ c main_arg2 = e m c from W2_args m ρ c main_arg2 (by decide)]
theorem e1_end : W4 m ρ c (Proc.devRef .tc main_v30) = Rot.dx (Rot.kt (Rot.ct (p m c))) (Rot.st (Rot.sn (p m c))) (e m c) :=
  (W4_of m ρ c main_v30 (by decide)).trans (e1_at m ρ c)

set_option backward.isDefEq.respectTransparency.types false in
/-- From any memory the program runs to its end with the two results at these values. -/
theorem run : θ_run defs (onTc (τ := τ) (main (F := Ideal))) ⟨m, fun _ => 0, ρ⟩ (fun r => ∀ c : Dev nD,
      r.2.mem ((c.tc : Thread nD τ).loc main_v29) = Rot.y (x m c) (Rot.kt (Rot.ct (p m c))) (Rot.st (Rot.sn (p m c)))
      ∧ r.2.mem ((c.tc : Thread nD τ).loc main_v30) = Rot.dx (Rot.kt (Rot.ct (p m c))) (Rot.st (Rot.sn (p m c))) (e m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s e _ c =>
      ⟨(e c _ (mem_uc main_v29 (by decide))).trans (e0_end m ρ c),
       (e c _ (mem_uc main_v30 (by decide))).trans (e1_end m ρ c)⟩)

end Cert.Proof.RotRun

end
-- ==== Proof.RotRef.lean ====
/- Hand-written, untrusted. The reference's rotary embedding and its derivative are the same functions. -/
module

public import proofs.«01_k».proof.Proof.RotSpec
public import proofs.«01_k».proof.Proof.Gen.Reference14Ideal.Read
public import Idealize.ShloMosaic.Lib.Pointwise

@[expose] public section

set_option maxRecDepth 16384

noncomputable section

namespace Cert.Proof.RotRef

open Idealize.ShloMosaic Cert.Reference14Ideal Cert.Reference14Ideal.Read Idealize.ShloMosaic.Pointwise Rot

variable (p : Pos) (x e : A)

theorem ang_ref (t : Fin 2048) (j : Fin 8) : val_main_v15 (F := Ideal) p (ix2 t j) = ang p t j := by
  pointwise [val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl
theorem ct_ref (t : Fin 2048) (j : Fin 8) : val_main_v16 (F := Ideal) p (ix2 t j) = ct p (ix2 t j) := by
  pointwise [val_main_v16]
  rw [ang_ref]
  rfl
theorem sn_ref (t : Fin 2048) (j : Fin 8) : val_main_v18 (F := Ideal) p (ix2 t j) = sn p (ix2 t j) := by
  pointwise [val_main_v18]
  rw [ang_ref]
  rfl

/-! ## Lanes -/

section Lane
variable (l : Fin 256)
/-- The frequency of a lane. -/
abbrev fr : Fin 8 := ⟨l.val % 8, Nat.mod_lt _ (by decide)⟩
theorem q0 (a : l.val % 64 < 8) (h) : (⟨l.val % 64, h⟩ : Fin 8) = fr l := Fin.ext (by dsimp only; omega)
theorem q1 (a : ¬ l.val % 64 < 8) (b : l.val % 64 < 16) (h) : (⟨l.val % 64 - 8, h⟩ : Fin 8) = fr l := Fin.ext (by dsimp only; omega)
theorem u0 (a : l.val % 64 < 8) (h) : (⟨l.val / 64 * 64 + (8 + l.val % 64), h⟩ : Fin 256) = up l := Fin.ext (by dsimp only [up]; omega)
theorem d1 (a : ¬ l.val % 64 < 8) (b : l.val % 64 < 16) (h) : (⟨l.val / 64 * 64 + (l.val % 64 - 8), h⟩ : Fin 256) = dn l := Fin.ext (by dsimp only [dn]; omega)
theorem l1 (a : ¬ l.val % 64 < 8) (h) : (⟨l.val / 64 * 64 + (8 + (l.val % 64 - 8)), h⟩ : Fin 256) = l := Fin.ext (by dsimp only; omega)
theorem l2 (a : ¬ l.val % 64 < 16) (h) : (⟨l.val / 64 * 64 + (16 + (l.val % 64 - 16)), h⟩ : Fin 256) = l := Fin.ext (by dsimp only; omega)
theorem fru : fr (up l) = fr l := Fin.ext (by dsimp only [up]; omega)
theorem frd : fr (dn l) = fr l := Fin.ext (by dsimp only [dn]; omega)
variable (f : Fin 8 → EReal) (z : Row)
theorem sw0 (a : l.val % 64 < 8) : swap z l = z (up l) := if_pos a
theorem sw1 (a : ¬ l.val % 64 < 8) (b : l.val % 64 < 16) : swap z l = z (dn l) := (if_neg a).trans (if_pos b)
theorem sw2 (a : ¬ l.val % 64 < 16) : swap z l = 0 := (if_neg (by omega)).trans (if_neg a)
theorem k0 (a : l.val % 64 < 16) : kr f l = f (fr l) := if_pos a
theorem k2 (a : ¬ l.val % 64 < 16) : kr f l = 1 := if_neg a
theorem s0 (a : l.val % 64 < 8) : sr f l = -f (fr l) := if_pos a
theorem s1 (a : ¬ l.val % 64 < 8) (b : l.val % 64 < 16) : sr f l = f (fr l) := (if_neg a).trans (if_pos b)
theorem s2 (a : ¬ l.val % 64 < 16) : sr f l = 0 := (if_neg (by omega)).trans (if_neg a)
variable (x : Row) (k s : Fin 8 → EReal)
/-- One lane of the rotated row. -/
theorem y_lane : (if h : l.val % 64 < 16 then
      if h1 : l.val % 64 < 8 then x l * k ⟨l.val % 64, h1⟩ - x ⟨l.val / 64 * 64 + (8 + l.val % 64), by omega⟩ * s ⟨l.val % 64, h1⟩
      else x ⟨l.val / 64 * 64 + (8 + (l.val % 64 - 8)), by omega⟩ * k ⟨l.val % 64 - 8, by omega⟩
        + x ⟨l.val / 64 * 64 + (l.val % 64 - 8), by omega⟩ * s ⟨l.val % 64 - 8, by omega⟩
    else x ⟨l.val / 64 * 64 + (16 + (l.val % 64 - 16)), by omega⟩) = x l * kr k l + swap x l * sr s l := by
  by_cases a : l.val % 64 < 8
  · rw [dif_pos (by omega), dif_pos a, sw0 l _ a, k0 l _ (by omega), s0 l _ a, mul_neg, ← sub_eq_add_neg, q0 l a, u0 l a]
  by_cases b : l.val % 64 < 16
  · rw [dif_pos b, dif_neg a, sw1 l _ a b, k0 l _ b, s1 l _ a b, q1 l a b, l1 l a, d1 l a b]
  · rw [dif_neg b, sw2 l _ b, k2 l _ b, s2 l _ b, mul_one, mul_zero, add_zero, l2 l b]
/-- One lane of what the row gets back. -/
theorem dx_lane : (((if h : l.val / 64 < 4 ∧ 16 ≤ l.val % 64 ∧ l.val % 64 - 16 < 48 then x ⟨l.val / 64 * 64 + (16 + (l.val % 64 - 16)), by omega⟩ else 0) +
      if h : l.val / 64 < 4 ∧ 8 ≤ l.val % 64 ∧ l.val % 64 - 8 < 8 then
        x ⟨l.val / 64 * 64 + (8 + (l.val % 64 - 8)), by omega⟩ * k ⟨l.val % 64 - 8, by omega⟩
          + -(x ⟨l.val / 64 * 64 + (l.val % 64 - 8), by omega⟩) * s ⟨l.val % 64 - 8, by omega⟩
      else 0) +
      if h : l.val / 64 < 4 ∧ l.val % 64 < 8 then
        x ⟨l.val / 64 * 64 + (8 + l.val % 64), by omega⟩ * s ⟨l.val % 64, h.2⟩ + x l * k ⟨l.val % 64, h.2⟩
      else 0) = swap (fun l => x l * sr s l) l + x l * kr k l := by
  by_cases a : l.val % 64 < 8
  · rw [dif_neg (by omega), dif_neg (by omega), dif_pos ⟨by omega, a⟩, add_zero, zero_add, sw0 l _ a, k0 l _ (by omega),
      s1 (up l) _ (by dsimp only [up]; omega) (by dsimp only [up]; omega), fru, q0 l a, u0 l a]
  by_cases b : l.val % 64 < 16
  · rw [dif_neg (by omega), dif_pos (by omega), dif_neg (by omega), add_zero, zero_add, sw1 l _ a b, k0 l _ b, s0 (dn l) _ (by dsimp only [dn]; omega), frd,
      q1 l a b, l1 l a, d1 l a b, mul_neg, neg_mul, add_comm]
  · rw [dif_pos (by omega), dif_neg (by omega), dif_neg (by omega), add_zero, add_zero, sw2 l _ b, k2 l _ b, mul_one, zero_add, l2 l b]
end Lane

/-! ## The rotated array and its gradient -/

theorem y_ref : val_main_v38 (F := Ideal) p x = y x (kt (ct p)) (st (sn p)) := by
  funext i
  obtain ⟨r, l, rfl⟩ : ∃ (r : Fin 2048) (l : Fin 256), i = ix2 r l := ⟨i 0, i 1, by funext a; match a with | ⟨0, _⟩ => rfl | ⟨1, _⟩ => rfl⟩
  pointwise [val_main_v38, val_main_v37, val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v17, val_main_cst_3]
  simp only [ct_ref, sn_ref]
  exact congrArg (· * sc) (y_lane l (row x r) (fun j => ct p (ix2 r j)) (fun j => sn p (ix2 r j)))
theorem dx_ref : val_main_v62 (F := Ideal) p e = dx (kt (ct p)) (st (sn p)) e := by
  funext i
  obtain ⟨r, l, rfl⟩ : ∃ (r : Fin 2048) (l : Fin 256), i = ix2 r l := ⟨i 0, i 1, by funext a; match a with | ⟨0, _⟩ => rfl | ⟨1, _⟩ => rfl⟩
  pointwise [val_main_v62, val_main_v61, val_main_v60, val_main_v59, val_main_v58, val_main_v57, val_main_v56, val_main_v55, val_main_v54, val_main_v53, val_main_v52, val_main_v51,
    val_main_v50, val_main_v49, val_main_v48, val_main_v47, val_main_v46, val_main_v45, val_main_v44, val_main_v43, val_main_v42, val_main_v41, val_main_v40, val_main_v39, val_main_v19, val_main_v17,
    val_main_cst_4, val_main_cst_5, val_main_cst_6, val_main_cst_7]
  simp only [ct_ref, sn_ref]
  exact dx_lane l (fun l => e (ix2 r l) * sc) (fun j => ct p (ix2 r j)) (fun j => sn p (ix2 r j))

end Cert.Proof.RotRef

end
-- ==== Proof.OneSpec.lean ====
/- Hand-written, untrusted. One norm, and one norm added to a residual stream, with what they get back. -/
module

public import proofs.«01_k».proof.Proof.NormSpec

@[expose] public section

noncomputable section

namespace Cert.Proof.One

open Idealize.ShloMosaic Idealize.ShloMosaic.Pointwise Norm

section Rows
variable (x w e : Row)
/-- The norm of a row. -/
def xr : Row := fun l => x l * rs D x * w l
/-- The weight's cotangent in one row. -/
def wr : Row := fun l => x l * rs D x * e l
/-- The row's cotangent. -/
def br : Row := back D x (fun l => e l * w l) (fun l => e l * w l * rs D x)
end Rows

variable (x : A) (w : W) (e : A)
/-- The norm. -/
def n : A := fun i => xr (row x (i 0)) (row w 0) (i 1)
/-- The gradient of what is normed. -/
def dx : A := fun i => br (row x (i 0)) (row w 0) (row e (i 0)) (i 1)
/-- The gradient of the weight. -/
def dw : W := fun i => ∑ t, wr (row x t) (row e t) (i 1)

end Cert.Proof.One

end
-- ==== Proof.OneBlock.lean ====
/- Hand-written, untrusted. The calls of one norm and of a norm added to a residual stream: what one block of rows leaves. -/
module

public import proofs.«01_k».proof.Proof.Gen.Kernel13Ideal.Frame
public import proofs.«01_k».proof.Proof.OneSpec
public import Idealize.ShloMosaic.Lib.Pointwise
public import Idealize.ShloMosaic.Lib.Pipeline.ValueKit

@[expose] public section

set_option maxRecDepth 16384

noncomputable section

namespace Cert.Proof.OneBlock

open Idealize.ShloMosaic Cert.Kernel13Ideal Cert.Kernel13Ideal.Gen Idealize.ShloMosaic.Pointwise Norm One

/-- A block's start. -/
theorem hz2 : (![0, 0] : Fin 2 → ℕ) = fun _ => 0 := by decide

/-- The index of a row and a column. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

variable (h y : Vec Ideal S512x1024 .f32) (w : Vec Ideal S1x1024 .f32) (e : Vec Ideal S512x1024 .f32)

/-! ## Forward -/

theorem n2 (z : S512x1024.Idx) : out0_2 y w z = xr (row y (z 0)) (row w 0) (z 1) := by
  obtain ⟨r, l, rfl⟩ := rl z
  unfold out0_2
  rw [View.canon_unit_zero hz2, View.ld_unit_zero (S := S512x1024) hz2, View.ld_unit_zero (S := S1x1024) hz2]
  pointwise [k0_pay1]
  rfl
theorem o3 (z : S512x1024.Idx) : out1_3 h y w z = hr (row h (z 0)) (row y (z 0)) (row w 0) (z 1) := by
  obtain ⟨r, l, rfl⟩ := rl z
  unfold out1_3
  rw [View.canon_unit_zero hz2, View.ld_unit_zero (S := S512x1024) hz2, View.ld_unit_zero (S := S512x1024) hz2, View.ld_unit_zero (S := S1x1024) hz2]
  pointwise [k1_pay1]
  rfl

/-! ## Backward -/

section Bwd
variable (r : Fin 512) (l : Fin 1024) (u : Fin 1)
theorem m2 : k2_pay3 y (ix2 r u) = ms D (row y r) := by
  pointwise [k2_pay3]
  rfl
theorem s2 : k2_pay4 y (ix2 r u) = rs D (row y r) := by
  pointwise [k2_pay4]
  rw [m2]
  rfl
theorem c2 : k2_pay5 e (ix2 r l) = e (ix2 r l) := by
  pointwise [k2_pay5]
theorem w2 : k2_pay6 y e (ix2 u l) = ∑ r, wr (row y r) (row e r) l := by
  pointwise [k2_pay6]
  simp only [s2, c2]
  rfl
theorem x2 : k2_pay7 y w e (ix2 r l) = br (row y r) (row w 0) (row e r) l := by
  pointwise [k2_pay7]
  simp only [Fin.sum_univ_one, m2, s2, c2]
  rfl
theorem a2 (v v' : Vec Ideal S1x1024 .f32) : k2_pay2 v v' (ix2 u l) = v' (ix2 u l) + v (ix2 u l) := by
  pointwise [k2_pay2]
theorem z2 : k2_pay1 (F := Ideal) (ix2 u l) = 0 := by
  pointwise [k2_pay1]
theorem m3 : k3_pay3 y (ix2 r u) = ms D (row y r) := by
  pointwise [k3_pay3]
  rfl
theorem s3 : k3_pay4 y (ix2 r u) = rs D (row y r) := by
  pointwise [k3_pay4]
  rw [m3]
  rfl
theorem w3 : k3_pay5 y e (ix2 u l) = ∑ r, wr (row y r) (row e r) l := by
  pointwise [k3_pay5]
  simp only [s3]
  rfl
theorem x3 : k3_pay6 y w e (ix2 r l) = br (row y r) (row w 0) (row e r) l := by
  pointwise [k3_pay6]
  simp only [Fin.sum_univ_one, m3, s3]
  rfl
theorem a3 (v v' : Vec Ideal S1x1024 .f32) : k3_pay2 v v' (ix2 u l) = v' (ix2 u l) + v (ix2 u l) := by
  pointwise [k3_pay2]
theorem z3 : k3_pay1 (F := Ideal) (ix2 u l) = 0 := by
  pointwise [k3_pay1]
end Bwd

/-! ## By cases: the first block of rows, and the others -/

section Cases
variable (c : Dev nD) (i : grid2.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S1x1024 .f32) (harg7 : arg7.IsWhole)
  (x0 : Vec Ideal S512x1024 .f32) (x1 : Vec Ideal S512x1024 .f32) (x2 : Vec Ideal S1x1024 .f32) (x3 : Vec Ideal S512x1024 .f32) (xo6 : Vec Ideal S1x1024 .f32)

theorem A4_2 (hc0 : cond2_0 i) :
    out2_A_4 c i arg1 harg1 arg2 harg2 arg3 harg3 arg4 harg4 arg5 harg5 arg6 harg6 arg7 harg7 hc0 x0 x1 x2 x3 = x3 := by
  unfold out2_A_4
  rw [View.read_writes_eq_canon _ _ _ (cover2_A_4 c i arg1 harg1 arg2 harg2 arg3 harg3 arg4 harg4 arg5 harg5 arg6 harg6 arg7 harg7 hc0 x0 x1 x2 x3)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2]
theorem A5_2 (hc0 : cond2_0 i) :
    out2_A_5 c i arg1 harg1 arg2 harg2 arg3 harg3 arg4 harg4 arg5 harg5 arg6 harg6 arg7 harg7 hc0 x0 x1 x2 x3 = k2_pay7 x1 x2 x3 := by
  unfold out2_A_5
  rw [View.read_writes_eq_canon _ _ _ (cover2_A_5 c i arg1 harg1 arg2 harg2 arg3 harg3 arg4 harg4 arg5 harg5 arg6 harg6 arg7 harg7 hc0 x0 x1 x2 x3)]
  unfold kernelRun2_A
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2]
theorem A6_2 (hc0 : cond2_0 i) :
    out2_A_6 c i arg1 harg1 arg2 harg2 arg3 harg3 arg4 harg4 arg5 harg5 arg6 harg6 arg7 harg7 hc0 x0 x1 x2 x3 = k2_pay2 (F := Ideal) (k2_pay6 x1 x3) (k2_pay1 (F := Ideal)) := by
  unfold out2_A_6
  rw [View.read_writes_eq_canon _ _ _ (cover2_A_6 c i arg1 harg1 arg2 harg2 arg3 harg3 arg4 harg4 arg5 harg5 arg6 harg6 arg7 harg7 hc0 x0 x1 x2 x3)]
  unfold kernelRun2_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2]
theorem B4_2 (hc0 : ¬cond2_0 i) :
    out2_B_4 c i arg1 harg1 arg2 harg2 arg3 harg3 arg4 harg4 arg5 harg5 arg6 harg6 arg7 harg7 hc0 x0 x1 x2 x3 xo6 = x3 := by
  unfold out2_B_4
  rw [View.read_writes_eq_canon _ _ _ (cover2_B_4 c i arg1 harg1 arg2 harg2 arg3 harg3 arg4 harg4 arg5 harg5 arg6 harg6 arg7 harg7 hc0 x0 x1 x2 x3 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2]
theorem B5_2 (hc0 : ¬cond2_0 i) :
    out2_B_5 c i arg1 harg1 arg2 harg2 arg3 harg3 arg4 harg4 arg5 harg5 arg6 harg6 arg7 harg7 hc0 x0 x1 x2 x3 xo6 = k2_pay7 x1 x2 x3 := by
  unfold out2_B_5
  rw [View.read_writes_eq_canon _ _ _ (cover2_B_5 c i arg1 harg1 arg2 harg2 arg3 harg3 arg4 harg4 arg5 harg5 arg6 harg6 arg7 harg7 hc0 x0 x1 x2 x3 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2]
theorem B6_2 (hc0 : ¬cond2_0 i) :
    out2_B_6 c i arg1 harg1 arg2 harg2 arg3 harg3 arg4 harg4 arg5 harg5 arg6 harg6 arg7 harg7 hc0 x0 x1 x2 x3 xo6 = k2_pay2 (F := Ideal) (k2_pay6 x1 x3) xo6 := by
  unfold out2_B_6
  rw [View.read_writes_eq_canon _ _ _ (cover2_B_6 c i arg1 harg1 arg2 harg2 arg3 harg3 arg4 harg4 arg5 harg5 arg6 harg6 arg7 harg7 hc0 x0 x1 x2 x3 xo6)]
  unfold kernelRun2_B
  dsimp only
  sl_unfold_words
  rw [View.canon_unit_zero hz2]
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2]

end Cases

section Cases
variable (c : Dev nD) (i : grid3.Coords) (arg1 : Memref sig .tc .vmem S512x1024 .f32) (harg1 : arg1.IsWhole) (arg2 : Memref sig .tc .vmem S1x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x1024 .f32) (harg5 : arg5.IsWhole)
  (x0 : Vec Ideal S512x1024 .f32) (x1 : Vec Ideal S1x1024 .f32) (x2 : Vec Ideal S512x1024 .f32) (xo4 : Vec Ideal S1x1024 .f32)

theorem A3_3 (hc0 : cond3_0 i) :
    out3_A_3 c i arg1 harg1 arg2 harg2 arg3 harg3 arg4 harg4 arg5 harg5 hc0 x0 x1 x2 = k3_pay6 x0 x1 x2 := by
  unfold out3_A_3
  rw [View.read_writes_eq_canon _ _ _ (cover3_A_3 c i arg1 harg1 arg2 harg2 arg3 harg3 arg4 harg4 arg5 harg5 hc0 x0 x1 x2)]
  unfold kernelRun3_A
  dsimp only
  sl_unfold_words
  rw [View.canon_unit_zero hz2]
  simp only [View.readAt_eq_ld, harg1.read_unread, harg2.read_unread, harg3.read_unread, harg4.read_unread, harg5.read_unread,
    View.ld_unit_zero (S := S512x1024) hz2, View.ld_unit_zero (S := S1x1024) hz2]
theorem A4_3 (hc0 : cond3_0 i) :
    out3_A_4 c i arg1 harg1 arg2 harg2 arg3 harg3 arg4 harg4 arg5 harg5 hc0 x0 x1 x2 = k3_pay2 (F := Ideal) (k3_pay5 x0 x2) (k3_pay1 (F := Ideal)) := by
  unfold out3_A_4
  rw [View.read_writes_eq_canon _ _ _ (cover3_A_4 c i arg1 harg1 arg2 harg2 arg3 harg3 arg4 harg4 arg5 harg5 hc0 x0 x1 x2)]
  unfold kernelRun3_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread, harg5.read_unread,
    View.ld_unit_zero (S := S512x1024) hz2, View.ld_unit_zero (S := S1x1024) hz2]
theorem B3_3 (hc0 : ¬cond3_0 i) :
    out3_B_3 c i arg1 harg1 arg2 harg2 arg3 harg3 arg4 harg4 arg5 harg5 hc0 x0 x1 x2 xo4 = k3_pay6 x0 x1 x2 := by
  unfold out3_B_3
  rw [View.read_writes_eq_canon _ _ _ (cover3_B_3 c i arg1 harg1 arg2 harg2 arg3 harg3 arg4 harg4 arg5 harg5 hc0 x0 x1 x2 xo4)]
  unfold kernelRun3_B
  dsimp only
  sl_unfold_words
  rw [View.canon_unit_zero hz2]
  simp only [View.readAt_eq_ld, harg1.read_unread, harg2.read_unread, harg3.read_unread, harg4.read_unread, harg5.read_unread,
    View.ld_unit_zero (S := S512x1024) hz2, View.ld_unit_zero (S := S1x1024) hz2]
theorem B4_3 (hc0 : ¬cond3_0 i) :
    out3_B_4 c i arg1 harg1 arg2 harg2 arg3 harg3 arg4 harg4 arg5 harg5 hc0 x0 x1 x2 xo4 = k3_pay2 (F := Ideal) (k3_pay5 x0 x2) xo4 := by
  unfold out3_B_4
  rw [View.read_writes_eq_canon _ _ _ (cover3_B_4 c i arg1 harg1 arg2 harg2 arg3 harg3 arg4 harg4 arg5 harg5 hc0 x0 x1 x2 xo4)]
  unfold kernelRun3_B
  dsimp only
  sl_unfold_words
  rw [View.canon_unit_zero hz2]
  simp only [View.readAt_eq_ld, harg1.read_unread, harg2.read_unread, harg3.read_unread, harg4.read_unread, harg5.read_unread,
    View.ld_unit_zero (S := S512x1024) hz2, View.ld_unit_zero (S := S1x1024) hz2]

end Cases

end Cert.Proof.OneBlock

end
-- ==== Proof.OneArrays.lean ====
/- Hand-written, untrusted. What the four calls of one norm and of a norm added to a residual stream leave in their arrays. -/
module

public import proofs.«01_k».proof.Proof.OneBlock
public import proofs.«01_k».proof.Proof.XArrays

@[expose] public section

set_option maxRecDepth 16384

noncomputable section

namespace Cert.Proof.OneArrays

open Idealize.ShloMosaic Idealize.ShloMosaic.TcCoe Cert.Kernel13Ideal Cert.Kernel13Ideal.Gen Idealize.ShloMosaic.Pointwise Norm One
open XArrays (pos sum_pos of_ix2)

/-- The buffers at a call's entry. -/
abbrev At := (c : Dev nD) → (b : Ref sig .tc) → Buf (Elt Ideal) ((c : Thread nD τ).loc b)
variable (V : At) (c : Dev nD)

/-! ## Forward -/

theorem i0 : ∀ t : Fin cfg0.N, win0_0.index t = ![t.val % 4, 0] ∧ win0_1.index t = ![0, 0] ∧ win0_2.index t = ![t.val % 4, 0] :=
  (by decide +kernel : ∀ t : Fin grid0.N, _)

section Reg0
variable (t : Fin cfg0.N)
theorem x0 (r : Fin 512) : row (iblk0 V c 0 t) r = row (V c main_arg0) (pos t.val r) := by
  obtain ⟨e, -⟩ := i0 t
  funext l
  refine congrArg (V c main_arg0) (funext fun a => Fin.ext ?_)
  match a with
  | ⟨0, _⟩ => blk_simp [e]; simp only [pos]
  | ⟨1, _⟩ => blk_simp [e]
theorem w0 : row (iblk0 V c 1 t) 0 = row (V c main_arg1) 0 := by
  obtain ⟨-, e, -⟩ := i0 t
  funext l
  blk_point [iblk0, e]
theorem o0_2 (r : Fin 512) (l : Fin 1024) : (win0_2.blk t).view.emb (ix2 r l : S512x1024.Idx) = ix2 (pos t.val r) l := by
  obtain ⟨-, -, e⟩ := i0 t
  refine funext fun a => Fin.ext ?_
  match a with
  | ⟨0, _⟩ => blk_simp [e]; dsimp [ix2, pos]
  | ⟨1, _⟩ => blk_simp [e]
end Reg0

theorem n_arr : (dat0 V c).arrAt 2 cfg0.N = n (V c main_arg0) (V c main_arg1) := by
  refine (dat0 V c).arrAt_eq_of_covers 2 _ (by decide +kernel) fun t hf z => ?_
  blk_simp
  rw [after0_2]
  refine congrFun (of_ix2 (f := out0_2 (iblk0 V c 0 t) (iblk0 V c 1 t))
    (g := fun z => n (V c main_arg0) (V c main_arg1) ((win0_2.blk t).view.emb z)) fun r l => ?_) z
  dsimp only
  rw [OneBlock.n2, o0_2]
  exact congrArg₂ (fun a b => xr a b l) (x0 V c t r) (w0 V c t)

theorem i1 : ∀ t : Fin cfg1.N, win1_0.index t = ![t.val % 4, 0] ∧ win1_1.index t = ![t.val % 4, 0] ∧ win1_2.index t = ![0, 0] ∧ win1_3.index t = ![t.val % 4, 0] :=
  (by decide +kernel : ∀ t : Fin grid1.N, _)

section Reg1
variable (t : Fin cfg1.N)
theorem h1 (r : Fin 512) : row (iblk1 V c 0 t) r = row (V c main_arg3) (pos t.val r) := by
  obtain ⟨e, -⟩ := i1 t
  funext l
  refine congrArg (V c main_arg3) (funext fun a => Fin.ext ?_)
  match a with
  | ⟨0, _⟩ => blk_simp [e]; simp only [pos]
  | ⟨1, _⟩ => blk_simp [e]
theorem y1 (r : Fin 512) : row (iblk1 V c 1 t) r = row (V c main_arg4) (pos t.val r) := by
  obtain ⟨-, e, -⟩ := i1 t
  funext l
  refine congrArg (V c main_arg4) (funext fun a => Fin.ext ?_)
  match a with
  | ⟨0, _⟩ => blk_simp [e]; simp only [pos]
  | ⟨1, _⟩ => blk_simp [e]
theorem w1 : row (iblk1 V c 2 t) 0 = row (V c main_arg5) 0 := by
  obtain ⟨-, -, e, -⟩ := i1 t
  funext l
  blk_point [iblk1, e]
theorem o1_3 (r : Fin 512) (l : Fin 1024) : (win1_3.blk t).view.emb (ix2 r l : S512x1024.Idx) = ix2 (pos t.val r) l := by
  obtain ⟨-, -, -, e⟩ := i1 t
  refine funext fun a => Fin.ext ?_
  match a with
  | ⟨0, _⟩ => blk_simp [e]; dsimp [ix2, pos]
  | ⟨1, _⟩ => blk_simp [e]
end Reg1

theorem h_arr : (dat1 V c).arrAt 3 cfg1.N = hn (V c main_arg3) (V c main_arg4) (V c main_arg5) := by
  refine (dat1 V c).arrAt_eq_of_covers 3 _ (by decide +kernel) fun t hf z => ?_
  blk_simp
  rw [after1_3]
  refine congrFun (of_ix2 (f := out1_3 (iblk1 V c 0 t) (iblk1 V c 1 t) (iblk1 V c 2 t))
    (g := fun z => hn (V c main_arg3) (V c main_arg4) (V c main_arg5) ((win1_3.blk t).view.emb z)) fun r l => ?_) z
  dsimp only
  rw [OneBlock.o3, o1_3]
  exact (congrArg₂ (fun a b => hr a b (row (iblk1 V c 2 t) 0) l) (h1 V c t r) (y1 V c t r)).trans (congrArg (fun a => hr _ _ a l) (w1 V c t))

/-! ## Backward -/

theorem i2 : ∀ t : Fin cfg2.N, win2_0.index t = ![t.val % 4, 0] ∧ win2_1.index t = ![t.val % 4, 0] ∧ win2_2.index t = ![0, 0] ∧ win2_3.index t = ![t.val % 4, 0] ∧ win2_4.index t = ![t.val % 4, 0] ∧ win2_5.index t = ![t.val % 4, 0] ∧ win2_6.index t = ![0, 0] :=
  (by decide +kernel : ∀ t : Fin grid2.N, _)

section Reg2
variable (t : Fin cfg2.N)
theorem o2_4 (r : Fin 512) (l : Fin 1024) : (win2_4.blk t).view.emb (ix2 r l : S512x1024.Idx) = ix2 (pos t.val r) l := by
  obtain ⟨-, -, -, -, e, -⟩ := i2 t
  refine funext fun a => Fin.ext ?_
  match a with
  | ⟨0, _⟩ => blk_simp [e]; dsimp [ix2, pos]
  | ⟨1, _⟩ => blk_simp [e]
theorem e2' (r : Fin 512) : row (iblk2 V c 3 t) r = row (V c main_arg6) (pos t.val r) := by
  obtain ⟨-, -, -, e, -⟩ := i2 t
  funext l
  refine congrArg (V c main_arg6) (funext fun a => Fin.ext ?_)
  match a with
  | ⟨0, _⟩ => blk_simp [e]; simp only [pos]
  | ⟨1, _⟩ => blk_simp [e]
theorem dh2 (r : Fin 512) (l : Fin 1024) : (outsAt2 V c t.val t.isLt).1 (ix2 r l) = V c main_arg6 (ix2 (pos t.val r) l) := by
  have e := congrFun (e2' V c t r) l
  by_cases h : t.val % 4 = 0
  · rw [outsAt2_A V c t h]
    dsimp only
    rw [OneBlock.A4_2]
    exact e
  · rw [outsAt2_B V c t h]
    dsimp only
    rw [OneBlock.B4_2]
    exact e
theorem y2 (r : Fin 512) : row (iblk2 V c 1 t) r = row (V c main_arg4) (pos t.val r) := by
  obtain ⟨-, e, -⟩ := i2 t
  funext l
  refine congrArg (V c main_arg4) (funext fun a => Fin.ext ?_)
  match a with
  | ⟨0, _⟩ => blk_simp [e]; simp only [pos]
  | ⟨1, _⟩ => blk_simp [e]
theorem w2 : row (iblk2 V c 2 t) 0 = row (V c main_arg5) 0 := by
  obtain ⟨-, -, e, -⟩ := i2 t
  funext l
  blk_point [iblk2, e]
theorem e2 (r : Fin 512) : row (iblk2 V c 3 t) r = row (V c main_arg6) (pos t.val r) := by
  obtain ⟨-, -, -, e, -⟩ := i2 t
  funext l
  refine congrArg (V c main_arg6) (funext fun a => Fin.ext ?_)
  match a with
  | ⟨0, _⟩ => blk_simp [e]; simp only [pos]
  | ⟨1, _⟩ => blk_simp [e]
theorem o2_5 (r : Fin 512) (l : Fin 1024) : (win2_5.blk t).view.emb (ix2 r l : S512x1024.Idx) = ix2 (pos t.val r) l := by
  obtain ⟨-, -, -, -, -, e, -⟩ := i2 t
  refine funext fun a => Fin.ext ?_
  match a with
  | ⟨0, _⟩ => blk_simp [e]; dsimp [ix2, pos]
  | ⟨1, _⟩ => blk_simp [e]
theorem o2_6 (u : Fin 1) (l : Fin 1024) : (win2_6.blk t).view.emb (ix2 u l : S1x1024.Idx) = ix2 u l := by
  obtain ⟨-, -, -, -, -, -, e⟩ := i2 t
  refine funext fun a => Fin.ext ?_
  match a with
  | ⟨0, _⟩ => blk_simp [e]
  | ⟨1, _⟩ => blk_simp [e]

/-- What a grid point's rows give to the weight's gradient. -/
def sw2 (n : ℕ) (l : Fin 1024) : EReal := ∑ r, wr (row (V c main_arg4) (pos n r)) (row (V c main_arg6) (pos n r)) l
theorem dx2 (r : Fin 512) (l : Fin 1024) : (outsAt2 V c t.val t.isLt).2.1 (ix2 r l) = dx (V c main_arg4) (V c main_arg5) (V c main_arg6) (ix2 (pos t.val r) l) := by
  by_cases h : t.val % 4 = 0
  · rw [outsAt2_A V c t h]
    dsimp only
    rw [OneBlock.A5_2, OneBlock.x2, y2, w2, e2]
    rfl
  · rw [outsAt2_B V c t h]
    dsimp only
    rw [OneBlock.B5_2, OneBlock.x2, y2, w2, e2]
    rfl
theorem dwA2 (h : t.val % 4 = 0) (u : Fin 1) (l : Fin 1024) : (outsAt2 V c t.val t.isLt).2.2 (ix2 u l) = sw2 V c t.val l := by
  rw [outsAt2_A V c t h]
  dsimp only
  rw [OneBlock.A6_2, OneBlock.a2, OneBlock.w2, OneBlock.z2, zero_add]
  simp only [y2, e2]
  rfl
theorem dwB2 (h : ¬t.val % 4 = 0) (u : Fin 1) (l : Fin 1024) : (outsAt2 V c t.val t.isLt).2.2 (ix2 u l)
    = (outsAt2 V c (t.val - 1) (Nat.lt_of_le_of_lt (Nat.sub_le _ _) t.isLt)).2.2 (ix2 u l) + sw2 V c t.val l := by
  rw [outsAt2_B V c t h]
  dsimp only
  rw [OneBlock.B6_2, OneBlock.a2, OneBlock.w2]
  simp only [y2, e2]
  rfl

/-- Over the four blocks of rows the sum is complete. -/
theorem dw4_2 (h : t.val % 4 = 3) (u : Fin 1) (l : Fin 1024) : (outsAt2 V c t.val t.isLt).2.2 (ix2 u l)
    = sw2 V c (t.val - 1 - 1 - 1) l + sw2 V c (t.val - 1 - 1) l + sw2 V c (t.val - 1) l + sw2 V c t.val l := by
  have b := t.isLt
  rw [dwB2 V c t (by omega), dwB2 V c ⟨t.val - 1, by omega⟩ (by dsimp only; omega), dwB2 V c ⟨t.val - 1 - 1, by omega⟩ (by dsimp only; omega),
    dwA2 V c ⟨t.val - 1 - 1 - 1, by omega⟩ (by dsimp only; omega)]
end Reg2

/-- The weight's gradient by four blocks of rows. -/
theorem dw_sum2 (n : ℕ) (h : n % 4 = 3) (u : Fin 1) (l : Fin 1024) :
    dw (V c main_arg4) (V c main_arg6) (ix2 u l) = sw2 V c (n - 1 - 1 - 1) l + sw2 V c (n - 1 - 1) l + sw2 V c (n - 1) l + sw2 V c n l := by
  unfold dw sw2
  exact sum_pos (fun s => wr (row (V c main_arg4) s) (row (V c main_arg6) s) l) n h

theorem dx2_arr : (dat2 V c).arrAt 5 cfg2.N = dx (V c main_arg4) (V c main_arg5) (V c main_arg6) := by
  refine (dat2 V c).arrAt_eq_of_covers 5 _ (by decide +kernel) fun t hf z => ?_
  blk_simp
  rw [after2_5]
  refine congrFun (of_ix2 (f := (outsAt2 V c t.val t.isLt).2.1)
    (g := fun z => dx (V c main_arg4) (V c main_arg5) (V c main_arg6) ((win2_5.blk t).view.emb z)) fun r l => ?_) z
  dsimp only
  rw [dx2 V c t, o2_5]
theorem dw2_arr : (dat2 V c).arrAt 6 cfg2.N = dw (V c main_arg4) (V c main_arg6) := by
  refine (dat2 V c).arrAt_eq_of_covers 6 _ (by decide +kernel) fun t hf z => ?_
  have h3 : t.val % 4 = 3 := (flush2_6 t).mp hf
  blk_simp
  rw [after2_6]
  refine congrFun (of_ix2 (f := (outsAt2 V c t.val t.isLt).2.2)
    (g := fun z => dw (V c main_arg4) (V c main_arg6) ((win2_6.blk t).view.emb z)) fun u l => ?_) z
  dsimp only
  rw [dw4_2 V c t h3, o2_6, dw_sum2 V c t.val h3]

theorem dh_arr : (dat2 V c).arrAt 4 cfg2.N = V c main_arg6 := by
  refine (dat2 V c).arrAt_eq_of_covers 4 _ (by decide +kernel) fun t hf z => ?_
  blk_simp
  rw [after2_4]
  refine congrFun (of_ix2 (f := (outsAt2 V c t.val t.isLt).1)
    (g := fun z => V c main_arg6 ((win2_4.blk t).view.emb z)) fun r l => ?_) z
  dsimp only
  rw [dh2 V c t, o2_4]

theorem i3 : ∀ t : Fin cfg3.N, win3_0.index t = ![t.val % 4, 0] ∧ win3_1.index t = ![0, 0] ∧ win3_2.index t = ![t.val % 4, 0] ∧ win3_3.index t = ![t.val % 4, 0] ∧ win3_4.index t = ![0, 0] :=
  (by decide +kernel : ∀ t : Fin grid3.N, _)

section Reg3
variable (t : Fin cfg3.N)
theorem y3 (r : Fin 512) : row (iblk3 V c 0 t) r = row (V c main_arg0) (pos t.val r) := by
  obtain ⟨e, -⟩ := i3 t
  funext l
  refine congrArg (V c main_arg0) (funext fun a => Fin.ext ?_)
  match a with
  | ⟨0, _⟩ => blk_simp [e]; simp only [pos]
  | ⟨1, _⟩ => blk_simp [e]
theorem w3 : row (iblk3 V c 1 t) 0 = row (V c main_arg1) 0 := by
  obtain ⟨-, e, -⟩ := i3 t
  funext l
  blk_point [iblk3, e]
theorem e3 (r : Fin 512) : row (iblk3 V c 2 t) r = row (V c main_arg2) (pos t.val r) := by
  obtain ⟨-, -, e, -⟩ := i3 t
  funext l
  refine congrArg (V c main_arg2) (funext fun a => Fin.ext ?_)
  match a with
  | ⟨0, _⟩ => blk_simp [e]; simp only [pos]
  | ⟨1, _⟩ => blk_simp [e]
theorem o3_3 (r : Fin 512) (l : Fin 1024) : (win3_3.blk t).view.emb (ix2 r l : S512x1024.Idx) = ix2 (pos t.val r) l := by
  obtain ⟨-, -, -, e, -⟩ := i3 t
  refine funext fun a => Fin.ext ?_
  match a with
  | ⟨0, _⟩ => blk_simp [e]; dsimp [ix2, pos]
  | ⟨1, _⟩ => blk_simp [e]
theorem o3_4 (u : Fin 1) (l : Fin 1024) : (win3_4.blk t).view.emb (ix2 u l : S1x1024.Idx) = ix2 u l := by
  obtain ⟨-, -, -, -, e⟩ := i3 t
  refine funext fun a => Fin.ext ?_
  match a with
  | ⟨0, _⟩ => blk_simp [e]
  | ⟨1, _⟩ => blk_simp [e]

/-- What a grid point's rows give to the weight's gradient. -/
def sw3 (n : ℕ) (l : Fin 1024) : EReal := ∑ r, wr (row (V c main_arg0) (pos n r)) (row (V c main_arg2) (pos n r)) l
theorem dx3 (r : Fin 512) (l : Fin 1024) : (outsAt3 V c t.val t.isLt).1 (ix2 r l) = dx (V c main_arg0) (V c main_arg1) (V c main_arg2) (ix2 (pos t.val r) l) := by
  by_cases h : t.val % 4 = 0
  · rw [outsAt3_A V c t h]
    dsimp only
    rw [OneBlock.A3_3, OneBlock.x3, y3, w3, e3]
    rfl
  · rw [outsAt3_B V c t h]
    dsimp only
    rw [OneBlock.B3_3, OneBlock.x3, y3, w3, e3]
    rfl
theorem dwA3 (h : t.val % 4 = 0) (u : Fin 1) (l : Fin 1024) : (outsAt3 V c t.val t.isLt).2 (ix2 u l) = sw3 V c t.val l := by
  rw [outsAt3_A V c t h]
  dsimp only
  rw [OneBlock.A4_3, OneBlock.a3, OneBlock.w3, OneBlock.z3, zero_add]
  simp only [y3, e3]
  rfl
theorem dwB3 (h : ¬t.val % 4 = 0) (u : Fin 1) (l : Fin 1024) : (outsAt3 V c t.val t.isLt).2 (ix2 u l)
    = (outsAt3 V c (t.val - 1) (Nat.lt_of_le_of_lt (Nat.sub_le _ _) t.isLt)).2 (ix2 u l) + sw3 V c t.val l := by
  rw [outsAt3_B V c t h]
  dsimp only
  rw [OneBlock.B4_3, OneBlock.a3, OneBlock.w3]
  simp only [y3, e3]
  rfl

/-- Over the four blocks of rows the sum is complete. -/
theorem dw4_3 (h : t.val % 4 = 3) (u : Fin 1) (l : Fin 1024) : (outsAt3 V c t.val t.isLt).2 (ix2 u l)
    = sw3 V c (t.val - 1 - 1 - 1) l + sw3 V c (t.val - 1 - 1) l + sw3 V c (t.val - 1) l + sw3 V c t.val l := by
  have b := t.isLt
  rw [dwB3 V c t (by omega), dwB3 V c ⟨t.val - 1, by omega⟩ (by dsimp only; omega), dwB3 V c ⟨t.val - 1 - 1, by omega⟩ (by dsimp only; omega),
    dwA3 V c ⟨t.val - 1 - 1 - 1, by omega⟩ (by dsimp only; omega)]
end Reg3

/-- The weight's gradient by four blocks of rows. -/
theorem dw_sum3 (n : ℕ) (h : n % 4 = 3) (u : Fin 1) (l : Fin 1024) :
    dw (V c main_arg0) (V c main_arg2) (ix2 u l) = sw3 V c (n - 1 - 1 - 1) l + sw3 V c (n - 1 - 1) l + sw3 V c (n - 1) l + sw3 V c n l := by
  unfold dw sw3
  exact sum_pos (fun s => wr (row (V c main_arg0) s) (row (V c main_arg2) s) l) n h

theorem dx3_arr : (dat3 V c).arrAt 3 cfg3.N = dx (V c main_arg0) (V c main_arg1) (V c main_arg2) := by
  refine (dat3 V c).arrAt_eq_of_covers 3 _ (by decide +kernel) fun t hf z => ?_
  blk_simp
  rw [after3_3]
  refine congrFun (of_ix2 (f := (outsAt3 V c t.val t.isLt).1)
    (g := fun z => dx (V c main_arg0) (V c main_arg1) (V c main_arg2) ((win3_3.blk t).view.emb z)) fun r l => ?_) z
  dsimp only
  rw [dx3 V c t, o3_3]
theorem dw3_arr : (dat3 V c).arrAt 4 cfg3.N = dw (V c main_arg0) (V c main_arg2) := by
  refine (dat3 V c).arrAt_eq_of_covers 4 _ (by decide +kernel) fun t hf z => ?_
  have h3 : t.val % 4 = 3 := (flush3_4 t).mp hf
  blk_simp
  rw [after3_4]
  refine congrFun (of_ix2 (f := (outsAt3 V c t.val t.isLt).2)
    (g := fun z => dw (V c main_arg0) (V c main_arg2) ((win3_4.blk t).view.emb z)) fun u l => ?_) z
  dsimp only
  rw [dw4_3 V c t h3, o3_4, dw_sum3 V c t.val h3]

end Cert.Proof.OneArrays

end
-- ==== Proof.OneRun.lean ====
/- Hand-written, untrusted. One norm, and one norm added to a residual stream, run: the seven results of the kernel program as functions of
   the seven arguments. -/
module

public import proofs.«01_k».proof.Proof.OneArrays
public import proofs.«01_k».proof.Proof.Gen.Kernel13Ideal.Frame

@[expose] public section

set_option maxRecDepth 16384

noncomputable section

namespace Cert.Proof.OneRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel13Ideal Cert.Kernel13Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev x : Norm.A := m ((c.tc : Thread nD τ).loc main_arg0)
abbrev w : Norm.W := m ((c.tc : Thread nD τ).loc main_arg1)
abbrev e : Norm.A := m ((c.tc : Thread nD τ).loc main_arg2)
abbrev h : Norm.A := m ((c.tc : Thread nD τ).loc main_arg3)
abbrev y : Norm.A := m ((c.tc : Thread nD τ).loc main_arg4)
abbrev p : Norm.W := m ((c.tc : Thread nD τ).loc main_arg5)
abbrev g : Norm.A := m ((c.tc : Thread nD τ).loc main_arg6)

/-! ## The results -/

theorem e0_at : W1 m ρ c (Proc.devRef .tc main_v0) = One.n (x m c) (w m c) := by
  refine (W1_arr m ρ c 2).trans ((OneArrays.n_arr (V0 m ρ) c).trans ?_)
  rfl
theorem e0_end : W6 m ρ c (Proc.devRef .tc main_v0) = One.n (x m c) (w m c) :=
  (W6_of m ρ c main_v0 (by decide)).trans ((W5_of m ρ c main_v0 (by decide)).trans ((W4_of m ρ c main_v0 (by decide)).trans ((W3_of m ρ c main_v0 (by decide)).trans ((W2_of m ρ c main_v0 (by decide)).trans (e0_at m ρ c)))))
theorem e1_at : W2 m ρ c (Proc.devRef .tc main_v1) = Norm.hn (h m c) (y m c) (p m c) := by
  refine (W2_arr m ρ c 3).trans ((OneArrays.h_arr (V1 m ρ) c).trans ?_)
  rw [show V1 m ρ c main_arg3 = h m c from W1_args m ρ c main_arg3 (by decide),
    show V1 m ρ c main_arg4 = y m c from W1_args m ρ c main_arg4 (by decide),
    show V1 m ρ c main_arg5 = p m c from W1_args m ρ c main_arg5 (by decide)]
theorem e1_end : W6 m ρ c (Proc.devRef .tc main_v1) = Norm.hn (h m c) (y m c) (p m c) :=
  (W6_of m ρ c main_v1 (by decide)).trans ((W5_of m ρ c main_v1 (by decide)).trans ((W4_of m ρ c main_v1 (by decide)).trans ((W3_of m ρ c main_v1 (by decide)).trans (e1_at m ρ c))))
theorem e2_at : W3 m ρ c (Proc.devRef .tc main_v2_0) = g m c := by
  refine (W3_arr m ρ c 4).trans ((OneArrays.dh_arr (V2 m ρ) c).trans ?_)
  rw [show V2 m ρ c main_arg6 = g m c from W2_args m ρ c main_arg6 (by decide)]
theorem e2_end : W6 m ρ c (Proc.devRef .tc main_v2_0) = g m c :=
  (W6_of m ρ c main_v2_0 (by decide)).trans ((W5_of m ρ c main_v2_0 (by decide)).trans ((W4_of m ρ c main_v2_0 (by decide)).trans (e2_at m ρ c)))
theorem e3_at : W3 m ρ c (Proc.devRef .tc main_v2_1) = One.dx (y m c) (p m c) (g m c) := by
  refine (W3_arr m ρ c 5).trans ((OneArrays.dx2_arr (V2 m ρ) c).trans ?_)
  rw [show V2 m ρ c main_arg4 = y m c from W2_args m ρ c main_arg4 (by decide),
    show V2 m ρ c main_arg5 = p m c from W2_args m ρ c main_arg5 (by decide),
    show V2 m ρ c main_arg6 = g m c from W2_args m ρ c main_arg6 (by decide)]
theorem e3_end : W6 m ρ c (Proc.devRef .tc main_v2_1) = One.dx (y m c) (p m c) (g m c) :=
  (W6_of m ρ c main_v2_1 (by decide)).trans ((W5_of m ρ c main_v2_1 (by decide)).trans ((W4_of m ρ c main_v2_1 (by decide)).trans (e3_at m ρ c)))
theorem e4_at : W3 m ρ c (Proc.devRef .tc main_v2_2) = One.dw (y m c) (g m c) := by
  refine (W3_arr m ρ c 6).trans ((OneArrays.dw2_arr (V2 m ρ) c).trans ?_)
  rw [show V2 m ρ c main_arg4 = y m c from W2_args m ρ c main_arg4 (by decide),
    show V2 m ρ c main_arg6 = g m c from W2_args m ρ c main_arg6 (by decide)]
theorem e4_end : W6 m ρ c (Proc.devRef .tc main_v2_2) = One.dw (y m c) (g m c) :=
  (W6_of m ρ c main_v2_2 (by decide)).trans ((W5_of m ρ c main_v2_2 (by decide)).trans ((W4_of m ρ c main_v2_2 (by decide)).trans (e4_at m ρ c)))
theorem e5_at : W5 m ρ c (Proc.devRef .tc main_v6_0) = One.dx (x m c) (w m c) (e m c) := by
  refine (W5_arr m ρ c 3).trans ((OneArrays.dx3_arr (V4 m ρ) c).trans ?_)
  rw [show V4 m ρ c main_arg0 = x m c from W4_args m ρ c main_arg0 (by decide),
    show V4 m ρ c main_arg1 = w m c from W4_args m ρ c main_arg1 (by decide),
    show V4 m ρ c main_arg2 = e m c from W4_args m ρ c main_arg2 (by decide)]
theorem e5_end : W6 m ρ c (Proc.devRef .tc main_v6_0) = One.dx (x m c) (w m c) (e m c) :=
  (W6_of m ρ c main_v6_0 (by decide)).trans (e5_at m ρ c)
theorem e6_at : W5 m ρ c (Proc.devRef .tc main_v6_1) = One.dw (x m c) (e m c) := by
  refine (W5_arr m ρ c 4).trans ((OneArrays.dw3_arr (V4 m ρ) c).trans ?_)
  rw [show V4 m ρ c main_arg0 = x m c from W4_args m ρ c main_arg0 (by decide),
    show V4 m ρ c main_arg2 = e m c from W4_args m ρ c main_arg2 (by decide)]
theorem e6_end : W6 m ρ c (Proc.devRef .tc main_v6_1) = One.dw (x m c) (e m c) :=
  (W6_of m ρ c main_v6_1 (by decide)).trans (e6_at m ρ c)

set_option backward.isDefEq.respectTransparency.types false in
/-- From any memory the program runs to its end with the seven results at these values. -/
theorem run : θ_run defs (onTc (τ := τ) (main (F := Ideal))) ⟨m, fun _ => 0, ρ⟩ (fun r => ∀ c : Dev nD,
      r.2.mem ((c.tc : Thread nD τ).loc main_v0) = One.n (x m c) (w m c)
      ∧ r.2.mem ((c.tc : Thread nD τ).loc main_v1) = Norm.hn (h m c) (y m c) (p m c)
      ∧ r.2.mem ((c.tc : Thread nD τ).loc main_v2_0) = g m c
      ∧ r.2.mem ((c.tc : Thread nD τ).loc main_v2_1) = One.dx (y m c) (p m c) (g m c)
      ∧ r.2.mem ((c.tc : Thread nD τ).loc main_v2_2) = One.dw (y m c) (g m c)
      ∧ r.2.mem ((c.tc : Thread nD τ).loc main_v6_0) = One.dx (x m c) (w m c) (e m c)
      ∧ r.2.mem ((c.tc : Thread nD τ).loc main_v6_1) = One.dw (x m c) (e m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s e _ c =>
      ⟨(e c _ (mem_uc main_v0 (by decide))).trans (e0_end m ρ c),
       (e c _ (mem_uc main_v1 (by decide))).trans (e1_end m ρ c),
       (e c _ (mem_uc main_v2_0 (by decide))).trans (e2_end m ρ c),
       (e c _ (mem_uc main_v2_1 (by decide))).trans (e3_end m ρ c),
       (e c _ (mem_uc main_v2_2 (by decide))).trans (e4_end m ρ c),
       (e c _ (mem_uc main_v6_0 (by decide))).trans (e5_end m ρ c),
       (e c _ (mem_uc main_v6_1 (by decide))).trans (e6_end m ρ c)⟩)

end Cert.Proof.OneRun

end
-- ==== Proof.OneRef.lean ====
/- Hand-written, untrusted. The reference program of one norm and of a norm added to a residual stream, read row by row. -/
module

public import proofs.«01_k».proof.Proof.OneSpec
public import proofs.«01_k».proof.Proof.Gen.Reference13Ideal.Read
public import Idealize.ShloMosaic.Lib.KernelVsHost

@[expose] public section

set_option maxRecDepth 16384

noncomputable section

namespace Cert.Proof.OneRef

open Idealize.ShloMosaic Cert.Reference13Ideal Cert.Reference13Ideal.Gen Cert.Reference13Ideal.Read Idealize.ShloMosaic.Pointwise
open Norm One

variable (h y : A) (w : W) (e : A)

section Rows
variable (t : Fin 2048) (l : Fin 1024) (u : Fin 1)
theorem m0 : val_main_v7 (F := Ideal) y (ix2 t u) = ms D (row y t) := by
  pointwise [val_main_v7, val_main_v6, val_main_v5, val_main_v4, val_main_v3, val_main_v2, val_main_v1, val_main_cst, val_main_cst_1, val_main_cst_2]
  rfl
theorem r0 : val_main_v8 (F := Ideal) y (ix2 t u) = rs D (row y t) := by
  pointwise [val_main_v8]
  rw [m0]
  rfl
theorem p0 : val_main_v11 (F := Ideal) y (ix2 t u) = Ideal.ofBits .f32 0xBF000000#32 * Ideal.div (rs D (row y t)) (ms D (row y t)) := by
  pointwise [val_main_v11, val_main_v10, val_main_v9, val_main_cst_2]
  rw [m0, r0]
theorem n0 : val_main_v13 (F := Ideal) y (ix2 t l) = y (ix2 t l) * rs D (row y t) := by
  pointwise [val_main_v13, val_main_v12]
  rw [r0]
theorem m1 : val_main_v24 (F := Ideal) y (ix2 t u) = ms D (row y t) := by
  pointwise [val_main_v24, val_main_v23, val_main_v22, val_main_v21, val_main_v20, val_main_v19, val_main_v18, val_main_cst_3, val_main_cst_4, val_main_cst_5]
  rfl
theorem r1 : val_main_v25 (F := Ideal) y (ix2 t u) = rs D (row y t) := by
  pointwise [val_main_v25]
  rw [m1]
  rfl
theorem p1 : val_main_v28 (F := Ideal) y (ix2 t u) = Ideal.ofBits .f32 0xBF000000#32 * Ideal.div (rs D (row y t)) (ms D (row y t)) := by
  pointwise [val_main_v28, val_main_v27, val_main_v26, val_main_cst_6]
  rw [m1, r1]
theorem n1 : val_main_v30 (F := Ideal) y (ix2 t l) = y (ix2 t l) * rs D (row y t) := by
  pointwise [val_main_v30, val_main_v29]
  rw [r1]
theorem s16 : val_main_v16 (F := Ideal) y w (ix2 t l) = xr (row y t) (row w 0) l := by
  pointwise [val_main_v16, val_main_v15, val_main_v14, val_main_v0]
  rw [n0]
  rfl
theorem s34 : val_main_v34 (F := Ideal) h y w (ix2 t l) = hr (row h t) (row y t) (row w 0) l := by
  pointwise [val_main_v34, val_main_v33, val_main_v32, val_main_v31, val_main_v17]
  rw [n1]
  rfl
theorem s35 : val_main_v35 (F := Ideal) e (ix2 t l) = e (ix2 t l) := by
  pointwise [val_main_v35]
theorem s55 : val_main_v55 (F := Ideal) y w e (ix2 t l) = br (row y t) (row w 0) (row e t) l := by
  pointwise [val_main_v55, val_main_v54, val_main_v53, val_main_v52, val_main_v51, val_main_v50, val_main_v49, val_main_v48, val_main_v47, val_main_v46, val_main_v45, val_main_v44, val_main_v43, val_main_v42, val_main_v40, val_main_v39, val_main_v31, val_main_v17, val_main_cst_9, val_main_cst_10, val_main_cst_11]
  simp only [Fin.sum_univ_one, s35, r1, p1]
  rfl
theorem s56 : val_main_v56 (F := Ideal) y e (ix2 u l) = ∑ t, wr (row y t) (row e t) l := by
  pointwise [val_main_v56, val_main_v41, val_main_v38, val_main_v37, val_main_v36, val_main_cst_7, val_main_cst_8]
  simp only [Fin.sum_univ_one, n1, s35]
  rfl
theorem s76 : val_main_v76 (F := Ideal) y w e (ix2 t l) = br (row y t) (row w 0) (row e t) l := by
  pointwise [val_main_v76, val_main_v75, val_main_v74, val_main_v73, val_main_v72, val_main_v71, val_main_v70, val_main_v69, val_main_v68, val_main_v67, val_main_v66, val_main_v65, val_main_v64, val_main_v63, val_main_v61, val_main_v60, val_main_v14, val_main_v0, val_main_cst_14, val_main_cst_15, val_main_cst_16]
  simp only [Fin.sum_univ_one, r0, p0]
  rfl
theorem s77 : val_main_v77 (F := Ideal) y e (ix2 u l) = ∑ t, wr (row y t) (row e t) l := by
  pointwise [val_main_v77, val_main_v62, val_main_v59, val_main_v58, val_main_v57, val_main_cst_12, val_main_cst_13]
  simp only [Fin.sum_univ_one, n0]
  rfl
end Rows

theorem n_ref : val_main_v16 (F := Ideal) y w = n y w := by
  funext i
  obtain ⟨t, l, rfl⟩ : ∃ (t : Fin 2048) (l : Fin 1024), i = ix2 t l := ⟨i 0, i 1, eq_ix2 i⟩
  exact s16 y w t l
theorem h_ref : val_main_v34 (F := Ideal) h y w = hn h y w := by
  funext i
  obtain ⟨t, l, rfl⟩ : ∃ (t : Fin 2048) (l : Fin 1024), i = ix2 t l := ⟨i 0, i 1, eq_ix2 i⟩
  exact s34 h y w t l
theorem dh_ref : val_main_v35 (F := Ideal) e = e := by
  funext i
  obtain ⟨t, l, rfl⟩ : ∃ (t : Fin 2048) (l : Fin 1024), i = ix2 t l := ⟨i 0, i 1, eq_ix2 i⟩
  exact s35 e t l
theorem dy_ref : val_main_v55 (F := Ideal) y w e = dx y w e := by
  funext i
  obtain ⟨t, l, rfl⟩ : ∃ (t : Fin 2048) (l : Fin 1024), i = ix2 t l := ⟨i 0, i 1, eq_ix2 i⟩
  exact s55 y w e t l
theorem dp_ref : val_main_v56 (F := Ideal) y e = dw y e := by
  funext i
  obtain ⟨u, l, rfl⟩ : ∃ (u : Fin 1) (l : Fin 1024), i = ix2 u l := ⟨i 0, i 1, eq_ix2 i⟩
  exact s56 y e l u
theorem dx_ref : val_main_v76 (F := Ideal) y w e = dx y w e := by
  funext i
  obtain ⟨t, l, rfl⟩ : ∃ (t : Fin 2048) (l : Fin 1024), i = ix2 t l := ⟨i 0, i 1, eq_ix2 i⟩
  exact s76 y w e t l
theorem dw_ref : val_main_v77 (F := Ideal) y e = dw y e := by
  funext i
  obtain ⟨u, l, rfl⟩ : ∃ (u : Fin 1) (l : Fin 1024), i = ix2 u l := ⟨i 0, i 1, eq_ix2 i⟩
  exact s77 y e l u

end Cert.Proof.OneRef

end
-- ==== Proof.GateSpec.lean ====
/- Hand-written, untrusted. The delta rule's decay and its step, side by side in the first eight lanes, and their gradients. -/
module

public import proofs.«01_k».proof.Proof.XArrays
public import proofs.«01_k».proof.Proof.Softmax

@[expose] public section

noncomputable section

namespace Cert.Proof.Gate

open Idealize.ShloMosaic
open XArrays (pos sum_pos)

/-! ## One entry -/

/-- Infinity. -/
abbrev inf : EReal := Ideal.ofBits .f32 0x7F800000#32
/-- The smooth positive part. -/
def sp (z : EReal) : EReal := max z 0 + Ideal.log1p (Ideal.exp (-max z (-z)))
/-- Infinity replaced by zero. -/
def cl (z : EReal) : EReal := if z = inf then 0 else z
/-- The slope of the smooth positive part. -/
def sl (z : EReal) : EReal := Ideal.exp (cl z - cl (sp z))

section Entry
variable (a p q d : EReal) (l : Fin 128)
/-- The output: the decay in the lanes below four, the step in the next four, zero in the others. -/
def ye : EReal := if l.val < 4 then -Ideal.exp p * sp (a + q) else if l.val < 8 then Ideal.logistic a else 0
/-- The gradient of the input. -/
def xe : EReal := if l.val < 4 then -Ideal.exp p * d * sl (a + q) else if l.val < 8 then d * (Ideal.logistic a * (1 - Ideal.logistic a)) else 0
/-- A position's share of the gradient of the rate, but for the rate. -/
def t0 : EReal := if l.val < 4 then d * sp (a + q) else 0
/-- A position's share of the gradient of the shift. -/
def t1 : EReal := if l.val < 4 then -Ideal.exp p * d * sl (a + q) else 0
/-- What a block of positions with these two sums gives to the parameters' gradient. -/
def step (s0 s1 : EReal) (k : Fin 8) : EReal :=
  (if k.val < 2 then if k.val < 1 then 0 else s1 else 0) + if k.val < 1 then -s0 * Ideal.exp p else 0
end Entry

/-! ## The arrays -/

/-- The positions' lanes. -/
abbrev X : Type := Vec Ideal ⟨2, ![2048, 128]⟩ .f32
/-- The parameters: the rate's logarithm in the first row, the shift in the second. -/
abbrev P : Type := Vec Ideal ⟨2, ![8, 128]⟩ .f32
variable (x : X) (p : P) (d : X)
/-- The output. -/
def y : X := fun i => ye (x i) (p (ix2 0 (i 1))) (p (ix2 1 (i 1))) (i 1)
/-- The gradient of the input. -/
def dx : X := fun i => xe (x i) (p (ix2 0 (i 1))) (p (ix2 1 (i 1))) (d i) (i 1)
/-- The share of one position. -/
def r0 (l : Fin 128) (r : Fin 2048) : EReal := t0 (x (ix2 r l)) (p (ix2 1 l)) (d (ix2 r l)) l
/-- The share of one position. -/
def r1 (l : Fin 128) (r : Fin 2048) : EReal := t1 (x (ix2 r l)) (p (ix2 0 l)) (p (ix2 1 l)) (d (ix2 r l)) l
/-- The share of a block of positions. -/
def blk (n : ℕ) (k : Fin 8) (l : Fin 128) : EReal := step (p (ix2 0 l)) (∑ r, r0 x p d l (pos n r)) (∑ r, r1 x p d l (pos n r)) k
/-- The gradient of the parameters, added up over the four blocks. -/
def dp : P := fun i => blk x p d 0 (i 0) (i 1) + blk x p d 1 (i 0) (i 1) + blk x p d 2 (i 0) (i 1) + blk x p d 3 (i 0) (i 1)

/-! ## On finite values -/

theorem cmax (a b : ℝ) : ((max a b : ℝ) : EReal) = max (a : EReal) (b : EReal) := EReal.coe_strictMono.monotone.map_max
theorem sp_real (z : ℝ) : ∃ s : ℝ, sp (z : EReal) = s := by
  refine ⟨max z 0 + Real.log (1 + Real.exp (-max z (-z))), ?_⟩
  have h : (0 : ℝ) < 1 + Real.exp (-max z (-z)) := by positivity
  have e : Ideal.log1p (Ideal.exp (-max (z : EReal) (-(z : EReal)))) = (Real.log (1 + Real.exp (-max z (-z))) : EReal) := by
    rw [← EReal.coe_neg, ← cmax, ← EReal.coe_neg, Ideal.exp_coe]
    unfold Ideal.log1p
    rw [← EReal.coe_one, ← EReal.coe_add, Ideal.log_coe]
    exact if_neg (not_le.mpr h)
  unfold sp
  rw [e, ← EReal.coe_zero, ← cmax, ← EReal.coe_add]
theorem r0_real (hx : ∀ i, x i ≠ (⊤ : EReal) ∧ x i ≠ (⊥ : EReal)) (hp : ∀ i, p i ≠ (⊤ : EReal) ∧ p i ≠ (⊥ : EReal))
    (hd : ∀ i, d i ≠ (⊤ : EReal) ∧ d i ≠ (⊥ : EReal)) (l : Fin 128) (r : Fin 2048) : ∃ s : ℝ, r0 x p d l r = s := by
  obtain ⟨a, ea⟩ := Softmax.exists_real (hx (ix2 r l))
  obtain ⟨b, eb⟩ := Softmax.exists_real (hp (ix2 1 l))
  obtain ⟨c, ec⟩ := Softmax.exists_real (hd (ix2 r l))
  obtain ⟨s, es⟩ := sp_real (a + b)
  unfold r0 t0
  split
  · refine ⟨c * s, ?_⟩
    rw [ea, eb, ec, ← EReal.coe_add, es, ← EReal.coe_mul]
  · exact ⟨0, rfl⟩

/-- The rate's gradient by blocks is the rate's gradient at once. -/
theorem blocks (f : Fin 2048 → EReal) (hf : ∀ r, ∃ s : ℝ, f r = s) (e : ℝ) :
    -(∑ r, f (pos 0 r)) * (e : EReal) + -(∑ r, f (pos 1 r)) * (e : EReal) + -(∑ r, f (pos 2 r)) * (e : EReal) + -(∑ r, f (pos 3 r)) * (e : EReal)
      = -(∑ r, f r) * (e : EReal) := by
  choose g hg using hf
  rw [sum_pos f 3 rfl]
  simp only [hg, ← Softmax.coe_sum, ← EReal.coe_add, ← EReal.coe_neg, ← EReal.coe_mul]
  refine congrArg _ ?_
  show _ * e + _ * e + _ * e + _ * e = -(_ + _ + _ + _) * e
  ring

end Cert.Proof.Gate

end
-- ==== Proof.GateBlock.lean ====
/- Hand-written, untrusted. The two calls of the delta rule's decay: what one block of positions leaves. -/
module

public import proofs.«01_k».proof.Proof.Gen.Kernel17Ideal.Frame
public import proofs.«01_k».proof.Proof.GateSpec
public import Idealize.ShloMosaic.Lib.Pointwise
public import Idealize.ShloMosaic.Lib.Pipeline.ValueKit

@[expose] public section

set_option maxRecDepth 16384

noncomputable section

namespace Cert.Proof.GateBlock

open Idealize.ShloMosaic Cert.Kernel17Ideal Cert.Kernel17Ideal.Gen Idealize.ShloMosaic.Pointwise Gate

/-- A block's start. -/
theorem hz2 : (![0, 0] : Fin 2 → ℕ) = fun _ => 0 := by decide

/-- The index of a row and a column. -/
theorem rl {n m : ℕ} (y : (⟨2, ![n, m]⟩ : Shape).Idx) : ∃ (r : Fin n) (l : Fin m), y = ix2 r l :=
  ⟨y 0, y 1, by funext a; match a with | ⟨0, _⟩ => rfl | ⟨1, _⟩ => rfl⟩

/-- The lanes below four. -/
theorem sel4 (l : Fin 128) (a b : EReal) : Scalar.select (IntOp.cmpi CmpIPredicate.slt (BitVec.ofNat 32 l.val) 4#32) a b = if l.val < 4 then a else b := by
  have h : ∀ l : Fin 128, IntOp.cmpi CmpIPredicate.slt (BitVec.ofNat 32 l.val) 4#32 = if l.val < 4 then 1#1 else 0#1 := by decide +kernel
  rw [h l]
  split <;> rfl
/-- The lanes below eight. -/
theorem sel8 (l : Fin 128) (a b : EReal) : Scalar.select (IntOp.cmpi CmpIPredicate.slt (BitVec.ofNat 32 l.val) 8#32) a b = if l.val < 8 then a else b := by
  have h : ∀ l : Fin 128, IntOp.cmpi CmpIPredicate.slt (BitVec.ofNat 32 l.val) 8#32 = if l.val < 8 then 1#1 else 0#1 := by decide +kernel
  rw [h l]
  split <;> rfl

variable (x : Vec Ideal S512x128 .f32) (p : Vec Ideal S8x128 .f32) (d : Vec Ideal S512x128 .f32)

theorem y2 (z : S512x128.Idx) : out0_2 x p z = ye (x z) (p (ix2 0 (z 1))) (p (ix2 1 (z 1))) (z 1) := by
  obtain ⟨r, l, rfl⟩ := rl z
  unfold out0_2
  rw [View.canon_unit_zero hz2, View.ld_unit_zero (S := S512x128) hz2, View.ld_unit_zero (S := S8x128) hz2]
  pointwise [k0_pay1]
  rw [sel4, sel8]
  simp only [ne_eq, not_true_eq_false, if_false, zero_sub]
  rfl

section Pay
variable (r : Fin 512) (l : Fin 128) (u : Fin 1)
theorem e8 : k1_pay8 p (ix2 u l) = -Ideal.exp (p (ix2 0 l)) := by
  pointwise [k1_pay7, k1_pay8]
  exact zero_sub _
theorem e7 : k1_pay7 p (ix2 u l) = Ideal.exp (p (ix2 0 l)) := by
  pointwise [k1_pay7]
theorem s10 : k1_pay10 x p (ix2 r l) = sp (x (ix2 r l) + p (ix2 1 l)) := by
  pointwise [k1_pay10, k1_pay9]
  simp only [ne_eq, not_true_eq_false, if_false, zero_sub]
  rfl
theorem s9 : k1_pay9 x p (ix2 r l) = x (ix2 r l) + p (ix2 1 l) := by
  pointwise [k1_pay9]
theorem s11 : k1_pay11 x p (ix2 r l) = sl (x (ix2 r l) + p (ix2 1 l)) := by
  pointwise [k1_pay11]
  rw [s10, s9]
  rfl
theorem l12 : k1_pay12 (ix2 r l) = IntOp.cmpi CmpIPredicate.slt (BitVec.ofNat 32 l.val) 4#32 := by
  pointwise [k1_pay12]
theorem l13 : k1_pay13 (ix2 r l) = IntOp.cmpi CmpIPredicate.slt (BitVec.ofNat 32 l.val) 8#32 := by
  pointwise [k1_pay13]
theorem g14 : k1_pay14 x (ix2 r l) = Ideal.logistic (x (ix2 r l)) * (1 - Ideal.logistic (x (ix2 r l))) := by
  pointwise [k1_pay14]
theorem x4 : k1_pay4 d (k1_pay8 p) (k1_pay11 x p) k1_pay12 k1_pay13 (k1_pay14 x) (ix2 r l)
    = xe (x (ix2 r l)) (p (ix2 0 l)) (p (ix2 1 l)) (d (ix2 r l)) l := by
  pointwise [k1_pay4, k1_pay3, k1_pay2, k1_pay1]
  simp only [e8, s11, l12, l13, g14, sel4, sel8]
  unfold xe
  by_cases h : l.val < 4
  · simp only [h, if_true, show l.val < 8 by omega, zero_add]
  · simp only [h, if_false, add_zero]
theorem p6 (v : Vec Ideal S8x128 .f32) (k : Fin 8) : k1_pay6 d (k1_pay7 p) (k1_pay8 p) (k1_pay10 x p) (k1_pay11 x p) k1_pay12 v (ix2 k l)
    = v (ix2 k l) + step (p (ix2 0 l)) (∑ r, t0 (x (ix2 r l)) (p (ix2 1 l)) (d (ix2 r l)) l)
      (∑ r, t1 (x (ix2 r l)) (p (ix2 0 l)) (p (ix2 1 l)) (d (ix2 r l)) l) k := by
  pointwise [k1_pay6, k1_pay3, k1_pay2, k1_pay1]
  simp only [e8, e7, s10, s11, l12, sel4, zero_sub]
  rfl
theorem z5 (k : Fin 8) : k1_pay5 (F := Ideal) (ix2 k l) = 0 := by
  pointwise [k1_pay5]
end Pay

/-! ## By cases: the first block of positions, and the others -/

section Cases
variable (c : Dev nD) (i : grid1.Coords) (arg1 : Memref sig .tc .vmem S512x128 .f32) (harg1 : arg1.IsWhole) (arg2 : Memref sig .tc .vmem S8x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S8x128 .f32) (harg5 : arg5.IsWhole)
  (x0 : Vec Ideal S512x128 .f32) (x1 : Vec Ideal S8x128 .f32) (x2 : Vec Ideal S512x128 .f32) (xo4 : Vec Ideal S8x128 .f32)

theorem A3 (hc0 : cond1_0 i) :
    out1_A_3 c i arg1 harg1 arg2 harg2 arg3 harg3 arg4 harg4 arg5 harg5 hc0 x0 x1 x2 = k1_pay4 x2 (k1_pay8 x1) (k1_pay11 x0 x1) k1_pay12 k1_pay13 (k1_pay14 x0) := by
  unfold out1_A_3
  rw [View.read_writes_eq_canon _ _ _ (cover1_A_3 c i arg1 harg1 arg2 harg2 arg3 harg3 arg4 harg4 arg5 harg5 hc0 x0 x1 x2)]
  unfold kernelRun1_A
  dsimp only
  sl_unfold_words
  rw [View.canon_unit_zero hz2]
  simp only [View.readAt_eq_ld, harg1.read_unread, harg2.read_unread, harg3.read_unread, harg4.read_unread, harg5.read_unread,
    View.ld_unit_zero (S := S512x128) hz2, View.ld_unit_zero (S := S8x128) hz2]
theorem A4 (hc0 : cond1_0 i) :
    out1_A_4 c i arg1 harg1 arg2 harg2 arg3 harg3 arg4 harg4 arg5 harg5 hc0 x0 x1 x2 = k1_pay6 x2 (k1_pay7 x1) (k1_pay8 x1) (k1_pay10 x0 x1) (k1_pay11 x0 x1) k1_pay12 (k1_pay5 (F := Ideal)) := by
  unfold out1_A_4
  rw [View.read_writes_eq_canon _ _ _ (cover1_A_4 c i arg1 harg1 arg2 harg2 arg3 harg3 arg4 harg4 arg5 harg5 hc0 x0 x1 x2)]
  unfold kernelRun1_A
  dsimp only
  sl_unfold_words
  rw [View.canon_cons_unit_zero (S := S8x128) hz2, View.readCov_unit_zero (S := S8x128) _ hz2]
  simp only [View.readAt_eq_ld, harg1.read_unread, harg2.read_unread, harg3.read_unread, harg4.read_unread, harg5.read_unread,
    View.ld_unit_zero (S := S512x128) hz2, View.ld_unit_zero (S := S8x128) hz2]
theorem B3 (hc0 : ¬cond1_0 i) :
    out1_B_3 c i arg1 harg1 arg2 harg2 arg3 harg3 arg4 harg4 arg5 harg5 hc0 x0 x1 x2 xo4 = k1_pay4 x2 (k1_pay8 x1) (k1_pay11 x0 x1) k1_pay12 k1_pay13 (k1_pay14 x0) := by
  unfold out1_B_3
  rw [View.read_writes_eq_canon _ _ _ (cover1_B_3 c i arg1 harg1 arg2 harg2 arg3 harg3 arg4 harg4 arg5 harg5 hc0 x0 x1 x2 xo4)]
  unfold kernelRun1_B
  dsimp only
  sl_unfold_words
  rw [View.canon_unit_zero hz2]
  simp only [View.readAt_eq_ld, harg1.read_unread, harg2.read_unread, harg3.read_unread, harg4.read_unread, harg5.read_unread,
    View.ld_unit_zero (S := S512x128) hz2, View.ld_unit_zero (S := S8x128) hz2]
theorem B4 (hc0 : ¬cond1_0 i) :
    out1_B_4 c i arg1 harg1 arg2 harg2 arg3 harg3 arg4 harg4 arg5 harg5 hc0 x0 x1 x2 xo4 = k1_pay6 x2 (k1_pay7 x1) (k1_pay8 x1) (k1_pay10 x0 x1) (k1_pay11 x0 x1) k1_pay12 xo4 := by
  unfold out1_B_4
  rw [View.read_writes_eq_canon _ _ _ (cover1_B_4 c i arg1 harg1 arg2 harg2 arg3 harg3 arg4 harg4 arg5 harg5 hc0 x0 x1 x2 xo4)]
  unfold kernelRun1_B
  dsimp only
  sl_unfold_words
  rw [View.canon_unit_zero hz2]
  simp only [View.readAt_eq_ld, harg1.read_unread, harg2.read_unread, harg3.read_unread, harg4.read_unread, harg5.read_unread,
    View.ld_unit_zero (S := S512x128) hz2, View.ld_unit_zero (S := S8x128) hz2]

end Cases

end Cert.Proof.GateBlock

end
-- ==== Proof.GateArrays.lean ====
/- Hand-written, untrusted. What the two calls of the delta rule's decay leave in their arrays. -/
module

public import proofs.«01_k».proof.Proof.GateBlock

@[expose] public section

set_option maxRecDepth 16384

noncomputable section

namespace Cert.Proof.GateArrays

open Idealize.ShloMosaic Idealize.ShloMosaic.TcCoe Cert.Kernel17Ideal Cert.Kernel17Ideal.Gen Idealize.ShloMosaic.Pointwise Gate
open XArrays (pos of_ix2)

/-- The buffers at a call's entry. -/
abbrev At := (c : Dev nD) → (b : Ref sig .tc) → Buf (Elt Ideal) ((c : Thread nD τ).loc b)
variable (V : At) (c : Dev nD)

theorem i0 : ∀ t : Fin cfg0.N, win0_0.index t = ![t.val % 4, 0] ∧ win0_1.index t = ![0, 0] ∧ win0_2.index t = ![t.val % 4, 0] :=
  (by decide +kernel : ∀ t : Fin grid0.N, _)

section Reg0
variable (t : Fin cfg0.N)
theorem x0 (r : Fin 512) (l : Fin 128) : iblk0 V c 0 t (ix2 r l : S512x128.Idx) = V c main_arg0 (ix2 (pos t.val r) l) := by
  obtain ⟨e, -⟩ := i0 t
  refine congrArg (V c main_arg0) (funext fun a => Fin.ext ?_)
  match a with
  | ⟨0, _⟩ => blk_simp [e]; dsimp [ix2, pos]
  | ⟨1, _⟩ => blk_simp [e]
theorem p0 (k : Fin 8) (l : Fin 128) : iblk0 V c 1 t (ix2 k l : S8x128.Idx) = V c main_arg1 (ix2 k l) := by
  obtain ⟨-, e, -⟩ := i0 t
  refine congrArg (V c main_arg1) (funext fun a => Fin.ext ?_)
  match a with
  | ⟨0, _⟩ => blk_simp [e]
  | ⟨1, _⟩ => blk_simp [e]
theorem o0_2 (r : Fin 512) (l : Fin 128) : (win0_2.blk t).view.emb (ix2 r l : S512x128.Idx) = ix2 (pos t.val r) l := by
  obtain ⟨-, -, e⟩ := i0 t
  refine funext fun a => Fin.ext ?_
  match a with
  | ⟨0, _⟩ => blk_simp [e]; dsimp [ix2, pos]
  | ⟨1, _⟩ => blk_simp [e]
end Reg0

theorem y_arr : (dat0 V c).arrAt 2 cfg0.N = y (V c main_arg0) (V c main_arg1) := by
  refine (dat0 V c).arrAt_eq_of_covers 2 _ (by decide +kernel) fun t hf z => ?_
  blk_simp
  rw [after0_2]
  refine congrFun (of_ix2 (f := out0_2 (iblk0 V c 0 t) (iblk0 V c 1 t))
    (g := fun z => y (V c main_arg0) (V c main_arg1) ((win0_2.blk t).view.emb z)) fun r l => ?_) z
  dsimp only
  rw [GateBlock.y2, o0_2]
  refine Eq.trans ?_ (congrArg₂ (fun a b : EReal => ye a b (V c main_arg1 (ix2 1 l)) l) (x0 V c t r l) (p0 V c t 0 l))
  exact congrArg (fun b : EReal => ye (iblk0 V c 0 t (ix2 r l : S512x128.Idx)) (iblk0 V c 1 t (ix2 0 l : S8x128.Idx)) b l) (p0 V c t 1 l)

theorem i1 : ∀ t : Fin cfg1.N, win1_0.index t = ![t.val % 4, 0] ∧ win1_1.index t = ![0, 0] ∧ win1_2.index t = ![t.val % 4, 0] ∧ win1_3.index t = ![t.val % 4, 0] ∧ win1_4.index t = ![0, 0] :=
  (by decide +kernel : ∀ t : Fin grid1.N, _)

section Reg1
variable (t : Fin cfg1.N)
theorem x1 (r : Fin 512) (l : Fin 128) : iblk1 V c 0 t (ix2 r l : S512x128.Idx) = V c main_arg0 (ix2 (pos t.val r) l) := by
  obtain ⟨e, -⟩ := i1 t
  refine congrArg (V c main_arg0) (funext fun a => Fin.ext ?_)
  match a with
  | ⟨0, _⟩ => blk_simp [e]; dsimp [ix2, pos]
  | ⟨1, _⟩ => blk_simp [e]
theorem p1 (k : Fin 8) (l : Fin 128) : iblk1 V c 1 t (ix2 k l : S8x128.Idx) = V c main_arg1 (ix2 k l) := by
  obtain ⟨-, e, -⟩ := i1 t
  refine congrArg (V c main_arg1) (funext fun a => Fin.ext ?_)
  match a with
  | ⟨0, _⟩ => blk_simp [e]
  | ⟨1, _⟩ => blk_simp [e]
theorem d1 (r : Fin 512) (l : Fin 128) : iblk1 V c 2 t (ix2 r l : S512x128.Idx) = V c main_arg2 (ix2 (pos t.val r) l) := by
  obtain ⟨-, -, e, -⟩ := i1 t
  refine congrArg (V c main_arg2) (funext fun a => Fin.ext ?_)
  match a with
  | ⟨0, _⟩ => blk_simp [e]; dsimp [ix2, pos]
  | ⟨1, _⟩ => blk_simp [e]
theorem o1_3 (r : Fin 512) (l : Fin 128) : (win1_3.blk t).view.emb (ix2 r l : S512x128.Idx) = ix2 (pos t.val r) l := by
  obtain ⟨-, -, -, e, -⟩ := i1 t
  refine funext fun a => Fin.ext ?_
  match a with
  | ⟨0, _⟩ => blk_simp [e]; dsimp [ix2, pos]
  | ⟨1, _⟩ => blk_simp [e]
theorem o1_4 (k : Fin 8) (l : Fin 128) : (win1_4.blk t).view.emb (ix2 k l : S8x128.Idx) = ix2 k l := by
  obtain ⟨-, -, -, -, e⟩ := i1 t
  refine funext fun a => Fin.ext ?_
  match a with
  | ⟨0, _⟩ => blk_simp [e]
  | ⟨1, _⟩ => blk_simp [e]
theorem dx1 (r : Fin 512) (l : Fin 128) : (outsAt1 V c t.val t.isLt).1 (ix2 r l) = dx (V c main_arg0) (V c main_arg1) (V c main_arg2) (ix2 (pos t.val r) l) := by
  by_cases h : t.val % 4 = 0
  · rw [outsAt1_A V c t h]
    dsimp only
    rw [GateBlock.A3, GateBlock.x4, x1, p1, p1, d1]
    rfl
  · rw [outsAt1_B V c t h]
    dsimp only
    rw [GateBlock.B3, GateBlock.x4, x1, p1, p1, d1]
    rfl
theorem dpA (h : t.val % 4 = 0) (k : Fin 8) (l : Fin 128) : (outsAt1 V c t.val t.isLt).2 (ix2 k l) = blk (V c main_arg0) (V c main_arg1) (V c main_arg2) t.val k l := by
  rw [outsAt1_A V c t h]
  dsimp only
  rw [GateBlock.A4, GateBlock.p6, GateBlock.z5, zero_add]
  simp only [x1, p1, d1]
  rfl
theorem dpB (h : ¬t.val % 4 = 0) (k : Fin 8) (l : Fin 128) : (outsAt1 V c t.val t.isLt).2 (ix2 k l)
    = (outsAt1 V c (t.val - 1) (Nat.lt_of_le_of_lt (Nat.sub_le _ _) t.isLt)).2 (ix2 k l) + blk (V c main_arg0) (V c main_arg1) (V c main_arg2) t.val k l := by
  rw [outsAt1_B V c t h]
  dsimp only
  rw [GateBlock.B4, GateBlock.p6]
  simp only [x1, p1, d1]
  rfl
/-- Over the four blocks of positions the sum is complete. -/
theorem dp4 (h : t.val = 3) (k : Fin 8) (l : Fin 128) : (outsAt1 V c t.val t.isLt).2 (ix2 k l) = dp (V c main_arg0) (V c main_arg1) (V c main_arg2) (ix2 k l) := by
  have b := t.isLt
  rw [dpB V c t (by omega), dpB V c ⟨t.val - 1, by omega⟩ (by dsimp only; omega), dpB V c ⟨t.val - 1 - 1, by omega⟩ (by dsimp only; omega),
    dpA V c ⟨t.val - 1 - 1 - 1, by omega⟩ (by dsimp only; omega)]
  dsimp only
  rw [h]
  rfl
end Reg1

theorem dx_arr : (dat1 V c).arrAt 3 cfg1.N = dx (V c main_arg0) (V c main_arg1) (V c main_arg2) := by
  refine (dat1 V c).arrAt_eq_of_covers 3 _ (by decide +kernel) fun t hf z => ?_
  blk_simp
  rw [after1_3]
  refine congrFun (of_ix2 (f := (outsAt1 V c t.val t.isLt).1)
    (g := fun z => dx (V c main_arg0) (V c main_arg1) (V c main_arg2) ((win1_3.blk t).view.emb z)) fun r l => ?_) z
  dsimp only
  rw [dx1 V c t, o1_3]
theorem dp_arr : (dat1 V c).arrAt 4 cfg1.N = dp (V c main_arg0) (V c main_arg1) (V c main_arg2) := by
  refine (dat1 V c).arrAt_eq_of_covers 4 _ (by decide +kernel) fun t hf z => ?_
  have h3 : t.val % 4 = 3 := (flush1_4 t).mp hf
  have hN : t.val < 4 := Nat.lt_of_lt_of_eq t.isLt N_1
  blk_simp
  rw [after1_4]
  refine congrFun (of_ix2 (f := (outsAt1 V c t.val t.isLt).2)
    (g := fun z => dp (V c main_arg0) (V c main_arg1) (V c main_arg2) ((win1_4.blk t).view.emb z)) fun k l => ?_) z
  dsimp only
  rw [dp4 V c t (by omega), o1_4]

end Cert.Proof.GateArrays

end
-- ==== Proof.GateRun.lean ====
/- Hand-written, untrusted. The run of the delta rule's decay: the three results of the kernel program as functions of the three arguments. -/
module

public import proofs.«01_k».proof.Proof.GateArrays
public import proofs.«01_k».proof.Proof.Gen.Kernel17Ideal.Frame

@[expose] public section

set_option maxRecDepth 16384

noncomputable section

namespace Cert.Proof.GateRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pointwise
open Cert.Kernel17Ideal Cert.Kernel17Ideal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev x : Gate.X := m ((c.tc : Thread nD τ).loc main_arg0)
abbrev p : Gate.P := m ((c.tc : Thread nD τ).loc main_arg1)
abbrev d : Gate.X := m ((c.tc : Thread nD τ).loc main_arg2)

/-! ## The results -/

theorem e0_at : W1 m ρ c (Proc.devRef .tc main_v0) = Gate.y (x m c) (p m c) := by
  refine (W1_arr m ρ c 2).trans ((GateArrays.y_arr (V0 m ρ) c).trans ?_)
  rfl
theorem e0_end : W3 m ρ c (Proc.devRef .tc main_v0) = Gate.y (x m c) (p m c) :=
  (W3_of m ρ c main_v0 (by decide)).trans ((W2_of m ρ c main_v0 (by decide)).trans (e0_at m ρ c))
theorem e1_at : W2 m ρ c (Proc.devRef .tc main_v1_0) = Gate.dx (x m c) (p m c) (d m c) := by
  refine (W2_arr m ρ c 3).trans ((GateArrays.dx_arr (V1 m ρ) c).trans ?_)
  rw [show V1 m ρ c main_arg0 = x m c from W1_args m ρ c main_arg0 (by decide),
    show V1 m ρ c main_arg1 = p m c from W1_args m ρ c main_arg1 (by decide),
    show V1 m ρ c main_arg2 = d m c from W1_args m ρ c main_arg2 (by decide)]
theorem e1_end : W3 m ρ c (Proc.devRef .tc main_v1_0) = Gate.dx (x m c) (p m c) (d m c) :=
  (W3_of m ρ c main_v1_0 (by decide)).trans (e1_at m ρ c)
theorem e2_at : W2 m ρ c (Proc.devRef .tc main_v1_1) = Gate.dp (x m c) (p m c) (d m c) := by
  refine (W2_arr m ρ c 4).trans ((GateArrays.dp_arr (V1 m ρ) c).trans ?_)
  rw [show V1 m ρ c main_arg0 = x m c from W1_args m ρ c main_arg0 (by decide),
    show V1 m ρ c main_arg1 = p m c from W1_args m ρ c main_arg1 (by decide),
    show V1 m ρ c main_arg2 = d m c from W1_args m ρ c main_arg2 (by decide)]
theorem e2_end : W3 m ρ c (Proc.devRef .tc main_v1_1) = Gate.dp (x m c) (p m c) (d m c) :=
  (W3_of m ρ c main_v1_1 (by decide)).trans (e2_at m ρ c)

set_option backward.isDefEq.respectTransparency.types false in
/-- From any memory the program runs to its end with the three results at these values. -/
theorem run : θ_run defs (onTc (τ := τ) (main (F := Ideal))) ⟨m, fun _ => 0, ρ⟩ (fun r => ∀ c : Dev nD,
      r.2.mem ((c.tc : Thread nD τ).loc main_v0) = Gate.y (x m c) (p m c)
      ∧ r.2.mem ((c.tc : Thread nD τ).loc main_v1_0) = Gate.dx (x m c) (p m c) (d m c)
      ∧ r.2.mem ((c.tc : Thread nD τ).loc main_v1_1) = Gate.dp (x m c) (p m c) (d m c)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s e _ c =>
      ⟨(e c _ (mem_uc main_v0 (by decide))).trans (e0_end m ρ c),
       (e c _ (mem_uc main_v1_0 (by decide))).trans (e1_end m ρ c),
       (e c _ (mem_uc main_v1_1 (by decide))).trans (e2_end m ρ c)⟩)

end Cert.Proof.GateRun

end
-- ==== Proof.GateRef.lean ====
/- Hand-written, untrusted. The reference's decay, its step and their derivative are the same functions. -/
module

public import proofs.«01_k».proof.Proof.GateSpec
public import proofs.«01_k».proof.Proof.Gen.Reference17Ideal.Read
public import Idealize.ShloMosaic.Lib.Pointwise

@[expose] public section

set_option maxRecDepth 16384

noncomputable section

namespace Cert.Proof.GateRef

open Idealize.ShloMosaic Cert.Reference17Ideal Cert.Reference17Ideal.Read Idealize.ShloMosaic.Pointwise Gate

/-- A lane below four. -/
abbrev ln (l : Fin 4) : Fin 128 := ⟨l.val, by omega⟩

variable (x : X) (p : P) (d : X)

section Stages
variable (r : Fin 2048) (l : Fin 4) (u : Fin 1)
theorem z_ref : val_main_v19 (F := Ideal) x p (ix2 r l) = x (ix2 r (ln l)) + p (ix2 1 (ln l)) := by
  pointwise [val_main_v19, val_main_v18, val_main_v17, val_main_v5, val_main_v4, val_main_v0]
theorem e_ref : val_main_v15 (F := Ideal) p (ix1 l) = Ideal.exp (p (ix2 0 (ln l))) := by
  pointwise [val_main_v15, val_main_v3, val_main_v2]
theorem n_ref : val_main_v21 (F := Ideal) p (ix2 u l) = -Ideal.exp (p (ix2 0 (ln l))) := by
  pointwise [val_main_v21, val_main_v16, val_main_v15, val_main_v3, val_main_v2]
theorem sp_ref : val_main_v20_0 (F := Ideal) x p (ix2 r l) = sp (x (ix2 r (ln l)) + p (ix2 1 (ln l))) := by
  pointwise [val_main_v20_0, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
  simp only [ne_eq, not_true_eq_false, if_false]
  rw [z_ref]
  rfl
theorem sl_ref : val_main_v20_1 (F := Ideal) x p (ix2 r l) = sl (x (ix2 r (ln l)) + p (ix2 1 (ln l))) := by
  pointwise [val_main_v20_1, val_main_call0_v21, val_main_call0_v20, val_main_call0_v19, val_main_call0_v18, val_main_call0_v17, val_main_call0_v16, val_main_call0_v15, val_main_call0_v14, val_main_call0_v13, val_main_call0_cst_0, val_main_call0_cst_1, val_main_call0_cst_2, val_main_call0_cst_3]
  rw [z_ref, sp_ref]
  rfl
theorem g_ref : val_main_v14 (F := Ideal) x (ix2 r l) = Ideal.logistic (x (ix2 r ⟨4 + l.val, by omega⟩)) * (1 - Ideal.logistic (x (ix2 r ⟨4 + l.val, by omega⟩))) := by
  pointwise [val_main_v14, val_main_v13, val_main_v12, val_main_v11, val_main_v10, val_main_v9, val_main_v8, val_main_v7, val_main_v6, val_main_v1, val_main_cst, val_main_cst_0, val_main_cst_1]
  rfl
theorem b_ref : val_main_v11 (F := Ideal) x (ix2 r l) = Ideal.logistic (x (ix2 r ⟨4 + l.val, by omega⟩)) := by
  pointwise [val_main_v11, val_main_v10, val_main_v9, val_main_v8, val_main_v7, val_main_v6, val_main_v1, val_main_cst, val_main_cst_0]
  rfl
theorem a_ref : val_main_v23 (F := Ideal) x p (ix2 r l) = -Ideal.exp (p (ix2 0 (ln l))) * sp (x (ix2 r (ln l)) + p (ix2 1 (ln l))) := by
  pointwise [val_main_v23, val_main_v22]
  rw [n_ref, sp_ref]
theorem m_ref : val_main_v36 (F := Ideal) x p d (ix2 r l) = -Ideal.exp (p (ix2 0 (ln l))) * d (ix2 r (ln l)) * sl (x (ix2 r (ln l)) + p (ix2 1 (ln l))) := by
  pointwise [val_main_v36, val_main_v31, val_main_v30, val_main_v27]
  rw [n_ref, sl_ref]
end Stages

theorem y_ref : val_main_v25 (F := Ideal) x p = y x p := by
  funext z
  obtain ⟨r, l, rfl⟩ : ∃ (r : Fin 2048) (l : Fin 128), z = ix2 r l := ⟨z 0, z 1, by funext a; match a with | ⟨0, _⟩ => rfl | ⟨1, _⟩ => rfl⟩
  pointwise [val_main_v25, val_main_v24, val_main_cst_2]
  show _ = ye (x (ix2 r l)) (p (ix2 0 l)) (p (ix2 1 l)) l
  unfold ye
  simp only [a_ref, b_ref]
  by_cases h : l.val < 4
  · simp only [h, dif_pos, if_true]
  · by_cases g : l.val < 8
    · simp only [h, g, show l.val - 4 < 4 by omega, dif_pos, dif_neg, if_true, if_false, not_false_eq_true, show 4 + (l.val - 4) = l.val by omega]
    · simp only [h, g, show ¬l.val - 4 < 4 by omega, dif_neg, if_false, not_false_eq_true]
theorem dx_ref : val_main_v50 (F := Ideal) x p d = dx x p d := by
  funext z
  obtain ⟨r, l, rfl⟩ : ∃ (r : Fin 2048) (l : Fin 128), z = ix2 r l := ⟨z 0, z 1, by funext a; match a with | ⟨0, _⟩ => rfl | ⟨1, _⟩ => rfl⟩
  pointwise [val_main_v50, val_main_v49, val_main_v48, val_main_v42, val_main_v28, val_main_cst_10, val_main_cst_11]
  show _ = xe (x (ix2 r l)) (p (ix2 0 l)) (p (ix2 1 l)) (d (ix2 r l)) l
  unfold xe
  simp only [m_ref, g_ref]
  by_cases h : l.val < 4
  · simp only [h, show ¬(4 ≤ l.val ∧ l.val - 4 < 4) by omega, dif_pos, dif_neg, if_true, not_false_eq_true, zero_add]
  · by_cases g : l.val < 8
    · simp only [h, g, show 4 ≤ l.val ∧ l.val - 4 < 4 by omega, dif_pos, dif_neg, if_true, if_false, not_false_eq_true, show 4 + (l.val - 4) = l.val by omega, add_zero, and_self]
    · simp only [h, g, show ¬(4 ≤ l.val ∧ l.val - 4 < 4) by omega, dif_neg, if_false, not_false_eq_true, add_zero]

theorem dp_ref (hx : ∀ i, x i ≠ (⊤ : EReal) ∧ x i ≠ (⊥ : EReal)) (hp : ∀ i, p i ≠ (⊤ : EReal) ∧ p i ≠ (⊥ : EReal))
    (hd : ∀ i, d i ≠ (⊤ : EReal) ∧ d i ≠ (⊥ : EReal)) : val_main_v47 (F := Ideal) x p d = dp x p d := by
  funext z
  obtain ⟨k, l, rfl⟩ : ∃ (k : Fin 8) (l : Fin 128), z = ix2 k l := ⟨z 0, z 1, by funext a; match a with | ⟨0, _⟩ => rfl | ⟨1, _⟩ => rfl⟩
  pointwise [val_main_v47, val_main_v46, val_main_v45, val_main_v44, val_main_v43, val_main_v41, val_main_v40, val_main_v39, val_main_v38, val_main_v37, val_main_v35, val_main_v34, val_main_v33, val_main_v32, val_main_v27, val_main_cst_4, val_main_cst_5, val_main_cst_6, val_main_cst_7, val_main_cst_8, val_main_cst_9]
  show _ = blk x p d 0 k l + blk x p d 1 k l + blk x p d 2 k l + blk x p d 3 k l
  simp only [m_ref, sp_ref, e_ref, Fin.sum_univ_one]
  unfold blk step
  obtain ⟨q, eq⟩ := Softmax.exists_real (hp (ix2 0 l))
  have b0 := blocks (r0 x p d l) (r0_real x p d hx hp hd l) (Real.exp q)
  have b1 := XArrays.sum_pos (r1 x p d l) 3 rfl
  have e0 : Ideal.exp (p (ix2 0 l)) = (Real.exp q : EReal) := by rw [eq]; rfl
  by_cases h : l.val < 4
  · by_cases h0 : k.val < 1
    · simp only [h, h0, show ¬(1 ≤ k.val ∧ k.val - 1 < 1) by omega, show k.val < 2 by omega, dif_pos, dif_neg, if_true, not_false_eq_true, zero_add, and_self, false_and]
      refine Eq.trans ?_ (Eq.trans b0.symm (by rw [e0]))
      rw [e0]
      refine congrArg (fun s : EReal => -s * (Real.exp q : EReal)) (Finset.sum_congr rfl fun r _ => ?_)
      exact (if_pos h).symm
    · by_cases h1 : k.val < 2
      · simp only [h, h0, h1, show (1 ≤ k.val ∧ k.val - 1 < 1) ∧ l.val < 4 by omega, dif_pos, dif_neg, if_true, if_false, not_false_eq_true, add_zero, and_self, false_and]
        refine Eq.trans (Finset.sum_congr rfl fun r _ => ?_) b1
        exact (if_pos h).symm
      · simp only [h0, h1, show ¬((1 ≤ k.val ∧ k.val - 1 < 1) ∧ l.val < 4) by omega, dif_neg, if_false, not_false_eq_true, add_zero, false_and]
  · have v0 : ∀ r, r0 x p d l r = 0 := fun r => if_neg h
    have v1 : ∀ r, r1 x p d l r = 0 := fun r => if_neg h
    simp only [h, and_false, dif_neg, not_false_eq_true, v0, v1, Finset.sum_const_zero, neg_zero, zero_mul, ite_self, add_zero]

end Cert.Proof.GateRef

end
-- ==== Proof.GatePre.lean ====
/- Hand-written, untrusted. What the decay's precondition says: every entry of the three arguments is finite. -/
module

public import proofs.«01_k».proof.Pre_finite17
public import proofs.«01_k».proof.Proof.Pre

@[expose] public section

set_option maxRecDepth 16384

noncomputable section

namespace Cert.Proof.GatePre

open Idealize.ShloMosaic Cert.Pre_finite17 Idealize.ShloMosaic.Pointwise
open Pre (fold_one and_one top_bits entry)

/-- The relations of shapes the precondition's operations need. -/
theorem facts : Cert.Pre_finite17.Facts where
  bcast_S_S2048x128 := by decide
  bcast_S_S8x128 := by decide
  reducesTo_S2048x128_S_d0_1 := by decide
  reducesTo_S8x128_S_d0_1 := by decide
  h_S_ := by decide

variable [Facts]

/-- The precondition of one array. -/
def all0 (x : FVec Ideal S2048x128 .f32) : IVec S_ 1 :=
  Host.reduce IntOp.andi (cmpf .olt (Host.absf x) (broadcastInDim S2048x128 ![] Facts.bcast_S_S2048x128 (constant S_ .f32 0x7F800000#32)))
    (constantI S_ 1 1#1) Facts.reducesTo_S2048x128_S_d0_1 Facts.h_S_
theorem fin0 (x : FVec Ideal S2048x128 .f32) (h : all0 x ix0 = 1#1) (i : S2048x128.Idx) : x i ≠ (⊤ : EReal) ∧ x i ≠ (⊥ : EReal) := by
  rw [all0, Host.reduce_eq_fold] at h
  have := fold_one _ _ h i (Finset.mem_filter.mpr ⟨Finset.mem_univ _, Subsingleton.elim _ _⟩)
  pointwise [] at this
  refine entry (x i) ?_
  have h2 : FloatOps.absf (x i) < Ideal.ofBits FTy.f32 2139095040#32 := by
    by_contra hn
    rw [decide_eq_false hn] at this
    exact absurd this (by decide)
  exact lt_of_lt_of_eq h2 top_bits
/-- The precondition of one array. -/
def all1 (x : FVec Ideal S8x128 .f32) : IVec S_ 1 :=
  Host.reduce IntOp.andi (cmpf .olt (Host.absf x) (broadcastInDim S8x128 ![] Facts.bcast_S_S8x128 (constant S_ .f32 0x7F800000#32)))
    (constantI S_ 1 1#1) Facts.reducesTo_S8x128_S_d0_1 Facts.h_S_
theorem fin1 (x : FVec Ideal S8x128 .f32) (h : all1 x ix0 = 1#1) (i : S8x128.Idx) : x i ≠ (⊤ : EReal) ∧ x i ≠ (⊥ : EReal) := by
  rw [all1, Host.reduce_eq_fold] at h
  have := fold_one _ _ h i (Finset.mem_filter.mpr ⟨Finset.mem_univ _, Subsingleton.elim _ _⟩)
  pointwise [] at this
  refine entry (x i) ?_
  have h2 : FloatOps.absf (x i) < Ideal.ofBits FTy.f32 2139095040#32 := by
    by_contra hn
    rw [decide_eq_false hn] at this
    exact absurd this (by decide)
  exact lt_of_lt_of_eq h2 top_bits

theorem decode (x0 : FVec Ideal S2048x128 .f32) (x1 : FVec Ideal S8x128 .f32) (x2 : FVec Ideal S2048x128 .f32) (h : fn (F := Ideal) x0 x1 x2 = fun _ => 1#1) :
    (∀ i, x0 i ≠ (⊤ : EReal) ∧ x0 i ≠ (⊥ : EReal)) ∧ (∀ i, x1 i ≠ (⊤ : EReal) ∧ x1 i ≠ (⊥ : EReal)) ∧ (∀ i, x2 i ≠ (⊤ : EReal) ∧ x2 i ≠ (⊥ : EReal)) := by
  have h' : IntOp.andi (IntOp.andi (all0 x0 ix0) (all1 x1 ix0)) (all0 x2 ix0) = 1#1 := congrFun h ix0
  obtain ⟨h', h2⟩ := and_one _ _ h'
  obtain ⟨h0, h1⟩ := and_one _ _ h'
  exact ⟨fin0 x0 h0, fin1 x1 h1, fin0 x2 h2⟩

end Cert.Proof.GatePre

end
-- ==== Proof.lean ====
/- Hand-written, untrusted. The claim: the banded attention's gradient kernel runs, and on finite arguments computes what
   differentiating the attention computes. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Claim
public import Idealize.ShloMosaic.Lib.Quiescent
public import proofs.«01_k».proof.Proof.Bridge
public import proofs.«01_k».proof.Proof.Pre
public import proofs.«01_k».proof.Proof.FfnRun
public import proofs.«01_k».proof.Proof.FfnRef
public import proofs.«01_k».proof.Proof.FfnPre
public import proofs.«01_k».proof.Proof.XRun
public import proofs.«01_k».proof.Proof.XRef
public import proofs.«01_k».proof.Proof.LinRun
public import proofs.«01_k».proof.Proof.LinRef
public import proofs.«01_k».proof.Proof.Acc5
public import proofs.«01_k».proof.Proof.Acc6
public import proofs.«01_k».proof.Proof.Acc7
public import proofs.«01_k».proof.Proof.ConvRun
public import proofs.«01_k».proof.Proof.ConvRef
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.MergeRun
public import proofs.«01_k».proof.Proof.MergeRef
public import proofs.«01_k».proof.Proof.MergePre
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.GdnRun
public import proofs.«01_k».proof.Proof.GdnRef
public import proofs.«01_k».proof.Proof.NormRun
public import proofs.«01_k».proof.Proof.NormRef
public import proofs.«01_k».proof.Proof.PostRun
public import proofs.«01_k».proof.Proof.PostRef
public import proofs.«01_k».proof.Proof.AdamRun
public import proofs.«01_k».proof.Proof.AdamRef
public import proofs.«01_k».proof.Proof.LossRun
public import proofs.«01_k».proof.Proof.LossRef
public import proofs.«01_k».proof.Proof.RotRun
public import proofs.«01_k».proof.Proof.RotRef
public import proofs.«01_k».proof.Proof.OneRun
public import proofs.«01_k».proof.Proof.OneRef
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.GateRun
public import proofs.«01_k».proof.Proof.GateRef
public import proofs.«01_k».proof.Proof.GatePre
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read

@[expose] public section

noncomputable section

namespace Cert.Proof

open Idealize.ShloMosaic Idealize.SL.Sem

local instance : Cert.Pre_finite.Facts := Pre.facts
local instance : Cert.Pre_finite2.Facts := FfnPre.facts
local instance : Cert.Pre_finite9.Facts := MergePre.facts
local instance : Cert.Pre_finite17.Facts := GatePre.facts

/-- The reference's run, from any memory: it declares no semaphore. -/
theorem frame_ref : Cert.quiescent_ReferenceIdeal := fun m g _ =>
  (θ_run _ _ _).mono (fun r h => ⟨fun c => (h c).2.2.2, sem_eq_zero_of_no_sems (by decide) r.2⟩) (Cert.ReferenceIdeal.Value.run m g)

/-- The kernel's three results are the reference's. -/
theorem value : Cert.algebraic_KernelIdeal_ReferenceIdeal_pre_finite := by
  intro m g m' g' hpre hagree
  refine ⟨fun c => Host.fromRes (Host.each m c Cert.KernelIdeal.Gen.out0_7),
    fun c => Host.fromRes (Host.addNext (Host.each m c Cert.KernelIdeal.Gen.out0_9) (Host.each m c Cert.KernelIdeal.Gen.out0_8)),
    fun c => Host.fromRes (Host.addNext (Host.each m c Cert.KernelIdeal.Gen.out0_11) (Host.each m c Cert.KernelIdeal.Gen.out0_10)), ?_, ?_⟩
  · refine (θ_run _ _ _).mono (fun r h c => ?_) (θ_run_and (Host.run m g) (Cert.KernelIdeal.Gen.unchanged (F := Ideal) m g))
    exact ⟨(h.1 c).1, (h.1 c).2.1, (h.1 c).2.2, h.2 c⟩
  · refine (θ_run _ _ _).mono (fun r h c => ?_) (Cert.ReferenceIdeal.Value.run m' g')
    obtain ⟨h0, h1, h2, h3, h4⟩ := Pre.decode _ _ _ _ _ (hpre c)
    obtain ⟨e0, e1, e2, e3, e4⟩ := hagree c
    obtain ⟨hq, hk, hv, ha⟩ := h c
    refine ⟨?_, ?_, ?_, ha⟩
    · refine hq.trans ((Cert.ReferenceIdeal.Read.val_main_v176_eq (StableHlo.launchContents m' c)).trans ?_)
      simp only [StableHlo.launchContents_devRef, e0, e1, e2, e3, e4]
      exact Bridge.dq_ref m c h0 h1 h2 h3 h4
    · refine hk.trans ((Cert.ReferenceIdeal.Read.val_main_v175_eq (StableHlo.launchContents m' c)).trans ?_)
      simp only [StableHlo.launchContents_devRef, e0, e1, e2, e3, e4]
      exact Bridge.dk_ref m c h0 h1 h2 h3 h4
    · refine hv.trans ((Cert.ReferenceIdeal.Read.val_main_v174_eq (StableHlo.launchContents m' c)).trans ?_)
      simp only [StableHlo.launchContents_devRef, e0, e1, e3]
      exact Bridge.dv_ref m c h0 h1

/-- The feed-forward block's reference, run from any memory: it declares no semaphore. -/
theorem frame_ref2 : Cert.quiescent_Reference2Ideal := fun m g _ =>
  (θ_run _ _ _).mono (fun r h => ⟨fun c => (h c).2.2.2.2, sem_eq_zero_of_no_sems (by decide) r.2⟩) (Cert.Reference2Ideal.Value.run m g)

/-- The feed-forward block's four results are its reference's. -/
theorem value2 : Cert.algebraic_Kernel2Ideal_Reference2Ideal_pre_finite2 := by
  intro m g m' g' hpre hagree
  refine ⟨fun c => Ffn.out (FfnRun.h m c) (FfnRun.a2 m c), fun c => Ffn.dx (FfnRun.dg m c) (FfnRun.du m c) (FfnRun.a1 m c),
    fun c => Ffn.dwin (FfnRun.a0 m c) (FfnRun.dg m c) (FfnRun.du m c), fun c => Ffn.dwout (FfnRun.h m c) (FfnRun.a3 m c), ?_, ?_⟩
  · refine (θ_run _ _ _).mono (fun r h c => ?_) (θ_run_and (FfnRun.run m g) (Cert.Kernel2Ideal.Gen.unchanged (F := Ideal) m g))
    exact ⟨(h.1 c).1, (h.1 c).2.1, (h.1 c).2.2.1, (h.1 c).2.2.2, h.2 c⟩
  · refine (θ_run _ _ _).mono (fun r h c => ?_) (Cert.Reference2Ideal.Value.run m' g')
    obtain ⟨h0, h1, h2, h3⟩ := FfnPre.decode _ _ _ _ (hpre c)
    obtain ⟨e0, e1, e2, e3⟩ := hagree c
    obtain ⟨hy, hx, hw, hv, ha⟩ := h c
    refine ⟨?_, ?_, ?_, ?_, ha⟩
    · refine hy.trans ((Cert.Reference2Ideal.Read.val_main_v7_eq _ _ _).trans ?_)
      simp only [StableHlo.launchContents_devRef, e0, e1, e2]
      exact FfnRef.y_ref _ _ _
    · refine hx.trans ((Cert.Reference2Ideal.Read.val_main_v19_eq m' c).trans ?_)
      simp only [StableHlo.launchContents_devRef, e0, e1, e2, e3]
      exact FfnRef.dx_ref _ _ _ _ h0 h1 h2 h3
    · refine hw.trans ((Cert.Reference2Ideal.Read.val_main_v21_eq m' c).trans ?_)
      simp only [StableHlo.launchContents_devRef, e0, e1, e2, e3]
      exact FfnRef.dwin_ref _ _ _ _ h0 h1 h2 h3
    · refine hv.trans ((Cert.Reference2Ideal.Read.val_main_v10_eq _ _ _).trans ?_)
      simp only [StableHlo.launchContents_devRef, e0, e1, e3]
      exact FfnRef.dwout_ref _ _ _

/-- The reference of the attention over the memory, run from any memory: it declares no semaphore. -/
theorem frame_ref3 : Cert.quiescent_Reference3Ideal := fun m g _ =>
  (θ_run _ _ _).mono (fun r h => ⟨fun c => (h c).2.2.2, sem_eq_zero_of_no_sems (by decide) r.2⟩) (Cert.Reference3Ideal.Value.run m g)

/-- The three results of the attention over the memory are its reference's. -/
theorem value3 : Cert.algebraic_Kernel3Ideal_Reference3Ideal := by
  intro m g m' g' _ hagree
  refine ⟨fun c => X.mulQ (XRun.at' m c) (XRun.wo m c), fun c => X.mulT (X.dq (XRun.q m c) (XRun.kv m c) (XRun.da m c)) (XRun.wq m c),
    fun c => X.dw (XRun.mem m c) (X.both (X.dk (XRun.q m c) (XRun.kv m c) (XRun.da m c)) (X.dv (XRun.q m c) (XRun.kv m c) (XRun.da m c))), ?_, ?_⟩
  · refine (θ_run _ _ _).mono (fun r h c => ?_) (θ_run_and (XRun.run m g) (Cert.Kernel3Ideal.Gen.unchanged (F := Ideal) m g))
    exact ⟨(h.1 c).1, (h.1 c).2.1, (h.1 c).2.2, h.2 c⟩
  · refine (θ_run _ _ _).mono (fun r h c => ?_) (Cert.Reference3Ideal.Value.run m' g')
    obtain ⟨e0, e1, e2, e3, e4, e5⟩ := hagree c
    obtain ⟨hy, hh, hw, ha⟩ := h c
    refine ⟨?_, ?_, ?_, ha⟩
    · refine hy.trans ((Cert.Reference3Ideal.Read.val_main_v44_eq m' c).trans ?_)
      simp only [StableHlo.launchContents_devRef, e0, e1, e2, e3, e4]
      exact XRef.y_ref _ _ _ _ _
    · refine hh.trans ((Cert.Reference3Ideal.Read.val_main_v79_eq m' c).trans ?_)
      simp only [StableHlo.launchContents_devRef, e0, e1, e2, e3, e4, e5]
      exact XRef.dh_ref _ _ _ _ _ _
    · refine hw.trans ((Cert.Reference3Ideal.Read.val_main_v76_eq m' c).trans ?_)
      simp only [StableHlo.launchContents_devRef, e0, e1, e2, e3, e4, e5]
      exact XRef.dw_ref _ _ _ _ _ _

/-! ## The in and out projections, and four more of their like -/

/-- The reference of the in and out projections, run from any memory: it declares no semaphore. -/
theorem frame_ref4 : Cert.quiescent_Reference4Ideal := fun m g _ =>
  (θ_run _ _ _).mono (fun r h => ⟨fun c => (h c).2.2.2.2.2.2.2, sem_eq_zero_of_no_sems (by decide) r.2⟩) (Cert.Reference4Ideal.Value.run m g)

/-- The reference of the in projection's weights' gradient, run from any memory: it declares no semaphore. -/
theorem frame_ref5 : Cert.quiescent_Reference5Ideal := fun m g _ =>
  (θ_run _ _ _).mono (fun r h => ⟨fun c => (h c).2, sem_eq_zero_of_no_sems (by decide) r.2⟩) (Cert.Reference5Ideal.Value.run m g)

/-- The reference of the gradient of a square projection's weights, run from any memory: it declares no semaphore. -/
theorem frame_ref6 : Cert.quiescent_Reference6Ideal := fun m g _ =>
  (θ_run _ _ _).mono (fun r h => ⟨fun c => (h c).2, sem_eq_zero_of_no_sems (by decide) r.2⟩) (Cert.Reference6Ideal.Value.run m g)

/-- The reference of the gradient the memory gets, run from any memory: it declares no semaphore. -/
theorem frame_ref7 : Cert.quiescent_Reference7Ideal := fun m g _ =>
  (θ_run _ _ _).mono (fun r h => ⟨fun c => (h c).2, sem_eq_zero_of_no_sems (by decide) r.2⟩) (Cert.Reference7Ideal.Value.run m g)

/-- The seven results of the in and out projections are their reference's. -/
theorem value4 : Cert.algebraic_Kernel4Ideal_Reference4Ideal := by
  intro m g m' g' _ hagree
  refine ⟨fun c => Lin.proj (LinRun.x m c) (LinRun.w m c),
    fun c => Lin.dx (LinRun.d m c) (LinRun.w m c),
    fun c => Lin.mix (LinRun.a m c) (LinRun.b m c) (LinRun.e m c) (LinRun.o m c),
    fun c => Lin.d1 (LinRun.g m c) (LinRun.o m c),
    fun c => Lin.d2 (LinRun.g m c) (LinRun.o m c),
    fun c => Lin.d3 (LinRun.g m c) (LinRun.o m c),
    fun c => Lin.dw (LinRun.a m c) (LinRun.b m c) (LinRun.e m c) (LinRun.g m c), ?_, ?_⟩
  · refine (θ_run _ _ _).mono (fun r h c => ?_) (θ_run_and (LinRun.run m g) (Cert.Kernel4Ideal.Gen.unchanged (F := Ideal) m g))
    obtain ⟨h0, h1, h2, h3, h4, h5, h6⟩ := h.1 c
    exact ⟨h0, h1, h2, h3, h4, h5, h6, h.2 c⟩
  · refine (θ_run _ _ _).mono (fun r h c => ?_) (Cert.Reference4Ideal.Value.run m' g')
    obtain ⟨e0, e1, e2, e3, e4, e5, e6, e7⟩ := hagree c
    obtain ⟨h0, h1, h2, h3, h4, h5, h6, ha⟩ := h c
    refine ⟨?_, ?_, ?_, ?_, ?_, ?_, ?_, ha⟩
    · refine h0.trans ((Cert.Reference4Ideal.Read.val_main_v0_eq _ _).trans ?_)
      rw [e0, e1]
      exact LinRef.proj_ref _ _
    · refine h1.trans ((Cert.Reference4Ideal.Read.val_main_v3_eq _ _).trans ?_)
      rw [e1, e2]
      exact LinRef.dx_ref _ _
    · refine h2.trans ((Cert.Reference4Ideal.Read.val_main_v2_eq _ _ _ _).trans ?_)
      rw [e3, e4, e5, e6]
      exact LinRef.mix_ref _ _ _ _
    · refine h3.trans ((Cert.Reference4Ideal.Read.val_main_v8_eq _ _).trans ?_)
      rw [e6, e7]
      exact LinRef.d1_ref _ _
    · refine h4.trans ((Cert.Reference4Ideal.Read.val_main_v9_eq _ _).trans ?_)
      rw [e6, e7]
      exact LinRef.d2_ref _ _
    · refine h5.trans ((Cert.Reference4Ideal.Read.val_main_v10_eq _ _).trans ?_)
      rw [e6, e7]
      exact LinRef.d3_ref _ _
    · refine h6.trans ((Cert.Reference4Ideal.Read.val_main_v6_eq _ _ _ _).trans ?_)
      rw [e3, e4, e5, e7]
      exact LinRef.dw_ref _ _ _ _

/-- The gradient of the in projection's weights is its reference's. -/
theorem value5 : Cert.algebraic_Kernel5Ideal_Reference5Ideal := by
  intro m g m' g' _ hagree
  refine ⟨fun c => Acc5.dw (Acc5.x m c) (Acc5.d m c), ?_, ?_⟩
  · refine (θ_run _ _ _).mono (fun r h c => ?_) (θ_run_and (Acc5.run m g) (Cert.Kernel5Ideal.Gen.unchanged (F := Ideal) m g))
    exact ⟨h.1 c, h.2 c⟩
  · refine (θ_run _ _ _).mono (fun r h c => ?_) (Cert.Reference5Ideal.Value.run m' g')
    obtain ⟨e0, e1⟩ := hagree c
    obtain ⟨h0, ha⟩ := h c
    refine ⟨?_, ha⟩
    refine h0.trans ((Cert.Reference5Ideal.Read.val_main_v4_eq _ _).trans ?_)
    rw [e0, e1]
    exact Acc5.dw_ref _ _

/-- The gradient of a square projection's weights is its reference's. -/
theorem value6 : Cert.algebraic_Kernel6Ideal_Reference6Ideal := by
  intro m g m' g' _ hagree
  refine ⟨fun c => Acc6.res (Acc6.x m c) (Acc6.d m c), ?_, ?_⟩
  · refine (θ_run _ _ _).mono (fun r h c => ?_) (θ_run_and (Acc6.run m g) (Cert.Kernel6Ideal.Gen.unchanged (F := Ideal) m g))
    exact ⟨h.1 c, h.2 c⟩
  · refine (θ_run _ _ _).mono (fun r h c => ?_) (Cert.Reference6Ideal.Value.run m' g')
    obtain ⟨e0, e1⟩ := hagree c
    obtain ⟨h0, ha⟩ := h c
    refine ⟨?_, ha⟩
    refine h0.trans ((Cert.Reference6Ideal.Read.val_main_v4_eq _ _).trans ?_)
    rw [e0, e1]
    exact Acc6.res_ref _ _

/-- The gradient the memory gets is its reference's. -/
theorem value7 : Cert.algebraic_Kernel7Ideal_Reference7Ideal := by
  intro m g m' g' _ hagree
  refine ⟨fun c => Acc7.res (Acc7.x m c) (Acc7.d m c), ?_, ?_⟩
  · refine (θ_run _ _ _).mono (fun r h c => ?_) (θ_run_and (Acc7.run m g) (Cert.Kernel7Ideal.Gen.unchanged (F := Ideal) m g))
    exact ⟨h.1 c, h.2 c⟩
  · refine (θ_run _ _ _).mono (fun r h c => ?_) (Cert.Reference7Ideal.Value.run m' g')
    obtain ⟨e0, e1⟩ := hagree c
    obtain ⟨h0, ha⟩ := h c
    refine ⟨?_, ha⟩
    refine h0.trans ((Cert.Reference7Ideal.Read.val_main_v2_eq _ _).trans ?_)
    rw [e0, e1]
    exact Acc7.res_ref _ _

/-- The reference of the short convolution, run from any memory: it declares no semaphore. -/
theorem frame_ref8 : Cert.quiescent_Reference8Ideal := fun m g _ =>
  (θ_run _ _ _).mono (fun r h => ⟨fun c => (h c).2.2.2.2.2, sem_eq_zero_of_no_sems (by decide) r.2⟩) (Cert.Reference8Ideal.Value.run m g)

/-- The five results of the short convolution are its reference's. -/
theorem value8 : Cert.algebraic_Kernel8Ideal_Reference8Ideal := by
  intro m g m' g' _ hagree
  refine ⟨fun c => Conv.y (ConvRun.b m c) (ConvRun.d m c) (ConvRun.x m c) (ConvRun.w m c),
    fun c => Conv.db (ConvRun.d m c) (ConvRun.x m c) (ConvRun.g m c) (ConvRun.w m c),
    fun c => Conv.dc (ConvRun.b m c) (ConvRun.x m c) (ConvRun.g m c) (ConvRun.w m c),
    fun c => Conv.dx (ConvRun.b m c) (ConvRun.d m c) (ConvRun.g m c) (ConvRun.w m c),
    fun c => Conv.dw (ConvRun.b m c) (ConvRun.d m c) (ConvRun.x m c) (ConvRun.g m c), ?_, ?_⟩
  · refine (θ_run _ _ _).mono (fun r h c => ?_) (θ_run_and (ConvRun.run m g) (Cert.Kernel8Ideal.Gen.unchanged (F := Ideal) m g))
    obtain ⟨h0, h1, h2, h3, h4⟩ := h.1 c
    exact ⟨h0, h1, h2, h3, h4, h.2 c⟩
  · refine (θ_run _ _ _).mono (fun r h c => ?_) (Cert.Reference8Ideal.Value.run m' g')
    obtain ⟨e0, e1, e2, e3, e4⟩ := hagree c
    obtain ⟨h0, h1, h2, h3, h4, ha⟩ := h c
    refine ⟨?_, ?_, ?_, ?_, ?_, ha⟩
    · refine h0.trans ((Cert.Reference8Ideal.Read.val_main_v26_eq _ _ _ _).trans ?_)
      rw [e0, e1, e2, e3]
      exact ConvRef.y_ref _ _ _ _
    · refine h1.trans ((Cert.Reference8Ideal.Read.val_main_v28_eq _ _ _ _).trans ?_)
      rw [e1, e2, e3, e4]
      exact ConvRef.db_ref _ _ _ _
    · refine h2.trans ((Cert.Reference8Ideal.Read.val_main_v63_eq _ _ _ _).trans ?_)
      rw [e0, e2, e3, e4]
      exact ConvRef.dc_ref _ _ _ _
    · refine h3.trans ((Cert.Reference8Ideal.Read.val_main_v62_eq _ _ _ _).trans ?_)
      rw [e0, e1, e3, e4]
      exact ConvRef.dx_ref _ _ _ _
    · refine h4.trans ((Cert.Reference8Ideal.Read.val_main_v57_eq _ _ _ _).trans ?_)
      rw [e0, e1, e2, e4]
      exact ConvRef.dw_ref _ _ _ _

/-- The reference's run. -/
theorem frame_ref9 : Cert.quiescent_Reference9Ideal := fun m g _ =>
  (θ_run _ _ _).mono (fun r h => ⟨fun c => (h c).2.2.2.2.2.2.2, sem_eq_zero_of_no_sems (by decide) r.2⟩) (Cert.Reference9Ideal.Value.run m g)

/-- The seven results of the merge are its reference's. -/
theorem value9 : Cert.algebraic_Kernel9Ideal_Reference9Ideal_pre_finite9 := by
  intro m g m' g' hpre hagree
  refine ⟨fun c => Merge.y (MergeRun.a m c) (MergeRun.b m c) (MergeRun.d m c) (MergeRun.l m c) (MergeRun.p m c) (MergeRun.n m c),
    fun c => Merge.do' (MergeRun.l m c) (MergeRun.p m c) (MergeRun.n m c) (MergeRun.g m c) (MergeRun.l m c),
    fun c => Merge.do' (MergeRun.l m c) (MergeRun.p m c) (MergeRun.n m c) (MergeRun.g m c) (MergeRun.p m c),
    fun c => Merge.do' (MergeRun.l m c) (MergeRun.p m c) (MergeRun.n m c) (MergeRun.g m c) (MergeRun.n m c),
    fun c => Merge.dl (MergeRun.a m c) (MergeRun.b m c) (MergeRun.d m c) (MergeRun.l m c) (MergeRun.p m c) (MergeRun.n m c) (MergeRun.g m c) (MergeRun.l m c) (MergeRun.a m c),
    fun c => Merge.dl (MergeRun.a m c) (MergeRun.b m c) (MergeRun.d m c) (MergeRun.l m c) (MergeRun.p m c) (MergeRun.n m c) (MergeRun.g m c) (MergeRun.p m c) (MergeRun.b m c),
    fun c => Merge.dl (MergeRun.a m c) (MergeRun.b m c) (MergeRun.d m c) (MergeRun.l m c) (MergeRun.p m c) (MergeRun.n m c) (MergeRun.g m c) (MergeRun.n m c) (MergeRun.d m c), ?_, ?_⟩
  · refine (θ_run _ _ _).mono (fun r h c => ?_) (θ_run_and (MergeRun.run m g) (Cert.Kernel9Ideal.Gen.unchanged (F := Ideal) m g))
    obtain ⟨h0, h1, h2, h3, h4, h5, h6⟩ := h.1 c
    exact ⟨h0, h1, h2, h3, h4, h5, h6, h.2 c⟩
  · refine (θ_run _ _ _).mono (fun r h c => ?_) (Cert.Reference9Ideal.Value.run m' g')
    obtain ⟨f0, f1, f2, f3, f4, f5, f6⟩ := MergePre.decode _ _ _ _ _ _ _ (hpre c)
    obtain ⟨e0, e1, e2, e3, e4, e5, e6⟩ := hagree c
    obtain ⟨h0, h1, h2, h3, h4, h5, h6, ha⟩ := h c
    refine ⟨?_, ?_, ?_, ?_, ?_, ?_, ?_, ha⟩
    · refine h0.trans ((Cert.Reference9Ideal.Read.val_main_v37_eq m' c).trans ?_)
      rw [e0, e1, e2, e3, e4, e5]
      exact MergeRef.y_ref _ _ _ _ _ _ f0 f1 f2 f3 f4 f5
    · refine h1.trans ((Cert.Reference9Ideal.Read.val_main_v42_eq _ _ _ _).trans ?_)
      rw [e3, e4, e5, e6]
      exact MergeRef.do1_ref _ _ _ _ f3 f4 f5 f6
    · refine h2.trans ((Cert.Reference9Ideal.Read.val_main_v44_eq _ _ _ _).trans ?_)
      rw [e3, e4, e5, e6]
      exact MergeRef.do2_ref _ _ _ _ f3 f4 f5 f6
    · refine h3.trans ((Cert.Reference9Ideal.Read.val_main_v46_eq _ _ _ _).trans ?_)
      rw [e3, e4, e5, e6]
      exact MergeRef.do3_ref _ _ _ _ f3 f4 f5 f6
    · refine h4.trans ((Cert.Reference9Ideal.Read.val_main_v60_eq m' c).trans ?_)
      rw [e0, e1, e2, e3, e4, e5, e6]
      exact MergeRef.dl1_ref _ _ _ _ _ _ _ f0 f1 f2 f3 f4 f5 f6
    · refine h5.trans ((Cert.Reference9Ideal.Read.val_main_v62_eq m' c).trans ?_)
      rw [e0, e1, e2, e3, e4, e5, e6]
      exact MergeRef.dl2_ref _ _ _ _ _ _ _ f0 f1 f2 f3 f4 f5 f6
    · refine h6.trans ((Cert.Reference9Ideal.Read.val_main_v64_eq m' c).trans ?_)
      rw [e0, e1, e2, e3, e4, e5, e6]
      exact MergeRef.dl3_ref _ _ _ _ _ _ _ f0 f1 f2 f3 f4 f5 f6

/-- The reference's run. -/
theorem frame_ref10 : Cert.quiescent_Reference10Ideal := fun m g _ =>
  (θ_run _ _ _).mono (fun r h => ⟨fun c => (h c).2.2.2, sem_eq_zero_of_no_sems (by decide) r.2⟩) (Cert.Reference10Ideal.Value.run m g)

/-- The three results of the delta rule's inputs are their reference's. -/
theorem value10 : Cert.algebraic_Kernel10Ideal_Reference10Ideal := by
  intro m g m' g' _ hagree
  refine ⟨fun c => Gdn.y (GdnRun.x m c) (GdnRun.w m c), fun c => Gdn.dq (GdnRun.x m c) (GdnRun.w m c) (GdnRun.g m c),
    fun c => Gdn.dw (GdnRun.x m c) (GdnRun.w m c) (GdnRun.g m c), ?_, ?_⟩
  · refine (θ_run _ _ _).mono (fun r h c => ?_) (θ_run_and (GdnRun.run m g) (Cert.Kernel10Ideal.Gen.unchanged (F := Ideal) m g))
    obtain ⟨h0, h1, h2⟩ := h.1 c
    exact ⟨h0, h1, h2, h.2 c⟩
  · refine (θ_run _ _ _).mono (fun r h c => ?_) (Cert.Reference10Ideal.Value.run m' g')
    obtain ⟨e0, e1, e2⟩ := hagree c
    obtain ⟨h0, h1, h2, ha⟩ := h c
    refine ⟨?_, ?_, ?_, ha⟩
    · refine h0.trans ((Cert.Reference10Ideal.Read.val_main_v64_eq _).trans ?_)
      simp only [StableHlo.launchContents_devRef, e0, e1]
      exact GdnRef.y_ref _ _
    · refine h1.trans ((Cert.Reference10Ideal.Read.val_main_v143_eq _).trans ?_)
      simp only [StableHlo.launchContents_devRef, e0, e1, e2]
      exact GdnRef.dq_ref _ _ _
    · refine h2.trans ((Cert.Reference10Ideal.Read.val_main_v139_eq _).trans ?_)
      simp only [StableHlo.launchContents_devRef, e0, e1, e2]
      exact GdnRef.dw_ref _ _ _

theorem frame_ref11 : Cert.quiescent_Reference11Ideal := fun m g _ =>
  (θ_run _ _ _).mono (fun r h => ⟨fun c => (h c).2.2.2.2.2.2, sem_eq_zero_of_no_sems (by decide) r.2⟩) (Cert.Reference11Ideal.Value.run m g)

/-- The two norms around a residual sum and their derivatives: the kernel's six results and the reference's are the same functions of the six arguments. -/
theorem value11 : Cert.algebraic_Kernel11Ideal_Reference11Ideal := by
  intro m g m' g' _ hagree
  refine ⟨fun c => Norm.hn (NormRun.h m c) (NormRun.y m c) (NormRun.p m c),
    fun c => Norm.nn (NormRun.h m c) (NormRun.y m c) (NormRun.p m c) (NormRun.q m c),
    fun c => Norm.dh (NormRun.h m c) (NormRun.y m c) (NormRun.p m c) (NormRun.q m c) (NormRun.g m c) (NormRun.k m c), fun c => Norm.dy (NormRun.h m c) (NormRun.y m c) (NormRun.p m c) (NormRun.q m c) (NormRun.g m c) (NormRun.k m c), fun c => Norm.dp (NormRun.h m c) (NormRun.y m c) (NormRun.p m c) (NormRun.q m c) (NormRun.g m c) (NormRun.k m c),
    fun c => Norm.dq (NormRun.h m c) (NormRun.y m c) (NormRun.p m c) (NormRun.k m c), ?_, ?_⟩
  · refine (θ_run _ _ _).mono (fun r h c => ?_) (θ_run_and (NormRun.run m g) (Cert.Kernel11Ideal.Gen.unchanged (F := Ideal) m g))
    obtain ⟨h0, h1, h2, h3, h4, h5⟩ := h.1 c
    exact ⟨h0, h1, h2, h3, h4, h5, h.2 c⟩
  · refine (θ_run _ _ _).mono (fun r h c => ?_) (Cert.Reference11Ideal.Value.run m' g')
    obtain ⟨e0, e1, e2, e3, e4, e5⟩ := hagree c
    obtain ⟨h0, h1, h2, h3, h4, h5, ha⟩ := h c
    refine ⟨?_, ?_, ?_, ?_, ?_, ?_, ha⟩
    · refine h0.trans ((Cert.Reference11Ideal.Read.val_main_v17_eq _ _ _).trans ?_)
      simp only [StableHlo.launchContents_devRef, e0, e1, e2, e3, e4, e5]
      exact NormRef.hn_ref _ _ _
    · refine h1.trans ((Cert.Reference11Ideal.Read.val_main_v34_eq _ _ _ _).trans ?_)
      simp only [StableHlo.launchContents_devRef, e0, e1, e2, e3, e4, e5]
      exact NormRef.nn_ref _ _ _ _
    · refine h2.trans ((Cert.Reference11Ideal.Read.val_main_v55_eq _ _).trans ?_)
      rw [e0, e1, e2, e3, e4, e5]
      exact NormRef.dh_ref _ _ _ _ _ _
    · refine h3.trans ((Cert.Reference11Ideal.Read.val_main_v77_eq _ _).trans ?_)
      rw [e0, e1, e2, e3, e4, e5]
      exact NormRef.dy_ref _ _ _ _ _ _
    · refine h4.trans ((Cert.Reference11Ideal.Read.val_main_v78_eq _ _).trans ?_)
      rw [e0, e1, e2, e3, e4, e5]
      exact NormRef.dp_ref _ _ _ _ _ _
    · refine h5.trans ((Cert.Reference11Ideal.Read.val_main_v56_eq _ _ _ _).trans ?_)
      simp only [StableHlo.launchContents_devRef, e0, e1, e2, e3, e4, e5]
      exact NormRef.dq_ref _ _ _ _

theorem frame_ref12 : Cert.quiescent_Reference12Ideal := fun m g _ =>
  (θ_run _ _ _).mono (fun r h => ⟨fun c => (h c).2.2.2.2, sem_eq_zero_of_no_sems (by decide) r.2⟩) (Cert.Reference12Ideal.Value.run m g)

/-- The delta rule's gated output norm and its derivative: the kernel's four results and the reference's are the same functions of the four arguments. -/
theorem value12 : Cert.algebraic_Kernel12Ideal_Reference12Ideal := by
  intro m g m' g' _ hagree
  refine ⟨fun c => Post.y (PostRun.o m c) (PostRun.g m c) (PostRun.w m c), fun c => Post.dO (PostRun.o m c) (PostRun.g m c) (PostRun.w m c) (PostRun.e m c), fun c => Post.dG (PostRun.o m c) (PostRun.g m c) (PostRun.w m c) (PostRun.e m c),
    fun c => Post.dW (PostRun.o m c) (PostRun.g m c) (PostRun.e m c), ?_, ?_⟩
  · refine (θ_run _ _ _).mono (fun r h c => ?_) (θ_run_and (PostRun.run m g) (Cert.Kernel12Ideal.Gen.unchanged (F := Ideal) m g))
    obtain ⟨h0, h1, h2, h3⟩ := h.1 c
    exact ⟨h0, h1, h2, h3, h.2 c⟩
  · refine (θ_run _ _ _).mono (fun r h c => ?_) (Cert.Reference12Ideal.Value.run m' g')
    obtain ⟨e0, e1, e2, e3⟩ := hagree c
    obtain ⟨h0, h1, h2, h3, ha⟩ := h c
    refine ⟨?_, ?_, ?_, ?_, ha⟩
    · refine h0.trans ((Cert.Reference12Ideal.Read.val_main_v21_eq _ _ _).trans ?_)
      simp only [StableHlo.launchContents_devRef, e0, e1, e2, e3]
      exact PostRef.y_ref _ _ _
    · refine h1.trans ((Cert.Reference12Ideal.Read.val_main_v46_eq _ _).trans ?_)
      rw [e0, e1, e2, e3]
      exact PostRef.do_ref _ _ _ _
    · refine h2.trans ((Cert.Reference12Ideal.Read.val_main_v48_eq _ _ _ _).trans ?_)
      simp only [StableHlo.launchContents_devRef, e0, e1, e2, e3]
      exact PostRef.dg_ref _ _ _ _
    · refine h3.trans ((Cert.Reference12Ideal.Read.val_main_v45_eq _ _ _).trans ?_)
      simp only [StableHlo.launchContents_devRef, e0, e1, e2, e3]
      exact PostRef.dw_ref _ _ _

theorem frame_ref13 : Cert.quiescent_Reference13Ideal := fun m g _ =>
  (θ_run _ _ _).mono (fun r h => ⟨fun c => (h c).2.2.2.2.2.2.2, sem_eq_zero_of_no_sems (by decide) r.2⟩) (Cert.Reference13Ideal.Value.run m g)

/-- One norm, one norm added to a residual stream, and their derivatives: the kernel's seven results and the reference's are the same functions of the seven arguments. -/
theorem value13 : Cert.algebraic_Kernel13Ideal_Reference13Ideal := by
  intro m g m' g' _ hagree
  refine ⟨fun c => One.n (OneRun.x m c) (OneRun.w m c), fun c => Norm.hn (OneRun.h m c) (OneRun.y m c) (OneRun.p m c), fun c => OneRun.g m c, fun c => One.dx (OneRun.y m c) (OneRun.p m c) (OneRun.g m c), fun c => One.dw (OneRun.y m c) (OneRun.g m c), fun c => One.dx (OneRun.x m c) (OneRun.w m c) (OneRun.e m c), fun c => One.dw (OneRun.x m c) (OneRun.e m c), ?_, ?_⟩
  · refine (θ_run _ _ _).mono (fun r h c => ?_) (θ_run_and (OneRun.run m g) (Cert.Kernel13Ideal.Gen.unchanged (F := Ideal) m g))
    obtain ⟨h0, h1, h2, h3, h4, h5, h6⟩ := h.1 c
    exact ⟨h0, h1, h2, h3, h4, h5, h6, h.2 c⟩
  · refine (θ_run _ _ _).mono (fun r h c => ?_) (Cert.Reference13Ideal.Value.run m' g')
    obtain ⟨e0, e1, e2, e3, e4, e5, e6⟩ := hagree c
    obtain ⟨h0, h1, h2, h3, h4, h5, h6, ha⟩ := h c
    refine ⟨?_, ?_, ?_, ?_, ?_, ?_, ?_, ha⟩
    · refine h0.trans ((Cert.Reference13Ideal.Read.val_main_v16_eq _ _).trans ?_)
      simp only [StableHlo.launchContents_devRef, e0, e1, e2, e3, e4, e5, e6]
      exact OneRef.n_ref _ _
    · refine h1.trans ((Cert.Reference13Ideal.Read.val_main_v34_eq _ _ _).trans ?_)
      simp only [StableHlo.launchContents_devRef, e0, e1, e2, e3, e4, e5, e6]
      exact OneRef.h_ref _ _ _
    · exact h2.trans e6
    · refine h3.trans ((Cert.Reference13Ideal.Read.val_main_v55_eq _ _).trans ?_)
      rw [e4, e5, e6]
      exact OneRef.dy_ref _ _ _
    · refine h4.trans ((Cert.Reference13Ideal.Read.val_main_v56_eq _ _).trans ?_)
      simp only [StableHlo.launchContents_devRef, e0, e1, e2, e3, e4, e5, e6]
      exact OneRef.dp_ref _ _
    · refine h5.trans ((Cert.Reference13Ideal.Read.val_main_v76_eq _ _ _).trans ?_)
      simp only [StableHlo.launchContents_devRef, e0, e1, e2, e3, e4, e5, e6]
      exact OneRef.dx_ref _ _ _
    · refine h6.trans ((Cert.Reference13Ideal.Read.val_main_v77_eq _ _).trans ?_)
      simp only [StableHlo.launchContents_devRef, e0, e1, e2, e3, e4, e5, e6]
      exact OneRef.dw_ref _ _

theorem frame_ref14 : Cert.quiescent_Reference14Ideal := fun m g _ =>
  (θ_run _ _ _).mono (fun r h => ⟨fun c => (h c).2.2, sem_eq_zero_of_no_sems (by decide) r.2⟩) (Cert.Reference14Ideal.Value.run m g)

/-- The rotary embedding and its derivative: the kernel's two results and the reference's are the same functions of the three arguments. -/
theorem value14 : Cert.algebraic_Kernel14Ideal_Reference14Ideal := by
  intro m g m' g' _ hagree
  refine ⟨fun c => Rot.y (RotRun.x m c) (Rot.kt (Rot.ct (RotRun.p m c))) (Rot.st (Rot.sn (RotRun.p m c))), fun c => Rot.dx (Rot.kt (Rot.ct (RotRun.p m c))) (Rot.st (Rot.sn (RotRun.p m c))) (RotRun.e m c), ?_, ?_⟩
  · refine (θ_run _ _ _).mono (fun r h c => ?_) (θ_run_and (RotRun.run m g) (Cert.Kernel14Ideal.Gen.unchanged (F := Ideal) m g))
    obtain ⟨h0, h1⟩ := h.1 c
    exact ⟨h0, h1, h.2 c⟩
  · refine (θ_run _ _ _).mono (fun r h c => ?_) (Cert.Reference14Ideal.Value.run m' g')
    obtain ⟨e0, e1, e2⟩ := hagree c
    obtain ⟨h0, h1, ha⟩ := h c
    refine ⟨?_, ?_, ha⟩
    · refine h0.trans ((Cert.Reference14Ideal.Read.val_main_v38_eq _ _).trans ?_)
      rw [e0, e1]
      exact RotRef.y_ref _ _
    · refine h1.trans ((Cert.Reference14Ideal.Read.val_main_v62_eq _ _).trans ?_)
      rw [e0, e2]
      exact RotRef.dx_ref _ _

theorem frame_ref15 : Cert.quiescent_Reference15Ideal := fun m g _ =>
  (θ_run _ _ _).mono (fun r h => ⟨fun c => (h c).2.2, sem_eq_zero_of_no_sems (by decide) r.2⟩) (Cert.Reference15Ideal.Value.run m g)

/-- The loss and its gradient: the kernel's two results and the reference's are the same functions of the two arguments. -/
theorem value15 : Cert.algebraic_Kernel15Ideal_Reference15Ideal := by
  intro m g m' g' _ hagree
  refine ⟨fun c => Loss.loss (LossRun.y m c) (LossRun.t m c), fun c => Loss.dy (LossRun.y m c) (LossRun.t m c), ?_, ?_⟩
  · refine (θ_run _ _ _).mono (fun r h c => ?_) (θ_run_and (LossRun.run m g) (Cert.Kernel15Ideal.Gen.unchanged (F := Ideal) m g))
    obtain ⟨h0, h1⟩ := h.1 c
    exact ⟨h0, h1, h.2 c⟩
  · refine (θ_run _ _ _).mono (fun r h c => ?_) (Cert.Reference15Ideal.Value.run m' g')
    obtain ⟨e0, e1⟩ := hagree c
    obtain ⟨h0, h1, ha⟩ := h c
    refine ⟨?_, ?_, ha⟩
    · refine h0.trans ((Cert.Reference15Ideal.Read.val_main_v15_eq _ _).trans ?_)
      simp only [StableHlo.launchContents_devRef, e0, e1]
      exact LossRef.loss_ref _ _
    · refine h1.trans ((Cert.Reference15Ideal.Read.val_main_v14_eq _ _).trans ?_)
      simp only [StableHlo.launchContents_devRef, e0, e1]
      exact LossRef.dy_ref _ _

theorem frame_ref16 : Cert.quiescent_Reference16Ideal := fun m g _ =>
  (θ_run _ _ _).mono (fun r h => ⟨fun c => (h c).2.2.2, sem_eq_zero_of_no_sems (by decide) r.2⟩) (Cert.Reference16Ideal.Value.run m g)

/-- The optimiser's step: the kernel's three results and the reference's are the same functions of the four arguments. -/
theorem value16 : Cert.algebraic_Kernel16Ideal_Reference16Ideal := by
  intro m g m' g' _ hagree
  refine ⟨fun c => Adam.dw (AdamRun.w m c) (AdamRun.g m c) (AdamRun.mo m c) (AdamRun.vo m c), fun c => Adam.nm (AdamRun.g m c) (AdamRun.mo m c), fun c => Adam.nv (AdamRun.g m c) (AdamRun.vo m c), ?_, ?_⟩
  · refine (θ_run _ _ _).mono (fun r h c => ?_) (θ_run_and (AdamRun.run m g) (Cert.Kernel16Ideal.Gen.unchanged (F := Ideal) m g))
    obtain ⟨h0, h1, h2⟩ := h.1 c
    exact ⟨h0, h1, h2, h.2 c⟩
  · refine (θ_run _ _ _).mono (fun r h c => ?_) (Cert.Reference16Ideal.Value.run m' g')
    obtain ⟨e0, e1, e2, e3⟩ := hagree c
    obtain ⟨h0, h1, h2, ha⟩ := h c
    refine ⟨?_, ?_, ?_, ha⟩
    · refine h0.trans ((Cert.Reference16Ideal.Read.val_main_v23_eq _ _ _ _).trans ?_)
      simp only [StableHlo.launchContents_devRef, e0, e1, e2, e3]
      exact AdamRef.dw_ref _ _ _ _
    · refine h1.trans ((Cert.Reference16Ideal.Read.val_main_v4_eq _ _).trans ?_)
      simp only [StableHlo.launchContents_devRef, e1, e2]
      exact AdamRef.nm_ref _ _
    · refine h2.trans ((Cert.Reference16Ideal.Read.val_main_v10_eq _ _).trans ?_)
      simp only [StableHlo.launchContents_devRef, e1, e3]
      exact AdamRef.nv_ref _ _

/-- The reference's run. -/
theorem frame_ref17 : Cert.quiescent_Reference17Ideal := fun m g _ =>
  (θ_run _ _ _).mono (fun r h => ⟨fun c => (h c).2.2.2, sem_eq_zero_of_no_sems (by decide) r.2⟩) (Cert.Reference17Ideal.Value.run m g)

/-- The three results of the delta rule's decay and step are its reference's. -/
theorem value17 : Cert.algebraic_Kernel17Ideal_Reference17Ideal_pre_finite17 := by
  intro m g m' g' hpre hagree
  refine ⟨fun c => Gate.y (GateRun.x m c) (GateRun.p m c), fun c => Gate.dx (GateRun.x m c) (GateRun.p m c) (GateRun.d m c),
    fun c => Gate.dp (GateRun.x m c) (GateRun.p m c) (GateRun.d m c), ?_, ?_⟩
  · refine (θ_run _ _ _).mono (fun r h c => ?_) (θ_run_and (GateRun.run m g) (Cert.Kernel17Ideal.Gen.unchanged (F := Ideal) m g))
    obtain ⟨h0, h1, h2⟩ := h.1 c
    exact ⟨h0, h1, h2, h.2 c⟩
  · refine (θ_run _ _ _).mono (fun r h c => ?_) (Cert.Reference17Ideal.Value.run m' g')
    obtain ⟨f0, f1, f2⟩ := GatePre.decode _ _ _ (hpre c)
    obtain ⟨e0, e1, e2⟩ := hagree c
    obtain ⟨h0, h1, h2, ha⟩ := h c
    refine ⟨?_, ?_, ?_, ha⟩
    · refine h0.trans ((Cert.Reference17Ideal.Read.val_main_v25_eq _ _).trans ?_)
      rw [e0, e1]
      exact GateRef.y_ref _ _
    · refine h1.trans ((Cert.Reference17Ideal.Read.val_main_v50_eq m' c).trans ?_)
      rw [e0, e1, e2]
      exact GateRef.dx_ref _ _ _
    · refine h2.trans ((Cert.Reference17Ideal.Read.val_main_v47_eq m' c).trans ?_)
      rw [e0, e1, e2]
      exact GateRef.dp_ref _ _ _ f0 f1 f2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Pre.facts, FfnPre.facts, MergePre.facts, GatePre.facts,
  fun m g _ => Cert.Kernel.Gen.frame m g, fun m g _ => Cert.KernelIdeal.Gen.frame m g, fun m g _ => Cert.KernelIdeal.Gen.frame m g,
  fun m g _ => frame_ref m g True.intro, fun m g _ => frame_ref m g True.intro,
  fun m g _ => Cert.Kernel2.Gen.frame m g, fun m g _ => Cert.Kernel2Ideal.Gen.frame m g, fun m g _ => Cert.Kernel2Ideal.Gen.frame m g,
  fun m g _ => frame_ref2 m g True.intro, fun m g _ => frame_ref2 m g True.intro,
  fun m g _ => Cert.Kernel3.Gen.frame m g, fun m g _ => Cert.Kernel3Ideal.Gen.frame m g, fun m g _ => frame_ref3 m g True.intro,
  fun m g _ => Cert.Kernel4.Gen.frame m g, fun m g _ => Cert.Kernel4Ideal.Gen.frame m g, fun m g _ => frame_ref4 m g True.intro,
  fun m g _ => Cert.Kernel5.Gen.frame m g, fun m g _ => Cert.Kernel5Ideal.Gen.frame m g, fun m g _ => frame_ref5 m g True.intro,
  fun m g _ => Cert.Kernel6.Gen.frame m g, fun m g _ => Cert.Kernel6Ideal.Gen.frame m g, fun m g _ => frame_ref6 m g True.intro,
  fun m g _ => Cert.Kernel7.Gen.frame m g, fun m g _ => Cert.Kernel7Ideal.Gen.frame m g, fun m g _ => frame_ref7 m g True.intro,
  fun m g _ => Cert.Kernel8.Gen.frame m g, fun m g _ => Cert.Kernel8Ideal.Gen.frame m g, fun m g _ => frame_ref8 m g True.intro,
  fun m g _ => Cert.Kernel9.Gen.frame m g, fun m g _ => Cert.Kernel9Ideal.Gen.frame m g, fun m g _ => Cert.Kernel9Ideal.Gen.frame m g,
  fun m g _ => frame_ref9 m g True.intro, fun m g _ => frame_ref9 m g True.intro,
  fun m g _ => Cert.Kernel10.Gen.frame m g, fun m g _ => Cert.Kernel10Ideal.Gen.frame m g, fun m g _ => frame_ref10 m g True.intro,
  fun m g _ => Cert.Kernel11.Gen.frame m g, fun m g _ => Cert.Kernel11Ideal.Gen.frame m g, fun m g _ => frame_ref11 m g True.intro,
  fun m g _ => Cert.Kernel12.Gen.frame m g, fun m g _ => Cert.Kernel12Ideal.Gen.frame m g, fun m g _ => frame_ref12 m g True.intro,
  fun m g _ => Cert.Kernel13.Gen.frame m g, fun m g _ => Cert.Kernel13Ideal.Gen.frame m g, fun m g _ => frame_ref13 m g True.intro,
  fun m g _ => Cert.Kernel14.Gen.frame m g, fun m g _ => Cert.Kernel14Ideal.Gen.frame m g, fun m g _ => frame_ref14 m g True.intro,
  fun m g _ => Cert.Kernel15.Gen.frame m g, fun m g _ => Cert.Kernel15Ideal.Gen.frame m g, fun m g _ => frame_ref15 m g True.intro,
  fun m g _ => Cert.Kernel16.Gen.frame m g, fun m g _ => Cert.Kernel16Ideal.Gen.frame m g, fun m g _ => frame_ref16 m g True.intro,
  fun m g _ => Cert.Kernel17.Gen.frame m g, fun m g _ => Cert.Kernel17Ideal.Gen.frame m g, fun m g _ => Cert.Kernel17Ideal.Gen.frame m g,
  fun m g _ => frame_ref17 m g True.intro, fun m g _ => frame_ref17 m g True.intro,
  trivial, value, trivial, value2, trivial, value3, trivial, value4, trivial, value5, trivial, value6, trivial, value7, trivial, value8,
  trivial, value9, trivial, value10, trivial, value11, trivial, value12, trivial, value13, trivial, value14, trivial, value15, trivial, value16, trivial, value17⟩

end Cert.Proof

end
